-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Postb (m : (ℓ : Loc Cert.Postb.nD Cert.Postb.τ Cert.Postb.sig) → Buf (Elt Bits) ℓ) : Prop :=
  True

def Pre_PostbIdeal (m : (ℓ : Loc Cert.PostbIdeal.nD Cert.PostbIdeal.τ Cert.PostbIdeal.sig) → Buf (Elt Ideal) ℓ) : Prop :=
  True

def Pre_PostbRefIdeal (m : (ℓ : Loc Cert.PostbRefIdeal.nD Cert.PostbRefIdeal.τ Cert.PostbRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Twin (m : (ℓ : Loc Cert.Twin.nD Cert.Twin.τ Cert.Twin.sig) → Buf (Elt Bits) ℓ) : Prop :=
  True

def Pre_TwinIdeal (m : (ℓ : Loc Cert.TwinIdeal.nD Cert.TwinIdeal.τ Cert.TwinIdeal.sig) → Buf (Elt Ideal) ℓ) : Prop :=
  True

def Pre_TwinRefIdeal (m : (ℓ : Loc Cert.TwinRefIdeal.nD Cert.TwinRefIdeal.τ Cert.TwinRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))) = (fun _ => 1#1)

def Pre_PreF (m : (ℓ : Loc Cert.PreF.nD Cert.PreF.τ Cert.PreF.sig) → Buf (Elt Bits) ℓ) : Prop :=
  True

def Pre_PreFIdeal (m : (ℓ : Loc Cert.PreFIdeal.nD Cert.PreFIdeal.τ Cert.PreFIdeal.sig) → Buf (Elt Ideal) ℓ) : Prop :=
  True

def Pre_PreFRefIdeal (m : (ℓ : Loc Cert.PreFRefIdeal.nD Cert.PreFRefIdeal.τ Cert.PreFRefIdeal.sig) → Buf (Elt Ideal) ℓ) : Prop :=
  True

def Pre_GluF (m : (ℓ : Loc Cert.GluF.nD Cert.GluF.τ Cert.GluF.sig) → Buf (Elt Bits) ℓ) : Prop :=
  True

def Pre_GluFIdeal (m : (ℓ : Loc Cert.GluFIdeal.nD Cert.GluFIdeal.τ Cert.GluFIdeal.sig) → Buf (Elt Ideal) ℓ) : Prop :=
  True

def Pre_GluFRefIdeal (m : (ℓ : Loc Cert.GluFRefIdeal.nD Cert.GluFRefIdeal.τ Cert.GluFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_LnF (m : (ℓ : Loc Cert.LnF.nD Cert.LnF.τ Cert.LnF.sig) → Buf (Elt Bits) ℓ) : Prop :=
  True

def Pre_LnFIdeal (m : (ℓ : Loc Cert.LnFIdeal.nD Cert.LnFIdeal.τ Cert.LnFIdeal.sig) → Buf (Elt Ideal) ℓ) : Prop :=
  True

def Pre_LnFRefIdeal (m : (ℓ : Loc Cert.LnFRefIdeal.nD Cert.LnFRefIdeal.τ Cert.LnFRefIdeal.sig) → Buf (Elt Ideal) ℓ) : Prop :=
  True

def Pre_PostbPreF (m : (ℓ : Loc Cert.PostbPreF.nD Cert.PostbPreF.τ Cert.PostbPreF.sig) → Buf (Elt Bits) ℓ) : Prop :=
  True

def Pre_PostbPreFIdeal (m : (ℓ : Loc Cert.PostbPreFIdeal.nD Cert.PostbPreFIdeal.τ Cert.PostbPreFIdeal.sig) → Buf (Elt Ideal) ℓ) : Prop :=
  True

def Pre_PostbPreFRefIdeal (m : (ℓ : Loc Cert.PostbPreFRefIdeal.nD Cert.PostbPreFRefIdeal.τ Cert.PostbPreFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_PostTwinF (m : (ℓ : Loc Cert.PostTwinF.nD Cert.PostTwinF.τ Cert.PostTwinF.sig) → Buf (Elt Bits) ℓ) : Prop :=
  True

def Pre_PostTwinFIdeal (m : (ℓ : Loc Cert.PostTwinFIdeal.nD Cert.PostTwinFIdeal.τ Cert.PostTwinFIdeal.sig) → Buf (Elt Ideal) ℓ) : Prop :=
  True

def Pre_PostTwinFRefIdeal (m : (ℓ : Loc Cert.PostTwinFRefIdeal.nD Cert.PostTwinFRefIdeal.τ Cert.PostTwinFRefIdeal.sig) → Buf (Elt Ideal) ℓ) : Prop :=
  True

def Pre_LatF (m : (ℓ : Loc Cert.LatF.nD Cert.LatF.τ Cert.LatF.sig) → Buf (Elt Bits) ℓ) : Prop :=
  True

def Pre_LatFIdeal (m : (ℓ : Loc Cert.LatFIdeal.nD Cert.LatFIdeal.τ Cert.LatFIdeal.sig) → Buf (Elt Ideal) ℓ) : Prop :=
  True

def Pre_LatFRefIdeal (m : (ℓ : Loc Cert.LatFRefIdeal.nD Cert.LatFRefIdeal.τ Cert.LatFRefIdeal.sig) → Buf (Elt Ideal) ℓ) : Prop :=
  True

def Pre_RopeF (m : (ℓ : Loc Cert.RopeF.nD Cert.RopeF.τ Cert.RopeF.sig) → Buf (Elt Bits) ℓ) : Prop :=
  True

def Pre_RopeFIdeal (m : (ℓ : Loc Cert.RopeFIdeal.nD Cert.RopeFIdeal.τ Cert.RopeFIdeal.sig) → Buf (Elt Ideal) ℓ) : Prop :=
  True

def Pre_RopeFRefIdeal (m : (ℓ : Loc Cert.RopeFRefIdeal.nD Cert.RopeFRefIdeal.τ Cert.RopeFRefIdeal.sig) → Buf (Elt Ideal) ℓ) : Prop :=
  True

def Pre_PostPreF (m : (ℓ : Loc Cert.PostPreF.nD Cert.PostPreF.τ Cert.PostPreF.sig) → Buf (Elt Bits) ℓ) : Prop :=
  True

def Pre_PostPreFIdeal (m : (ℓ : Loc Cert.PostPreFIdeal.nD Cert.PostPreFIdeal.τ Cert.PostPreFIdeal.sig) → Buf (Elt Ideal) ℓ) : Prop :=
  True

def Pre_PostPreFRefIdeal (m : (ℓ : Loc Cert.PostPreFRefIdeal.nD Cert.PostPreFRefIdeal.τ Cert.PostPreFRefIdeal.sig) → Buf (Elt Ideal) ℓ) : Prop :=
  True

def Pre_PostF (m : (ℓ : Loc Cert.PostF.nD Cert.PostF.τ Cert.PostF.sig) → Buf (Elt Bits) ℓ) : Prop :=
  True

def Pre_PostFIdeal (m : (ℓ : Loc Cert.PostFIdeal.nD Cert.PostFIdeal.τ Cert.PostFIdeal.sig) → Buf (Elt Ideal) ℓ) : Prop :=
  True

def Pre_PostFRefIdeal (m : (ℓ : Loc Cert.PostFRefIdeal.nD Cert.PostFRefIdeal.τ Cert.PostFRefIdeal.sig) → Buf (Elt Ideal) ℓ) : Prop :=
  True

def Pre_MmTN (m : (ℓ : Loc Cert.MmTN.nD Cert.MmTN.τ Cert.MmTN.sig) → Buf (Elt Bits) ℓ) : Prop :=
  True

def Pre_MmTNIdeal (m : (ℓ : Loc Cert.MmTNIdeal.nD Cert.MmTNIdeal.τ Cert.MmTNIdeal.sig) → Buf (Elt Ideal) ℓ) : Prop :=
  True

def Pre_MmTNRefIdeal (m : (ℓ : Loc Cert.MmTNRefIdeal.nD Cert.MmTNRefIdeal.τ Cert.MmTNRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_MmNN (m : (ℓ : Loc Cert.MmNN.nD Cert.MmNN.τ Cert.MmNN.sig) → Buf (Elt Bits) ℓ) : Prop :=
  True

def Pre_MmNNIdeal (m : (ℓ : Loc Cert.MmNNIdeal.nD Cert.MmNNIdeal.τ Cert.MmNNIdeal.sig) → Buf (Elt Ideal) ℓ) : Prop :=
  True

def Pre_MmNNRefIdeal (m : (ℓ : Loc Cert.MmNNRefIdeal.nD Cert.MmNNRefIdeal.τ Cert.MmNNRefIdeal.sig) → Buf (Elt Ideal) ℓ) : Prop :=
  True

def Pre_MmNT (m : (ℓ : Loc Cert.MmNT.nD Cert.MmNT.τ Cert.MmNT.sig) → Buf (Elt Bits) ℓ) : Prop :=
  True

def Pre_MmNTIdeal (m : (ℓ : Loc Cert.MmNTIdeal.nD Cert.MmNTIdeal.τ Cert.MmNTIdeal.sig) → Buf (Elt Ideal) ℓ) : Prop :=
  True

def Pre_MmNTRefIdeal (m : (ℓ : Loc Cert.MmNTRefIdeal.nD Cert.MmNTRefIdeal.τ Cert.MmNTRefIdeal.sig) → Buf (Elt Ideal) ℓ) : Prop :=
  True

def Pre_AdamL (m : (ℓ : Loc Cert.AdamL.nD Cert.AdamL.τ Cert.AdamL.sig) → Buf (Elt Bits) ℓ) : Prop :=
  True

def Pre_AdamLIdeal (m : (ℓ : Loc Cert.AdamLIdeal.nD Cert.AdamLIdeal.τ Cert.AdamLIdeal.sig) → Buf (Elt Ideal) ℓ) : Prop :=
  True

def Pre_AdamLRefIdeal (m : (ℓ : Loc Cert.AdamLRefIdeal.nD Cert.AdamLRefIdeal.τ Cert.AdamLRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2)
      ∧ r.2.mem ((c.tc : Thread Cert.Relu2.nD Cert.Relu2.τ).loc Cert.Relu2.main_arg3) = m ((c.tc : Thread Cert.Relu2.nD Cert.Relu2.τ).loc Cert.Relu2.main_arg3))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2)
      ∧ r.2.mem ((c.tc : Thread Cert.Relu2Ideal.nD Cert.Relu2Ideal.τ).loc Cert.Relu2Ideal.main_arg3) = m ((c.tc : Thread Cert.Relu2Ideal.nD Cert.Relu2Ideal.τ).loc Cert.Relu2Ideal.main_arg3))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2)
      ∧ r.2.mem ((c.tc : Thread Cert.Relu2RefIdeal.nD Cert.Relu2RefIdeal.τ).loc Cert.Relu2RefIdeal.main_arg3) = m ((c.tc : Thread Cert.Relu2RefIdeal.nD Cert.Relu2RefIdeal.τ).loc Cert.Relu2RefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Postb [hPostb : Cert.Postb.Facts] : Prop :=
  ∀ (m : (ℓ : Loc Cert.Postb.nD Cert.Postb.τ Cert.Postb.sig) → Buf (Elt Bits) ℓ) (g : Dev Cert.Postb.nD → PrngReg), Pre_Postb m →
    θ_run (Cert.Postb.defs (F := Bits)) (onTc (τ := Cert.Postb.τ) (Cert.Postb.main (F := Bits))) ⟨m, fun _ => 0, g⟩ (fun r => (∀ c : Dev Cert.Postb.nD,
      r.2.mem ((c.tc : Thread Cert.Postb.nD Cert.Postb.τ).loc Cert.Postb.main_arg0) = m ((c.tc : Thread Cert.Postb.nD Cert.Postb.τ).loc Cert.Postb.main_arg0)
      ∧ r.2.mem ((c.tc : Thread Cert.Postb.nD Cert.Postb.τ).loc Cert.Postb.main_arg1) = m ((c.tc : Thread Cert.Postb.nD Cert.Postb.τ).loc Cert.Postb.main_arg1)
      ∧ r.2.mem ((c.tc : Thread Cert.Postb.nD Cert.Postb.τ).loc Cert.Postb.main_arg2) = m ((c.tc : Thread Cert.Postb.nD Cert.Postb.τ).loc Cert.Postb.main_arg2)
      ∧ r.2.mem ((c.tc : Thread Cert.Postb.nD Cert.Postb.τ).loc Cert.Postb.main_arg3) = m ((c.tc : Thread Cert.Postb.nD Cert.Postb.τ).loc Cert.Postb.main_arg3)
      ∧ r.2.mem ((c.tc : Thread Cert.Postb.nD Cert.Postb.τ).loc Cert.Postb.main_arg4) = m ((c.tc : Thread Cert.Postb.nD Cert.Postb.τ).loc Cert.Postb.main_arg4))
      ∧ r.2.sem = fun _ => 0)

def quiescent_PostbIdeal [hPostbIdeal : Cert.PostbIdeal.Facts] : Prop :=
  ∀ (m : (ℓ : Loc Cert.PostbIdeal.nD Cert.PostbIdeal.τ Cert.PostbIdeal.sig) → Buf (Elt Ideal) ℓ) (g : Dev Cert.PostbIdeal.nD → PrngReg), Pre_PostbIdeal m →
    θ_run (Cert.PostbIdeal.defs (F := Ideal)) (onTc (τ := Cert.PostbIdeal.τ) (Cert.PostbIdeal.main (F := Ideal))) ⟨m, fun _ => 0, g⟩ (fun r => (∀ c : Dev Cert.PostbIdeal.nD,
      r.2.mem ((c.tc : Thread Cert.PostbIdeal.nD Cert.PostbIdeal.τ).loc Cert.PostbIdeal.main_arg0) = m ((c.tc : Thread Cert.PostbIdeal.nD Cert.PostbIdeal.τ).loc Cert.PostbIdeal.main_arg0)
      ∧ r.2.mem ((c.tc : Thread Cert.PostbIdeal.nD Cert.PostbIdeal.τ).loc Cert.PostbIdeal.main_arg1) = m ((c.tc : Thread Cert.PostbIdeal.nD Cert.PostbIdeal.τ).loc Cert.PostbIdeal.main_arg1)
      ∧ r.2.mem ((c.tc : Thread Cert.PostbIdeal.nD Cert.PostbIdeal.τ).loc Cert.PostbIdeal.main_arg2) = m ((c.tc : Thread Cert.PostbIdeal.nD Cert.PostbIdeal.τ).loc Cert.PostbIdeal.main_arg2)
      ∧ r.2.mem ((c.tc : Thread Cert.PostbIdeal.nD Cert.PostbIdeal.τ).loc Cert.PostbIdeal.main_arg3) = m ((c.tc : Thread Cert.PostbIdeal.nD Cert.PostbIdeal.τ).loc Cert.PostbIdeal.main_arg3)
      ∧ r.2.mem ((c.tc : Thread Cert.PostbIdeal.nD Cert.PostbIdeal.τ).loc Cert.PostbIdeal.main_arg4) = m ((c.tc : Thread Cert.PostbIdeal.nD Cert.PostbIdeal.τ).loc Cert.PostbIdeal.main_arg4))
      ∧ r.2.sem = fun _ => 0)

def quiescent_PostbRefIdeal [hPostbRefIdeal : Cert.PostbRefIdeal.Facts] : Prop :=
  ∀ (m : (ℓ : Loc Cert.PostbRefIdeal.nD Cert.PostbRefIdeal.τ Cert.PostbRefIdeal.sig) → Buf (Elt Ideal) ℓ) (g : Dev Cert.PostbRefIdeal.nD → PrngReg), Pre_PostbRefIdeal m →
    θ_run (Cert.PostbRefIdeal.defs (F := Ideal)) (onTc (τ := Cert.PostbRefIdeal.τ) (Cert.PostbRefIdeal.main (F := Ideal))) ⟨m, fun _ => 0, g⟩ (fun r => (∀ c : Dev Cert.PostbRefIdeal.nD,
      r.2.mem ((c.tc : Thread Cert.PostbRefIdeal.nD Cert.PostbRefIdeal.τ).loc Cert.PostbRefIdeal.main_arg0) = m ((c.tc : Thread Cert.PostbRefIdeal.nD Cert.PostbRefIdeal.τ).loc Cert.PostbRefIdeal.main_arg0)
      ∧ r.2.mem ((c.tc : Thread Cert.PostbRefIdeal.nD Cert.PostbRefIdeal.τ).loc Cert.PostbRefIdeal.main_arg1) = m ((c.tc : Thread Cert.PostbRefIdeal.nD Cert.PostbRefIdeal.τ).loc Cert.PostbRefIdeal.main_arg1)
      ∧ r.2.mem ((c.tc : Thread Cert.PostbRefIdeal.nD Cert.PostbRefIdeal.τ).loc Cert.PostbRefIdeal.main_arg2) = m ((c.tc : Thread Cert.PostbRefIdeal.nD Cert.PostbRefIdeal.τ).loc Cert.PostbRefIdeal.main_arg2)
      ∧ r.2.mem ((c.tc : Thread Cert.PostbRefIdeal.nD Cert.PostbRefIdeal.τ).loc Cert.PostbRefIdeal.main_arg3) = m ((c.tc : Thread Cert.PostbRefIdeal.nD Cert.PostbRefIdeal.τ).loc Cert.PostbRefIdeal.main_arg3)
      ∧ r.2.mem ((c.tc : Thread Cert.PostbRefIdeal.nD Cert.PostbRefIdeal.τ).loc Cert.PostbRefIdeal.main_arg4) = m ((c.tc : Thread Cert.PostbRefIdeal.nD Cert.PostbRefIdeal.τ).loc Cert.PostbRefIdeal.main_arg4))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5))
      ∧ r.2.sem = fun _ => 0)

def quiescent_Twin [hTwin : Cert.Twin.Facts] : Prop :=
  ∀ (m : (ℓ : Loc Cert.Twin.nD Cert.Twin.τ Cert.Twin.sig) → Buf (Elt Bits) ℓ) (g : Dev Cert.Twin.nD → PrngReg), Pre_Twin m →
    θ_run (Cert.Twin.defs (F := Bits)) (onTc (τ := Cert.Twin.τ) (Cert.Twin.main (F := Bits))) ⟨m, fun _ => 0, g⟩ (fun r => (∀ c : Dev Cert.Twin.nD,
      r.2.mem ((c.tc : Thread Cert.Twin.nD Cert.Twin.τ).loc Cert.Twin.main_arg0) = m ((c.tc : Thread Cert.Twin.nD Cert.Twin.τ).loc Cert.Twin.main_arg0)
      ∧ r.2.mem ((c.tc : Thread Cert.Twin.nD Cert.Twin.τ).loc Cert.Twin.main_arg1) = m ((c.tc : Thread Cert.Twin.nD Cert.Twin.τ).loc Cert.Twin.main_arg1)
      ∧ r.2.mem ((c.tc : Thread Cert.Twin.nD Cert.Twin.τ).loc Cert.Twin.main_arg2) = m ((c.tc : Thread Cert.Twin.nD Cert.Twin.τ).loc Cert.Twin.main_arg2)
      ∧ r.2.mem ((c.tc : Thread Cert.Twin.nD Cert.Twin.τ).loc Cert.Twin.main_arg3) = m ((c.tc : Thread Cert.Twin.nD Cert.Twin.τ).loc Cert.Twin.main_arg3)
      ∧ r.2.mem ((c.tc : Thread Cert.Twin.nD Cert.Twin.τ).loc Cert.Twin.main_arg4) = m ((c.tc : Thread Cert.Twin.nD Cert.Twin.τ).loc Cert.Twin.main_arg4)
      ∧ r.2.mem ((c.tc : Thread Cert.Twin.nD Cert.Twin.τ).loc Cert.Twin.main_arg5) = m ((c.tc : Thread Cert.Twin.nD Cert.Twin.τ).loc Cert.Twin.main_arg5)
      ∧ r.2.mem ((c.tc : Thread Cert.Twin.nD Cert.Twin.τ).loc Cert.Twin.main_arg6) = m ((c.tc : Thread Cert.Twin.nD Cert.Twin.τ).loc Cert.Twin.main_arg6)
      ∧ r.2.mem ((c.tc : Thread Cert.Twin.nD Cert.Twin.τ).loc Cert.Twin.main_arg7) = m ((c.tc : Thread Cert.Twin.nD Cert.Twin.τ).loc Cert.Twin.main_arg7)
      ∧ r.2.mem ((c.tc : Thread Cert.Twin.nD Cert.Twin.τ).loc Cert.Twin.main_arg8) = m ((c.tc : Thread Cert.Twin.nD Cert.Twin.τ).loc Cert.Twin.main_arg8)
      ∧ r.2.mem ((c.tc : Thread Cert.Twin.nD Cert.Twin.τ).loc Cert.Twin.main_arg9) = m ((c.tc : Thread Cert.Twin.nD Cert.Twin.τ).loc Cert.Twin.main_arg9))
      ∧ r.2.sem = fun _ => 0)

def quiescent_TwinIdeal [hTwinIdeal : Cert.TwinIdeal.Facts] : Prop :=
  ∀ (m : (ℓ : Loc Cert.TwinIdeal.nD Cert.TwinIdeal.τ Cert.TwinIdeal.sig) → Buf (Elt Ideal) ℓ) (g : Dev Cert.TwinIdeal.nD → PrngReg), Pre_TwinIdeal m →
    θ_run (Cert.TwinIdeal.defs (F := Ideal)) (onTc (τ := Cert.TwinIdeal.τ) (Cert.TwinIdeal.main (F := Ideal))) ⟨m, fun _ => 0, g⟩ (fun r => (∀ c : Dev Cert.TwinIdeal.nD,
      r.2.mem ((c.tc : Thread Cert.TwinIdeal.nD Cert.TwinIdeal.τ).loc Cert.TwinIdeal.main_arg0) = m ((c.tc : Thread Cert.TwinIdeal.nD Cert.TwinIdeal.τ).loc Cert.TwinIdeal.main_arg0)
      ∧ r.2.mem ((c.tc : Thread Cert.TwinIdeal.nD Cert.TwinIdeal.τ).loc Cert.TwinIdeal.main_arg1) = m ((c.tc : Thread Cert.TwinIdeal.nD Cert.TwinIdeal.τ).loc Cert.TwinIdeal.main_arg1)
      ∧ r.2.mem ((c.tc : Thread Cert.TwinIdeal.nD Cert.TwinIdeal.τ).loc Cert.TwinIdeal.main_arg2) = m ((c.tc : Thread Cert.TwinIdeal.nD Cert.TwinIdeal.τ).loc Cert.TwinIdeal.main_arg2)
      ∧ r.2.mem ((c.tc : Thread Cert.TwinIdeal.nD Cert.TwinIdeal.τ).loc Cert.TwinIdeal.main_arg3) = m ((c.tc : Thread Cert.TwinIdeal.nD Cert.TwinIdeal.τ).loc Cert.TwinIdeal.main_arg3)
      ∧ r.2.mem ((c.tc : Thread Cert.TwinIdeal.nD Cert.TwinIdeal.τ).loc Cert.TwinIdeal.main_arg4) = m ((c.tc : Thread Cert.TwinIdeal.nD Cert.TwinIdeal.τ).loc Cert.TwinIdeal.main_arg4)
      ∧ r.2.mem ((c.tc : Thread Cert.TwinIdeal.nD Cert.TwinIdeal.τ).loc Cert.TwinIdeal.main_arg5) = m ((c.tc : Thread Cert.TwinIdeal.nD Cert.TwinIdeal.τ).loc Cert.TwinIdeal.main_arg5)
      ∧ r.2.mem ((c.tc : Thread Cert.TwinIdeal.nD Cert.TwinIdeal.τ).loc Cert.TwinIdeal.main_arg6) = m ((c.tc : Thread Cert.TwinIdeal.nD Cert.TwinIdeal.τ).loc Cert.TwinIdeal.main_arg6)
      ∧ r.2.mem ((c.tc : Thread Cert.TwinIdeal.nD Cert.TwinIdeal.τ).loc Cert.TwinIdeal.main_arg7) = m ((c.tc : Thread Cert.TwinIdeal.nD Cert.TwinIdeal.τ).loc Cert.TwinIdeal.main_arg7)
      ∧ r.2.mem ((c.tc : Thread Cert.TwinIdeal.nD Cert.TwinIdeal.τ).loc Cert.TwinIdeal.main_arg8) = m ((c.tc : Thread Cert.TwinIdeal.nD Cert.TwinIdeal.τ).loc Cert.TwinIdeal.main_arg8)
      ∧ r.2.mem ((c.tc : Thread Cert.TwinIdeal.nD Cert.TwinIdeal.τ).loc Cert.TwinIdeal.main_arg9) = m ((c.tc : Thread Cert.TwinIdeal.nD Cert.TwinIdeal.τ).loc Cert.TwinIdeal.main_arg9))
      ∧ r.2.sem = fun _ => 0)

def quiescent_TwinRefIdeal [hTwinRefIdeal : Cert.TwinRefIdeal.Facts] : Prop :=
  ∀ (m : (ℓ : Loc Cert.TwinRefIdeal.nD Cert.TwinRefIdeal.τ Cert.TwinRefIdeal.sig) → Buf (Elt Ideal) ℓ) (g : Dev Cert.TwinRefIdeal.nD → PrngReg), Pre_TwinRefIdeal m →
    θ_run (Cert.TwinRefIdeal.defs (F := Ideal)) (onTc (τ := Cert.TwinRefIdeal.τ) (Cert.TwinRefIdeal.main (F := Ideal))) ⟨m, fun _ => 0, g⟩ (fun r => (∀ c : Dev Cert.TwinRefIdeal.nD,
      r.2.mem ((c.tc : Thread Cert.TwinRefIdeal.nD Cert.TwinRefIdeal.τ).loc Cert.TwinRefIdeal.main_arg0) = m ((c.tc : Thread Cert.TwinRefIdeal.nD Cert.TwinRefIdeal.τ).loc Cert.TwinRefIdeal.main_arg0)
      ∧ r.2.mem ((c.tc : Thread Cert.TwinRefIdeal.nD Cert.TwinRefIdeal.τ).loc Cert.TwinRefIdeal.main_arg1) = m ((c.tc : Thread Cert.TwinRefIdeal.nD Cert.TwinRefIdeal.τ).loc Cert.TwinRefIdeal.main_arg1)
      ∧ r.2.mem ((c.tc : Thread Cert.TwinRefIdeal.nD Cert.TwinRefIdeal.τ).loc Cert.TwinRefIdeal.main_arg2) = m ((c.tc : Thread Cert.TwinRefIdeal.nD Cert.TwinRefIdeal.τ).loc Cert.TwinRefIdeal.main_arg2)
      ∧ r.2.mem ((c.tc : Thread Cert.TwinRefIdeal.nD Cert.TwinRefIdeal.τ).loc Cert.TwinRefIdeal.main_arg3) = m ((c.tc : Thread Cert.TwinRefIdeal.nD Cert.TwinRefIdeal.τ).loc Cert.TwinRefIdeal.main_arg3)
      ∧ r.2.mem ((c.tc : Thread Cert.TwinRefIdeal.nD Cert.TwinRefIdeal.τ).loc Cert.TwinRefIdeal.main_arg4) = m ((c.tc : Thread Cert.TwinRefIdeal.nD Cert.TwinRefIdeal.τ).loc Cert.TwinRefIdeal.main_arg4)
      ∧ r.2.mem ((c.tc : Thread Cert.TwinRefIdeal.nD Cert.TwinRefIdeal.τ).loc Cert.TwinRefIdeal.main_arg5) = m ((c.tc : Thread Cert.TwinRefIdeal.nD Cert.TwinRefIdeal.τ).loc Cert.TwinRefIdeal.main_arg5)
      ∧ r.2.mem ((c.tc : Thread Cert.TwinRefIdeal.nD Cert.TwinRefIdeal.τ).loc Cert.TwinRefIdeal.main_arg6) = m ((c.tc : Thread Cert.TwinRefIdeal.nD Cert.TwinRefIdeal.τ).loc Cert.TwinRefIdeal.main_arg6)
      ∧ r.2.mem ((c.tc : Thread Cert.TwinRefIdeal.nD Cert.TwinRefIdeal.τ).loc Cert.TwinRefIdeal.main_arg7) = m ((c.tc : Thread Cert.TwinRefIdeal.nD Cert.TwinRefIdeal.τ).loc Cert.TwinRefIdeal.main_arg7)
      ∧ r.2.mem ((c.tc : Thread Cert.TwinRefIdeal.nD Cert.TwinRefIdeal.τ).loc Cert.TwinRefIdeal.main_arg8) = m ((c.tc : Thread Cert.TwinRefIdeal.nD Cert.TwinRefIdeal.τ).loc Cert.TwinRefIdeal.main_arg8)
      ∧ r.2.mem ((c.tc : Thread Cert.TwinRefIdeal.nD Cert.TwinRefIdeal.τ).loc Cert.TwinRefIdeal.main_arg9) = m ((c.tc : Thread Cert.TwinRefIdeal.nD Cert.TwinRefIdeal.τ).loc Cert.TwinRefIdeal.main_arg9))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_PreF [hPreF : Cert.PreF.Facts] : Prop :=
  ∀ (m : (ℓ : Loc Cert.PreF.nD Cert.PreF.τ Cert.PreF.sig) → Buf (Elt Bits) ℓ) (g : Dev Cert.PreF.nD → PrngReg), Pre_PreF m →
    θ_run (Cert.PreF.defs (F := Bits)) (onTc (τ := Cert.PreF.τ) (Cert.PreF.main (F := Bits))) ⟨m, fun _ => 0, g⟩ (fun r => (∀ c : Dev Cert.PreF.nD,
      r.2.mem ((c.tc : Thread Cert.PreF.nD Cert.PreF.τ).loc Cert.PreF.main_arg0) = m ((c.tc : Thread Cert.PreF.nD Cert.PreF.τ).loc Cert.PreF.main_arg0)
      ∧ r.2.mem ((c.tc : Thread Cert.PreF.nD Cert.PreF.τ).loc Cert.PreF.main_arg1) = m ((c.tc : Thread Cert.PreF.nD Cert.PreF.τ).loc Cert.PreF.main_arg1)
      ∧ r.2.mem ((c.tc : Thread Cert.PreF.nD Cert.PreF.τ).loc Cert.PreF.main_arg2) = m ((c.tc : Thread Cert.PreF.nD Cert.PreF.τ).loc Cert.PreF.main_arg2)
      ∧ r.2.mem ((c.tc : Thread Cert.PreF.nD Cert.PreF.τ).loc Cert.PreF.main_arg3) = m ((c.tc : Thread Cert.PreF.nD Cert.PreF.τ).loc Cert.PreF.main_arg3))
      ∧ r.2.sem = fun _ => 0)

def quiescent_PreFIdeal [hPreFIdeal : Cert.PreFIdeal.Facts] : Prop :=
  ∀ (m : (ℓ : Loc Cert.PreFIdeal.nD Cert.PreFIdeal.τ Cert.PreFIdeal.sig) → Buf (Elt Ideal) ℓ) (g : Dev Cert.PreFIdeal.nD → PrngReg), Pre_PreFIdeal m →
    θ_run (Cert.PreFIdeal.defs (F := Ideal)) (onTc (τ := Cert.PreFIdeal.τ) (Cert.PreFIdeal.main (F := Ideal))) ⟨m, fun _ => 0, g⟩ (fun r => (∀ c : Dev Cert.PreFIdeal.nD,
      r.2.mem ((c.tc : Thread Cert.PreFIdeal.nD Cert.PreFIdeal.τ).loc Cert.PreFIdeal.main_arg0) = m ((c.tc : Thread Cert.PreFIdeal.nD Cert.PreFIdeal.τ).loc Cert.PreFIdeal.main_arg0)
      ∧ r.2.mem ((c.tc : Thread Cert.PreFIdeal.nD Cert.PreFIdeal.τ).loc Cert.PreFIdeal.main_arg1) = m ((c.tc : Thread Cert.PreFIdeal.nD Cert.PreFIdeal.τ).loc Cert.PreFIdeal.main_arg1)
      ∧ r.2.mem ((c.tc : Thread Cert.PreFIdeal.nD Cert.PreFIdeal.τ).loc Cert.PreFIdeal.main_arg2) = m ((c.tc : Thread Cert.PreFIdeal.nD Cert.PreFIdeal.τ).loc Cert.PreFIdeal.main_arg2)
      ∧ r.2.mem ((c.tc : Thread Cert.PreFIdeal.nD Cert.PreFIdeal.τ).loc Cert.PreFIdeal.main_arg3) = m ((c.tc : Thread Cert.PreFIdeal.nD Cert.PreFIdeal.τ).loc Cert.PreFIdeal.main_arg3))
      ∧ r.2.sem = fun _ => 0)

def quiescent_PreFRefIdeal [hPreFRefIdeal : Cert.PreFRefIdeal.Facts] : Prop :=
  ∀ (m : (ℓ : Loc Cert.PreFRefIdeal.nD Cert.PreFRefIdeal.τ Cert.PreFRefIdeal.sig) → Buf (Elt Ideal) ℓ) (g : Dev Cert.PreFRefIdeal.nD → PrngReg), Pre_PreFRefIdeal m →
    θ_run (Cert.PreFRefIdeal.defs (F := Ideal)) (onTc (τ := Cert.PreFRefIdeal.τ) (Cert.PreFRefIdeal.main (F := Ideal))) ⟨m, fun _ => 0, g⟩ (fun r => (∀ c : Dev Cert.PreFRefIdeal.nD,
      r.2.mem ((c.tc : Thread Cert.PreFRefIdeal.nD Cert.PreFRefIdeal.τ).loc Cert.PreFRefIdeal.main_arg0) = m ((c.tc : Thread Cert.PreFRefIdeal.nD Cert.PreFRefIdeal.τ).loc Cert.PreFRefIdeal.main_arg0)
      ∧ r.2.mem ((c.tc : Thread Cert.PreFRefIdeal.nD Cert.PreFRefIdeal.τ).loc Cert.PreFRefIdeal.main_arg1) = m ((c.tc : Thread Cert.PreFRefIdeal.nD Cert.PreFRefIdeal.τ).loc Cert.PreFRefIdeal.main_arg1)
      ∧ r.2.mem ((c.tc : Thread Cert.PreFRefIdeal.nD Cert.PreFRefIdeal.τ).loc Cert.PreFRefIdeal.main_arg2) = m ((c.tc : Thread Cert.PreFRefIdeal.nD Cert.PreFRefIdeal.τ).loc Cert.PreFRefIdeal.main_arg2)
      ∧ r.2.mem ((c.tc : Thread Cert.PreFRefIdeal.nD Cert.PreFRefIdeal.τ).loc Cert.PreFRefIdeal.main_arg3) = m ((c.tc : Thread Cert.PreFRefIdeal.nD Cert.PreFRefIdeal.τ).loc Cert.PreFRefIdeal.main_arg3))
      ∧ r.2.sem = fun _ => 0)

def quiescent_GluF [hGluF : Cert.GluF.Facts] : Prop :=
  ∀ (m : (ℓ : Loc Cert.GluF.nD Cert.GluF.τ Cert.GluF.sig) → Buf (Elt Bits) ℓ) (g : Dev Cert.GluF.nD → PrngReg), Pre_GluF m →
    θ_run (Cert.GluF.defs (F := Bits)) (onTc (τ := Cert.GluF.τ) (Cert.GluF.main (F := Bits))) ⟨m, fun _ => 0, g⟩ (fun r => (∀ c : Dev Cert.GluF.nD,
      r.2.mem ((c.tc : Thread Cert.GluF.nD Cert.GluF.τ).loc Cert.GluF.main_arg0) = m ((c.tc : Thread Cert.GluF.nD Cert.GluF.τ).loc Cert.GluF.main_arg0)
      ∧ r.2.mem ((c.tc : Thread Cert.GluF.nD Cert.GluF.τ).loc Cert.GluF.main_arg1) = m ((c.tc : Thread Cert.GluF.nD Cert.GluF.τ).loc Cert.GluF.main_arg1))
      ∧ r.2.sem = fun _ => 0)

def quiescent_GluFIdeal [hGluFIdeal : Cert.GluFIdeal.Facts] : Prop :=
  ∀ (m : (ℓ : Loc Cert.GluFIdeal.nD Cert.GluFIdeal.τ Cert.GluFIdeal.sig) → Buf (Elt Ideal) ℓ) (g : Dev Cert.GluFIdeal.nD → PrngReg), Pre_GluFIdeal m →
    θ_run (Cert.GluFIdeal.defs (F := Ideal)) (onTc (τ := Cert.GluFIdeal.τ) (Cert.GluFIdeal.main (F := Ideal))) ⟨m, fun _ => 0, g⟩ (fun r => (∀ c : Dev Cert.GluFIdeal.nD,
      r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
      ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ r.2.sem = fun _ => 0)

def quiescent_GluFRefIdeal [hGluFRefIdeal : Cert.GluFRefIdeal.Facts] : Prop :=
  ∀ (m : (ℓ : Loc Cert.GluFRefIdeal.nD Cert.GluFRefIdeal.τ Cert.GluFRefIdeal.sig) → Buf (Elt Ideal) ℓ) (g : Dev Cert.GluFRefIdeal.nD → PrngReg), Pre_GluFRefIdeal m →
    θ_run (Cert.GluFRefIdeal.defs (F := Ideal)) (onTc (τ := Cert.GluFRefIdeal.τ) (Cert.GluFRefIdeal.main (F := Ideal))) ⟨m, fun _ => 0, g⟩ (fun r => (∀ c : Dev Cert.GluFRefIdeal.nD,
      r.2.mem ((c.tc : Thread Cert.GluFRefIdeal.nD Cert.GluFRefIdeal.τ).loc Cert.GluFRefIdeal.main_arg0) = m ((c.tc : Thread Cert.GluFRefIdeal.nD Cert.GluFRefIdeal.τ).loc Cert.GluFRefIdeal.main_arg0)
      ∧ r.2.mem ((c.tc : Thread Cert.GluFRefIdeal.nD Cert.GluFRefIdeal.τ).loc Cert.GluFRefIdeal.main_arg1) = m ((c.tc : Thread Cert.GluFRefIdeal.nD Cert.GluFRefIdeal.τ).loc Cert.GluFRefIdeal.main_arg1))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_LnF [hLnF : Cert.LnF.Facts] : Prop :=
  ∀ (m : (ℓ : Loc Cert.LnF.nD Cert.LnF.τ Cert.LnF.sig) → Buf (Elt Bits) ℓ) (g : Dev Cert.LnF.nD → PrngReg), Pre_LnF m →
    θ_run (Cert.LnF.defs (F := Bits)) (onTc (τ := Cert.LnF.τ) (Cert.LnF.main (F := Bits))) ⟨m, fun _ => 0, g⟩ (fun r => (∀ c : Dev Cert.LnF.nD,
      r.2.mem ((c.tc : Thread Cert.LnF.nD Cert.LnF.τ).loc Cert.LnF.main_arg0) = m ((c.tc : Thread Cert.LnF.nD Cert.LnF.τ).loc Cert.LnF.main_arg0)
      ∧ r.2.mem ((c.tc : Thread Cert.LnF.nD Cert.LnF.τ).loc Cert.LnF.main_arg1) = m ((c.tc : Thread Cert.LnF.nD Cert.LnF.τ).loc Cert.LnF.main_arg1)
      ∧ r.2.mem ((c.tc : Thread Cert.LnF.nD Cert.LnF.τ).loc Cert.LnF.main_arg2) = m ((c.tc : Thread Cert.LnF.nD Cert.LnF.τ).loc Cert.LnF.main_arg2))
      ∧ r.2.sem = fun _ => 0)

def quiescent_LnFIdeal [hLnFIdeal : Cert.LnFIdeal.Facts] : Prop :=
  ∀ (m : (ℓ : Loc Cert.LnFIdeal.nD Cert.LnFIdeal.τ Cert.LnFIdeal.sig) → Buf (Elt Ideal) ℓ) (g : Dev Cert.LnFIdeal.nD → PrngReg), Pre_LnFIdeal m →
    θ_run (Cert.LnFIdeal.defs (F := Ideal)) (onTc (τ := Cert.LnFIdeal.τ) (Cert.LnFIdeal.main (F := Ideal))) ⟨m, fun _ => 0, g⟩ (fun r => (∀ c : Dev Cert.LnFIdeal.nD,
      r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
      ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
      ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ r.2.sem = fun _ => 0)

def quiescent_LnFRefIdeal [hLnFRefIdeal : Cert.LnFRefIdeal.Facts] : Prop :=
  ∀ (m : (ℓ : Loc Cert.LnFRefIdeal.nD Cert.LnFRefIdeal.τ Cert.LnFRefIdeal.sig) → Buf (Elt Ideal) ℓ) (g : Dev Cert.LnFRefIdeal.nD → PrngReg), Pre_LnFRefIdeal m →
    θ_run (Cert.LnFRefIdeal.defs (F := Ideal)) (onTc (τ := Cert.LnFRefIdeal.τ) (Cert.LnFRefIdeal.main (F := Ideal))) ⟨m, fun _ => 0, g⟩ (fun r => (∀ c : Dev Cert.LnFRefIdeal.nD,
      r.2.mem ((c.tc : Thread Cert.LnFRefIdeal.nD Cert.LnFRefIdeal.τ).loc Cert.LnFRefIdeal.main_arg0) = m ((c.tc : Thread Cert.LnFRefIdeal.nD Cert.LnFRefIdeal.τ).loc Cert.LnFRefIdeal.main_arg0)
      ∧ r.2.mem ((c.tc : Thread Cert.LnFRefIdeal.nD Cert.LnFRefIdeal.τ).loc Cert.LnFRefIdeal.main_arg1) = m ((c.tc : Thread Cert.LnFRefIdeal.nD Cert.LnFRefIdeal.τ).loc Cert.LnFRefIdeal.main_arg1)
      ∧ r.2.mem ((c.tc : Thread Cert.LnFRefIdeal.nD Cert.LnFRefIdeal.τ).loc Cert.LnFRefIdeal.main_arg2) = m ((c.tc : Thread Cert.LnFRefIdeal.nD Cert.LnFRefIdeal.τ).loc Cert.LnFRefIdeal.main_arg2))
      ∧ r.2.sem = fun _ => 0)

def quiescent_PostbPreF [hPostbPreF : Cert.PostbPreF.Facts] : Prop :=
  ∀ (m : (ℓ : Loc Cert.PostbPreF.nD Cert.PostbPreF.τ Cert.PostbPreF.sig) → Buf (Elt Bits) ℓ) (g : Dev Cert.PostbPreF.nD → PrngReg), Pre_PostbPreF m →
    θ_run (Cert.PostbPreF.defs (F := Bits)) (onTc (τ := Cert.PostbPreF.τ) (Cert.PostbPreF.main (F := Bits))) ⟨m, fun _ => 0, g⟩ (fun r => (∀ c : Dev Cert.PostbPreF.nD,
      r.2.mem ((c.tc : Thread Cert.PostbPreF.nD Cert.PostbPreF.τ).loc Cert.PostbPreF.main_arg0) = m ((c.tc : Thread Cert.PostbPreF.nD Cert.PostbPreF.τ).loc Cert.PostbPreF.main_arg0)
      ∧ r.2.mem ((c.tc : Thread Cert.PostbPreF.nD Cert.PostbPreF.τ).loc Cert.PostbPreF.main_arg1) = m ((c.tc : Thread Cert.PostbPreF.nD Cert.PostbPreF.τ).loc Cert.PostbPreF.main_arg1)
      ∧ r.2.mem ((c.tc : Thread Cert.PostbPreF.nD Cert.PostbPreF.τ).loc Cert.PostbPreF.main_arg2) = m ((c.tc : Thread Cert.PostbPreF.nD Cert.PostbPreF.τ).loc Cert.PostbPreF.main_arg2)
      ∧ r.2.mem ((c.tc : Thread Cert.PostbPreF.nD Cert.PostbPreF.τ).loc Cert.PostbPreF.main_arg3) = m ((c.tc : Thread Cert.PostbPreF.nD Cert.PostbPreF.τ).loc Cert.PostbPreF.main_arg3)
      ∧ r.2.mem ((c.tc : Thread Cert.PostbPreF.nD Cert.PostbPreF.τ).loc Cert.PostbPreF.main_arg4) = m ((c.tc : Thread Cert.PostbPreF.nD Cert.PostbPreF.τ).loc Cert.PostbPreF.main_arg4)
      ∧ r.2.mem ((c.tc : Thread Cert.PostbPreF.nD Cert.PostbPreF.τ).loc Cert.PostbPreF.main_arg5) = m ((c.tc : Thread Cert.PostbPreF.nD Cert.PostbPreF.τ).loc Cert.PostbPreF.main_arg5)
      ∧ r.2.mem ((c.tc : Thread Cert.PostbPreF.nD Cert.PostbPreF.τ).loc Cert.PostbPreF.main_arg6) = m ((c.tc : Thread Cert.PostbPreF.nD Cert.PostbPreF.τ).loc Cert.PostbPreF.main_arg6)
      ∧ r.2.mem ((c.tc : Thread Cert.PostbPreF.nD Cert.PostbPreF.τ).loc Cert.PostbPreF.main_arg7) = m ((c.tc : Thread Cert.PostbPreF.nD Cert.PostbPreF.τ).loc Cert.PostbPreF.main_arg7))
      ∧ r.2.sem = fun _ => 0)

def quiescent_PostbPreFIdeal [hPostbPreFIdeal : Cert.PostbPreFIdeal.Facts] : Prop :=
  ∀ (m : (ℓ : Loc Cert.PostbPreFIdeal.nD Cert.PostbPreFIdeal.τ Cert.PostbPreFIdeal.sig) → Buf (Elt Ideal) ℓ) (g : Dev Cert.PostbPreFIdeal.nD → PrngReg), Pre_PostbPreFIdeal m →
    θ_run (Cert.PostbPreFIdeal.defs (F := Ideal)) (onTc (τ := Cert.PostbPreFIdeal.τ) (Cert.PostbPreFIdeal.main (F := Ideal))) ⟨m, fun _ => 0, g⟩ (fun r => (∀ c : Dev Cert.PostbPreFIdeal.nD,
      r.2.mem ((c.tc : Thread Cert.PostbPreFIdeal.nD Cert.PostbPreFIdeal.τ).loc Cert.PostbPreFIdeal.main_arg0) = m ((c.tc : Thread Cert.PostbPreFIdeal.nD Cert.PostbPreFIdeal.τ).loc Cert.PostbPreFIdeal.main_arg0)
      ∧ r.2.mem ((c.tc : Thread Cert.PostbPreFIdeal.nD Cert.PostbPreFIdeal.τ).loc Cert.PostbPreFIdeal.main_arg1) = m ((c.tc : Thread Cert.PostbPreFIdeal.nD Cert.PostbPreFIdeal.τ).loc Cert.PostbPreFIdeal.main_arg1)
      ∧ r.2.mem ((c.tc : Thread Cert.PostbPreFIdeal.nD Cert.PostbPreFIdeal.τ).loc Cert.PostbPreFIdeal.main_arg2) = m ((c.tc : Thread Cert.PostbPreFIdeal.nD Cert.PostbPreFIdeal.τ).loc Cert.PostbPreFIdeal.main_arg2)
      ∧ r.2.mem ((c.tc : Thread Cert.PostbPreFIdeal.nD Cert.PostbPreFIdeal.τ).loc Cert.PostbPreFIdeal.main_arg3) = m ((c.tc : Thread Cert.PostbPreFIdeal.nD Cert.PostbPreFIdeal.τ).loc Cert.PostbPreFIdeal.main_arg3)
      ∧ r.2.mem ((c.tc : Thread Cert.PostbPreFIdeal.nD Cert.PostbPreFIdeal.τ).loc Cert.PostbPreFIdeal.main_arg4) = m ((c.tc : Thread Cert.PostbPreFIdeal.nD Cert.PostbPreFIdeal.τ).loc Cert.PostbPreFIdeal.main_arg4)
      ∧ r.2.mem ((c.tc : Thread Cert.PostbPreFIdeal.nD Cert.PostbPreFIdeal.τ).loc Cert.PostbPreFIdeal.main_arg5) = m ((c.tc : Thread Cert.PostbPreFIdeal.nD Cert.PostbPreFIdeal.τ).loc Cert.PostbPreFIdeal.main_arg5)
      ∧ r.2.mem ((c.tc : Thread Cert.PostbPreFIdeal.nD Cert.PostbPreFIdeal.τ).loc Cert.PostbPreFIdeal.main_arg6) = m ((c.tc : Thread Cert.PostbPreFIdeal.nD Cert.PostbPreFIdeal.τ).loc Cert.PostbPreFIdeal.main_arg6)
      ∧ r.2.mem ((c.tc : Thread Cert.PostbPreFIdeal.nD Cert.PostbPreFIdeal.τ).loc Cert.PostbPreFIdeal.main_arg7) = m ((c.tc : Thread Cert.PostbPreFIdeal.nD Cert.PostbPreFIdeal.τ).loc Cert.PostbPreFIdeal.main_arg7))
      ∧ r.2.sem = fun _ => 0)

def quiescent_PostbPreFRefIdeal [hPostbPreFRefIdeal : Cert.PostbPreFRefIdeal.Facts] : Prop :=
  ∀ (m : (ℓ : Loc Cert.PostbPreFRefIdeal.nD Cert.PostbPreFRefIdeal.τ Cert.PostbPreFRefIdeal.sig) → Buf (Elt Ideal) ℓ) (g : Dev Cert.PostbPreFRefIdeal.nD → PrngReg), Pre_PostbPreFRefIdeal m →
    θ_run (Cert.PostbPreFRefIdeal.defs (F := Ideal)) (onTc (τ := Cert.PostbPreFRefIdeal.τ) (Cert.PostbPreFRefIdeal.main (F := Ideal))) ⟨m, fun _ => 0, g⟩ (fun r => (∀ c : Dev Cert.PostbPreFRefIdeal.nD,
      r.2.mem ((c.tc : Thread Cert.PostbPreFRefIdeal.nD Cert.PostbPreFRefIdeal.τ).loc Cert.PostbPreFRefIdeal.main_arg0) = m ((c.tc : Thread Cert.PostbPreFRefIdeal.nD Cert.PostbPreFRefIdeal.τ).loc Cert.PostbPreFRefIdeal.main_arg0)
      ∧ r.2.mem ((c.tc : Thread Cert.PostbPreFRefIdeal.nD Cert.PostbPreFRefIdeal.τ).loc Cert.PostbPreFRefIdeal.main_arg1) = m ((c.tc : Thread Cert.PostbPreFRefIdeal.nD Cert.PostbPreFRefIdeal.τ).loc Cert.PostbPreFRefIdeal.main_arg1)
      ∧ r.2.mem ((c.tc : Thread Cert.PostbPreFRefIdeal.nD Cert.PostbPreFRefIdeal.τ).loc Cert.PostbPreFRefIdeal.main_arg2) = m ((c.tc : Thread Cert.PostbPreFRefIdeal.nD Cert.PostbPreFRefIdeal.τ).loc Cert.PostbPreFRefIdeal.main_arg2)
      ∧ r.2.mem ((c.tc : Thread Cert.PostbPreFRefIdeal.nD Cert.PostbPreFRefIdeal.τ).loc Cert.PostbPreFRefIdeal.main_arg3) = m ((c.tc : Thread Cert.PostbPreFRefIdeal.nD Cert.PostbPreFRefIdeal.τ).loc Cert.PostbPreFRefIdeal.main_arg3)
      ∧ r.2.mem ((c.tc : Thread Cert.PostbPreFRefIdeal.nD Cert.PostbPreFRefIdeal.τ).loc Cert.PostbPreFRefIdeal.main_arg4) = m ((c.tc : Thread Cert.PostbPreFRefIdeal.nD Cert.PostbPreFRefIdeal.τ).loc Cert.PostbPreFRefIdeal.main_arg4)
      ∧ r.2.mem ((c.tc : Thread Cert.PostbPreFRefIdeal.nD Cert.PostbPreFRefIdeal.τ).loc Cert.PostbPreFRefIdeal.main_arg5) = m ((c.tc : Thread Cert.PostbPreFRefIdeal.nD Cert.PostbPreFRefIdeal.τ).loc Cert.PostbPreFRefIdeal.main_arg5)
      ∧ r.2.mem ((c.tc : Thread Cert.PostbPreFRefIdeal.nD Cert.PostbPreFRefIdeal.τ).loc Cert.PostbPreFRefIdeal.main_arg6) = m ((c.tc : Thread Cert.PostbPreFRefIdeal.nD Cert.PostbPreFRefIdeal.τ).loc Cert.PostbPreFRefIdeal.main_arg6)
      ∧ r.2.mem ((c.tc : Thread Cert.PostbPreFRefIdeal.nD Cert.PostbPreFRefIdeal.τ).loc Cert.PostbPreFRefIdeal.main_arg7) = m ((c.tc : Thread Cert.PostbPreFRefIdeal.nD Cert.PostbPreFRefIdeal.τ).loc Cert.PostbPreFRefIdeal.main_arg7))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_PostTwinF [hPostTwinF : Cert.PostTwinF.Facts] : Prop :=
  ∀ (m : (ℓ : Loc Cert.PostTwinF.nD Cert.PostTwinF.τ Cert.PostTwinF.sig) → Buf (Elt Bits) ℓ) (g : Dev Cert.PostTwinF.nD → PrngReg), Pre_PostTwinF m →
    θ_run (Cert.PostTwinF.defs (F := Bits)) (onTc (τ := Cert.PostTwinF.τ) (Cert.PostTwinF.main (F := Bits))) ⟨m, fun _ => 0, g⟩ (fun r => (∀ c : Dev Cert.PostTwinF.nD,
      r.2.mem ((c.tc : Thread Cert.PostTwinF.nD Cert.PostTwinF.τ).loc Cert.PostTwinF.main_arg0) = m ((c.tc : Thread Cert.PostTwinF.nD Cert.PostTwinF.τ).loc Cert.PostTwinF.main_arg0)
      ∧ r.2.mem ((c.tc : Thread Cert.PostTwinF.nD Cert.PostTwinF.τ).loc Cert.PostTwinF.main_arg1) = m ((c.tc : Thread Cert.PostTwinF.nD Cert.PostTwinF.τ).loc Cert.PostTwinF.main_arg1)
      ∧ r.2.mem ((c.tc : Thread Cert.PostTwinF.nD Cert.PostTwinF.τ).loc Cert.PostTwinF.main_arg2) = m ((c.tc : Thread Cert.PostTwinF.nD Cert.PostTwinF.τ).loc Cert.PostTwinF.main_arg2)
      ∧ r.2.mem ((c.tc : Thread Cert.PostTwinF.nD Cert.PostTwinF.τ).loc Cert.PostTwinF.main_arg3) = m ((c.tc : Thread Cert.PostTwinF.nD Cert.PostTwinF.τ).loc Cert.PostTwinF.main_arg3)
      ∧ r.2.mem ((c.tc : Thread Cert.PostTwinF.nD Cert.PostTwinF.τ).loc Cert.PostTwinF.main_arg4) = m ((c.tc : Thread Cert.PostTwinF.nD Cert.PostTwinF.τ).loc Cert.PostTwinF.main_arg4)
      ∧ r.2.mem ((c.tc : Thread Cert.PostTwinF.nD Cert.PostTwinF.τ).loc Cert.PostTwinF.main_arg5) = m ((c.tc : Thread Cert.PostTwinF.nD Cert.PostTwinF.τ).loc Cert.PostTwinF.main_arg5)
      ∧ r.2.mem ((c.tc : Thread Cert.PostTwinF.nD Cert.PostTwinF.τ).loc Cert.PostTwinF.main_arg6) = m ((c.tc : Thread Cert.PostTwinF.nD Cert.PostTwinF.τ).loc Cert.PostTwinF.main_arg6)
      ∧ r.2.mem ((c.tc : Thread Cert.PostTwinF.nD Cert.PostTwinF.τ).loc Cert.PostTwinF.main_arg7) = m ((c.tc : Thread Cert.PostTwinF.nD Cert.PostTwinF.τ).loc Cert.PostTwinF.main_arg7)
      ∧ r.2.mem ((c.tc : Thread Cert.PostTwinF.nD Cert.PostTwinF.τ).loc Cert.PostTwinF.main_arg8) = m ((c.tc : Thread Cert.PostTwinF.nD Cert.PostTwinF.τ).loc Cert.PostTwinF.main_arg8)
      ∧ r.2.mem ((c.tc : Thread Cert.PostTwinF.nD Cert.PostTwinF.τ).loc Cert.PostTwinF.main_arg9) = m ((c.tc : Thread Cert.PostTwinF.nD Cert.PostTwinF.τ).loc Cert.PostTwinF.main_arg9))
      ∧ r.2.sem = fun _ => 0)

def quiescent_PostTwinFIdeal [hPostTwinFIdeal : Cert.PostTwinFIdeal.Facts] : Prop :=
  ∀ (m : (ℓ : Loc Cert.PostTwinFIdeal.nD Cert.PostTwinFIdeal.τ Cert.PostTwinFIdeal.sig) → Buf (Elt Ideal) ℓ) (g : Dev Cert.PostTwinFIdeal.nD → PrngReg), Pre_PostTwinFIdeal m →
    θ_run (Cert.PostTwinFIdeal.defs (F := Ideal)) (onTc (τ := Cert.PostTwinFIdeal.τ) (Cert.PostTwinFIdeal.main (F := Ideal))) ⟨m, fun _ => 0, g⟩ (fun r => (∀ c : Dev Cert.PostTwinFIdeal.nD,
      r.2.mem ((c.tc : Thread Cert.PostTwinFIdeal.nD Cert.PostTwinFIdeal.τ).loc Cert.PostTwinFIdeal.main_arg0) = m ((c.tc : Thread Cert.PostTwinFIdeal.nD Cert.PostTwinFIdeal.τ).loc Cert.PostTwinFIdeal.main_arg0)
      ∧ r.2.mem ((c.tc : Thread Cert.PostTwinFIdeal.nD Cert.PostTwinFIdeal.τ).loc Cert.PostTwinFIdeal.main_arg1) = m ((c.tc : Thread Cert.PostTwinFIdeal.nD Cert.PostTwinFIdeal.τ).loc Cert.PostTwinFIdeal.main_arg1)
      ∧ r.2.mem ((c.tc : Thread Cert.PostTwinFIdeal.nD Cert.PostTwinFIdeal.τ).loc Cert.PostTwinFIdeal.main_arg2) = m ((c.tc : Thread Cert.PostTwinFIdeal.nD Cert.PostTwinFIdeal.τ).loc Cert.PostTwinFIdeal.main_arg2)
      ∧ r.2.mem ((c.tc : Thread Cert.PostTwinFIdeal.nD Cert.PostTwinFIdeal.τ).loc Cert.PostTwinFIdeal.main_arg3) = m ((c.tc : Thread Cert.PostTwinFIdeal.nD Cert.PostTwinFIdeal.τ).loc Cert.PostTwinFIdeal.main_arg3)
      ∧ r.2.mem ((c.tc : Thread Cert.PostTwinFIdeal.nD Cert.PostTwinFIdeal.τ).loc Cert.PostTwinFIdeal.main_arg4) = m ((c.tc : Thread Cert.PostTwinFIdeal.nD Cert.PostTwinFIdeal.τ).loc Cert.PostTwinFIdeal.main_arg4)
      ∧ r.2.mem ((c.tc : Thread Cert.PostTwinFIdeal.nD Cert.PostTwinFIdeal.τ).loc Cert.PostTwinFIdeal.main_arg5) = m ((c.tc : Thread Cert.PostTwinFIdeal.nD Cert.PostTwinFIdeal.τ).loc Cert.PostTwinFIdeal.main_arg5)
      ∧ r.2.mem ((c.tc : Thread Cert.PostTwinFIdeal.nD Cert.PostTwinFIdeal.τ).loc Cert.PostTwinFIdeal.main_arg6) = m ((c.tc : Thread Cert.PostTwinFIdeal.nD Cert.PostTwinFIdeal.τ).loc Cert.PostTwinFIdeal.main_arg6)
      ∧ r.2.mem ((c.tc : Thread Cert.PostTwinFIdeal.nD Cert.PostTwinFIdeal.τ).loc Cert.PostTwinFIdeal.main_arg7) = m ((c.tc : Thread Cert.PostTwinFIdeal.nD Cert.PostTwinFIdeal.τ).loc Cert.PostTwinFIdeal.main_arg7)
      ∧ r.2.mem ((c.tc : Thread Cert.PostTwinFIdeal.nD Cert.PostTwinFIdeal.τ).loc Cert.PostTwinFIdeal.main_arg8) = m ((c.tc : Thread Cert.PostTwinFIdeal.nD Cert.PostTwinFIdeal.τ).loc Cert.PostTwinFIdeal.main_arg8)
      ∧ r.2.mem ((c.tc : Thread Cert.PostTwinFIdeal.nD Cert.PostTwinFIdeal.τ).loc Cert.PostTwinFIdeal.main_arg9) = m ((c.tc : Thread Cert.PostTwinFIdeal.nD Cert.PostTwinFIdeal.τ).loc Cert.PostTwinFIdeal.main_arg9))
      ∧ r.2.sem = fun _ => 0)

def quiescent_PostTwinFRefIdeal [hPostTwinFRefIdeal : Cert.PostTwinFRefIdeal.Facts] : Prop :=
  ∀ (m : (ℓ : Loc Cert.PostTwinFRefIdeal.nD Cert.PostTwinFRefIdeal.τ Cert.PostTwinFRefIdeal.sig) → Buf (Elt Ideal) ℓ) (g : Dev Cert.PostTwinFRefIdeal.nD → PrngReg), Pre_PostTwinFRefIdeal m →
    θ_run (Cert.PostTwinFRefIdeal.defs (F := Ideal)) (onTc (τ := Cert.PostTwinFRefIdeal.τ) (Cert.PostTwinFRefIdeal.main (F := Ideal))) ⟨m, fun _ => 0, g⟩ (fun r => (∀ c : Dev Cert.PostTwinFRefIdeal.nD,
      r.2.mem ((c.tc : Thread Cert.PostTwinFRefIdeal.nD Cert.PostTwinFRefIdeal.τ).loc Cert.PostTwinFRefIdeal.main_arg0) = m ((c.tc : Thread Cert.PostTwinFRefIdeal.nD Cert.PostTwinFRefIdeal.τ).loc Cert.PostTwinFRefIdeal.main_arg0)
      ∧ r.2.mem ((c.tc : Thread Cert.PostTwinFRefIdeal.nD Cert.PostTwinFRefIdeal.τ).loc Cert.PostTwinFRefIdeal.main_arg1) = m ((c.tc : Thread Cert.PostTwinFRefIdeal.nD Cert.PostTwinFRefIdeal.τ).loc Cert.PostTwinFRefIdeal.main_arg1)
      ∧ r.2.mem ((c.tc : Thread Cert.PostTwinFRefIdeal.nD Cert.PostTwinFRefIdeal.τ).loc Cert.PostTwinFRefIdeal.main_arg2) = m ((c.tc : Thread Cert.PostTwinFRefIdeal.nD Cert.PostTwinFRefIdeal.τ).loc Cert.PostTwinFRefIdeal.main_arg2)
      ∧ r.2.mem ((c.tc : Thread Cert.PostTwinFRefIdeal.nD Cert.PostTwinFRefIdeal.τ).loc Cert.PostTwinFRefIdeal.main_arg3) = m ((c.tc : Thread Cert.PostTwinFRefIdeal.nD Cert.PostTwinFRefIdeal.τ).loc Cert.PostTwinFRefIdeal.main_arg3)
      ∧ r.2.mem ((c.tc : Thread Cert.PostTwinFRefIdeal.nD Cert.PostTwinFRefIdeal.τ).loc Cert.PostTwinFRefIdeal.main_arg4) = m ((c.tc : Thread Cert.PostTwinFRefIdeal.nD Cert.PostTwinFRefIdeal.τ).loc Cert.PostTwinFRefIdeal.main_arg4)
      ∧ r.2.mem ((c.tc : Thread Cert.PostTwinFRefIdeal.nD Cert.PostTwinFRefIdeal.τ).loc Cert.PostTwinFRefIdeal.main_arg5) = m ((c.tc : Thread Cert.PostTwinFRefIdeal.nD Cert.PostTwinFRefIdeal.τ).loc Cert.PostTwinFRefIdeal.main_arg5)
      ∧ r.2.mem ((c.tc : Thread Cert.PostTwinFRefIdeal.nD Cert.PostTwinFRefIdeal.τ).loc Cert.PostTwinFRefIdeal.main_arg6) = m ((c.tc : Thread Cert.PostTwinFRefIdeal.nD Cert.PostTwinFRefIdeal.τ).loc Cert.PostTwinFRefIdeal.main_arg6)
      ∧ r.2.mem ((c.tc : Thread Cert.PostTwinFRefIdeal.nD Cert.PostTwinFRefIdeal.τ).loc Cert.PostTwinFRefIdeal.main_arg7) = m ((c.tc : Thread Cert.PostTwinFRefIdeal.nD Cert.PostTwinFRefIdeal.τ).loc Cert.PostTwinFRefIdeal.main_arg7)
      ∧ r.2.mem ((c.tc : Thread Cert.PostTwinFRefIdeal.nD Cert.PostTwinFRefIdeal.τ).loc Cert.PostTwinFRefIdeal.main_arg8) = m ((c.tc : Thread Cert.PostTwinFRefIdeal.nD Cert.PostTwinFRefIdeal.τ).loc Cert.PostTwinFRefIdeal.main_arg8)
      ∧ r.2.mem ((c.tc : Thread Cert.PostTwinFRefIdeal.nD Cert.PostTwinFRefIdeal.τ).loc Cert.PostTwinFRefIdeal.main_arg9) = m ((c.tc : Thread Cert.PostTwinFRefIdeal.nD Cert.PostTwinFRefIdeal.τ).loc Cert.PostTwinFRefIdeal.main_arg9))
      ∧ r.2.sem = fun _ => 0)

def quiescent_LatF [hLatF : Cert.LatF.Facts] : Prop :=
  ∀ (m : (ℓ : Loc Cert.LatF.nD Cert.LatF.τ Cert.LatF.sig) → Buf (Elt Bits) ℓ) (g : Dev Cert.LatF.nD → PrngReg), Pre_LatF m →
    θ_run (Cert.LatF.defs (F := Bits)) (onTc (τ := Cert.LatF.τ) (Cert.LatF.main (F := Bits))) ⟨m, fun _ => 0, g⟩ (fun r => (∀ c : Dev Cert.LatF.nD,
      r.2.mem ((c.tc : Thread Cert.LatF.nD Cert.LatF.τ).loc Cert.LatF.main_arg0) = m ((c.tc : Thread Cert.LatF.nD Cert.LatF.τ).loc Cert.LatF.main_arg0)
      ∧ r.2.mem ((c.tc : Thread Cert.LatF.nD Cert.LatF.τ).loc Cert.LatF.main_arg1) = m ((c.tc : Thread Cert.LatF.nD Cert.LatF.τ).loc Cert.LatF.main_arg1)
      ∧ r.2.mem ((c.tc : Thread Cert.LatF.nD Cert.LatF.τ).loc Cert.LatF.main_arg2) = m ((c.tc : Thread Cert.LatF.nD Cert.LatF.τ).loc Cert.LatF.main_arg2)
      ∧ r.2.mem ((c.tc : Thread Cert.LatF.nD Cert.LatF.τ).loc Cert.LatF.main_arg3) = m ((c.tc : Thread Cert.LatF.nD Cert.LatF.τ).loc Cert.LatF.main_arg3)
      ∧ r.2.mem ((c.tc : Thread Cert.LatF.nD Cert.LatF.τ).loc Cert.LatF.main_arg4) = m ((c.tc : Thread Cert.LatF.nD Cert.LatF.τ).loc Cert.LatF.main_arg4)
      ∧ r.2.mem ((c.tc : Thread Cert.LatF.nD Cert.LatF.τ).loc Cert.LatF.main_arg5) = m ((c.tc : Thread Cert.LatF.nD Cert.LatF.τ).loc Cert.LatF.main_arg5))
      ∧ r.2.sem = fun _ => 0)

def quiescent_LatFIdeal [hLatFIdeal : Cert.LatFIdeal.Facts] : Prop :=
  ∀ (m : (ℓ : Loc Cert.LatFIdeal.nD Cert.LatFIdeal.τ Cert.LatFIdeal.sig) → Buf (Elt Ideal) ℓ) (g : Dev Cert.LatFIdeal.nD → PrngReg), Pre_LatFIdeal m →
    θ_run (Cert.LatFIdeal.defs (F := Ideal)) (onTc (τ := Cert.LatFIdeal.τ) (Cert.LatFIdeal.main (F := Ideal))) ⟨m, fun _ => 0, g⟩ (fun r => (∀ c : Dev Cert.LatFIdeal.nD,
      r.2.mem ((c.tc : Thread Cert.LatFIdeal.nD Cert.LatFIdeal.τ).loc Cert.LatFIdeal.main_arg0) = m ((c.tc : Thread Cert.LatFIdeal.nD Cert.LatFIdeal.τ).loc Cert.LatFIdeal.main_arg0)
      ∧ r.2.mem ((c.tc : Thread Cert.LatFIdeal.nD Cert.LatFIdeal.τ).loc Cert.LatFIdeal.main_arg1) = m ((c.tc : Thread Cert.LatFIdeal.nD Cert.LatFIdeal.τ).loc Cert.LatFIdeal.main_arg1)
      ∧ r.2.mem ((c.tc : Thread Cert.LatFIdeal.nD Cert.LatFIdeal.τ).loc Cert.LatFIdeal.main_arg2) = m ((c.tc : Thread Cert.LatFIdeal.nD Cert.LatFIdeal.τ).loc Cert.LatFIdeal.main_arg2)
      ∧ r.2.mem ((c.tc : Thread Cert.LatFIdeal.nD Cert.LatFIdeal.τ).loc Cert.LatFIdeal.main_arg3) = m ((c.tc : Thread Cert.LatFIdeal.nD Cert.LatFIdeal.τ).loc Cert.LatFIdeal.main_arg3)
      ∧ r.2.mem ((c.tc : Thread Cert.LatFIdeal.nD Cert.LatFIdeal.τ).loc Cert.LatFIdeal.main_arg4) = m ((c.tc : Thread Cert.LatFIdeal.nD Cert.LatFIdeal.τ).loc Cert.LatFIdeal.main_arg4)
      ∧ r.2.mem ((c.tc : Thread Cert.LatFIdeal.nD Cert.LatFIdeal.τ).loc Cert.LatFIdeal.main_arg5) = m ((c.tc : Thread Cert.LatFIdeal.nD Cert.LatFIdeal.τ).loc Cert.LatFIdeal.main_arg5))
      ∧ r.2.sem = fun _ => 0)

def quiescent_LatFRefIdeal [hLatFRefIdeal : Cert.LatFRefIdeal.Facts] : Prop :=
  ∀ (m : (ℓ : Loc Cert.LatFRefIdeal.nD Cert.LatFRefIdeal.τ Cert.LatFRefIdeal.sig) → Buf (Elt Ideal) ℓ) (g : Dev Cert.LatFRefIdeal.nD → PrngReg), Pre_LatFRefIdeal m →
    θ_run (Cert.LatFRefIdeal.defs (F := Ideal)) (onTc (τ := Cert.LatFRefIdeal.τ) (Cert.LatFRefIdeal.main (F := Ideal))) ⟨m, fun _ => 0, g⟩ (fun r => (∀ c : Dev Cert.LatFRefIdeal.nD,
      r.2.mem ((c.tc : Thread Cert.LatFRefIdeal.nD Cert.LatFRefIdeal.τ).loc Cert.LatFRefIdeal.main_arg0) = m ((c.tc : Thread Cert.LatFRefIdeal.nD Cert.LatFRefIdeal.τ).loc Cert.LatFRefIdeal.main_arg0)
      ∧ r.2.mem ((c.tc : Thread Cert.LatFRefIdeal.nD Cert.LatFRefIdeal.τ).loc Cert.LatFRefIdeal.main_arg1) = m ((c.tc : Thread Cert.LatFRefIdeal.nD Cert.LatFRefIdeal.τ).loc Cert.LatFRefIdeal.main_arg1)
      ∧ r.2.mem ((c.tc : Thread Cert.LatFRefIdeal.nD Cert.LatFRefIdeal.τ).loc Cert.LatFRefIdeal.main_arg2) = m ((c.tc : Thread Cert.LatFRefIdeal.nD Cert.LatFRefIdeal.τ).loc Cert.LatFRefIdeal.main_arg2)
      ∧ r.2.mem ((c.tc : Thread Cert.LatFRefIdeal.nD Cert.LatFRefIdeal.τ).loc Cert.LatFRefIdeal.main_arg3) = m ((c.tc : Thread Cert.LatFRefIdeal.nD Cert.LatFRefIdeal.τ).loc Cert.LatFRefIdeal.main_arg3)
      ∧ r.2.mem ((c.tc : Thread Cert.LatFRefIdeal.nD Cert.LatFRefIdeal.τ).loc Cert.LatFRefIdeal.main_arg4) = m ((c.tc : Thread Cert.LatFRefIdeal.nD Cert.LatFRefIdeal.τ).loc Cert.LatFRefIdeal.main_arg4)
      ∧ r.2.mem ((c.tc : Thread Cert.LatFRefIdeal.nD Cert.LatFRefIdeal.τ).loc Cert.LatFRefIdeal.main_arg5) = m ((c.tc : Thread Cert.LatFRefIdeal.nD Cert.LatFRefIdeal.τ).loc Cert.LatFRefIdeal.main_arg5))
      ∧ r.2.sem = fun _ => 0)

def quiescent_RopeF [hRopeF : Cert.RopeF.Facts] : Prop :=
  ∀ (m : (ℓ : Loc Cert.RopeF.nD Cert.RopeF.τ Cert.RopeF.sig) → Buf (Elt Bits) ℓ) (g : Dev Cert.RopeF.nD → PrngReg), Pre_RopeF m →
    θ_run (Cert.RopeF.defs (F := Bits)) (onTc (τ := Cert.RopeF.τ) (Cert.RopeF.main (F := Bits))) ⟨m, fun _ => 0, g⟩ (fun r => (∀ c : Dev Cert.RopeF.nD,
      r.2.mem ((c.tc : Thread Cert.RopeF.nD Cert.RopeF.τ).loc Cert.RopeF.main_arg0) = m ((c.tc : Thread Cert.RopeF.nD Cert.RopeF.τ).loc Cert.RopeF.main_arg0)
      ∧ r.2.mem ((c.tc : Thread Cert.RopeF.nD Cert.RopeF.τ).loc Cert.RopeF.main_arg1) = m ((c.tc : Thread Cert.RopeF.nD Cert.RopeF.τ).loc Cert.RopeF.main_arg1))
      ∧ r.2.sem = fun _ => 0)

def quiescent_RopeFIdeal [hRopeFIdeal : Cert.RopeFIdeal.Facts] : Prop :=
  ∀ (m : (ℓ : Loc Cert.RopeFIdeal.nD Cert.RopeFIdeal.τ Cert.RopeFIdeal.sig) → Buf (Elt Ideal) ℓ) (g : Dev Cert.RopeFIdeal.nD → PrngReg), Pre_RopeFIdeal m →
    θ_run (Cert.RopeFIdeal.defs (F := Ideal)) (onTc (τ := Cert.RopeFIdeal.τ) (Cert.RopeFIdeal.main (F := Ideal))) ⟨m, fun _ => 0, g⟩ (fun r => (∀ c : Dev Cert.RopeFIdeal.nD,
      r.2.mem ((c.tc : Thread Cert.RopeFIdeal.nD Cert.RopeFIdeal.τ).loc Cert.RopeFIdeal.main_arg0) = m ((c.tc : Thread Cert.RopeFIdeal.nD Cert.RopeFIdeal.τ).loc Cert.RopeFIdeal.main_arg0)
      ∧ r.2.mem ((c.tc : Thread Cert.RopeFIdeal.nD Cert.RopeFIdeal.τ).loc Cert.RopeFIdeal.main_arg1) = m ((c.tc : Thread Cert.RopeFIdeal.nD Cert.RopeFIdeal.τ).loc Cert.RopeFIdeal.main_arg1))
      ∧ r.2.sem = fun _ => 0)

def quiescent_RopeFRefIdeal [hRopeFRefIdeal : Cert.RopeFRefIdeal.Facts] : Prop :=
  ∀ (m : (ℓ : Loc Cert.RopeFRefIdeal.nD Cert.RopeFRefIdeal.τ Cert.RopeFRefIdeal.sig) → Buf (Elt Ideal) ℓ) (g : Dev Cert.RopeFRefIdeal.nD → PrngReg), Pre_RopeFRefIdeal m →
    θ_run (Cert.RopeFRefIdeal.defs (F := Ideal)) (onTc (τ := Cert.RopeFRefIdeal.τ) (Cert.RopeFRefIdeal.main (F := Ideal))) ⟨m, fun _ => 0, g⟩ (fun r => (∀ c : Dev Cert.RopeFRefIdeal.nD,
      r.2.mem ((c.tc : Thread Cert.RopeFRefIdeal.nD Cert.RopeFRefIdeal.τ).loc Cert.RopeFRefIdeal.main_arg0) = m ((c.tc : Thread Cert.RopeFRefIdeal.nD Cert.RopeFRefIdeal.τ).loc Cert.RopeFRefIdeal.main_arg0)
      ∧ r.2.mem ((c.tc : Thread Cert.RopeFRefIdeal.nD Cert.RopeFRefIdeal.τ).loc Cert.RopeFRefIdeal.main_arg1) = m ((c.tc : Thread Cert.RopeFRefIdeal.nD Cert.RopeFRefIdeal.τ).loc Cert.RopeFRefIdeal.main_arg1))
      ∧ r.2.sem = fun _ => 0)

def quiescent_PostPreF [hPostPreF : Cert.PostPreF.Facts] : Prop :=
  ∀ (m : (ℓ : Loc Cert.PostPreF.nD Cert.PostPreF.τ Cert.PostPreF.sig) → Buf (Elt Bits) ℓ) (g : Dev Cert.PostPreF.nD → PrngReg), Pre_PostPreF m →
    θ_run (Cert.PostPreF.defs (F := Bits)) (onTc (τ := Cert.PostPreF.τ) (Cert.PostPreF.main (F := Bits))) ⟨m, fun _ => 0, g⟩ (fun r => (∀ c : Dev Cert.PostPreF.nD,
      r.2.mem ((c.tc : Thread Cert.PostPreF.nD Cert.PostPreF.τ).loc Cert.PostPreF.main_arg0) = m ((c.tc : Thread Cert.PostPreF.nD Cert.PostPreF.τ).loc Cert.PostPreF.main_arg0)
      ∧ r.2.mem ((c.tc : Thread Cert.PostPreF.nD Cert.PostPreF.τ).loc Cert.PostPreF.main_arg1) = m ((c.tc : Thread Cert.PostPreF.nD Cert.PostPreF.τ).loc Cert.PostPreF.main_arg1)
      ∧ r.2.mem ((c.tc : Thread Cert.PostPreF.nD Cert.PostPreF.τ).loc Cert.PostPreF.main_arg2) = m ((c.tc : Thread Cert.PostPreF.nD Cert.PostPreF.τ).loc Cert.PostPreF.main_arg2)
      ∧ r.2.mem ((c.tc : Thread Cert.PostPreF.nD Cert.PostPreF.τ).loc Cert.PostPreF.main_arg3) = m ((c.tc : Thread Cert.PostPreF.nD Cert.PostPreF.τ).loc Cert.PostPreF.main_arg3)
      ∧ r.2.mem ((c.tc : Thread Cert.PostPreF.nD Cert.PostPreF.τ).loc Cert.PostPreF.main_arg4) = m ((c.tc : Thread Cert.PostPreF.nD Cert.PostPreF.τ).loc Cert.PostPreF.main_arg4)
      ∧ r.2.mem ((c.tc : Thread Cert.PostPreF.nD Cert.PostPreF.τ).loc Cert.PostPreF.main_arg5) = m ((c.tc : Thread Cert.PostPreF.nD Cert.PostPreF.τ).loc Cert.PostPreF.main_arg5)
      ∧ r.2.mem ((c.tc : Thread Cert.PostPreF.nD Cert.PostPreF.τ).loc Cert.PostPreF.main_arg6) = m ((c.tc : Thread Cert.PostPreF.nD Cert.PostPreF.τ).loc Cert.PostPreF.main_arg6))
      ∧ r.2.sem = fun _ => 0)

def quiescent_PostPreFIdeal [hPostPreFIdeal : Cert.PostPreFIdeal.Facts] : Prop :=
  ∀ (m : (ℓ : Loc Cert.PostPreFIdeal.nD Cert.PostPreFIdeal.τ Cert.PostPreFIdeal.sig) → Buf (Elt Ideal) ℓ) (g : Dev Cert.PostPreFIdeal.nD → PrngReg), Pre_PostPreFIdeal m →
    θ_run (Cert.PostPreFIdeal.defs (F := Ideal)) (onTc (τ := Cert.PostPreFIdeal.τ) (Cert.PostPreFIdeal.main (F := Ideal))) ⟨m, fun _ => 0, g⟩ (fun r => (∀ c : Dev Cert.PostPreFIdeal.nD,
      r.2.mem ((c.tc : Thread Cert.PostPreFIdeal.nD Cert.PostPreFIdeal.τ).loc Cert.PostPreFIdeal.main_arg0) = m ((c.tc : Thread Cert.PostPreFIdeal.nD Cert.PostPreFIdeal.τ).loc Cert.PostPreFIdeal.main_arg0)
      ∧ r.2.mem ((c.tc : Thread Cert.PostPreFIdeal.nD Cert.PostPreFIdeal.τ).loc Cert.PostPreFIdeal.main_arg1) = m ((c.tc : Thread Cert.PostPreFIdeal.nD Cert.PostPreFIdeal.τ).loc Cert.PostPreFIdeal.main_arg1)
      ∧ r.2.mem ((c.tc : Thread Cert.PostPreFIdeal.nD Cert.PostPreFIdeal.τ).loc Cert.PostPreFIdeal.main_arg2) = m ((c.tc : Thread Cert.PostPreFIdeal.nD Cert.PostPreFIdeal.τ).loc Cert.PostPreFIdeal.main_arg2)
      ∧ r.2.mem ((c.tc : Thread Cert.PostPreFIdeal.nD Cert.PostPreFIdeal.τ).loc Cert.PostPreFIdeal.main_arg3) = m ((c.tc : Thread Cert.PostPreFIdeal.nD Cert.PostPreFIdeal.τ).loc Cert.PostPreFIdeal.main_arg3)
      ∧ r.2.mem ((c.tc : Thread Cert.PostPreFIdeal.nD Cert.PostPreFIdeal.τ).loc Cert.PostPreFIdeal.main_arg4) = m ((c.tc : Thread Cert.PostPreFIdeal.nD Cert.PostPreFIdeal.τ).loc Cert.PostPreFIdeal.main_arg4)
      ∧ r.2.mem ((c.tc : Thread Cert.PostPreFIdeal.nD Cert.PostPreFIdeal.τ).loc Cert.PostPreFIdeal.main_arg5) = m ((c.tc : Thread Cert.PostPreFIdeal.nD Cert.PostPreFIdeal.τ).loc Cert.PostPreFIdeal.main_arg5)
      ∧ r.2.mem ((c.tc : Thread Cert.PostPreFIdeal.nD Cert.PostPreFIdeal.τ).loc Cert.PostPreFIdeal.main_arg6) = m ((c.tc : Thread Cert.PostPreFIdeal.nD Cert.PostPreFIdeal.τ).loc Cert.PostPreFIdeal.main_arg6))
      ∧ r.2.sem = fun _ => 0)

def quiescent_PostPreFRefIdeal [hPostPreFRefIdeal : Cert.PostPreFRefIdeal.Facts] : Prop :=
  ∀ (m : (ℓ : Loc Cert.PostPreFRefIdeal.nD Cert.PostPreFRefIdeal.τ Cert.PostPreFRefIdeal.sig) → Buf (Elt Ideal) ℓ) (g : Dev Cert.PostPreFRefIdeal.nD → PrngReg), Pre_PostPreFRefIdeal m →
    θ_run (Cert.PostPreFRefIdeal.defs (F := Ideal)) (onTc (τ := Cert.PostPreFRefIdeal.τ) (Cert.PostPreFRefIdeal.main (F := Ideal))) ⟨m, fun _ => 0, g⟩ (fun r => (∀ c : Dev Cert.PostPreFRefIdeal.nD,
      r.2.mem ((c.tc : Thread Cert.PostPreFRefIdeal.nD Cert.PostPreFRefIdeal.τ).loc Cert.PostPreFRefIdeal.main_arg0) = m ((c.tc : Thread Cert.PostPreFRefIdeal.nD Cert.PostPreFRefIdeal.τ).loc Cert.PostPreFRefIdeal.main_arg0)
      ∧ r.2.mem ((c.tc : Thread Cert.PostPreFRefIdeal.nD Cert.PostPreFRefIdeal.τ).loc Cert.PostPreFRefIdeal.main_arg1) = m ((c.tc : Thread Cert.PostPreFRefIdeal.nD Cert.PostPreFRefIdeal.τ).loc Cert.PostPreFRefIdeal.main_arg1)
      ∧ r.2.mem ((c.tc : Thread Cert.PostPreFRefIdeal.nD Cert.PostPreFRefIdeal.τ).loc Cert.PostPreFRefIdeal.main_arg2) = m ((c.tc : Thread Cert.PostPreFRefIdeal.nD Cert.PostPreFRefIdeal.τ).loc Cert.PostPreFRefIdeal.main_arg2)
      ∧ r.2.mem ((c.tc : Thread Cert.PostPreFRefIdeal.nD Cert.PostPreFRefIdeal.τ).loc Cert.PostPreFRefIdeal.main_arg3) = m ((c.tc : Thread Cert.PostPreFRefIdeal.nD Cert.PostPreFRefIdeal.τ).loc Cert.PostPreFRefIdeal.main_arg3)
      ∧ r.2.mem ((c.tc : Thread Cert.PostPreFRefIdeal.nD Cert.PostPreFRefIdeal.τ).loc Cert.PostPreFRefIdeal.main_arg4) = m ((c.tc : Thread Cert.PostPreFRefIdeal.nD Cert.PostPreFRefIdeal.τ).loc Cert.PostPreFRefIdeal.main_arg4)
      ∧ r.2.mem ((c.tc : Thread Cert.PostPreFRefIdeal.nD Cert.PostPreFRefIdeal.τ).loc Cert.PostPreFRefIdeal.main_arg5) = m ((c.tc : Thread Cert.PostPreFRefIdeal.nD Cert.PostPreFRefIdeal.τ).loc Cert.PostPreFRefIdeal.main_arg5)
      ∧ r.2.mem ((c.tc : Thread Cert.PostPreFRefIdeal.nD Cert.PostPreFRefIdeal.τ).loc Cert.PostPreFRefIdeal.main_arg6) = m ((c.tc : Thread Cert.PostPreFRefIdeal.nD Cert.PostPreFRefIdeal.τ).loc Cert.PostPreFRefIdeal.main_arg6))
      ∧ r.2.sem = fun _ => 0)

def quiescent_PostF [hPostF : Cert.PostF.Facts] : Prop :=
  ∀ (m : (ℓ : Loc Cert.PostF.nD Cert.PostF.τ Cert.PostF.sig) → Buf (Elt Bits) ℓ) (g : Dev Cert.PostF.nD → PrngReg), Pre_PostF m →
    θ_run (Cert.PostF.defs (F := Bits)) (onTc (τ := Cert.PostF.τ) (Cert.PostF.main (F := Bits))) ⟨m, fun _ => 0, g⟩ (fun r => (∀ c : Dev Cert.PostF.nD,
      r.2.mem ((c.tc : Thread Cert.PostF.nD Cert.PostF.τ).loc Cert.PostF.main_arg0) = m ((c.tc : Thread Cert.PostF.nD Cert.PostF.τ).loc Cert.PostF.main_arg0)
      ∧ r.2.mem ((c.tc : Thread Cert.PostF.nD Cert.PostF.τ).loc Cert.PostF.main_arg1) = m ((c.tc : Thread Cert.PostF.nD Cert.PostF.τ).loc Cert.PostF.main_arg1)
      ∧ r.2.mem ((c.tc : Thread Cert.PostF.nD Cert.PostF.τ).loc Cert.PostF.main_arg2) = m ((c.tc : Thread Cert.PostF.nD Cert.PostF.τ).loc Cert.PostF.main_arg2)
      ∧ r.2.mem ((c.tc : Thread Cert.PostF.nD Cert.PostF.τ).loc Cert.PostF.main_arg3) = m ((c.tc : Thread Cert.PostF.nD Cert.PostF.τ).loc Cert.PostF.main_arg3))
      ∧ r.2.sem = fun _ => 0)

def quiescent_PostFIdeal [hPostFIdeal : Cert.PostFIdeal.Facts] : Prop :=
  ∀ (m : (ℓ : Loc Cert.PostFIdeal.nD Cert.PostFIdeal.τ Cert.PostFIdeal.sig) → Buf (Elt Ideal) ℓ) (g : Dev Cert.PostFIdeal.nD → PrngReg), Pre_PostFIdeal m →
    θ_run (Cert.PostFIdeal.defs (F := Ideal)) (onTc (τ := Cert.PostFIdeal.τ) (Cert.PostFIdeal.main (F := Ideal))) ⟨m, fun _ => 0, g⟩ (fun r => (∀ c : Dev Cert.PostFIdeal.nD,
      r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
      ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1)
      ∧ r.2.mem ((c.tc : Thread Cert.PostFIdeal.nD Cert.PostFIdeal.τ).loc Cert.PostFIdeal.main_arg2) = m ((c.tc : Thread Cert.PostFIdeal.nD Cert.PostFIdeal.τ).loc Cert.PostFIdeal.main_arg2)
      ∧ r.2.mem ((c.tc : Thread Cert.PostFIdeal.nD Cert.PostFIdeal.τ).loc Cert.PostFIdeal.main_arg3) = m ((c.tc : Thread Cert.PostFIdeal.nD Cert.PostFIdeal.τ).loc Cert.PostFIdeal.main_arg3))
      ∧ r.2.sem = fun _ => 0)

def quiescent_PostFRefIdeal [hPostFRefIdeal : Cert.PostFRefIdeal.Facts] : Prop :=
  ∀ (m : (ℓ : Loc Cert.PostFRefIdeal.nD Cert.PostFRefIdeal.τ Cert.PostFRefIdeal.sig) → Buf (Elt Ideal) ℓ) (g : Dev Cert.PostFRefIdeal.nD → PrngReg), Pre_PostFRefIdeal m →
    θ_run (Cert.PostFRefIdeal.defs (F := Ideal)) (onTc (τ := Cert.PostFRefIdeal.τ) (Cert.PostFRefIdeal.main (F := Ideal))) ⟨m, fun _ => 0, g⟩ (fun r => (∀ c : Dev Cert.PostFRefIdeal.nD,
      r.2.mem ((c.tc : Thread Cert.PostFRefIdeal.nD Cert.PostFRefIdeal.τ).loc Cert.PostFRefIdeal.main_arg0) = m ((c.tc : Thread Cert.PostFRefIdeal.nD Cert.PostFRefIdeal.τ).loc Cert.PostFRefIdeal.main_arg0)
      ∧ r.2.mem ((c.tc : Thread Cert.PostFRefIdeal.nD Cert.PostFRefIdeal.τ).loc Cert.PostFRefIdeal.main_arg1) = m ((c.tc : Thread Cert.PostFRefIdeal.nD Cert.PostFRefIdeal.τ).loc Cert.PostFRefIdeal.main_arg1)
      ∧ r.2.mem ((c.tc : Thread Cert.PostFRefIdeal.nD Cert.PostFRefIdeal.τ).loc Cert.PostFRefIdeal.main_arg2) = m ((c.tc : Thread Cert.PostFRefIdeal.nD Cert.PostFRefIdeal.τ).loc Cert.PostFRefIdeal.main_arg2)
      ∧ r.2.mem ((c.tc : Thread Cert.PostFRefIdeal.nD Cert.PostFRefIdeal.τ).loc Cert.PostFRefIdeal.main_arg3) = m ((c.tc : Thread Cert.PostFRefIdeal.nD Cert.PostFRefIdeal.τ).loc Cert.PostFRefIdeal.main_arg3))
      ∧ r.2.sem = fun _ => 0)

def quiescent_MmTN [hMmTN : Cert.MmTN.Facts] : Prop :=
  ∀ (m : (ℓ : Loc Cert.MmTN.nD Cert.MmTN.τ Cert.MmTN.sig) → Buf (Elt Bits) ℓ) (g : Dev Cert.MmTN.nD → PrngReg), Pre_MmTN m →
    θ_run (Cert.MmTN.defs (F := Bits)) (onTc (τ := Cert.MmTN.τ) (Cert.MmTN.main (F := Bits))) ⟨m, fun _ => 0, g⟩ (fun r => (∀ c : Dev Cert.MmTN.nD,
      r.2.mem ((c.tc : Thread Cert.MmTN.nD Cert.MmTN.τ).loc Cert.MmTN.main_arg0) = m ((c.tc : Thread Cert.MmTN.nD Cert.MmTN.τ).loc Cert.MmTN.main_arg0)
      ∧ r.2.mem ((c.tc : Thread Cert.MmTN.nD Cert.MmTN.τ).loc Cert.MmTN.main_arg1) = m ((c.tc : Thread Cert.MmTN.nD Cert.MmTN.τ).loc Cert.MmTN.main_arg1))
      ∧ r.2.sem = fun _ => 0)

def quiescent_MmTNIdeal [hMmTNIdeal : Cert.MmTNIdeal.Facts] : Prop :=
  ∀ (m : (ℓ : Loc Cert.MmTNIdeal.nD Cert.MmTNIdeal.τ Cert.MmTNIdeal.sig) → Buf (Elt Ideal) ℓ) (g : Dev Cert.MmTNIdeal.nD → PrngReg), Pre_MmTNIdeal m →
    θ_run (Cert.MmTNIdeal.defs (F := Ideal)) (onTc (τ := Cert.MmTNIdeal.τ) (Cert.MmTNIdeal.main (F := Ideal))) ⟨m, fun _ => 0, g⟩ (fun r => (∀ c : Dev Cert.MmTNIdeal.nD,
      r.2.mem ((c.tc : Thread Cert.MmTNIdeal.nD Cert.MmTNIdeal.τ).loc Cert.MmTNIdeal.main_arg0) = m ((c.tc : Thread Cert.MmTNIdeal.nD Cert.MmTNIdeal.τ).loc Cert.MmTNIdeal.main_arg0)
      ∧ r.2.mem ((c.tc : Thread Cert.MmTNIdeal.nD Cert.MmTNIdeal.τ).loc Cert.MmTNIdeal.main_arg1) = m ((c.tc : Thread Cert.MmTNIdeal.nD Cert.MmTNIdeal.τ).loc Cert.MmTNIdeal.main_arg1))
      ∧ r.2.sem = fun _ => 0)

def quiescent_MmTNRefIdeal [hMmTNRefIdeal : Cert.MmTNRefIdeal.Facts] : Prop :=
  ∀ (m : (ℓ : Loc Cert.MmTNRefIdeal.nD Cert.MmTNRefIdeal.τ Cert.MmTNRefIdeal.sig) → Buf (Elt Ideal) ℓ) (g : Dev Cert.MmTNRefIdeal.nD → PrngReg), Pre_MmTNRefIdeal m →
    θ_run (Cert.MmTNRefIdeal.defs (F := Ideal)) (onTc (τ := Cert.MmTNRefIdeal.τ) (Cert.MmTNRefIdeal.main (F := Ideal))) ⟨m, fun _ => 0, g⟩ (fun r => (∀ c : Dev Cert.MmTNRefIdeal.nD,
      r.2.mem ((c.tc : Thread Cert.MmTNRefIdeal.nD Cert.MmTNRefIdeal.τ).loc Cert.MmTNRefIdeal.main_arg0) = m ((c.tc : Thread Cert.MmTNRefIdeal.nD Cert.MmTNRefIdeal.τ).loc Cert.MmTNRefIdeal.main_arg0)
      ∧ r.2.mem ((c.tc : Thread Cert.MmTNRefIdeal.nD Cert.MmTNRefIdeal.τ).loc Cert.MmTNRefIdeal.main_arg1) = m ((c.tc : Thread Cert.MmTNRefIdeal.nD Cert.MmTNRefIdeal.τ).loc Cert.MmTNRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0))
      ∧ r.2.sem = fun _ => 0)

def quiescent_MmNN [hMmNN : Cert.MmNN.Facts] : Prop :=
  ∀ (m : (ℓ : Loc Cert.MmNN.nD Cert.MmNN.τ Cert.MmNN.sig) → Buf (Elt Bits) ℓ) (g : Dev Cert.MmNN.nD → PrngReg), Pre_MmNN m →
    θ_run (Cert.MmNN.defs (F := Bits)) (onTc (τ := Cert.MmNN.τ) (Cert.MmNN.main (F := Bits))) ⟨m, fun _ => 0, g⟩ (fun r => (∀ c : Dev Cert.MmNN.nD,
      r.2.mem ((c.tc : Thread Cert.MmNN.nD Cert.MmNN.τ).loc Cert.MmNN.main_arg0) = m ((c.tc : Thread Cert.MmNN.nD Cert.MmNN.τ).loc Cert.MmNN.main_arg0)
      ∧ r.2.mem ((c.tc : Thread Cert.MmNN.nD Cert.MmNN.τ).loc Cert.MmNN.main_arg1) = m ((c.tc : Thread Cert.MmNN.nD Cert.MmNN.τ).loc Cert.MmNN.main_arg1))
      ∧ r.2.sem = fun _ => 0)

def quiescent_MmNNIdeal [hMmNNIdeal : Cert.MmNNIdeal.Facts] : Prop :=
  ∀ (m : (ℓ : Loc Cert.MmNNIdeal.nD Cert.MmNNIdeal.τ Cert.MmNNIdeal.sig) → Buf (Elt Ideal) ℓ) (g : Dev Cert.MmNNIdeal.nD → PrngReg), Pre_MmNNIdeal m →
    θ_run (Cert.MmNNIdeal.defs (F := Ideal)) (onTc (τ := Cert.MmNNIdeal.τ) (Cert.MmNNIdeal.main (F := Ideal))) ⟨m, fun _ => 0, g⟩ (fun r => (∀ c : Dev Cert.MmNNIdeal.nD,
      r.2.mem ((c.tc : Thread Cert.MmNNIdeal.nD Cert.MmNNIdeal.τ).loc Cert.MmNNIdeal.main_arg0) = m ((c.tc : Thread Cert.MmNNIdeal.nD Cert.MmNNIdeal.τ).loc Cert.MmNNIdeal.main_arg0)
      ∧ r.2.mem ((c.tc : Thread Cert.MmNNIdeal.nD Cert.MmNNIdeal.τ).loc Cert.MmNNIdeal.main_arg1) = m ((c.tc : Thread Cert.MmNNIdeal.nD Cert.MmNNIdeal.τ).loc Cert.MmNNIdeal.main_arg1))
      ∧ r.2.sem = fun _ => 0)

def quiescent_MmNNRefIdeal [hMmNNRefIdeal : Cert.MmNNRefIdeal.Facts] : Prop :=
  ∀ (m : (ℓ : Loc Cert.MmNNRefIdeal.nD Cert.MmNNRefIdeal.τ Cert.MmNNRefIdeal.sig) → Buf (Elt Ideal) ℓ) (g : Dev Cert.MmNNRefIdeal.nD → PrngReg), Pre_MmNNRefIdeal m →
    θ_run (Cert.MmNNRefIdeal.defs (F := Ideal)) (onTc (τ := Cert.MmNNRefIdeal.τ) (Cert.MmNNRefIdeal.main (F := Ideal))) ⟨m, fun _ => 0, g⟩ (fun r => (∀ c : Dev Cert.MmNNRefIdeal.nD,
      r.2.mem ((c.tc : Thread Cert.MmNNRefIdeal.nD Cert.MmNNRefIdeal.τ).loc Cert.MmNNRefIdeal.main_arg0) = m ((c.tc : Thread Cert.MmNNRefIdeal.nD Cert.MmNNRefIdeal.τ).loc Cert.MmNNRefIdeal.main_arg0)
      ∧ r.2.mem ((c.tc : Thread Cert.MmNNRefIdeal.nD Cert.MmNNRefIdeal.τ).loc Cert.MmNNRefIdeal.main_arg1) = m ((c.tc : Thread Cert.MmNNRefIdeal.nD Cert.MmNNRefIdeal.τ).loc Cert.MmNNRefIdeal.main_arg1))
      ∧ r.2.sem = fun _ => 0)

def quiescent_MmNT [hMmNT : Cert.MmNT.Facts] : Prop :=
  ∀ (m : (ℓ : Loc Cert.MmNT.nD Cert.MmNT.τ Cert.MmNT.sig) → Buf (Elt Bits) ℓ) (g : Dev Cert.MmNT.nD → PrngReg), Pre_MmNT m →
    θ_run (Cert.MmNT.defs (F := Bits)) (onTc (τ := Cert.MmNT.τ) (Cert.MmNT.main (F := Bits))) ⟨m, fun _ => 0, g⟩ (fun r => (∀ c : Dev Cert.MmNT.nD,
      r.2.mem ((c.tc : Thread Cert.MmNT.nD Cert.MmNT.τ).loc Cert.MmNT.main_arg0) = m ((c.tc : Thread Cert.MmNT.nD Cert.MmNT.τ).loc Cert.MmNT.main_arg0)
      ∧ r.2.mem ((c.tc : Thread Cert.MmNT.nD Cert.MmNT.τ).loc Cert.MmNT.main_arg1) = m ((c.tc : Thread Cert.MmNT.nD Cert.MmNT.τ).loc Cert.MmNT.main_arg1))
      ∧ r.2.sem = fun _ => 0)

def quiescent_MmNTIdeal [hMmNTIdeal : Cert.MmNTIdeal.Facts] : Prop :=
  ∀ (m : (ℓ : Loc Cert.MmNTIdeal.nD Cert.MmNTIdeal.τ Cert.MmNTIdeal.sig) → Buf (Elt Ideal) ℓ) (g : Dev Cert.MmNTIdeal.nD → PrngReg), Pre_MmNTIdeal m →
    θ_run (Cert.MmNTIdeal.defs (F := Ideal)) (onTc (τ := Cert.MmNTIdeal.τ) (Cert.MmNTIdeal.main (F := Ideal))) ⟨m, fun _ => 0, g⟩ (fun r => (∀ c : Dev Cert.MmNTIdeal.nD,
      r.2.mem ((c.tc : Thread Cert.MmNTIdeal.nD Cert.MmNTIdeal.τ).loc Cert.MmNTIdeal.main_arg0) = m ((c.tc : Thread Cert.MmNTIdeal.nD Cert.MmNTIdeal.τ).loc Cert.MmNTIdeal.main_arg0)
      ∧ r.2.mem ((c.tc : Thread Cert.MmNTIdeal.nD Cert.MmNTIdeal.τ).loc Cert.MmNTIdeal.main_arg1) = m ((c.tc : Thread Cert.MmNTIdeal.nD Cert.MmNTIdeal.τ).loc Cert.MmNTIdeal.main_arg1))
      ∧ r.2.sem = fun _ => 0)

def quiescent_MmNTRefIdeal [hMmNTRefIdeal : Cert.MmNTRefIdeal.Facts] : Prop :=
  ∀ (m : (ℓ : Loc Cert.MmNTRefIdeal.nD Cert.MmNTRefIdeal.τ Cert.MmNTRefIdeal.sig) → Buf (Elt Ideal) ℓ) (g : Dev Cert.MmNTRefIdeal.nD → PrngReg), Pre_MmNTRefIdeal m →
    θ_run (Cert.MmNTRefIdeal.defs (F := Ideal)) (onTc (τ := Cert.MmNTRefIdeal.τ) (Cert.MmNTRefIdeal.main (F := Ideal))) ⟨m, fun _ => 0, g⟩ (fun r => (∀ c : Dev Cert.MmNTRefIdeal.nD,
      r.2.mem ((c.tc : Thread Cert.MmNTRefIdeal.nD Cert.MmNTRefIdeal.τ).loc Cert.MmNTRefIdeal.main_arg0) = m ((c.tc : Thread Cert.MmNTRefIdeal.nD Cert.MmNTRefIdeal.τ).loc Cert.MmNTRefIdeal.main_arg0)
      ∧ r.2.mem ((c.tc : Thread Cert.MmNTRefIdeal.nD Cert.MmNTRefIdeal.τ).loc Cert.MmNTRefIdeal.main_arg1) = m ((c.tc : Thread Cert.MmNTRefIdeal.nD Cert.MmNTRefIdeal.τ).loc Cert.MmNTRefIdeal.main_arg1))
      ∧ r.2.sem = fun _ => 0)

def quiescent_AdamL [hAdamL : Cert.AdamL.Facts] : Prop :=
  ∀ (m : (ℓ : Loc Cert.AdamL.nD Cert.AdamL.τ Cert.AdamL.sig) → Buf (Elt Bits) ℓ) (g : Dev Cert.AdamL.nD → PrngReg), Pre_AdamL m →
    θ_run (Cert.AdamL.defs (F := Bits)) (onTc (τ := Cert.AdamL.τ) (Cert.AdamL.main (F := Bits))) ⟨m, fun _ => 0, g⟩ (fun r => (∀ c : Dev Cert.AdamL.nD,
      r.2.mem ((c.tc : Thread Cert.AdamL.nD Cert.AdamL.τ).loc Cert.AdamL.main_arg0) = m ((c.tc : Thread Cert.AdamL.nD Cert.AdamL.τ).loc Cert.AdamL.main_arg0)
      ∧ r.2.mem ((c.tc : Thread Cert.AdamL.nD Cert.AdamL.τ).loc Cert.AdamL.main_arg1) = m ((c.tc : Thread Cert.AdamL.nD Cert.AdamL.τ).loc Cert.AdamL.main_arg1)
      ∧ r.2.mem ((c.tc : Thread Cert.AdamL.nD Cert.AdamL.τ).loc Cert.AdamL.main_arg2) = m ((c.tc : Thread Cert.AdamL.nD Cert.AdamL.τ).loc Cert.AdamL.main_arg2)
      ∧ r.2.mem ((c.tc : Thread Cert.AdamL.nD Cert.AdamL.τ).loc Cert.AdamL.main_arg3) = m ((c.tc : Thread Cert.AdamL.nD Cert.AdamL.τ).loc Cert.AdamL.main_arg3)
      ∧ r.2.mem ((c.tc : Thread Cert.AdamL.nD Cert.AdamL.τ).loc Cert.AdamL.main_arg4) = m ((c.tc : Thread Cert.AdamL.nD Cert.AdamL.τ).loc Cert.AdamL.main_arg4))
      ∧ r.2.sem = fun _ => 0)

def quiescent_AdamLIdeal [hAdamLIdeal : Cert.AdamLIdeal.Facts] : Prop :=
  ∀ (m : (ℓ : Loc Cert.AdamLIdeal.nD Cert.AdamLIdeal.τ Cert.AdamLIdeal.sig) → Buf (Elt Ideal) ℓ) (g : Dev Cert.AdamLIdeal.nD → PrngReg), Pre_AdamLIdeal m →
    θ_run (Cert.AdamLIdeal.defs (F := Ideal)) (onTc (τ := Cert.AdamLIdeal.τ) (Cert.AdamLIdeal.main (F := Ideal))) ⟨m, fun _ => 0, g⟩ (fun r => (∀ c : Dev Cert.AdamLIdeal.nD,
      r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
      ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
      ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
      ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3)
      ∧ r.2.mem ((c.tc : Thread Cert.AdamLIdeal.nD Cert.AdamLIdeal.τ).loc Cert.AdamLIdeal.main_arg4) = m ((c.tc : Thread Cert.AdamLIdeal.nD Cert.AdamLIdeal.τ).loc Cert.AdamLIdeal.main_arg4))
      ∧ r.2.sem = fun _ => 0)

def quiescent_AdamLRefIdeal [hAdamLRefIdeal : Cert.AdamLRefIdeal.Facts] : Prop :=
  ∀ (m : (ℓ : Loc Cert.AdamLRefIdeal.nD Cert.AdamLRefIdeal.τ Cert.AdamLRefIdeal.sig) → Buf (Elt Ideal) ℓ) (g : Dev Cert.AdamLRefIdeal.nD → PrngReg), Pre_AdamLRefIdeal m →
    θ_run (Cert.AdamLRefIdeal.defs (F := Ideal)) (onTc (τ := Cert.AdamLRefIdeal.τ) (Cert.AdamLRefIdeal.main (F := Ideal))) ⟨m, fun _ => 0, g⟩ (fun r => (∀ c : Dev Cert.AdamLRefIdeal.nD,
      r.2.mem ((c.tc : Thread Cert.AdamLRefIdeal.nD Cert.AdamLRefIdeal.τ).loc Cert.AdamLRefIdeal.main_arg0) = m ((c.tc : Thread Cert.AdamLRefIdeal.nD Cert.AdamLRefIdeal.τ).loc Cert.AdamLRefIdeal.main_arg0)
      ∧ r.2.mem ((c.tc : Thread Cert.AdamLRefIdeal.nD Cert.AdamLRefIdeal.τ).loc Cert.AdamLRefIdeal.main_arg1) = m ((c.tc : Thread Cert.AdamLRefIdeal.nD Cert.AdamLRefIdeal.τ).loc Cert.AdamLRefIdeal.main_arg1)
      ∧ r.2.mem ((c.tc : Thread Cert.AdamLRefIdeal.nD Cert.AdamLRefIdeal.τ).loc Cert.AdamLRefIdeal.main_arg2) = m ((c.tc : Thread Cert.AdamLRefIdeal.nD Cert.AdamLRefIdeal.τ).loc Cert.AdamLRefIdeal.main_arg2)
      ∧ r.2.mem ((c.tc : Thread Cert.AdamLRefIdeal.nD Cert.AdamLRefIdeal.τ).loc Cert.AdamLRefIdeal.main_arg3) = m ((c.tc : Thread Cert.AdamLRefIdeal.nD Cert.AdamLRefIdeal.τ).loc Cert.AdamLRefIdeal.main_arg3)
      ∧ r.2.mem ((c.tc : Thread Cert.AdamLRefIdeal.nD Cert.AdamLRefIdeal.τ).loc Cert.AdamLRefIdeal.main_arg4) = m ((c.tc : Thread Cert.AdamLRefIdeal.nD Cert.AdamLRefIdeal.τ).loc Cert.AdamLRefIdeal.main_arg4))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)
      ∧ m' ((c.tc : Thread Cert.Relu2RefIdeal.nD Cert.Relu2RefIdeal.τ).loc Cert.Relu2RefIdeal.main_arg3) = m ((c.tc : Thread Cert.Relu2Ideal.nD Cert.Relu2Ideal.τ).loc Cert.Relu2Ideal.main_arg3)) →
    ∃ (v0 : (c : Dev Cert.Relu2Ideal.nD) → Buf (Elt Ideal) ((c.tc : Thread Cert.Relu2Ideal.nD Cert.Relu2Ideal.τ).loc Cert.Relu2Ideal.main_v9)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v9) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2)
          ∧ r.2.mem ((c.tc : Thread Cert.Relu2Ideal.nD Cert.Relu2Ideal.τ).loc Cert.Relu2Ideal.main_arg3) = m ((c.tc : Thread Cert.Relu2Ideal.nD Cert.Relu2Ideal.τ).loc Cert.Relu2Ideal.main_arg3))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v14) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2)
          ∧ r.2.mem ((c.tc : Thread Cert.Relu2RefIdeal.nD Cert.Relu2RefIdeal.τ).loc Cert.Relu2RefIdeal.main_arg3) = m' ((c.tc : Thread Cert.Relu2RefIdeal.nD Cert.Relu2RefIdeal.τ).loc Cert.Relu2RefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v27)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v27) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v49) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_v32) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v13_0)) (v1 : (c : Dev Cert.AttnIdeal.nD) → Buf (Elt Ideal) ((c.tc : Thread Cert.AttnIdeal.nD Cert.AttnIdeal.τ).loc Cert.AttnIdeal.main_v13_1)) (v2 : (c : Dev Cert.AttnIdeal.nD) → Buf (Elt Ideal) ((c.tc : Thread Cert.AttnIdeal.nD Cert.AttnIdeal.τ).loc Cert.AttnIdeal.main_v13_2)) (v3 : (c : Dev Cert.AttnIdeal.nD) → Buf (Elt Ideal) ((c.tc : Thread Cert.AttnIdeal.nD Cert.AttnIdeal.τ).loc Cert.AttnIdeal.main_v13_3)) (v4 : (c : Dev Cert.AttnIdeal.nD) → Buf (Elt Ideal) ((c.tc : Thread Cert.AttnIdeal.nD Cert.AttnIdeal.τ).loc Cert.AttnIdeal.main_v13_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13_0) = v0 c
          ∧ r.2.mem ((c.tc : Thread Cert.AttnIdeal.nD Cert.AttnIdeal.τ).loc Cert.AttnIdeal.main_v13_1) = v1 c
          ∧ r.2.mem ((c.tc : Thread Cert.AttnIdeal.nD Cert.AttnIdeal.τ).loc Cert.AttnIdeal.main_v13_2) = v2 c
          ∧ r.2.mem ((c.tc : Thread Cert.AttnIdeal.nD Cert.AttnIdeal.τ).loc Cert.AttnIdeal.main_v13_3) = v3 c
          ∧ r.2.mem ((c.tc : Thread Cert.AttnIdeal.nD Cert.AttnIdeal.τ).loc Cert.AttnIdeal.main_v13_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v73) = v0 c
          ∧ r.2.mem ((c.tc : Thread Cert.AttnRefIdeal.nD Cert.AttnRefIdeal.τ).loc Cert.AttnRefIdeal.main_v74) = v1 c
          ∧ r.2.mem ((c.tc : Thread Cert.AttnRefIdeal.nD Cert.AttnRefIdeal.τ).loc Cert.AttnRefIdeal.main_v76) = v2 c
          ∧ r.2.mem ((c.tc : Thread Cert.AttnRefIdeal.nD Cert.AttnRefIdeal.τ).loc Cert.AttnRefIdeal.main_v78) = v3 c
          ∧ r.2.mem ((c.tc : Thread Cert.AttnRefIdeal.nD Cert.AttnRefIdeal.τ).loc Cert.AttnRefIdeal.main_v80) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v5_0)) (v1 : (c : Dev Cert.PostIdeal.nD) → Buf (Elt Ideal) ((c.tc : Thread Cert.PostIdeal.nD Cert.PostIdeal.τ).loc Cert.PostIdeal.main_v5_1)) (v2 : (c : Dev Cert.PostIdeal.nD) → Buf (Elt Ideal) ((c.tc : Thread Cert.PostIdeal.nD Cert.PostIdeal.τ).loc Cert.PostIdeal.main_v5_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v5_0) = v0 c
          ∧ r.2.mem ((c.tc : Thread Cert.PostIdeal.nD Cert.PostIdeal.τ).loc Cert.PostIdeal.main_v5_1) = v1 c
          ∧ r.2.mem ((c.tc : Thread Cert.PostIdeal.nD Cert.PostIdeal.τ).loc Cert.PostIdeal.main_v5_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v50) = v0 c
          ∧ r.2.mem ((c.tc : Thread Cert.PostRefIdeal.nD Cert.PostRefIdeal.τ).loc Cert.PostRefIdeal.main_v48) = v1 c
          ∧ r.2.mem ((c.tc : Thread Cert.PostRefIdeal.nD Cert.PostRefIdeal.τ).loc Cert.PostRefIdeal.main_v51) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Postb_PostbIdeal : Prop :=
  True

def algebraic_PostbIdeal_PostbRefIdeal [hPostbIdeal : Cert.PostbIdeal.Facts] [hPostbRefIdeal : Cert.PostbRefIdeal.Facts] : Prop :=
  ∀ (m : (ℓ : Loc Cert.PostbIdeal.nD Cert.PostbIdeal.τ Cert.PostbIdeal.sig) → Buf (Elt Ideal) ℓ) (g : Dev Cert.PostbIdeal.nD → PrngReg)
    (m' : (ℓ : Loc Cert.PostbRefIdeal.nD Cert.PostbRefIdeal.τ Cert.PostbRefIdeal.sig) → Buf (Elt Ideal) ℓ) (g' : Dev Cert.PostbRefIdeal.nD → PrngReg), Pre_PostbIdeal m →
    (∀ c : Dev Cert.PostbIdeal.nD,
      m' ((c.tc : Thread Cert.PostbRefIdeal.nD Cert.PostbRefIdeal.τ).loc Cert.PostbRefIdeal.main_arg0) = m ((c.tc : Thread Cert.PostbIdeal.nD Cert.PostbIdeal.τ).loc Cert.PostbIdeal.main_arg0)
      ∧ m' ((c.tc : Thread Cert.PostbRefIdeal.nD Cert.PostbRefIdeal.τ).loc Cert.PostbRefIdeal.main_arg1) = m ((c.tc : Thread Cert.PostbIdeal.nD Cert.PostbIdeal.τ).loc Cert.PostbIdeal.main_arg1)
      ∧ m' ((c.tc : Thread Cert.PostbRefIdeal.nD Cert.PostbRefIdeal.τ).loc Cert.PostbRefIdeal.main_arg2) = m ((c.tc : Thread Cert.PostbIdeal.nD Cert.PostbIdeal.τ).loc Cert.PostbIdeal.main_arg2)
      ∧ m' ((c.tc : Thread Cert.PostbRefIdeal.nD Cert.PostbRefIdeal.τ).loc Cert.PostbRefIdeal.main_arg3) = m ((c.tc : Thread Cert.PostbIdeal.nD Cert.PostbIdeal.τ).loc Cert.PostbIdeal.main_arg3)
      ∧ m' ((c.tc : Thread Cert.PostbRefIdeal.nD Cert.PostbRefIdeal.τ).loc Cert.PostbRefIdeal.main_arg4) = m ((c.tc : Thread Cert.PostbIdeal.nD Cert.PostbIdeal.τ).loc Cert.PostbIdeal.main_arg4)) →
    ∃ (v0 : (c : Dev Cert.PostbIdeal.nD) → Buf (Elt Ideal) ((c.tc : Thread Cert.PostbIdeal.nD Cert.PostbIdeal.τ).loc Cert.PostbIdeal.main_v5_0)) (v1 : (c : Dev Cert.PostbIdeal.nD) → Buf (Elt Ideal) ((c.tc : Thread Cert.PostbIdeal.nD Cert.PostbIdeal.τ).loc Cert.PostbIdeal.main_v5_1)) (v2 : (c : Dev Cert.PostbIdeal.nD) → Buf (Elt Ideal) ((c.tc : Thread Cert.PostbIdeal.nD Cert.PostbIdeal.τ).loc Cert.PostbIdeal.main_v5_2)) (v3 : (c : Dev Cert.PostbIdeal.nD) → Buf (Elt Ideal) ((c.tc : Thread Cert.PostbIdeal.nD Cert.PostbIdeal.τ).loc Cert.PostbIdeal.main_v5_3)),
      θ_run (Cert.PostbIdeal.defs (F := Ideal)) (onTc (τ := Cert.PostbIdeal.τ) (Cert.PostbIdeal.main (F := Ideal))) ⟨m, fun _ => 0, g⟩ (fun r => ∀ c : Dev Cert.PostbIdeal.nD,
          r.2.mem ((c.tc : Thread Cert.PostbIdeal.nD Cert.PostbIdeal.τ).loc Cert.PostbIdeal.main_v5_0) = v0 c
          ∧ r.2.mem ((c.tc : Thread Cert.PostbIdeal.nD Cert.PostbIdeal.τ).loc Cert.PostbIdeal.main_v5_1) = v1 c
          ∧ r.2.mem ((c.tc : Thread Cert.PostbIdeal.nD Cert.PostbIdeal.τ).loc Cert.PostbIdeal.main_v5_2) = v2 c
          ∧ r.2.mem ((c.tc : Thread Cert.PostbIdeal.nD Cert.PostbIdeal.τ).loc Cert.PostbIdeal.main_v5_3) = v3 c
          ∧ r.2.mem ((c.tc : Thread Cert.PostbIdeal.nD Cert.PostbIdeal.τ).loc Cert.PostbIdeal.main_arg0) = m ((c.tc : Thread Cert.PostbIdeal.nD Cert.PostbIdeal.τ).loc Cert.PostbIdeal.main_arg0)
          ∧ r.2.mem ((c.tc : Thread Cert.PostbIdeal.nD Cert.PostbIdeal.τ).loc Cert.PostbIdeal.main_arg1) = m ((c.tc : Thread Cert.PostbIdeal.nD Cert.PostbIdeal.τ).loc Cert.PostbIdeal.main_arg1)
          ∧ r.2.mem ((c.tc : Thread Cert.PostbIdeal.nD Cert.PostbIdeal.τ).loc Cert.PostbIdeal.main_arg2) = m ((c.tc : Thread Cert.PostbIdeal.nD Cert.PostbIdeal.τ).loc Cert.PostbIdeal.main_arg2)
          ∧ r.2.mem ((c.tc : Thread Cert.PostbIdeal.nD Cert.PostbIdeal.τ).loc Cert.PostbIdeal.main_arg3) = m ((c.tc : Thread Cert.PostbIdeal.nD Cert.PostbIdeal.τ).loc Cert.PostbIdeal.main_arg3)
          ∧ r.2.mem ((c.tc : Thread Cert.PostbIdeal.nD Cert.PostbIdeal.τ).loc Cert.PostbIdeal.main_arg4) = m ((c.tc : Thread Cert.PostbIdeal.nD Cert.PostbIdeal.τ).loc Cert.PostbIdeal.main_arg4))
      ∧ θ_run (Cert.PostbRefIdeal.defs (F := Ideal)) (onTc (τ := Cert.PostbRefIdeal.τ) (Cert.PostbRefIdeal.main (F := Ideal))) ⟨m', fun _ => 0, g'⟩ (fun r => ∀ c : Dev Cert.PostbRefIdeal.nD,
          r.2.mem ((c.tc : Thread Cert.PostbRefIdeal.nD Cert.PostbRefIdeal.τ).loc Cert.PostbRefIdeal.main_v57) = v0 c
          ∧ r.2.mem ((c.tc : Thread Cert.PostbRefIdeal.nD Cert.PostbRefIdeal.τ).loc Cert.PostbRefIdeal.main_v58) = v1 c
          ∧ r.2.mem ((c.tc : Thread Cert.PostbRefIdeal.nD Cert.PostbRefIdeal.τ).loc Cert.PostbRefIdeal.main_v55) = v2 c
          ∧ r.2.mem ((c.tc : Thread Cert.PostbRefIdeal.nD Cert.PostbRefIdeal.τ).loc Cert.PostbRefIdeal.main_v59) = v3 c
          ∧ r.2.mem ((c.tc : Thread Cert.PostbRefIdeal.nD Cert.PostbRefIdeal.τ).loc Cert.PostbRefIdeal.main_arg0) = m' ((c.tc : Thread Cert.PostbRefIdeal.nD Cert.PostbRefIdeal.τ).loc Cert.PostbRefIdeal.main_arg0)
          ∧ r.2.mem ((c.tc : Thread Cert.PostbRefIdeal.nD Cert.PostbRefIdeal.τ).loc Cert.PostbRefIdeal.main_arg1) = m' ((c.tc : Thread Cert.PostbRefIdeal.nD Cert.PostbRefIdeal.τ).loc Cert.PostbRefIdeal.main_arg1)
          ∧ r.2.mem ((c.tc : Thread Cert.PostbRefIdeal.nD Cert.PostbRefIdeal.τ).loc Cert.PostbRefIdeal.main_arg2) = m' ((c.tc : Thread Cert.PostbRefIdeal.nD Cert.PostbRefIdeal.τ).loc Cert.PostbRefIdeal.main_arg2)
          ∧ r.2.mem ((c.tc : Thread Cert.PostbRefIdeal.nD Cert.PostbRefIdeal.τ).loc Cert.PostbRefIdeal.main_arg3) = m' ((c.tc : Thread Cert.PostbRefIdeal.nD Cert.PostbRefIdeal.τ).loc Cert.PostbRefIdeal.main_arg3)
          ∧ r.2.mem ((c.tc : Thread Cert.PostbRefIdeal.nD Cert.PostbRefIdeal.τ).loc Cert.PostbRefIdeal.main_arg4) = m' ((c.tc : Thread Cert.PostbRefIdeal.nD Cert.PostbRefIdeal.τ).loc Cert.PostbRefIdeal.main_arg4))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)) →
    ∃ (v0 : (c : Dev Cert.PreIdeal.nD) → Buf (Elt Ideal) ((c.tc : Thread Cert.PreIdeal.nD Cert.PreIdeal.τ).loc Cert.PreIdeal.main_v6_0)) (v1 : (c : Dev Cert.PreIdeal.nD) → Buf (Elt Ideal) ((c.tc : Thread Cert.PreIdeal.nD Cert.PreIdeal.τ).loc Cert.PreIdeal.main_v6_1)) (v2 : (c : Dev Cert.PreIdeal.nD) → Buf (Elt Ideal) ((c.tc : Thread Cert.PreIdeal.nD Cert.PreIdeal.τ).loc Cert.PreIdeal.main_v6_2)) (v3 : (c : Dev Cert.PreIdeal.nD) → Buf (Elt Ideal) ((c.tc : Thread Cert.PreIdeal.nD Cert.PreIdeal.τ).loc Cert.PreIdeal.main_v6_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v6_0) = v0 c
          ∧ r.2.mem ((c.tc : Thread Cert.PreIdeal.nD Cert.PreIdeal.τ).loc Cert.PreIdeal.main_v6_1) = v1 c
          ∧ r.2.mem ((c.tc : Thread Cert.PreIdeal.nD Cert.PreIdeal.τ).loc Cert.PreIdeal.main_v6_2) = v2 c
          ∧ r.2.mem ((c.tc : Thread Cert.PreIdeal.nD Cert.PreIdeal.τ).loc Cert.PreIdeal.main_v6_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v60) = v0 c
          ∧ r.2.mem ((c.tc : Thread Cert.PreRefIdeal.nD Cert.PreRefIdeal.τ).loc Cert.PreRefIdeal.main_v61) = v1 c
          ∧ r.2.mem ((c.tc : Thread Cert.PreRefIdeal.nD Cert.PreRefIdeal.τ).loc Cert.PreRefIdeal.main_v30) = v2 c
          ∧ r.2.mem ((c.tc : Thread Cert.PreRefIdeal.nD Cert.PreRefIdeal.τ).loc Cert.PreRefIdeal.main_v37) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5))

def preserves_Twin_TwinIdeal : Prop :=
  True

def algebraic_TwinIdeal_TwinRefIdeal [hTwinIdeal : Cert.TwinIdeal.Facts] [hTwinRefIdeal : Cert.TwinRefIdeal.Facts] : Prop :=
  ∀ (m : (ℓ : Loc Cert.TwinIdeal.nD Cert.TwinIdeal.τ Cert.TwinIdeal.sig) → Buf (Elt Ideal) ℓ) (g : Dev Cert.TwinIdeal.nD → PrngReg)
    (m' : (ℓ : Loc Cert.TwinRefIdeal.nD Cert.TwinRefIdeal.τ Cert.TwinRefIdeal.sig) → Buf (Elt Ideal) ℓ) (g' : Dev Cert.TwinRefIdeal.nD → PrngReg), Pre_TwinIdeal m →
    (∀ c : Dev Cert.TwinIdeal.nD,
      m' ((c.tc : Thread Cert.TwinRefIdeal.nD Cert.TwinRefIdeal.τ).loc Cert.TwinRefIdeal.main_arg0) = m ((c.tc : Thread Cert.TwinIdeal.nD Cert.TwinIdeal.τ).loc Cert.TwinIdeal.main_arg0)
      ∧ m' ((c.tc : Thread Cert.TwinRefIdeal.nD Cert.TwinRefIdeal.τ).loc Cert.TwinRefIdeal.main_arg1) = m ((c.tc : Thread Cert.TwinIdeal.nD Cert.TwinIdeal.τ).loc Cert.TwinIdeal.main_arg1)
      ∧ m' ((c.tc : Thread Cert.TwinRefIdeal.nD Cert.TwinRefIdeal.τ).loc Cert.TwinRefIdeal.main_arg2) = m ((c.tc : Thread Cert.TwinIdeal.nD Cert.TwinIdeal.τ).loc Cert.TwinIdeal.main_arg2)
      ∧ m' ((c.tc : Thread Cert.TwinRefIdeal.nD Cert.TwinRefIdeal.τ).loc Cert.TwinRefIdeal.main_arg3) = m ((c.tc : Thread Cert.TwinIdeal.nD Cert.TwinIdeal.τ).loc Cert.TwinIdeal.main_arg3)
      ∧ m' ((c.tc : Thread Cert.TwinRefIdeal.nD Cert.TwinRefIdeal.τ).loc Cert.TwinRefIdeal.main_arg4) = m ((c.tc : Thread Cert.TwinIdeal.nD Cert.TwinIdeal.τ).loc Cert.TwinIdeal.main_arg4)
      ∧ m' ((c.tc : Thread Cert.TwinRefIdeal.nD Cert.TwinRefIdeal.τ).loc Cert.TwinRefIdeal.main_arg5) = m ((c.tc : Thread Cert.TwinIdeal.nD Cert.TwinIdeal.τ).loc Cert.TwinIdeal.main_arg5)
      ∧ m' ((c.tc : Thread Cert.TwinRefIdeal.nD Cert.TwinRefIdeal.τ).loc Cert.TwinRefIdeal.main_arg6) = m ((c.tc : Thread Cert.TwinIdeal.nD Cert.TwinIdeal.τ).loc Cert.TwinIdeal.main_arg6)
      ∧ m' ((c.tc : Thread Cert.TwinRefIdeal.nD Cert.TwinRefIdeal.τ).loc Cert.TwinRefIdeal.main_arg7) = m ((c.tc : Thread Cert.TwinIdeal.nD Cert.TwinIdeal.τ).loc Cert.TwinIdeal.main_arg7)
      ∧ m' ((c.tc : Thread Cert.TwinRefIdeal.nD Cert.TwinRefIdeal.τ).loc Cert.TwinRefIdeal.main_arg8) = m ((c.tc : Thread Cert.TwinIdeal.nD Cert.TwinIdeal.τ).loc Cert.TwinIdeal.main_arg8)
      ∧ m' ((c.tc : Thread Cert.TwinRefIdeal.nD Cert.TwinRefIdeal.τ).loc Cert.TwinRefIdeal.main_arg9) = m ((c.tc : Thread Cert.TwinIdeal.nD Cert.TwinIdeal.τ).loc Cert.TwinIdeal.main_arg9)) →
    ∃ (v0 : (c : Dev Cert.TwinIdeal.nD) → Buf (Elt Ideal) ((c.tc : Thread Cert.TwinIdeal.nD Cert.TwinIdeal.τ).loc Cert.TwinIdeal.main_v8_0)) (v1 : (c : Dev Cert.TwinIdeal.nD) → Buf (Elt Ideal) ((c.tc : Thread Cert.TwinIdeal.nD Cert.TwinIdeal.τ).loc Cert.TwinIdeal.main_v8_1)) (v2 : (c : Dev Cert.TwinIdeal.nD) → Buf (Elt Ideal) ((c.tc : Thread Cert.TwinIdeal.nD Cert.TwinIdeal.τ).loc Cert.TwinIdeal.main_v8_2)) (v3 : (c : Dev Cert.TwinIdeal.nD) → Buf (Elt Ideal) ((c.tc : Thread Cert.TwinIdeal.nD Cert.TwinIdeal.τ).loc Cert.TwinIdeal.main_v8_3)) (v4 : (c : Dev Cert.TwinIdeal.nD) → Buf (Elt Ideal) ((c.tc : Thread Cert.TwinIdeal.nD Cert.TwinIdeal.τ).loc Cert.TwinIdeal.main_v8_4)) (v5 : (c : Dev Cert.TwinIdeal.nD) → Buf (Elt Ideal) ((c.tc : Thread Cert.TwinIdeal.nD Cert.TwinIdeal.τ).loc Cert.TwinIdeal.main_v8_5)) (v6 : (c : Dev Cert.TwinIdeal.nD) → Buf (Elt Ideal) ((c.tc : Thread Cert.TwinIdeal.nD Cert.TwinIdeal.τ).loc Cert.TwinIdeal.main_v8_6)),
      θ_run (Cert.TwinIdeal.defs (F := Ideal)) (onTc (τ := Cert.TwinIdeal.τ) (Cert.TwinIdeal.main (F := Ideal))) ⟨m, fun _ => 0, g⟩ (fun r => ∀ c : Dev Cert.TwinIdeal.nD,
          r.2.mem ((c.tc : Thread Cert.TwinIdeal.nD Cert.TwinIdeal.τ).loc Cert.TwinIdeal.main_v8_0) = v0 c
          ∧ r.2.mem ((c.tc : Thread Cert.TwinIdeal.nD Cert.TwinIdeal.τ).loc Cert.TwinIdeal.main_v8_1) = v1 c
          ∧ r.2.mem ((c.tc : Thread Cert.TwinIdeal.nD Cert.TwinIdeal.τ).loc Cert.TwinIdeal.main_v8_2) = v2 c
          ∧ r.2.mem ((c.tc : Thread Cert.TwinIdeal.nD Cert.TwinIdeal.τ).loc Cert.TwinIdeal.main_v8_3) = v3 c
          ∧ r.2.mem ((c.tc : Thread Cert.TwinIdeal.nD Cert.TwinIdeal.τ).loc Cert.TwinIdeal.main_v8_4) = v4 c
          ∧ r.2.mem ((c.tc : Thread Cert.TwinIdeal.nD Cert.TwinIdeal.τ).loc Cert.TwinIdeal.main_v8_5) = v5 c
          ∧ r.2.mem ((c.tc : Thread Cert.TwinIdeal.nD Cert.TwinIdeal.τ).loc Cert.TwinIdeal.main_v8_6) = v6 c
          ∧ r.2.mem ((c.tc : Thread Cert.TwinIdeal.nD Cert.TwinIdeal.τ).loc Cert.TwinIdeal.main_arg0) = m ((c.tc : Thread Cert.TwinIdeal.nD Cert.TwinIdeal.τ).loc Cert.TwinIdeal.main_arg0)
          ∧ r.2.mem ((c.tc : Thread Cert.TwinIdeal.nD Cert.TwinIdeal.τ).loc Cert.TwinIdeal.main_arg1) = m ((c.tc : Thread Cert.TwinIdeal.nD Cert.TwinIdeal.τ).loc Cert.TwinIdeal.main_arg1)
          ∧ r.2.mem ((c.tc : Thread Cert.TwinIdeal.nD Cert.TwinIdeal.τ).loc Cert.TwinIdeal.main_arg2) = m ((c.tc : Thread Cert.TwinIdeal.nD Cert.TwinIdeal.τ).loc Cert.TwinIdeal.main_arg2)
          ∧ r.2.mem ((c.tc : Thread Cert.TwinIdeal.nD Cert.TwinIdeal.τ).loc Cert.TwinIdeal.main_arg3) = m ((c.tc : Thread Cert.TwinIdeal.nD Cert.TwinIdeal.τ).loc Cert.TwinIdeal.main_arg3)
          ∧ r.2.mem ((c.tc : Thread Cert.TwinIdeal.nD Cert.TwinIdeal.τ).loc Cert.TwinIdeal.main_arg4) = m ((c.tc : Thread Cert.TwinIdeal.nD Cert.TwinIdeal.τ).loc Cert.TwinIdeal.main_arg4)
          ∧ r.2.mem ((c.tc : Thread Cert.TwinIdeal.nD Cert.TwinIdeal.τ).loc Cert.TwinIdeal.main_arg5) = m ((c.tc : Thread Cert.TwinIdeal.nD Cert.TwinIdeal.τ).loc Cert.TwinIdeal.main_arg5)
          ∧ r.2.mem ((c.tc : Thread Cert.TwinIdeal.nD Cert.TwinIdeal.τ).loc Cert.TwinIdeal.main_arg6) = m ((c.tc : Thread Cert.TwinIdeal.nD Cert.TwinIdeal.τ).loc Cert.TwinIdeal.main_arg6)
          ∧ r.2.mem ((c.tc : Thread Cert.TwinIdeal.nD Cert.TwinIdeal.τ).loc Cert.TwinIdeal.main_arg7) = m ((c.tc : Thread Cert.TwinIdeal.nD Cert.TwinIdeal.τ).loc Cert.TwinIdeal.main_arg7)
          ∧ r.2.mem ((c.tc : Thread Cert.TwinIdeal.nD Cert.TwinIdeal.τ).loc Cert.TwinIdeal.main_arg8) = m ((c.tc : Thread Cert.TwinIdeal.nD Cert.TwinIdeal.τ).loc Cert.TwinIdeal.main_arg8)
          ∧ r.2.mem ((c.tc : Thread Cert.TwinIdeal.nD Cert.TwinIdeal.τ).loc Cert.TwinIdeal.main_arg9) = m ((c.tc : Thread Cert.TwinIdeal.nD Cert.TwinIdeal.τ).loc Cert.TwinIdeal.main_arg9))
      ∧ θ_run (Cert.TwinRefIdeal.defs (F := Ideal)) (onTc (τ := Cert.TwinRefIdeal.τ) (Cert.TwinRefIdeal.main (F := Ideal))) ⟨m', fun _ => 0, g'⟩ (fun r => ∀ c : Dev Cert.TwinRefIdeal.nD,
          r.2.mem ((c.tc : Thread Cert.TwinRefIdeal.nD Cert.TwinRefIdeal.τ).loc Cert.TwinRefIdeal.main_v118) = v0 c
          ∧ r.2.mem ((c.tc : Thread Cert.TwinRefIdeal.nD Cert.TwinRefIdeal.τ).loc Cert.TwinRefIdeal.main_v119) = v1 c
          ∧ r.2.mem ((c.tc : Thread Cert.TwinRefIdeal.nD Cert.TwinRefIdeal.τ).loc Cert.TwinRefIdeal.main_v88) = v2 c
          ∧ r.2.mem ((c.tc : Thread Cert.TwinRefIdeal.nD Cert.TwinRefIdeal.τ).loc Cert.TwinRefIdeal.main_v95) = v3 c
          ∧ r.2.mem ((c.tc : Thread Cert.TwinRefIdeal.nD Cert.TwinRefIdeal.τ).loc Cert.TwinRefIdeal.main_v120) = v4 c
          ∧ r.2.mem ((c.tc : Thread Cert.TwinRefIdeal.nD Cert.TwinRefIdeal.τ).loc Cert.TwinRefIdeal.main_v54) = v5 c
          ∧ r.2.mem ((c.tc : Thread Cert.TwinRefIdeal.nD Cert.TwinRefIdeal.τ).loc Cert.TwinRefIdeal.main_v61) = v6 c
          ∧ r.2.mem ((c.tc : Thread Cert.TwinRefIdeal.nD Cert.TwinRefIdeal.τ).loc Cert.TwinRefIdeal.main_arg0) = m' ((c.tc : Thread Cert.TwinRefIdeal.nD Cert.TwinRefIdeal.τ).loc Cert.TwinRefIdeal.main_arg0)
          ∧ r.2.mem ((c.tc : Thread Cert.TwinRefIdeal.nD Cert.TwinRefIdeal.τ).loc Cert.TwinRefIdeal.main_arg1) = m' ((c.tc : Thread Cert.TwinRefIdeal.nD Cert.TwinRefIdeal.τ).loc Cert.TwinRefIdeal.main_arg1)
          ∧ r.2.mem ((c.tc : Thread Cert.TwinRefIdeal.nD Cert.TwinRefIdeal.τ).loc Cert.TwinRefIdeal.main_arg2) = m' ((c.tc : Thread Cert.TwinRefIdeal.nD Cert.TwinRefIdeal.τ).loc Cert.TwinRefIdeal.main_arg2)
          ∧ r.2.mem ((c.tc : Thread Cert.TwinRefIdeal.nD Cert.TwinRefIdeal.τ).loc Cert.TwinRefIdeal.main_arg3) = m' ((c.tc : Thread Cert.TwinRefIdeal.nD Cert.TwinRefIdeal.τ).loc Cert.TwinRefIdeal.main_arg3)
          ∧ r.2.mem ((c.tc : Thread Cert.TwinRefIdeal.nD Cert.TwinRefIdeal.τ).loc Cert.TwinRefIdeal.main_arg4) = m' ((c.tc : Thread Cert.TwinRefIdeal.nD Cert.TwinRefIdeal.τ).loc Cert.TwinRefIdeal.main_arg4)
          ∧ r.2.mem ((c.tc : Thread Cert.TwinRefIdeal.nD Cert.TwinRefIdeal.τ).loc Cert.TwinRefIdeal.main_arg5) = m' ((c.tc : Thread Cert.TwinRefIdeal.nD Cert.TwinRefIdeal.τ).loc Cert.TwinRefIdeal.main_arg5)
          ∧ r.2.mem ((c.tc : Thread Cert.TwinRefIdeal.nD Cert.TwinRefIdeal.τ).loc Cert.TwinRefIdeal.main_arg6) = m' ((c.tc : Thread Cert.TwinRefIdeal.nD Cert.TwinRefIdeal.τ).loc Cert.TwinRefIdeal.main_arg6)
          ∧ r.2.mem ((c.tc : Thread Cert.TwinRefIdeal.nD Cert.TwinRefIdeal.τ).loc Cert.TwinRefIdeal.main_arg7) = m' ((c.tc : Thread Cert.TwinRefIdeal.nD Cert.TwinRefIdeal.τ).loc Cert.TwinRefIdeal.main_arg7)
          ∧ r.2.mem ((c.tc : Thread Cert.TwinRefIdeal.nD Cert.TwinRefIdeal.τ).loc Cert.TwinRefIdeal.main_arg8) = m' ((c.tc : Thread Cert.TwinRefIdeal.nD Cert.TwinRefIdeal.τ).loc Cert.TwinRefIdeal.main_arg8)
          ∧ r.2.mem ((c.tc : Thread Cert.TwinRefIdeal.nD Cert.TwinRefIdeal.τ).loc Cert.TwinRefIdeal.main_arg9) = m' ((c.tc : Thread Cert.TwinRefIdeal.nD Cert.TwinRefIdeal.τ).loc Cert.TwinRefIdeal.main_arg9))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)) (v2 : (c : Dev Cert.LnIdeal.nD) → Buf (Elt Ideal) ((c.tc : Thread Cert.LnIdeal.nD Cert.LnIdeal.τ).loc Cert.LnIdeal.main_v2_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_v2_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v68) = v0 c
          ∧ r.2.mem ((c.tc : Thread Cert.LnRefIdeal.nD Cert.LnRefIdeal.τ).loc Cert.LnRefIdeal.main_v69) = v1 c
          ∧ r.2.mem ((c.tc : Thread Cert.LnRefIdeal.nD Cert.LnRefIdeal.τ).loc Cert.LnRefIdeal.main_v70) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v2_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v2_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_v11) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)) →
    ∃ (v0 : (c : Dev Cert.LatIdeal.nD) → Buf (Elt Ideal) ((c.tc : Thread Cert.LatIdeal.nD Cert.LatIdeal.τ).loc Cert.LatIdeal.main_v36_0)) (v1 : (c : Dev Cert.LatIdeal.nD) → Buf (Elt Ideal) ((c.tc : Thread Cert.LatIdeal.nD Cert.LatIdeal.τ).loc Cert.LatIdeal.main_v36_1)) (v2 : (c : Dev Cert.LatIdeal.nD) → Buf (Elt Ideal) ((c.tc : Thread Cert.LatIdeal.nD Cert.LatIdeal.τ).loc Cert.LatIdeal.main_v36_2)) (v3 : (c : Dev Cert.LatIdeal.nD) → Buf (Elt Ideal) ((c.tc : Thread Cert.LatIdeal.nD Cert.LatIdeal.τ).loc Cert.LatIdeal.main_v36_3)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v36_0) = v0 c
          ∧ r.2.mem ((c.tc : Thread Cert.LatIdeal.nD Cert.LatIdeal.τ).loc Cert.LatIdeal.main_v36_1) = v1 c
          ∧ r.2.mem ((c.tc : Thread Cert.LatIdeal.nD Cert.LatIdeal.τ).loc Cert.LatIdeal.main_v36_2) = v2 c
          ∧ r.2.mem ((c.tc : Thread Cert.LatIdeal.nD Cert.LatIdeal.τ).loc Cert.LatIdeal.main_v36_3) = v3 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v117) = v0 c
          ∧ r.2.mem ((c.tc : Thread Cert.LatRefIdeal.nD Cert.LatRefIdeal.τ).loc Cert.LatRefIdeal.main_v119) = v1 c
          ∧ r.2.mem ((c.tc : Thread Cert.LatRefIdeal.nD Cert.LatRefIdeal.τ).loc Cert.LatRefIdeal.main_v120) = v2 c
          ∧ r.2.mem ((c.tc : Thread Cert.LatRefIdeal.nD Cert.LatRefIdeal.τ).loc Cert.LatRefIdeal.main_v121) = v3 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8))

def preserves_AttnF_AttnFIdeal : Prop :=
  IdealRules.named_const.Statement Cert.AttnFIdeal.κ "mask" .f32 0xF149F2CA#32 ⊥

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)) →
    ∃ (v0 : (c : Dev Cert.AttnFIdeal.nD) → Buf (Elt Ideal) ((c.tc : Thread Cert.AttnFIdeal.nD Cert.AttnFIdeal.τ).loc Cert.AttnFIdeal.main_v11)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v11) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v29) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4))

def preserves_PreF_PreFIdeal : Prop :=
  True

def algebraic_PreFIdeal_PreFRefIdeal [hPreFIdeal : Cert.PreFIdeal.Facts] [hPreFRefIdeal : Cert.PreFRefIdeal.Facts] : Prop :=
  ∀ (m : (ℓ : Loc Cert.PreFIdeal.nD Cert.PreFIdeal.τ Cert.PreFIdeal.sig) → Buf (Elt Ideal) ℓ) (g : Dev Cert.PreFIdeal.nD → PrngReg)
    (m' : (ℓ : Loc Cert.PreFRefIdeal.nD Cert.PreFRefIdeal.τ Cert.PreFRefIdeal.sig) → Buf (Elt Ideal) ℓ) (g' : Dev Cert.PreFRefIdeal.nD → PrngReg), Pre_PreFIdeal m →
    (∀ c : Dev Cert.PreFIdeal.nD,
      m' ((c.tc : Thread Cert.PreFRefIdeal.nD Cert.PreFRefIdeal.τ).loc Cert.PreFRefIdeal.main_arg0) = m ((c.tc : Thread Cert.PreFIdeal.nD Cert.PreFIdeal.τ).loc Cert.PreFIdeal.main_arg0)
      ∧ m' ((c.tc : Thread Cert.PreFRefIdeal.nD Cert.PreFRefIdeal.τ).loc Cert.PreFRefIdeal.main_arg1) = m ((c.tc : Thread Cert.PreFIdeal.nD Cert.PreFIdeal.τ).loc Cert.PreFIdeal.main_arg1)
      ∧ m' ((c.tc : Thread Cert.PreFRefIdeal.nD Cert.PreFRefIdeal.τ).loc Cert.PreFRefIdeal.main_arg2) = m ((c.tc : Thread Cert.PreFIdeal.nD Cert.PreFIdeal.τ).loc Cert.PreFIdeal.main_arg2)
      ∧ m' ((c.tc : Thread Cert.PreFRefIdeal.nD Cert.PreFRefIdeal.τ).loc Cert.PreFRefIdeal.main_arg3) = m ((c.tc : Thread Cert.PreFIdeal.nD Cert.PreFIdeal.τ).loc Cert.PreFIdeal.main_arg3)) →
    ∃ (v0 : (c : Dev Cert.PreFIdeal.nD) → Buf (Elt Ideal) ((c.tc : Thread Cert.PreFIdeal.nD Cert.PreFIdeal.τ).loc Cert.PreFIdeal.main_v4)),
      θ_run (Cert.PreFIdeal.defs (F := Ideal)) (onTc (τ := Cert.PreFIdeal.τ) (Cert.PreFIdeal.main (F := Ideal))) ⟨m, fun _ => 0, g⟩ (fun r => ∀ c : Dev Cert.PreFIdeal.nD,
          r.2.mem ((c.tc : Thread Cert.PreFIdeal.nD Cert.PreFIdeal.τ).loc Cert.PreFIdeal.main_v4) = v0 c
          ∧ r.2.mem ((c.tc : Thread Cert.PreFIdeal.nD Cert.PreFIdeal.τ).loc Cert.PreFIdeal.main_arg0) = m ((c.tc : Thread Cert.PreFIdeal.nD Cert.PreFIdeal.τ).loc Cert.PreFIdeal.main_arg0)
          ∧ r.2.mem ((c.tc : Thread Cert.PreFIdeal.nD Cert.PreFIdeal.τ).loc Cert.PreFIdeal.main_arg1) = m ((c.tc : Thread Cert.PreFIdeal.nD Cert.PreFIdeal.τ).loc Cert.PreFIdeal.main_arg1)
          ∧ r.2.mem ((c.tc : Thread Cert.PreFIdeal.nD Cert.PreFIdeal.τ).loc Cert.PreFIdeal.main_arg2) = m ((c.tc : Thread Cert.PreFIdeal.nD Cert.PreFIdeal.τ).loc Cert.PreFIdeal.main_arg2)
          ∧ r.2.mem ((c.tc : Thread Cert.PreFIdeal.nD Cert.PreFIdeal.τ).loc Cert.PreFIdeal.main_arg3) = m ((c.tc : Thread Cert.PreFIdeal.nD Cert.PreFIdeal.τ).loc Cert.PreFIdeal.main_arg3))
      ∧ θ_run (Cert.PreFRefIdeal.defs (F := Ideal)) (onTc (τ := Cert.PreFRefIdeal.τ) (Cert.PreFRefIdeal.main (F := Ideal))) ⟨m', fun _ => 0, g'⟩ (fun r => ∀ c : Dev Cert.PreFRefIdeal.nD,
          r.2.mem ((c.tc : Thread Cert.PreFRefIdeal.nD Cert.PreFRefIdeal.τ).loc Cert.PreFRefIdeal.main_v24) = v0 c
          ∧ r.2.mem ((c.tc : Thread Cert.PreFRefIdeal.nD Cert.PreFRefIdeal.τ).loc Cert.PreFRefIdeal.main_arg0) = m' ((c.tc : Thread Cert.PreFRefIdeal.nD Cert.PreFRefIdeal.τ).loc Cert.PreFRefIdeal.main_arg0)
          ∧ r.2.mem ((c.tc : Thread Cert.PreFRefIdeal.nD Cert.PreFRefIdeal.τ).loc Cert.PreFRefIdeal.main_arg1) = m' ((c.tc : Thread Cert.PreFRefIdeal.nD Cert.PreFRefIdeal.τ).loc Cert.PreFRefIdeal.main_arg1)
          ∧ r.2.mem ((c.tc : Thread Cert.PreFRefIdeal.nD Cert.PreFRefIdeal.τ).loc Cert.PreFRefIdeal.main_arg2) = m' ((c.tc : Thread Cert.PreFRefIdeal.nD Cert.PreFRefIdeal.τ).loc Cert.PreFRefIdeal.main_arg2)
          ∧ r.2.mem ((c.tc : Thread Cert.PreFRefIdeal.nD Cert.PreFRefIdeal.τ).loc Cert.PreFRefIdeal.main_arg3) = m' ((c.tc : Thread Cert.PreFRefIdeal.nD Cert.PreFRefIdeal.τ).loc Cert.PreFRefIdeal.main_arg3))

def preserves_GluF_GluFIdeal : Prop :=
  True

def algebraic_GluFIdeal_GluFRefIdeal [hGluFIdeal : Cert.GluFIdeal.Facts] [hGluFRefIdeal : Cert.GluFRefIdeal.Facts] : Prop :=
  ∀ (m : (ℓ : Loc Cert.GluFIdeal.nD Cert.GluFIdeal.τ Cert.GluFIdeal.sig) → Buf (Elt Ideal) ℓ) (g : Dev Cert.GluFIdeal.nD → PrngReg)
    (m' : (ℓ : Loc Cert.GluFRefIdeal.nD Cert.GluFRefIdeal.τ Cert.GluFRefIdeal.sig) → Buf (Elt Ideal) ℓ) (g' : Dev Cert.GluFRefIdeal.nD → PrngReg), Pre_GluFIdeal m →
    (∀ c : Dev Cert.GluFIdeal.nD,
      m' ((c.tc : Thread Cert.GluFRefIdeal.nD Cert.GluFRefIdeal.τ).loc Cert.GluFRefIdeal.main_arg0) = m ((c.tc : Thread Cert.GluFIdeal.nD Cert.GluFIdeal.τ).loc Cert.GluFIdeal.main_arg0)
      ∧ m' ((c.tc : Thread Cert.GluFRefIdeal.nD Cert.GluFRefIdeal.τ).loc Cert.GluFRefIdeal.main_arg1) = m ((c.tc : Thread Cert.GluFIdeal.nD Cert.GluFIdeal.τ).loc Cert.GluFIdeal.main_arg1)) →
    ∃ (v0 : (c : Dev Cert.GluFIdeal.nD) → Buf (Elt Ideal) ((c.tc : Thread Cert.GluFIdeal.nD Cert.GluFIdeal.τ).loc Cert.GluFIdeal.main_v1)),
      θ_run (Cert.GluFIdeal.defs (F := Ideal)) (onTc (τ := Cert.GluFIdeal.τ) (Cert.GluFIdeal.main (F := Ideal))) ⟨m, fun _ => 0, g⟩ (fun r => ∀ c : Dev Cert.GluFIdeal.nD,
          r.2.mem ((c.tc : Thread Cert.GluFIdeal.nD Cert.GluFIdeal.τ).loc Cert.GluFIdeal.main_v1) = v0 c
          ∧ r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
          ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1))
      ∧ θ_run (Cert.GluFRefIdeal.defs (F := Ideal)) (onTc (τ := Cert.GluFRefIdeal.τ) (Cert.GluFRefIdeal.main (F := Ideal))) ⟨m', fun _ => 0, g'⟩ (fun r => ∀ c : Dev Cert.GluFRefIdeal.nD,
          r.2.mem ((c.tc : Thread Cert.GluFRefIdeal.nD Cert.GluFRefIdeal.τ).loc Cert.GluFRefIdeal.main_v5) = v0 c
          ∧ r.2.mem ((c.tc : Thread Cert.GluFRefIdeal.nD Cert.GluFRefIdeal.τ).loc Cert.GluFRefIdeal.main_arg0) = m' ((c.tc : Thread Cert.GluFRefIdeal.nD Cert.GluFRefIdeal.τ).loc Cert.GluFRefIdeal.main_arg0)
          ∧ r.2.mem ((c.tc : Thread Cert.GluFRefIdeal.nD Cert.GluFRefIdeal.τ).loc Cert.GluFRefIdeal.main_arg1) = m' ((c.tc : Thread Cert.GluFRefIdeal.nD Cert.GluFRefIdeal.τ).loc Cert.GluFRefIdeal.main_arg1))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v1)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v1) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v17) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_LnF_LnFIdeal : Prop :=
  True

def algebraic_LnFIdeal_LnFRefIdeal [hLnFIdeal : Cert.LnFIdeal.Facts] [hLnFRefIdeal : Cert.LnFRefIdeal.Facts] : Prop :=
  ∀ (m : (ℓ : Loc Cert.LnFIdeal.nD Cert.LnFIdeal.τ Cert.LnFIdeal.sig) → Buf (Elt Ideal) ℓ) (g : Dev Cert.LnFIdeal.nD → PrngReg)
    (m' : (ℓ : Loc Cert.LnFRefIdeal.nD Cert.LnFRefIdeal.τ Cert.LnFRefIdeal.sig) → Buf (Elt Ideal) ℓ) (g' : Dev Cert.LnFRefIdeal.nD → PrngReg), Pre_LnFIdeal m →
    (∀ c : Dev Cert.LnFIdeal.nD,
      m' ((c.tc : Thread Cert.LnFRefIdeal.nD Cert.LnFRefIdeal.τ).loc Cert.LnFRefIdeal.main_arg0) = m ((c.tc : Thread Cert.LnFIdeal.nD Cert.LnFIdeal.τ).loc Cert.LnFIdeal.main_arg0)
      ∧ m' ((c.tc : Thread Cert.LnFRefIdeal.nD Cert.LnFRefIdeal.τ).loc Cert.LnFRefIdeal.main_arg1) = m ((c.tc : Thread Cert.LnFIdeal.nD Cert.LnFIdeal.τ).loc Cert.LnFIdeal.main_arg1)
      ∧ m' ((c.tc : Thread Cert.LnFRefIdeal.nD Cert.LnFRefIdeal.τ).loc Cert.LnFRefIdeal.main_arg2) = m ((c.tc : Thread Cert.LnFIdeal.nD Cert.LnFIdeal.τ).loc Cert.LnFIdeal.main_arg2)) →
    ∃ (v0 : (c : Dev Cert.LnFIdeal.nD) → Buf (Elt Ideal) ((c.tc : Thread Cert.LnFIdeal.nD Cert.LnFIdeal.τ).loc Cert.LnFIdeal.main_v1)),
      θ_run (Cert.LnFIdeal.defs (F := Ideal)) (onTc (τ := Cert.LnFIdeal.τ) (Cert.LnFIdeal.main (F := Ideal))) ⟨m, fun _ => 0, g⟩ (fun r => ∀ c : Dev Cert.LnFIdeal.nD,
          r.2.mem ((c.tc : Thread Cert.LnFIdeal.nD Cert.LnFIdeal.τ).loc Cert.LnFIdeal.main_v1) = v0 c
          ∧ r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
          ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
          ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2))
      ∧ θ_run (Cert.LnFRefIdeal.defs (F := Ideal)) (onTc (τ := Cert.LnFRefIdeal.τ) (Cert.LnFRefIdeal.main (F := Ideal))) ⟨m', fun _ => 0, g'⟩ (fun r => ∀ c : Dev Cert.LnFRefIdeal.nD,
          r.2.mem ((c.tc : Thread Cert.LnFRefIdeal.nD Cert.LnFRefIdeal.τ).loc Cert.LnFRefIdeal.main_v28) = v0 c
          ∧ r.2.mem ((c.tc : Thread Cert.LnFRefIdeal.nD Cert.LnFRefIdeal.τ).loc Cert.LnFRefIdeal.main_arg0) = m' ((c.tc : Thread Cert.LnFRefIdeal.nD Cert.LnFRefIdeal.τ).loc Cert.LnFRefIdeal.main_arg0)
          ∧ r.2.mem ((c.tc : Thread Cert.LnFRefIdeal.nD Cert.LnFRefIdeal.τ).loc Cert.LnFRefIdeal.main_arg1) = m' ((c.tc : Thread Cert.LnFRefIdeal.nD Cert.LnFRefIdeal.τ).loc Cert.LnFRefIdeal.main_arg1)
          ∧ r.2.mem ((c.tc : Thread Cert.LnFRefIdeal.nD Cert.LnFRefIdeal.τ).loc Cert.LnFRefIdeal.main_arg2) = m' ((c.tc : Thread Cert.LnFRefIdeal.nD Cert.LnFRefIdeal.τ).loc Cert.LnFRefIdeal.main_arg2))

def preserves_PostbPreF_PostbPreFIdeal : Prop :=
  True

def algebraic_PostbPreFIdeal_PostbPreFRefIdeal [hPostbPreFIdeal : Cert.PostbPreFIdeal.Facts] [hPostbPreFRefIdeal : Cert.PostbPreFRefIdeal.Facts] : Prop :=
  ∀ (m : (ℓ : Loc Cert.PostbPreFIdeal.nD Cert.PostbPreFIdeal.τ Cert.PostbPreFIdeal.sig) → Buf (Elt Ideal) ℓ) (g : Dev Cert.PostbPreFIdeal.nD → PrngReg)
    (m' : (ℓ : Loc Cert.PostbPreFRefIdeal.nD Cert.PostbPreFRefIdeal.τ Cert.PostbPreFRefIdeal.sig) → Buf (Elt Ideal) ℓ) (g' : Dev Cert.PostbPreFRefIdeal.nD → PrngReg), Pre_PostbPreFIdeal m →
    (∀ c : Dev Cert.PostbPreFIdeal.nD,
      m' ((c.tc : Thread Cert.PostbPreFRefIdeal.nD Cert.PostbPreFRefIdeal.τ).loc Cert.PostbPreFRefIdeal.main_arg0) = m ((c.tc : Thread Cert.PostbPreFIdeal.nD Cert.PostbPreFIdeal.τ).loc Cert.PostbPreFIdeal.main_arg0)
      ∧ m' ((c.tc : Thread Cert.PostbPreFRefIdeal.nD Cert.PostbPreFRefIdeal.τ).loc Cert.PostbPreFRefIdeal.main_arg1) = m ((c.tc : Thread Cert.PostbPreFIdeal.nD Cert.PostbPreFIdeal.τ).loc Cert.PostbPreFIdeal.main_arg1)
      ∧ m' ((c.tc : Thread Cert.PostbPreFRefIdeal.nD Cert.PostbPreFRefIdeal.τ).loc Cert.PostbPreFRefIdeal.main_arg2) = m ((c.tc : Thread Cert.PostbPreFIdeal.nD Cert.PostbPreFIdeal.τ).loc Cert.PostbPreFIdeal.main_arg2)
      ∧ m' ((c.tc : Thread Cert.PostbPreFRefIdeal.nD Cert.PostbPreFRefIdeal.τ).loc Cert.PostbPreFRefIdeal.main_arg3) = m ((c.tc : Thread Cert.PostbPreFIdeal.nD Cert.PostbPreFIdeal.τ).loc Cert.PostbPreFIdeal.main_arg3)
      ∧ m' ((c.tc : Thread Cert.PostbPreFRefIdeal.nD Cert.PostbPreFRefIdeal.τ).loc Cert.PostbPreFRefIdeal.main_arg4) = m ((c.tc : Thread Cert.PostbPreFIdeal.nD Cert.PostbPreFIdeal.τ).loc Cert.PostbPreFIdeal.main_arg4)
      ∧ m' ((c.tc : Thread Cert.PostbPreFRefIdeal.nD Cert.PostbPreFRefIdeal.τ).loc Cert.PostbPreFRefIdeal.main_arg5) = m ((c.tc : Thread Cert.PostbPreFIdeal.nD Cert.PostbPreFIdeal.τ).loc Cert.PostbPreFIdeal.main_arg5)
      ∧ m' ((c.tc : Thread Cert.PostbPreFRefIdeal.nD Cert.PostbPreFRefIdeal.τ).loc Cert.PostbPreFRefIdeal.main_arg6) = m ((c.tc : Thread Cert.PostbPreFIdeal.nD Cert.PostbPreFIdeal.τ).loc Cert.PostbPreFIdeal.main_arg6)
      ∧ m' ((c.tc : Thread Cert.PostbPreFRefIdeal.nD Cert.PostbPreFRefIdeal.τ).loc Cert.PostbPreFRefIdeal.main_arg7) = m ((c.tc : Thread Cert.PostbPreFIdeal.nD Cert.PostbPreFIdeal.τ).loc Cert.PostbPreFIdeal.main_arg7)) →
    ∃ (v0 : (c : Dev Cert.PostbPreFIdeal.nD) → Buf (Elt Ideal) ((c.tc : Thread Cert.PostbPreFIdeal.nD Cert.PostbPreFIdeal.τ).loc Cert.PostbPreFIdeal.main_v8_0)) (v1 : (c : Dev Cert.PostbPreFIdeal.nD) → Buf (Elt Ideal) ((c.tc : Thread Cert.PostbPreFIdeal.nD Cert.PostbPreFIdeal.τ).loc Cert.PostbPreFIdeal.main_v8_1)),
      θ_run (Cert.PostbPreFIdeal.defs (F := Ideal)) (onTc (τ := Cert.PostbPreFIdeal.τ) (Cert.PostbPreFIdeal.main (F := Ideal))) ⟨m, fun _ => 0, g⟩ (fun r => ∀ c : Dev Cert.PostbPreFIdeal.nD,
          r.2.mem ((c.tc : Thread Cert.PostbPreFIdeal.nD Cert.PostbPreFIdeal.τ).loc Cert.PostbPreFIdeal.main_v8_0) = v0 c
          ∧ r.2.mem ((c.tc : Thread Cert.PostbPreFIdeal.nD Cert.PostbPreFIdeal.τ).loc Cert.PostbPreFIdeal.main_v8_1) = v1 c
          ∧ r.2.mem ((c.tc : Thread Cert.PostbPreFIdeal.nD Cert.PostbPreFIdeal.τ).loc Cert.PostbPreFIdeal.main_arg0) = m ((c.tc : Thread Cert.PostbPreFIdeal.nD Cert.PostbPreFIdeal.τ).loc Cert.PostbPreFIdeal.main_arg0)
          ∧ r.2.mem ((c.tc : Thread Cert.PostbPreFIdeal.nD Cert.PostbPreFIdeal.τ).loc Cert.PostbPreFIdeal.main_arg1) = m ((c.tc : Thread Cert.PostbPreFIdeal.nD Cert.PostbPreFIdeal.τ).loc Cert.PostbPreFIdeal.main_arg1)
          ∧ r.2.mem ((c.tc : Thread Cert.PostbPreFIdeal.nD Cert.PostbPreFIdeal.τ).loc Cert.PostbPreFIdeal.main_arg2) = m ((c.tc : Thread Cert.PostbPreFIdeal.nD Cert.PostbPreFIdeal.τ).loc Cert.PostbPreFIdeal.main_arg2)
          ∧ r.2.mem ((c.tc : Thread Cert.PostbPreFIdeal.nD Cert.PostbPreFIdeal.τ).loc Cert.PostbPreFIdeal.main_arg3) = m ((c.tc : Thread Cert.PostbPreFIdeal.nD Cert.PostbPreFIdeal.τ).loc Cert.PostbPreFIdeal.main_arg3)
          ∧ r.2.mem ((c.tc : Thread Cert.PostbPreFIdeal.nD Cert.PostbPreFIdeal.τ).loc Cert.PostbPreFIdeal.main_arg4) = m ((c.tc : Thread Cert.PostbPreFIdeal.nD Cert.PostbPreFIdeal.τ).loc Cert.PostbPreFIdeal.main_arg4)
          ∧ r.2.mem ((c.tc : Thread Cert.PostbPreFIdeal.nD Cert.PostbPreFIdeal.τ).loc Cert.PostbPreFIdeal.main_arg5) = m ((c.tc : Thread Cert.PostbPreFIdeal.nD Cert.PostbPreFIdeal.τ).loc Cert.PostbPreFIdeal.main_arg5)
          ∧ r.2.mem ((c.tc : Thread Cert.PostbPreFIdeal.nD Cert.PostbPreFIdeal.τ).loc Cert.PostbPreFIdeal.main_arg6) = m ((c.tc : Thread Cert.PostbPreFIdeal.nD Cert.PostbPreFIdeal.τ).loc Cert.PostbPreFIdeal.main_arg6)
          ∧ r.2.mem ((c.tc : Thread Cert.PostbPreFIdeal.nD Cert.PostbPreFIdeal.τ).loc Cert.PostbPreFIdeal.main_arg7) = m ((c.tc : Thread Cert.PostbPreFIdeal.nD Cert.PostbPreFIdeal.τ).loc Cert.PostbPreFIdeal.main_arg7))
      ∧ θ_run (Cert.PostbPreFRefIdeal.defs (F := Ideal)) (onTc (τ := Cert.PostbPreFRefIdeal.τ) (Cert.PostbPreFRefIdeal.main (F := Ideal))) ⟨m', fun _ => 0, g'⟩ (fun r => ∀ c : Dev Cert.PostbPreFRefIdeal.nD,
          r.2.mem ((c.tc : Thread Cert.PostbPreFRefIdeal.nD Cert.PostbPreFRefIdeal.τ).loc Cert.PostbPreFRefIdeal.main_v23) = v0 c
          ∧ r.2.mem ((c.tc : Thread Cert.PostbPreFRefIdeal.nD Cert.PostbPreFRefIdeal.τ).loc Cert.PostbPreFRefIdeal.main_v48) = v1 c
          ∧ r.2.mem ((c.tc : Thread Cert.PostbPreFRefIdeal.nD Cert.PostbPreFRefIdeal.τ).loc Cert.PostbPreFRefIdeal.main_arg0) = m' ((c.tc : Thread Cert.PostbPreFRefIdeal.nD Cert.PostbPreFRefIdeal.τ).loc Cert.PostbPreFRefIdeal.main_arg0)
          ∧ r.2.mem ((c.tc : Thread Cert.PostbPreFRefIdeal.nD Cert.PostbPreFRefIdeal.τ).loc Cert.PostbPreFRefIdeal.main_arg1) = m' ((c.tc : Thread Cert.PostbPreFRefIdeal.nD Cert.PostbPreFRefIdeal.τ).loc Cert.PostbPreFRefIdeal.main_arg1)
          ∧ r.2.mem ((c.tc : Thread Cert.PostbPreFRefIdeal.nD Cert.PostbPreFRefIdeal.τ).loc Cert.PostbPreFRefIdeal.main_arg2) = m' ((c.tc : Thread Cert.PostbPreFRefIdeal.nD Cert.PostbPreFRefIdeal.τ).loc Cert.PostbPreFRefIdeal.main_arg2)
          ∧ r.2.mem ((c.tc : Thread Cert.PostbPreFRefIdeal.nD Cert.PostbPreFRefIdeal.τ).loc Cert.PostbPreFRefIdeal.main_arg3) = m' ((c.tc : Thread Cert.PostbPreFRefIdeal.nD Cert.PostbPreFRefIdeal.τ).loc Cert.PostbPreFRefIdeal.main_arg3)
          ∧ r.2.mem ((c.tc : Thread Cert.PostbPreFRefIdeal.nD Cert.PostbPreFRefIdeal.τ).loc Cert.PostbPreFRefIdeal.main_arg4) = m' ((c.tc : Thread Cert.PostbPreFRefIdeal.nD Cert.PostbPreFRefIdeal.τ).loc Cert.PostbPreFRefIdeal.main_arg4)
          ∧ r.2.mem ((c.tc : Thread Cert.PostbPreFRefIdeal.nD Cert.PostbPreFRefIdeal.τ).loc Cert.PostbPreFRefIdeal.main_arg5) = m' ((c.tc : Thread Cert.PostbPreFRefIdeal.nD Cert.PostbPreFRefIdeal.τ).loc Cert.PostbPreFRefIdeal.main_arg5)
          ∧ r.2.mem ((c.tc : Thread Cert.PostbPreFRefIdeal.nD Cert.PostbPreFRefIdeal.τ).loc Cert.PostbPreFRefIdeal.main_arg6) = m' ((c.tc : Thread Cert.PostbPreFRefIdeal.nD Cert.PostbPreFRefIdeal.τ).loc Cert.PostbPreFRefIdeal.main_arg6)
          ∧ r.2.mem ((c.tc : Thread Cert.PostbPreFRefIdeal.nD Cert.PostbPreFRefIdeal.τ).loc Cert.PostbPreFRefIdeal.main_arg7) = m' ((c.tc : Thread Cert.PostbPreFRefIdeal.nD Cert.PostbPreFRefIdeal.τ).loc Cert.PostbPreFRefIdeal.main_arg7))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v5)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v5) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v4) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_PostTwinF_PostTwinFIdeal : Prop :=
  True

def algebraic_PostTwinFIdeal_PostTwinFRefIdeal [hPostTwinFIdeal : Cert.PostTwinFIdeal.Facts] [hPostTwinFRefIdeal : Cert.PostTwinFRefIdeal.Facts] : Prop :=
  ∀ (m : (ℓ : Loc Cert.PostTwinFIdeal.nD Cert.PostTwinFIdeal.τ Cert.PostTwinFIdeal.sig) → Buf (Elt Ideal) ℓ) (g : Dev Cert.PostTwinFIdeal.nD → PrngReg)
    (m' : (ℓ : Loc Cert.PostTwinFRefIdeal.nD Cert.PostTwinFRefIdeal.τ Cert.PostTwinFRefIdeal.sig) → Buf (Elt Ideal) ℓ) (g' : Dev Cert.PostTwinFRefIdeal.nD → PrngReg), Pre_PostTwinFIdeal m →
    (∀ c : Dev Cert.PostTwinFIdeal.nD,
      m' ((c.tc : Thread Cert.PostTwinFRefIdeal.nD Cert.PostTwinFRefIdeal.τ).loc Cert.PostTwinFRefIdeal.main_arg0) = m ((c.tc : Thread Cert.PostTwinFIdeal.nD Cert.PostTwinFIdeal.τ).loc Cert.PostTwinFIdeal.main_arg0)
      ∧ m' ((c.tc : Thread Cert.PostTwinFRefIdeal.nD Cert.PostTwinFRefIdeal.τ).loc Cert.PostTwinFRefIdeal.main_arg1) = m ((c.tc : Thread Cert.PostTwinFIdeal.nD Cert.PostTwinFIdeal.τ).loc Cert.PostTwinFIdeal.main_arg1)
      ∧ m' ((c.tc : Thread Cert.PostTwinFRefIdeal.nD Cert.PostTwinFRefIdeal.τ).loc Cert.PostTwinFRefIdeal.main_arg2) = m ((c.tc : Thread Cert.PostTwinFIdeal.nD Cert.PostTwinFIdeal.τ).loc Cert.PostTwinFIdeal.main_arg2)
      ∧ m' ((c.tc : Thread Cert.PostTwinFRefIdeal.nD Cert.PostTwinFRefIdeal.τ).loc Cert.PostTwinFRefIdeal.main_arg3) = m ((c.tc : Thread Cert.PostTwinFIdeal.nD Cert.PostTwinFIdeal.τ).loc Cert.PostTwinFIdeal.main_arg3)
      ∧ m' ((c.tc : Thread Cert.PostTwinFRefIdeal.nD Cert.PostTwinFRefIdeal.τ).loc Cert.PostTwinFRefIdeal.main_arg4) = m ((c.tc : Thread Cert.PostTwinFIdeal.nD Cert.PostTwinFIdeal.τ).loc Cert.PostTwinFIdeal.main_arg4)
      ∧ m' ((c.tc : Thread Cert.PostTwinFRefIdeal.nD Cert.PostTwinFRefIdeal.τ).loc Cert.PostTwinFRefIdeal.main_arg5) = m ((c.tc : Thread Cert.PostTwinFIdeal.nD Cert.PostTwinFIdeal.τ).loc Cert.PostTwinFIdeal.main_arg5)
      ∧ m' ((c.tc : Thread Cert.PostTwinFRefIdeal.nD Cert.PostTwinFRefIdeal.τ).loc Cert.PostTwinFRefIdeal.main_arg6) = m ((c.tc : Thread Cert.PostTwinFIdeal.nD Cert.PostTwinFIdeal.τ).loc Cert.PostTwinFIdeal.main_arg6)
      ∧ m' ((c.tc : Thread Cert.PostTwinFRefIdeal.nD Cert.PostTwinFRefIdeal.τ).loc Cert.PostTwinFRefIdeal.main_arg7) = m ((c.tc : Thread Cert.PostTwinFIdeal.nD Cert.PostTwinFIdeal.τ).loc Cert.PostTwinFIdeal.main_arg7)
      ∧ m' ((c.tc : Thread Cert.PostTwinFRefIdeal.nD Cert.PostTwinFRefIdeal.τ).loc Cert.PostTwinFRefIdeal.main_arg8) = m ((c.tc : Thread Cert.PostTwinFIdeal.nD Cert.PostTwinFIdeal.τ).loc Cert.PostTwinFIdeal.main_arg8)
      ∧ m' ((c.tc : Thread Cert.PostTwinFRefIdeal.nD Cert.PostTwinFRefIdeal.τ).loc Cert.PostTwinFRefIdeal.main_arg9) = m ((c.tc : Thread Cert.PostTwinFIdeal.nD Cert.PostTwinFIdeal.τ).loc Cert.PostTwinFIdeal.main_arg9)) →
    ∃ (v0 : (c : Dev Cert.PostTwinFIdeal.nD) → Buf (Elt Ideal) ((c.tc : Thread Cert.PostTwinFIdeal.nD Cert.PostTwinFIdeal.τ).loc Cert.PostTwinFIdeal.main_v9_0)) (v1 : (c : Dev Cert.PostTwinFIdeal.nD) → Buf (Elt Ideal) ((c.tc : Thread Cert.PostTwinFIdeal.nD Cert.PostTwinFIdeal.τ).loc Cert.PostTwinFIdeal.main_v9_1)) (v2 : (c : Dev Cert.PostTwinFIdeal.nD) → Buf (Elt Ideal) ((c.tc : Thread Cert.PostTwinFIdeal.nD Cert.PostTwinFIdeal.τ).loc Cert.PostTwinFIdeal.main_v9_2)),
      θ_run (Cert.PostTwinFIdeal.defs (F := Ideal)) (onTc (τ := Cert.PostTwinFIdeal.τ) (Cert.PostTwinFIdeal.main (F := Ideal))) ⟨m, fun _ => 0, g⟩ (fun r => ∀ c : Dev Cert.PostTwinFIdeal.nD,
          r.2.mem ((c.tc : Thread Cert.PostTwinFIdeal.nD Cert.PostTwinFIdeal.τ).loc Cert.PostTwinFIdeal.main_v9_0) = v0 c
          ∧ r.2.mem ((c.tc : Thread Cert.PostTwinFIdeal.nD Cert.PostTwinFIdeal.τ).loc Cert.PostTwinFIdeal.main_v9_1) = v1 c
          ∧ r.2.mem ((c.tc : Thread Cert.PostTwinFIdeal.nD Cert.PostTwinFIdeal.τ).loc Cert.PostTwinFIdeal.main_v9_2) = v2 c
          ∧ r.2.mem ((c.tc : Thread Cert.PostTwinFIdeal.nD Cert.PostTwinFIdeal.τ).loc Cert.PostTwinFIdeal.main_arg0) = m ((c.tc : Thread Cert.PostTwinFIdeal.nD Cert.PostTwinFIdeal.τ).loc Cert.PostTwinFIdeal.main_arg0)
          ∧ r.2.mem ((c.tc : Thread Cert.PostTwinFIdeal.nD Cert.PostTwinFIdeal.τ).loc Cert.PostTwinFIdeal.main_arg1) = m ((c.tc : Thread Cert.PostTwinFIdeal.nD Cert.PostTwinFIdeal.τ).loc Cert.PostTwinFIdeal.main_arg1)
          ∧ r.2.mem ((c.tc : Thread Cert.PostTwinFIdeal.nD Cert.PostTwinFIdeal.τ).loc Cert.PostTwinFIdeal.main_arg2) = m ((c.tc : Thread Cert.PostTwinFIdeal.nD Cert.PostTwinFIdeal.τ).loc Cert.PostTwinFIdeal.main_arg2)
          ∧ r.2.mem ((c.tc : Thread Cert.PostTwinFIdeal.nD Cert.PostTwinFIdeal.τ).loc Cert.PostTwinFIdeal.main_arg3) = m ((c.tc : Thread Cert.PostTwinFIdeal.nD Cert.PostTwinFIdeal.τ).loc Cert.PostTwinFIdeal.main_arg3)
          ∧ r.2.mem ((c.tc : Thread Cert.PostTwinFIdeal.nD Cert.PostTwinFIdeal.τ).loc Cert.PostTwinFIdeal.main_arg4) = m ((c.tc : Thread Cert.PostTwinFIdeal.nD Cert.PostTwinFIdeal.τ).loc Cert.PostTwinFIdeal.main_arg4)
          ∧ r.2.mem ((c.tc : Thread Cert.PostTwinFIdeal.nD Cert.PostTwinFIdeal.τ).loc Cert.PostTwinFIdeal.main_arg5) = m ((c.tc : Thread Cert.PostTwinFIdeal.nD Cert.PostTwinFIdeal.τ).loc Cert.PostTwinFIdeal.main_arg5)
          ∧ r.2.mem ((c.tc : Thread Cert.PostTwinFIdeal.nD Cert.PostTwinFIdeal.τ).loc Cert.PostTwinFIdeal.main_arg6) = m ((c.tc : Thread Cert.PostTwinFIdeal.nD Cert.PostTwinFIdeal.τ).loc Cert.PostTwinFIdeal.main_arg6)
          ∧ r.2.mem ((c.tc : Thread Cert.PostTwinFIdeal.nD Cert.PostTwinFIdeal.τ).loc Cert.PostTwinFIdeal.main_arg7) = m ((c.tc : Thread Cert.PostTwinFIdeal.nD Cert.PostTwinFIdeal.τ).loc Cert.PostTwinFIdeal.main_arg7)
          ∧ r.2.mem ((c.tc : Thread Cert.PostTwinFIdeal.nD Cert.PostTwinFIdeal.τ).loc Cert.PostTwinFIdeal.main_arg8) = m ((c.tc : Thread Cert.PostTwinFIdeal.nD Cert.PostTwinFIdeal.τ).loc Cert.PostTwinFIdeal.main_arg8)
          ∧ r.2.mem ((c.tc : Thread Cert.PostTwinFIdeal.nD Cert.PostTwinFIdeal.τ).loc Cert.PostTwinFIdeal.main_arg9) = m ((c.tc : Thread Cert.PostTwinFIdeal.nD Cert.PostTwinFIdeal.τ).loc Cert.PostTwinFIdeal.main_arg9))
      ∧ θ_run (Cert.PostTwinFRefIdeal.defs (F := Ideal)) (onTc (τ := Cert.PostTwinFRefIdeal.τ) (Cert.PostTwinFRefIdeal.main (F := Ideal))) ⟨m', fun _ => 0, g'⟩ (fun r => ∀ c : Dev Cert.PostTwinFRefIdeal.nD,
          r.2.mem ((c.tc : Thread Cert.PostTwinFRefIdeal.nD Cert.PostTwinFRefIdeal.τ).loc Cert.PostTwinFRefIdeal.main_v63) = v0 c
          ∧ r.2.mem ((c.tc : Thread Cert.PostTwinFRefIdeal.nD Cert.PostTwinFRefIdeal.τ).loc Cert.PostTwinFRefIdeal.main_v65) = v1 c
          ∧ r.2.mem ((c.tc : Thread Cert.PostTwinFRefIdeal.nD Cert.PostTwinFRefIdeal.τ).loc Cert.PostTwinFRefIdeal.main_v67) = v2 c
          ∧ r.2.mem ((c.tc : Thread Cert.PostTwinFRefIdeal.nD Cert.PostTwinFRefIdeal.τ).loc Cert.PostTwinFRefIdeal.main_arg0) = m' ((c.tc : Thread Cert.PostTwinFRefIdeal.nD Cert.PostTwinFRefIdeal.τ).loc Cert.PostTwinFRefIdeal.main_arg0)
          ∧ r.2.mem ((c.tc : Thread Cert.PostTwinFRefIdeal.nD Cert.PostTwinFRefIdeal.τ).loc Cert.PostTwinFRefIdeal.main_arg1) = m' ((c.tc : Thread Cert.PostTwinFRefIdeal.nD Cert.PostTwinFRefIdeal.τ).loc Cert.PostTwinFRefIdeal.main_arg1)
          ∧ r.2.mem ((c.tc : Thread Cert.PostTwinFRefIdeal.nD Cert.PostTwinFRefIdeal.τ).loc Cert.PostTwinFRefIdeal.main_arg2) = m' ((c.tc : Thread Cert.PostTwinFRefIdeal.nD Cert.PostTwinFRefIdeal.τ).loc Cert.PostTwinFRefIdeal.main_arg2)
          ∧ r.2.mem ((c.tc : Thread Cert.PostTwinFRefIdeal.nD Cert.PostTwinFRefIdeal.τ).loc Cert.PostTwinFRefIdeal.main_arg3) = m' ((c.tc : Thread Cert.PostTwinFRefIdeal.nD Cert.PostTwinFRefIdeal.τ).loc Cert.PostTwinFRefIdeal.main_arg3)
          ∧ r.2.mem ((c.tc : Thread Cert.PostTwinFRefIdeal.nD Cert.PostTwinFRefIdeal.τ).loc Cert.PostTwinFRefIdeal.main_arg4) = m' ((c.tc : Thread Cert.PostTwinFRefIdeal.nD Cert.PostTwinFRefIdeal.τ).loc Cert.PostTwinFRefIdeal.main_arg4)
          ∧ r.2.mem ((c.tc : Thread Cert.PostTwinFRefIdeal.nD Cert.PostTwinFRefIdeal.τ).loc Cert.PostTwinFRefIdeal.main_arg5) = m' ((c.tc : Thread Cert.PostTwinFRefIdeal.nD Cert.PostTwinFRefIdeal.τ).loc Cert.PostTwinFRefIdeal.main_arg5)
          ∧ r.2.mem ((c.tc : Thread Cert.PostTwinFRefIdeal.nD Cert.PostTwinFRefIdeal.τ).loc Cert.PostTwinFRefIdeal.main_arg6) = m' ((c.tc : Thread Cert.PostTwinFRefIdeal.nD Cert.PostTwinFRefIdeal.τ).loc Cert.PostTwinFRefIdeal.main_arg6)
          ∧ r.2.mem ((c.tc : Thread Cert.PostTwinFRefIdeal.nD Cert.PostTwinFRefIdeal.τ).loc Cert.PostTwinFRefIdeal.main_arg7) = m' ((c.tc : Thread Cert.PostTwinFRefIdeal.nD Cert.PostTwinFRefIdeal.τ).loc Cert.PostTwinFRefIdeal.main_arg7)
          ∧ r.2.mem ((c.tc : Thread Cert.PostTwinFRefIdeal.nD Cert.PostTwinFRefIdeal.τ).loc Cert.PostTwinFRefIdeal.main_arg8) = m' ((c.tc : Thread Cert.PostTwinFRefIdeal.nD Cert.PostTwinFRefIdeal.τ).loc Cert.PostTwinFRefIdeal.main_arg8)
          ∧ r.2.mem ((c.tc : Thread Cert.PostTwinFRefIdeal.nD Cert.PostTwinFRefIdeal.τ).loc Cert.PostTwinFRefIdeal.main_arg9) = m' ((c.tc : Thread Cert.PostTwinFRefIdeal.nD Cert.PostTwinFRefIdeal.τ).loc Cert.PostTwinFRefIdeal.main_arg9))

def preserves_LatF_LatFIdeal : Prop :=
  True

def algebraic_LatFIdeal_LatFRefIdeal [hLatFIdeal : Cert.LatFIdeal.Facts] [hLatFRefIdeal : Cert.LatFRefIdeal.Facts] : Prop :=
  ∀ (m : (ℓ : Loc Cert.LatFIdeal.nD Cert.LatFIdeal.τ Cert.LatFIdeal.sig) → Buf (Elt Ideal) ℓ) (g : Dev Cert.LatFIdeal.nD → PrngReg)
    (m' : (ℓ : Loc Cert.LatFRefIdeal.nD Cert.LatFRefIdeal.τ Cert.LatFRefIdeal.sig) → Buf (Elt Ideal) ℓ) (g' : Dev Cert.LatFRefIdeal.nD → PrngReg), Pre_LatFIdeal m →
    (∀ c : Dev Cert.LatFIdeal.nD,
      m' ((c.tc : Thread Cert.LatFRefIdeal.nD Cert.LatFRefIdeal.τ).loc Cert.LatFRefIdeal.main_arg0) = m ((c.tc : Thread Cert.LatFIdeal.nD Cert.LatFIdeal.τ).loc Cert.LatFIdeal.main_arg0)
      ∧ m' ((c.tc : Thread Cert.LatFRefIdeal.nD Cert.LatFRefIdeal.τ).loc Cert.LatFRefIdeal.main_arg1) = m ((c.tc : Thread Cert.LatFIdeal.nD Cert.LatFIdeal.τ).loc Cert.LatFIdeal.main_arg1)
      ∧ m' ((c.tc : Thread Cert.LatFRefIdeal.nD Cert.LatFRefIdeal.τ).loc Cert.LatFRefIdeal.main_arg2) = m ((c.tc : Thread Cert.LatFIdeal.nD Cert.LatFIdeal.τ).loc Cert.LatFIdeal.main_arg2)
      ∧ m' ((c.tc : Thread Cert.LatFRefIdeal.nD Cert.LatFRefIdeal.τ).loc Cert.LatFRefIdeal.main_arg3) = m ((c.tc : Thread Cert.LatFIdeal.nD Cert.LatFIdeal.τ).loc Cert.LatFIdeal.main_arg3)
      ∧ m' ((c.tc : Thread Cert.LatFRefIdeal.nD Cert.LatFRefIdeal.τ).loc Cert.LatFRefIdeal.main_arg4) = m ((c.tc : Thread Cert.LatFIdeal.nD Cert.LatFIdeal.τ).loc Cert.LatFIdeal.main_arg4)
      ∧ m' ((c.tc : Thread Cert.LatFRefIdeal.nD Cert.LatFRefIdeal.τ).loc Cert.LatFRefIdeal.main_arg5) = m ((c.tc : Thread Cert.LatFIdeal.nD Cert.LatFIdeal.τ).loc Cert.LatFIdeal.main_arg5)) →
    ∃ (v0 : (c : Dev Cert.LatFIdeal.nD) → Buf (Elt Ideal) ((c.tc : Thread Cert.LatFIdeal.nD Cert.LatFIdeal.τ).loc Cert.LatFIdeal.main_v32_0)) (v1 : (c : Dev Cert.LatFIdeal.nD) → Buf (Elt Ideal) ((c.tc : Thread Cert.LatFIdeal.nD Cert.LatFIdeal.τ).loc Cert.LatFIdeal.main_v32_1)) (v2 : (c : Dev Cert.LatFIdeal.nD) → Buf (Elt Ideal) ((c.tc : Thread Cert.LatFIdeal.nD Cert.LatFIdeal.τ).loc Cert.LatFIdeal.main_v32_2)),
      θ_run (Cert.LatFIdeal.defs (F := Ideal)) (onTc (τ := Cert.LatFIdeal.τ) (Cert.LatFIdeal.main (F := Ideal))) ⟨m, fun _ => 0, g⟩ (fun r => ∀ c : Dev Cert.LatFIdeal.nD,
          r.2.mem ((c.tc : Thread Cert.LatFIdeal.nD Cert.LatFIdeal.τ).loc Cert.LatFIdeal.main_v32_0) = v0 c
          ∧ r.2.mem ((c.tc : Thread Cert.LatFIdeal.nD Cert.LatFIdeal.τ).loc Cert.LatFIdeal.main_v32_1) = v1 c
          ∧ r.2.mem ((c.tc : Thread Cert.LatFIdeal.nD Cert.LatFIdeal.τ).loc Cert.LatFIdeal.main_v32_2) = v2 c
          ∧ r.2.mem ((c.tc : Thread Cert.LatFIdeal.nD Cert.LatFIdeal.τ).loc Cert.LatFIdeal.main_arg0) = m ((c.tc : Thread Cert.LatFIdeal.nD Cert.LatFIdeal.τ).loc Cert.LatFIdeal.main_arg0)
          ∧ r.2.mem ((c.tc : Thread Cert.LatFIdeal.nD Cert.LatFIdeal.τ).loc Cert.LatFIdeal.main_arg1) = m ((c.tc : Thread Cert.LatFIdeal.nD Cert.LatFIdeal.τ).loc Cert.LatFIdeal.main_arg1)
          ∧ r.2.mem ((c.tc : Thread Cert.LatFIdeal.nD Cert.LatFIdeal.τ).loc Cert.LatFIdeal.main_arg2) = m ((c.tc : Thread Cert.LatFIdeal.nD Cert.LatFIdeal.τ).loc Cert.LatFIdeal.main_arg2)
          ∧ r.2.mem ((c.tc : Thread Cert.LatFIdeal.nD Cert.LatFIdeal.τ).loc Cert.LatFIdeal.main_arg3) = m ((c.tc : Thread Cert.LatFIdeal.nD Cert.LatFIdeal.τ).loc Cert.LatFIdeal.main_arg3)
          ∧ r.2.mem ((c.tc : Thread Cert.LatFIdeal.nD Cert.LatFIdeal.τ).loc Cert.LatFIdeal.main_arg4) = m ((c.tc : Thread Cert.LatFIdeal.nD Cert.LatFIdeal.τ).loc Cert.LatFIdeal.main_arg4)
          ∧ r.2.mem ((c.tc : Thread Cert.LatFIdeal.nD Cert.LatFIdeal.τ).loc Cert.LatFIdeal.main_arg5) = m ((c.tc : Thread Cert.LatFIdeal.nD Cert.LatFIdeal.τ).loc Cert.LatFIdeal.main_arg5))
      ∧ θ_run (Cert.LatFRefIdeal.defs (F := Ideal)) (onTc (τ := Cert.LatFRefIdeal.τ) (Cert.LatFRefIdeal.main (F := Ideal))) ⟨m', fun _ => 0, g'⟩ (fun r => ∀ c : Dev Cert.LatFRefIdeal.nD,
          r.2.mem ((c.tc : Thread Cert.LatFRefIdeal.nD Cert.LatFRefIdeal.τ).loc Cert.LatFRefIdeal.main_v44) = v0 c
          ∧ r.2.mem ((c.tc : Thread Cert.LatFRefIdeal.nD Cert.LatFRefIdeal.τ).loc Cert.LatFRefIdeal.main_v45) = v1 c
          ∧ r.2.mem ((c.tc : Thread Cert.LatFRefIdeal.nD Cert.LatFRefIdeal.τ).loc Cert.LatFRefIdeal.main_v61) = v2 c
          ∧ r.2.mem ((c.tc : Thread Cert.LatFRefIdeal.nD Cert.LatFRefIdeal.τ).loc Cert.LatFRefIdeal.main_arg0) = m' ((c.tc : Thread Cert.LatFRefIdeal.nD Cert.LatFRefIdeal.τ).loc Cert.LatFRefIdeal.main_arg0)
          ∧ r.2.mem ((c.tc : Thread Cert.LatFRefIdeal.nD Cert.LatFRefIdeal.τ).loc Cert.LatFRefIdeal.main_arg1) = m' ((c.tc : Thread Cert.LatFRefIdeal.nD Cert.LatFRefIdeal.τ).loc Cert.LatFRefIdeal.main_arg1)
          ∧ r.2.mem ((c.tc : Thread Cert.LatFRefIdeal.nD Cert.LatFRefIdeal.τ).loc Cert.LatFRefIdeal.main_arg2) = m' ((c.tc : Thread Cert.LatFRefIdeal.nD Cert.LatFRefIdeal.τ).loc Cert.LatFRefIdeal.main_arg2)
          ∧ r.2.mem ((c.tc : Thread Cert.LatFRefIdeal.nD Cert.LatFRefIdeal.τ).loc Cert.LatFRefIdeal.main_arg3) = m' ((c.tc : Thread Cert.LatFRefIdeal.nD Cert.LatFRefIdeal.τ).loc Cert.LatFRefIdeal.main_arg3)
          ∧ r.2.mem ((c.tc : Thread Cert.LatFRefIdeal.nD Cert.LatFRefIdeal.τ).loc Cert.LatFRefIdeal.main_arg4) = m' ((c.tc : Thread Cert.LatFRefIdeal.nD Cert.LatFRefIdeal.τ).loc Cert.LatFRefIdeal.main_arg4)
          ∧ r.2.mem ((c.tc : Thread Cert.LatFRefIdeal.nD Cert.LatFRefIdeal.τ).loc Cert.LatFRefIdeal.main_arg5) = m' ((c.tc : Thread Cert.LatFRefIdeal.nD Cert.LatFRefIdeal.τ).loc Cert.LatFRefIdeal.main_arg5))

def preserves_RopeF_RopeFIdeal : Prop :=
  True

def algebraic_RopeFIdeal_RopeFRefIdeal [hRopeFIdeal : Cert.RopeFIdeal.Facts] [hRopeFRefIdeal : Cert.RopeFRefIdeal.Facts] : Prop :=
  ∀ (m : (ℓ : Loc Cert.RopeFIdeal.nD Cert.RopeFIdeal.τ Cert.RopeFIdeal.sig) → Buf (Elt Ideal) ℓ) (g : Dev Cert.RopeFIdeal.nD → PrngReg)
    (m' : (ℓ : Loc Cert.RopeFRefIdeal.nD Cert.RopeFRefIdeal.τ Cert.RopeFRefIdeal.sig) → Buf (Elt Ideal) ℓ) (g' : Dev Cert.RopeFRefIdeal.nD → PrngReg), Pre_RopeFIdeal m →
    (∀ c : Dev Cert.RopeFIdeal.nD,
      m' ((c.tc : Thread Cert.RopeFRefIdeal.nD Cert.RopeFRefIdeal.τ).loc Cert.RopeFRefIdeal.main_arg0) = m ((c.tc : Thread Cert.RopeFIdeal.nD Cert.RopeFIdeal.τ).loc Cert.RopeFIdeal.main_arg0)
      ∧ m' ((c.tc : Thread Cert.RopeFRefIdeal.nD Cert.RopeFRefIdeal.τ).loc Cert.RopeFRefIdeal.main_arg1) = m ((c.tc : Thread Cert.RopeFIdeal.nD Cert.RopeFIdeal.τ).loc Cert.RopeFIdeal.main_arg1)) →
    ∃ (v0 : (c : Dev Cert.RopeFIdeal.nD) → Buf (Elt Ideal) ((c.tc : Thread Cert.RopeFIdeal.nD Cert.RopeFIdeal.τ).loc Cert.RopeFIdeal.main_v26)),
      θ_run (Cert.RopeFIdeal.defs (F := Ideal)) (onTc (τ := Cert.RopeFIdeal.τ) (Cert.RopeFIdeal.main (F := Ideal))) ⟨m, fun _ => 0, g⟩ (fun r => ∀ c : Dev Cert.RopeFIdeal.nD,
          r.2.mem ((c.tc : Thread Cert.RopeFIdeal.nD Cert.RopeFIdeal.τ).loc Cert.RopeFIdeal.main_v26) = v0 c
          ∧ r.2.mem ((c.tc : Thread Cert.RopeFIdeal.nD Cert.RopeFIdeal.τ).loc Cert.RopeFIdeal.main_arg0) = m ((c.tc : Thread Cert.RopeFIdeal.nD Cert.RopeFIdeal.τ).loc Cert.RopeFIdeal.main_arg0)
          ∧ r.2.mem ((c.tc : Thread Cert.RopeFIdeal.nD Cert.RopeFIdeal.τ).loc Cert.RopeFIdeal.main_arg1) = m ((c.tc : Thread Cert.RopeFIdeal.nD Cert.RopeFIdeal.τ).loc Cert.RopeFIdeal.main_arg1))
      ∧ θ_run (Cert.RopeFRefIdeal.defs (F := Ideal)) (onTc (τ := Cert.RopeFRefIdeal.τ) (Cert.RopeFRefIdeal.main (F := Ideal))) ⟨m', fun _ => 0, g'⟩ (fun r => ∀ c : Dev Cert.RopeFRefIdeal.nD,
          r.2.mem ((c.tc : Thread Cert.RopeFRefIdeal.nD Cert.RopeFRefIdeal.τ).loc Cert.RopeFRefIdeal.main_v35) = v0 c
          ∧ r.2.mem ((c.tc : Thread Cert.RopeFRefIdeal.nD Cert.RopeFRefIdeal.τ).loc Cert.RopeFRefIdeal.main_arg0) = m' ((c.tc : Thread Cert.RopeFRefIdeal.nD Cert.RopeFRefIdeal.τ).loc Cert.RopeFRefIdeal.main_arg0)
          ∧ r.2.mem ((c.tc : Thread Cert.RopeFRefIdeal.nD Cert.RopeFRefIdeal.τ).loc Cert.RopeFRefIdeal.main_arg1) = m' ((c.tc : Thread Cert.RopeFRefIdeal.nD Cert.RopeFRefIdeal.τ).loc Cert.RopeFRefIdeal.main_arg1))

def preserves_PostPreF_PostPreFIdeal : Prop :=
  True

def algebraic_PostPreFIdeal_PostPreFRefIdeal [hPostPreFIdeal : Cert.PostPreFIdeal.Facts] [hPostPreFRefIdeal : Cert.PostPreFRefIdeal.Facts] : Prop :=
  ∀ (m : (ℓ : Loc Cert.PostPreFIdeal.nD Cert.PostPreFIdeal.τ Cert.PostPreFIdeal.sig) → Buf (Elt Ideal) ℓ) (g : Dev Cert.PostPreFIdeal.nD → PrngReg)
    (m' : (ℓ : Loc Cert.PostPreFRefIdeal.nD Cert.PostPreFRefIdeal.τ Cert.PostPreFRefIdeal.sig) → Buf (Elt Ideal) ℓ) (g' : Dev Cert.PostPreFRefIdeal.nD → PrngReg), Pre_PostPreFIdeal m →
    (∀ c : Dev Cert.PostPreFIdeal.nD,
      m' ((c.tc : Thread Cert.PostPreFRefIdeal.nD Cert.PostPreFRefIdeal.τ).loc Cert.PostPreFRefIdeal.main_arg0) = m ((c.tc : Thread Cert.PostPreFIdeal.nD Cert.PostPreFIdeal.τ).loc Cert.PostPreFIdeal.main_arg0)
      ∧ m' ((c.tc : Thread Cert.PostPreFRefIdeal.nD Cert.PostPreFRefIdeal.τ).loc Cert.PostPreFRefIdeal.main_arg1) = m ((c.tc : Thread Cert.PostPreFIdeal.nD Cert.PostPreFIdeal.τ).loc Cert.PostPreFIdeal.main_arg1)
      ∧ m' ((c.tc : Thread Cert.PostPreFRefIdeal.nD Cert.PostPreFRefIdeal.τ).loc Cert.PostPreFRefIdeal.main_arg2) = m ((c.tc : Thread Cert.PostPreFIdeal.nD Cert.PostPreFIdeal.τ).loc Cert.PostPreFIdeal.main_arg2)
      ∧ m' ((c.tc : Thread Cert.PostPreFRefIdeal.nD Cert.PostPreFRefIdeal.τ).loc Cert.PostPreFRefIdeal.main_arg3) = m ((c.tc : Thread Cert.PostPreFIdeal.nD Cert.PostPreFIdeal.τ).loc Cert.PostPreFIdeal.main_arg3)
      ∧ m' ((c.tc : Thread Cert.PostPreFRefIdeal.nD Cert.PostPreFRefIdeal.τ).loc Cert.PostPreFRefIdeal.main_arg4) = m ((c.tc : Thread Cert.PostPreFIdeal.nD Cert.PostPreFIdeal.τ).loc Cert.PostPreFIdeal.main_arg4)
      ∧ m' ((c.tc : Thread Cert.PostPreFRefIdeal.nD Cert.PostPreFRefIdeal.τ).loc Cert.PostPreFRefIdeal.main_arg5) = m ((c.tc : Thread Cert.PostPreFIdeal.nD Cert.PostPreFIdeal.τ).loc Cert.PostPreFIdeal.main_arg5)
      ∧ m' ((c.tc : Thread Cert.PostPreFRefIdeal.nD Cert.PostPreFRefIdeal.τ).loc Cert.PostPreFRefIdeal.main_arg6) = m ((c.tc : Thread Cert.PostPreFIdeal.nD Cert.PostPreFIdeal.τ).loc Cert.PostPreFIdeal.main_arg6)) →
    ∃ (v0 : (c : Dev Cert.PostPreFIdeal.nD) → Buf (Elt Ideal) ((c.tc : Thread Cert.PostPreFIdeal.nD Cert.PostPreFIdeal.τ).loc Cert.PostPreFIdeal.main_v8_0)) (v1 : (c : Dev Cert.PostPreFIdeal.nD) → Buf (Elt Ideal) ((c.tc : Thread Cert.PostPreFIdeal.nD Cert.PostPreFIdeal.τ).loc Cert.PostPreFIdeal.main_v8_1)),
      θ_run (Cert.PostPreFIdeal.defs (F := Ideal)) (onTc (τ := Cert.PostPreFIdeal.τ) (Cert.PostPreFIdeal.main (F := Ideal))) ⟨m, fun _ => 0, g⟩ (fun r => ∀ c : Dev Cert.PostPreFIdeal.nD,
          r.2.mem ((c.tc : Thread Cert.PostPreFIdeal.nD Cert.PostPreFIdeal.τ).loc Cert.PostPreFIdeal.main_v8_0) = v0 c
          ∧ r.2.mem ((c.tc : Thread Cert.PostPreFIdeal.nD Cert.PostPreFIdeal.τ).loc Cert.PostPreFIdeal.main_v8_1) = v1 c
          ∧ r.2.mem ((c.tc : Thread Cert.PostPreFIdeal.nD Cert.PostPreFIdeal.τ).loc Cert.PostPreFIdeal.main_arg0) = m ((c.tc : Thread Cert.PostPreFIdeal.nD Cert.PostPreFIdeal.τ).loc Cert.PostPreFIdeal.main_arg0)
          ∧ r.2.mem ((c.tc : Thread Cert.PostPreFIdeal.nD Cert.PostPreFIdeal.τ).loc Cert.PostPreFIdeal.main_arg1) = m ((c.tc : Thread Cert.PostPreFIdeal.nD Cert.PostPreFIdeal.τ).loc Cert.PostPreFIdeal.main_arg1)
          ∧ r.2.mem ((c.tc : Thread Cert.PostPreFIdeal.nD Cert.PostPreFIdeal.τ).loc Cert.PostPreFIdeal.main_arg2) = m ((c.tc : Thread Cert.PostPreFIdeal.nD Cert.PostPreFIdeal.τ).loc Cert.PostPreFIdeal.main_arg2)
          ∧ r.2.mem ((c.tc : Thread Cert.PostPreFIdeal.nD Cert.PostPreFIdeal.τ).loc Cert.PostPreFIdeal.main_arg3) = m ((c.tc : Thread Cert.PostPreFIdeal.nD Cert.PostPreFIdeal.τ).loc Cert.PostPreFIdeal.main_arg3)
          ∧ r.2.mem ((c.tc : Thread Cert.PostPreFIdeal.nD Cert.PostPreFIdeal.τ).loc Cert.PostPreFIdeal.main_arg4) = m ((c.tc : Thread Cert.PostPreFIdeal.nD Cert.PostPreFIdeal.τ).loc Cert.PostPreFIdeal.main_arg4)
          ∧ r.2.mem ((c.tc : Thread Cert.PostPreFIdeal.nD Cert.PostPreFIdeal.τ).loc Cert.PostPreFIdeal.main_arg5) = m ((c.tc : Thread Cert.PostPreFIdeal.nD Cert.PostPreFIdeal.τ).loc Cert.PostPreFIdeal.main_arg5)
          ∧ r.2.mem ((c.tc : Thread Cert.PostPreFIdeal.nD Cert.PostPreFIdeal.τ).loc Cert.PostPreFIdeal.main_arg6) = m ((c.tc : Thread Cert.PostPreFIdeal.nD Cert.PostPreFIdeal.τ).loc Cert.PostPreFIdeal.main_arg6))
      ∧ θ_run (Cert.PostPreFRefIdeal.defs (F := Ideal)) (onTc (τ := Cert.PostPreFRefIdeal.τ) (Cert.PostPreFRefIdeal.main (F := Ideal))) ⟨m', fun _ => 0, g'⟩ (fun r => ∀ c : Dev Cert.PostPreFRefIdeal.nD,
          r.2.mem ((c.tc : Thread Cert.PostPreFRefIdeal.nD Cert.PostPreFRefIdeal.τ).loc Cert.PostPreFRefIdeal.main_v19) = v0 c
          ∧ r.2.mem ((c.tc : Thread Cert.PostPreFRefIdeal.nD Cert.PostPreFRefIdeal.τ).loc Cert.PostPreFRefIdeal.main_v44) = v1 c
          ∧ r.2.mem ((c.tc : Thread Cert.PostPreFRefIdeal.nD Cert.PostPreFRefIdeal.τ).loc Cert.PostPreFRefIdeal.main_arg0) = m' ((c.tc : Thread Cert.PostPreFRefIdeal.nD Cert.PostPreFRefIdeal.τ).loc Cert.PostPreFRefIdeal.main_arg0)
          ∧ r.2.mem ((c.tc : Thread Cert.PostPreFRefIdeal.nD Cert.PostPreFRefIdeal.τ).loc Cert.PostPreFRefIdeal.main_arg1) = m' ((c.tc : Thread Cert.PostPreFRefIdeal.nD Cert.PostPreFRefIdeal.τ).loc Cert.PostPreFRefIdeal.main_arg1)
          ∧ r.2.mem ((c.tc : Thread Cert.PostPreFRefIdeal.nD Cert.PostPreFRefIdeal.τ).loc Cert.PostPreFRefIdeal.main_arg2) = m' ((c.tc : Thread Cert.PostPreFRefIdeal.nD Cert.PostPreFRefIdeal.τ).loc Cert.PostPreFRefIdeal.main_arg2)
          ∧ r.2.mem ((c.tc : Thread Cert.PostPreFRefIdeal.nD Cert.PostPreFRefIdeal.τ).loc Cert.PostPreFRefIdeal.main_arg3) = m' ((c.tc : Thread Cert.PostPreFRefIdeal.nD Cert.PostPreFRefIdeal.τ).loc Cert.PostPreFRefIdeal.main_arg3)
          ∧ r.2.mem ((c.tc : Thread Cert.PostPreFRefIdeal.nD Cert.PostPreFRefIdeal.τ).loc Cert.PostPreFRefIdeal.main_arg4) = m' ((c.tc : Thread Cert.PostPreFRefIdeal.nD Cert.PostPreFRefIdeal.τ).loc Cert.PostPreFRefIdeal.main_arg4)
          ∧ r.2.mem ((c.tc : Thread Cert.PostPreFRefIdeal.nD Cert.PostPreFRefIdeal.τ).loc Cert.PostPreFRefIdeal.main_arg5) = m' ((c.tc : Thread Cert.PostPreFRefIdeal.nD Cert.PostPreFRefIdeal.τ).loc Cert.PostPreFRefIdeal.main_arg5)
          ∧ r.2.mem ((c.tc : Thread Cert.PostPreFRefIdeal.nD Cert.PostPreFRefIdeal.τ).loc Cert.PostPreFRefIdeal.main_arg6) = m' ((c.tc : Thread Cert.PostPreFRefIdeal.nD Cert.PostPreFRefIdeal.τ).loc Cert.PostPreFRefIdeal.main_arg6))

def preserves_PostF_PostFIdeal : Prop :=
  True

def algebraic_PostFIdeal_PostFRefIdeal [hPostFIdeal : Cert.PostFIdeal.Facts] [hPostFRefIdeal : Cert.PostFRefIdeal.Facts] : Prop :=
  ∀ (m : (ℓ : Loc Cert.PostFIdeal.nD Cert.PostFIdeal.τ Cert.PostFIdeal.sig) → Buf (Elt Ideal) ℓ) (g : Dev Cert.PostFIdeal.nD → PrngReg)
    (m' : (ℓ : Loc Cert.PostFRefIdeal.nD Cert.PostFRefIdeal.τ Cert.PostFRefIdeal.sig) → Buf (Elt Ideal) ℓ) (g' : Dev Cert.PostFRefIdeal.nD → PrngReg), Pre_PostFIdeal m →
    (∀ c : Dev Cert.PostFIdeal.nD,
      m' ((c.tc : Thread Cert.PostFRefIdeal.nD Cert.PostFRefIdeal.τ).loc Cert.PostFRefIdeal.main_arg0) = m ((c.tc : Thread Cert.PostFIdeal.nD Cert.PostFIdeal.τ).loc Cert.PostFIdeal.main_arg0)
      ∧ m' ((c.tc : Thread Cert.PostFRefIdeal.nD Cert.PostFRefIdeal.τ).loc Cert.PostFRefIdeal.main_arg1) = m ((c.tc : Thread Cert.PostFIdeal.nD Cert.PostFIdeal.τ).loc Cert.PostFIdeal.main_arg1)
      ∧ m' ((c.tc : Thread Cert.PostFRefIdeal.nD Cert.PostFRefIdeal.τ).loc Cert.PostFRefIdeal.main_arg2) = m ((c.tc : Thread Cert.PostFIdeal.nD Cert.PostFIdeal.τ).loc Cert.PostFIdeal.main_arg2)
      ∧ m' ((c.tc : Thread Cert.PostFRefIdeal.nD Cert.PostFRefIdeal.τ).loc Cert.PostFRefIdeal.main_arg3) = m ((c.tc : Thread Cert.PostFIdeal.nD Cert.PostFIdeal.τ).loc Cert.PostFIdeal.main_arg3)) →
    ∃ (v0 : (c : Dev Cert.PostFIdeal.nD) → Buf (Elt Ideal) ((c.tc : Thread Cert.PostFIdeal.nD Cert.PostFIdeal.τ).loc Cert.PostFIdeal.main_v5)),
      θ_run (Cert.PostFIdeal.defs (F := Ideal)) (onTc (τ := Cert.PostFIdeal.τ) (Cert.PostFIdeal.main (F := Ideal))) ⟨m, fun _ => 0, g⟩ (fun r => ∀ c : Dev Cert.PostFIdeal.nD,
          r.2.mem ((c.tc : Thread Cert.PostFIdeal.nD Cert.PostFIdeal.τ).loc Cert.PostFIdeal.main_v5) = v0 c
          ∧ r.2.mem ((c.tc : Thread Cert.PostFIdeal.nD Cert.PostFIdeal.τ).loc Cert.PostFIdeal.main_arg0) = m ((c.tc : Thread Cert.PostFIdeal.nD Cert.PostFIdeal.τ).loc Cert.PostFIdeal.main_arg0)
          ∧ r.2.mem ((c.tc : Thread Cert.PostFIdeal.nD Cert.PostFIdeal.τ).loc Cert.PostFIdeal.main_arg1) = m ((c.tc : Thread Cert.PostFIdeal.nD Cert.PostFIdeal.τ).loc Cert.PostFIdeal.main_arg1)
          ∧ r.2.mem ((c.tc : Thread Cert.PostFIdeal.nD Cert.PostFIdeal.τ).loc Cert.PostFIdeal.main_arg2) = m ((c.tc : Thread Cert.PostFIdeal.nD Cert.PostFIdeal.τ).loc Cert.PostFIdeal.main_arg2)
          ∧ r.2.mem ((c.tc : Thread Cert.PostFIdeal.nD Cert.PostFIdeal.τ).loc Cert.PostFIdeal.main_arg3) = m ((c.tc : Thread Cert.PostFIdeal.nD Cert.PostFIdeal.τ).loc Cert.PostFIdeal.main_arg3))
      ∧ θ_run (Cert.PostFRefIdeal.defs (F := Ideal)) (onTc (τ := Cert.PostFRefIdeal.τ) (Cert.PostFRefIdeal.main (F := Ideal))) ⟨m', fun _ => 0, g'⟩ (fun r => ∀ c : Dev Cert.PostFRefIdeal.nD,
          r.2.mem ((c.tc : Thread Cert.PostFRefIdeal.nD Cert.PostFRefIdeal.τ).loc Cert.PostFRefIdeal.main_v19) = v0 c
          ∧ r.2.mem ((c.tc : Thread Cert.PostFRefIdeal.nD Cert.PostFRefIdeal.τ).loc Cert.PostFRefIdeal.main_arg0) = m' ((c.tc : Thread Cert.PostFRefIdeal.nD Cert.PostFRefIdeal.τ).loc Cert.PostFRefIdeal.main_arg0)
          ∧ r.2.mem ((c.tc : Thread Cert.PostFRefIdeal.nD Cert.PostFRefIdeal.τ).loc Cert.PostFRefIdeal.main_arg1) = m' ((c.tc : Thread Cert.PostFRefIdeal.nD Cert.PostFRefIdeal.τ).loc Cert.PostFRefIdeal.main_arg1)
          ∧ r.2.mem ((c.tc : Thread Cert.PostFRefIdeal.nD Cert.PostFRefIdeal.τ).loc Cert.PostFRefIdeal.main_arg2) = m' ((c.tc : Thread Cert.PostFRefIdeal.nD Cert.PostFRefIdeal.τ).loc Cert.PostFRefIdeal.main_arg2)
          ∧ r.2.mem ((c.tc : Thread Cert.PostFRefIdeal.nD Cert.PostFRefIdeal.τ).loc Cert.PostFRefIdeal.main_arg3) = m' ((c.tc : Thread Cert.PostFRefIdeal.nD Cert.PostFRefIdeal.τ).loc Cert.PostFRefIdeal.main_arg3))

def preserves_MmTN_MmTNIdeal : Prop :=
  True

def algebraic_MmTNIdeal_MmTNRefIdeal [hMmTNIdeal : Cert.MmTNIdeal.Facts] [hMmTNRefIdeal : Cert.MmTNRefIdeal.Facts] : Prop :=
  ∀ (m : (ℓ : Loc Cert.MmTNIdeal.nD Cert.MmTNIdeal.τ Cert.MmTNIdeal.sig) → Buf (Elt Ideal) ℓ) (g : Dev Cert.MmTNIdeal.nD → PrngReg)
    (m' : (ℓ : Loc Cert.MmTNRefIdeal.nD Cert.MmTNRefIdeal.τ Cert.MmTNRefIdeal.sig) → Buf (Elt Ideal) ℓ) (g' : Dev Cert.MmTNRefIdeal.nD → PrngReg), Pre_MmTNIdeal m →
    (∀ c : Dev Cert.MmTNIdeal.nD,
      m' ((c.tc : Thread Cert.MmTNRefIdeal.nD Cert.MmTNRefIdeal.τ).loc Cert.MmTNRefIdeal.main_arg0) = m ((c.tc : Thread Cert.MmTNIdeal.nD Cert.MmTNIdeal.τ).loc Cert.MmTNIdeal.main_arg0)
      ∧ m' ((c.tc : Thread Cert.MmTNRefIdeal.nD Cert.MmTNRefIdeal.τ).loc Cert.MmTNRefIdeal.main_arg1) = m ((c.tc : Thread Cert.MmTNIdeal.nD Cert.MmTNIdeal.τ).loc Cert.MmTNIdeal.main_arg1)) →
    ∃ (v0 : (c : Dev Cert.MmTNIdeal.nD) → Buf (Elt Ideal) ((c.tc : Thread Cert.MmTNIdeal.nD Cert.MmTNIdeal.τ).loc Cert.MmTNIdeal.main_v4)),
      θ_run (Cert.MmTNIdeal.defs (F := Ideal)) (onTc (τ := Cert.MmTNIdeal.τ) (Cert.MmTNIdeal.main (F := Ideal))) ⟨m, fun _ => 0, g⟩ (fun r => ∀ c : Dev Cert.MmTNIdeal.nD,
          r.2.mem ((c.tc : Thread Cert.MmTNIdeal.nD Cert.MmTNIdeal.τ).loc Cert.MmTNIdeal.main_v4) = v0 c
          ∧ r.2.mem ((c.tc : Thread Cert.MmTNIdeal.nD Cert.MmTNIdeal.τ).loc Cert.MmTNIdeal.main_arg0) = m ((c.tc : Thread Cert.MmTNIdeal.nD Cert.MmTNIdeal.τ).loc Cert.MmTNIdeal.main_arg0)
          ∧ r.2.mem ((c.tc : Thread Cert.MmTNIdeal.nD Cert.MmTNIdeal.τ).loc Cert.MmTNIdeal.main_arg1) = m ((c.tc : Thread Cert.MmTNIdeal.nD Cert.MmTNIdeal.τ).loc Cert.MmTNIdeal.main_arg1))
      ∧ θ_run (Cert.MmTNRefIdeal.defs (F := Ideal)) (onTc (τ := Cert.MmTNRefIdeal.τ) (Cert.MmTNRefIdeal.main (F := Ideal))) ⟨m', fun _ => 0, g'⟩ (fun r => ∀ c : Dev Cert.MmTNRefIdeal.nD,
          r.2.mem ((c.tc : Thread Cert.MmTNRefIdeal.nD Cert.MmTNRefIdeal.τ).loc Cert.MmTNRefIdeal.main_v6) = v0 c
          ∧ r.2.mem ((c.tc : Thread Cert.MmTNRefIdeal.nD Cert.MmTNRefIdeal.τ).loc Cert.MmTNRefIdeal.main_arg0) = m' ((c.tc : Thread Cert.MmTNRefIdeal.nD Cert.MmTNRefIdeal.τ).loc Cert.MmTNRefIdeal.main_arg0)
          ∧ r.2.mem ((c.tc : Thread Cert.MmTNRefIdeal.nD Cert.MmTNRefIdeal.τ).loc Cert.MmTNRefIdeal.main_arg1) = m' ((c.tc : Thread Cert.MmTNRefIdeal.nD Cert.MmTNRefIdeal.τ).loc Cert.MmTNRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v0) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)) →
    ∃ (v0 : (c : Dev Cert.SumDevIdeal.nD) → Buf (Elt Ideal) ((c.tc : Thread Cert.SumDevIdeal.nD Cert.SumDevIdeal.τ).loc Cert.SumDevIdeal.main_v16)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v16) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v0) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0))

def preserves_MmNN_MmNNIdeal : Prop :=
  True

def algebraic_MmNNIdeal_MmNNRefIdeal [hMmNNIdeal : Cert.MmNNIdeal.Facts] [hMmNNRefIdeal : Cert.MmNNRefIdeal.Facts] : Prop :=
  ∀ (m : (ℓ : Loc Cert.MmNNIdeal.nD Cert.MmNNIdeal.τ Cert.MmNNIdeal.sig) → Buf (Elt Ideal) ℓ) (g : Dev Cert.MmNNIdeal.nD → PrngReg)
    (m' : (ℓ : Loc Cert.MmNNRefIdeal.nD Cert.MmNNRefIdeal.τ Cert.MmNNRefIdeal.sig) → Buf (Elt Ideal) ℓ) (g' : Dev Cert.MmNNRefIdeal.nD → PrngReg), Pre_MmNNIdeal m →
    (∀ c : Dev Cert.MmNNIdeal.nD,
      m' ((c.tc : Thread Cert.MmNNRefIdeal.nD Cert.MmNNRefIdeal.τ).loc Cert.MmNNRefIdeal.main_arg0) = m ((c.tc : Thread Cert.MmNNIdeal.nD Cert.MmNNIdeal.τ).loc Cert.MmNNIdeal.main_arg0)
      ∧ m' ((c.tc : Thread Cert.MmNNRefIdeal.nD Cert.MmNNRefIdeal.τ).loc Cert.MmNNRefIdeal.main_arg1) = m ((c.tc : Thread Cert.MmNNIdeal.nD Cert.MmNNIdeal.τ).loc Cert.MmNNIdeal.main_arg1)) →
    ∃ (v0 : (c : Dev Cert.MmNNIdeal.nD) → Buf (Elt Ideal) ((c.tc : Thread Cert.MmNNIdeal.nD Cert.MmNNIdeal.τ).loc Cert.MmNNIdeal.main_v3)),
      θ_run (Cert.MmNNIdeal.defs (F := Ideal)) (onTc (τ := Cert.MmNNIdeal.τ) (Cert.MmNNIdeal.main (F := Ideal))) ⟨m, fun _ => 0, g⟩ (fun r => ∀ c : Dev Cert.MmNNIdeal.nD,
          r.2.mem ((c.tc : Thread Cert.MmNNIdeal.nD Cert.MmNNIdeal.τ).loc Cert.MmNNIdeal.main_v3) = v0 c
          ∧ r.2.mem ((c.tc : Thread Cert.MmNNIdeal.nD Cert.MmNNIdeal.τ).loc Cert.MmNNIdeal.main_arg0) = m ((c.tc : Thread Cert.MmNNIdeal.nD Cert.MmNNIdeal.τ).loc Cert.MmNNIdeal.main_arg0)
          ∧ r.2.mem ((c.tc : Thread Cert.MmNNIdeal.nD Cert.MmNNIdeal.τ).loc Cert.MmNNIdeal.main_arg1) = m ((c.tc : Thread Cert.MmNNIdeal.nD Cert.MmNNIdeal.τ).loc Cert.MmNNIdeal.main_arg1))
      ∧ θ_run (Cert.MmNNRefIdeal.defs (F := Ideal)) (onTc (τ := Cert.MmNNRefIdeal.τ) (Cert.MmNNRefIdeal.main (F := Ideal))) ⟨m', fun _ => 0, g'⟩ (fun r => ∀ c : Dev Cert.MmNNRefIdeal.nD,
          r.2.mem ((c.tc : Thread Cert.MmNNRefIdeal.nD Cert.MmNNRefIdeal.τ).loc Cert.MmNNRefIdeal.main_v1) = v0 c
          ∧ r.2.mem ((c.tc : Thread Cert.MmNNRefIdeal.nD Cert.MmNNRefIdeal.τ).loc Cert.MmNNRefIdeal.main_arg0) = m' ((c.tc : Thread Cert.MmNNRefIdeal.nD Cert.MmNNRefIdeal.τ).loc Cert.MmNNRefIdeal.main_arg0)
          ∧ r.2.mem ((c.tc : Thread Cert.MmNNRefIdeal.nD Cert.MmNNRefIdeal.τ).loc Cert.MmNNRefIdeal.main_arg1) = m' ((c.tc : Thread Cert.MmNNRefIdeal.nD Cert.MmNNRefIdeal.τ).loc Cert.MmNNRefIdeal.main_arg1))

def preserves_MmNT_MmNTIdeal : Prop :=
  True

def algebraic_MmNTIdeal_MmNTRefIdeal [hMmNTIdeal : Cert.MmNTIdeal.Facts] [hMmNTRefIdeal : Cert.MmNTRefIdeal.Facts] : Prop :=
  ∀ (m : (ℓ : Loc Cert.MmNTIdeal.nD Cert.MmNTIdeal.τ Cert.MmNTIdeal.sig) → Buf (Elt Ideal) ℓ) (g : Dev Cert.MmNTIdeal.nD → PrngReg)
    (m' : (ℓ : Loc Cert.MmNTRefIdeal.nD Cert.MmNTRefIdeal.τ Cert.MmNTRefIdeal.sig) → Buf (Elt Ideal) ℓ) (g' : Dev Cert.MmNTRefIdeal.nD → PrngReg), Pre_MmNTIdeal m →
    (∀ c : Dev Cert.MmNTIdeal.nD,
      m' ((c.tc : Thread Cert.MmNTRefIdeal.nD Cert.MmNTRefIdeal.τ).loc Cert.MmNTRefIdeal.main_arg0) = m ((c.tc : Thread Cert.MmNTIdeal.nD Cert.MmNTIdeal.τ).loc Cert.MmNTIdeal.main_arg0)
      ∧ m' ((c.tc : Thread Cert.MmNTRefIdeal.nD Cert.MmNTRefIdeal.τ).loc Cert.MmNTRefIdeal.main_arg1) = m ((c.tc : Thread Cert.MmNTIdeal.nD Cert.MmNTIdeal.τ).loc Cert.MmNTIdeal.main_arg1)) →
    ∃ (v0 : (c : Dev Cert.MmNTIdeal.nD) → Buf (Elt Ideal) ((c.tc : Thread Cert.MmNTIdeal.nD Cert.MmNTIdeal.τ).loc Cert.MmNTIdeal.main_v5)),
      θ_run (Cert.MmNTIdeal.defs (F := Ideal)) (onTc (τ := Cert.MmNTIdeal.τ) (Cert.MmNTIdeal.main (F := Ideal))) ⟨m, fun _ => 0, g⟩ (fun r => ∀ c : Dev Cert.MmNTIdeal.nD,
          r.2.mem ((c.tc : Thread Cert.MmNTIdeal.nD Cert.MmNTIdeal.τ).loc Cert.MmNTIdeal.main_v5) = v0 c
          ∧ r.2.mem ((c.tc : Thread Cert.MmNTIdeal.nD Cert.MmNTIdeal.τ).loc Cert.MmNTIdeal.main_arg0) = m ((c.tc : Thread Cert.MmNTIdeal.nD Cert.MmNTIdeal.τ).loc Cert.MmNTIdeal.main_arg0)
          ∧ r.2.mem ((c.tc : Thread Cert.MmNTIdeal.nD Cert.MmNTIdeal.τ).loc Cert.MmNTIdeal.main_arg1) = m ((c.tc : Thread Cert.MmNTIdeal.nD Cert.MmNTIdeal.τ).loc Cert.MmNTIdeal.main_arg1))
      ∧ θ_run (Cert.MmNTRefIdeal.defs (F := Ideal)) (onTc (τ := Cert.MmNTRefIdeal.τ) (Cert.MmNTRefIdeal.main (F := Ideal))) ⟨m', fun _ => 0, g'⟩ (fun r => ∀ c : Dev Cert.MmNTRefIdeal.nD,
          r.2.mem ((c.tc : Thread Cert.MmNTRefIdeal.nD Cert.MmNTRefIdeal.τ).loc Cert.MmNTRefIdeal.main_v3) = v0 c
          ∧ r.2.mem ((c.tc : Thread Cert.MmNTRefIdeal.nD Cert.MmNTRefIdeal.τ).loc Cert.MmNTRefIdeal.main_arg0) = m' ((c.tc : Thread Cert.MmNTRefIdeal.nD Cert.MmNTRefIdeal.τ).loc Cert.MmNTRefIdeal.main_arg0)
          ∧ r.2.mem ((c.tc : Thread Cert.MmNTRefIdeal.nD Cert.MmNTRefIdeal.τ).loc Cert.MmNTRefIdeal.main_arg1) = m' ((c.tc : Thread Cert.MmNTRefIdeal.nD Cert.MmNTRefIdeal.τ).loc Cert.MmNTRefIdeal.main_arg1))

def preserves_AdamL_AdamLIdeal : Prop :=
  True

def algebraic_AdamLIdeal_AdamLRefIdeal [hAdamLIdeal : Cert.AdamLIdeal.Facts] [hAdamLRefIdeal : Cert.AdamLRefIdeal.Facts] : Prop :=
  ∀ (m : (ℓ : Loc Cert.AdamLIdeal.nD Cert.AdamLIdeal.τ Cert.AdamLIdeal.sig) → Buf (Elt Ideal) ℓ) (g : Dev Cert.AdamLIdeal.nD → PrngReg)
    (m' : (ℓ : Loc Cert.AdamLRefIdeal.nD Cert.AdamLRefIdeal.τ Cert.AdamLRefIdeal.sig) → Buf (Elt Ideal) ℓ) (g' : Dev Cert.AdamLRefIdeal.nD → PrngReg), Pre_AdamLIdeal m →
    (∀ c : Dev Cert.AdamLIdeal.nD,
      m' ((c.tc : Thread Cert.AdamLRefIdeal.nD Cert.AdamLRefIdeal.τ).loc Cert.AdamLRefIdeal.main_arg0) = m ((c.tc : Thread Cert.AdamLIdeal.nD Cert.AdamLIdeal.τ).loc Cert.AdamLIdeal.main_arg0)
      ∧ m' ((c.tc : Thread Cert.AdamLRefIdeal.nD Cert.AdamLRefIdeal.τ).loc Cert.AdamLRefIdeal.main_arg1) = m ((c.tc : Thread Cert.AdamLIdeal.nD Cert.AdamLIdeal.τ).loc Cert.AdamLIdeal.main_arg1)
      ∧ m' ((c.tc : Thread Cert.AdamLRefIdeal.nD Cert.AdamLRefIdeal.τ).loc Cert.AdamLRefIdeal.main_arg2) = m ((c.tc : Thread Cert.AdamLIdeal.nD Cert.AdamLIdeal.τ).loc Cert.AdamLIdeal.main_arg2)
      ∧ m' ((c.tc : Thread Cert.AdamLRefIdeal.nD Cert.AdamLRefIdeal.τ).loc Cert.AdamLRefIdeal.main_arg3) = m ((c.tc : Thread Cert.AdamLIdeal.nD Cert.AdamLIdeal.τ).loc Cert.AdamLIdeal.main_arg3)
      ∧ m' ((c.tc : Thread Cert.AdamLRefIdeal.nD Cert.AdamLRefIdeal.τ).loc Cert.AdamLRefIdeal.main_arg4) = m ((c.tc : Thread Cert.AdamLIdeal.nD Cert.AdamLIdeal.τ).loc Cert.AdamLIdeal.main_arg4)) →
    ∃ (v0 : (c : Dev Cert.AdamLIdeal.nD) → Buf (Elt Ideal) ((c.tc : Thread Cert.AdamLIdeal.nD Cert.AdamLIdeal.τ).loc Cert.AdamLIdeal.main_v1_0)) (v1 : (c : Dev Cert.AdamLIdeal.nD) → Buf (Elt Ideal) ((c.tc : Thread Cert.AdamLIdeal.nD Cert.AdamLIdeal.τ).loc Cert.AdamLIdeal.main_v1_1)) (v2 : (c : Dev Cert.AdamLIdeal.nD) → Buf (Elt Ideal) ((c.tc : Thread Cert.AdamLIdeal.nD Cert.AdamLIdeal.τ).loc Cert.AdamLIdeal.main_v1_2)) (v3 : (c : Dev Cert.AdamLIdeal.nD) → Buf (Elt Ideal) ((c.tc : Thread Cert.AdamLIdeal.nD Cert.AdamLIdeal.τ).loc Cert.AdamLIdeal.main_v1_3)),
      θ_run (Cert.AdamLIdeal.defs (F := Ideal)) (onTc (τ := Cert.AdamLIdeal.τ) (Cert.AdamLIdeal.main (F := Ideal))) ⟨m, fun _ => 0, g⟩ (fun r => ∀ c : Dev Cert.AdamLIdeal.nD,
          r.2.mem ((c.tc : Thread Cert.AdamLIdeal.nD Cert.AdamLIdeal.τ).loc Cert.AdamLIdeal.main_v1_0) = v0 c
          ∧ r.2.mem ((c.tc : Thread Cert.AdamLIdeal.nD Cert.AdamLIdeal.τ).loc Cert.AdamLIdeal.main_v1_1) = v1 c
          ∧ r.2.mem ((c.tc : Thread Cert.AdamLIdeal.nD Cert.AdamLIdeal.τ).loc Cert.AdamLIdeal.main_v1_2) = v2 c
          ∧ r.2.mem ((c.tc : Thread Cert.AdamLIdeal.nD Cert.AdamLIdeal.τ).loc Cert.AdamLIdeal.main_v1_3) = v3 c
          ∧ r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
          ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
          ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
          ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3)
          ∧ r.2.mem ((c.tc : Thread Cert.AdamLIdeal.nD Cert.AdamLIdeal.τ).loc Cert.AdamLIdeal.main_arg4) = m ((c.tc : Thread Cert.AdamLIdeal.nD Cert.AdamLIdeal.τ).loc Cert.AdamLIdeal.main_arg4))
      ∧ θ_run (Cert.AdamLRefIdeal.defs (F := Ideal)) (onTc (τ := Cert.AdamLRefIdeal.τ) (Cert.AdamLRefIdeal.main (F := Ideal))) ⟨m', fun _ => 0, g'⟩ (fun r => ∀ c : Dev Cert.AdamLRefIdeal.nD,
          r.2.mem ((c.tc : Thread Cert.AdamLRefIdeal.nD Cert.AdamLRefIdeal.τ).loc Cert.AdamLRefIdeal.main_v2) = v0 c
          ∧ r.2.mem ((c.tc : Thread Cert.AdamLRefIdeal.nD Cert.AdamLRefIdeal.τ).loc Cert.AdamLRefIdeal.main_v26) = v1 c
          ∧ r.2.mem ((c.tc : Thread Cert.AdamLRefIdeal.nD Cert.AdamLRefIdeal.τ).loc Cert.AdamLRefIdeal.main_v7) = v2 c
          ∧ r.2.mem ((c.tc : Thread Cert.AdamLRefIdeal.nD Cert.AdamLRefIdeal.τ).loc Cert.AdamLRefIdeal.main_v13) = v3 c
          ∧ r.2.mem ((c.tc : Thread Cert.AdamLRefIdeal.nD Cert.AdamLRefIdeal.τ).loc Cert.AdamLRefIdeal.main_arg0) = m' ((c.tc : Thread Cert.AdamLRefIdeal.nD Cert.AdamLRefIdeal.τ).loc Cert.AdamLRefIdeal.main_arg0)
          ∧ r.2.mem ((c.tc : Thread Cert.AdamLRefIdeal.nD Cert.AdamLRefIdeal.τ).loc Cert.AdamLRefIdeal.main_arg1) = m' ((c.tc : Thread Cert.AdamLRefIdeal.nD Cert.AdamLRefIdeal.τ).loc Cert.AdamLRefIdeal.main_arg1)
          ∧ r.2.mem ((c.tc : Thread Cert.AdamLRefIdeal.nD Cert.AdamLRefIdeal.τ).loc Cert.AdamLRefIdeal.main_arg2) = m' ((c.tc : Thread Cert.AdamLRefIdeal.nD Cert.AdamLRefIdeal.τ).loc Cert.AdamLRefIdeal.main_arg2)
          ∧ r.2.mem ((c.tc : Thread Cert.AdamLRefIdeal.nD Cert.AdamLRefIdeal.τ).loc Cert.AdamLRefIdeal.main_arg3) = m' ((c.tc : Thread Cert.AdamLRefIdeal.nD Cert.AdamLRefIdeal.τ).loc Cert.AdamLRefIdeal.main_arg3)
          ∧ r.2.mem ((c.tc : Thread Cert.AdamLRefIdeal.nD Cert.AdamLRefIdeal.τ).loc Cert.AdamLRefIdeal.main_arg4) = m' ((c.tc : Thread Cert.AdamLRefIdeal.nD Cert.AdamLRefIdeal.τ).loc Cert.AdamLRefIdeal.main_arg4))

def Claim : Prop :=
  ∃ (hLoss : Cert.Loss.Facts) (hLossIdeal : Cert.LossIdeal.Facts) (hLossRefIdeal : Cert.LossRefIdeal.Facts) (hRelu2 : Cert.Relu2.Facts) (hRelu2Ideal : Cert.Relu2Ideal.Facts) (hRelu2RefIdeal : Cert.Relu2RefIdeal.Facts) (hRope : Cert.Rope.Facts) (hRopeIdeal : Cert.RopeIdeal.Facts) (hRopeRefIdeal : Cert.RopeRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hPostb : Cert.Postb.Facts) (hPostbIdeal : Cert.PostbIdeal.Facts) (hPostbRefIdeal : Cert.PostbRefIdeal.Facts) (hPre : Cert.Pre.Facts) (hPreIdeal : Cert.PreIdeal.Facts) (hPreRefIdeal : Cert.PreRefIdeal.Facts) (hTwin : Cert.Twin.Facts) (hTwinIdeal : Cert.TwinIdeal.Facts) (hTwinRefIdeal : Cert.TwinRefIdeal.Facts) (hLn : Cert.Ln.Facts) (hLnIdeal : Cert.LnIdeal.Facts) (hLnRefIdeal : Cert.LnRefIdeal.Facts) (hGlu : Cert.Glu.Facts) (hGluIdeal : Cert.GluIdeal.Facts) (hGluRefIdeal : Cert.GluRefIdeal.Facts) (hLat : Cert.Lat.Facts) (hLatIdeal : Cert.LatIdeal.Facts) (hLatRefIdeal : Cert.LatRefIdeal.Facts) (hAttnF : Cert.AttnF.Facts) (hAttnFIdeal : Cert.AttnFIdeal.Facts) (hAttnFRefIdeal : Cert.AttnFRefIdeal.Facts) (hPreF : Cert.PreF.Facts) (hPreFIdeal : Cert.PreFIdeal.Facts) (hPreFRefIdeal : Cert.PreFRefIdeal.Facts) (hGluF : Cert.GluF.Facts) (hGluFIdeal : Cert.GluFIdeal.Facts) (hGluFRefIdeal : Cert.GluFRefIdeal.Facts) (hConvF : Cert.ConvF.Facts) (hConvFIdeal : Cert.ConvFIdeal.Facts) (hConvFRefIdeal : Cert.ConvFRefIdeal.Facts) (hLnF : Cert.LnF.Facts) (hLnFIdeal : Cert.LnFIdeal.Facts) (hLnFRefIdeal : Cert.LnFRefIdeal.Facts) (hPostbPreF : Cert.PostbPreF.Facts) (hPostbPreFIdeal : Cert.PostbPreFIdeal.Facts) (hPostbPreFRefIdeal : Cert.PostbPreFRefIdeal.Facts) (hUpF : Cert.UpF.Facts) (hUpFIdeal : Cert.UpFIdeal.Facts) (hUpFRefIdeal : Cert.UpFRefIdeal.Facts) (hPostTwinF : Cert.PostTwinF.Facts) (hPostTwinFIdeal : Cert.PostTwinFIdeal.Facts) (hPostTwinFRefIdeal : Cert.PostTwinFRefIdeal.Facts) (hLatF : Cert.LatF.Facts) (hLatFIdeal : Cert.LatFIdeal.Facts) (hLatFRefIdeal : Cert.LatFRefIdeal.Facts) (hRopeF : Cert.RopeF.Facts) (hRopeFIdeal : Cert.RopeFIdeal.Facts) (hRopeFRefIdeal : Cert.RopeFRefIdeal.Facts) (hPostPreF : Cert.PostPreF.Facts) (hPostPreFIdeal : Cert.PostPreFIdeal.Facts) (hPostPreFRefIdeal : Cert.PostPreFRefIdeal.Facts) (hPostF : Cert.PostF.Facts) (hPostFIdeal : Cert.PostFIdeal.Facts) (hPostFRefIdeal : Cert.PostFRefIdeal.Facts) (hMmTN : Cert.MmTN.Facts) (hMmTNIdeal : Cert.MmTNIdeal.Facts) (hMmTNRefIdeal : Cert.MmTNRefIdeal.Facts) (hAdam : Cert.Adam.Facts) (hAdamIdeal : Cert.AdamIdeal.Facts) (hAdamRefIdeal : Cert.AdamRefIdeal.Facts) (hSilu : Cert.Silu.Facts) (hSiluIdeal : Cert.SiluIdeal.Facts) (hSiluRefIdeal : Cert.SiluRefIdeal.Facts) (hSumDev : Cert.SumDev.Facts) (hSumDevIdeal : Cert.SumDevIdeal.Facts) (hSumDevRefIdeal : Cert.SumDevRefIdeal.Facts) (hMmNN : Cert.MmNN.Facts) (hMmNNIdeal : Cert.MmNNIdeal.Facts) (hMmNNRefIdeal : Cert.MmNNRefIdeal.Facts) (hMmNT : Cert.MmNT.Facts) (hMmNTIdeal : Cert.MmNTIdeal.Facts) (hMmNTRefIdeal : Cert.MmNTRefIdeal.Facts) (hAdamL : Cert.AdamL.Facts) (hAdamLIdeal : Cert.AdamLIdeal.Facts) (hAdamLRefIdeal : Cert.AdamLRefIdeal.Facts) (hPre_attn_finite : Cert.Pre_attn_finite.Facts) (hPre_attnf_finite : Cert.Pre_attnf_finite.Facts),
    quiescent_Loss (hLoss := hLoss)
    ∧ quiescent_LossIdeal (hLossIdeal := hLossIdeal)
    ∧ quiescent_LossRefIdeal (hLossRefIdeal := hLossRefIdeal)
    ∧ quiescent_Relu2 (hRelu2 := hRelu2)
    ∧ quiescent_Relu2Ideal (hRelu2Ideal := hRelu2Ideal)
    ∧ quiescent_Relu2RefIdeal (hRelu2RefIdeal := hRelu2RefIdeal)
    ∧ quiescent_Rope (hRope := hRope)
    ∧ quiescent_RopeIdeal (hRopeIdeal := hRopeIdeal)
    ∧ quiescent_RopeRefIdeal (hRopeRefIdeal := hRopeRefIdeal)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Post (hPost := hPost)
    ∧ quiescent_PostIdeal (hPostIdeal := hPostIdeal)
    ∧ quiescent_PostRefIdeal (hPostRefIdeal := hPostRefIdeal)
    ∧ quiescent_Postb (hPostb := hPostb)
    ∧ quiescent_PostbIdeal (hPostbIdeal := hPostbIdeal)
    ∧ quiescent_PostbRefIdeal (hPostbRefIdeal := hPostbRefIdeal)
    ∧ quiescent_Pre (hPre := hPre)
    ∧ quiescent_PreIdeal (hPreIdeal := hPreIdeal)
    ∧ quiescent_PreRefIdeal (hPreRefIdeal := hPreRefIdeal)
    ∧ quiescent_Twin (hTwin := hTwin)
    ∧ quiescent_TwinIdeal (hTwinIdeal := hTwinIdeal)
    ∧ quiescent_TwinRefIdeal (hTwinRefIdeal := hTwinRefIdeal)
    ∧ quiescent_Ln (hLn := hLn)
    ∧ quiescent_LnIdeal (hLnIdeal := hLnIdeal)
    ∧ quiescent_LnRefIdeal (hLnRefIdeal := hLnRefIdeal)
    ∧ quiescent_Glu (hGlu := hGlu)
    ∧ quiescent_GluIdeal (hGluIdeal := hGluIdeal)
    ∧ quiescent_GluRefIdeal (hGluRefIdeal := hGluRefIdeal)
    ∧ quiescent_Lat (hLat := hLat)
    ∧ quiescent_LatIdeal (hLatIdeal := hLatIdeal)
    ∧ quiescent_LatRefIdeal (hLatRefIdeal := hLatRefIdeal)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_PreF (hPreF := hPreF)
    ∧ quiescent_PreFIdeal (hPreFIdeal := hPreFIdeal)
    ∧ quiescent_PreFRefIdeal (hPreFRefIdeal := hPreFRefIdeal)
    ∧ quiescent_GluF (hGluF := hGluF)
    ∧ quiescent_GluFIdeal (hGluFIdeal := hGluFIdeal)
    ∧ quiescent_GluFRefIdeal (hGluFRefIdeal := hGluFRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_LnF (hLnF := hLnF)
    ∧ quiescent_LnFIdeal (hLnFIdeal := hLnFIdeal)
    ∧ quiescent_LnFRefIdeal (hLnFRefIdeal := hLnFRefIdeal)
    ∧ quiescent_PostbPreF (hPostbPreF := hPostbPreF)
    ∧ quiescent_PostbPreFIdeal (hPostbPreFIdeal := hPostbPreFIdeal)
    ∧ quiescent_PostbPreFRefIdeal (hPostbPreFRefIdeal := hPostbPreFRefIdeal)
    ∧ quiescent_UpF (hUpF := hUpF)
    ∧ quiescent_UpFIdeal (hUpFIdeal := hUpFIdeal)
    ∧ quiescent_UpFRefIdeal (hUpFRefIdeal := hUpFRefIdeal)
    ∧ quiescent_PostTwinF (hPostTwinF := hPostTwinF)
    ∧ quiescent_PostTwinFIdeal (hPostTwinFIdeal := hPostTwinFIdeal)
    ∧ quiescent_PostTwinFRefIdeal (hPostTwinFRefIdeal := hPostTwinFRefIdeal)
    ∧ quiescent_LatF (hLatF := hLatF)
    ∧ quiescent_LatFIdeal (hLatFIdeal := hLatFIdeal)
    ∧ quiescent_LatFRefIdeal (hLatFRefIdeal := hLatFRefIdeal)
    ∧ quiescent_RopeF (hRopeF := hRopeF)
    ∧ quiescent_RopeFIdeal (hRopeFIdeal := hRopeFIdeal)
    ∧ quiescent_RopeFRefIdeal (hRopeFRefIdeal := hRopeFRefIdeal)
    ∧ quiescent_PostPreF (hPostPreF := hPostPreF)
    ∧ quiescent_PostPreFIdeal (hPostPreFIdeal := hPostPreFIdeal)
    ∧ quiescent_PostPreFRefIdeal (hPostPreFRefIdeal := hPostPreFRefIdeal)
    ∧ quiescent_PostF (hPostF := hPostF)
    ∧ quiescent_PostFIdeal (hPostFIdeal := hPostFIdeal)
    ∧ quiescent_PostFRefIdeal (hPostFRefIdeal := hPostFRefIdeal)
    ∧ quiescent_MmTN (hMmTN := hMmTN)
    ∧ quiescent_MmTNIdeal (hMmTNIdeal := hMmTNIdeal)
    ∧ quiescent_MmTNRefIdeal (hMmTNRefIdeal := hMmTNRefIdeal)
    ∧ quiescent_Adam (hAdam := hAdam)
    ∧ quiescent_AdamIdeal (hAdamIdeal := hAdamIdeal)
    ∧ quiescent_AdamRefIdeal (hAdamRefIdeal := hAdamRefIdeal)
    ∧ quiescent_Silu (hSilu := hSilu)
    ∧ quiescent_SiluIdeal (hSiluIdeal := hSiluIdeal)
    ∧ quiescent_SiluRefIdeal (hSiluRefIdeal := hSiluRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_MmNN (hMmNN := hMmNN)
    ∧ quiescent_MmNNIdeal (hMmNNIdeal := hMmNNIdeal)
    ∧ quiescent_MmNNRefIdeal (hMmNNRefIdeal := hMmNNRefIdeal)
    ∧ quiescent_MmNT (hMmNT := hMmNT)
    ∧ quiescent_MmNTIdeal (hMmNTIdeal := hMmNTIdeal)
    ∧ quiescent_MmNTRefIdeal (hMmNTRefIdeal := hMmNTRefIdeal)
    ∧ quiescent_AdamL (hAdamL := hAdamL)
    ∧ quiescent_AdamLIdeal (hAdamLIdeal := hAdamLIdeal)
    ∧ quiescent_AdamLRefIdeal (hAdamLRefIdeal := hAdamLRefIdeal)
    ∧ preserves_Loss_LossIdeal
    ∧ algebraic_LossIdeal_LossRefIdeal (hLossIdeal := hLossIdeal) (hLossRefIdeal := hLossRefIdeal)
    ∧ preserves_Relu2_Relu2Ideal
    ∧ algebraic_Relu2Ideal_Relu2RefIdeal (hRelu2Ideal := hRelu2Ideal) (hRelu2RefIdeal := hRelu2RefIdeal)
    ∧ preserves_Rope_RopeIdeal
    ∧ algebraic_RopeIdeal_RopeRefIdeal (hRopeIdeal := hRopeIdeal) (hRopeRefIdeal := hRopeRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Post_PostIdeal
    ∧ algebraic_PostIdeal_PostRefIdeal (hPostIdeal := hPostIdeal) (hPostRefIdeal := hPostRefIdeal)
    ∧ preserves_Postb_PostbIdeal
    ∧ algebraic_PostbIdeal_PostbRefIdeal (hPostbIdeal := hPostbIdeal) (hPostbRefIdeal := hPostbRefIdeal)
    ∧ preserves_Pre_PreIdeal
    ∧ algebraic_PreIdeal_PreRefIdeal (hPreIdeal := hPreIdeal) (hPreRefIdeal := hPreRefIdeal)
    ∧ preserves_Twin_TwinIdeal
    ∧ algebraic_TwinIdeal_TwinRefIdeal (hTwinIdeal := hTwinIdeal) (hTwinRefIdeal := hTwinRefIdeal)
    ∧ preserves_Ln_LnIdeal
    ∧ algebraic_LnIdeal_LnRefIdeal (hLnIdeal := hLnIdeal) (hLnRefIdeal := hLnRefIdeal)
    ∧ preserves_Glu_GluIdeal
    ∧ algebraic_GluIdeal_GluRefIdeal (hGluIdeal := hGluIdeal) (hGluRefIdeal := hGluRefIdeal)
    ∧ preserves_Lat_LatIdeal
    ∧ algebraic_LatIdeal_LatRefIdeal (hLatIdeal := hLatIdeal) (hLatRefIdeal := hLatRefIdeal)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_PreF_PreFIdeal
    ∧ algebraic_PreFIdeal_PreFRefIdeal (hPreFIdeal := hPreFIdeal) (hPreFRefIdeal := hPreFRefIdeal)
    ∧ preserves_GluF_GluFIdeal
    ∧ algebraic_GluFIdeal_GluFRefIdeal (hGluFIdeal := hGluFIdeal) (hGluFRefIdeal := hGluFRefIdeal)
    ∧ preserves_ConvF_ConvFIdeal
    ∧ algebraic_ConvFIdeal_ConvFRefIdeal (hConvFIdeal := hConvFIdeal) (hConvFRefIdeal := hConvFRefIdeal)
    ∧ preserves_LnF_LnFIdeal
    ∧ algebraic_LnFIdeal_LnFRefIdeal (hLnFIdeal := hLnFIdeal) (hLnFRefIdeal := hLnFRefIdeal)
    ∧ preserves_PostbPreF_PostbPreFIdeal
    ∧ algebraic_PostbPreFIdeal_PostbPreFRefIdeal (hPostbPreFIdeal := hPostbPreFIdeal) (hPostbPreFRefIdeal := hPostbPreFRefIdeal)
    ∧ preserves_UpF_UpFIdeal
    ∧ algebraic_UpFIdeal_UpFRefIdeal (hUpFIdeal := hUpFIdeal) (hUpFRefIdeal := hUpFRefIdeal)
    ∧ preserves_PostTwinF_PostTwinFIdeal
    ∧ algebraic_PostTwinFIdeal_PostTwinFRefIdeal (hPostTwinFIdeal := hPostTwinFIdeal) (hPostTwinFRefIdeal := hPostTwinFRefIdeal)
    ∧ preserves_LatF_LatFIdeal
    ∧ algebraic_LatFIdeal_LatFRefIdeal (hLatFIdeal := hLatFIdeal) (hLatFRefIdeal := hLatFRefIdeal)
    ∧ preserves_RopeF_RopeFIdeal
    ∧ algebraic_RopeFIdeal_RopeFRefIdeal (hRopeFIdeal := hRopeFIdeal) (hRopeFRefIdeal := hRopeFRefIdeal)
    ∧ preserves_PostPreF_PostPreFIdeal
    ∧ algebraic_PostPreFIdeal_PostPreFRefIdeal (hPostPreFIdeal := hPostPreFIdeal) (hPostPreFRefIdeal := hPostPreFRefIdeal)
    ∧ preserves_PostF_PostFIdeal
    ∧ algebraic_PostFIdeal_PostFRefIdeal (hPostFIdeal := hPostFIdeal) (hPostFRefIdeal := hPostFRefIdeal)
    ∧ preserves_MmTN_MmTNIdeal
    ∧ algebraic_MmTNIdeal_MmTNRefIdeal (hMmTNIdeal := hMmTNIdeal) (hMmTNRefIdeal := hMmTNRefIdeal)
    ∧ preserves_Adam_AdamIdeal
    ∧ algebraic_AdamIdeal_AdamRefIdeal (hAdamIdeal := hAdamIdeal) (hAdamRefIdeal := hAdamRefIdeal)
    ∧ preserves_Silu_SiluIdeal
    ∧ algebraic_SiluIdeal_SiluRefIdeal (hSiluIdeal := hSiluIdeal) (hSiluRefIdeal := hSiluRefIdeal)
    ∧ preserves_SumDev_SumDevIdeal
    ∧ algebraic_SumDevIdeal_SumDevRefIdeal (hSumDevIdeal := hSumDevIdeal) (hSumDevRefIdeal := hSumDevRefIdeal)
    ∧ preserves_MmNN_MmNNIdeal
    ∧ algebraic_MmNNIdeal_MmNNRefIdeal (hMmNNIdeal := hMmNNIdeal) (hMmNNRefIdeal := hMmNNRefIdeal)
    ∧ preserves_MmNT_MmNTIdeal
    ∧ algebraic_MmNTIdeal_MmNTRefIdeal (hMmNTIdeal := hMmNTIdeal) (hMmNTRefIdeal := hMmNTRefIdeal)
    ∧ preserves_AdamL_AdamLIdeal
    ∧ algebraic_AdamLIdeal_AdamLRefIdeal (hAdamLIdeal := hAdamLIdeal) (hAdamLRefIdeal := hAdamLRefIdeal)
-- ==== Pre_attn_finite.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S_ : Shape := ⟨0, ![]⟩

class Facts : Prop where
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel
  bcast_S_S1x2048x16x64 : S_.BroadcastsInDim S1x2048x16x64 (![] : Fin 0 → Fin S1x2048x16x64.rank)
  reducesTo_S1x2048x16x64_S_d0_1_2_3 : S1x2048x16x64.ReducesTo [0, 1, 2, 3] S_
  bcast_S_S1x2048x64 : S_.BroadcastsInDim S1x2048x64 (![] : Fin 0 → Fin S1x2048x64.rank)
  reducesTo_S1x2048x64_S_d0_1_2 : S1x2048x64.ReducesTo [0, 1, 2] S_

variable [Facts]

def fn_part1 {F : FTy → Type} [FloatOps F] (main_arg4 : FVec F S1x2048x16x128 .f32) (main_arg5 : FVec F S1x2048x16x128 .f32) (main_v13 : IVec S_ 1) (main_v16 : IVec S1x2048x64 1) : IVec S_ 1 :=
  let main_c_5 : IVec S_ 1 := constantI S_ 1 1#1
  let main_v17 : IVec S_ 1 := (fun x v => Host.reduce IntOp.andi x v reducesTo_S1x2048x64_S_d0_1_2 h_S_) main_v16 main_c_5
  let main_v18 : IVec S_ 1 := andi main_v13 main_v17
  let main_v19 : FVec F S1x2048x16x128 .f32 := Host.absf main_arg4
  let main_cst_6 : FVec F S_ .f32 := constant S_ .f32 0x7F800000#32
  let main_v20 : FVec F S1x2048x16x128 .f32 := broadcastInDim S1x2048x16x128 ![] bcast_S_S1x2048x16x128 main_cst_6
  let main_v21 : IVec S1x2048x16x128 1 := cmpf .olt main_v19 main_v20
  let main_c_7 : IVec S_ 1 := constantI S_ 1 1#1
  let main_v22 : IVec S_ 1 := (fun x v => Host.reduce IntOp.andi x v reducesTo_S1x2048x16x128_S_d0_1_2_3 h_S_) main_v21 main_c_7
  let main_v23 : IVec S_ 1 := andi main_v18 main_v22
  let main_v24 : FVec F S1x2048x16x128 .f32 := Host.absf main_arg5
  let main_cst_8 : FVec F S_ .f32 := constant S_ .f32 0x7F800000#32
  let main_v25 : FVec F S1x2048x16x128 .f32 := broadcastInDim S1x2048x16x128 ![] bcast_S_S1x2048x16x128 main_cst_8
  let main_v26 : IVec S1x2048x16x128 1 := cmpf .olt main_v24 main_v25
  let main_c_9 : IVec S_ 1 := constantI S_ 1 1#1
  let main_v27 : IVec S_ 1 := (fun x v => Host.reduce IntOp.andi x v reducesTo_S1x2048x16x128_S_d0_1_2_3 h_S_) main_v26 main_c_9
  let main_v28 : IVec S_ 1 := andi main_v23 main_v27
  main_v28

def fn {F : FTy → Type} [FloatOps F] (main_arg0 : FVec F S1x2048x16x128 .f32) (main_arg1 : FVec F S1x2048x16x64 .f32) (main_arg2 : FVec F S1x2048x16x128 .f32) (main_arg3 : FVec F S1x2048x64 .f32) (main_arg4 : FVec F S1x2048x16x128 .f32) (main_arg5 : FVec F S1x2048x16x128 .f32) : IVec S_ 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_c : IVec S_ 1 := constantI S_ 1 1#1
  let main_v3 : IVec S_ 1 := (fun x v => Host.reduce IntOp.andi x v reducesTo_S1x2048x16x128_S_d0_1_2_3 h_S_) main_v2 main_c
  let main_v4 : FVec F S1x2048x16x64 .f32 := Host.absf main_arg1
  let main_cst_0 : FVec F S_ .f32 := constant S_ .f32 0x7F800000#32
  let main_v5 : FVec F S1x2048x16x64 .f32 := broadcastInDim S1x2048x16x64 ![] bcast_S_S1x2048x16x64 main_cst_0
  let main_v6 : IVec S1x2048x16x64 1 := cmpf .olt main_v4 main_v5
  let main_c_1 : IVec S_ 1 := constantI S_ 1 1#1
  let main_v7 : IVec S_ 1 := (fun x v => Host.reduce IntOp.andi x v reducesTo_S1x2048x16x64_S_d0_1_2_3 h_S_) main_v6 main_c_1
  let main_v8 : IVec S_ 1 := andi main_v3 main_v7
  let main_v9 : FVec F S1x2048x16x128 .f32 := Host.absf main_arg2
  let main_cst_2 : FVec F S_ .f32 := constant S_ .f32 0x7F800000#32
  let main_v10 : FVec F S1x2048x16x128 .f32 := broadcastInDim S1x2048x16x128 ![] bcast_S_S1x2048x16x128 main_cst_2
  let main_v11 : IVec S1x2048x16x128 1 := cmpf .olt main_v9 main_v10
  let main_c_3 : IVec S_ 1 := constantI S_ 1 1#1
  let main_v12 : IVec S_ 1 := (fun x v => Host.reduce IntOp.andi x v reducesTo_S1x2048x16x128_S_d0_1_2_3 h_S_) main_v11 main_c_3
  let main_v13 : IVec S_ 1 := andi main_v8 main_v12
  let main_v14 : FVec F S1x2048x64 .f32 := Host.absf main_arg3
  let main_cst_4 : FVec F S_ .f32 := constant S_ .f32 0x7F800000#32
  let main_v15 : FVec F S1x2048x64 .f32 := broadcastInDim S1x2048x64 ![] bcast_S_S1x2048x64 main_cst_4
  let main_v16 : IVec S1x2048x64 1 := cmpf .olt main_v14 main_v15
  fn_part1 (F := F) main_arg4 main_arg5 main_v13 main_v16
-- ==== Pre_attnf_finite.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S_ : Shape := ⟨0, ![]⟩

class Facts : Prop where
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel
  bcast_S_S1x2048x16x64 : S_.BroadcastsInDim S1x2048x16x64 (![] : Fin 0 → Fin S1x2048x16x64.rank)
  reducesTo_S1x2048x16x64_S_d0_1_2_3 : S1x2048x16x64.ReducesTo [0, 1, 2, 3] S_
  bcast_S_S1x2048x64 : S_.BroadcastsInDim S1x2048x64 (![] : Fin 0 → Fin S1x2048x64.rank)
  reducesTo_S1x2048x64_S_d0_1_2 : S1x2048x64.ReducesTo [0, 1, 2] S_

variable [Facts]

def fn_part1 {F : FTy → Type} [FloatOps F] (main_v13 : IVec S_ 1) (main_v16 : IVec S1x2048x64 1) : IVec S_ 1 :=
  let main_c_5 : IVec S_ 1 := constantI S_ 1 1#1
  let main_v17 : IVec S_ 1 := (fun x v => Host.reduce IntOp.andi x v reducesTo_S1x2048x64_S_d0_1_2 h_S_) main_v16 main_c_5
  let main_v18 : IVec S_ 1 := andi main_v13 main_v17
  main_v18

def fn {F : FTy → Type} [FloatOps F] (main_arg0 : FVec F S1x2048x16x128 .f32) (main_arg1 : FVec F S1x2048x16x64 .f32) (main_arg2 : FVec F S1x2048x16x128 .f32) (main_arg3 : FVec F S1x2048x64 .f32) (main_arg4 : FVec F S1x2048x16x128 .f32) : IVec S_ 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_c : IVec S_ 1 := constantI S_ 1 1#1
  let main_v3 : IVec S_ 1 := (fun x v => Host.reduce IntOp.andi x v reducesTo_S1x2048x16x128_S_d0_1_2_3 h_S_) main_v2 main_c
  let main_v4 : FVec F S1x2048x16x64 .f32 := Host.absf main_arg1
  let main_cst_0 : FVec F S_ .f32 := constant S_ .f32 0x7F800000#32
  let main_v5 : FVec F S1x2048x16x64 .f32 := broadcastInDim S1x2048x16x64 ![] bcast_S_S1x2048x16x64 main_cst_0
  let main_v6 : IVec S1x2048x16x64 1 := cmpf .olt main_v4 main_v5
  let main_c_1 : IVec S_ 1 := constantI S_ 1 1#1
  let main_v7 : IVec S_ 1 := (fun x v => Host.reduce IntOp.andi x v reducesTo_S1x2048x16x64_S_d0_1_2_3 h_S_) main_v6 main_c_1
  let main_v8 : IVec S_ 1 := andi main_v3 main_v7
  let main_v9 : FVec F S1x2048x16x128 .f32 := Host.absf main_arg2
  let main_cst_2 : FVec F S_ .f32 := constant S_ .f32 0x7F800000#32
  let main_v10 : FVec F S1x2048x16x128 .f32 := broadcastInDim S1x2048x16x128 ![] bcast_S_S1x2048x16x128 main_cst_2
  let main_v11 : IVec S1x2048x16x128 1 := cmpf .olt main_v9 main_v10
  let main_c_3 : IVec S_ 1 := constantI S_ 1 1#1
  let main_v12 : IVec S_ 1 := (fun x v => Host.reduce IntOp.andi x v reducesTo_S1x2048x16x128_S_d0_1_2_3 h_S_) main_v11 main_c_3
  let main_v13 : IVec S_ 1 := andi main_v8 main_v12
  let main_v14 : FVec F S1x2048x64 .f32 := Host.absf main_arg3
  let main_cst_4 : FVec F S_ .f32 := constant S_ .f32 0x7F800000#32
  let main_v15 : FVec F S1x2048x64 .f32 := broadcastInDim S1x2048x64 ![] bcast_S_S1x2048x64 main_cst_4
  let main_v16 : IVec S1x2048x64 1 := cmpf .olt main_v14 main_v15
  fn_part1 (F := F) main_v13 main_v16
-- ==== Loss.lean ====
abbrev S1x2048x2048 : Shape := ⟨3, ![1, 2048, 2048]⟩
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x2048x2048 : Shape := ⟨3, ![1, 2048, 2048]⟩
abbrev S_ : Shape := ⟨0, ![]⟩
abbrev S1x2048 : Shape := ⟨2, ![1, 2048]⟩
abbrev S2048x2048 : Shape := ⟨2, ![2048, 2048]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S_, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048x2048, .f32⟩
  | .hbm, ⟨24, _⟩ => ⟨S1x2048x2048, .f32⟩
  | .hbm, ⟨25, _⟩ => ⟨S2048x2048, .f32⟩
  | .hbm, ⟨26, _⟩ => ⟨S1x1, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Relu2.lean ====
abbrev S1x2048x2048 : Shape := ⟨3, ![1, 2048, 2048]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1x2048x512 : Shape := ⟨3, ![1, 2048, 512]⟩
abbrev S2048x512 : Shape := ⟨2, ![2048, 512]⟩
abbrev S512x2048 : Shape := ⟨2, ![512, 2048]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S8192x2048, .f32⟩
  | .hbm, ⟨3, _⟩ => ⟨S1x2048x2048, .f32⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S2048x2048, .f32⟩
  | .hbm, ⟨8, _⟩ => ⟨S2048x2048, .bf16⟩
  | .hbm, ⟨9, _⟩ => ⟨S2048x8192, .bf16⟩
  | .hbm, ⟨10, _⟩ => ⟨S2048x2048, .f32⟩
  | .hbm, ⟨11, _⟩ => ⟨S2048x2048, .bf16⟩
  | .hbm, ⟨12, _⟩ => ⟨S8192x2048, .bf16⟩
  | .hbm, ⟨13, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== Relu2RefIdeal.lean ====
abbrev S1x2048x2048 : Shape := ⟨3, ![1, 2048, 2048]⟩
abbrev S2048x8192 : Shape := ⟨2, ![2048, 8192]⟩
abbrev S8192x2048 : Shape := ⟨2, ![8192, 2048]⟩
abbrev S1x2048x8192 : Shape := ⟨3, ![1, 2048, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S8192x2048, .f32⟩
  | .hbm, ⟨3, _⟩ => ⟨S1x2048x2048, .f32⟩
  | .hbm, ⟨4, _⟩ => ⟨S1x2048x8192, .f32⟩
  | .hbm, ⟨5, _⟩ => ⟨S_, .f32⟩
  | .hbm, ⟨6, _⟩ => ⟨S1x2048x8192, .f32⟩
  | .hbm, ⟨7, _⟩ => ⟨S1x2048x8192, .f32⟩
  | .hbm, ⟨8, _⟩ => ⟨S_, .f32⟩
  | .hbm, ⟨9, _⟩ => ⟨S1x2048x8192, .f32⟩
  | .hbm, ⟨10, _⟩ => ⟨S1x2048x8192, .i1⟩
  | .hbm, ⟨11, _⟩ => ⟨S_, .f32⟩
  | .hbm, ⟨12, _⟩ => ⟨S1x2048x8192, .f32⟩
  | .hbm, ⟨13, _⟩ => ⟨S1x2048x8192, .f32⟩
  | .hbm, ⟨14, _⟩ => ⟨S_, .f32⟩
  | .hbm, ⟨15, _⟩ => ⟨S1x2048x8192, .f32⟩
  | .hbm, ⟨16, _⟩ => ⟨S1x2048x8192, .f32⟩
  | .hbm, ⟨17, _⟩ => ⟨S1x2048x2048, .f32⟩
  | .hbm, ⟨18, _⟩ => ⟨S1x2048x8192, .f32⟩
  | .hbm, ⟨19, _⟩ => ⟨S1x2048x8192, .f32⟩
  | .hbm, ⟨20, _⟩ => ⟨S_, .f32⟩
  | .hbm, ⟨21, _⟩ => ⟨S1x2048x8192, .f32⟩
  | .hbm, ⟨22, _⟩ => ⟨S1x2048x8192, .f32⟩
  | .hbm, ⟨23, _⟩ => ⟨S2048x8192, .f32⟩
  | .hbm, ⟨24, _⟩ => ⟨S2048x8192, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Rope.lean ====
abbrev S1x2048 : Shape := ⟨2, ![1, 2048]⟩
abbrev S1x2048x16x64 : Shape := ⟨4, ![1, 2048, 16, 64]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S2048x1 : Shape := ⟨2, ![2048, 1]⟩
abbrev S2048x128 : Shape := ⟨2, ![2048, 128]⟩
abbrev S2048x1024 : Shape := ⟨2, ![2048, 1024]⟩
abbrev S256x1024 : Shape := ⟨2, ![256, 1024]⟩
abbrev S256x128 : Shape := ⟨2, ![256, 128]⟩

abbrev nBuf : Space → Nat
  | .hbm => 39
  | .vmem => 15
  | .smem => 0
  | _ => 0

abbrev bufTy : (tb : Table) → Fin (tcTables nBuf tb) → BufTy
  | .hbm, ⟨0, _⟩ => ⟨S1x2048, .i32⟩
  | .hbm, ⟨1, _⟩ => ⟨S1x2048x16x64, .f32⟩
  | .hbm, ⟨2, _⟩ => ⟨S1x2048x16x64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S2048x1, .i32⟩
  | .hbm, ⟨34, _⟩ => ⟨S2048x128, .f32⟩
  | .hbm, ⟨35, _⟩ => ⟨S2048x128, .f32⟩
  | .hbm, ⟨36, _⟩ => ⟨S2048x1024, .f32⟩
  | .hbm, ⟨37, _⟩ => ⟨S2048x1024, .f32⟩
  | .hbm, ⟨38, _⟩ => ⟨S2048x1024, .bf16⟩
  | .local _ .vmem, ⟨0, _⟩ => ⟨S2048x1, .i32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== RopeRefIdeal.lean ====
abbrev S1x2048 : Shape := ⟨2, ![1, 2048]⟩
abbrev S1x2048x16x64 : Shape := ⟨4, ![1, 2048, 16, 64]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x16x32 : Shape := ⟨4, ![1, 2048, 16, 32]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S1x2048x16x64, .f32⟩
  | .hbm, ⟨2, _⟩ => ⟨S1x2048x16x64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x2048, .f32⟩
  | .hbm, ⟨20, _⟩ => ⟨S1x2048x1, .f32⟩
  | .hbm, ⟨21, _⟩ => ⟨S1x1x32, .f32⟩
  | .hbm, ⟨22, _⟩ => ⟨S1x2048x32, .f32⟩
  | .hbm, ⟨23, _⟩ => ⟨S1x2048x32, .f32⟩
  | .hbm, ⟨24, _⟩ => ⟨S1x2048x32, .f32⟩
  | .hbm, ⟨25, _⟩ => ⟨S1x2048x32, .f32⟩
  | .hbm, ⟨26, _⟩ => ⟨S1x2048x32, .f32⟩
  | .hbm, ⟨27, _⟩ => ⟨S1x2048x1x32, .f32⟩
  | .hbm, ⟨28, _⟩ => ⟨S1x2048x1x32, .f32⟩
  | .hbm, ⟨29, _⟩ => ⟨S1x2048x16x32, .f32⟩
  | .hbm, ⟨30, _⟩ => ⟨S1x2048x16x32, .f32⟩
  | .hbm, ⟨31, _⟩ => ⟨S1x2048x16x32, .f32⟩
  | .hbm, ⟨32, _⟩ => ⟨S1x2048x16x32, .f32⟩
  | .hbm, ⟨33, _⟩ => ⟨S1x2048x16x32, .f32⟩
  | .hbm, ⟨34, _⟩ => ⟨S1x2048x16x32, .f32⟩
  | .hbm, ⟨35, _⟩ => ⟨S1x2048x16x32, .f32⟩
  | .hbm, ⟨36, _⟩ => ⟨S1x2048x16x32, .f32⟩
  | .hbm, ⟨37, _⟩ => ⟨S1x2048x16x32, .f32⟩
  | .hbm, ⟨38, _⟩ => ⟨S1x2048x16x32, .f32⟩
  | .hbm, ⟨39, _⟩ => ⟨S1x2048x16x32, .f32⟩
  | .hbm, ⟨40, _⟩ => ⟨S1x2048x16x32, .f32⟩
  | .hbm, ⟨41, _⟩ => ⟨S1x2048x16x64, .f32⟩
  | .hbm, ⟨42, _⟩ => ⟨S1x2048x16x32, .f32⟩
  | .hbm, ⟨43, _⟩ => ⟨S1x2048x16x32, .f32⟩
  | .hbm, ⟨44, _⟩ => ⟨S1x2048x16x32, .f32⟩
  | .hbm, ⟨45, _⟩ => ⟨S1x2048x16x32, .f32⟩
  | .hbm, ⟨46, _⟩ => ⟨S1x2048x16x32, .f32⟩
  | .hbm, ⟨47, _⟩ => ⟨S1x2048x16x32, .f32⟩
  | .hbm, ⟨48, _⟩ => ⟨S1x2048x16x32, .f32⟩
  | .hbm, ⟨49, _⟩ => ⟨S1x2048x16x32, .f32⟩
  | .hbm, ⟨50, _⟩ => ⟨S1x2048x16x32, .f32⟩
  | .hbm, ⟨51, _⟩ => ⟨S1x2048x16x32, .f32⟩
  | .hbm, ⟨52, _⟩ => ⟨S1x2048x16x32, .f32⟩
  | .hbm, ⟨53, _⟩ => ⟨S1x2048x16x32, .f32⟩
  | .hbm, ⟨54, _⟩ => ⟨S1x2048x16x32, .f32⟩
  | .hbm, ⟨55, _⟩ => ⟨S1x2048x16x64, .f32⟩
  | .hbm, ⟨56, _⟩ => ⟨S2048x1024, .f32⟩
  | .hbm, ⟨57, _⟩ => ⟨S2048x1024, .bf16⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Conv.lean ====
abbrev S1x2048x2048 : Shape := ⟨3, ![1, 2048, 2048]⟩
abbrev S31x2048 : Shape := ⟨2, ![31, 2048]⟩
abbrev S2048x2048 : Shape := ⟨2, ![2048, 2048]⟩
abbrev S32x2048 : Shape := ⟨2, ![32, 2048]⟩
abbrev S2048x128 : Shape := ⟨2, ![2048, 128]⟩
abbrev S31x128 : Shape := ⟨2, ![31, 128]⟩
abbrev S32x128 : Shape := ⟨2, ![32, 128]⟩
abbrev S2080x128 : Shape := ⟨2, ![2080, 128]⟩
abbrev S256x128 : Shape := ⟨2, ![256, 128]⟩
abbrev S1x128 : Shape := ⟨2, ![1, 128]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S31x2048, .f32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S32x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S32x128, .f32⟩
  | .local _ .vmem, ⟨9, _⟩ => ⟨S32x128, .f32⟩
  | .local _ .vmem, ⟨10, _⟩ => ⟨S2080x128, .f32⟩
  | .local _ .vmem, ⟨11, _⟩ => ⟨S2080x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S1x2048x2048 : Shape := ⟨3, ![1, 2048, 2048]⟩
abbrev S31x2048 : Shape := ⟨2, ![31, 2048]⟩
abbrev S2048x2048 : Shape := ⟨2, ![2048, 2048]⟩
abbrev S_ : Shape := ⟨0, ![]⟩
abbrev S2048 : Shape := ⟨1, ![2048]⟩
abbrev S31x2048x2048 : Shape := ⟨3, ![31, 2048, 2048]⟩
abbrev S31x1x2048 : Shape := ⟨3, ![31, 1, 2048]⟩
abbrev S1x2048 : Shape := ⟨2, ![1, 2048]⟩
abbrev S32x2048 : Shape := ⟨2, ![32, 2048]⟩

abbrev nBuf : Space → Nat
  | .hbm => 47
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S31x2048, .f32⟩
  | .hbm, ⟨2, _⟩ => ⟨S1x2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S31x2048x2048, .i32⟩
  | .hbm, ⟨7, _⟩ => ⟨S31x2048x2048, .i32⟩
  | .hbm, ⟨8, _⟩ => ⟨S31x2048x2048, .i32⟩
  | .hbm, ⟨9, _⟩ => ⟨S_, .i32⟩
  | .hbm, ⟨10, _⟩ => ⟨S31x2048x2048, .i32⟩
  | .hbm, ⟨11, _⟩ => ⟨S31x2048x2048, .i32⟩
  | .hbm, ⟨12, _⟩ => ⟨S31x2048x2048, .i32⟩
  | .hbm, ⟨13, _⟩ => ⟨S31x2048x2048, .i1⟩
  | .hbm, ⟨14, _⟩ => ⟨S_, .f32⟩
  | .hbm, ⟨15, _⟩ => ⟨S_, .f32⟩
  | .hbm, ⟨16, _⟩ => ⟨S31x2048x2048, .f32⟩
  | .hbm, ⟨17, _⟩ => ⟨S31x2048x2048, .f32⟩
  | .hbm, ⟨18, _⟩ => ⟨S31x2048x2048, .f32⟩
  | .hbm, ⟨19, _⟩ => ⟨S31x2048x2048, .f32⟩
  | .hbm, ⟨20, _⟩ => ⟨S31x1x2048, .f32⟩
  | .hbm, ⟨21, _⟩ => ⟨S31x2048x2048, .f32⟩
  | .hbm, ⟨22, _⟩ => ⟨S31x2048x2048, .f32⟩
  | .hbm, ⟨23, _⟩ => ⟨S_, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S_, .f32⟩
  | .hbm, ⟨33, _⟩ => ⟨S2048, .f32⟩
  | .hbm, ⟨34, _⟩ => ⟨S31x2048x2048, .f32⟩
  | .hbm, ⟨35, _⟩ => ⟨S31x2048x2048, .f32⟩
  | .hbm, ⟨36, _⟩ => ⟨S_, .f32⟩
  | .hbm, ⟨37, _⟩ => ⟨S31x2048, .f32⟩
  | .hbm, ⟨38, _⟩ => ⟨S31x1x2048, .f32⟩
  | .hbm, ⟨39, _⟩ => ⟨S31x2048x2048, .f32⟩
  | .hbm, ⟨40, _⟩ => ⟨S31x2048x2048, .f32⟩
  | .hbm, ⟨41, _⟩ => ⟨S_, .f32⟩
  | .hbm, ⟨42, _⟩ => ⟨S31x2048, .f32⟩
  | .hbm, ⟨43, _⟩ => ⟨S2048x2048, .f32⟩
  | .hbm, ⟨44, _⟩ => ⟨S2048x2048, .f32⟩
  | .hbm, ⟨45, _⟩ => ⟨S1x2048, .f32⟩
  | .hbm, ⟨46, _⟩ => ⟨S32x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Attn.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S2048x64 : Shape := ⟨2, ![2048, 64]⟩
abbrev S_ : Shape := ⟨0, ![]⟩
abbrev S2048x128 : Shape := ⟨2, ![2048, 128]⟩
abbrev S2048x2048 : Shape := ⟨2, ![2048, 2048]⟩
abbrev S2048x1024 : Shape := ⟨2, ![2048, 1024]⟩
abbrev S2048x256 : Shape := ⟨2, ![2048, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S512x256 : Shape := ⟨2, ![512, 256]⟩
abbrev S512x128 : Shape := ⟨2, ![512, 128]⟩
abbrev S256x512 : Shape := ⟨2, ![256, 512]⟩
abbrev S768x256 : Shape := ⟨2, ![768, 256]⟩
abbrev S768x128 : Shape := ⟨2, ![768, 128]⟩
abbrev S256x768 : Shape := ⟨2, ![256, 768]⟩
abbrev S1024x256 : Shape := ⟨2, ![1024, 256]⟩
abbrev S1024x128 : Shape := ⟨2, ![1024, 128]⟩
abbrev S256x1024 : Shape := ⟨2, ![256, 1024]⟩
abbrev S1280x256 : Shape := ⟨2, ![1280, 256]⟩
abbrev S1280x128 : Shape := ⟨2, ![1280, 128]⟩
abbrev S256x1280 : Shape := ⟨2, ![256, 1280]⟩
abbrev S1536x256 : Shape := ⟨2, ![1536, 256]⟩
abbrev S1536x128 : Shape := ⟨2, ![1536, 128]⟩
abbrev S256x1536 : Shape := ⟨2, ![256, 1536]⟩
abbrev S1792x256 : Shape := ⟨2, ![1792, 256]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 26
  | .vmem => 23
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x64, .f32⟩
  | .hbm, ⟨2, _⟩ => ⟨S1x2048x16x128, .f32⟩
  | .hbm, ⟨3, _⟩ => ⟨S1x2048x64, .f32⟩
  | .hbm, ⟨4, _⟩ => ⟨S1x2048x16x128, .f32⟩
  | .hbm, ⟨5, _⟩ => ⟨S1x2048x16x128, .f32⟩
  | .hbm, ⟨6, _⟩ => ⟨S2048x64, .f32⟩
  | .hbm, ⟨7, _⟩ => ⟨S2048x64, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S2048x2048, .f32⟩
  | .hbm, ⟨12, _⟩ => ⟨S2048x2048, .bf16⟩
  | .hbm, ⟨13, _⟩ => ⟨S2048x1024, .f32⟩
  | .hbm, ⟨14, _⟩ => ⟨S2048x1024, .bf16⟩
  | .hbm, ⟨15, _⟩ => ⟨S2048x2048, .f32⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .bf16⟩
  | .hbm, ⟨22, _⟩ => ⟨S2048x1024, .f32⟩
  | .hbm, ⟨23, _⟩ => ⟨S2048x2048, .bf16⟩
  | .hbm, ⟨24, _⟩ => ⟨S2048x2048, .bf16⟩
  | .hbm, ⟨25, _⟩ => ⟨S2048x128, .f32⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x128, .f32⟩
  | .local _ .vmem, ⟨14, _⟩ => ⟨S2048x128, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x128, .f32⟩
  | .local _ .vmem, ⟨20, _⟩ => ⟨S2048x256, .f32⟩
  | .local _ .vmem, ⟨21, _⟩ => ⟨S2048x256, .f32⟩
  | .local _ .vmem, ⟨22, _⟩ => ⟨S2048x128, .f32⟩
  | _, _ => ⟨S1x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1910 : BitVec 1 := Scalar.cmpi .eq arg0 c0_i32
  let v1911 : BitVec 32 := Scalar.extui v1910
  let c0_i32_667 : BitVec 32 := 0#32
  let v1912 : BitVec 1 := Scalar.cmpi .ne v1911 c0_i32_667
  v1912

def k0_cond2 (i : grid0.Coords) : BitVec 1 :=
  let arg0 : BitVec 32 := BitVec.ofNat 32 (i 0).val
  let c0_i32 : BitVec 32 := 0#32
  let v1910 : BitVec 1 := Scalar.cmpi .eq arg0 c0_i32
  let v_true : BitVec 1 := 1#1
  let v1913 : BitVec 1 := Scalar.xori v1910 v_true
  let v1914 : BitVec 32 := Scalar.extui v1913
  let c0_i32_668 : BitVec 32 := 0#32
  let v1915 : BitVec 1 := Scalar.cmpi .ne v1914 c0_i32_668
  v1915

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S1x16x2048x2048 : Shape := ⟨4, ![1, 16, 2048, 2048]⟩
abbrev S1x2048x2048x16 : Shape := ⟨4, ![1, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩
abbrev S16x2048 : Shape := ⟨2, ![16, 2048]⟩
abbrev S1x16x2048x128 : Shape := ⟨4, ![1, 16, 2048, 128]⟩
abbrev S2048x1024 : Shape := ⟨2, ![2048, 1024]⟩
abbrev S2048x64 : Shape := ⟨2, ![2048, 64]⟩
abbrev S2048x128 : Shape := ⟨2, ![2048, 128]⟩

abbrev nBuf : Space → Nat
  | .hbm => 111
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x64, .f32⟩
  | .hbm, ⟨2, _⟩ => ⟨S1x2048x16x128, .f32⟩
  | .hbm, ⟨3, _⟩ => ⟨S1x2048x64, .f32⟩
  | .hbm, ⟨4, _⟩ => ⟨S1x2048x16x128, .f32⟩
  | .hbm, ⟨5, _⟩ => ⟨S1x2048x16x128, .f32⟩
  | .hbm, ⟨6, _⟩ => ⟨S1x16x2048x2048, .f32⟩
  | .hbm, ⟨7, _⟩ => ⟨S1x2048x2048x16, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048x2048, .f32⟩
  | .hbm, ⟨12, _⟩ => ⟨S1x16x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S1x1x2048x2048, .i1⟩
  | .hbm, ⟨21, _⟩ => ⟨S_, .f32⟩
  | .hbm, ⟨22, _⟩ => ⟨S_, .f32⟩
  | .hbm, ⟨23, _⟩ => ⟨S1x16x2048x2048, .i1⟩
  | .hbm, ⟨24, _⟩ => ⟨S1x16x2048x2048, .f32⟩
  | .hbm, ⟨25, _⟩ => ⟨S1x16x2048x2048, .f32⟩
  | .hbm, ⟨26, _⟩ => ⟨S_, .f32⟩
  | .hbm, ⟨27, _⟩ => ⟨S1x16x2048x2048, .f32⟩
  | .hbm, ⟨28, _⟩ => ⟨S_, .f32⟩
  | .hbm, ⟨29, _⟩ => ⟨S1x16x2048, .f32⟩
  | .hbm, ⟨30, _⟩ => ⟨S1x16x2048x1, .f32⟩
  | .hbm, ⟨31, _⟩ => ⟨S1x16x2048x2048, .f32⟩
  | .hbm, ⟨32, _⟩ => ⟨S1x16x2048x2048, .i1⟩
  | .hbm, ⟨33, _⟩ => ⟨S1x16x2048x2048, .f32⟩
  | .hbm, ⟨34, _⟩ => ⟨S_, .f32⟩
  | .hbm, ⟨35, _⟩ => ⟨S1x16x2048, .f32⟩
  | .hbm, ⟨36, _⟩ => ⟨S_, .f32⟩
  | .hbm, ⟨37, _⟩ => ⟨S1x16x2048, .f32⟩
  | .hbm, ⟨38, _⟩ => ⟨S1x16x2048, .f32⟩
  | .hbm, ⟨39, _⟩ => ⟨S_, .f32⟩
  | .hbm, ⟨40, _⟩ => ⟨S1x16x2048, .f32⟩
  | .hbm, ⟨41, _⟩ => ⟨S1x16x2048, .i1⟩
  | .hbm, ⟨42, _⟩ => ⟨S_, .f32⟩
  | .hbm, ⟨43, _⟩ => ⟨S1x16x2048, .f32⟩
  | .hbm, ⟨44, _⟩ => ⟨S1x16x2048, .i1⟩
  | .hbm, ⟨45, _⟩ => ⟨S_, .f32⟩
  | .hbm, ⟨46, _⟩ => ⟨S1x16x2048, .f32⟩
  | .hbm, ⟨47, _⟩ => ⟨S_, .f32⟩
  | .hbm, ⟨48, _⟩ => ⟨S1x16x2048, .f32⟩
  | .hbm, ⟨49, _⟩ => ⟨S_, .f32⟩
  | .hbm, ⟨50, _⟩ => ⟨S1x16x2048, .f32⟩
  | .hbm, ⟨51, _⟩ => ⟨S1x16x2048, .f32⟩
  | .hbm, ⟨52, _⟩ => ⟨S1x16x2048, .f32⟩
  | .hbm, ⟨53, _⟩ => ⟨S1x16x2048x1, .f32⟩
  | .hbm, ⟨54, _⟩ => ⟨S1x16x2048x2048, .f32⟩
  | .hbm, ⟨55, _⟩ => ⟨S1x16x2048x2048, .f32⟩
  | .hbm, ⟨56, _⟩ => ⟨S1x16x2048x2048, .f32⟩
  | .hbm, ⟨57, _⟩ => ⟨S_, .f32⟩
  | .hbm, ⟨58, _⟩ => ⟨S1x16x2048, .f32⟩
  | .hbm, ⟨59, _⟩ => ⟨S1x16x2048x1, .f32⟩
  | .hbm, ⟨60, _⟩ => ⟨S1x16x2048x2048, .f32⟩
  | .hbm, ⟨61, _⟩ => ⟨S1x16x2048x2048, .f32⟩
  | .hbm, ⟨62, _⟩ => ⟨S1x16x2048x1, .f32⟩
  | .hbm, ⟨63, _⟩ => ⟨S_, .f32⟩
  | .hbm, ⟨64, _⟩ => ⟨S1x16x2048x1, .f32⟩
  | .hbm, ⟨65, _⟩ => ⟨S1x16x2048x1, .f32⟩
  | .hbm, ⟨66, _⟩ => ⟨S1x16x128x2048, .f32⟩
  | .hbm, ⟨67, _⟩ => ⟨S1x2048x16x128, .f32⟩
  | .hbm, ⟨68, _⟩ => ⟨S1x16x128x2048, .f32⟩
  | .hbm, ⟨69, _⟩ => ⟨S1x16x2048x2048, .f32⟩
  | .hbm, ⟨70, _⟩ => ⟨S1x16x128x2048, .f32⟩
  | .hbm, ⟨71, _⟩ => ⟨S1x2048x16x128, .f32⟩
  | .hbm, ⟨72, _⟩ => ⟨S1x16x2048x2048, .f32⟩
  | .hbm, ⟨73, _⟩ => ⟨S1x16x2048x2048, .f32⟩
  | .hbm, ⟨74, _⟩ => ⟨S1x16x2048x2048, .f32⟩
  | .hbm, ⟨75, _⟩ => ⟨S_, .f32⟩
  | .hbm, ⟨76, _⟩ => ⟨S1x16x2048, .f32⟩
  | .hbm, ⟨77, _⟩ => ⟨S1x16x2048x1, .f32⟩
  | .hbm, ⟨78, _⟩ => ⟨S1x16x2048x1, .f32⟩
  | .hbm, ⟨79, _⟩ => ⟨S1x16x2048x2048, .f32⟩
  | .hbm, ⟨80, _⟩ => ⟨S1x16x2048x2048, .f32⟩
  | .hbm, ⟨81, _⟩ => ⟨S_, .f32⟩
  | .hbm, ⟨82, _⟩ => ⟨S16x2048, .f32⟩
  | .hbm, ⟨83, _⟩ => ⟨S1x16x2048, .f32⟩
  | .hbm, ⟨84, _⟩ => ⟨S1x16x2048x2048, .f32⟩
  | .hbm, ⟨85, _⟩ => ⟨S1x16x2048x2048, .f32⟩
  | .hbm, ⟨86, _⟩ => ⟨S1x16x2048x2048, .f32⟩
  | .hbm, ⟨87, _⟩ => ⟨S_, .f32⟩
  | .hbm, ⟨88, _⟩ => ⟨S1x16x2048x2048, .f32⟩
  | .hbm, ⟨89, _⟩ => ⟨S1x16x2048x2048, .f32⟩
  | .hbm, ⟨90, _⟩ => ⟨S_, .f32⟩
  | .hbm, ⟨91, _⟩ => ⟨S1x16x2048x2048, .f32⟩
  | .hbm, ⟨92, _⟩ => ⟨S1x16x2048x2048, .f32⟩
  | .hbm, ⟨93, _⟩ => ⟨S1x2048x2048x16, .f32⟩
  | .hbm, ⟨94, _⟩ => ⟨S1x2048x16x64, .f32⟩
  | .hbm, ⟨95, _⟩ => ⟨S1x2048x64, .f32⟩
  | .hbm, ⟨96, _⟩ => ⟨S1x16x2048x128, .f32⟩
  | .hbm, ⟨97, _⟩ => ⟨S1x2048x16x128, .f32⟩
  | .hbm, ⟨98, _⟩ => ⟨S1x16x2048x128, .f32⟩
  | .hbm, ⟨99, _⟩ => ⟨S1x2048x16x128, .f32⟩
  | .hbm, ⟨100, _⟩ => ⟨S2048x2048, .f32⟩
  | .hbm, ⟨101, _⟩ => ⟨S2048x2048, .bf16⟩
  | .hbm, ⟨102, _⟩ => ⟨S2048x1024, .f32⟩
  | .hbm, ⟨103, _⟩ => ⟨S2048x2048, .f32⟩
  | .hbm, ⟨104, _⟩ => ⟨S2048x2048, .bf16⟩
  | .hbm, ⟨105, _⟩ => ⟨S2048x2048, .f32⟩
  | .hbm, ⟨106, _⟩ => ⟨S2048x2048, .bf16⟩
  | .hbm, ⟨107, _⟩ => ⟨S2048x64, .f32⟩
  | .hbm, ⟨108, _⟩ => ⟨S_, .i32⟩
  | .hbm, ⟨109, _⟩ => ⟨S_, .f32⟩
  | .hbm, ⟨110, _⟩ => ⟨S2048x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c : Ref sig .tc := ⟨.hbm, 108, rfl⟩
abbrev main_call2_v0 : Ref sig .tc := ⟨.hbm, 109, rfl⟩
abbrev main_v80 : Ref sig .tc := ⟨.hbm, 110, rfl⟩

abbrev nD : Nat := 1
abbrev τ : Topo := Topo.v7x

variable {F : FTy → Type} [FloatOps F]

def κ : String → Option EReal := fun
  | "mask" => some ⊥
  | _ => none
-- ==== Post.lean ====
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2x2048, .f32⟩
  | .hbm, ⟨3, _⟩ => ⟨S1x2048x2048, .f32⟩
  | .hbm, ⟨4, _⟩ => ⟨S2048x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_17 : BitVec 32 := 0#32
  let v51 : BitVec 1 := Scalar.cmpi .ne v50 c0_i32_17
  v51

def k0_cond2 (i : grid0.Coords) : BitVec 1 :=
  let arg0 : BitVec 32 := BitVec.ofNat 32 (i 0).val
  let c0_i32 : BitVec 32 := 0#32
  let v49 : BitVec 1 := Scalar.cmpi .eq arg0 c0_i32
  let v_true : BitVec 1 := 1#1
  let v52 : BitVec 1 := Scalar.xori v49 v_true
  let v53 : BitVec 32 := Scalar.extui v52
  let c0_i32_18 : BitVec 32 := 0#32
  let v54 : BitVec 1 := Scalar.cmpi .ne v53 c0_i32_18
  v54

def k0_cond3 (i : grid0.Coords) : BitVec 1 :=
  let arg0 : BitVec 32 := BitVec.ofNat 32 (i 0).val
  let c0_i32 : BitVec 32 := 0#32
  let v49 : BitVec 1 := Scalar.cmpi .eq arg0 c0_i32
  let v55 : BitVec 32 := Scalar.extui v49
  let c0_i32_19 : BitVec 32 := 0#32
  let v56 : BitVec 1 := Scalar.cmpi .ne v55 c0_i32_19
  v56

def k0_cond4 (i : grid0.Coords) : BitVec 1 :=
  let arg0 : BitVec 32 := BitVec.ofNat 32 (i 0).val
  let c0_i32 : BitVec 32 := 0#32
  let v49 : BitVec 1 := Scalar.cmpi .eq arg0 c0_i32
  let true_20 : BitVec 1 := 1#1
  let v57 : BitVec 1 := Scalar.xori v49 true_20
  let v58 : BitVec 32 := Scalar.extui v57
  let c0_i32_21 : BitVec 32 := 0#32
  let v59 : BitVec 1 := Scalar.cmpi .ne v58 c0_i32_21
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostRefIdeal.lean ====
abbrev S1x2048x2048 : Shape := ⟨3, ![1, 2048, 2048]⟩
abbrev S1x2048 : Shape := ⟨2, ![1, 2048]⟩
abbrev S2x2048 : Shape := ⟨2, ![2, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2x2048, .f32⟩
  | .hbm, ⟨3, _⟩ => ⟨S1x2048x2048, .f32⟩
  | .hbm, ⟨4, _⟩ => ⟨S1x2048, .f32⟩
  | .hbm, ⟨5, _⟩ => ⟨S2048, .f32⟩
  | .hbm, ⟨6, _⟩ => ⟨S1x1x2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x2048, .f32⟩
  | .hbm, ⟨23, _⟩ => ⟨S1x2048x2048, .f32⟩
  | .hbm, ⟨24, _⟩ => ⟨S1x1x2048, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048, .f32⟩
  | .hbm, ⟨34, _⟩ => ⟨S1x1x2048, .f32⟩
  | .hbm, ⟨35, _⟩ => ⟨S1x2048x2048, .f32⟩
  | .hbm, ⟨36, _⟩ => ⟨S_, .f32⟩
  | .hbm, ⟨37, _⟩ => ⟨S1x2048, .f32⟩
  | .hbm, ⟨38, _⟩ => ⟨S1x1x2048, .f32⟩
  | .hbm, ⟨39, _⟩ => ⟨S1x2048x2048, .f32⟩
  | .hbm, ⟨40, _⟩ => ⟨S1x2048x2048, .f32⟩
  | .hbm, ⟨41, _⟩ => ⟨S_, .f32⟩
  | .hbm, ⟨42, _⟩ => ⟨S2048, .f32⟩
  | .hbm, ⟨43, _⟩ => ⟨S1x2048x2048, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S1x2048x2048, .f32⟩
  | .hbm, ⟨48, _⟩ => ⟨S1x2048x2048, .f32⟩
  | .hbm, ⟨49, _⟩ => ⟨S1x2048x1, .f32⟩
  | .hbm, ⟨50, _⟩ => ⟨S_, .f32⟩
  | .hbm, ⟨51, _⟩ => ⟨S1x2048x1, .f32⟩
  | .hbm, ⟨52, _⟩ => ⟨S1x2048x1, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S1x2048x2048, .f32⟩
  | .hbm, ⟨57, _⟩ => ⟨S1x2048x2048, .f32⟩
  | .hbm, ⟨58, _⟩ => ⟨S1x2048x2048, .f32⟩
  | .hbm, ⟨59, _⟩ => ⟨S1x2048x2048, .f32⟩
  | .hbm, ⟨60, _⟩ => ⟨S1x2048x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S2048x2048, .f32⟩
  | .hbm, ⟨65, _⟩ => ⟨S2048x2048, .bf16⟩
  | .hbm, ⟨66, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Postb.lean ====
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S2x2048, .f32⟩
  | .hbm, ⟨4, _⟩ => ⟨S1x2048x2048, .f32⟩
  | .hbm, ⟨5, _⟩ => ⟨S2048x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_20 : BitVec 32 := 0#32
  let v56 : BitVec 1 := Scalar.cmpi .ne v55 c0_i32_20
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_21 : BitVec 32 := 0#32
  let v59 : BitVec 1 := Scalar.cmpi .ne v58 c0_i32_21
  v59

def k0_cond3 (i : grid0.Coords) : BitVec 1 :=
  let arg0 : BitVec 32 := BitVec.ofNat 32 (i 0).val
  let c0_i32 : BitVec 32 := 0#32
  let v54 : BitVec 1 := Scalar.cmpi .eq arg0 c0_i32
  let v60 : BitVec 32 := Scalar.extui v54
  let c0_i32_22 : BitVec 32 := 0#32
  let v61 : BitVec 1 := Scalar.cmpi .ne v60 c0_i32_22
  v61

def k0_cond4 (i : grid0.Coords) : BitVec 1 :=
  let arg0 : BitVec 32 := BitVec.ofNat 32 (i 0).val
  let c0_i32 : BitVec 32 := 0#32
  let v54 : BitVec 1 := Scalar.cmpi .eq arg0 c0_i32
  let true_23 : BitVec 1 := 1#1
  let v62 : BitVec 1 := Scalar.xori v54 true_23
  let v63 : BitVec 32 := Scalar.extui v62
  let c0_i32_24 : BitVec 32 := 0#32
  let v64 : BitVec 1 := Scalar.cmpi .ne v63 c0_i32_24
  v64

def k0_cond5 (i : grid0.Coords) : BitVec 1 :=
  let arg0 : BitVec 32 := BitVec.ofNat 32 (i 0).val
  let c0_i32 : BitVec 32 := 0#32
  let v54 : BitVec 1 := Scalar.cmpi .eq arg0 c0_i32
  let v65 : BitVec 32 := Scalar.extui v54
  let c0_i32_25 : BitVec 32 := 0#32
  let v66 : BitVec 1 := Scalar.cmpi .ne v65 c0_i32_25
  v66

def k0_cond6 (i : grid0.Coords) : BitVec 1 :=
  let arg0 : BitVec 32 := BitVec.ofNat 32 (i 0).val
  let c0_i32 : BitVec 32 := 0#32
  let v54 : BitVec 1 := Scalar.cmpi .eq arg0 c0_i32
  let true_26 : BitVec 1 := 1#1
  let v67 : BitVec 1 := Scalar.xori v54 true_26
  let v68 : BitVec 32 := Scalar.extui v67
  let c0_i32_27 : BitVec 32 := 0#32
  let v69 : BitVec 1 := Scalar.cmpi .ne v68 c0_i32_27
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PostbRefIdeal.lean ====
abbrev S1x2048x2048 : Shape := ⟨3, ![1, 2048, 2048]⟩
abbrev S1x2048 : Shape := ⟨2, ![1, 2048]⟩
abbrev S2x2048 : Shape := ⟨2, ![2, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S2x2048, .f32⟩
  | .hbm, ⟨4, _⟩ => ⟨S1x2048x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x1x2048, .f32⟩
  | .hbm, ⟨9, _⟩ => ⟨S1x1x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x2048, .f32⟩
  | .hbm, ⟨28, _⟩ => ⟨S1x2048x2048, .f32⟩
  | .hbm, ⟨29, _⟩ => ⟨S1x1x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S1x2048x2048, .f32⟩
  | .hbm, ⟨37, _⟩ => ⟨S_, .f32⟩
  | .hbm, ⟨38, _⟩ => ⟨S1x2048, .f32⟩
  | .hbm, ⟨39, _⟩ => ⟨S1x1x2048, .f32⟩
  | .hbm, ⟨40, _⟩ => ⟨S1x2048x2048, .f32⟩
  | .hbm, ⟨41, _⟩ => ⟨S_, .f32⟩
  | .hbm, ⟨42, _⟩ => ⟨S1x2048, .f32⟩
  | .hbm, ⟨43, _⟩ => ⟨S1x1x2048, .f32⟩
  | .hbm, ⟨44, _⟩ => ⟨S1x2048x2048, .f32⟩
  | .hbm, ⟨45, _⟩ => ⟨S1x2048x2048, .f32⟩
  | .hbm, ⟨46, _⟩ => ⟨S_, .f32⟩
  | .hbm, ⟨47, _⟩ => ⟨S2048, .f32⟩
  | .hbm, ⟨48, _⟩ => ⟨S1x2048x2048, .f32⟩
  | .hbm, ⟨49, _⟩ => ⟨S_, .f32⟩
  | .hbm, ⟨50, _⟩ => ⟨S1x2048, .f32⟩
  | .hbm, ⟨51, _⟩ => ⟨S1x2048x1, .f32⟩
  | .hbm, ⟨52, _⟩ => ⟨S1x2048x2048, .f32⟩
  | .hbm, ⟨53, _⟩ => ⟨S1x2048x2048, .f32⟩
  | .hbm, ⟨54, _⟩ => ⟨S1x2048x1, .f32⟩
  | .hbm, ⟨55, _⟩ => ⟨S_, .f32⟩
  | .hbm, ⟨56, _⟩ => ⟨S1x2048x1, .f32⟩
  | .hbm, ⟨57, _⟩ => ⟨S1x2048x1, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048x2048, .f32⟩
  | .hbm, ⟨62, _⟩ => ⟨S1x2048x2048, .f32⟩
  | .hbm, ⟨63, _⟩ => ⟨S1x2048x2048, .f32⟩
  | .hbm, ⟨64, _⟩ => ⟨S1x2048x2048, .f32⟩
  | .hbm, ⟨65, _⟩ => ⟨S1x2048x2048, .f32⟩
  | .hbm, ⟨66, _⟩ => ⟨S_, .f32⟩
  | .hbm, ⟨67, _⟩ => ⟨S1x2048, .f32⟩
  | .hbm, ⟨68, _⟩ => ⟨S1x1x2048, .f32⟩
  | .hbm, ⟨69, _⟩ => ⟨S_, .f32⟩
  | .hbm, ⟨70, _⟩ => ⟨S2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S2048x2048, .f32⟩
  | .hbm, ⟨75, _⟩ => ⟨S2048x2048, .bf16⟩
  | .hbm, ⟨76, _⟩ => ⟨S1x2048, .f32⟩
  | .hbm, ⟨77, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Pre.lean ====
abbrev S1x2048x2048 : Shape := ⟨3, ![1, 2048, 2048]⟩
abbrev S2x2048 : Shape := ⟨2, ![2, 2048]⟩
abbrev S1x2048 : Shape := ⟨2, ![1, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S1x2048x2048, .f32⟩
  | .hbm, ⟨1, _⟩ => ⟨S2x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S2048x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_21 : BitVec 32 := 0#32
  let v57 : BitVec 1 := Scalar.cmpi .ne v56 c0_i32_21
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_22 : BitVec 32 := 0#32
  let v60 : BitVec 1 := Scalar.cmpi .ne v59 c0_i32_22
  v60

def k0_cond3 (i : grid0.Coords) : BitVec 1 :=
  let arg0 : BitVec 32 := BitVec.ofNat 32 (i 0).val
  let c0_i32 : BitVec 32 := 0#32
  let v55 : BitVec 1 := Scalar.cmpi .eq arg0 c0_i32
  let v61 : BitVec 32 := Scalar.extui v55
  let c0_i32_23 : BitVec 32 := 0#32
  let v62 : BitVec 1 := Scalar.cmpi .ne v61 c0_i32_23
  v62

def k0_cond4 (i : grid0.Coords) : BitVec 1 :=
  let arg0 : BitVec 32 := BitVec.ofNat 32 (i 0).val
  let c0_i32 : BitVec 32 := 0#32
  let v55 : BitVec 1 := Scalar.cmpi .eq arg0 c0_i32
  let true_24 : BitVec 1 := 1#1
  let v63 : BitVec 1 := Scalar.xori v55 true_24
  let v64 : BitVec 32 := Scalar.extui v63
  let c0_i32_25 : BitVec 32 := 0#32
  let v65 : BitVec 1 := Scalar.cmpi .ne v64 c0_i32_25
  v65

def k0_cond5 (i : grid0.Coords) : BitVec 1 :=
  let arg0 : BitVec 32 := BitVec.ofNat 32 (i 0).val
  let c0_i32 : BitVec 32 := 0#32
  let v55 : BitVec 1 := Scalar.cmpi .eq arg0 c0_i32
  let v66 : BitVec 32 := Scalar.extui v55
  let c0_i32_26 : BitVec 32 := 0#32
  let v67 : BitVec 1 := Scalar.cmpi .ne v66 c0_i32_26
  v67

def k0_cond6 (i : grid0.Coords) : BitVec 1 :=
  let arg0 : BitVec 32 := BitVec.ofNat 32 (i 0).val
  let c0_i32 : BitVec 32 := 0#32
  let v55 : BitVec 1 := Scalar.cmpi .eq arg0 c0_i32
  let true_27 : BitVec 1 := 1#1
  let v68 : BitVec 1 := Scalar.xori v55 true_27
  let v69 : BitVec 32 := Scalar.extui v68
  let c0_i32_28 : BitVec 32 := 0#32
  let v70 : BitVec 1 := Scalar.cmpi .ne v69 c0_i32_28
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreRefIdeal.lean ====
abbrev S1x2048x2048 : Shape := ⟨3, ![1, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048x2048, .f32⟩
  | .hbm, ⟨6, _⟩ => ⟨S1x2048, .f32⟩
  | .hbm, ⟨7, _⟩ => ⟨S2048, .f32⟩
  | .hbm, ⟨8, _⟩ => ⟨S1x2048x2048, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x2048, .f32⟩
  | .hbm, ⟨24, _⟩ => ⟨S1x2048x2048, .f32⟩
  | .hbm, ⟨25, _⟩ => ⟨S1x1x2048, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S1x2048x2048, .f32⟩
  | .hbm, ⟨33, _⟩ => ⟨S1x2048x2048, .f32⟩
  | .hbm, ⟨34, _⟩ => ⟨S1x1x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S_, .f32⟩
  | .hbm, ⟨39, _⟩ => ⟨S1x2048, .f32⟩
  | .hbm, ⟨40, _⟩ => ⟨S1x1x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S1x2048x2048, .f32⟩
  | .hbm, ⟨45, _⟩ => ⟨S_, .f32⟩
  | .hbm, ⟨46, _⟩ => ⟨S1x2048, .f32⟩
  | .hbm, ⟨47, _⟩ => ⟨S1x1x2048, .f32⟩
  | .hbm, ⟨48, _⟩ => ⟨S1x2048x2048, .f32⟩
  | .hbm, ⟨49, _⟩ => ⟨S1x2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S1x2048x2048, .f32⟩
  | .hbm, ⟨54, _⟩ => ⟨S_, .f32⟩
  | .hbm, ⟨55, _⟩ => ⟨S1x2048, .f32⟩
  | .hbm, ⟨56, _⟩ => ⟨S1x1x2048, .f32⟩
  | .hbm, ⟨57, _⟩ => ⟨S1x2048x2048, .f32⟩
  | .hbm, ⟨58, _⟩ => ⟨S1x2048x2048, .f32⟩
  | .hbm, ⟨59, _⟩ => ⟨S_, .f32⟩
  | .hbm, ⟨60, _⟩ => ⟨S2048, .f32⟩
  | .hbm, ⟨61, _⟩ => ⟨S1x2048x2048, .f32⟩
  | .hbm, ⟨62, _⟩ => ⟨S_, .f32⟩
  | .hbm, ⟨63, _⟩ => ⟨S1x2048, .f32⟩
  | .hbm, ⟨64, _⟩ => ⟨S1x2048x1, .f32⟩
  | .hbm, ⟨65, _⟩ => ⟨S1x2048x2048, .f32⟩
  | .hbm, ⟨66, _⟩ => ⟨S1x2048x2048, .f32⟩
  | .hbm, ⟨67, _⟩ => ⟨S1x2048x2048, .f32⟩
  | .hbm, ⟨68, _⟩ => ⟨S1x2048x1, .f32⟩
  | .hbm, ⟨69, _⟩ => ⟨S_, .f32⟩
  | .hbm, ⟨70, _⟩ => ⟨S1x2048x1, .f32⟩
  | .hbm, ⟨71, _⟩ => ⟨S1x2048x1, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S1x2048x2048, .f32⟩
  | .hbm, ⟨76, _⟩ => ⟨S1x2048x2048, .f32⟩
  | .hbm, ⟨77, _⟩ => ⟨S1x2048x2048, .f32⟩
  | .hbm, ⟨78, _⟩ => ⟨S1x2048x2048, .f32⟩
  | .hbm, ⟨79, _⟩ => ⟨S1x2048x2048, .f32⟩
  | .hbm, ⟨80, _⟩ => ⟨S2048x2048, .f32⟩
  | .hbm, ⟨81, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Twin.lean ====
abbrev S1x2048x2048 : Shape := ⟨3, ![1, 2048, 2048]⟩
abbrev S2048 : Shape := ⟨1, ![2048]⟩
abbrev S1x2048 : Shape := ⟨2, ![1, 2048]⟩
abbrev S2x2048 : Shape := ⟨2, ![2, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 22
  | .smem => 0
  | _ => 0

abbrev bufTy : (tb : Table) → Fin (tcTables nBuf tb) → BufTy
  | .hbm, ⟨0, _⟩ => ⟨S1x2048x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2x2048, .f32⟩
  | .hbm, ⟨5, _⟩ => ⟨S1x2048, .f32⟩
  | .hbm, ⟨6, _⟩ => ⟨S1x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let v106 : BitVec 32 := Scalar.extui v105
  let c0_i32_38 : BitVec 32 := 0#32
  let v107 : BitVec 1 := Scalar.cmpi .ne v106 c0_i32_38
  v107

def k0_cond2 (i : grid0.Coords) : BitVec 1 :=
  let arg0 : BitVec 32 := BitVec.ofNat 32 (i 0).val
  let c0_i32 : BitVec 32 := 0#32
  let v105 : BitVec 1 := Scalar.cmpi .eq arg0 c0_i32
  let v_true : BitVec 1 := 1#1
  let v108 : BitVec 1 := Scalar.xori v105 v_true
  let v109 : BitVec 32 := Scalar.extui v108
  let c0_i32_39 : BitVec 32 := 0#32
  let v110 : BitVec 1 := Scalar.cmpi .ne v109 c0_i32_39
  v110

def k0_cond3 (i : grid0.Coords) : BitVec 1 :=
  let arg0 : BitVec 32 := BitVec.ofNat 32 (i 0).val
  let c0_i32 : BitVec 32 := 0#32
  let v105 : BitVec 1 := Scalar.cmpi .eq arg0 c0_i32
  let v111 : BitVec 32 := Scalar.extui v105
  let c0_i32_40 : BitVec 32 := 0#32
  let v112 : BitVec 1 := Scalar.cmpi .ne v111 c0_i32_40
  v112

def k0_cond4 (i : grid0.Coords) : BitVec 1 :=
  let arg0 : BitVec 32 := BitVec.ofNat 32 (i 0).val
  let c0_i32 : BitVec 32 := 0#32
  let v105 : BitVec 1 := Scalar.cmpi .eq arg0 c0_i32
  let true_41 : BitVec 1 := 1#1
  let v113 : BitVec 1 := Scalar.xori v105 true_41
  let v114 : BitVec 32 := Scalar.extui v113
  let c0_i32_42 : BitVec 32 := 0#32
  let v115 : BitVec 1 := Scalar.cmpi .ne v114 c0_i32_42
  v115

def k0_cond5 (i : grid0.Coords) : BitVec 1 :=
  let arg0 : BitVec 32 := BitVec.ofNat 32 (i 0).val
  let c0_i32 : BitVec 32 := 0#32
  let v105 : BitVec 1 := Scalar.cmpi .eq arg0 c0_i32
  let v116 : BitVec 32 := Scalar.extui v105
  let c0_i32_43 : BitVec 32 := 0#32
  let v117 : BitVec 1 := Scalar.cmpi .ne v116 c0_i32_43
  v117

def k0_cond6 (i : grid0.Coords) : BitVec 1 :=
  let arg0 : BitVec 32 := BitVec.ofNat 32 (i 0).val
  let c0_i32 : BitVec 32 := 0#32
  let v105 : BitVec 1 := Scalar.cmpi .eq arg0 c0_i32
  let true_44 : BitVec 1 := 1#1
  let v118 : BitVec 1 := Scalar.xori v105 true_44
  let v119 : BitVec 32 := Scalar.extui v118
  let c0_i32_45 : BitVec 32 := 0#32
  let v120 : BitVec 1 := Scalar.cmpi .ne v119 c0_i32_45
  v120

def k0_cond7 (i : grid0.Coords) : BitVec 1 :=
  let arg0 : BitVec 32 := BitVec.ofNat 32 (i 0).val
  let c0_i32 : BitVec 32 := 0#32
  let v105 : BitVec 1 := Scalar.cmpi .eq arg0 c0_i32
  let v121 : BitVec 32 := Scalar.extui v105
  let c0_i32_46 : BitVec 32 := 0#32
  let v122 : BitVec 1 := Scalar.cmpi .ne v121 c0_i32_46
  v122

def k0_cond8 (i : grid0.Coords) : BitVec 1 :=
  let arg0 : BitVec 32 := BitVec.ofNat 32 (i 0).val
  let c0_i32 : BitVec 32 := 0#32
  let v105 : BitVec 1 := Scalar.cmpi .eq arg0 c0_i32
  let true_47 : BitVec 1 := 1#1
  let v123 : BitVec 1 := Scalar.xori v105 true_47
  let v124 : BitVec 32 := Scalar.extui v123
  let c0_i32_48 : BitVec 32 := 0#32
  let v125 : BitVec 1 := Scalar.cmpi .ne v124 c0_i32_48
  v125

def k0_cond9 (i : grid0.Coords) : BitVec 1 :=
  let arg0 : BitVec 32 := BitVec.ofNat 32 (i 0).val
  let c0_i32 : BitVec 32 := 0#32
  let v105 : BitVec 1 := Scalar.cmpi .eq arg0 c0_i32
  let v126 : BitVec 32 := Scalar.extui v105
  let c0_i32_49 : BitVec 32 := 0#32
  let v127 : BitVec 1 := Scalar.cmpi .ne v126 c0_i32_49
  v127

def k0_cond10 (i : grid0.Coords) : BitVec 1 :=
  let arg0 : BitVec 32 := BitVec.ofNat 32 (i 0).val
  let c0_i32 : BitVec 32 := 0#32
  let v105 : BitVec 1 := Scalar.cmpi .eq arg0 c0_i32
  let true_50 : BitVec 1 := 1#1
  let v128 : BitVec 1 := Scalar.xori v105 true_50
  let v129 : BitVec 32 := Scalar.extui v128
  let c0_i32_51 : BitVec 32 := 0#32
  let v130 : BitVec 1 := Scalar.cmpi .ne v129 c0_i32_51
  v130

def k0_cond11 (i : grid0.Coords) : BitVec 1 :=
  let arg0 : BitVec 32 := BitVec.ofNat 32 (i 0).val
  let c0_i32 : BitVec 32 := 0#32
  let v105 : BitVec 1 := Scalar.cmpi .eq arg0 c0_i32
  let v131 : BitVec 32 := Scalar.extui v105
  let c0_i32_52 : BitVec 32 := 0#32
  let v132 : BitVec 1 := Scalar.cmpi .ne v131 c0_i32_52
  v132

def k0_cond12 (i : grid0.Coords) : BitVec 1 :=
  let arg0 : BitVec 32 := BitVec.ofNat 32 (i 0).val
  let c0_i32 : BitVec 32 := 0#32
  let v105 : BitVec 1 := Scalar.cmpi .eq arg0 c0_i32
  let true_53 : BitVec 1 := 1#1
  let v133 : BitVec 1 := Scalar.xori v105 true_53
  let v134 : BitVec 32 := Scalar.extui v133
  let c0_i32_54 : BitVec 32 := 0#32
  let v135 : BitVec 1 := Scalar.cmpi .ne v134 c0_i32_54
  v135

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== TwinRefIdeal.lean ====
abbrev S1x2048x2048 : Shape := ⟨3, ![1, 2048, 2048]⟩
abbrev S2048 : Shape := ⟨1, ![2048]⟩
abbrev S1x2048 : Shape := ⟨2, ![1, 2048]⟩
abbrev S2x2048 : Shape := ⟨2, ![2, 2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 159
  | .vmem => 0
  | .smem => 0
  | _ => 0

abbrev hbmTy0_0 (i : Nat) : BufTy := match i % 128 with
  | 0 => ⟨S1x2048x2048, .f32⟩
  | 1 => ⟨S2048, .f32⟩
  | 2 => ⟨S1x2048, .f32⟩
  | 3 => ⟨S1x2048, .f32⟩
  | 4 => ⟨S2x2048, .f32⟩
  | 5 => ⟨S1x2048, .f32⟩
  | 6 => ⟨S1x2048, .f32⟩
  | 7 => ⟨S1x2048x2048, .f32⟩
  | 8 => ⟨S1x2048x2048, .f32⟩
  | 9 => ⟨S1x2048x2048, .f32⟩
  | 10 => ⟨S1x2048, .f32⟩
  | 11 => ⟨S2048, .f32⟩
  | 12 => ⟨S1x2048x2048, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S1x2048x1, .f32⟩
  | 21 => ⟨S1x2048x1, .f32⟩
  | 22 => ⟨S1x2048x1, .f32⟩
  | 23 => ⟨S1x2048x1, .f32⟩
  | 24 => ⟨S_, .f32⟩
  | 25 => ⟨S1x2048x1, .f32⟩
  | 26 => ⟨S1x2048x1, .f32⟩
  | 27 => ⟨S1x2048x2048, .f32⟩
  | 28 => ⟨S1x2048x2048, .f32⟩
  | 29 => ⟨S1x1x2048, .f32⟩
  | 30 => ⟨S1x2048x2048, .f32⟩
  | 31 => ⟨S1x2048x2048, .f32⟩
  | 32 => ⟨S1x1x2048, .f32⟩
  | 33 => ⟨S_, .f32⟩
  | 34 => ⟨S1x1x2048, .f32⟩
  | 35 => ⟨S1x1x2048, .f32⟩
  | 36 => ⟨S1x2048x2048, .f32⟩
  | 37 => ⟨S1x2048x2048, .f32⟩
  | 38 => ⟨S1x1x2048, .f32⟩
  | 39 => ⟨S1x2048x2048, .f32⟩
  | 40 => ⟨S1x2048x2048, .f32⟩
  | 41 => ⟨S1x2048x2048, .f32⟩
  | 42 => ⟨S_, .f32⟩
  | 43 => ⟨S1x2048, .f32⟩
  | 44 => ⟨S1x2048x1, .f32⟩
  | 45 => ⟨S_, .f32⟩
  | 46 => ⟨S1x2048x1, .f32⟩
  | 47 => ⟨S1x2048x1, .f32⟩
  | 48 => ⟨S_, .f32⟩
  | 49 => ⟨S1x2048x1, .f32⟩
  | 50 => ⟨S1x2048x1, .f32⟩
  | 51 => ⟨S1x2048x1, .f32⟩
  | 52 => ⟨S1x2048x1, .f32⟩
  | 53 => ⟨S_, .f32⟩
  | 54 => ⟨S1x2048x1, .f32⟩
  | 55 => ⟨S1x2048x1, .f32⟩
  | 56 => ⟨S1x2048x2048, .f32⟩
  | 57 => ⟨S1x2048x2048, .f32⟩
  | 58 => ⟨S1x1x2048, .f32⟩
  | 59 => ⟨S1x2048x2048, .f32⟩
  | 60 => ⟨S1x2048x2048, .f32⟩
  | 61 => ⟨S1x1x2048, .f32⟩
  | 62 => ⟨S_, .f32⟩
  | 63 => ⟨S1x1x2048, .f32⟩
  | 64 => ⟨S1x1x2048, .f32⟩
  | 65 => ⟨S1x2048x2048, .f32⟩
  | 66 => ⟨S1x2048x2048, .f32⟩
  | 67 => ⟨S1x1x2048, .f32⟩
  | 68 => ⟨S1x2048x2048, .f32⟩
  | 69 => ⟨S1x2048x2048, .f32⟩
  | 70 => ⟨S1x2048x2048, .f32⟩
  | 71 => ⟨S_, .f32⟩
  | 72 => ⟨S1x2048, .f32⟩
  | 73 => ⟨S1x1x2048, .f32⟩
  | 74 => ⟨S_, .f32⟩
  | 75 => ⟨S2048, .f32⟩
  | 76 => ⟨S1x2048, .f32⟩
  | 77 => ⟨S1x2048x2048, .f32⟩
  | 78 => ⟨S_, .f32⟩
  | 79 => ⟨S1x2048, .f32⟩
  | 80 => ⟨S1x1x2048, .f32⟩
  | 81 => ⟨S1x2048x2048, .f32⟩
  | 82 => ⟨S1x2048x2048, .f32⟩
  | 83 => ⟨S_, .f32⟩
  | 84 => ⟨S2048, .f32⟩
  | 85 => ⟨S1x2048, .f32⟩
  | 86 => ⟨S1x2048x2048, .f32⟩
  | 87 => ⟨S_, .f32⟩
  | 88 => ⟨S1x2048, .f32⟩
  | 89 => ⟨S1x1x2048, .f32⟩
  | 90 => ⟨S1x2048x2048, .f32⟩
  | 91 => ⟨S1x2048x2048, .f32⟩
  | 92 => ⟨S_, .f32⟩
  | 93 => ⟨S2048, .f32⟩
  | 94 => ⟨S1x2048x2048, .f32⟩
  | 95 => ⟨S_, .f32⟩
  | 96 => ⟨S1x2048, .f32⟩
  | 97 => ⟨S1x2048x1, .f32⟩
  | 98 => ⟨S1x2048x2048, .f32⟩
  | 99 => ⟨S1x2048x2048, .f32⟩
  | 100 => ⟨S1x2048x2048, .f32⟩
  | 101 => ⟨S1x2048x1, .f32⟩
  | 102 => ⟨S_, .f32⟩
  | 103 => ⟨S1x2048x1, .f32⟩
  | 104 => ⟨S1x2048x1, .f32⟩
  | 105 => ⟨S_, .f32⟩
  | 106 => ⟨S2048, .f32⟩
  | 107 => ⟨S1x2048, .f32⟩
  | 108 => ⟨S1x2048x2048, .f32⟩
  | 109 => ⟨S1x2048x2048, .f32⟩
  | 110 => ⟨S1x2048x2048, .f32⟩
  | 111 => ⟨S1x2048x2048, .f32⟩
  | 112 => ⟨S1x2048x2048, .f32⟩
  | 113 => ⟨S1x2048x2048, .f32⟩
  | 114 => ⟨S_, .f32⟩
  | 115 => ⟨S1x2048, .f32⟩
  | 116 => ⟨S1x1x2048, .f32⟩
  | 117 => ⟨S_, .f32⟩
  | 118 => ⟨S2048, .f32⟩
  | 119 => ⟨S1x2048, .f32⟩
  | 120 => ⟨S1x2048x2048, .f32⟩
  | 121 => ⟨S_, .f32⟩
  | 122 => ⟨S1x2048, .f32⟩
  | 123 => ⟨S1x1x2048, .f32⟩
  | 124 => ⟨S1x2048x2048, .f32⟩
  | 125 => ⟨S1x2048x2048, .f32⟩
  | 126 => ⟨S_, .f32⟩
  | 127 => ⟨S2048, .f32⟩
  | _ => ⟨S1x2048x2048, .f32⟩

abbrev hbmTy0_1 (i : Nat) : BufTy := match i % 128 with
  | 0 => ⟨S1x2048, .f32⟩
  | 1 => ⟨S1x2048x2048, .f32⟩
  | 2 => ⟨S_, .f32⟩
  | 3 => ⟨S1x2048, .f32⟩
  | 4 => ⟨S1x1x2048, .f32⟩
  | 5 => ⟨S1x2048x2048, .f32⟩
  | 6 => ⟨S1x2048x2048, .f32⟩
  | 7 => ⟨S_, .f32⟩
  | 8 => ⟨S2048, .f32⟩
  | 9 => ⟨S1x2048x2048, .f32⟩
  | 10 => ⟨S_, .f32⟩
  | 11 => ⟨S1x2048, .f32⟩
  | 12 => ⟨S1x2048x1, .f32⟩
  | 13 => ⟨S1x2048x2048, .f32⟩
  | 14 => ⟨S1x2048x2048, .f32⟩
  | 15 => ⟨S1x2048x2048, .f32⟩
  | 16 => ⟨S1x2048x1, .f32⟩
  | 17 => ⟨S_, .f32⟩
  | 18 => ⟨S1x2048x1, .f32⟩
  | 19 => ⟨S1x2048x1, .f32⟩
  | 20 => ⟨S_, .f32⟩
  | 21 => ⟨S2048, .f32⟩
  | 22 => ⟨S1x2048, .f32⟩
  | 23 => ⟨S1x2048x2048, .f32⟩
  | 24 => ⟨S1x2048x2048, .f32⟩
  | 25 => ⟨S1x2048x2048, .f32⟩
  | 26 => ⟨S1x2048x2048, .f32⟩
  | 27 => ⟨S1x2048x2048, .f32⟩
  | 28 => ⟨S2048x2048, .f32⟩
  | 29 => ⟨S1x2048, .f32⟩
  | 30 => ⟨S1x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_22 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_23 : Ref sig .tc := ⟨.hbm, 135, rfl⟩
abbrev main_v101 : Ref sig .tc := ⟨.hbm, 136, rfl⟩
abbrev main_v102 : Ref sig .tc := ⟨.hbm, 137, rfl⟩
abbrev main_cst_24 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_25 : Ref sig .tc := ⟨.hbm, 145, rfl⟩
abbrev main_v109 : Ref sig .tc := ⟨.hbm, 146, rfl⟩
abbrev main_v110 : Ref sig .tc := ⟨.hbm, 147, rfl⟩
abbrev main_cst_26 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩

abbrev nD : Nat := 1
abbrev τ : Topo := Topo.v7x

variable {F : FTy → Type} [FloatOps F]
-- ==== Ln.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_27 : BitVec 32 := 0#32
  let v79 : BitVec 1 := Scalar.cmpi .ne v78 c0_i32_27
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_28 : BitVec 32 := 0#32
  let v82 : BitVec 1 := Scalar.cmpi .ne v81 c0_i32_28
  v82

def k0_cond3 (i : grid0.Coords) : BitVec 1 :=
  let arg0 : BitVec 32 := BitVec.ofNat 32 (i 0).val
  let c0_i32 : BitVec 32 := 0#32
  let v77 : BitVec 1 := Scalar.cmpi .eq arg0 c0_i32
  let v83 : BitVec 32 := Scalar.extui v77
  let c0_i32_29 : BitVec 32 := 0#32
  let v84 : BitVec 1 := Scalar.cmpi .ne v83 c0_i32_29
  v84

def k0_cond4 (i : grid0.Coords) : BitVec 1 :=
  let arg0 : BitVec 32 := BitVec.ofNat 32 (i 0).val
  let c0_i32 : BitVec 32 := 0#32
  let v77 : BitVec 1 := Scalar.cmpi .eq arg0 c0_i32
  let true_30 : BitVec 1 := 1#1
  let v85 : BitVec 1 := Scalar.xori v77 true_30
  let v86 : BitVec 32 := Scalar.extui v85
  let c0_i32_31 : BitVec 32 := 0#32
  let v87 : BitVec 1 := Scalar.cmpi .ne v86 c0_i32_31
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnRefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 108
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S1x2048x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S1x2048x1, .f32⟩
  | .hbm, ⟨28, _⟩ => ⟨S1x2048x1, .f32⟩
  | .hbm, ⟨29, _⟩ => ⟨S1x2048x1, .f32⟩
  | .hbm, ⟨30, _⟩ => ⟨S1x2048x1, .f32⟩
  | .hbm, ⟨31, _⟩ => ⟨S_, .f32⟩
  | .hbm, ⟨32, _⟩ => ⟨S1x2048x1, .f32⟩
  | .hbm, ⟨33, _⟩ => ⟨S1x2048x1, .f32⟩
  | .hbm, ⟨34, _⟩ => ⟨S1x2048x2048, .f32⟩
  | .hbm, ⟨35, _⟩ => ⟨S1x2048x2048, .f32⟩
  | .hbm, ⟨36, _⟩ => ⟨S1x1x2048, .f32⟩
  | .hbm, ⟨37, _⟩ => ⟨S1x2048x2048, .f32⟩
  | .hbm, ⟨38, _⟩ => ⟨S1x2048x2048, .f32⟩
  | .hbm, ⟨39, _⟩ => ⟨S1x1x2048, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048x2048, .f32⟩
  | .hbm, ⟨46, _⟩ => ⟨S1x2048x2048, .f32⟩
  | .hbm, ⟨47, _⟩ => ⟨S_, .f32⟩
  | .hbm, ⟨48, _⟩ => ⟨S1x2048x2048, .f32⟩
  | .hbm, ⟨49, _⟩ => ⟨S1x2048x2048, .f32⟩
  | .hbm, ⟨50, _⟩ => ⟨S_, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S1x2048x2048, .f32⟩
  | .hbm, ⟨55, _⟩ => ⟨S1x2048x2048, .f32⟩
  | .hbm, ⟨56, _⟩ => ⟨S1x2048x2048, .f32⟩
  | .hbm, ⟨57, _⟩ => ⟨S1x2048x2048, .f32⟩
  | .hbm, ⟨58, _⟩ => ⟨S1x2048x2048, .f32⟩
  | .hbm, ⟨59, _⟩ => ⟨S_, .f32⟩
  | .hbm, ⟨60, _⟩ => ⟨S1x2048, .f32⟩
  | .hbm, ⟨61, _⟩ => ⟨S1x1x2048, .f32⟩
  | .hbm, ⟨62, _⟩ => ⟨S_, .f32⟩
  | .hbm, ⟨63, _⟩ => ⟨S2048, .f32⟩
  | .hbm, ⟨64, _⟩ => ⟨S1x2048x2048, .f32⟩
  | .hbm, ⟨65, _⟩ => ⟨S_, .f32⟩
  | .hbm, ⟨66, _⟩ => ⟨S1x2048, .f32⟩
  | .hbm, ⟨67, _⟩ => ⟨S1x1x2048, .f32⟩
  | .hbm, ⟨68, _⟩ => ⟨S1x2048x2048, .f32⟩
  | .hbm, ⟨69, _⟩ => ⟨S1x2048x2048, .f32⟩
  | .hbm, ⟨70, _⟩ => ⟨S_, .f32⟩
  | .hbm, ⟨71, _⟩ => ⟨S2048, .f32⟩
  | .hbm, ⟨72, _⟩ => ⟨S1x2048x2048, .f32⟩
  | .hbm, ⟨73, _⟩ => ⟨S_, .f32⟩
  | .hbm, ⟨74, _⟩ => ⟨S1x2048, .f32⟩
  | .hbm, ⟨75, _⟩ => ⟨S1x2048x1, .f32⟩
  | .hbm, ⟨76, _⟩ => ⟨S1x2048x2048, .f32⟩
  | .hbm, ⟨77, _⟩ => ⟨S1x2048x2048, .f32⟩
  | .hbm, ⟨78, _⟩ => ⟨S1x2048x1, .f32⟩
  | .hbm, ⟨79, _⟩ => ⟨S1x2048x2048, .f32⟩
  | .hbm, ⟨80, _⟩ => ⟨S_, .f32⟩
  | .hbm, ⟨81, _⟩ => ⟨S1x2048, .f32⟩
  | .hbm, ⟨82, _⟩ => ⟨S1x2048x1, .f32⟩
  | .hbm, ⟨83, _⟩ => ⟨S_, .f32⟩
  | .hbm, ⟨84, _⟩ => ⟨S1x2048x1, .f32⟩
  | .hbm, ⟨85, _⟩ => ⟨S1x2048x1, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S1x2048x2048, .f32⟩
  | .hbm, ⟨90, _⟩ => ⟨S1x2048x2048, .f32⟩
  | .hbm, ⟨91, _⟩ => ⟨S1x2048x2048, .f32⟩
  | .hbm, ⟨92, _⟩ => ⟨S_, .f32⟩
  | .hbm, ⟨93, _⟩ => ⟨S1x2048, .f32⟩
  | .hbm, ⟨94, _⟩ => ⟨S1x2048x1, .f32⟩
  | .hbm, ⟨95, _⟩ => ⟨S1x2048x2048, .f32⟩
  | .hbm, ⟨96, _⟩ => ⟨S1x2048x1, .f32⟩
  | .hbm, ⟨97, _⟩ => ⟨S_, .f32⟩
  | .hbm, ⟨98, _⟩ => ⟨S1x2048x1, .f32⟩
  | .hbm, ⟨99, _⟩ => ⟨S1x2048x1, .f32⟩
  | .hbm, ⟨100, _⟩ => ⟨S_, .f32⟩
  | .hbm, ⟨101, _⟩ => ⟨S2048, .f32⟩
  | .hbm, ⟨102, _⟩ => ⟨S1x2048, .f32⟩
  | .hbm, ⟨103, _⟩ => ⟨S1x2048x2048, .f32⟩
  | .hbm, ⟨104, _⟩ => ⟨S1x2048x2048, .f32⟩
  | .hbm, ⟨105, _⟩ => ⟨S2048x2048, .f32⟩
  | .hbm, ⟨106, _⟩ => ⟨S1x2048, .f32⟩
  | .hbm, ⟨107, _⟩ => ⟨S1x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_cst_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]
-- ==== Glu.lean ====
abbrev S1x2048x4096 : Shape := ⟨3, ![1, 2048, 4096]⟩
abbrev S1x4096 : Shape := ⟨2, ![1, 4096]⟩
abbrev S1x2048x2048 : Shape := ⟨3, ![1, 2048, 2048]⟩
abbrev S2048x4096 : Shape := ⟨2, ![2048, 4096]⟩
abbrev S2048x2048 : Shape := ⟨2, ![2048, 2048]⟩
abbrev S256x4096 : Shape := ⟨2, ![256, 4096]⟩
abbrev S256x2048 : Shape := ⟨2, ![256, 2048]⟩
abbrev S4096 : Shape := ⟨1, ![4096]⟩

abbrev nBuf : Space → Nat
  | .hbm => 7
  | .vmem => 8
  | .smem => 0
  | _ => 0

abbrev bufTy : (tb : Table) → Fin (tcTables nBuf tb) → BufTy
  | .hbm, ⟨0, _⟩ => ⟨S1x2048x4096, .f32⟩
  | .hbm, ⟨1, _⟩ => ⟨S1x4096, .f32⟩
  | .hbm, ⟨2, _⟩ => ⟨S1x2048x2048, .f32⟩
  | .hbm, ⟨3, _⟩ => ⟨S2048x4096, .f32⟩
  | .hbm, ⟨4, _⟩ => ⟨S2048x2048, .f32⟩
  | .hbm, ⟨5, _⟩ => ⟨S2048x4096, .bf16⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x2048, .f32⟩
  | .local _ .vmem, ⟨4, _⟩ => ⟨S256x2048, .f32⟩
  | .local _ .vmem, ⟨5, _⟩ => ⟨S256x4096, .bf16⟩
  | .local _ .vmem, ⟨6, _⟩ => ⟨S256x4096, .bf16⟩
  | .local _ .vmem, ⟨7, _⟩ => ⟨S1x4096, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_10 : BitVec 32 := 0#32
  let v27 : BitVec 1 := Scalar.cmpi .ne v26 c0_i32_10
  v27

def k0_cond2 (i : grid0.Coords) : BitVec 1 :=
  let arg0 : BitVec 32 := BitVec.ofNat 32 (i 0).val
  let c0_i32 : BitVec 32 := 0#32
  let v25 : BitVec 1 := Scalar.cmpi .eq arg0 c0_i32
  let v_true : BitVec 1 := 1#1
  let v28 : BitVec 1 := Scalar.xori v25 v_true
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GluRefIdeal.lean ====
abbrev S1x2048x4096 : Shape := ⟨3, ![1, 2048, 4096]⟩
abbrev S1x4096 : Shape := ⟨2, ![1, 4096]⟩
abbrev S1x2048x2048 : Shape := ⟨3, ![1, 2048, 2048]⟩
abbrev S4096 : Shape := ⟨1, ![4096]⟩
abbrev S1x1x4096 : Shape := ⟨3, ![1, 1, 4096]⟩
abbrev S_ : Shape := ⟨0, ![]⟩
abbrev S2048x4096 : Shape := ⟨2, ![2048, 4096]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x4096, .f32⟩
  | .hbm, ⟨2, _⟩ => ⟨S1x2048x2048, .f32⟩
  | .hbm, ⟨3, _⟩ => ⟨S4096, .f32⟩
  | .hbm, ⟨4, _⟩ => ⟨S1x1x4096, .f32⟩
  | .hbm, ⟨5, _⟩ => ⟨S1x2048x4096, .f32⟩
  | .hbm, ⟨6, _⟩ => ⟨S1x2048x4096, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S_, .f32⟩
  | .hbm, ⟨12, _⟩ => ⟨S1x2048x2048, .f32⟩
  | .hbm, ⟨13, _⟩ => ⟨S1x2048x2048, .f32⟩
  | .hbm, ⟨14, _⟩ => ⟨S_, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S1x2048x4096, .f32⟩
  | .hbm, ⟨26, _⟩ => ⟨S_, .f32⟩
  | .hbm, ⟨27, _⟩ => ⟨S1x4096, .f32⟩
  | .hbm, ⟨28, _⟩ => ⟨S1x1x4096, .f32⟩
  | .hbm, ⟨29, _⟩ => ⟨S_, .f32⟩
  | .hbm, ⟨30, _⟩ => ⟨S4096, .f32⟩
  | .hbm, ⟨31, _⟩ => ⟨S2048x4096, .f32⟩
  | .hbm, ⟨32, _⟩ => ⟨S2048x4096, .bf16⟩
  | .hbm, ⟨33, _⟩ => ⟨S1x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_3 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst : Ref sig .tc := ⟨.hbm, 11, rfl⟩
abbrev main_call0_v4 : Ref sig .tc := ⟨.hbm, 12, rfl⟩
abbrev main_call0_v5 : Ref sig .tc := ⟨.hbm, 13, rfl⟩
abbrev main_call0_cst_0 : Ref sig .tc := ⟨.hbm, 14, rfl⟩
abbrev main_call0_v6 : Ref sig .tc := ⟨.hbm, 15, rfl⟩
abbrev main_v4_2 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_v4_1 : Ref sig .tc := ⟨.hbm, 20, rfl⟩
abbrev main_v4_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]
-- ==== Lat.lean ====
abbrev S1x2048 : Shape := ⟨2, ![1, 2048]⟩
abbrev S1x2048x512 : Shape := ⟨3, ![1, 2048, 512]⟩
abbrev S1x2048x64 : Shape := ⟨3, ![1, 2048, 64]⟩
abbrev S512 : Shape := ⟨1, ![512]⟩
abbrev S1x512 : Shape := ⟨2, ![1, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x512 : Shape := ⟨2, ![2048, 512]⟩
abbrev S2048x64 : Shape := ⟨2, ![2048, 64]⟩
abbrev S2048x640 : Shape := ⟨2, ![2048, 640]⟩
abbrev S256x640 : Shape := ⟨2, ![256, 640]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 58
  | .vmem => 22
  | .smem => 0
  | _ => 0

abbrev bufTy : (tb : Table) → Fin (tcTables nBuf tb) → BufTy
  | .hbm, ⟨0, _⟩ => ⟨S1x2048, .i32⟩
  | .hbm, ⟨1, _⟩ => ⟨S1x2048x512, .f32⟩
  | .hbm, ⟨2, _⟩ => ⟨S1x2048x64, .f32⟩
  | .hbm, ⟨3, _⟩ => ⟨S1x2048x512, .f32⟩
  | .hbm, ⟨4, _⟩ => ⟨S512, .f32⟩
  | .hbm, ⟨5, _⟩ => ⟨S1x512, .f32⟩
  | .hbm, ⟨6, _⟩ => ⟨S1x2048x512, .f32⟩
  | .hbm, ⟨7, _⟩ => ⟨S1x2048x64, .f32⟩
  | .hbm, ⟨8, _⟩ => ⟨S1x2048x512, .f32⟩
  | .hbm, ⟨9, _⟩ => ⟨S2048, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x128, .f32⟩
  | .hbm, ⟨35, _⟩ => ⟨S2048x32, .f32⟩
  | .hbm, ⟨36, _⟩ => ⟨S2048x32, .f32⟩
  | .hbm, ⟨37, _⟩ => ⟨S2048x128, .f32⟩
  | .hbm, ⟨38, _⟩ => ⟨S2048x512, .f32⟩
  | .hbm, ⟨39, _⟩ => ⟨S2048x64, .f32⟩
  | .hbm, ⟨40, _⟩ => ⟨S_, .i32⟩
  | .hbm, ⟨41, _⟩ => ⟨S_, .f32⟩
  | .hbm, ⟨42, _⟩ => ⟨S2048x128, .f32⟩
  | .hbm, ⟨43, _⟩ => ⟨S2048x640, .f32⟩
  | .hbm, ⟨44, _⟩ => ⟨S2048x512, .f32⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S2048x512, .f32⟩
  | .hbm, ⟨49, _⟩ => ⟨S2048x64, .f32⟩
  | .hbm, ⟨50, _⟩ => ⟨S_, .i32⟩
  | .hbm, ⟨51, _⟩ => ⟨S_, .f32⟩
  | .hbm, ⟨52, _⟩ => ⟨S2048x128, .f32⟩
  | .hbm, ⟨53, _⟩ => ⟨S2048x512, .f32⟩
  | .hbm, ⟨54, _⟩ => ⟨S2048x640, .bf16⟩
  | .hbm, ⟨55, _⟩ => ⟨S2048x512, .bf16⟩
  | .hbm, ⟨56, _⟩ => ⟨S1x512, .f32⟩
  | .hbm, ⟨57, _⟩ => ⟨S1x512, .f32⟩
  | .local _ .vmem, ⟨0, _⟩ => ⟨S256x640, .f32⟩
  | .local _ .vmem, ⟨1, _⟩ => ⟨S256x640, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x640, .bf16⟩
  | .local _ .vmem, ⟨17, _⟩ => ⟨S256x640, .bf16⟩
  | .local _ .vmem, ⟨18, _⟩ => ⟨S256x512, .bf16⟩
  | .local _ .vmem, ⟨19, _⟩ => ⟨S256x512, .bf16⟩
  | .local _ .vmem, ⟨20, _⟩ => ⟨S1x512, .f32⟩
  | .local _ .vmem, ⟨21, _⟩ => ⟨S1x512, .f32⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_43 : BitVec 32 := 0#32
  let v121 : BitVec 1 := Scalar.cmpi .eq arg0 c0_i32_43
  let v122 : BitVec 32 := Scalar.extui v121
  let c0_i32_44 : BitVec 32 := 0#32
  let v123 : BitVec 1 := Scalar.cmpi .ne v122 c0_i32_44
  v123

def k0_cond2 (i : grid0.Coords) : BitVec 1 :=
  let arg0 : BitVec 32 := BitVec.ofNat 32 (i 0).val
  let c0_i32_43 : BitVec 32 := 0#32
  let v121 : BitVec 1 := Scalar.cmpi .eq arg0 c0_i32_43
  let v_true : BitVec 1 := 1#1
  let v124 : BitVec 1 := Scalar.xori v121 v_true
  let v125 : BitVec 32 := Scalar.extui v124
  let c0_i32_45 : BitVec 32 := 0#32
  let v126 : BitVec 1 := Scalar.cmpi .ne v125 c0_i32_45
  v126

def k0_cond3 (i : grid0.Coords) : BitVec 1 :=
  let arg0 : BitVec 32 := BitVec.ofNat 32 (i 0).val
  let c0_i32_43 : BitVec 32 := 0#32
  let v121 : BitVec 1 := Scalar.cmpi .eq arg0 c0_i32_43
  let v127 : BitVec 32 := Scalar.extui v121
  let c0_i32_46 : BitVec 32 := 0#32
  let v128 : BitVec 1 := Scalar.cmpi .ne v127 c0_i32_46
  v128

def k0_cond4 (i : grid0.Coords) : BitVec 1 :=
  let arg0 : BitVec 32 := BitVec.ofNat 32 (i 0).val
  let c0_i32_43 : BitVec 32 := 0#32
  let v121 : BitVec 1 := Scalar.cmpi .eq arg0 c0_i32_43
  let true_47 : BitVec 1 := 1#1
  let v129 : BitVec 1 := Scalar.xori v121 true_47
  let v130 : BitVec 32 := Scalar.extui v129
  let c0_i32_48 : BitVec 32 := 0#32
  let v131 : BitVec 1 := Scalar.cmpi .ne v130 c0_i32_48
  v131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LatRefIdeal.lean ====
abbrev S1x2048 : Shape := ⟨2, ![1, 2048]⟩
abbrev S1x2048x512 : Shape := ⟨3, ![1, 2048, 512]⟩
abbrev S1x2048x64 : Shape := ⟨3, ![1, 2048, 64]⟩
abbrev S512 : Shape := ⟨1, ![512]⟩
abbrev S1x512 : Shape := ⟨2, ![1, 512]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S1x1x512 : Shape := ⟨3, ![1, 1, 512]⟩
abbrev S2048 : Shape := ⟨1, ![2048]⟩
abbrev S2048x512 : Shape := ⟨2, ![2048, 512]⟩
abbrev S2048x64 : Shape := ⟨2, ![2048, 64]⟩
abbrev S2048x128 : Shape := ⟨2, ![2048, 128]⟩
abbrev S2048x640 : Shape := ⟨2, ![2048, 640]⟩

abbrev nBuf : Space → Nat
  | .hbm => 156
  | .vmem => 0
  | .smem => 0
  | _ => 0

abbrev hbmTy0_0 (i : Nat) : BufTy := match i % 128 with
  | 0 => ⟨S1x2048, .i32⟩
  | 1 => ⟨S1x2048x512, .f32⟩
  | 2 => ⟨S1x2048x64, .f32⟩
  | 3 => ⟨S1x2048x512, .f32⟩
  | 4 => ⟨S512, .f32⟩
  | 5 => ⟨S1x512, .f32⟩
  | 6 => ⟨S1x2048x512, .f32⟩
  | 7 => ⟨S1x2048x64, .f32⟩
  | 8 => ⟨S1x2048x512, .f32⟩
  | 9 => ⟨S512, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S1x2048, .f32⟩
  | 27 => ⟨S1x2048x1, .f32⟩
  | 28 => ⟨S1x1x32, .f32⟩
  | 29 => ⟨S1x2048x32, .f32⟩
  | 30 => ⟨S1x2048x32, .f32⟩
  | 31 => ⟨S1x2048x32, .f32⟩
  | 32 => ⟨S1x2048x32, .f32⟩
  | 33 => ⟨S1x2048x32, .f32⟩
  | 34 => ⟨S1x2048x512, .f32⟩
  | 35 => ⟨S_, .f32⟩
  | 36 => ⟨S1x2048, .f32⟩
  | 37 => ⟨S1x2048x1, .f32⟩
  | 38 => ⟨S_, .f32⟩
  | 39 => ⟨S1x2048x1, .f32⟩
  | 40 => ⟨S1x2048x1, .f32⟩
  | 41 => ⟨S_, .f32⟩
  | 42 => ⟨S1x2048x1, .f32⟩
  | 43 => ⟨S1x2048x1, .f32⟩
  | 44 => ⟨S1x2048x1, .f32⟩
  | 45 => ⟨S1x2048x1, .f32⟩
  | 46 => ⟨S_, .f32⟩
  | 47 => ⟨S1x2048x1, .f32⟩
  | 48 => ⟨S1x2048x1, .f32⟩
  | 49 => ⟨S1x2048x512, .f32⟩
  | 50 => ⟨S1x2048x512, .f32⟩
  | 51 => ⟨S1x1x512, .f32⟩
  | 52 => ⟨S1x2048x512, .f32⟩
  | 53 => ⟨S1x2048x512, .f32⟩
  | 54 => ⟨S1x2048x32, .f32⟩
  | 55 => ⟨S1x2048x32, .f32⟩
  | 56 => ⟨S1x2048x32, .f32⟩
  | 57 => ⟨S1x2048x32, .f32⟩
  | 58 => ⟨S1x2048x32, .f32⟩
  | 59 => ⟨S1x2048x32, .f32⟩
  | 60 => ⟨S1x2048x32, .f32⟩
  | 61 => ⟨S1x2048x32, .f32⟩
  | 62 => ⟨S1x2048x64, .f32⟩
  | 63 => ⟨S1x2048x512, .f32⟩
  | 64 => ⟨S_, .f32⟩
  | 65 => ⟨S1x2048, .f32⟩
  | 66 => ⟨S1x2048x1, .f32⟩
  | 67 => ⟨S_, .f32⟩
  | 68 => ⟨S1x2048x1, .f32⟩
  | 69 => ⟨S1x2048x1, .f32⟩
  | 70 => ⟨S_, .f32⟩
  | 71 => ⟨S1x2048x1, .f32⟩
  | 72 => ⟨S1x2048x1, .f32⟩
  | 73 => ⟨S1x2048x1, .f32⟩
  | 74 => ⟨S1x2048x1, .f32⟩
  | 75 => ⟨S_, .f32⟩
  | 76 => ⟨S1x2048x1, .f32⟩
  | 77 => ⟨S1x2048x1, .f32⟩
  | 78 => ⟨S1x2048x512, .f32⟩
  | 79 => ⟨S1x2048x512, .f32⟩
  | 80 => ⟨S1x1x512, .f32⟩
  | 81 => ⟨S1x2048x512, .f32⟩
  | 82 => ⟨S1x2048x512, .f32⟩
  | 83 => ⟨S1x2048x512, .f32⟩
  | 84 => ⟨S_, .f32⟩
  | 85 => ⟨S1x512, .f32⟩
  | 86 => ⟨S1x1x512, .f32⟩
  | 87 => ⟨S1x2048x512, .f32⟩
  | 88 => ⟨S1x2048x512, .f32⟩
  | 89 => ⟨S_, .f32⟩
  | 90 => ⟨S512, .f32⟩
  | 91 => ⟨S1x2048x512, .f32⟩
  | 92 => ⟨S_, .f32⟩
  | 93 => ⟨S1x2048, .f32⟩
  | 94 => ⟨S1x2048x1, .f32⟩
  | 95 => ⟨S1x2048x512, .f32⟩
  | 96 => ⟨S1x2048x512, .f32⟩
  | 97 => ⟨S1x2048x1, .f32⟩
  | 98 => ⟨S_, .f32⟩
  | 99 => ⟨S1x2048x1, .f32⟩
  | 100 => ⟨S1x2048x1, .f32⟩
  | 101 => ⟨S_, .f32⟩
  | 102 => ⟨S2048, .f32⟩
  | 103 => ⟨S1x2048, .f32⟩
  | 104 => ⟨S1x2048x512, .f32⟩
  | 105 => ⟨S1x2048x512, .f32⟩
  | 106 => ⟨S1x2048x512, .f32⟩
  | 107 => ⟨S1x2048x512, .f32⟩
  | 108 => ⟨S1x2048x512, .f32⟩
  | 109 => ⟨S1x2048x32, .f32⟩
  | 110 => ⟨S1x2048x32, .f32⟩
  | 111 => ⟨S1x2048x32, .f32⟩
  | 112 => ⟨S1x2048x32, .f32⟩
  | 113 => ⟨S1x2048x32, .f32⟩
  | 114 => ⟨S1x2048x32, .f32⟩
  | 115 => ⟨S1x2048x32, .f32⟩
  | 116 => ⟨S1x2048x32, .f32⟩
  | 117 => ⟨S1x2048x32, .f32⟩
  | 118 => ⟨S1x2048x64, .f32⟩
  | 119 => ⟨S1x2048x512, .f32⟩
  | 120 => ⟨S_, .f32⟩
  | 121 => ⟨S1x512, .f32⟩
  | 122 => ⟨S1x1x512, .f32⟩
  | 123 => ⟨S1x2048x512, .f32⟩
  | 124 => ⟨S1x2048x512, .f32⟩
  | 125 => ⟨S_, .f32⟩
  | 126 => ⟨S512, .f32⟩
  | 127 => ⟨S1x2048x512, .f32⟩
  | _ => ⟨S1x2048, .i32⟩

abbrev hbmTy0_1 (i : Nat) : BufTy := match i % 128 with
  | 0 => ⟨S_, .f32⟩
  | 1 => ⟨S1x2048, .f32⟩
  | 2 => ⟨S1x2048x1, .f32⟩
  | 3 => ⟨S1x2048x512, .f32⟩
  | 4 => ⟨S1x2048x512, .f32⟩
  | 5 => ⟨S1x2048x1, .f32⟩
  | 6 => ⟨S_, .f32⟩
  | 7 => ⟨S1x2048x1, .f32⟩
  | 8 => ⟨S1x2048x1, .f32⟩
  | 9 => ⟨S_, .f32⟩
  | 10 => ⟨S2048, .f32⟩
  | 11 => ⟨S1x2048, .f32⟩
  | 12 => ⟨S1x2048x512, .f32⟩
  | 13 => ⟨S1x2048x512, .f32⟩
  | 14 => ⟨S1x2048x512, .f32⟩
  | 15 => ⟨S1x2048x512, .f32⟩
  | 16 => ⟨S1x2048x512, .f32⟩
  | 17 => ⟨S2048x512, .f32⟩
  | 18 => ⟨S2048x64, .f32⟩
  | 19 => ⟨S_, .i32⟩
  | 20 => ⟨S_, .f32⟩
  | 21 => ⟨S2048x128, .f32⟩
  | 22 => ⟨S2048x640, .f32⟩
  | 23 => ⟨S2048x640, .bf16⟩
  | 24 => ⟨S2048x512, .f32⟩
  | 25 => ⟨S2048x512, .bf16⟩
  | 26 => ⟨S1x512, .f32⟩
  | 27 => ⟨S1x512, .f32⟩
  | _ => ⟨S1x2048, .i32⟩

abbrev hbmTy (i : Nat) : BufTy := match i / 128 with
  | 0 => hbmTy0_0 i
  | 1 => hbmTy0_1 i
  | _ => ⟨S1x2048, .i32⟩

abbrev bufTy : (tb : Table) → Fin (tcTables nBuf tb) → BufTy
  | .hbm, ⟨i, _⟩ => hbmTy i
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c : Ref sig .tc := ⟨.hbm, 147, rfl⟩
abbrev main_call0_v0 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]
-- ==== AttnF.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S2048x64 : Shape := ⟨2, ![2048, 64]⟩
abbrev S_ : Shape := ⟨0, ![]⟩
abbrev S2048x128 : Shape := ⟨2, ![2048, 128]⟩
abbrev S2048x2048 : Shape := ⟨2, ![2048, 2048]⟩
abbrev S2048x1024 : Shape := ⟨2, ![2048, 1024]⟩
abbrev S2048x256 : Shape := ⟨2, ![2048, 256]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S512x1024 : Shape := ⟨2, ![512, 1024]⟩
abbrev S1536x256 : Shape := ⟨2, ![1536, 256]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 19
  | .vmem => 11
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x64, .f32⟩
  | .hbm, ⟨2, _⟩ => ⟨S1x2048x16x128, .f32⟩
  | .hbm, ⟨3, _⟩ => ⟨S1x2048x64, .f32⟩
  | .hbm, ⟨4, _⟩ => ⟨S1x2048x16x128, .f32⟩
  | .hbm, ⟨5, _⟩ => ⟨S2048x64, .f32⟩
  | .hbm, ⟨6, _⟩ => ⟨S2048x64, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S2048x2048, .f32⟩
  | .hbm, ⟨11, _⟩ => ⟨S2048x2048, .bf16⟩
  | .hbm, ⟨12, _⟩ => ⟨S2048x1024, .f32⟩
  | .hbm, ⟨13, _⟩ => ⟨S2048x1024, .bf16⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S1x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFIdeal.lean ====
variable {F : FTy → Type} [FloatOps F] [Named F]
def κ : String → Option EReal := fun
  | "mask" => some ⊥
  | _ => none
-- ==== AttnFRefIdeal.lean ====
abbrev S1x2048x16x128 : Shape := ⟨4, ![1, 2048, 16, 128]⟩
abbrev S1x2048x16x64 : Shape := ⟨4, ![1, 2048, 16, 64]⟩
abbrev S1x2048x64 : Shape := ⟨3, ![1, 2048, 64]⟩
abbrev S1x16x2048x2048 : Shape := ⟨4, ![1, 16, 2048, 2048]⟩
abbrev S1x2048x2048x16 : Shape := ⟨4, ![1, 2048, 2048, 16]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x64, .f32⟩
  | .hbm, ⟨2, _⟩ => ⟨S1x2048x16x128, .f32⟩
  | .hbm, ⟨3, _⟩ => ⟨S1x2048x64, .f32⟩
  | .hbm, ⟨4, _⟩ => ⟨S1x2048x16x128, .f32⟩
  | .hbm, ⟨5, _⟩ => ⟨S1x16x2048x2048, .f32⟩
  | .hbm, ⟨6, _⟩ => ⟨S1x2048x2048x16, .f32⟩
  | .hbm, ⟨7, _⟩ => ⟨S1x16x2048x2048, .f32⟩
  | .hbm, ⟨8, _⟩ => ⟨S1x16x2048x2048, .f32⟩
  | .hbm, ⟨9, _⟩ => ⟨S_, .f32⟩
  | .hbm, ⟨10, _⟩ => ⟨S1x16x2048x2048, .f32⟩
  | .hbm, ⟨11, _⟩ => ⟨S1x16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S1x16x2048x2048, .i1⟩
  | .hbm, ⟨23, _⟩ => ⟨S1x16x2048x2048, .f32⟩
  | .hbm, ⟨24, _⟩ => ⟨S1x16x2048x2048, .f32⟩
  | .hbm, ⟨25, _⟩ => ⟨S_, .f32⟩
  | .hbm, ⟨26, _⟩ => ⟨S1x16x2048, .f32⟩
  | .hbm, ⟨27, _⟩ => ⟨S_, .f32⟩
  | .hbm, ⟨28, _⟩ => ⟨S1x16x2048, .f32⟩
  | .hbm, ⟨29, _⟩ => ⟨S1x16x2048, .f32⟩
  | .hbm, ⟨30, _⟩ => ⟨S1x16x2048x1, .f32⟩
  | .hbm, ⟨31, _⟩ => ⟨S1x16x2048x2048, .f32⟩
  | .hbm, ⟨32, _⟩ => ⟨S1x16x2048x2048, .f32⟩
  | .hbm, ⟨33, _⟩ => ⟨S1x16x2048x2048, .f32⟩
  | .hbm, ⟨34, _⟩ => ⟨S_, .f32⟩
  | .hbm, ⟨35, _⟩ => ⟨S1x16x2048, .f32⟩
  | .hbm, ⟨36, _⟩ => ⟨S1x16x2048x1, .f32⟩
  | .hbm, ⟨37, _⟩ => ⟨S1x16x2048x2048, .f32⟩
  | .hbm, ⟨38, _⟩ => ⟨S1x16x2048x2048, .f32⟩
  | .hbm, ⟨39, _⟩ => ⟨S1x16x128x2048, .f32⟩
  | .hbm, ⟨40, _⟩ => ⟨S1x2048x16x128, .f32⟩
  | .hbm, ⟨41, _⟩ => ⟨S2048x2048, .f32⟩
  | .hbm, ⟨42, _⟩ => ⟨S2048x2048, .bf16⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

def κ : String → Option EReal := fun
  | "mask" => some ⊥
  | _ => none
-- ==== PreF.lean ====
abbrev S1x2048x2048 : Shape := ⟨3, ![1, 2048, 2048]⟩
abbrev S2x2048 : Shape := ⟨2, ![2, 2048]⟩
abbrev S1x2048 : Shape := ⟨2, ![1, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreFRefIdeal.lean ====
abbrev S1x2048x2048 : Shape := ⟨3, ![1, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S1x1x2048, .f32⟩
  | .hbm, ⟨23, _⟩ => ⟨S_, .f32⟩
  | .hbm, ⟨24, _⟩ => ⟨S1x1x2048, .f32⟩
  | .hbm, ⟨25, _⟩ => ⟨S1x1x2048, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S1x2048x2048, .f32⟩
  | .hbm, ⟨30, _⟩ => ⟨S1x2048x2048, .f32⟩
  | .hbm, ⟨31, _⟩ => ⟨S2048x2048, .f32⟩
  | .hbm, ⟨32, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== GluF.lean ====
abbrev S1x2048x4096 : Shape := ⟨3, ![1, 2048, 4096]⟩
abbrev S1x4096 : Shape := ⟨2, ![1, 4096]⟩
abbrev S2048x4096 : Shape := ⟨2, ![2048, 4096]⟩
abbrev S2048x2048 : Shape := ⟨2, ![2048, 2048]⟩
abbrev S256x4096 : Shape := ⟨2, ![256, 4096]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x4096, .f32⟩
  | .hbm, ⟨1, _⟩ => ⟨S1x4096, .f32⟩
  | .hbm, ⟨2, _⟩ => ⟨S2048x4096, .f32⟩
  | .hbm, ⟨3, _⟩ => ⟨S2048x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x2048, .f32⟩
  | .local _ .vmem, ⟨4, _⟩ => ⟨S256x2048, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluFRefIdeal.lean ====
abbrev S1x2048x4096 : Shape := ⟨3, ![1, 2048, 4096]⟩
abbrev S1x4096 : Shape := ⟨2, ![1, 4096]⟩
abbrev S4096 : Shape := ⟨1, ![4096]⟩
abbrev S1x1x4096 : Shape := ⟨3, ![1, 1, 4096]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x4096, .f32⟩
  | .hbm, ⟨2, _⟩ => ⟨S4096, .f32⟩
  | .hbm, ⟨3, _⟩ => ⟨S1x1x4096, .f32⟩
  | .hbm, ⟨4, _⟩ => ⟨S1x2048x4096, .f32⟩
  | .hbm, ⟨5, _⟩ => ⟨S1x2048x4096, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S_, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S2048x2048, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_v5 : Ref sig .tc := ⟨.hbm, 12, rfl⟩
abbrev main_call0_cst_0 : Ref sig .tc := ⟨.hbm, 13, rfl⟩
abbrev main_call0_v6 : Ref sig .tc := ⟨.hbm, 14, rfl⟩
abbrev main_call0_v7 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== ConvF.lean ====
abbrev S1x2048x2048 : Shape := ⟨3, ![1, 2048, 2048]⟩
abbrev S31x2048 : Shape := ⟨2, ![31, 2048]⟩
abbrev S1x2048 : Shape := ⟨2, ![1, 2048]⟩
abbrev S2048x2048 : Shape := ⟨2, ![2048, 2048]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S256x128 : Shape := ⟨2, ![256, 128]⟩

abbrev nBuf : Space → Nat
  | .hbm => 5
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S31x2048, .f32⟩
  | .hbm, ⟨2, _⟩ => ⟨S1x2048, .f32⟩
  | .hbm, ⟨3, _⟩ => ⟨S2048x2048, .f32⟩
  | .hbm, ⟨4, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S31x128, .f32⟩
  | .local _ .vmem, ⟨3, _⟩ => ⟨S31x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2080x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFRefIdeal.lean ====
abbrev S1x2048x2048 : Shape := ⟨3, ![1, 2048, 2048]⟩
abbrev S31x2048 : Shape := ⟨2, ![31, 2048]⟩
abbrev S1x2048 : Shape := ⟨2, ![1, 2048]⟩
abbrev S2048x2048 : Shape := ⟨2, ![2048, 2048]⟩
abbrev S2048 : Shape := ⟨1, ![2048]⟩
abbrev S31x2048x2048 : Shape := ⟨3, ![31, 2048, 2048]⟩
abbrev S_ : Shape := ⟨0, ![]⟩
abbrev S31x1x2048 : Shape := ⟨3, ![31, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S31x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S31x2048x2048, .i32⟩
  | .hbm, ⟨6, _⟩ => ⟨S31x2048x2048, .i32⟩
  | .hbm, ⟨7, _⟩ => ⟨S31x2048x2048, .i32⟩
  | .hbm, ⟨8, _⟩ => ⟨S_, .i32⟩
  | .hbm, ⟨9, _⟩ => ⟨S31x2048x2048, .i32⟩
  | .hbm, ⟨10, _⟩ => ⟨S31x2048x2048, .i32⟩
  | .hbm, ⟨11, _⟩ => ⟨S31x2048x2048, .i32⟩
  | .hbm, ⟨12, _⟩ => ⟨S31x2048x2048, .i1⟩
  | .hbm, ⟨13, _⟩ => ⟨S_, .f32⟩
  | .hbm, ⟨14, _⟩ => ⟨S_, .f32⟩
  | .hbm, ⟨15, _⟩ => ⟨S31x2048x2048, .f32⟩
  | .hbm, ⟨16, _⟩ => ⟨S31x2048x2048, .f32⟩
  | .hbm, ⟨17, _⟩ => ⟨S31x2048x2048, .f32⟩
  | .hbm, ⟨18, _⟩ => ⟨S31x2048x2048, .f32⟩
  | .hbm, ⟨19, _⟩ => ⟨S31x1x2048, .f32⟩
  | .hbm, ⟨20, _⟩ => ⟨S31x2048x2048, .f32⟩
  | .hbm, ⟨21, _⟩ => ⟨S31x2048x2048, .f32⟩
  | .hbm, ⟨22, _⟩ => ⟨S_, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== LnF.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnFRefIdeal.lean ====
abbrev S1x2048x2048 : Shape := ⟨3, ![1, 2048, 2048]⟩
abbrev S1x2048 : Shape := ⟨2, ![1, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S_, .f32⟩
  | .hbm, ⟨15, _⟩ => ⟨S1x2048, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x2048, .f32⟩
  | .hbm, ⟨21, _⟩ => ⟨S1x2048x2048, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S1x2048x2048, .f32⟩
  | .hbm, ⟨30, _⟩ => ⟨S1x2048x2048, .f32⟩
  | .hbm, ⟨31, _⟩ => ⟨S1x1x2048, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S2048x2048, .f32⟩
  | .hbm, ⟨44, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== PostbPreF.lean ====
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S2x2048, .f32⟩
  | .hbm, ⟨5, _⟩ => ⟨S2x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048x2048, .f32⟩
  | .hbm, ⟨17, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostbPreFRefIdeal.lean ====
abbrev S1x2048x2048 : Shape := ⟨3, ![1, 2048, 2048]⟩
abbrev S1x2048 : Shape := ⟨2, ![1, 2048]⟩
abbrev S2x2048 : Shape := ⟨2, ![2, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048, .f32⟩
  | .hbm, ⟨4, _⟩ => ⟨S2x2048, .f32⟩
  | .hbm, ⟨5, _⟩ => ⟨S2x2048, .f32⟩
  | .hbm, ⟨6, _⟩ => ⟨S1x2048, .f32⟩
  | .hbm, ⟨7, _⟩ => ⟨S1x2048, .f32⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S1x2048x2048, .f32⟩
  | .hbm, ⟨12, _⟩ => ⟨S1x2048x2048, .f32⟩
  | .hbm, ⟨13, _⟩ => ⟨S1x2048, .f32⟩
  | .hbm, ⟨14, _⟩ => ⟨S2048, .f32⟩
  | .hbm, ⟨15, _⟩ => ⟨S1x2048x2048, .f32⟩
  | .hbm, ⟨16, _⟩ => ⟨S_, .f32⟩
  | .hbm, ⟨17, _⟩ => ⟨S1x2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S2048x2048, .f32⟩
  | .hbm, ⟨35, _⟩ => ⟨S1x2048, .f32⟩
  | .hbm, ⟨36, _⟩ => ⟨S2048, .f32⟩
  | .hbm, ⟨37, _⟩ => ⟨S1x2048x2048, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S1x2048x1, .f32⟩
  | .hbm, ⟨48, _⟩ => ⟨S1x2048x2048, .f32⟩
  | .hbm, ⟨49, _⟩ => ⟨S1x2048x2048, .f32⟩
  | .hbm, ⟨50, _⟩ => ⟨S1x1x2048, .f32⟩
  | .hbm, ⟨51, _⟩ => ⟨S1x2048x2048, .f32⟩
  | .hbm, ⟨52, _⟩ => ⟨S1x2048x2048, .f32⟩
  | .hbm, ⟨53, _⟩ => ⟨S1x1x2048, .f32⟩
  | .hbm, ⟨54, _⟩ => ⟨S_, .f32⟩
  | .hbm, ⟨55, _⟩ => ⟨S1x1x2048, .f32⟩
  | .hbm, ⟨56, _⟩ => ⟨S1x1x2048, .f32⟩
  | .hbm, ⟨57, _⟩ => ⟨S1x2048x2048, .f32⟩
  | .hbm, ⟨58, _⟩ => ⟨S1x2048x2048, .f32⟩
  | .hbm, ⟨59, _⟩ => ⟨S1x1x2048, .f32⟩
  | .hbm, ⟨60, _⟩ => ⟨S1x2048x2048, .f32⟩
  | .hbm, ⟨61, _⟩ => ⟨S1x2048x2048, .f32⟩
  | .hbm, ⟨62, _⟩ => ⟨S2048x2048, .f32⟩
  | .hbm, ⟨63, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== UpF.lean ====
abbrev S1x2048x2048 : Shape := ⟨3, ![1, 2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S2048x2048, .f32⟩
  | .hbm, ⟨6, _⟩ => ⟨S2048x2048, .bf16⟩
  | .hbm, ⟨7, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S1x2048x2048 : Shape := ⟨3, ![1, 2048, 2048]⟩
abbrev S2048x8192 : Shape := ⟨2, ![2048, 8192]⟩
abbrev S1x2048x8192 : Shape := ⟨3, ![1, 2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x8192, .f32⟩
  | .hbm, ⟨2, _⟩ => ⟨S1x2048x8192, .f32⟩
  | .hbm, ⟨3, _⟩ => ⟨S_, .f32⟩
  | .hbm, ⟨4, _⟩ => ⟨S1x2048x8192, .f32⟩
  | .hbm, ⟨5, _⟩ => ⟨S1x2048x8192, .f32⟩
  | .hbm, ⟨6, _⟩ => ⟨S1x2048x8192, .f32⟩
  | .hbm, ⟨7, _⟩ => ⟨S2048x8192, .f32⟩
  | .hbm, ⟨8, _⟩ => ⟨S2048x8192, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PostTwinF.lean ====
abbrev S1x2048x2048 : Shape := ⟨3, ![1, 2048, 2048]⟩
abbrev S1x2048 : Shape := ⟨2, ![1, 2048]⟩
abbrev S2x2048 : Shape := ⟨2, ![2, 2048]⟩
abbrev S2048 : Shape := ⟨1, ![2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048x2048, .f32⟩
  | .hbm, ⟨20, _⟩ => ⟨S2048x2048, .bf16⟩
  | .hbm, ⟨21, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostTwinFRefIdeal.lean ====
abbrev S1x2048x2048 : Shape := ⟨3, ![1, 2048, 2048]⟩
abbrev S1x2048 : Shape := ⟨2, ![1, 2048]⟩
abbrev S2x2048 : Shape := ⟨2, ![2, 2048]⟩
abbrev S2048 : Shape := ⟨1, ![2048]⟩
abbrev S1x1x2048 : Shape := ⟨3, ![1, 1, 2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2x2048, .f32⟩
  | .hbm, ⟨8, _⟩ => ⟨S1x2048, .f32⟩
  | .hbm, ⟨9, _⟩ => ⟨S1x2048, .f32⟩
  | .hbm, ⟨10, _⟩ => ⟨S1x1x2048, .f32⟩
  | .hbm, ⟨11, _⟩ => ⟨S1x2048, .f32⟩
  | .hbm, ⟨12, _⟩ => ⟨S2048, .f32⟩
  | .hbm, ⟨13, _⟩ => ⟨S1x2048x2048, .f32⟩
  | .hbm, ⟨14, _⟩ => ⟨S_, .f32⟩
  | .hbm, ⟨15, _⟩ => ⟨S1x2048, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1, .f32⟩
  | .hbm, ⟨24, _⟩ => ⟨S1x2048x2048, .f32⟩
  | .hbm, ⟨25, _⟩ => ⟨S1x2048x2048, .f32⟩
  | .hbm, ⟨26, _⟩ => ⟨S1x1x2048, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S_, .f32⟩
  | .hbm, ⟨34, _⟩ => ⟨S1x2048, .f32⟩
  | .hbm, ⟨35, _⟩ => ⟨S1x2048x1, .f32⟩
  | .hbm, ⟨36, _⟩ => ⟨S_, .f32⟩
  | .hbm, ⟨37, _⟩ => ⟨S1x2048x1, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x1, .f32⟩
  | .hbm, ⟨43, _⟩ => ⟨S1x2048x2048, .f32⟩
  | .hbm, ⟨44, _⟩ => ⟨S1x2048x2048, .f32⟩
  | .hbm, ⟨45, _⟩ => ⟨S1x1x2048, .f32⟩
  | .hbm, ⟨46, _⟩ => ⟨S1x2048x2048, .f32⟩
  | .hbm, ⟨47, _⟩ => ⟨S1x2048x2048, .f32⟩
  | .hbm, ⟨48, _⟩ => ⟨S1x1x2048, .f32⟩
  | .hbm, ⟨49, _⟩ => ⟨S_, .f32⟩
  | .hbm, ⟨50, _⟩ => ⟨S1x1x2048, .f32⟩
  | .hbm, ⟨51, _⟩ => ⟨S1x1x2048, .f32⟩
  | .hbm, ⟨52, _⟩ => ⟨S1x2048x2048, .f32⟩
  | .hbm, ⟨53, _⟩ => ⟨S1x2048x2048, .f32⟩
  | .hbm, ⟨54, _⟩ => ⟨S1x1x2048, .f32⟩
  | .hbm, ⟨55, _⟩ => ⟨S1x2048x2048, .f32⟩
  | .hbm, ⟨56, _⟩ => ⟨S1x2048x2048, .f32⟩
  | .hbm, ⟨57, _⟩ => ⟨S1x2048, .f32⟩
  | .hbm, ⟨58, _⟩ => ⟨S2048, .f32⟩
  | .hbm, ⟨59, _⟩ => ⟨S1x2048x2048, .f32⟩
  | .hbm, ⟨60, _⟩ => ⟨S_, .f32⟩
  | .hbm, ⟨61, _⟩ => ⟨S1x2048, .f32⟩
  | .hbm, ⟨62, _⟩ => ⟨S1x2048x1, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S_, .f32⟩
  | .hbm, ⟨67, _⟩ => ⟨S1x2048x1, .f32⟩
  | .hbm, ⟨68, _⟩ => ⟨S1x2048x1, .f32⟩
  | .hbm, ⟨69, _⟩ => ⟨S1x2048x1, .f32⟩
  | .hbm, ⟨70, _⟩ => ⟨S1x2048x2048, .f32⟩
  | .hbm, ⟨71, _⟩ => ⟨S1x2048x2048, .f32⟩
  | .hbm, ⟨72, _⟩ => ⟨S1x1x2048, .f32⟩
  | .hbm, ⟨73, _⟩ => ⟨S1x2048x2048, .f32⟩
  | .hbm, ⟨74, _⟩ => ⟨S1x2048x2048, .f32⟩
  | .hbm, ⟨75, _⟩ => ⟨S1x1x2048, .f32⟩
  | .hbm, ⟨76, _⟩ => ⟨S_, .f32⟩
  | .hbm, ⟨77, _⟩ => ⟨S1x1x2048, .f32⟩
  | .hbm, ⟨78, _⟩ => ⟨S1x1x2048, .f32⟩
  | .hbm, ⟨79, _⟩ => ⟨S1x2048x2048, .f32⟩
  | .hbm, ⟨80, _⟩ => ⟨S1x2048x2048, .f32⟩
  | .hbm, ⟨81, _⟩ => ⟨S1x1x2048, .f32⟩
  | .hbm, ⟨82, _⟩ => ⟨S1x2048x2048, .f32⟩
  | .hbm, ⟨83, _⟩ => ⟨S1x2048x2048, .f32⟩
  | .hbm, ⟨84, _⟩ => ⟨S2048x2048, .f32⟩
  | .hbm, ⟨85, _⟩ => ⟨S2048x2048, .f32⟩
  | .hbm, ⟨86, _⟩ => ⟨S2048x2048, .bf16⟩
  | .hbm, ⟨87, _⟩ => ⟨S2048x2048, .f32⟩
  | .hbm, ⟨88, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== LatF.lean ====
abbrev S1x2048 : Shape := ⟨2, ![1, 2048]⟩
abbrev S1x2048x512 : Shape := ⟨3, ![1, 2048, 512]⟩
abbrev S1x2048x64 : Shape := ⟨3, ![1, 2048, 64]⟩
abbrev S512 : Shape := ⟨1, ![512]⟩
abbrev S1x512 : Shape := ⟨2, ![1, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x512 : Shape := ⟨2, ![2048, 512]⟩
abbrev S2048x64 : Shape := ⟨2, ![2048, 64]⟩
abbrev S2048x640 : Shape := ⟨2, ![2048, 640]⟩
abbrev S256x640 : Shape := ⟨2, ![256, 640]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 48
  | .vmem => 16
  | .smem => 0
  | _ => 0

abbrev bufTy : (tb : Table) → Fin (tcTables nBuf tb) → BufTy
  | .hbm, ⟨0, _⟩ => ⟨S1x2048, .i32⟩
  | .hbm, ⟨1, _⟩ => ⟨S1x2048x512, .f32⟩
  | .hbm, ⟨2, _⟩ => ⟨S1x2048x64, .f32⟩
  | .hbm, ⟨3, _⟩ => ⟨S1x2048x512, .f32⟩
  | .hbm, ⟨4, _⟩ => ⟨S512, .f32⟩
  | .hbm, ⟨5, _⟩ => ⟨S1x512, .f32⟩
  | .hbm, ⟨6, _⟩ => ⟨S2048, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x128, .f32⟩
  | .hbm, ⟨32, _⟩ => ⟨S2048x32, .f32⟩
  | .hbm, ⟨33, _⟩ => ⟨S2048x32, .f32⟩
  | .hbm, ⟨34, _⟩ => ⟨S2048x128, .f32⟩
  | .hbm, ⟨35, _⟩ => ⟨S2048x512, .f32⟩
  | .hbm, ⟨36, _⟩ => ⟨S2048x64, .f32⟩
  | .hbm, ⟨37, _⟩ => ⟨S_, .i32⟩
  | .hbm, ⟨38, _⟩ => ⟨S_, .f32⟩
  | .hbm, ⟨39, _⟩ => ⟨S2048x128, .f32⟩
  | .hbm, ⟨40, _⟩ => ⟨S2048x640, .f32⟩
  | .hbm, ⟨41, _⟩ => ⟨S2048x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S2048x512, .bf16⟩
  | .hbm, ⟨46, _⟩ => ⟨S2048x128, .bf16⟩
  | .hbm, ⟨47, _⟩ => ⟨S2048x512, .bf16⟩
  | .local _ .vmem, ⟨0, _⟩ => ⟨S256x640, .f32⟩
  | .local _ .vmem, ⟨1, _⟩ => ⟨S256x640, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x512, .bf16⟩
  | .local _ .vmem, ⟨15, _⟩ => ⟨S256x512, .bf16⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LatFRefIdeal.lean ====
abbrev S1x2048 : Shape := ⟨2, ![1, 2048]⟩
abbrev S1x2048x512 : Shape := ⟨3, ![1, 2048, 512]⟩
abbrev S1x2048x64 : Shape := ⟨3, ![1, 2048, 64]⟩
abbrev S512 : Shape := ⟨1, ![512]⟩
abbrev S1x512 : Shape := ⟨2, ![1, 512]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S2048x64 : Shape := ⟨2, ![2048, 64]⟩
abbrev S2048x128 : Shape := ⟨2, ![2048, 128]⟩
abbrev S1x1x512 : Shape := ⟨3, ![1, 1, 512]⟩
abbrev S2048x512 : Shape := ⟨2, ![2048, 512]⟩

abbrev nBuf : Space → Nat
  | .hbm => 81
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S1x2048x512, .f32⟩
  | .hbm, ⟨2, _⟩ => ⟨S1x2048x64, .f32⟩
  | .hbm, ⟨3, _⟩ => ⟨S1x2048x512, .f32⟩
  | .hbm, ⟨4, _⟩ => ⟨S512, .f32⟩
  | .hbm, ⟨5, _⟩ => ⟨S1x512, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x2048, .f32⟩
  | .hbm, ⟨23, _⟩ => ⟨S1x2048x1, .f32⟩
  | .hbm, ⟨24, _⟩ => ⟨S1x1x32, .f32⟩
  | .hbm, ⟨25, _⟩ => ⟨S1x2048x32, .f32⟩
  | .hbm, ⟨26, _⟩ => ⟨S1x2048x32, .f32⟩
  | .hbm, ⟨27, _⟩ => ⟨S1x2048x32, .f32⟩
  | .hbm, ⟨28, _⟩ => ⟨S1x2048x32, .f32⟩
  | .hbm, ⟨29, _⟩ => ⟨S1x2048x32, .f32⟩
  | .hbm, ⟨30, _⟩ => ⟨S1x2048x32, .f32⟩
  | .hbm, ⟨31, _⟩ => ⟨S1x2048x32, .f32⟩
  | .hbm, ⟨32, _⟩ => ⟨S1x2048x32, .f32⟩
  | .hbm, ⟨33, _⟩ => ⟨S1x2048x32, .f32⟩
  | .hbm, ⟨34, _⟩ => ⟨S1x2048x32, .f32⟩
  | .hbm, ⟨35, _⟩ => ⟨S1x2048x32, .f32⟩
  | .hbm, ⟨36, _⟩ => ⟨S1x2048x32, .f32⟩
  | .hbm, ⟨37, _⟩ => ⟨S1x2048x32, .f32⟩
  | .hbm, ⟨38, _⟩ => ⟨S1x2048x64, .f32⟩
  | .hbm, ⟨39, _⟩ => ⟨S2048x64, .f32⟩
  | .hbm, ⟨40, _⟩ => ⟨S_, .i32⟩
  | .hbm, ⟨41, _⟩ => ⟨S_, .f32⟩
  | .hbm, ⟨42, _⟩ => ⟨S2048x128, .f32⟩
  | .hbm, ⟨43, _⟩ => ⟨S1x2048x512, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S_, .f32⟩
  | .hbm, ⟨48, _⟩ => ⟨S1x2048x1, .f32⟩
  | .hbm, ⟨49, _⟩ => ⟨S1x2048x1, .f32⟩
  | .hbm, ⟨50, _⟩ => ⟨S_, .f32⟩
  | .hbm, ⟨51, _⟩ => ⟨S1x2048x1, .f32⟩
  | .hbm, ⟨52, _⟩ => ⟨S1x2048x1, .f32⟩
  | .hbm, ⟨53, _⟩ => ⟨S1x2048x1, .f32⟩
  | .hbm, ⟨54, _⟩ => ⟨S1x2048x512, .f32⟩
  | .hbm, ⟨55, _⟩ => ⟨S1x2048x512, .f32⟩
  | .hbm, ⟨56, _⟩ => ⟨S1x1x512, .f32⟩
  | .hbm, ⟨57, _⟩ => ⟨S1x2048x512, .f32⟩
  | .hbm, ⟨58, _⟩ => ⟨S1x2048x512, .f32⟩
  | .hbm, ⟨59, _⟩ => ⟨S2048x512, .f32⟩
  | .hbm, ⟨60, _⟩ => ⟨S2048x512, .bf16⟩
  | .hbm, ⟨61, _⟩ => ⟨S2048x128, .bf16⟩
  | .hbm, ⟨62, _⟩ => ⟨S512, .f32⟩
  | .hbm, ⟨63, _⟩ => ⟨S1x2048x512, .f32⟩
  | .hbm, ⟨64, _⟩ => ⟨S_, .f32⟩
  | .hbm, ⟨65, _⟩ => ⟨S1x2048, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S_, .f32⟩
  | .hbm, ⟨71, _⟩ => ⟨S1x2048x1, .f32⟩
  | .hbm, ⟨72, _⟩ => ⟨S1x2048x1, .f32⟩
  | .hbm, ⟨73, _⟩ => ⟨S1x2048x1, .f32⟩
  | .hbm, ⟨74, _⟩ => ⟨S1x2048x512, .f32⟩
  | .hbm, ⟨75, _⟩ => ⟨S1x2048x512, .f32⟩
  | .hbm, ⟨76, _⟩ => ⟨S1x1x512, .f32⟩
  | .hbm, ⟨77, _⟩ => ⟨S1x2048x512, .f32⟩
  | .hbm, ⟨78, _⟩ => ⟨S1x2048x512, .f32⟩
  | .hbm, ⟨79, _⟩ => ⟨S2048x512, .f32⟩
  | .hbm, ⟨80, _⟩ => ⟨S2048x512, .bf16⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== RopeF.lean ====
abbrev S1x2048 : Shape := ⟨2, ![1, 2048]⟩
abbrev S1x2048x16x64 : Shape := ⟨4, ![1, 2048, 16, 64]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S2048x1 : Shape := ⟨2, ![2048, 1]⟩
abbrev S2048x128 : Shape := ⟨2, ![2048, 128]⟩
abbrev S2048x1024 : Shape := ⟨2, ![2048, 1024]⟩
abbrev S256x1024 : Shape := ⟨2, ![256, 1024]⟩
abbrev S256x128 : Shape := ⟨2, ![256, 128]⟩

abbrev nBuf : Space → Nat
  | .hbm => 37
  | .vmem => 13
  | .smem => 0
  | _ => 0

abbrev bufTy : (tb : Table) → Fin (tcTables nBuf tb) → BufTy
  | .hbm, ⟨0, _⟩ => ⟨S1x2048, .i32⟩
  | .hbm, ⟨1, _⟩ => ⟨S1x2048x16x64, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S2048x1, .i32⟩
  | .hbm, ⟨33, _⟩ => ⟨S2048x128, .f32⟩
  | .hbm, ⟨34, _⟩ => ⟨S2048x128, .f32⟩
  | .hbm, ⟨35, _⟩ => ⟨S2048x1024, .f32⟩
  | .hbm, ⟨36, _⟩ => ⟨S2048x1024, .bf16⟩
  | .local _ .vmem, ⟨0, _⟩ => ⟨S2048x1, .i32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1024, .bf16⟩
  | .local _ .vmem, ⟨12, _⟩ => ⟨S256x1024, .bf16⟩
  | _, _ => ⟨S1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== RopeFRefIdeal.lean ====
abbrev S1x2048 : Shape := ⟨2, ![1, 2048]⟩
abbrev S1x2048x16x64 : Shape := ⟨4, ![1, 2048, 16, 64]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x16x32 : Shape := ⟨4, ![1, 2048, 16, 32]⟩
abbrev S2048x1024 : Shape := ⟨2, ![2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S1x2048x16x64, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x2048, .f32⟩
  | .hbm, ⟨19, _⟩ => ⟨S1x2048x1, .f32⟩
  | .hbm, ⟨20, _⟩ => ⟨S1x1x32, .f32⟩
  | .hbm, ⟨21, _⟩ => ⟨S1x2048x32, .f32⟩
  | .hbm, ⟨22, _⟩ => ⟨S1x2048x32, .f32⟩
  | .hbm, ⟨23, _⟩ => ⟨S1x2048x32, .f32⟩
  | .hbm, ⟨24, _⟩ => ⟨S1x2048x32, .f32⟩
  | .hbm, ⟨25, _⟩ => ⟨S1x2048x32, .f32⟩
  | .hbm, ⟨26, _⟩ => ⟨S1x2048x1x32, .f32⟩
  | .hbm, ⟨27, _⟩ => ⟨S1x2048x1x32, .f32⟩
  | .hbm, ⟨28, _⟩ => ⟨S1x2048x16x32, .f32⟩
  | .hbm, ⟨29, _⟩ => ⟨S1x2048x16x32, .f32⟩
  | .hbm, ⟨30, _⟩ => ⟨S1x2048x16x32, .f32⟩
  | .hbm, ⟨31, _⟩ => ⟨S1x2048x16x32, .f32⟩
  | .hbm, ⟨32, _⟩ => ⟨S1x2048x16x32, .f32⟩
  | .hbm, ⟨33, _⟩ => ⟨S1x2048x16x32, .f32⟩
  | .hbm, ⟨34, _⟩ => ⟨S1x2048x16x32, .f32⟩
  | .hbm, ⟨35, _⟩ => ⟨S1x2048x16x32, .f32⟩
  | .hbm, ⟨36, _⟩ => ⟨S1x2048x16x32, .f32⟩
  | .hbm, ⟨37, _⟩ => ⟨S1x2048x16x32, .f32⟩
  | .hbm, ⟨38, _⟩ => ⟨S1x2048x16x32, .f32⟩
  | .hbm, ⟨39, _⟩ => ⟨S1x2048x16x32, .f32⟩
  | .hbm, ⟨40, _⟩ => ⟨S1x2048x16x64, .f32⟩
  | .hbm, ⟨41, _⟩ => ⟨S2048x1024, .f32⟩
  | .hbm, ⟨42, _⟩ => ⟨S2048x1024, .bf16⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== PostPreF.lean ====
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostPreFRefIdeal.lean ====
abbrev S1x2048x2048 : Shape := ⟨3, ![1, 2048, 2048]⟩
abbrev S1x2048 : Shape := ⟨2, ![1, 2048]⟩
abbrev S2x2048 : Shape := ⟨2, ![2, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x2048, .f32⟩
  | .hbm, ⟨22, _⟩ => ⟨S1x2048x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S1x2048x2048, .f32⟩
  | .hbm, ⟨29, _⟩ => ⟨S2048x2048, .f32⟩
  | .hbm, ⟨30, _⟩ => ⟨S1x2048, .f32⟩
  | .hbm, ⟨31, _⟩ => ⟨S2048, .f32⟩
  | .hbm, ⟨32, _⟩ => ⟨S1x2048x2048, .f32⟩
  | .hbm, ⟨33, _⟩ => ⟨S_, .f32⟩
  | .hbm, ⟨34, _⟩ => ⟨S1x2048, .f32⟩
  | .hbm, ⟨35, _⟩ => ⟨S1x2048x1, .f32⟩
  | .hbm, ⟨36, _⟩ => ⟨S_, .f32⟩
  | .hbm, ⟨37, _⟩ => ⟨S1x2048x1, .f32⟩
  | .hbm, ⟨38, _⟩ => ⟨S1x2048x1, .f32⟩
  | .hbm, ⟨39, _⟩ => ⟨S_, .f32⟩
  | .hbm, ⟨40, _⟩ => ⟨S1x2048x1, .f32⟩
  | .hbm, ⟨41, _⟩ => ⟨S1x2048x1, .f32⟩
  | .hbm, ⟨42, _⟩ => ⟨S1x2048x1, .f32⟩
  | .hbm, ⟨43, _⟩ => ⟨S1x2048x2048, .f32⟩
  | .hbm, ⟨44, _⟩ => ⟨S1x2048x2048, .f32⟩
  | .hbm, ⟨45, _⟩ => ⟨S1x1x2048, .f32⟩
  | .hbm, ⟨46, _⟩ => ⟨S1x2048x2048, .f32⟩
  | .hbm, ⟨47, _⟩ => ⟨S1x2048x2048, .f32⟩
  | .hbm, ⟨48, _⟩ => ⟨S1x1x2048, .f32⟩
  | .hbm, ⟨49, _⟩ => ⟨S_, .f32⟩
  | .hbm, ⟨50, _⟩ => ⟨S1x1x2048, .f32⟩
  | .hbm, ⟨51, _⟩ => ⟨S1x1x2048, .f32⟩
  | .hbm, ⟨52, _⟩ => ⟨S1x2048x2048, .f32⟩
  | .hbm, ⟨53, _⟩ => ⟨S1x2048x2048, .f32⟩
  | .hbm, ⟨54, _⟩ => ⟨S1x1x2048, .f32⟩
  | .hbm, ⟨55, _⟩ => ⟨S1x2048x2048, .f32⟩
  | .hbm, ⟨56, _⟩ => ⟨S1x2048x2048, .f32⟩
  | .hbm, ⟨57, _⟩ => ⟨S2048x2048, .f32⟩
  | .hbm, ⟨58, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== PostF.lean ====
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2048x2048, .f32⟩
  | .hbm, ⟨5, _⟩ => ⟨S2048x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostFRefIdeal.lean ====
abbrev S1x2048x2048 : Shape := ⟨3, ![1, 2048, 2048]⟩
abbrev S1x2048 : Shape := ⟨2, ![1, 2048]⟩
abbrev S2x2048 : Shape := ⟨2, ![2, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S1x1x2048, .f32⟩
  | .hbm, ⟨5, _⟩ => ⟨S1x2048, .f32⟩
  | .hbm, ⟨6, _⟩ => ⟨S2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x2048, .f32⟩
  | .hbm, ⟨19, _⟩ => ⟨S1x2048x2048, .f32⟩
  | .hbm, ⟨20, _⟩ => ⟨S1x1x2048, .f32⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S1x2048x2048, .f32⟩
  | .hbm, ⟨26, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MmTN.lean ====
abbrev S1x2048x8192 : Shape := ⟨3, ![1, 2048, 8192]⟩
abbrev S1x2048x2048 : Shape := ⟨3, ![1, 2048, 2048]⟩
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x8192, .f32⟩
  | .hbm, ⟨1, _⟩ => ⟨S1x2048x2048, .f32⟩
  | .hbm, ⟨2, _⟩ => ⟨S2048x8192, .f32⟩
  | .hbm, ⟨3, _⟩ => ⟨S2048x8192, .bf16⟩
  | .hbm, ⟨4, _⟩ => ⟨S2048x2048, .f32⟩
  | .hbm, ⟨5, _⟩ => ⟨S2048x2048, .bf16⟩
  | .hbm, ⟨6, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTNRefIdeal.lean ====
abbrev S1x2048x8192 : Shape := ⟨3, ![1, 2048, 8192]⟩
abbrev S1x2048x2048 : Shape := ⟨3, ![1, 2048, 2048]⟩
abbrev S_ : Shape := ⟨0, ![]⟩
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S1x2048x2048, .f32⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Silu.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SiluRefIdeal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== SumDev.lean ====
abbrev S8x8x15616 : Shape := ⟨3, ![8, 8, 15616]⟩
abbrev S1x8x15616 : Shape := ⟨3, ![1, 8, 15616]⟩
abbrev S8x15616 : Shape := ⟨2, ![8, 15616]⟩

abbrev nBuf : Space → Nat
  | .hbm => 18
  | .vmem => 9
  | .smem => 0
  | _ => 0

abbrev bufTy : (tb : Table) → Fin (tcTables nBuf tb) → BufTy
  | .hbm, ⟨0, _⟩ => ⟨S8x8x15616, .f32⟩
  | .hbm, ⟨1, _⟩ => ⟨S1x8x15616, .f32⟩
  | .hbm, ⟨2, _⟩ => ⟨S8x15616, .f32⟩
  | .hbm, ⟨3, _⟩ => ⟨S1x8x15616, .f32⟩
  | .hbm, ⟨4, _⟩ => ⟨S8x15616, .f32⟩
  | .hbm, ⟨5, _⟩ => ⟨S1x8x15616, .f32⟩
  | .hbm, ⟨6, _⟩ => ⟨S8x15616, .f32⟩
  | .hbm, ⟨7, _⟩ => ⟨S1x8x15616, .f32⟩
  | .hbm, ⟨8, _⟩ => ⟨S8x15616, .f32⟩
  | .hbm, ⟨9, _⟩ => ⟨S1x8x15616, .f32⟩
  | .hbm, ⟨10, _⟩ => ⟨S8x15616, .f32⟩
  | .hbm, ⟨11, _⟩ => ⟨S1x8x15616, .f32⟩
  | .hbm, ⟨12, _⟩ => ⟨S8x15616, .f32⟩
  | .hbm, ⟨13, _⟩ => ⟨S1x8x15616, .f32⟩
  | .hbm, ⟨14, _⟩ => ⟨S8x15616, .f32⟩
  | .hbm, ⟨15, _⟩ => ⟨S1x8x15616, .f32⟩
  | .hbm, ⟨16, _⟩ => ⟨S8x15616, .f32⟩
  | .hbm, ⟨17, _⟩ => ⟨S8x15616, .f32⟩
  | .local _ .vmem, ⟨0, _⟩ => ⟨S8x15616, .f32⟩
  | .local _ .vmem, ⟨1, _⟩ => ⟨S8x15616, .f32⟩
  | .local _ .vmem, ⟨2, _⟩ => ⟨S8x15616, .f32⟩
  | .local _ .vmem, ⟨3, _⟩ => ⟨S8x15616, .f32⟩
  | .local _ .vmem, ⟨4, _⟩ => ⟨S8x15616, .f32⟩
  | .local _ .vmem, ⟨5, _⟩ => ⟨S8x15616, .f32⟩
  | .local _ .vmem, ⟨6, _⟩ => ⟨S8x15616, .f32⟩
  | .local _ .vmem, ⟨7, _⟩ => ⟨S8x15616, .f32⟩
  | .local _ .vmem, ⟨8, _⟩ => ⟨S8x15616, .f32⟩
  | _, _ => ⟨S8x8x15616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x15616 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x15616 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x15616 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x15616 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x15616 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x15616 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x15616 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x15616 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x15616 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumDevRefIdeal.lean ====
abbrev S8x8x15616 : Shape := ⟨3, ![8, 8, 15616]⟩
abbrev S_ : Shape := ⟨0, ![]⟩
abbrev S8x15616 : Shape := ⟨2, ![8, 15616]⟩

abbrev nBuf : Space → Nat
  | .hbm => 3
  | .vmem => 0
  | .smem => 0
  | _ => 0

abbrev bufTy : (tb : Table) → Fin (tcTables nBuf tb) → BufTy
  | .hbm, ⟨0, _⟩ => ⟨S8x8x15616, .f32⟩
  | .hbm, ⟨1, _⟩ => ⟨S_, .f32⟩
  | .hbm, ⟨2, _⟩ => ⟨S8x15616, .f32⟩
  | _, _ => ⟨S8x8x15616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmNN.lean ====
abbrev S1x2048x8192 : Shape := ⟨3, ![1, 2048, 8192]⟩
abbrev S8192x2048 : Shape := ⟨2, ![8192, 2048]⟩
abbrev S2048x8192 : Shape := ⟨2, ![2048, 8192]⟩
abbrev S2048x2048 : Shape := ⟨2, ![2048, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S1x2048x8192, .f32⟩
  | .hbm, ⟨1, _⟩ => ⟨S8192x2048, .f32⟩
  | .hbm, ⟨2, _⟩ => ⟨S2048x8192, .f32⟩
  | .hbm, ⟨3, _⟩ => ⟨S2048x8192, .bf16⟩
  | .hbm, ⟨4, _⟩ => ⟨S8192x2048, .bf16⟩
  | .hbm, ⟨5, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNNRefIdeal.lean ====
abbrev S1x2048x8192 : Shape := ⟨3, ![1, 2048, 8192]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S8192x2048, .f32⟩
  | .hbm, ⟨2, _⟩ => ⟨S1x2048x2048, .f32⟩
  | .hbm, ⟨3, _⟩ => ⟨S2048x2048, .f32⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmNT.lean ====
abbrev S1x2048x8192 : Shape := ⟨3, ![1, 2048, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S1x2048x8192, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S2048x8192, .f32⟩
  | .hbm, ⟨6, _⟩ => ⟨S2048x8192, .bf16⟩
  | .hbm, ⟨7, _⟩ => ⟨S2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNTRefIdeal.lean ====
abbrev S1x2048x8192 : Shape := ⟨3, ![1, 2048, 8192]⟩
abbrev S2048x8192 : Shape := ⟨2, ![2048, 8192]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x8192, .f32⟩
  | .hbm, ⟨1, _⟩ => ⟨S2048x8192, .f32⟩
  | .hbm, ⟨2, _⟩ => ⟨S_, .f32⟩
  | .hbm, ⟨3, _⟩ => ⟨S1x2048x2048, .f32⟩
  | .hbm, ⟨4, _⟩ => ⟨S1x2048x8192, .f32⟩
  | .hbm, ⟨5, _⟩ => ⟨S1x2048x2048, .f32⟩
  | .hbm, ⟨6, _⟩ => ⟨S2048x2048, .f32⟩
  | _, _ => ⟨S1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamL.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 13
  | .vmem => 32
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x2048, .f32⟩
  | .local _ .vmem, ⟨19, _⟩ => ⟨S256x2048, .f32⟩
  | .local _ .vmem, ⟨20, _⟩ => ⟨S1x256x2048, .f32⟩
  | .local _ .vmem, ⟨21, _⟩ => ⟨S1x256x2048, .f32⟩
  | .local _ .vmem, ⟨22, _⟩ => ⟨S1x256x2048, .f32⟩
  | .local _ .vmem, ⟨23, _⟩ => ⟨S1x256x2048, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .f32⟩
  | .local _ .vmem, ⟨27, _⟩ => ⟨S1x256x2048, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamLRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2x2048x2048, .f32⟩
  | .hbm, ⟨4, _⟩ => ⟨S2x2048x2048, .f32⟩
  | .hbm, ⟨5, _⟩ => ⟨S1x2048x2048, .f32⟩
  | .hbm, ⟨6, _⟩ => ⟨S1x2048x2048, .f32⟩
  | .hbm, ⟨7, _⟩ => ⟨S2x2048x2048, .f32⟩
  | .hbm, ⟨8, _⟩ => ⟨S_, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S2x2048x2048, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S_, .f32⟩
  | .hbm, ⟨39, _⟩ => ⟨S2x2048x2048, .f32⟩
  | .hbm, ⟨40, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.LossClaims.lean ====
/- The five claims about the loss call. -/
module

public import proofs.«01_k».proof.Defs
public import proofs.«01_k».proof.Proof.Gen.LossIdeal.Value
public import proofs.«01_k».proof.Proof.Gen.LossRefIdeal.Read
public import Idealize.ShloMosaic.Lib.Pipeline.ValueKit
public import proofs.«01_k».proof.Proof.Gen.Loss.Frame

@[expose] public section

set_option maxRecDepth 16384

noncomputable section

namespace Cert.LossSpec

open Idealize.ShloMosaic

/-- The loss call's two arguments: one sequence of rows. -/
abbrev Arr : Type := (⟨3, ![1, 2048, 2048]⟩ : Shape).Idx → EReal

/-- The mean of the squared errors of row `r`. -/
def rowMean (y w : Arr) (r : Fin 2048) : EReal :=
  (∑ k : Fin 2048, (y (ix3 0 r k) - w (ix3 0 r k)) * (y (ix3 0 r k) - w (ix3 0 r k))) * ((1 / 2048 : ℝ) : EReal)

/-- Half the sum of the rows' means. -/
def loss (y w : Arr) : EReal := ((1 / 2 : ℝ) : EReal) * ∑ r : Fin 2048, rowMean y w r

/-- The loss's gradient in `y`: the error over the row length. -/
def grad (y w : Arr) (r k : Fin 2048) : EReal := (y (ix3 0 r k) - w (ix3 0 r k)) * ((1 / 2048 : ℝ) : EReal)

theorem lit_half : Ideal.ofBits .f32 1056964608#32 = ((1 / 2 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_2048 : Ideal.ofBits .f32 1157627904#32 = ((2048 : ℝ) : EReal) := by
  simp [Ideal.ofBits, Ideal.ieee, -EReal.coe_mul]; norm_num
theorem lit_inv2048 : Ideal.ofBits .f32 973078528#32 = ((1 / 2048 : ℝ) : EReal) := by
  simp [Ideal.ofBits, Ideal.ieee, -EReal.coe_mul]; norm_num

/-- A nonnegative real factor moves through a finite sum of extended reals. -/
theorem mul_sum_real {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The loss summed by eight blocks of 256 rows, each block's half taken first. -/
theorem loss_blocks (y w : Arr) :
    (∑ t : Fin 8, ((1 / 2 : ℝ) : EReal) * ∑ x : Fin 256, rowMean y w ⟨256 * t.val + x.val, by omega⟩) = loss y w := by
  unfold loss
  rw [← mul_sum_real _ _ (by norm_num)]
  congr 1
  rw [← (finProdFinEquiv (m := 8) (n := 256)).sum_comp (fun r : Fin (8 * 256) => rowMean y w r), Fintype.sum_prod_type]
  refine Finset.sum_congr rfl fun t _ => Finset.sum_congr rfl fun x _ => congrArg _ (Fin.ext ?_)
  simp [finProdFinEquiv, add_comm]

end Cert.LossSpec

namespace Cert.LossIdeal.Sum

open Cert.LossIdeal Cert.LossIdeal.Gen Idealize.ShloMosaic Idealize.ShloMosaic.TcCoe Idealize.SL.Sem

variable (m : (ℓ : Loc nD τ sig) → Buf (Elt Ideal) ℓ)

/-- Every window but the loss's takes row block `t` at point `t`. -/
theorem index2 : ∀ t : Fin cfg0.N, win0_2.index t = ![t.val, 0] ∧ win0_0.index t = ![t.val, 0] ∧ win0_1.index t = ![t.val, 0] :=
  (by decide +kernel : ∀ t : Fin grid0.N, win0_2.index t = ![t.val, 0] ∧ win0_0.index t = ![t.val, 0] ∧ win0_1.index t = ![t.val, 0])

/-- The two arguments on device `c`. -/
abbrev y (c : Dev nD) : LossSpec.Arr := m ((c : Thread nD τ).loc main_arg0)
abbrev w (c : Dev nD) : LossSpec.Arr := m ((c : Thread nD τ).loc main_arg1)

theorem row_lt (t : Fin cfg0.N) (x : Fin 256) : 256 * t.val + x.val < 2048 := by
  have := t.isLt; have : cfg0.N = 8 := N_0; omega

/-- Point `t`'s block of the first argument, at row `x` of the block. -/
theorem blk0 (c : Dev nD) (t : Fin cfg0.N) (x : Fin 256) (k : Fin 2048) :
    iblk m c 0 t (ix2 x k) = y m c (ix3 0 ⟨256 * t.val + x.val, row_lt t x⟩ k) := by
  blk_point [iblk, V, (index2 t).2.1]

/-- Point `t`'s block of the second argument, at row `x` of the block. -/
theorem blk1 (c : Dev nD) (t : Fin cfg0.N) (x : Fin 256) (k : Fin 2048) :
    iblk m c 1 t (ix2 x k) = w m c (ix3 0 ⟨256 * t.val + x.val, row_lt t x⟩ k) := by
  blk_point [iblk, V, (index2 t).2.2]

/-- After the run the first result array is the gradient. -/
theorem grad_final (c : Dev nD) :
    (dats m 0 c).arrAt 2 cfg0.N = fun i => LossSpec.grad (y m c) (w m c) (i 0) (i 1) := by
  refine (dats m 0 c).arrAt_eq_of_covers 2 _ (by decide +kernel) fun t hf y => ?_
  have hN : cfg0.N = 8 := N_0
  have ht : t.val < 8 := hN ▸ t.isLt
  blk_simp
  rw [after0_2]
  idx_vars y
  have e0 : (((cfg0.win 2).blk t).view.emb (ix2 y0 y1)) 0 = (⟨256 * t.val + y0.val, row_lt t y0⟩ : Fin 2048) :=
    Fin.ext (by blk_simp [(index2 t).1]; simp [mul_comm])
  have e1 : (((cfg0.win 2).blk t).view.emb (ix2 y0 y1)) 1 = y1 := Fin.ext (by blk_simp [(index2 t).1])
  refine Eq.trans ?_ (congrArg₂ (LossSpec.grad (y m c) (w m c)) e0.symm e1.symm)
  by_cases h : t.val = 0
  · rw [Gen.outsAt0_A m c t (by omega) (by omega)]
    frame_out
    unfold_payloads
    pointwise
    rw [blk0, blk1, LossSpec.lit_inv2048]
    rfl
  · rw [Gen.outsAt0_B m c t (by omega) (by omega)]
    frame_out
    unfold_payloads
    pointwise
    rw [blk0, blk1, LossSpec.lit_inv2048]
    rfl

/-- After point `t` the second result holds the halved sum of the rows read so far. -/
theorem loss_last (c : Dev nD) (t : Fin cfg0.N) (ht : t.val + 1 = cfg0.N) (j : S1x1.Idx) :
    (outsAt0 m c t.val t.isLt).2 j = LossSpec.loss (y m c) (w m c) := by
  have hN : cfg0.N = 8 := N_0
  refine (Pipeline.eq_sum_fin_of_reset_step_apply_last (fun n h => (outsAt0 m c n h).2) 8 (fun _ => 0)
    (fun t _ => ((1 / 2 : ℝ) : EReal) * ∑ x : Fin 256, LossSpec.rowMean (y m c) (w m c) ⟨256 * t.val + x.val, row_lt t x⟩)
    (fun t h j => ?_) (fun t h j => ?_) (by omega) t ht j).trans ?_
  · rw [Gen.outsAt0_A m c t (by omega) (by have := t.isLt; omega)]
    frame_out
    unfold_payloads
    pointwise
    simp only [blk0, blk1, LossSpec.lit_half, LossSpec.lit_2048, Ideal.div_coe (by norm_num : (2048 : ℝ) ≠ 0), zero_add, LossSpec.rowMean]
  · rw [Gen.outsAt0_B m c t h (by omega)]
    frame_out
    unfold_payloads
    pointwise
    simp only [blk0, blk1, LossSpec.lit_half, LossSpec.lit_2048, Ideal.div_coe (by norm_num : (2048 : ℝ) ≠ 0), LossSpec.rowMean]
  · rw [zero_add]
    exact LossSpec.loss_blocks (y m c) (w m c)

/-- After the run the second result array is the loss. -/
theorem loss_final (c : Dev nD) :
    (dats m 0 c).arrAt 3 cfg0.N = fun _ => LossSpec.loss (y m c) (w m c) := by
  refine (dats m 0 c).arrAt_eq_of_after_last 3 t0_7 (by decide +kernel) _ fun j => ?_
  blk_simp
  rw [after0_3]
  exact loss_last m c t0_7 rfl j

end Cert.LossIdeal.Sum

namespace Cert.LossRefIdeal.Sum

open Cert.LossRefIdeal Cert.LossRefIdeal.Gen Cert.LossRefIdeal.Read Idealize.ShloMosaic

/-- The reference's gradient. -/
theorem grad_ref (y w : LossSpec.Arr) :
    val_main_v15 (F := Ideal) y w = fun i => LossSpec.grad y w (i 0) (i 1) := by
  funext i
  idx_vars i
  simp only [val_main_v15_apply, val_main_v14_apply, val_main_v13_apply, val_main_v12_apply, val_main_v11_apply, val_main_v10_apply,
    val_main_v9_apply, val_main_v3_apply, val_main_v2_apply, val_main_v0_apply, val_main_cst_apply, val_main_cst_4_apply,
    val_main_cst_5_apply, val_main_cst_6_apply]
  pointwise
  rw [LossSpec.lit_half, LossSpec.lit_two, LossSpec.lit_2048, Ideal.div_coe (by norm_num : (2048 : ℝ) ≠ 0), ← mul_assoc,
    ← EReal.coe_mul, ← EReal.coe_mul, mul_comm]
  rw [show idx_main_v15 (ix2 i0 i1) = ix3 0 i0 i1 by blk_ext]
  norm_num [LossSpec.grad]

/-- The reference's loss. -/
theorem loss_ref (y w : LossSpec.Arr) :
    val_main_v16 (F := Ideal) y w = fun _ => LossSpec.loss y w := by
  funext i
  unfold val_main_v16
  pointwise
  simp only [val_main_v8_apply, val_main_v7_apply, val_main_v6_apply, val_main_v5_apply, val_main_v4_apply,
    val_main_v1_apply, val_main_v0_apply, val_main_cst_1_apply, val_main_cst_0_apply, val_main_cst_2_apply, val_main_cst_3_apply]
  pointwise
  rw [LossSpec.lit_half, LossSpec.lit_2048]
  simp only [Ideal.div_coe (by norm_num : (2048 : ℝ) ≠ 0)]
  unfold LossSpec.loss
  congr 1
  refine (Fintype.sum_bijective (fun r : Fin 2048 => (ix2 0 r : S1x2048.Idx)) ⟨fun a b h => congrFun h 1, fun j => ⟨j 1, by blk_ext⟩⟩ _ _ fun r => ?_).symm
  unfold LossSpec.rowMean
  congr 1
  refine Finset.sum_congr rfl fun k _ => ?_
  rw [show idx_main_v4 (ix2 0 r) k = ix3 0 r k by blk_ext]

end Cert.LossRefIdeal.Sum

open Idealize.ShloMosaic Idealize.SL.Sem

namespace Cert.Proof.LossClaims

/-- The kernel as printed, idealized, and the reference: each ends, its arguments unchanged, its counters at zero. -/
theorem frame_p : quiescent_Loss := fun m ρ _ => Loss.Gen.frame m ρ
theorem frame_pi : quiescent_LossIdeal := fun m ρ _ => LossIdeal.Gen.frame m ρ
theorem frame_ri : quiescent_LossRefIdeal := fun m ρ _ =>
  (θ_run LossRefIdeal.defs _ _).mono (fun r h => ⟨fun c => (h c).2.2, sem_eq_zero_of_no_sems (by decide) r.2⟩)
    (LossRefIdeal.Value.run (F := Ideal) m ρ)

/-- The idealized kernel's two results are the reference's: the gradient in the trunk's output and the loss. -/
theorem algebraic : algebraic_LossIdeal_LossRefIdeal := by
  intro m ρ m' ρ' _ hagree
  refine ⟨_, _, LossIdeal.Value.run_blocks (F := Ideal) m ρ, ?_⟩
  refine (θ_run LossRefIdeal.defs _ _).mono (fun _ h c => ⟨(h c).1.trans ?_, (h c).2.1.trans ?_, (h c).2.2⟩)
    (LossRefIdeal.Value.run (F := Ideal) m' ρ')
  · rw [LossRefIdeal.Read.val_main_v15_eq, (hagree c).1, (hagree c).2]
    exact (LossRefIdeal.Sum.grad_ref _ _).trans (LossIdeal.Sum.grad_final m c).symm
  · rw [LossRefIdeal.Read.val_main_v16_eq, (hagree c).1, (hagree c).2]
    exact (LossRefIdeal.Sum.loss_ref _ _).trans (LossIdeal.Sum.loss_final m c).symm

end Cert.Proof.LossClaims
-- ==== Proof.Relu2Value.lean ====
/- The squared relu's two launches: what the result array holds after them, and what the reference's result is, as
   one function of the layer's input, its two matrices and the cotangent over the extended reals. -/
module

public import proofs.«01_k».proof.Defs
public import proofs.«01_k».proof.Proof.Gen.Relu2Ideal.Frame
public import proofs.«01_k».proof.Proof.Gen.Relu2RefIdeal.Read
public import Idealize.ShloMosaic.Lib.Pipeline.ValueKit

@[expose] public section

set_option maxRecDepth 16384

noncomputable section

namespace Cert.Relu2Ideal.Run

open Cert.Relu2Ideal Cert.Relu2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From zero counters the program ends, and each unscoped buffer holds the last boundary's contents. -/
theorem ends : θ_run defs (onTc (τ := τ) (main (F := F))) ⟨m, fun _ => 0, ρ⟩ (fun r =>
      ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-- The result array is the second launch's, the arguments are unchanged. -/
theorem run : θ_run defs (onTc (τ := τ) (main (F := F))) ⟨m, fun _ => 0, ρ⟩ (fun r => ∀ c : Dev nD,
      r.2.mem ((c : Thread nD τ).loc main_v9) = (dat1 (V3 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h c _ (mem_uc main_v9 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (ends m ρ)

end Cert.Relu2Ideal.Run

namespace Cert.Relu2Spec

open Idealize.ShloMosaic

abbrev Rows : Type := (⟨3, ![1, 2048, 2048]⟩ : Shape).Idx → EReal
abbrev Up : Type := (⟨2, ![2048, 8192]⟩ : Shape).Idx → EReal
abbrev Down : Type := (⟨2, ![8192, 2048]⟩ : Shape).Idx → EReal

/-- The layer before its relu. -/
def pre (x : Rows) (u : Up) (r : Fin 2048) (f : Fin 8192) : EReal := ∑ d : Fin 2048, x (ix3 0 r d) * u (ix2 d f)
/-- The cotangent through the second matrix. -/
def back (d : Down) (g : Rows) (r : Fin 2048) (f : Fin 8192) : EReal := ∑ j : Fin 2048, g (ix3 0 r j) * d (ix2 f j)
/-- The gradient before the relu: the square's derivative at the relu, where the layer is positive. -/
def grad (x : Rows) (u : Up) (d : Down) (g : Rows) (r : Fin 2048) (f : Fin 8192) : EReal :=
  back d g r f * (((2 : ℝ) : EReal) * max (pre x u r f) 0)

theorem lit_two : Ideal.ofBits .f32 1073741824#32 = ((2 : ℝ) : EReal) := by
  simp [Ideal.ofBits, Ideal.ieee, -EReal.coe_mul]; norm_num
theorem lit_zero : Ideal.ofBits .f32 0#32 = 0 := by
  simp [Ideal.ofBits, Ideal.ieee]

/-- A nonnegative extended real is its square's root. -/
theorem sqrt_mul_self (a : EReal) (h : 0 ≤ a) : Ideal.sqrt (a * a) = a := by
  induction a using EReal.rec with
  | bot => simp at h
  | top => exact rfl
  | coe r =>
    have hr : (0 : ℝ) ≤ r := by exact_mod_cast h
    rw [← EReal.coe_mul]
    change (if r * r < 0 then (⊥ : EReal) else ((Real.sqrt (r * r) : ℝ) : EReal)) = r
    rw [if_neg (by nlinarith), Real.sqrt_mul_self hr]

end Cert.Relu2Spec

namespace Cert.Relu2Ideal.Run

open Cert.Relu2Ideal Cert.Relu2Ideal.Gen Idealize.ShloMosaic Idealize.ShloMosaic.TcCoe Idealize.SL.Sem

variable (m : (ℓ : Loc nD τ sig) → Buf (Elt Ideal) ℓ) (ρ : Dev nD → PrngReg)

/-- The four arguments on device `c`. -/
abbrev x (c : Dev nD) : Relu2Spec.Rows := m ((c : Thread nD τ).loc main_arg0)
abbrev u (c : Dev nD) : Relu2Spec.Up := m ((c : Thread nD τ).loc main_arg1)
abbrev d (c : Dev nD) : Relu2Spec.Down := m ((c : Thread nD τ).loc main_arg2)
abbrev g (c : Dev nD) : Relu2Spec.Rows := m ((c : Thread nD τ).loc main_arg3)

/-- Which block each window of the first launch takes at point `t`. -/
theorem index0 : ∀ t : Fin cfg0.N, win0_0.index t = ![0, 0] ∧ win0_1.index t = ![t.val / 4, 0, t.val % 4] ∧ win0_2.index t = ![0, t.val] :=
  (by decide +kernel : ∀ t : Fin grid0.N, win0_0.index t = ![0, 0] ∧ win0_1.index t = ![t.val / 4, 0, t.val % 4] ∧ win0_2.index t = ![0, t.val])
/-- Which block each window of the second launch takes at point `t`. -/
theorem index1 : ∀ t : Fin cfg1.N, win1_0.index t = ![0, 0] ∧ win1_1.index t = ![t.val, 0] ∧ win1_2.index t = ![0, t.val] ∧ win1_3.index t = ![0, t.val] :=
  (by decide +kernel : ∀ t : Fin grid1.N, win1_0.index t = ![0, 0] ∧ win1_1.index t = ![t.val, 0] ∧ win1_2.index t = ![0, t.val] ∧ win1_3.index t = ![0, t.val])

theorem col0_lt (t : Fin cfg0.N) (k : Fin 512) : 512 * t.val + k.val < 8192 := by
  have := t.isLt; have : cfg0.N = 16 := N_0; omega
theorem col1_lt (t : Fin cfg1.N) (k : Fin 512) : 512 * t.val + k.val < 8192 := by
  have := t.isLt; have : cfg1.N = 16 := N_1; omega

/-- The first launch's rows at point `t`. -/
theorem blk0_0 (c : Dev nD) (t : Fin cfg0.N) (r k : Fin 2048) :
    iblk0 (V1 m ρ) c 0 t (ix2 r k) = x m c (ix3 0 r k) := by
  blk_point [iblk0, V1, W1, W0, (index0 t).1]
/-- The first launch's columns at point `t`. -/
theorem blk0_1 (c : Dev nD) (t : Fin cfg0.N) (r : Fin 2048) (k : Fin 512) :
    iblk0 (V1 m ρ) c 1 t (ix3 0 r k) = u m c (ix2 r ⟨512 * t.val + k.val, col0_lt t k⟩) := by
  blk_point [iblk0, V1, W1, W0, (index0 t).2.1]
/-- The second launch's rows at point `t`. -/
theorem blk1_0 (c : Dev nD) (t : Fin cfg1.N) (r k : Fin 2048) :
    iblk1 (V3 m ρ) c 0 t (ix2 r k) = g m c (ix3 0 r k) := by
  blk_point [iblk1, V3, W3, (index1 t).1]
/-- The second launch's rows of the second matrix at point `t`. -/
theorem blk1_1 (c : Dev nD) (t : Fin cfg1.N) (k : Fin 512) (j : Fin 2048) :
    iblk1 (V3 m ρ) c 1 t (ix2 k j) = d m c (ix2 ⟨512 * t.val + k.val, col1_lt t k⟩ j) := by
  blk_point [iblk1, V3, W3, (index1 t).2.1]

/-- After the first launch its result holds the squared relu. -/
theorem up_final (c : Dev nD) :
    (dat0 (V1 m ρ) c).arrAt 2 cfg0.N =
      fun i => max (Relu2Spec.pre (x m c) (u m c) (i 0) (i 1)) 0 * max (Relu2Spec.pre (x m c) (u m c) (i 0) (i 1)) 0 := by
  refine (dat0 (V1 m ρ) c).arrAt_eq_of_covers 2 _ (by decide +kernel) fun t hf y => ?_
  blk_simp
  rw [after0_2]
  idx_vars y
  have e0 : (((cfg0.win 2).blk t).view.emb (ix2 y0 y1)) 0 = y0 := Fin.ext (by blk_simp [(index0 t).2.2])
  have e1 : (((cfg0.win 2).blk t).view.emb (ix2 y0 y1)) 1 = (⟨512 * t.val + y1.val, col0_lt t y1⟩ : Fin 8192) :=
    Fin.ext (by blk_simp [(index0 t).2.2]; simp [mul_comm])
  refine Eq.trans ?_ (congrArg₂ (fun a b => max (Relu2Spec.pre (x m c) (u m c) a b) 0 * max (Relu2Spec.pre (x m c) (u m c) a b) 0) e0.symm e1.symm)
  frame_out
  unfold_payloads
  pointwise
  simp only [blk0_0, blk0_1, Relu2Spec.lit_zero]
  rfl

/-- The second launch's block of the squared relu at point `t`. -/
theorem blk1_2 (c : Dev nD) (t : Fin cfg1.N) (r : Fin 2048) (k : Fin 512) :
    iblk1 (V3 m ρ) c 2 t (ix2 r k) =
      max (Relu2Spec.pre (x m c) (u m c) r ⟨512 * t.val + k.val, col1_lt t k⟩) 0
        * max (Relu2Spec.pre (x m c) (u m c) r ⟨512 * t.val + k.val, col1_lt t k⟩) 0 := by
  have h : V3 m ρ c main_v5 = (dat0 (V1 m ρ) c).arrAt 2 cfg0.N :=
    (W3_of m ρ c main_v5 (by decide)).trans (W2_arr m ρ c 2)
  have e0 : ((win1_2.blk t).view.emb (ix2 r k)) 0 = r := Fin.ext (by blk_simp [(index1 t).2.2.1])
  have e1 : ((win1_2.blk t).view.emb (ix2 r k)) 1 = (⟨512 * t.val + k.val, col1_lt t k⟩ : Fin 8192) :=
    Fin.ext (by blk_simp [(index1 t).2.2.1]; simp [mul_comm])
  blk_simp [iblk1, h, up_final]
  exact congrArg₂ (fun a b => max (Relu2Spec.pre (x m c) (u m c) a b) 0 * max (Relu2Spec.pre (x m c) (u m c) a b) 0) e0 e1

/-- After the second launch the result holds the gradient before the relu. -/
theorem grad_final (c : Dev nD) :
    (dat1 (V3 m ρ) c).arrAt 3 cfg1.N = fun i => Relu2Spec.grad (x m c) (u m c) (d m c) (g m c) (i 0) (i 1) := by
  refine (dat1 (V3 m ρ) c).arrAt_eq_of_covers 3 _ (by decide +kernel) fun t hf y => ?_
  blk_simp
  rw [after1_3]
  idx_vars y
  have e0 : (((cfg1.win 3).blk t).view.emb (ix2 y0 y1)) 0 = y0 := Fin.ext (by blk_simp [(index1 t).2.2.2])
  have e1 : (((cfg1.win 3).blk t).view.emb (ix2 y0 y1)) 1 = (⟨512 * t.val + y1.val, col1_lt t y1⟩ : Fin 8192) :=
    Fin.ext (by blk_simp [(index1 t).2.2.2]; simp [mul_comm])
  refine Eq.trans ?_ (congrArg₂ (Relu2Spec.grad (x m c) (u m c) (d m c) (g m c)) e0.symm e1.symm)
  frame_out
  unfold_payloads
  pointwise
  simp only [blk1_0, blk1_1, blk1_2, Relu2Spec.lit_two, Relu2Spec.sqrt_mul_self _ (le_max_right _ _)]
  rfl

end Cert.Relu2Ideal.Run

namespace Cert.Relu2RefIdeal.Run

open Cert.Relu2RefIdeal Cert.Relu2RefIdeal.Gen Cert.Relu2RefIdeal.Read Idealize.ShloMosaic

/-- The reference's gradient before the relu. -/
theorem grad_ref (x : Relu2Spec.Rows) (u : Relu2Spec.Up) (d : Relu2Spec.Down) (g : Relu2Spec.Rows) :
    val_main_v14 (F := Ideal) x u d g = fun i => Relu2Spec.grad x u d g (i 0) (i 1) := by
  funext i
  idx_vars i
  have hpre : val_main_v0 (F := Ideal) x u (ix3 0 i0 i1) = Relu2Spec.pre x u i0 i1 := by
    rw [val_main_v0_apply]
    refine Finset.sum_congr rfl fun k _ => congrArg₂ (fun a b => x a * u b) ?_ ?_ <;> blk_ext
  have hback : val_main_v9 (F := Ideal) d g (ix3 0 i0 i1) = Relu2Spec.back d g i0 i1 := by
    rw [val_main_v9_apply]
    refine Finset.sum_congr rfl fun k _ => congrArg₂ (fun a b => g a * d b) ?_ ?_ <;> blk_ext
  rw [val_main_v14_apply, val_main_v13_apply, show idx_main_v13 (ix2 i0 i1) = ix3 0 i0 i1 by blk_ext]
  simp only [val_main_v12_apply, val_main_v3_apply, val_main_v2_apply, val_main_v10_apply, val_main_v11_apply, val_main_v7_apply,
    val_main_v6_apply, val_main_v1_apply, val_main_call0_v0_apply, val_main_call0_cst_apply, val_main_cst_apply, val_main_cst_1_apply,
    val_main_cst_2_apply, hpre, hback]
  pointwise
  simp only [Relu2Spec.lit_two, Relu2Spec.lit_zero]
  unfold Relu2Spec.grad
  by_cases hp : 0 < Relu2Spec.pre x u i0 i1
  · simp [hp]
  · rw [max_eq_right (not_lt.mp hp)]
    simp [hp]

end Cert.Relu2RefIdeal.Run
-- ==== Proof.Relu2Claims.lean ====
/- The five claims about the squared relu's gradient. -/
module

public import proofs.«01_k».proof.Proof.Relu2Value
public import proofs.«01_k».proof.Proof.Gen.Relu2.Frame

@[expose] public section

set_option maxRecDepth 16384

noncomputable section

open Idealize.ShloMosaic Idealize.SL.Sem

namespace Cert.Proof.Relu2Claims

/-- The two launches as printed end with the arguments unchanged and every counter at zero. -/
theorem frame_p : quiescent_Relu2 := fun m ρ _ => Relu2.Gen.frame m ρ
/-- The idealized launches do too. -/
theorem frame_pi : quiescent_Relu2Ideal := fun m ρ _ => Relu2Ideal.Gen.frame m ρ
/-- So does the reference. -/
theorem frame_ri : quiescent_Relu2RefIdeal := fun m ρ _ =>
  (θ_run Relu2RefIdeal.defs _ _).mono (fun r h => ⟨fun c => (h c).2, sem_eq_zero_of_no_sems (by decide) r.2⟩)
    (Relu2RefIdeal.Value.run (F := Ideal) m ρ)

/-- The idealized launches leave the reference's gradient before the relu. -/
theorem algebraic : algebraic_Relu2Ideal_Relu2RefIdeal := by
  intro m ρ m' ρ' _ hagree
  refine ⟨_, Relu2Ideal.Run.run (F := Ideal) m ρ, ?_⟩
  refine (θ_run Relu2RefIdeal.defs _ _).mono (fun _ h c => ⟨(h c).1.trans ?_, (h c).2⟩)
    (Relu2RefIdeal.Value.run (F := Ideal) m' ρ')
  rw [Relu2RefIdeal.Read.val_main_v14_eq, (hagree c).1, (hagree c).2.1, (hagree c).2.2.1, (hagree c).2.2.2]
  exact (Relu2RefIdeal.Run.grad_ref _ _ _ _).trans (Relu2Ideal.Run.grad_final m ρ c).symm

end Cert.Proof.Relu2Claims
-- ==== Proof.RopeValue.lean ====
/- The rotary embedding's gradient: what the two launches leave in the result array, and what the reference's result
   is, as one function of the positions and the cotangent over the extended reals. -/
module

public import proofs.«01_k».proof.Defs
public import proofs.«01_k».proof.Proof.Gen.RopeIdeal.Frame
public import proofs.«01_k».proof.Proof.Gen.RopeRefIdeal.Read
public import Idealize.ShloMosaic.Lib.Pipeline.ValueKit

@[expose] public section

set_option maxRecDepth 16384

noncomputable section

namespace Cert.RopeIdeal.Run

open Cert.RopeIdeal Cert.RopeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From zero counters the program ends, and each unscoped buffer holds the last boundary's contents. -/
theorem ends : θ_run defs (onTc (τ := τ) (main (F := F))) ⟨m, fun _ => 0, ρ⟩ (fun r =>
      ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-- The result array is the second launch's, the arguments are unchanged. -/
theorem run : θ_run defs (onTc (τ := τ) (main (F := F))) ⟨m, fun _ => 0, ρ⟩ (fun r => ∀ c : Dev nD,
      r.2.mem ((c : Thread nD τ).loc main_v27) = (dat1 (V3 m ρ) c).arrAt 4 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=

  (θ_run defs _ _).mono (fun r h c =>
    ⟨(h c _ (mem_uc main_v27 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (ends m ρ)

end Cert.RopeIdeal.Run

namespace Cert.RopeSpec

open Idealize.ShloMosaic

abbrev Pos : Type := (⟨2, ![1, 2048]⟩ : Shape).Idx → BitVec 32
abbrev Arr : Type := (⟨4, ![1, 2048, 16, 64]⟩ : Shape).Idx → EReal

/-- The thirty-two frequencies, by the reference's own operations. -/
def freq (k : Fin 32) : EReal := Cert.RopeRefIdeal.Read.val_main_v10 (F := Ideal) (ix1 k)
/-- The angle of row `r` at frequency `k`. -/
def angle (p : Pos) (r : Fin 2048) (k : Fin 32) : EReal := FloatOps.sitofp (F := Ideal) .f32 (p (ix2 0 r)) * freq k

/-- The gradient: the rotation by the opposite angle, each head's halves turned together. -/
def grad (p : Pos) (g : Arr) (r : Fin 2048) (h : Fin 16) (q : Fin 64) : EReal :=
  if hq : q.val < 32 then
    g (ix4 0 r h q) * Ideal.cos (angle p r ⟨q.val, hq⟩) + g (ix4 0 r h ⟨q.val + 32, by omega⟩) * Ideal.sin (angle p r ⟨q.val, hq⟩)
  else
    g (ix4 0 r h q) * Ideal.cos (angle p r ⟨q.val - 32, by omega⟩) + g (ix4 0 r h ⟨q.val - 32, by omega⟩) * -Ideal.sin (angle p r ⟨q.val - 32, by omega⟩)

/-- The cosine in column `l` of a row of 128. -/
def cosCol (p : Pos) (r : Fin 2048) (l : Fin 128) : EReal := Ideal.cos (angle p r ⟨l.val % 32, by omega⟩)
/-- The sine in column `l` of a row of 128, negated on the first half of each head. -/
def sinCol (p : Pos) (r : Fin 2048) (l : Fin 128) : EReal :=
  Ideal.sin (angle p r ⟨l.val % 32, by omega⟩) * (if l.val % 64 < 32 then (-1 : EReal) else 1)
/-- The gradient in column `k` of a row: head `k / 64`, entry `k % 64`. -/
def gradCol (p : Pos) (g : Arr) (r : Fin 2048) (k : Fin 1024) : EReal := grad p g r ⟨k.val / 64, by omega⟩ ⟨k.val % 64, by omega⟩

end Cert.RopeSpec

namespace Cert.RopeIdeal.Run

open Cert.RopeIdeal Cert.RopeIdeal.Gen Idealize.ShloMosaic Idealize.ShloMosaic.TcCoe Idealize.SL.Sem

variable (m : (ℓ : Loc nD τ sig) → Buf (Elt Ideal) ℓ) (ρ : Dev nD → PrngReg)

/-- The positions and the cotangent on device `c`. -/
abbrev p (c : Dev nD) : RopeSpec.Pos := m ((c : Thread nD τ).loc main_arg0)
abbrev g (c : Dev nD) : RopeSpec.Arr := m ((c : Thread nD τ).loc main_arg2)

/-- Which block each window of the second launch takes at point `t`. -/
theorem index1 : ∀ t : Fin cfg1.N, win1_1.index t = ![t.val, 0] ∧ win1_2.index t = ![t.val, 0] ∧ win1_3.index t = ![t.val, 0] ∧ win1_4.index t = ![t.val, 0] :=
  (by decide +kernel : ∀ t : Fin grid1.N, win1_1.index t = ![t.val, 0] ∧ win1_2.index t = ![t.val, 0] ∧ win1_3.index t = ![t.val, 0] ∧ win1_4.index t = ![t.val, 0])

/-- Each window of the first launch is its whole array. -/
theorem index0 : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0])

/-- The first launch's positions. -/
theorem blk0_0 (c : Dev nD) (t : Fin cfg0.N) (r : Fin 2048) :
    iblk0 (V1 m ρ) c 0 t (ix2 r 0) = p m c (ix2 0 r) := by
  blk_point [iblk0, V1, W1, W0, (index0 t).1]

/-- The host's frequencies are the reference's, laid out four times side by side. -/
theorem host_freq (c : Dev nD) : (W1 m ρ c main_v14 : S1x128.Idx → EReal) =
    shapeCast S1x128 (shapeCast S128 (broadcastInDim S4x32 ![0, 1] bcast_S1x32_S4x32_0_1
      (shapeCast S1x32 (Cert.RopeRefIdeal.Read.val_main_v10 (F := Ideal) : S32.Idx → EReal) shapeCasts_S32_S1x32)) shapeCasts_S4x32_S128) shapeCasts_S128_S1x128 := by
  show StableHlo.after hostOps0 (W0 m ρ c) main_v14 = _
  after_results <;> rfl

/-- The host's signs: minus one on the first half of each head's columns, one on the second. -/
theorem host_sign (c : Dev nD) (l : Fin 128) : (W1 m ρ c main_v22 : S1x128.Idx → EReal) (ix2 0 l) = if l.val % 64 < 32 then (-1 : EReal) else 1 := by
  have h : (W1 m ρ c main_v22 : S1x128.Idx → EReal) =
    shapeCast S1x128 (shapeCast S128 (broadcastInDim S2x64 ![0, 1] bcast_S1x64_S2x64_0_1
      (shapeCast S1x64 (concatenate S64 0 [⟨S32, Host.negf (F := Ideal) (φ := .f32) (broadcastInDim S32 ![] bcast_S_S32 (constant S_ .f32 0x3F800000#32))⟩,
         ⟨S32, broadcastInDim S32 ![] bcast_S_S32 (constant (F := Ideal) S_ .f32 0x3F800000#32)⟩] concatenates_S32_S32_S64_d0) shapeCasts_S64_S1x64)) shapeCasts_S2x64_S128) shapeCasts_S128_S1x128 := by
    show StableHlo.after hostOps0 (W0 m ρ c) main_v22 = _
    after_results <;> rfl
  rw [h]
  pointwise
  rfl

/-- The host's frequency in column `l`. -/
theorem host_freq_apply (c : Dev nD) (l : Fin 128) : (W1 m ρ c main_v14 : S1x128.Idx → EReal) (ix2 0 l) = RopeSpec.freq ⟨l.val % 32, by omega⟩ := by
  rw [host_freq]
  pointwise
  rfl

/-- The first launch's frequencies. -/
theorem blk0_1 (c : Dev nD) (t : Fin cfg0.N) (l : Fin 128) :
    iblk0 (V1 m ρ) c 1 t (ix2 0 l) = RopeSpec.freq ⟨l.val % 32, by omega⟩ := by
  rw [← host_freq_apply m ρ c l]
  blk_point [iblk0, V1, (index0 t).2.1]

/-- The first launch's signs. -/
theorem blk0_2 (c : Dev nD) (t : Fin cfg0.N) (l : Fin 128) :
    iblk0 (V1 m ρ) c 2 t (ix2 0 l) = if l.val % 64 < 32 then (-1 : EReal) else 1 := by
  rw [← host_sign m ρ c l]
  blk_simp [iblk0, V1]
  exact congrArg _ (by blk_ext [(index0 t).2.2.1])

/-- After the first launch: the cosines. -/
theorem cos_final (c : Dev nD) :
    (dat0 (V1 m ρ) c).arrAt 3 cfg0.N = fun i => RopeSpec.cosCol (p m c) (i 0) (i 1) := by
  refine (dat0 (V1 m ρ) c).arrAt_eq_of_covers 3 _ (by decide +kernel) fun t hf y => ?_
  blk_simp
  rw [after0_3]
  idx_vars y
  have e0 : (((cfg0.win 3).blk t).view.emb (ix2 y0 y1)) 0 = y0 := Fin.ext (by blk_simp [(index0 t).2.2.2.1])
  have e1 : (((cfg0.win 3).blk t).view.emb (ix2 y0 y1)) 1 = y1 := Fin.ext (by blk_simp [(index0 t).2.2.2.1])
  refine Eq.trans ?_ (congrArg₂ (RopeSpec.cosCol (p m c)) e0.symm e1.symm)
  frame_out
  unfold_payloads
  pointwise
  simp only [blk0_0, blk0_1]
  rfl

/-- After the first launch: the sines under their signs. -/
theorem sin_final (c : Dev nD) :
    (dat0 (V1 m ρ) c).arrAt 4 cfg0.N = fun i => RopeSpec.sinCol (p m c) (i 0) (i 1) := by
  refine (dat0 (V1 m ρ) c).arrAt_eq_of_covers 4 _ (by decide +kernel) fun t hf y => ?_
  blk_simp
  rw [after0_4]
  idx_vars y
  have e0 : (((cfg0.win 4).blk t).view.emb (ix2 y0 y1)) 0 = y0 := Fin.ext (by blk_simp [(index0 t).2.2.2.2])
  have e1 : (((cfg0.win 4).blk t).view.emb (ix2 y0 y1)) 1 = y1 := Fin.ext (by blk_simp [(index0 t).2.2.2.2])
  refine Eq.trans ?_ (congrArg₂ (RopeSpec.sinCol (p m c)) e0.symm e1.symm)
  frame_out
  unfold_payloads
  pointwise
  simp only [blk0_0, blk0_1, blk0_2]
  rfl

theorem row_lt (t : Fin cfg1.N) (x : Fin 256) : 256 * t.val + x.val < 2048 := by
  have := t.isLt; have : cfg1.N = 8 := N_1; omega

/-- The second launch's cosines at point `t`. -/
theorem blk1_1 (c : Dev nD) (t : Fin cfg1.N) (r : Fin 256) (l : Fin 128) :
    iblk1 (V3 m ρ) c 1 t (ix2 r l) = RopeSpec.cosCol (p m c) ⟨256 * t.val + r.val, row_lt t r⟩ l := by
  have h : V3 m ρ c main_v24_0 = (dat0 (V1 m ρ) c).arrAt 3 cfg0.N := (W3_of m ρ c main_v24_0 (by decide)).trans (W2_arr m ρ c 3)
  have e0 : ((win1_1.blk t).view.emb (ix2 r l)) 0 = (⟨256 * t.val + r.val, row_lt t r⟩ : Fin 2048) :=
    Fin.ext (by blk_simp [(index1 t).1]; simp [mul_comm])
  have e1 : ((win1_1.blk t).view.emb (ix2 r l)) 1 = l := Fin.ext (by blk_simp [(index1 t).1])
  blk_simp [iblk1, h, cos_final]
  exact congrArg₂ (RopeSpec.cosCol (p m c)) e0 e1

/-- The second launch's signed sines at point `t`. -/
theorem blk1_2 (c : Dev nD) (t : Fin cfg1.N) (r : Fin 256) (l : Fin 128) :
    iblk1 (V3 m ρ) c 2 t (ix2 r l) = RopeSpec.sinCol (p m c) ⟨256 * t.val + r.val, row_lt t r⟩ l := by
  have h : V3 m ρ c main_v24_1 = (dat0 (V1 m ρ) c).arrAt 4 cfg0.N := (W3_of m ρ c main_v24_1 (by decide)).trans (W2_arr m ρ c 4)
  have e0 : ((win1_2.blk t).view.emb (ix2 r l)) 0 = (⟨256 * t.val + r.val, row_lt t r⟩ : Fin 2048) :=
    Fin.ext (by blk_simp [(index1 t).2.1]; simp [mul_comm])
  have e1 : ((win1_2.blk t).view.emb (ix2 r l)) 1 = l := Fin.ext (by blk_simp [(index1 t).2.1])
  blk_simp [iblk1, h, sin_final]
  exact congrArg₂ (RopeSpec.sinCol (p m c)) e0 e1

/-- The second launch's cotangent at point `t`: column `k` is head `k / 64`, entry `k % 64`. -/
theorem blk1_3 (c : Dev nD) (t : Fin cfg1.N) (r : Fin 256) (k : Fin 1024) :
    iblk1 (V3 m ρ) c 3 t (ix2 r k) = g m c (ix4 0 ⟨256 * t.val + r.val, row_lt t r⟩ ⟨k.val / 64, by omega⟩ ⟨k.val % 64, by omega⟩) := by
  blk_point [iblk1, V3, W3, (index1 t).2.2.1]

/-- Eight equal pieces of 128 columns side by side, read at column `k`. -/
theorem eight_pieces {α : Type*} (f : Fin 128 → α) (k : Fin 1024) :
    (if h : k.val < 128 then f ⟨k.val, h⟩
    else if h : k.val - 128 < 128 then f ⟨k.val - 128, h⟩
    else if h : k.val - 128 - 128 < 128 then f ⟨k.val - 128 - 128, h⟩
    else if h : k.val - 128 - 128 - 128 < 128 then f ⟨k.val - 128 - 128 - 128, h⟩
    else if h : k.val - 128 - 128 - 128 - 128 < 128 then f ⟨k.val - 128 - 128 - 128 - 128, h⟩
    else if h : k.val - 128 - 128 - 128 - 128 - 128 < 128 then f ⟨k.val - 128 - 128 - 128 - 128 - 128, h⟩
    else if h : k.val - 128 - 128 - 128 - 128 - 128 - 128 < 128 then f ⟨k.val - 128 - 128 - 128 - 128 - 128 - 128, h⟩
    else f ⟨k.val - 128 - 128 - 128 - 128 - 128 - 128 - 128, by omega⟩) = f ⟨k.val % 128, by omega⟩ := by
  split_ifs <;> exact congrArg f (Fin.ext (by simp only; omega))

/-- The launch's test of a column number: whether it lies in the first half of its head. -/
theorem first_half (k : Fin 1024) :
    IntOp.cmpi CmpIPredicate.slt
      (Scalar.select
        (IntOp.andi
          (IntOp.xori
            (IntOp.cmpi CmpIPredicate.slt
              (IntOp.remsi ArithUnit.vector (BitVec.ofNat 32 k.val) (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 k.val) (Scalar.select (Scalar.cmpi CmpIPredicate.eq 64#32 0#32) 1#32 64#32))
            0#32))
        (IntOp.addi
          (IntOp.remsi ArithUnit.vector (BitVec.ofNat 32 k.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 k.val) (Scalar.select (Scalar.cmpi CmpIPredicate.eq 64#32 0#32) 1#32 64#32)))
      32#32 = if k.val % 64 < 32 then 1#1 else 0#1 := by
  revert k
  decide +kernel

/-- After the second launch the result holds the gradient. -/
theorem grad_final (c : Dev nD) :
    (dat1 (V3 m ρ) c).arrAt 4 cfg1.N =
      fun i => RopeSpec.gradCol (p m c) (g m c) (i 0) (i 1) := by
  refine (dat1 (V3 m ρ) c).arrAt_eq_of_covers 4 _ (by decide +kernel) fun t hf y => ?_
  blk_simp
  rw [after1_4]
  idx_vars y
  have e0 : (((cfg1.win 4).blk t).view.emb (ix2 y0 y1)) 0 = (⟨256 * t.val + y0.val, row_lt t y0⟩ : Fin 2048) :=
    Fin.ext (by blk_simp [(index1 t).2.2.2]; simp [mul_comm])
  have e1 : (((cfg1.win 4).blk t).view.emb (ix2 y0 y1)) 1 = y1 := Fin.ext (by blk_simp [(index1 t).2.2.2])
  refine Eq.trans ?_ (congrArg₂ (RopeSpec.gradCol (p m c) (g m c)) e0.symm e1.symm)
  frame_out
  unfold_payloads
  pointwise
  have hc := eight_pieces (fun l => iblk1 (V3 m ρ) c 1 t (ix2 y0 l)) y1
  have hs := eight_pieces (fun l => (0 : EReal) - iblk1 (V3 m ρ) c 2 t (ix2 y0 l)) y1
  rw [hc, hs, first_half]
  simp only [blk1_1, blk1_2, blk1_3, RopeSpec.gradCol, RopeSpec.grad, RopeSpec.cosCol, RopeSpec.sinCol]
  have hm : y1.val % 128 % 64 = y1.val % 64 := by omega
  have hn : y1.val % 128 % 32 = y1.val % 32 := by omega
  simp only [hm, hn]
  by_cases hq : y1.val % 64 < 32
  · have h1 : (y1.val + 1024 - 992) % 1024 / 64 = y1.val / 64 := by omega
    have h2 : (y1.val + 1024 - 992) % 1024 % 64 = y1.val % 64 + 32 := by omega
    have h3 : y1.val % 32 = y1.val % 64 := by omega
    simp only [hq, if_true, dif_pos, h1, h2, h3, mul_neg, mul_one, sub_eq_add_neg, zero_add, neg_neg]
    rfl
  · have h1 : (y1.val + 1024 - 32) % 1024 / 64 = y1.val / 64 := by omega
    have h2 : (y1.val + 1024 - 32) % 1024 % 64 = y1.val % 64 - 32 := by omega
    have h3 : y1.val % 32 = y1.val % 64 - 32 := by omega
    simp only [hq, if_false, dif_neg, h1, h2, h3, mul_neg, mul_one, sub_eq_add_neg, zero_add, neg_neg, not_false_eq_true]
    rfl

end Cert.RopeIdeal.Run

namespace Cert.RopeRefIdeal.Run

open Cert.RopeRefIdeal Cert.RopeRefIdeal.Gen Cert.RopeRefIdeal.Read Idealize.ShloMosaic

/-- The reference's angle. -/
theorem angle_ref (p : RopeSpec.Pos) (r : Fin 2048) (k : Fin 32) : val_main_v16 (F := Ideal) p (ix3 0 r k) = RopeSpec.angle p r k := by
  rw [val_main_v16_apply, val_main_v14_apply, val_main_v12_apply, val_main_v11_apply, val_main_v15_apply, val_main_v13_apply]
  unfold RopeSpec.angle RopeSpec.freq
  exact congrArg₂ (fun a b => FloatOps.sitofp (F := Ideal) .f32 (p a) * val_main_v10 (F := Ideal) b) (by blk_ext) (by blk_ext)

/-- The reference's cosine and sine, spread over the heads. -/
theorem cos_ref (p : RopeSpec.Pos) (r : Fin 2048) (k : Fin 32) : val_main_v19 (F := Ideal) p (ix4 0 r 0 k) = Ideal.cos (RopeSpec.angle p r k) := by
  rw [val_main_v19_apply, val_main_v17_apply, ← angle_ref]
  exact congrArg (fun a => Ideal.cos (val_main_v16 (F := Ideal) p a)) (by blk_ext)
theorem sin_ref (p : RopeSpec.Pos) (r : Fin 2048) (k : Fin 32) : val_main_v20 (F := Ideal) p (ix4 0 r 0 k) = Ideal.sin (RopeSpec.angle p r k) := by
  rw [val_main_v20_apply, val_main_v18_apply, ← angle_ref]
  exact congrArg (fun a => Ideal.sin (val_main_v16 (F := Ideal) p a)) (by blk_ext)

/-- The first half of each head's gradient. -/
theorem first_ref (p : RopeSpec.Pos) (g : RopeSpec.Arr) (r : Fin 2048) (h : Fin 16) (k : Fin 32) :
    val_main_v46 (F := Ideal) p g (ix4 0 r h k) =
      g (ix4 0 r h ⟨k.val + 32, by omega⟩) * Ideal.sin (RopeSpec.angle p r k) + g (ix4 0 r h ⟨k.val, by omega⟩) * Ideal.cos (RopeSpec.angle p r k) := by
  rw [val_main_v46_apply, val_main_v37_apply, val_main_v45_apply, val_main_v35_apply, val_main_v36_apply, val_main_v34_apply, val_main_v44_apply,
    show idx_main_v36 (ix4 0 r h k) = ix4 0 r 0 k by blk_ext, show idx_main_v44 (ix4 0 r h k) = ix4 0 r 0 k by blk_ext, sin_ref, cos_ref,
    show idx_main_v35 (ix4 0 r h k) = ix4 0 r h ⟨k.val + 32, by omega⟩ by blk_ext, show idx_main_v34 (ix4 0 r h k) = ix4 0 r h ⟨k.val, by omega⟩ by blk_ext]
  rfl

/-- The second half of each head's gradient. -/
theorem second_ref (p : RopeSpec.Pos) (g : RopeSpec.Arr) (r : Fin 2048) (h : Fin 16) (k : Fin 32) :
    val_main_v43 (F := Ideal) p g (ix4 0 r h k) =
      g (ix4 0 r h ⟨k.val + 32, by omega⟩) * Ideal.cos (RopeSpec.angle p r k) + -g (ix4 0 r h ⟨k.val, by omega⟩) * Ideal.sin (RopeSpec.angle p r k) := by
  rw [val_main_v43_apply, val_main_v39_apply, val_main_v42_apply, val_main_v35_apply, val_main_v38_apply, val_main_v40_apply, val_main_v34_apply, val_main_v41_apply,
    show idx_main_v38 (ix4 0 r h k) = ix4 0 r 0 k by blk_ext, show idx_main_v41 (ix4 0 r h k) = ix4 0 r 0 k by blk_ext, sin_ref, cos_ref,
    show idx_main_v35 (ix4 0 r h k) = ix4 0 r h ⟨k.val + 32, by omega⟩ by blk_ext, show idx_main_v34 (ix4 0 r h k) = ix4 0 r h ⟨k.val, by omega⟩ by blk_ext]
  rfl

/-- The reference's gradient. -/
theorem grad_ref (p : RopeSpec.Pos) (g : RopeSpec.Arr) :
    val_main_v49 (F := Ideal) p g = fun i => RopeSpec.gradCol p g (i 0) (i 1) := by
  funext i
  idx_vars i
  rw [val_main_v49_apply, val_main_v48_apply]
  unfold val_main_v47
  pointwise
  have h1 : (i0.val * 1024 + i1.val) % 64 = i1.val % 64 := by omega
  have h2 : (i0.val * 1024 + i1.val) / 1024 % 2048 = i0.val := by omega
  have h3 : (i0.val * 1024 + i1.val) / 64 % 16 = i1.val / 64 := by omega
  simp only [h1, h2, h3]
  unfold RopeSpec.gradCol RopeSpec.grad
  by_cases hq : i1.val % 64 < 32
  · rw [dif_pos hq, dif_pos hq, first_ref, add_comm]
  · have h4 : i1.val % 64 - 32 + 32 = i1.val % 64 := by omega
    rw [dif_neg hq, dif_neg hq, second_ref, neg_mul, mul_neg]
    simp only [h4]

end Cert.RopeRefIdeal.Run
-- ==== Proof.RopeClaims.lean ====
/- The five claims about the rotary embedding's gradient. -/
module

public import proofs.«01_k».proof.Proof.RopeValue
public import proofs.«01_k».proof.Proof.Gen.Rope.Frame

@[expose] public section

set_option maxRecDepth 16384

noncomputable section

open Idealize.ShloMosaic Idealize.SL.Sem

namespace Cert.Proof.RopeClaims

/-- The two launches as printed end with the arguments unchanged and every counter at zero. -/
theorem frame_p : quiescent_Rope := fun m ρ _ => Rope.Gen.frame m ρ
/-- The idealized launches do too. -/
theorem frame_pi : quiescent_RopeIdeal := fun m ρ _ => RopeIdeal.Gen.frame m ρ
/-- So does the reference. -/
theorem frame_ri : quiescent_RopeRefIdeal := fun m ρ _ =>
  (θ_run RopeRefIdeal.defs _ _).mono (fun r h => ⟨fun c => (h c).2, sem_eq_zero_of_no_sems (by decide) r.2⟩)
    (RopeRefIdeal.Value.run (F := Ideal) m ρ)

/-- The idealized launches leave the reference's gradient in the queries. -/
theorem algebraic : algebraic_RopeIdeal_RopeRefIdeal := by
  intro m ρ m' ρ' _ hagree
  refine ⟨_, RopeIdeal.Run.run (F := Ideal) m ρ, ?_⟩
  refine (θ_run RopeRefIdeal.defs _ _).mono (fun _ h c => ⟨(h c).1.trans ?_, (h c).2⟩)
    (RopeRefIdeal.Value.run (F := Ideal) m' ρ')
  rw [RopeRefIdeal.Read.val_main_v49_eq, (hagree c).1, (hagree c).2.2]
  exact (RopeRefIdeal.Run.grad_ref _ _).trans (RopeIdeal.Run.grad_final m ρ c).symm

end Cert.Proof.RopeClaims
-- ==== Proof.ConvValue.lean ====
/- The depthwise causal convolution's backward call: its two result arrays, and the reference's two results, as sums
   over the taps and over the times. -/
module

public import proofs.«01_k».proof.Defs
public import proofs.«01_k».proof.Proof.Gen.ConvIdeal.Value
public import Idealize.ShloMosaic.Lib.Pipeline.ValueKit
public import Idealize.ShloMosaic.Lib.Pipeline.ReadBack
public import proofs.«01_k».proof.Proof.Gen.ConvRefIdeal.Read

@[expose] public section

set_option maxRecDepth 16384

noncomputable section

namespace Cert.ConvIdeal.Filter
open Cert.ConvIdeal Cert.ConvIdeal.Gen Idealize.ShloMosaic Idealize.ShloMosaic.TcCoe Idealize.SL.Sem
variable (m : (ℓ : Loc nD τ sig) → Buf (Elt Ideal) ℓ)

/-- Row `n` of the cotangent followed by zero rows. -/
def tailed (g : S2048x128.Idx → EReal) (n : ℕ) (q : Fin 128) : EReal := if h : n < 2048 then g (ix2 ⟨n, h⟩ q) else 0

/-- Row `n` of the input behind thirty-two zero rows. -/
def led (u : S2048x128.Idx → EReal) (n : ℕ) (q : Fin 128) : EReal := if h : 32 ≤ n ∧ n < 2080 then u (ix2 ⟨n - 32, by omega⟩ q) else 0

/-- Tap `j` of the depthwise filter. -/
def tap (w : S31x128.Idx → EReal) (j : ℕ) (q : Fin 128) : EReal := if h : j < 31 then w (ix2 ⟨j, h⟩ q) else 0

/-- One row of the gradient of the input: every tap against the cotangent that many rows later. -/
def duAt (g : S2048x128.Idx → EReal) (w : S31x128.Idx → EReal) (r : ℕ) (q : Fin 128) : EReal :=
  ∑ j ∈ Finset.range 31, tailed g (30 - j + r) q * tap w j q

/-- One row of the gradients of the filter: row 31 is the gradient of the bias. -/
def dwAt (u g : S2048x128.Idx → EReal) (j : ℕ) (q : Fin 128) : EReal :=
  if j = 31 then ∑ x : Fin 256, ∑ b ∈ Finset.range 8, tailed g (b * 256 + x.val) q
  else ∑ x : Fin 256, ∑ b ∈ Finset.range 8, tailed g (b * 256 + x.val) q * led u (b * 256 + 2 + j + x.val) q

theorem tailed_lt (g : S2048x128.Idx → EReal) (n : ℕ) (h : n < 2048) (q : Fin 128) : g (ix2 ⟨n, h⟩ q) = tailed g n q := by
  unfold tailed; rw [dif_pos h]

theorem tap_lt (w : S31x128.Idx → EReal) (j : Fin 31) (q : Fin 128) : w (ix2 j q) = tap w j.val q := by
  unfold tap; rw [dif_pos j.isLt]

/-- A load of 256 rows of the cotangent laid out before its zero rows. -/
theorem load_g (g : S2048x128.Idx → EReal) (o : ℕ) (inb) (x : Fin 256) (q : Fin 128) (v : View sig .tc .vmem S2080x128 .f32) :
    v.readCov (Val := Elt Ideal)
      [⟨Rect.unit ![0, 0] ![2048, 128] inb_S2080x128_S2048x128_0_0, g⟩, ⟨Rect.unit ![2048, 0] ![32, 128] inb_S2080x128_S32x128_2048_0, (broadcast S32x128 (0 : EReal) : S32x128.Idx → EReal)⟩]
      (Rect.unit (s := S2080x128) ![o, 0] ![256, 128] inb).toLoadRect (ix2 x q) = tailed g (o + x.val) q := by
  rw [View.readCov_eq_canon']
  have ho : o + 256 ≤ 2080 := inb 0
  have hx := x.isLt
  have hq := q.isLt
  have e₀ : (Rect.unit (s := S2080x128) ![o, 0] ![256, 128] inb).emb (ix2 x q) = ix2 ⟨o + x.val, by omega⟩ q := by blk_ext
  have e : (Rect.unit (s := S2080x128) ![o, 0] ![256, 128] inb).toLoadRect.idx (ix2 x q) = ix2 ⟨o + x.val, by omega⟩ q := e₀
  refine (congrArg (View.canon (Val := Elt Ideal) (e := .f32) _) e).trans ?_
  unfold tailed
  split_ifs with h
  · have e' : (ix2 ⟨o + x.val, by omega⟩ q : S2080x128.Idx) = (Rect.unit (s := S2080x128) ![0, 0] ![2048, 128] inb_S2080x128_S2048x128_0_0).emb (ix2 ⟨o + x.val, h⟩ q) := by blk_ext
    rw [e', View.canon_cons_emb]
  · rw [View.canon_cons_of_not_mem]
    · have e' : (ix2 ⟨o + x.val, by omega⟩ q : S2080x128.Idx) = (Rect.unit (s := S2080x128) ![2048, 0] ![32, 128] inb_S2080x128_S32x128_2048_0).emb (ix2 ⟨o + x.val - 2048, by omega⟩ q) := by blk_ext
      rw [e', View.canon_cons_emb]
      rfl
    · refine Rect.not_mem_set_of_axis _ _ (0 : Fin 2) 0 2048 rfl rfl rfl (Or.inr ?_)
      show 0 + 2048 ≤ o + x.val
      omega

/-- A load of 256 rows of the input laid out behind its zero rows. -/
theorem load_u (u : S2048x128.Idx → EReal) (o : ℕ) (inb) (x : Fin 256) (q : Fin 128) (v : View sig .tc .vmem S2080x128 .f32) :
    v.readCov (Val := Elt Ideal)
      [⟨Rect.unit ![32, 0] ![2048, 128] inb_S2080x128_S2048x128_32_0, u⟩, ⟨Rect.unit ![0, 0] ![32, 128] inb_S2080x128_S32x128_0_0, (broadcast S32x128 (0 : EReal) : S32x128.Idx → EReal)⟩]
      (Rect.unit (s := S2080x128) ![o, 0] ![256, 128] inb).toLoadRect (ix2 x q) = led u (o + x.val) q := by
  rw [View.readCov_eq_canon']
  have ho : o + 256 ≤ 2080 := inb 0
  have hx := x.isLt
  have hq := q.isLt
  have e₀ : (Rect.unit (s := S2080x128) ![o, 0] ![256, 128] inb).emb (ix2 x q) = ix2 ⟨o + x.val, by omega⟩ q := by blk_ext
  have e : (Rect.unit (s := S2080x128) ![o, 0] ![256, 128] inb).toLoadRect.idx (ix2 x q) = ix2 ⟨o + x.val, by omega⟩ q := e₀
  refine (congrArg (View.canon (Val := Elt Ideal) (e := .f32) _) e).trans ?_
  unfold led
  split_ifs with h
  · have e' : (ix2 ⟨o + x.val, by omega⟩ q : S2080x128.Idx) = (Rect.unit (s := S2080x128) ![32, 0] ![2048, 128] inb_S2080x128_S2048x128_32_0).emb (ix2 ⟨o + x.val - 32, by omega⟩ q) := by blk_ext
    rw [e', View.canon_cons_emb]
  · rw [View.canon_cons_of_not_mem]
    · have e' : (ix2 ⟨o + x.val, by omega⟩ q : S2080x128.Idx) = (Rect.unit (s := S2080x128) ![0, 0] ![32, 128] inb_S2080x128_S32x128_0_0).emb (ix2 ⟨o + x.val, by omega⟩ q) := by blk_ext
      rw [e', View.canon_cons_emb]
      rfl
    · refine Rect.not_mem_set_of_axis _ _ (0 : Fin 2) 32 2048 rfl rfl rfl (Or.inl ?_)
      show o + x.val < 32
      omega

/-- The row of the block of `du` an element of a store goes to. -/
theorem emb_du (o : ℕ) (inb) (x : Fin 256) (q : Fin 128) :
    ((Rect.unit (s := S2048x128) ![o, 0] ![256, 128] inb).emb (ix2 x q) 0).val = o + x.val ∧ (Rect.unit (s := S2048x128) ![o, 0] ![256, 128] inb).emb (ix2 x q) 1 = q :=
  ⟨by blk_simp, Fin.ext (by blk_simp)⟩

/-- The row of the block of filter gradients an element of a store goes to. -/
theorem emb_dw (o : ℕ) (inb) (x : Fin 1) (q : Fin 128) :
    ((Rect.unit (s := S32x128) ![o, 0] ![1, 128] inb).emb (ix2 x q) 0).val = o ∧ (Rect.unit (s := S32x128) ![o, 0] ![1, 128] inb).emb (ix2 x q) 1 = q :=
  ⟨by blk_simp, Fin.ext (by blk_simp)⟩

set_option maxHeartbeats 4000000 in
/-- What a grid point leaves in its block of the input's gradient. -/
theorem du_block (c : Dev nD) (t : Fin cfg0.N) (j : S2048x128.Idx) :
    (outsAt0 m c t).1 j = duAt (iblk m c 1 t) (iblk m c 2 t) (j 0).val (j 1) := by
  unfold outsAt0
  dsimp only
  unfold out0_A_3
  rw [View.read_writes_junk_eq_canon]
  generalize hG : (fun j : S2048x128.Idx => duAt (iblk m c 1 t) (iblk m c 2 t) (j 0).val (j 1)) = G
  rw [show duAt (iblk m c 1 t) (iblk m c 2 t) (j 0).val (j 1) = G j from hG ▸ rfl]
  refine View.canon_apply_of_pieces (Val := Elt Ideal) (e := .f32) G _ (View.PiecesOf.mem ?_) j (cover0_A_3 c _ _ _ _ _ _ _ _ _ _ _ _ _ _ _ _ _ _ j)
  unfold kernelRun0_A
  dsimp only
  refine ⟨?_, ?_, ?_, ?_, ?_, ?_, ?_, ?_, trivial⟩
  all_goals
    intro x
    idx_vars x
    frame_out
    unfold_payloads
    pointwise
    simp only [load_g, tap_lt (iblk m c 2 t)]
    rw [← hG]
    beta_reduce
    rw [(emb_du _ _ x0 x1).1, (emb_du _ _ x0 x1).2]
    unfold duAt
    simp only [Finset.sum_range_succ, Finset.sum_range_zero, ← Nat.add_assoc, Nat.reduceAdd, Nat.reduceSub, zero_add]
    rfl

set_option maxHeartbeats 4000000 in
/-- What a grid point leaves in its block of the filter's gradients. -/
theorem dw_block (c : Dev nD) (t : Fin cfg0.N) (j : S32x128.Idx) :
    (outsAt0 m c t).2 j = dwAt (iblk m c 0 t) (iblk m c 1 t) (j 0).val (j 1) := by
  unfold outsAt0
  dsimp only
  unfold out0_A_4
  rw [View.read_writes_junk_eq_canon]
  generalize hG : (fun j : S32x128.Idx => dwAt (iblk m c 0 t) (iblk m c 1 t) (j 0).val (j 1)) = G
  rw [show dwAt (iblk m c 0 t) (iblk m c 1 t) (j 0).val (j 1) = G j from hG ▸ rfl]
  refine View.canon_apply_of_pieces (Val := Elt Ideal) (e := .f32) G _ (View.PiecesOf.mem ?_) j (cover0_A_4 c _ _ _ _ _ _ _ _ _ _ _ _ _ _ _ _ _ _ j)
  unfold kernelRun0_A
  dsimp only
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    idx_vars x
    frame_out
    unfold_payloads
    pointwise
    rw [← hG]
    beta_reduce
    rw [(emb_dw _ _ x0 x1).1, (emb_dw _ _ x0 x1).2]
    unfold dwAt
    simp only [reduceCtorEq, Nat.reduceEqDiff, if_true, if_false, ↓reduceIte]
    refine Finset.sum_congr rfl fun x _ => ?_
    simp only [load_u, tailed_lt (iblk m c 1 t)]
    simp only [Finset.sum_range_succ, Finset.sum_range_zero, Nat.reduceAdd, Nat.reduceMul, zero_add]

end Cert.ConvIdeal.Filter

namespace Cert.ConvSpec

open Idealize.ShloMosaic

abbrev Seq : Type := (⟨3, ![1, 2048, 2048]⟩ : Shape).Idx → EReal
abbrev Taps : Type := (⟨2, ![31, 2048]⟩ : Shape).Idx → EReal

/-- Entry `n` of a column followed by zeros. -/
def after (f : Fin 2048 → EReal) (n : ℕ) : EReal := if h : n < 2048 then f ⟨n, h⟩ else 0

/-- Entry `n` of a column behind thirty-two zeros. -/
def before (f : Fin 2048 → EReal) (n : ℕ) : EReal := if h : 32 ≤ n ∧ n < 2080 then f ⟨n - 32, by omega⟩ else 0

/-- Entry `j` of a column of taps. -/
def entry (f : Fin 31 → EReal) (j : ℕ) : EReal := if h : j < 31 then f ⟨j, h⟩ else 0

/-- The gradient in the input at time `s`, channel `d`. -/
def du (w : Taps) (g : Seq) (s d : Fin 2048) : EReal :=
  ∑ j ∈ Finset.range 31, after (fun r => g (ix3 0 r d)) (30 - j + s.val) * entry (fun j => w (ix2 j d)) j

/-- The gradient in tap `j` of a channel whose input is `u` and cotangent `g`; row 31 is the bias's. -/
def dwCol (u g : Fin 2048 → EReal) (j : ℕ) : EReal :=
  if j = 31 then ∑ r : Fin 2048, g r else ∑ r : Fin 2048, g r * before u (2 + j + r.val)

def dw (u g : Seq) (j : Fin 32) (d : Fin 2048) : EReal := dwCol (fun r => u (ix3 0 r d)) (fun r => g (ix3 0 r d)) j.val

/-- A sum over times, taken by position within blocks of 256 first. -/
theorem sum_blocks (f : ℕ → EReal) : (∑ x : Fin 256, ∑ b ∈ Finset.range 8, f (b * 256 + x.val)) = ∑ r : Fin 2048, f r.val := by
  rw [← (finProdFinEquiv (m := 8) (n := 256)).sum_comp (fun r : Fin (8 * 256) => f r.val), Fintype.sum_prod_type]
  simp only [Finset.sum_range]
  rw [Finset.sum_comm]
  refine Finset.sum_congr rfl fun b _ => Finset.sum_congr rfl fun x _ => congrArg f ?_
  simp [finProdFinEquiv, add_comm, mul_comm]

end Cert.ConvSpec

namespace Cert.ConvIdeal.Filter

open Cert.ConvIdeal Cert.ConvIdeal.Gen Idealize.ShloMosaic Idealize.ShloMosaic.TcCoe Idealize.SL.Sem

variable (m : (ℓ : Loc nD τ sig) → Buf (Elt Ideal) ℓ)

/-- Point `t` takes column block `t` of every array. -/
theorem index_all : ∀ t : Fin cfg0.N, win0_0.index t = ![0, t.val] ∧ win0_1.index t = ![0, t.val] ∧ win0_2.index t = ![0, t.val] ∧ win0_3.index t = ![0, t.val] ∧ win0_4.index t = ![0, t.val] :=
  (by decide +kernel : ∀ t : Fin grid0.N, win0_0.index t = ![0, t.val] ∧ win0_1.index t = ![0, t.val] ∧ win0_2.index t = ![0, t.val] ∧ win0_3.index t = ![0, t.val] ∧ win0_4.index t = ![0, t.val])

/-- The three arguments on device `c`. -/
abbrev u (c : Dev nD) : ConvSpec.Seq := m ((c : Thread nD τ).loc main_arg0)
abbrev w (c : Dev nD) : ConvSpec.Taps := m ((c : Thread nD τ).loc main_arg1)
abbrev g (c : Dev nD) : ConvSpec.Seq := m ((c : Thread nD τ).loc main_arg2)

theorem col_lt (t : Fin cfg0.N) (q : Fin 128) : 128 * t.val + q.val < 2048 := by
  have := t.isLt; have : cfg0.N = 16 := N_0; omega

theorem blk_u (c : Dev nD) (t : Fin cfg0.N) (r : Fin 2048) (q : Fin 128) :
    iblk m c 0 t (ix2 r q) = u m c (ix3 0 r ⟨128 * t.val + q.val, col_lt t q⟩) := by
  blk_point [iblk, V, (index_all t).1]
theorem blk_g (c : Dev nD) (t : Fin cfg0.N) (r : Fin 2048) (q : Fin 128) :
    iblk m c 1 t (ix2 r q) = g m c (ix3 0 r ⟨128 * t.val + q.val, col_lt t q⟩) := by
  blk_point [iblk, V, (index_all t).2.1]
theorem blk_w (c : Dev nD) (t : Fin cfg0.N) (r : Fin 31) (q : Fin 128) :
    iblk m c 2 t (ix2 r q) = w m c (ix2 r ⟨128 * t.val + q.val, col_lt t q⟩) := by
  blk_point [iblk, V, (index_all t).2.2.1]

/-- After the run the first result array is the gradient in the input. -/
theorem du_final (c : Dev nD) : (dats m 0 c).arrAt 3 cfg0.N = fun i => ConvSpec.du (w m c) (g m c) (i 0) (i 1) := by
  refine (dats m 0 c).arrAt_eq_of_covers 3 _ (by decide +kernel) fun t hf y => ?_
  blk_simp
  rw [after0_3]
  idx_vars y
  have e0 : (((cfg0.win 3).blk t).view.emb (ix2 y0 y1)) 0 = (y0 : Fin 2048) :=
    Fin.ext (by blk_simp [(index_all t).2.2.2.1])
  have e1 : (((cfg0.win 3).blk t).view.emb (ix2 y0 y1)) 1 = (⟨128 * t.val + y1.val, col_lt t y1⟩ : Fin 2048) :=
    Fin.ext (by blk_simp [(index_all t).2.2.2.1]; simp [mul_comm])
  refine Eq.trans ?_ (congrArg₂ (ConvSpec.du (w m c) (g m c)) e0.symm e1.symm)
  rw [du_block]
  show duAt _ _ y0.val y1 = _
  unfold duAt ConvSpec.du
  exact Finset.sum_congr rfl fun j _ => congrArg₂ (· * ·)
    (congrArg (ConvSpec.after · (30 - j + y0.val)) (funext fun r => blk_g m c t r y1))
    (congrArg (ConvSpec.entry · j) (funext fun r => blk_w m c t r y1))

/-- After the run the second result array is the gradients in the taps and the bias. -/
theorem dw_final (c : Dev nD) : (dats m 0 c).arrAt 4 cfg0.N = fun i => ConvSpec.dw (u m c) (g m c) (i 0) (i 1) := by
  refine (dats m 0 c).arrAt_eq_of_covers 4 _ (by decide +kernel) fun t hf y => ?_
  blk_simp
  rw [after0_4]
  idx_vars y
  have e0 : (((cfg0.win 4).blk t).view.emb (ix2 y0 y1)) 0 = (y0 : Fin 32) :=
    Fin.ext (by blk_simp [(index_all t).2.2.2.2])
  have e1 : (((cfg0.win 4).blk t).view.emb (ix2 y0 y1)) 1 = (⟨128 * t.val + y1.val, col_lt t y1⟩ : Fin 2048) :=
    Fin.ext (by blk_simp [(index_all t).2.2.2.2]; simp [mul_comm])
  refine Eq.trans ?_ (congrArg₂ (ConvSpec.dw (u m c) (g m c)) e0.symm e1.symm)
  rw [dw_block]
  have hu := funext fun r => blk_u m c t r y1
  have hg := funext fun r => blk_g m c t r y1
  unfold ConvSpec.dw
  rw [← hu, ← hg]
  show dwAt _ _ y0.val y1 = _
  unfold dwAt ConvSpec.dwCol
  split_ifs with h
  · refine (ConvSpec.sum_blocks fun n => tailed (iblk m c 1 t) n y1).trans (Finset.sum_congr rfl fun r _ => ?_)
    exact (tailed_lt _ r.val r.isLt y1).symm
  · have hs := ConvSpec.sum_blocks fun n => tailed (iblk m c 1 t) n y1 * led (iblk m c 0 t) (2 + y0.val + n) y1
    refine Eq.trans (Finset.sum_congr rfl fun x _ => Finset.sum_congr rfl fun b _ => ?_) (hs.trans (Finset.sum_congr rfl fun r _ => ?_))
    · rw [show b * 256 + 2 + y0.val + x.val = 2 + y0.val + (b * 256 + x.val) by omega]
    · exact congrArg (· * _) (tailed_lt _ r.val r.isLt y1).symm

end Cert.ConvIdeal.Filter

namespace Cert.ConvRefIdeal.Filter

open Cert.ConvRefIdeal Cert.ConvRefIdeal.Read Idealize.ShloMosaic

/-- The shift array picks the input thirty steps back from time plus tap. -/
theorem shift_ref (j : Fin 31) (t s : Fin 2048) :
    val_main_v9 (F := Ideal) (ix3 j t s) = if s.val + 30 = t.val + j.val then (1 : EReal) else 0 := by
  have hz : Ideal.ofBits .f32 0#32 = 0 := by simp [Ideal.ofBits, Ideal.ieee]
  have ho : Ideal.ofBits .f32 1065353216#32 = 1 := by
    rw [show (1 : EReal) = ((1 : ℝ) : EReal) by norm_num]
    simp [Ideal.ofBits, Ideal.ieee, -EReal.coe_mul]; norm_num
  have e : (BitVec.ofNat 32 s.val + 30#32 = BitVec.ofNat 32 t.val + BitVec.ofNat 32 j.val) ↔ s.val + 30 = t.val + j.val := by
    have := s.isLt; have := t.isLt; have := j.isLt
    rw [← BitVec.toNat_inj]
    simp only [BitVec.toNat_add, BitVec.toNat_ofNat]
    omega
  rw [val_main_v9_apply]
  simp only [val_main_v8_apply, val_main_v6_apply, val_main_v7_apply, val_main_v2_apply, val_main_v3_apply, val_main_v4_apply, val_main_v5_apply, val_main_c_apply, val_main_call0_v0_apply, val_main_call0_v1_apply, val_main_cst_0_apply, val_main_cst_1_apply]
  show Scalar.select (IntOp.cmpi CmpIPredicate.eq (BitVec.ofNat 32 s.val + 30#32) (BitVec.ofNat 32 t.val + BitVec.ofNat 32 j.val)) (Ideal.ofBits .f32 1065353216#32) (Ideal.ofBits .f32 0#32) = _
  rw [hz, ho]
  unfold Scalar.select IntOp.cmpi
  by_cases h : s.val + 30 = t.val + j.val
  · simp [h, e.2 h]
  · have hb : (BitVec.ofNat 32 s.val + 30#32 == BitVec.ofNat 32 t.val + BitVec.ofNat 32 j.val) = false := beq_eq_false_iff_ne.2 (mt e.1 h)
    simp [h, hb]

/-- A sum against a condition that one index meets, or none. -/
theorem sum_pick (f : Fin 2048 → EReal) (p : Fin 2048 → Prop) [DecidablePred p] (a : Fin 2048) (h : ∀ k, p k ↔ k = a) :
    (∑ k, f k * if p k then (1 : EReal) else 0) = f a := by
  rw [Finset.sum_eq_single a (fun b _ hb => by rw [if_neg (fun hp => hb ((h b).1 hp)), mul_zero]) (fun ha => absurd (Finset.mem_univ a) ha), if_pos ((h a).2 rfl), mul_one]

theorem sum_none (f : Fin 2048 → EReal) (p : Fin 2048 → Prop) [DecidablePred p] (h : ∀ k, ¬ p k) :
    (∑ k, f k * if p k then (1 : EReal) else 0) = 0 :=
  Finset.sum_eq_zero fun k _ => by rw [if_neg (h k), mul_zero]

theorem du_ref (x1 : ConvSpec.Taps) (x2 : ConvSpec.Seq) (s d : Fin 2048) :
    val_main_v30 (F := Ideal) x1 x2 (ix2 s d) = ConvSpec.du x1 x2 s d := by
  rw [val_main_v30_apply]
  unfold val_main_v29
  pointwise
  unfold ConvSpec.du
  rw [Finset.sum_range]
  refine Finset.sum_congr rfl fun j _ => ?_
  have hr : ∀ t : Fin 2048, val_main_v27 (F := Ideal) x1 x2 (ix3 j t d) = x2 (ix3 0 t d) * x1 (ix2 j d) := by
    intro t
    rw [val_main_v27_apply, val_main_v22_apply, val_main_v26_apply, val_main_v18_apply, val_main_v11_apply]
    exact congrArg₂ (· * ·) (congrArg x2 (by blk_ext)) (congrArg x1 (by blk_ext))
  have hj := j.isLt
  have hs := s.isLt
  have hw : ConvSpec.entry (fun j => x1 (ix2 j d)) j.val = x1 (ix2 j d) := by unfold ConvSpec.entry; rw [dif_pos hj]
  rw [hw]
  refine (Finset.sum_congr rfl fun t _ => congrArg₂ (· * ·) (hr t) (shift_ref j t s)).trans ?_
  unfold ConvSpec.after
  split_ifs with h
  · exact sum_pick (fun t => x2 (ix3 0 t d) * x1 (ix2 j d)) (fun t => s.val + 30 = t.val + j.val) ⟨30 - j.val + s.val, h⟩
      fun k => by rw [Fin.ext_iff]; simp only; omega
  · rw [zero_mul]
    exact sum_none (fun t => x2 (ix3 0 t d) * x1 (ix2 j d)) (fun t => s.val + 30 = t.val + j.val) fun k => by have := k.isLt; omega

/-- The reference's tap `j` of the input at time `t`. -/
theorem taps_ref (x0 : ConvSpec.Seq) (j : Fin 31) (t d : Fin 2048) :
    val_main_v10 (F := Ideal) x0 (ix3 j t d) = ConvSpec.before (fun r => x0 (ix3 0 r d)) (2 + j.val + t.val) := by
  have hj := j.isLt
  have ht := t.isLt
  rw [val_main_v10_apply]
  have hr : ∀ s : Fin 2048, val_main_v9 (F := Ideal) (lidx_main_v10 (ix3 j t d) s) * val_main_v0 (F := Ideal) x0 (ridx_main_v10 (ix3 j t d) s)
      = x0 (ix3 0 s d) * if s.val + 30 = t.val + j.val then (1 : EReal) else 0 := by
    intro s
    rw [show lidx_main_v10 (ix3 j t d) s = ix3 j t s by blk_ext, shift_ref, mul_comm]
    rw [val_main_v0_apply]
    exact congrArg (· * _) (congrArg x0 (by blk_ext))
  refine (Finset.sum_congr rfl fun s _ => hr s).trans ?_
  unfold ConvSpec.before
  split_ifs with h
  · exact sum_pick (fun s => x0 (ix3 0 s d)) (fun s => s.val + 30 = t.val + j.val) ⟨2 + j.val + t.val - 32, by omega⟩
      fun k => by rw [Fin.ext_iff]; simp only; omega
  · exact sum_none (fun s => x0 (ix3 0 s d)) (fun s => s.val + 30 = t.val + j.val) fun k => by have := k.isLt; omega

theorem dw_ref (x0 x2 : ConvSpec.Seq) (j : Fin 32) (d : Fin 2048) :
    val_main_v32 (F := Ideal) x0 x2 (ix2 j d) = ConvSpec.dw x0 x2 j d := by
  have hz : Ideal.ofBits .f32 0#32 = 0 := by simp [Ideal.ofBits, Ideal.ieee]
  have hj := j.isLt
  unfold val_main_v32
  pointwise
  show _ = ConvSpec.dwCol _ _ _
  generalize hG : ConvSpec.dwCol (fun r => x0 (ix3 0 r d)) (fun r => x2 (ix3 0 r d)) j.val = G
  unfold ConvSpec.dwCol at hG
  by_cases h : j.val < 31
  · rw [if_neg (show ¬ j.val = 31 by omega)] at hG
    subst hG
    rw [dif_pos h, val_main_v28_apply, Fin.sum_univ_one, val_main_cst_6_apply, val_main_v25_apply, val_main_v24_apply, val_main_cst_5_apply]
    show Ideal.ofBits .f32 0#32 + (Ideal.ofBits .f32 0#32 + _) = _
    rw [hz, zero_add, zero_add]
    refine Finset.sum_congr rfl fun t _ => ?_
    rw [val_main_v23_apply, val_main_v22_apply, val_main_v18_apply]
    rw [show idx_main_v24 (idx_main_v25 (idx_main_v28 (ix2 ⟨j.val, h⟩ d) 0)) t = ix3 ⟨j.val, h⟩ t d by blk_ext, taps_ref]
    exact (mul_comm _ _).trans (congrArg (· * _) (congrArg x2 (by blk_ext)))
  · have hv : val_main_v31 (F := Ideal) x2 (ix2 0 d) = ∑ r : Fin 2048, x2 (ix3 0 r d) := by
      rw [val_main_v31_apply, val_main_v21_apply, val_main_cst_4_apply, Fin.sum_univ_one, val_main_v20_apply, val_main_v19_apply, val_main_cst_3_apply]
      show Ideal.ofBits .f32 0#32 + (Ideal.ofBits .f32 0#32 + _) = _
      rw [hz, zero_add, zero_add]
      refine Finset.sum_congr rfl fun r _ => ?_
      rw [val_main_v18_apply]
      exact congrArg x2 (by blk_ext)
    rw [if_pos (show j.val = 31 by omega)] at hG
    subst hG
    rw [dif_neg h]
    refine Eq.trans ?_ hv
    exact congrArg (val_main_v31 (F := Ideal) x2) (by blk_ext)

end Cert.ConvRefIdeal.Filter
-- ==== Proof.ConvClaims.lean ====
/- The five claims about the convolution's backward call. -/
module

public import proofs.«01_k».proof.Proof.ConvValue
public import proofs.«01_k».proof.Proof.Gen.Conv.Frame

@[expose] public section

set_option maxRecDepth 16384

noncomputable section

open Idealize.ShloMosaic Idealize.SL.Sem

namespace Cert.Proof.ConvClaims

/-- The kernel as printed, idealized, and the reference: each ends, its arguments unchanged, its counters at zero. -/
theorem frame_p : quiescent_Conv := fun m ρ _ => Conv.Gen.frame m ρ
theorem frame_pi : quiescent_ConvIdeal := fun m ρ _ => ConvIdeal.Gen.frame m ρ
theorem frame_ri : quiescent_ConvRefIdeal := fun m ρ _ =>
  (θ_run ConvRefIdeal.defs _ _).mono (fun r h => ⟨fun c => (h c).2.2, sem_eq_zero_of_no_sems (by decide) r.2⟩)
    (ConvRefIdeal.Value.run (F := Ideal) m ρ)

/-- The idealized kernel's two results are the reference's: the gradient in the input, and those in the taps and the bias. -/
theorem algebraic : algebraic_ConvIdeal_ConvRefIdeal := by
  intro m ρ m' ρ' _ hagree
  refine ⟨_, _, ConvIdeal.Value.run_blocks (F := Ideal) m ρ, ?_⟩
  refine (θ_run ConvRefIdeal.defs _ _).mono (fun _ h c => ⟨(h c).1.trans ?_, (h c).2.1.trans ?_, (h c).2.2⟩)
    (ConvRefIdeal.Value.run (F := Ideal) m' ρ')
  · rw [ConvRefIdeal.Read.val_main_v30_eq, (hagree c).2.1, (hagree c).2.2]
    refine Eq.trans (funext fun i => ?_) (ConvIdeal.Filter.du_final m c).symm
    idx_vars i
    exact ConvRefIdeal.Filter.du_ref _ _ _ _
  · rw [ConvRefIdeal.Read.val_main_v32_eq, (hagree c).1, (hagree c).2.2]
    refine Eq.trans (funext fun i => ?_) (ConvIdeal.Filter.dw_final m c).symm
    idx_vars i
    exact ConvRefIdeal.Filter.dw_ref _ _ _ _

end Cert.Proof.ConvClaims
-- ==== Proof.AttnVec.lean ====
module
public import proofs.«01_k».proof.Defs
public import proofs.«01_k».proof.Proof.Gen.AttnIdeal.Value
public import Idealize.ShloMosaic.Lib.Pipeline.ValueKit
public import Idealize.ShloMosaic.Lib.MatmulPlain
@[expose] public section
set_option maxRecDepth 16384
noncomputable section
namespace Cert.AttnIdeal.Vec
open Cert.AttnIdeal Cert.AttnIdeal.Gen Idealize.ShloMosaic Idealize.ShloMosaic.TcCoe Idealize.SL.Sem

/-- The shape of an `a × b` matrix. -/
abbrev Mat (a b : ℕ) : Shape := ⟨2, ![a, b]⟩

/-- An `a × b` matrix of idealized floats. -/
abbrev Arr (a b : ℕ) (φ : FTy) := FVec Ideal (Mat a b) φ

/-- An index of a matrix is its two coordinates. -/
theorem idx_eq {a b : ℕ} (f : (Mat a b).Idx) (i : Fin a) (k : Fin b) (h0 : (f 0).val = i.val) (h1 : (f 1).val = k.val) :
    f = ix2 i k := by
  funext x
  apply Fin.ext
  match x with
  | ⟨0, _⟩ => exact h0
  | ⟨1, _⟩ => exact h1

/-! ## Products -/

/-- The product of a `K × M` matrix, transposed, and a `K × N` matrix. -/
def flipped (K M N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

/-- Rows against rows. -/
def dotNT {M K N : ℕ} (x : Arr M K .bf16) (y : Arr N K .bf16) : Arr M N .f32 :=
  matmul (DotDims.transposedRhs M K N) none x y (constant (F := Ideal) (Mat M N) .f32 0x00000000#32)

/-- Rows against columns. -/
def dotNN {M K N : ℕ} (x : Arr M K .bf16) (y : Arr K N .bf16) : Arr M N .f32 :=
  matmul (DotDims.plain M K N) none x y (constant (F := Ideal) (Mat M N) .f32 0x00000000#32)

/-- Columns against columns. -/
def dotTN {M K N : ℕ} (x : Arr K M .bf16) (y : Arr K N .bf16) : Arr M N .f32 :=
  matmul (flipped K M N) none x y (constant (F := Ideal) (Mat M N) .f32 0x00000000#32)

theorem dotNT_at {M K N : ℕ} (x : Arr M K .bf16) (y : Arr N K .bf16) (i : Fin M) (k : Fin N) :
    dotNT x y (ix2 i k) = ∑ d : Fin K, x (ix2 i d) * y (ix2 k d) := by
  refine (Ideal.matmul_transposedRhs_apply none x y _ i k).trans ?_
  exact (congrArg₂ (· + ·) Ideal.ofBits_zero_f32 rfl).trans (zero_add _)

theorem dotNN_at {M K N : ℕ} (x : Arr M K .bf16) (y : Arr K N .bf16) (i : Fin M) (k : Fin N) :
    dotNN x y (ix2 i k) = ∑ d : Fin K, x (ix2 i d) * y (ix2 d k) := by
  refine (Ideal.matmul_plain_apply none x y _ i k).trans ?_
  exact (congrArg₂ (· + ·) Ideal.ofBits_zero_f32 rfl).trans (zero_add _)

theorem dotTN_at {M K N : ℕ} (x : Arr K M .bf16) (y : Arr K N .bf16) (i : Fin M) (k : Fin N) :
    dotTN x y (ix2 i k) = ∑ d : Fin K, x (ix2 d i) * y (ix2 d k) := by
  refine (Ideal.matmul_apply (flipped K M N) none x y _ (ix2 i k)).trans ?_
  refine (congrArg₂ (· + ·) Ideal.ofBits_zero_f32 rfl).trans ((zero_add _).trans ?_)
  rw [← Equiv.sum_comp (ValueIdx.contrEquiv1 (flipped K M N) K rfl rfl).symm]
  refine Finset.sum_congr rfl fun d _ => ?_
  have hk := ValueIdx.contrEquiv1_symm_val (flipped K M N) K rfl rfl d
  exact congrArg₂ (· * ·) (congrArg x (idx_eq _ d i hk rfl)) (congrArg y (idx_eq _ d k hk rfl))

/-! ## Layout -/

section layout
variable {r : ℕ} {φ : FTy}

/-- What the operations on a block of `r` rows ask of its shapes. -/
class Rows (r : ℕ) : Prop where
  same256 : (Mat r 256).ShapeCasts (Mat r 256)
  same128 : (Mat r 128).ShapeCasts (Mat r 128)
  left : (Mat r 256).Slices ![0, 0] (Mat r 128)
  right : (Mat r 256).Slices ![0, 128] (Mat r 128)
  join : Shape.Concatenates [Mat r 128, Mat r 128] (Mat r 256) 1
  lane : (Mat r 128).Iotas .tc 32 [1]
  turn : (Mat r 128).Rotates 1 none
variable [hr : Rows r]

/-- The lanes `0 … 127`. -/
def lo (x : Arr r 256 φ) : Arr r 128 φ := extractStridedSlice (Mat r 128) ![0, 0] x Rows.left

/-- The lanes `128 … 255`. -/
def hi (x : Arr r 256 φ) : Arr r 128 φ := extractStridedSlice (Mat r 128) ![0, 128] x Rows.right

/-- Two halves side by side. -/
def join (x y : Arr r 128 φ) : Arr r 256 φ := concatenate (Mat r 256) 1 [⟨Mat r 128, x⟩, ⟨Mat r 128, y⟩] Rows.join

/-- A block as it was loaded. -/
def as256 (x : Arr r 256 φ) : Arr r 256 φ := shapeCast (Mat r 256) x Rows.same256

/-- A block as it was loaded. -/
def as128 (x : Arr r 128 φ) : Arr r 128 φ := shapeCast (Mat r 128) x Rows.same128

/-- The two half-rows of 64 lanes change places. -/
def turn (x : Arr r 128 φ) : Arr r 128 φ := dynamicRotate 1 64#32 none x Rows.turn

/-- One in the first 64 lanes, zero in the others. -/
def laneMask (r : ℕ) [Rows r] : Arr r 128 .bf16 :=
  truncf .bf16 (sitofp (F := Ideal) .f32 (extui 32 (cmpi .slt (iota .tc (Mat r 128) 32 [1] Rows.lane) (broadcast (Mat r 128) 64#32)) natLt_1_32)) bitsLt_bf16_f32

theorem lo_at (x : Arr r 256 φ) (i : Fin r) (q : Fin 128) : lo x (ix2 i q) = x (ix2 i ⟨q.val, by omega⟩) := by
  unfold lo
  pointwise
  exact congrArg x (idx_eq _ _ _ (Nat.zero_add _) (Nat.zero_add _))

theorem hi_at (x : Arr r 256 φ) (i : Fin r) (q : Fin 128) : hi x (ix2 i q) = x (ix2 i ⟨128 + q.val, by omega⟩) := by
  unfold hi
  pointwise
  exact congrArg x (idx_eq _ _ _ (Nat.zero_add _) rfl)

theorem join_at (x y : Arr r 128 φ) (i : Fin r) (q : Fin 256) :
    join x y (ix2 i q) = if h : q.val < 128 then x (ix2 i ⟨q.val, h⟩) else y (ix2 i ⟨q.val - 128, by omega⟩) := by
  unfold join
  pointwise
  split
  · exact congrArg x (idx_eq _ _ _ rfl rfl)
  · exact congrArg y (idx_eq _ _ _ rfl rfl)

theorem as256_at (x : Arr r 256 φ) (j : (Mat r 256).Idx) : as256 x j = x j := by unfold as256; pointwise

theorem as128_at (x : Arr r 128 φ) (j : (Mat r 128).Idx) : as128 x j = x j := by unfold as128; pointwise

theorem turn_at (x : Arr r 128 φ) (i : Fin r) (q : Fin 128) : turn x (ix2 i q) = x (ix2 i ⟨(q.val + 64) % 128, by omega⟩) := by
  unfold turn
  pointwise
  refine congrArg x (idx_eq _ _ _ rfl ?_)
  show (q.val + 128 - 64 % 128) % 128 = (q.val + 64) % 128
  omega

omit hr in
/-- A comparison's bit read as a float. -/
theorem flag_at (b : Bool) : (FloatOps.sitofp .f32 (BitVec.setWidth 32 (BitVec.ofBool b)) : Ideal .f32) = if b then (1 : EReal) else 0 := by
  cases b
  · show (((BitVec.setWidth 32 (BitVec.ofBool false)).toInt : ℝ) : EReal) = 0
    simp
  · show (((BitVec.setWidth 32 (BitVec.ofBool true)).toInt : ℝ) : EReal) = 1
    simp

theorem laneMask_at (i : Fin r) (q : Fin 128) : laneMask r (ix2 i q) = if q.val < 64 then (1 : EReal) else 0 := by
  unfold laneMask
  pointwise
  have h : IntOp.cmpi CmpIPredicate.slt (BitVec.ofNat 32 q.val) 64#32 = BitVec.ofBool (decide (q.val < 64)) := by
    revert q; decide
  rw [h, flag_at]
  simp only [decide_eq_true_eq]
end layout

/-! ## One row block of one head, up to the mask -/

section head
variable {L : ℕ}

/-- What the row operations ask of the shapes. -/
class Keys (L : ℕ) : Prop where
  red : (Mat 256 L).Reduces [1] S256
  wide : S256x1.Broadcasts (Mat 256 L)
variable [hk : Keys L]

/-- The causal bits of a square block. -/
def causal : IVec S256x256 1 :=
  cmpi .sle (iota .tc S256x256 32 [1] iota_S256x256_d1_w32) (iota .tc S256x256 32 [0] iota_S256x256_d0_w32)

/-- A vector as a column. -/
def col (v : FVec Ideal S256 .f32) : FVec Ideal S256x1 .f32 := shapeCast S256x1 v shapeCasts_S256_S256x1

/-- A column over all keys. -/
def wide (v : FVec Ideal S256x1 .f32) : Arr 256 L .f32 := broadcastTo (Mat 256 L) v Keys.wide

/-- The sums of the rows. -/
def sumRow (s : Arr 256 L .f32) : FVec Ideal S256 .f32 := multiReduction .add [1] S256 s 0x00000000#32 Keys.red (.inl rfl) rfl

/-- The greatest score of each row. -/
def top (s : Arr 256 L .f32) : FVec Ideal S256 .f32 := multiReduction .maximumf [1] S256 s 0xFF800000#32 Keys.red (.inl rfl) rfl

/-- The scaled products of the queries and the keys. -/
def scores (q : Arr 256 256 .bf16) (k : Arr L 256 .bf16) : Arr 256 L .f32 :=
  mulf (dotNT q k) (broadcast (Mat 256 L) (Scalar.ofBits (F := Ideal) .f32 0x3D93CD3A#32))

/-- Where the scores reach their greatest. -/
def atTop (s : Arr 256 L .f32) : Arr 256 L .f32 := sitofp .f32 (extui 32 (cmpf .oeq s (wide (col (top s)))) natLt_1_32)

/-- The exponentials. -/
def exps (s : Arr 256 L .f32) : Arr 256 L .f32 := exp (subf s (wide (col (top s))))

/-- Their sums. -/
def total (s : Arr 256 L .f32) : FVec Ideal S256x1 .f32 := col (sumRow (exps s))

/-- One over their sums. -/
def inv (s : Arr 256 L .f32) : FVec Ideal S256x1 .f32 := divf (broadcast S256x1 (Scalar.ofBits (F := Ideal) .f32 0x3F800000#32)) (total s)

/-- One over the squares of their sums. -/
def inv2 (s : Arr 256 L .f32) : FVec Ideal S256x1 .f32 :=
  divf (broadcast S256x1 (Scalar.ofBits (F := Ideal) .f32 0x3F800000#32)) (mulf (total s) (total s))

/-- The weights. -/
def weights (s : Arr 256 L .f32) : Arr 256 L .f32 := mulf (exps s) (wide (inv s))

/-- The gradient in the sums of the exponentials. -/
def dTotal (s dp : Arr 256 L .f32) : FVec Ideal S256x1 .f32 :=
  col (multiReduction .add [1] S256 (subf (broadcast S256x1 (Scalar.ofBits (F := Ideal) .f32 0x00000000#32))
    (mulf (mulf (col (sumRow (mulf (exps s) dp))) (inv2 s)) (broadcast S256x1 (Scalar.ofBits (F := Ideal) .f32 0x3F800000#32))))
    0x00000000#32 reduces_S256x1_S256 (.inl rfl) rfl)

/-- The gradient in the scores but for the greatest one's part. -/
def dExp (s dp : Arr 256 L .f32) : Arr 256 L .f32 := mulf (addf (mulf dp (wide (inv s))) (wide (dTotal s dp))) (exps s)

/-- The greatest score's part, shared out. -/
def dTop (s dp : Arr 256 L .f32) : FVec Ideal S256 .f32 :=
  divf (multiReduction .add [1] S256 (col (sumRow (subf (broadcast (Mat 256 L) (Scalar.ofBits (F := Ideal) .f32 0x00000000#32)) (dExp s dp))))
    0x00000000#32 reduces_S256x1_S256 (.inl rfl) rfl) (sumRow (atTop s))

/-- The gradient in the masked scores. -/
def dScores (s dp : Arr 256 L .f32) : Arr 256 L .f32 := addf (dExp s dp) (mulf (wide (col (dTop s dp))) (atTop s))

theorem causal_at {φ : FTy} (x y : Arr 256 256 φ) (i k : Fin 256) :
    select causal x y (ix2 i k) = if k.val ≤ i.val then x (ix2 i k) else y (ix2 i k) := by
  unfold causal
  pointwise
  rw [WordCmp.cmpi_sle_ofNat (by omega) (by omega)]
  by_cases h : k.val ≤ i.val
  · rw [if_pos h, decide_eq_true h]
    rfl
  · rw [if_neg h, decide_eq_false h]
    rfl

theorem wide_at (v : FVec Ideal S256x1 .f32) (i : Fin 256) (k : Fin L) : wide v (ix2 i k) = v (ix2 i (0 : Fin 1)) := by
  unfold wide
  pointwise

theorem col_at (v : FVec Ideal S256 .f32) (i : Fin 256) (o : Fin 1) : col v (ix2 i o) = v (ix1 i) := by
  unfold col
  pointwise

theorem sumRow_at (s : Arr 256 L .f32) (i : Fin 256) : sumRow s (ix1 i) = ∑ k : Fin L, s (ix2 i k) := by
  unfold sumRow
  pointwise

theorem top_at (s : Arr 256 L .f32) (i : Fin 256) : top s (ix1 i) = Finset.univ.fold max (⊥ : EReal) fun k : Fin L => s (ix2 i k) := by
  unfold top
  pointwise
  rw [show Ideal.ofBits FTy.f32 4286578688#32 = (⊥ : EReal) by simp [Ideal.ofBits, Ideal.ieee]]

theorem sumOne_at (s : FVec Ideal S256x1 .f32) (i : Fin 256) :
    multiReduction .add [1] S256 s 0x00000000#32 reduces_S256x1_S256 (.inl rfl) rfl (ix1 i) = s (ix2 i (0 : Fin 1)) := by
  pointwise
  exact Fin.sum_univ_one fun x : Fin 1 => s (ix2 i x)

theorem atTop_at (s : Arr 256 L .f32) (i : Fin 256) (k : Fin L) :
    atTop s (ix2 i k) = if s (ix2 i k) = top s (ix1 i) then (1 : EReal) else 0 := by
  unfold atTop
  pointwise
  rw [flag_at, wide_at, col_at]
  simp only [decide_eq_true_eq]

theorem exps_at (s : Arr 256 L .f32) (i : Fin 256) (k : Fin L) :
    exps s (ix2 i k) = Ideal.exp (s (ix2 i k) - top s (ix1 i)) := by
  unfold exps
  pointwise
  rw [wide_at, col_at]

theorem total_at (s : Arr 256 L .f32) (i : Fin 256) (o : Fin 1) : total s (ix2 i o) = ∑ k : Fin L, exps s (ix2 i k) := by
  unfold total
  rw [col_at, sumRow_at]

theorem inv_at (s : Arr 256 L .f32) (i : Fin 256) (o : Fin 1) : inv s (ix2 i o) = Ideal.div 1 (total s (ix2 i 0)) := by
  obtain rfl : o = 0 := Subsingleton.elim _ _
  unfold inv
  pointwise

theorem inv2_at (s : Arr 256 L .f32) (i : Fin 256) (o : Fin 1) :
    inv2 s (ix2 i o) = Ideal.div 1 (total s (ix2 i 0) * total s (ix2 i 0)) := by
  obtain rfl : o = 0 := Subsingleton.elim _ _
  unfold inv2
  pointwise

theorem weights_at (s : Arr 256 L .f32) (i : Fin 256) (k : Fin L) : weights s (ix2 i k) = exps s (ix2 i k) * inv s (ix2 i 0) := by
  unfold weights
  pointwise
  rw [wide_at]

theorem dTotal_at (s dp : Arr 256 L .f32) (i : Fin 256) (o : Fin 1) :
    dTotal s dp (ix2 i o) = 0 - (∑ k : Fin L, exps s (ix2 i k) * dp (ix2 i k)) * inv2 s (ix2 i 0) := by
  unfold dTotal
  rw [col_at, sumOne_at]
  pointwise
  rw [col_at, sumRow_at]
  rfl

theorem dExp_at (s dp : Arr 256 L .f32) (i : Fin 256) (k : Fin L) :
    dExp s dp (ix2 i k) = (dp (ix2 i k) * inv s (ix2 i 0) + dTotal s dp (ix2 i 0)) * exps s (ix2 i k) := by
  unfold dExp
  pointwise
  rw [wide_at, wide_at]

theorem dTop_at (s dp : Arr 256 L .f32) (i : Fin 256) :
    dTop s dp (ix1 i) = Ideal.div (∑ k : Fin L, (0 - dExp s dp (ix2 i k))) (∑ k : Fin L, atTop s (ix2 i k)) := by
  unfold dTop
  refine (show _ = Ideal.div _ _ from rfl).trans ?_
  rw [sumOne_at, col_at, sumRow_at, sumRow_at]
  pointwise

theorem dScores_at (s dp : Arr 256 L .f32) (i : Fin 256) (k : Fin L) :
    dScores s dp (ix2 i k) = dExp s dp (ix2 i k) + dTop s dp (ix1 i) * atTop s (ix2 i k) := by
  unfold dScores
  pointwise
  rw [wide_at, col_at]

theorem scores_at (q : Arr 256 256 .bf16) (k : Arr L 256 .bf16) (i : Fin 256) (j : Fin L) :
    scores q k (ix2 i j) = (∑ d : Fin 256, q (ix2 i d) * k (ix2 j d)) * Ideal.ofBits .f32 0x3D93CD3A#32 := by
  unfold scores
  pointwise
  rw [dotNT_at]

/-! ## The mask -/

/-- What cutting the scores at key `b` asks of the shapes. -/
class Cut (b L : ℕ) : Prop where
  front : (Mat 256 L).Slices ![0, 0] (Mat 256 b)
  back : (Mat 256 L).Slices ![0, b] (Mat 256 256)
  glue : Shape.Concatenates [Mat 256 b, Mat 256 256] (Mat 256 L) 1
  len : L = b + 256

section mask
variable {b : ℕ} [hc : Cut b L]
omit hk

/-- The keys before the block and the block's own. -/
def glue (x : Arr 256 b .f32) (y : Arr 256 256 .f32) : Arr 256 L .f32 := concatenate (Mat 256 L) 1 [⟨Mat 256 b, x⟩, ⟨Mat 256 256, y⟩] Cut.glue

/-- The keys before the block. -/
def front (x : Arr 256 L .f32) : Arr 256 b .f32 := extractStridedSlice (Mat 256 b) ![0, 0] x Cut.front

/-- The block's own keys. -/
def back (b : ℕ) [Cut b L] (x : Arr 256 L .f32) : Arr 256 256 .f32 := extractStridedSlice (Mat 256 256) ![0, b] x Cut.back

theorem glue_at (x : Arr 256 b .f32) (y : Arr 256 256 .f32) (i : Fin 256) (k : Fin L) :
    glue x y (ix2 i k) = if h : k.val < b then x (ix2 i ⟨k.val, h⟩) else y (ix2 i ⟨k.val - b, by have := hc.len; omega⟩) := by
  unfold glue
  pointwise
  split
  · exact congrArg x (idx_eq _ _ _ rfl rfl)
  · rfl

theorem front_at (x : Arr 256 L .f32) (i : Fin 256) (k : Fin b) :
    front x (ix2 i k) = x (ix2 i ⟨k.val, by have := hc.len; omega⟩) := by
  unfold front
  pointwise
  exact congrArg x (idx_eq _ _ _ (Nat.zero_add _) (Nat.zero_add _))

theorem back_at (x : Arr 256 L .f32) (i : Fin 256) (k : Fin 256) :
    back b x (ix2 i k) = x (ix2 i ⟨b + k.val, by have := hc.len; omega⟩) := by
  unfold back
  pointwise
  exact congrArg x (idx_eq _ _ _ (Nat.zero_add _) rfl)

/-- The scores with the later keys masked. -/
def maskScores (b : ℕ) [Cut b L] (x : Arr 256 L .f32) : Arr 256 L .f32 :=
  glue (front (b := b) x) (select causal (back b x) (broadcast S256x256 (Named.named (F := Ideal) κ "mask" 0xF149F2CA#32)))

/-- The gradient behind the mask. -/
def maskGrad (b : ℕ) [Cut b L] (x : Arr 256 L .f32) : Arr 256 L .f32 :=
  addf (glue (front (b := b) x) (broadcast S256x256 (Scalar.ofBits (F := Ideal) .f32 0x00000000#32)))
    (glue (broadcast (Mat 256 b) (Scalar.ofBits (F := Ideal) .f32 0x00000000#32))
      (select causal (back b x) (broadcast S256x256 (Scalar.ofBits (F := Ideal) .f32 0x00000000#32))))

theorem maskScores_at (x : Arr 256 L .f32) (i : Fin 256) (k : Fin L) :
    maskScores b x (ix2 i k) = if k.val ≤ b + i.val then x (ix2 i k) else (⊥ : EReal) := by
  unfold maskScores
  rw [glue_at]
  split
  · rename_i h
    rw [front_at, if_pos (by omega)]
  · rename_i h
    rw [causal_at, back_at]
    have e : (⟨b + (k.val - b), by have := hc.len; omega⟩ : Fin L) = k := Fin.ext (by dsimp only; omega)
    simp only [e]
    by_cases h2 : k.val ≤ b + i.val
    · rw [if_pos h2, if_pos (by omega)]
    · rw [if_neg h2, if_neg (by omega)]
      rfl

theorem maskGrad_at (x : Arr 256 L .f32) (i : Fin 256) (k : Fin L) :
    maskGrad b x (ix2 i k) = if k.val ≤ b + i.val then x (ix2 i k) else (0 : EReal) := by
  unfold maskGrad
  refine (show _ = (_ : EReal) + _ from rfl).trans ?_
  rw [glue_at, glue_at]
  have z : (Scalar.ofBits (F := Ideal) .f32 0x00000000#32 : EReal) = 0 := Ideal.ofBits_zero_f32
  split
  · rename_i h
    rw [front_at, if_pos (by omega)]
    exact (congrArg₂ (· + ·) rfl z).trans (add_zero _)
  · rename_i h
    rw [causal_at, back_at]
    have e : (⟨b + (k.val - b), by have := hc.len; omega⟩ : Fin L) = k := Fin.ext (by dsimp only; omega)
    simp only [e]
    refine (congrArg₂ (· + ·) z rfl).trans ((zero_add _).trans ?_)
    by_cases h2 : k.val ≤ b + i.val
    · rw [if_pos h2, if_pos (by omega)]
    · rw [if_neg h2, if_neg (by omega)]
      exact z

end mask

end head
end Cert.AttnIdeal.Vec
-- ==== Proof.AttnRow.lean ====
module
public import proofs.«01_k».proof.Proof.AttnVec
@[expose] public section
set_option maxRecDepth 16384
noncomputable section
namespace Cert.AttnSpec
open Idealize.ShloMosaic

/-! ## Attention's weights over the real numbers -/

/-- The weight of key `k` among the keys `0 … n` with scores `σ`; zero for the later keys. -/
def wt (σ : ℕ → ℝ) (n k : ℕ) : ℝ := if k ≤ n then Real.exp (σ k) / ∑ j ∈ Finset.range (n + 1), Real.exp (σ j) else 0

/-- The gradient in the score of key `k` when `δ` is the gradient in the weights. -/
def dsc (σ δ : ℕ → ℝ) (n k : ℕ) : ℝ := wt σ n k * (δ k - ∑ j ∈ Finset.range (n + 1), wt σ n j * δ j)

/-- A finite sum of reals is the same sum in the extended reals. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A sum over all keys whose later terms vanish. -/
theorem sum_upto (g : ℕ → ℝ) {n L : ℕ} (h : n < L) :
    ∑ k : Fin L, (if k.val ≤ n then g k.val else 0) = ∑ j ∈ Finset.range (n + 1), g j := by
  rw [Fin.sum_univ_eq_sum_range (fun j => if j ≤ n then g j else 0) L, ← Finset.sum_filter]
  refine Finset.sum_congr (Finset.ext fun a => ?_) fun _ _ => rfl
  simp only [Finset.mem_filter, Finset.mem_range]
  omega

/-- The sum of the exponentials is positive. -/
theorem total_pos (σ : ℕ → ℝ) (n : ℕ) : 0 < ∑ j ∈ Finset.range (n + 1), Real.exp (σ j) :=
  Finset.sum_pos (fun j _ => Real.exp_pos _) ⟨0, Finset.mem_range.2 (Nat.succ_pos n)⟩

/-- A row of masked scores has a greatest one, a real number, and one that equals it. -/
theorem fold_max_real {L : ℕ} (s : Fin L → EReal) (σ : ℕ → ℝ) {n : ℕ} (hn : n < L)
    (hs : ∀ k, s k = if k.val ≤ n then ((σ k.val : ℝ) : EReal) else ⊥) :
    ∃ M : ℝ, Finset.univ.fold max (⊥ : EReal) s = (M : EReal) ∧ ∃ k, s k = (M : EReal) := by
  have hbot : Finset.univ.fold max (⊥ : EReal) s ≠ ⊥ := by
    intro h
    have h0 : s ⟨0, by omega⟩ ≤ Finset.univ.fold max (⊥ : EReal) s := Finset.le_fold_max _ |>.2 (Or.inr ⟨_, Finset.mem_univ _, le_rfl⟩)
    rw [h, hs, if_pos (Nat.zero_le n)] at h0
    exact absurd (le_bot_iff.1 h0) (EReal.coe_ne_bot _)
  have htop : Finset.univ.fold max (⊥ : EReal) s ≠ ⊤ := by
    refine ne_of_lt ((Finset.fold_max_lt _).2 ⟨bot_lt_top, fun k _ => ?_⟩)
    rw [hs]
    split
    · exact EReal.coe_lt_top _
    · exact bot_lt_top
  refine ⟨(Finset.univ.fold max (⊥ : EReal) s).toReal, (EReal.coe_toReal htop hbot).symm, ?_⟩
  rw [EReal.coe_toReal htop hbot]
  rcases (Finset.le_fold_max (Finset.univ.fold max (⊥ : EReal) s)).1 le_rfl with h | ⟨k, hk, h⟩
  · exact absurd (le_bot_iff.1 h) hbot
  · exact ⟨k, le_antisymm ((Finset.le_fold_max _).2 (Or.inr ⟨k, hk, le_rfl⟩)) h⟩

end Cert.AttnSpec

namespace Cert.AttnIdeal.Vec
open Cert.AttnIdeal Cert.AttnIdeal.Gen Idealize.ShloMosaic Idealize.ShloMosaic.TcCoe Idealize.SL.Sem Cert.AttnSpec

section row
variable {L : ℕ} [hk : Keys L] (s dp : Arr 256 L .f32) (i : Fin 256) (σ δ : ℕ → ℝ) {n : ℕ}

/-- The quantities of one row of masked scores, over the reals. -/
theorem row_parts (hn : n < L) (hs : ∀ k : Fin L, s (ix2 i k) = if k.val ≤ n then ((σ k.val : ℝ) : EReal) else ⊥) :
    ∃ M : ℝ, (∀ k : Fin L, exps s (ix2 i k) = ((if k.val ≤ n then Real.exp (σ k.val - M) else 0 : ℝ) : EReal)) ∧
      total s (ix2 i 0) = ((Real.exp (-M) * ∑ j ∈ Finset.range (n + 1), Real.exp (σ j) : ℝ) : EReal) ∧
      (∃ c : ℝ, c ≠ 0 ∧ ∑ k : Fin L, atTop s (ix2 i k) = (c : EReal)) := by
  obtain ⟨M, hM, k0, hk0⟩ := fold_max_real (fun k : Fin L => s (ix2 i k)) σ hn hs
  have ht : top s (ix1 i) = (M : EReal) := (top_at s i).trans hM
  have he : ∀ k : Fin L, exps s (ix2 i k) = ((if k.val ≤ n then Real.exp (σ k.val - M) else 0 : ℝ) : EReal) := by
    intro k
    rw [exps_at, ht, hs]
    split
    · rw [← EReal.coe_sub, Ideal.exp_coe]
    · rw [EReal.bot_sub, Ideal.exp_bot, EReal.coe_zero]
  refine ⟨M, he, ?_, ?_⟩
  · rw [total_at, Finset.sum_congr rfl fun k _ => he k, coe_sum, sum_upto (fun j => Real.exp (σ j - M)) hn, Finset.mul_sum]
    refine congrArg _ (Finset.sum_congr rfl fun j _ => ?_)
    rw [← Real.exp_add]
    ring_nf
  · refine ⟨∑ k : Fin L, if s (ix2 i k) = (M : EReal) then 1 else 0, ?_, ?_⟩
    · refine ne_of_gt (Finset.sum_pos' (fun k _ => by split <;> norm_num) ⟨k0, Finset.mem_univ _, ?_⟩)
      rw [if_pos hk0]
      exact one_pos
    · rw [← coe_sum]
      refine Finset.sum_congr rfl fun k _ => ?_
      rw [atTop_at, ht]
      split <;> simp

/-- The reciprocal of a real that is not zero. -/
theorem one_div_coe {z : ℝ} (h : z ≠ 0) : Ideal.div 1 (z : EReal) = ((1 / z : ℝ) : EReal) := by
  rw [Ideal.div_coe h, one_mul]

/-- One row of the weights. -/
theorem weights_real (hn : n < L) (hs : ∀ k : Fin L, s (ix2 i k) = if k.val ≤ n then ((σ k.val : ℝ) : EReal) else ⊥) (k : Fin L) :
    weights s (ix2 i k) = ((wt σ n k.val : ℝ) : EReal) := by
  obtain ⟨M, he, hz, -⟩ := row_parts s i σ hn hs
  have hp := total_pos σ n
  have hM := Real.exp_pos (-M)
  rw [weights_at, inv_at, hz, he, one_div_coe (mul_pos hM hp).ne', ← EReal.coe_mul]
  refine congrArg _ ?_
  unfold wt
  split
  · rw [sub_eq_add_neg, Real.exp_add]
    field_simp
  · exact zero_mul _

/-- One row of the gradient in the scores. -/
theorem dScores_real (hn : n < L) (hs : ∀ k : Fin L, s (ix2 i k) = if k.val ≤ n then ((σ k.val : ℝ) : EReal) else ⊥)
    (hd : ∀ k : Fin L, dp (ix2 i k) = ((δ k.val : ℝ) : EReal)) (k : Fin L) :
    dScores s dp (ix2 i k) = ((dsc σ δ n k.val : ℝ) : EReal) := by
  obtain ⟨M, he, hz, c, hc, hcnt⟩ := row_parts s i σ hn hs
  have hp := total_pos σ n
  have hM := Real.exp_pos (-M)
  set Z : ℝ := ∑ j ∈ Finset.range (n + 1), Real.exp (σ j) with hZ
  have hzne : Real.exp (-M) * Z ≠ 0 := (mul_pos hM hp).ne'
  set e : ℕ → ℝ := fun j => Real.exp (σ j - M) with hee
  set D : ℝ := ∑ j ∈ Finset.range (n + 1), e j * δ j with hD
  have hT : dTotal s dp (ix2 i 0) = ((-(D * (1 / (Real.exp (-M) * Z * (Real.exp (-M) * Z)))) : ℝ) : EReal) := by
    rw [dTotal_at, inv2_at, hz, ← EReal.coe_mul, one_div_coe (mul_ne_zero hzne hzne)]
    have : ∑ k : Fin L, exps s (ix2 i k) * dp (ix2 i k) = (D : EReal) := by
      rw [hD, ← sum_upto (fun j => e j * δ j) hn, ← coe_sum]
      refine Finset.sum_congr rfl fun k _ => ?_
      rw [he, hd, ← EReal.coe_mul]
      refine congrArg _ ?_
      split
      · rfl
      · exact zero_mul _
    rw [this, ← EReal.coe_mul, zero_sub, EReal.coe_neg]
  have hE : ∀ k : Fin L, dExp s dp (ix2 i k) = ((if k.val ≤ n then (δ k.val * (1 / (Real.exp (-M) * Z)) +
      -(D * (1 / (Real.exp (-M) * Z * (Real.exp (-M) * Z))))) * e k.val else 0 : ℝ) : EReal) := by
    intro k
    rw [dExp_at, hT, inv_at, hz, one_div_coe hzne, hd, he, ← EReal.coe_mul, ← EReal.coe_add, ← EReal.coe_mul]
    refine congrArg _ ?_
    split
    · rfl
    · exact mul_zero _
  have hsum : ∑ j ∈ Finset.range (n + 1), e j = Real.exp (-M) * Z := by
    rw [hZ, Finset.mul_sum]
    refine Finset.sum_congr rfl fun j _ => ?_
    rw [hee, ← Real.exp_add]
    ring_nf
  have h0 : dTop s dp (ix1 i) = 0 := by
    have : ∑ k : Fin L, (0 - dExp s dp (ix2 i k)) = ((0 : ℝ) : EReal) := by
      have h1 : ∀ k : Fin L, 0 - dExp s dp (ix2 i k) = ((if k.val ≤ n then -((δ k.val * (1 / (Real.exp (-M) * Z)) +
          -(D * (1 / (Real.exp (-M) * Z * (Real.exp (-M) * Z))))) * e k.val) else 0 : ℝ) : EReal) := by
        intro k
        rw [hE, zero_sub, ← EReal.coe_neg]
        refine congrArg _ ?_
        split
        · rfl
        · exact neg_zero
      rw [Finset.sum_congr rfl fun k _ => h1 k, coe_sum, sum_upto (fun j => -((δ j * (1 / (Real.exp (-M) * Z)) +
          -(D * (1 / (Real.exp (-M) * Z * (Real.exp (-M) * Z))))) * e j)) hn]
      refine congrArg _ ?_
      have h2 : ∀ j, -((δ j * (1 / (Real.exp (-M) * Z)) + -(D * (1 / (Real.exp (-M) * Z * (Real.exp (-M) * Z))))) * e j) =
          -(1 / (Real.exp (-M) * Z)) * (e j * δ j) + (D * (1 / (Real.exp (-M) * Z * (Real.exp (-M) * Z)))) * e j := fun j => by ring
      simp only [h2]
      rw [Finset.sum_add_distrib, ← Finset.mul_sum, ← Finset.mul_sum, hsum, ← hD]
      field_simp
      ring
    rw [dTop_at, this, hcnt, Ideal.div_coe hc, EReal.coe_zero, zero_mul]
  rw [dScores_at, h0, zero_mul, add_zero, hE]
  refine congrArg _ ?_
  unfold dsc wt
  split
  · have h3 : ∀ j ∈ Finset.range (n + 1), (if j ≤ n then Real.exp (σ j) / Z else 0) * δ j = (1 / (Real.exp (-M) * Z)) * (e j * δ j) := by
      intro j hj
      rw [if_pos (by have := Finset.mem_range.1 hj; omega), hee]
      dsimp only
      rw [sub_eq_add_neg, Real.exp_add]
      field_simp
    rw [Finset.sum_congr rfl h3, ← Finset.mul_sum, ← hD, hee]
    dsimp only
    rw [sub_eq_add_neg, Real.exp_add]
    field_simp
    ring
  · exact (zero_mul _).symm
end row
end Cert.AttnIdeal.Vec
-- ==== Proof.AttnBlock.lean ====
module
public import proofs.«01_k».proof.Proof.AttnRow
@[expose] public section
set_option maxRecDepth 16384
noncomputable section
namespace Cert.AttnIdeal.Vec
open Cert.AttnIdeal Cert.AttnIdeal.Gen Idealize.ShloMosaic Idealize.ShloMosaic.TcCoe Idealize.SL.Sem Cert.AttnSpec

/-! ## The gradients of one block of queries of a pair of heads, in the kernel's operations -/

/-- How a block of 256 queries from row `b` on masks its scores and their gradient. -/
structure Masking (b L : ℕ) where
  s : Arr 256 L .f32 → Arr 256 L .f32
  g : Arr 256 L .f32 → Arr 256 L .f32
  s_at : ∀ (x : Arr 256 L .f32) (i : Fin 256) (k : Fin L), s x (ix2 i k) = if k.val ≤ b + i.val then x (ix2 i k) else (⊥ : EReal)
  g_at : ∀ (x : Arr 256 L .f32) (i : Fin 256) (k : Fin L), g x (ix2 i k) = if k.val ≤ b + i.val then x (ix2 i k) else (0 : EReal)

/-- The first block has no earlier keys. -/
def firstMask : Masking 0 256 where
  s x := select causal x (broadcast S256x256 (Named.named (F := Ideal) κ "mask" 0xF149F2CA#32))
  g x := select causal x (broadcast S256x256 (Scalar.ofBits (F := Ideal) .f32 0x00000000#32))
  s_at x i k := by
    rw [causal_at, Nat.zero_add]
    rfl
  g_at x i k := by
    rw [causal_at, Nat.zero_add]
    exact congrArg (fun z : EReal => if k.val ≤ i.val then x (ix2 i k) else z) Ideal.ofBits_zero_f32

/-- A later block keeps all earlier keys. -/
def laterMask (b L : ℕ) [Cut b L] : Masking b L where
  s := maskScores b
  g := maskGrad b
  s_at := maskScores_at
  g_at := maskGrad_at

section block
variable {b L : ℕ} [Rows 256] [Rows L] [Keys L]

/-- The zero half. -/
def none128 (r : ℕ) : Arr r 128 .bf16 := broadcast (Mat r 128) (Scalar.ofBits (F := Ideal) .bf16 0x0000#16)

/-- The rotary keys' first 64 lanes. -/
def ropeA (kr : Arr L 128 .bf16) : Arr L 128 .bf16 := mulf (as128 kr) (laneMask L)

/-- The gradient in the scores of one head. -/
def dS (M : Masking b L) (q : Arr 256 256 .bf16) (k : Arr L 256 .bf16) (g : Arr 256 128 .f32) (v : Arr L 128 .bf16) : Arr 256 L .bf16 :=
  truncf .bf16 (mulf (M.g (dScores (M.s (scores q k)) (dotNT (truncf .bf16 g bitsLt_bf16_f32) v)))
    (broadcast (Mat 256 L) (Scalar.ofBits (F := Ideal) .f32 0x3D93CD3A#32))) bitsLt_bf16_f32

/-- One head's gradient in its queries. -/
def dQ (M : Masking b L) (q : Arr 256 256 .bf16) (k : Arr L 256 .bf16) (g : Arr 256 128 .f32) (v : Arr L 128 .bf16) : Arr 256 256 .bf16 :=
  truncf .bf16 (dotNN (dS M q k g v) k) bitsLt_bf16_f32

/-- One head's gradient in its keys. -/
def dK (M : Masking b L) (q : Arr 256 256 .bf16) (k : Arr L 256 .bf16) (g : Arr 256 128 .f32) (v : Arr L 128 .bf16) : Arr L 256 .bf16 :=
  truncf .bf16 (dotTN (dS M q k g v) q) bitsLt_bf16_f32

/-- One head's gradient in its values. -/
def dV (M : Masking b L) (q : Arr 256 256 .bf16) (k : Arr L 256 .bf16) (g : Arr 256 128 .f32) : Arr L 128 .bf16 :=
  truncf .bf16 (dotTN (truncf .bf16 (weights (M.s (scores q k))) bitsLt_bf16_f32) (truncf .bf16 g bitsLt_bf16_f32)) bitsLt_bf16_f32

variable (M : Masking b L) (qn : Arr 256 256 .bf16) (qr : Arr 256 128 .bf16) (kn : Arr L 256 .bf16) (kr : Arr L 128 .bf16)
  (v : Arr L 256 .bf16) (g : Arr 256 256 .bf16)

/-- The first head's queries. -/
def q0 : Arr 256 256 .bf16 := join (lo (as256 qn)) (as128 qr)
/-- The second head's queries. -/
def q1 : Arr 256 256 .bf16 := join (hi (as256 qn)) (as128 qr)
/-- The first head's keys. -/
def k0 : Arr L 256 .bf16 := join (lo (as256 kn)) (ropeA kr)
/-- The second head's keys. -/
def k1 : Arr L 256 .bf16 := join (hi (as256 kn)) (turn (ropeA kr))
/-- The first head's cotangent. -/
def g0 : Arr 256 128 .f32 := lo (extf .f32 (as256 g) bitsLt_bf16_f32)
/-- The second head's cotangent. -/
def g1 : Arr 256 128 .f32 := hi (extf .f32 (as256 g) bitsLt_bf16_f32)
/-- The first head's values. -/
def v0 : Arr L 128 .bf16 := lo (as256 v)
/-- The second head's values. -/
def v1 : Arr L 128 .bf16 := hi (as256 v)

/-- The block of the gradient in the queries. -/
def oQn : Arr 256 256 .bf16 :=
  addf (join (none128 256) (lo (dQ M (q1 qn qr) (k1 kn kr) (g1 g) (v1 v)))) (join (lo (dQ M (q0 qn qr) (k0 kn kr) (g0 g) (v0 v))) (none128 256))

/-- The block of the gradient in the rotary queries. -/
def oQr : Arr 256 128 .f32 :=
  extf .f32 (addf (hi (dQ M (q1 qn qr) (k1 kn kr) (g1 g) (v1 v))) (hi (dQ M (q0 qn qr) (k0 kn kr) (g0 g) (v0 v)))) bitsLt_bf16_f32

/-- The block's part of the gradient in the keys. -/
def oKn : Arr L 256 .bf16 :=
  addf (join (none128 L) (lo (dK M (q1 qn qr) (k1 kn kr) (g1 g) (v1 v)))) (join (lo (dK M (q0 qn qr) (k0 kn kr) (g0 g) (v0 v))) (none128 L))

/-- The block's part of the gradient in the values. -/
def oV : Arr L 256 .bf16 :=
  addf (join (none128 L) (dV M (q1 qn qr) (k1 kn kr) (g1 g))) (join (dV M (q0 qn qr) (k0 kn kr) (g0 g)) (none128 L))

/-- The block's part of the gradient in the rotary keys. -/
def oKr : Arr L 128 .bf16 :=
  mulf (addf (hi (dK M (q0 qn qr) (k0 kn kr) (g0 g) (v0 v))) (turn (hi (dK M (q1 qn qr) (k1 kn kr) (g1 g) (v1 v))))) (laneMask L)

/-! ## Their values over the reals -/

theorem none128_at {r : ℕ} (j : (Mat r 128).Idx) : none128 r j = (0 : EReal) := by
  show Ideal.ofBits .bf16 0x0000#16 = 0
  simp [Ideal.ofBits, Ideal.ieee]

/-- The scale `192 ^ (-1/2)` as the program's float. -/
def scl : ℝ := 9686330 / 134217728

theorem scl_eq : Ideal.ofBits .f32 0x3D93CD3A#32 = ((scl : ℝ) : EReal) := by
  unfold scl
  simp [Ideal.ofBits, Ideal.ieee, -EReal.coe_mul]
  norm_num

/-- The reals of one pair of heads: the queries, the rotary queries, the keys, the rotary keys, the values and the cotangent, by row and lane. -/
structure Pair where
  qn : ℕ → ℕ → ℝ
  qr : ℕ → ℕ → ℝ
  kn : ℕ → ℕ → ℝ
  kr : ℕ → ℕ → ℝ
  v : ℕ → ℕ → ℝ
  g : ℕ → ℕ → ℝ

namespace Pair
variable (P : Pair)

/-- Head `o`'s score of key `k` at row `r`. -/
def sc (o r k : ℕ) : ℝ :=
  ((∑ d ∈ Finset.range 128, P.qn r (128 * o + d) * P.kn k (128 * o + d)) + ∑ d ∈ Finset.range 64, P.qr r (64 * o + d) * P.kr k d) * scl

/-- Head `o`'s gradient in the weight of key `k` at row `r`. -/
def dp (o r k : ℕ) : ℝ := ∑ d ∈ Finset.range 128, P.g r (128 * o + d) * P.v k (128 * o + d)

/-- Head `o`'s weight of key `k` at row `r`. -/
def w (o r k : ℕ) : ℝ := wt (P.sc o r) r k

/-- Head `o`'s gradient in the unscaled score of key `k` at row `r`. -/
def ds (o r k : ℕ) : ℝ := dsc (P.sc o r) (P.dp o r) r k * scl

/-- One lane of the gradient in the rotary keys from row `r`. -/
def dkr (r k x : ℕ) : ℝ := if x < 64 then P.ds 0 r k * P.qr r x + P.ds 1 r k * P.qr r (64 + x) else 0

/-- Head `o`'s queries with the pair's rotary queries behind. -/
def q (o r d : ℕ) : ℝ := if d < 128 then P.qn r (128 * o + d) else P.qr r (d - 128)

/-- Head `o`'s keys with its rotary keys behind, in its own 64 lanes. -/
def k (o j d : ℕ) : ℝ :=
  if d < 128 then P.kn j (128 * o + d) else if 64 * o ≤ d - 128 ∧ d - 128 < 64 * o + 64 then P.kr j (d - 128 - 64 * o) else 0

/-- The products of the rows behind one another are the scores. -/
theorem sum_qk {o : ℕ} (ho : o < 2) (r j : ℕ) :
    ∑ d ∈ Finset.range 256, P.q o r d * P.k o j d =
      (∑ d ∈ Finset.range 128, P.qn r (128 * o + d) * P.kn j (128 * o + d)) + ∑ d ∈ Finset.range 64, P.qr r (64 * o + d) * P.kr j d := by
  rw [show 256 = 128 + 128 from rfl, Finset.sum_range_add]
  refine congrArg₂ (· + ·) (Finset.sum_congr rfl fun d hd => ?_) ?_
  · unfold q k
    rw [if_pos (Finset.mem_range.1 hd), if_pos (Finset.mem_range.1 hd)]
  · have h : ∀ d ∈ Finset.range 128, P.q o r (128 + d) * P.k o j (128 + d) =
        if 64 * o ≤ d ∧ d < 64 * o + 64 then P.qr r d * P.kr j (d - 64 * o) else 0 := by
      intro d _
      unfold q k
      rw [if_neg (by omega), if_neg (by omega), Nat.add_sub_cancel_left]
      split
      · rfl
      · exact mul_zero _
    rw [Finset.sum_congr rfl h, ← Finset.sum_filter]
    refine (Finset.sum_bij (fun d _ => 64 * o + d) (fun d hd => ?_) (fun a _ c _ e => ?_) (fun d hd => ?_) (fun d _ => ?_)).symm
    · have := Finset.mem_range.1 hd
      rw [Finset.mem_filter, Finset.mem_range]
      omega
    · omega
    · rw [Finset.mem_filter, Finset.mem_range] at hd
      exact ⟨d - 64 * o, Finset.mem_range.2 (by omega), by omega⟩
    · rw [Nat.add_sub_cancel_left]
end Pair

section real
variable (P : Pair)

/-- A sum of products of reals over the lanes. -/
theorem sum_coe {K : ℕ} (a c : Fin K → EReal) (x y : ℕ → ℝ) (ha : ∀ d, a d = ((x d.val : ℝ) : EReal)) (hc : ∀ d, c d = ((y d.val : ℝ) : EReal)) :
    ∑ d, a d * c d = ((∑ d ∈ Finset.range K, x d * y d : ℝ) : EReal) := by
  rw [← Fin.sum_univ_eq_sum_range (fun d => x d * y d), ← coe_sum]
  refine Finset.sum_congr rfl fun d _ => ?_
  rw [ha, hc, EReal.coe_mul]

variable {o : ℕ} (q : Arr 256 256 .bf16) (k : Arr L 256 .bf16) (gh : Arr 256 128 .f32) (vh : Arr L 128 .bf16)

/-- The masked scores of one head. -/
theorem masked_real (ho : o < 2) (hq : ∀ i d, q (ix2 i d) = ((P.q o (b + i.val) d.val : ℝ) : EReal))
    (hk : ∀ j d, k (ix2 j d) = ((P.k o j.val d.val : ℝ) : EReal)) (i : Fin 256) (j : Fin L) :
    M.s (scores q k) (ix2 i j) = if j.val ≤ b + i.val then ((P.sc o (b + i.val) j.val : ℝ) : EReal) else ⊥ := by
  rw [M.s_at, scores_at, sum_coe _ _ (P.q o (b + i.val)) (P.k o j.val) (hq i) (hk j), P.sum_qk ho, scl_eq, ← EReal.coe_mul]
  rfl

/-- The weights of one head. -/
theorem weights_at_real (hL : L = b + 256) (ho : o < 2) (hq : ∀ i d, q (ix2 i d) = ((P.q o (b + i.val) d.val : ℝ) : EReal))
    (hk : ∀ j d, k (ix2 j d) = ((P.k o j.val d.val : ℝ) : EReal)) (i : Fin 256) (j : Fin L) :
    weights (M.s (scores q k)) (ix2 i j) = ((P.w o (b + i.val) j.val : ℝ) : EReal) :=
  weights_real (M.s (scores q k)) i (P.sc o (b + i.val)) (n := b + i.val) (by omega) (masked_real M P q k ho hq hk i) j

/-- The gradient in the scores of one head. -/
theorem dS_real (hL : L = b + 256) (ho : o < 2) (hq : ∀ i d, q (ix2 i d) = ((P.q o (b + i.val) d.val : ℝ) : EReal))
    (hk : ∀ j d, k (ix2 j d) = ((P.k o j.val d.val : ℝ) : EReal))
    (hg : ∀ i (d : Fin 128), gh (ix2 i d) = ((P.g (b + i.val) (128 * o + d.val) : ℝ) : EReal))
    (hv : ∀ j (d : Fin 128), vh (ix2 j d) = ((P.v j.val (128 * o + d.val) : ℝ) : EReal)) (i : Fin 256) (j : Fin L) :
    dS M q k gh vh (ix2 i j) = ((P.ds o (b + i.val) j.val : ℝ) : EReal) := by
  have h1 := dScores_real (M.s (scores q k)) (dotNT (truncf .bf16 gh bitsLt_bf16_f32) vh) i (P.sc o (b + i.val)) (P.dp o (b + i.val))
    (n := b + i.val) (by omega) (masked_real M P q k ho hq hk i) (fun j => by
      rw [dotNT_at]
      exact sum_coe _ _ (fun d => P.g (b + i.val) (128 * o + d)) (fun d => P.v j.val (128 * o + d)) (hg i) (hv j)) j
  refine (show dS M q k gh vh (ix2 i j) = M.g _ (ix2 i j) * Ideal.ofBits .f32 0x3D93CD3A#32 from rfl).trans ?_
  rw [M.g_at, h1, scl_eq]
  unfold Pair.ds
  split
  · rw [EReal.coe_mul]
  · rename_i h
    unfold dsc wt
    rw [if_neg h, zero_mul, zero_mul, zero_mul, EReal.coe_zero]

variable {qn qr kn kr v g}

/-- What the six operands of a block hold. -/
structure Holds : Prop where
  qn : ∀ i (c : Fin 256), qn (ix2 i c) = ((P.qn (b + i.val) c.val : ℝ) : EReal)
  qr : ∀ i (c : Fin 128), qr (ix2 i c) = ((P.qr (b + i.val) c.val : ℝ) : EReal)
  kn : ∀ j (c : Fin 256), kn (ix2 j c) = ((P.kn j.val c.val : ℝ) : EReal)
  kr : ∀ j (c : Fin 128), kr (ix2 j c) = ((P.kr j.val c.val : ℝ) : EReal)
  v : ∀ j (c : Fin 256), v (ix2 j c) = ((P.v j.val c.val : ℝ) : EReal)
  g : ∀ i (c : Fin 256), g (ix2 i c) = ((P.g (b + i.val) c.val : ℝ) : EReal)

variable (H : Holds (b := b) (L := L) P (qn := qn) (qr := qr) (kn := kn) (kr := kr) (v := v) (g := g))
include H

theorem q0_real (i : Fin 256) (d : Fin 256) : q0 qn qr (ix2 i d) = ((P.q 0 (b + i.val) d.val : ℝ) : EReal) := by
  unfold q0 Pair.q
  rw [join_at]
  split
  · rename_i h
    rw [lo_at, as256_at, H.qn, Nat.mul_zero, Nat.zero_add]
  · rename_i h
    rw [as128_at, H.qr]

theorem q1_real (i : Fin 256) (d : Fin 256) : q1 qn qr (ix2 i d) = ((P.q 1 (b + i.val) d.val : ℝ) : EReal) := by
  unfold q1 Pair.q
  rw [join_at]
  split
  · rename_i h
    rw [hi_at, as256_at, H.qn, Nat.mul_one]
  · rename_i h
    rw [as128_at, H.qr]

theorem ropeA_real (j : Fin L) (x : Fin 128) : ropeA kr (ix2 j x) = ((if x.val < 64 then P.kr j.val x.val else 0 : ℝ) : EReal) := by
  refine (show ropeA kr (ix2 j x) = as128 kr (ix2 j x) * laneMask L (ix2 j x) from rfl).trans ?_
  rw [as128_at, laneMask_at, H.kr]
  split
  · rw [mul_one]
  · rw [mul_zero, EReal.coe_zero]

theorem k0_real (j : Fin L) (d : Fin 256) : k0 kn kr (ix2 j d) = ((P.k 0 j.val d.val : ℝ) : EReal) := by
  unfold k0 Pair.k
  rw [join_at]
  split
  · rename_i h
    rw [lo_at, as256_at, H.kn, Nat.mul_zero, Nat.zero_add]
  · rename_i h
    rw [ropeA_real P H, Nat.mul_zero]
    simp only [Nat.zero_le, true_and, Nat.zero_add, Nat.sub_zero]

theorem k1_real (j : Fin L) (d : Fin 256) : k1 kn kr (ix2 j d) = ((P.k 1 j.val d.val : ℝ) : EReal) := by
  unfold k1 Pair.k
  rw [join_at]
  split
  · rename_i h
    rw [hi_at, as256_at, H.kn, Nat.mul_one]
  · rename_i h
    rw [turn_at, ropeA_real P H]
    refine congrArg _ ?_
    dsimp only
    by_cases h2 : 64 ≤ d.val - 128
    · rw [if_pos (by omega), if_pos (by omega)]
      exact congrArg _ (by omega)
    · rw [if_neg (by omega), if_neg (by omega)]

theorem g0_real (i : Fin 256) (d : Fin 128) : g0 g (ix2 i d) = ((P.g (b + i.val) (128 * 0 + d.val) : ℝ) : EReal) := by
  unfold g0
  rw [lo_at, Nat.mul_zero, Nat.zero_add]
  refine (show _ = as256 g (ix2 i _) from rfl).trans ?_
  rw [as256_at, H.g]

theorem g1_real (i : Fin 256) (d : Fin 128) : g1 g (ix2 i d) = ((P.g (b + i.val) (128 * 1 + d.val) : ℝ) : EReal) := by
  unfold g1
  rw [hi_at, Nat.mul_one]
  refine (show _ = as256 g (ix2 i _) from rfl).trans ?_
  rw [as256_at, H.g]

theorem v0_real (j : Fin L) (d : Fin 128) : v0 v (ix2 j d) = ((P.v j.val (128 * 0 + d.val) : ℝ) : EReal) := by
  unfold v0
  rw [lo_at, as256_at, H.v, Nat.mul_zero, Nat.zero_add]

theorem v1_real (j : Fin L) (d : Fin 128) : v1 v (ix2 j d) = ((P.v j.val (128 * 1 + d.val) : ℝ) : EReal) := by
  unfold v1
  rw [hi_at, as256_at, H.v, Nat.mul_one]

variable (hL : L = b + 256)
include hL

theorem dS0_real (i : Fin 256) (j : Fin L) :
    dS M (q0 qn qr) (k0 kn kr) (g0 g) (v0 v) (ix2 i j) = ((P.ds 0 (b + i.val) j.val : ℝ) : EReal) :=
  dS_real M P _ _ _ _ hL (by decide) (q0_real P H) (k0_real P H) (g0_real P H) (v0_real P H) i j

theorem dS1_real (i : Fin 256) (j : Fin L) :
    dS M (q1 qn qr) (k1 kn kr) (g1 g) (v1 v) (ix2 i j) = ((P.ds 1 (b + i.val) j.val : ℝ) : EReal) :=
  dS_real M P _ _ _ _ hL (by decide) (q1_real P H) (k1_real P H) (g1_real P H) (v1_real P H) i j

theorem dQ0_real (i d : Fin 256) : dQ M (q0 qn qr) (k0 kn kr) (g0 g) (v0 v) (ix2 i d) =
    ((∑ j ∈ Finset.range L, P.ds 0 (b + i.val) j * P.k 0 j d.val : ℝ) : EReal) :=
  (dotNN_at _ _ i d).trans (sum_coe _ _ (P.ds 0 (b + i.val)) (fun j => P.k 0 j d.val) (dS0_real M P H hL i) (k0_real P H · d))

theorem dQ1_real (i d : Fin 256) : dQ M (q1 qn qr) (k1 kn kr) (g1 g) (v1 v) (ix2 i d) =
    ((∑ j ∈ Finset.range L, P.ds 1 (b + i.val) j * P.k 1 j d.val : ℝ) : EReal) :=
  (dotNN_at _ _ i d).trans (sum_coe _ _ (P.ds 1 (b + i.val)) (fun j => P.k 1 j d.val) (dS1_real M P H hL i) (k1_real P H · d))

theorem dK0_real (j : Fin L) (d : Fin 256) : dK M (q0 qn qr) (k0 kn kr) (g0 g) (v0 v) (ix2 j d) =
    ((∑ i ∈ Finset.range 256, P.ds 0 (b + i) j.val * P.q 0 (b + i) d.val : ℝ) : EReal) :=
  (dotTN_at _ _ j d).trans (sum_coe _ _ (fun i => P.ds 0 (b + i) j.val) (fun i => P.q 0 (b + i) d.val) (dS0_real M P H hL · j) (q0_real P H · d))

theorem dK1_real (j : Fin L) (d : Fin 256) : dK M (q1 qn qr) (k1 kn kr) (g1 g) (v1 v) (ix2 j d) =
    ((∑ i ∈ Finset.range 256, P.ds 1 (b + i) j.val * P.q 1 (b + i) d.val : ℝ) : EReal) :=
  (dotTN_at _ _ j d).trans (sum_coe _ _ (fun i => P.ds 1 (b + i) j.val) (fun i => P.q 1 (b + i) d.val) (dS1_real M P H hL · j) (q1_real P H · d))

theorem dV0_real (j : Fin L) (d : Fin 128) : dV M (q0 qn qr) (k0 kn kr) (g0 g) (ix2 j d) =
    ((∑ i ∈ Finset.range 256, P.w 0 (b + i) j.val * P.g (b + i) (128 * 0 + d.val) : ℝ) : EReal) :=
  (dotTN_at _ _ j d).trans (sum_coe _ _ (fun i => P.w 0 (b + i) j.val) (fun i => P.g (b + i) (128 * 0 + d.val))
    (weights_at_real M P _ _ hL (by decide) (q0_real P H) (k0_real P H) · j) (g0_real P H · d))

theorem dV1_real (j : Fin L) (d : Fin 128) : dV M (q1 qn qr) (k1 kn kr) (g1 g) (ix2 j d) =
    ((∑ i ∈ Finset.range 256, P.w 1 (b + i) j.val * P.g (b + i) (128 * 1 + d.val) : ℝ) : EReal) :=
  (dotTN_at _ _ j d).trans (sum_coe _ _ (fun i => P.w 1 (b + i) j.val) (fun i => P.g (b + i) (128 * 1 + d.val))
    (weights_at_real M P _ _ hL (by decide) (q1_real P H) (k1_real P H) · j) (g1_real P H · d))

/-- The block of the gradient in the queries. -/
theorem oQn_real (i c : Fin 256) : oQn M qn qr kn kr v g (ix2 i c) =
    ((∑ j ∈ Finset.range L, P.ds (c.val / 128) (b + i.val) j * P.kn j c.val : ℝ) : EReal) := by
  refine (show _ = (_ : EReal) + _ from rfl).trans ?_
  rw [join_at, join_at]
  split
  · rename_i h
    rw [none128_at, zero_add, lo_at, dQ0_real M P H hL, Nat.div_eq_of_lt h]
    refine congrArg _ (Finset.sum_congr rfl fun j _ => ?_)
    unfold Pair.k
    rw [if_pos h, Nat.mul_zero, Nat.zero_add]
  · rename_i h
    rw [none128_at, add_zero, lo_at, dQ1_real M P H hL, show c.val / 128 = 1 by omega]
    refine congrArg _ (Finset.sum_congr rfl fun j _ => ?_)
    unfold Pair.k
    dsimp only
    rw [if_pos (by omega), Nat.mul_one, show 128 + (c.val - 128) = c.val by omega]

/-- The block of the gradient in the rotary queries. -/
theorem oQr_real (i : Fin 256) (x : Fin 128) : oQr M qn qr kn kr v g (ix2 i x) =
    ((∑ j ∈ Finset.range L, P.ds (x.val / 64) (b + i.val) j * P.kr j (x.val % 64) : ℝ) : EReal) := by
  refine (show _ = (_ : EReal) + _ from rfl).trans ?_
  rw [hi_at, hi_at, dQ0_real M P H hL, dQ1_real M P H hL, ← EReal.coe_add, ← Finset.sum_add_distrib]
  refine congrArg _ (Finset.sum_congr rfl fun j _ => ?_)
  unfold Pair.k
  dsimp only
  rw [if_neg (show ¬128 + x.val < 128 by omega), if_neg (show ¬128 + x.val < 128 by omega), Nat.add_sub_cancel_left]
  by_cases h : x.val < 64
  · rw [if_neg (by omega), if_pos (by omega), mul_zero, zero_add, Nat.div_eq_of_lt h, Nat.mod_eq_of_lt h, Nat.mul_zero, Nat.sub_zero]
  · rw [if_pos (by omega), if_neg (by omega), mul_zero, add_zero, show x.val / 64 = 1 by omega, show x.val - 64 * 1 = x.val % 64 by omega]

/-- The block's part of the gradient in the keys. -/
theorem oKn_real (j : Fin L) (c : Fin 256) : oKn M qn qr kn kr v g (ix2 j c) =
    ((∑ i ∈ Finset.range 256, P.ds (c.val / 128) (b + i) j.val * P.qn (b + i) c.val : ℝ) : EReal) := by
  refine (show _ = (_ : EReal) + _ from rfl).trans ?_
  rw [join_at, join_at]
  split
  · rename_i h
    rw [none128_at, zero_add, lo_at, dK0_real M P H hL, Nat.div_eq_of_lt h]
    refine congrArg _ (Finset.sum_congr rfl fun i _ => ?_)
    unfold Pair.q
    rw [if_pos h, Nat.mul_zero, Nat.zero_add]
  · rename_i h
    rw [none128_at, add_zero, lo_at, dK1_real M P H hL, show c.val / 128 = 1 by omega]
    refine congrArg _ (Finset.sum_congr rfl fun i _ => ?_)
    unfold Pair.q
    dsimp only
    rw [if_pos (by omega), Nat.mul_one, show 128 + (c.val - 128) = c.val by omega]

/-- The block's part of the gradient in the values. -/
theorem oV_real (j : Fin L) (c : Fin 256) : oV M qn qr kn kr g (ix2 j c) =
    ((∑ i ∈ Finset.range 256, P.w (c.val / 128) (b + i) j.val * P.g (b + i) c.val : ℝ) : EReal) := by
  refine (show _ = (_ : EReal) + _ from rfl).trans ?_
  rw [join_at, join_at]
  split
  · rename_i h
    rw [none128_at, zero_add, dV0_real M P H hL, Nat.div_eq_of_lt h]
    simp only [Nat.mul_zero, Nat.zero_add]
  · rename_i h
    rw [none128_at, add_zero, dV1_real M P H hL, show c.val / 128 = 1 by omega]
    dsimp only
    rw [Nat.mul_one, show 128 + (c.val - 128) = c.val by omega]

/-- The block's part of the gradient in the rotary keys. -/
theorem oKr_real (j : Fin L) (x : Fin 128) : oKr M qn qr kn kr v g (ix2 j x) =
    ((∑ i ∈ Finset.range 256, P.dkr (b + i) j.val x.val : ℝ) : EReal) := by
  refine (show _ = ((_ : EReal) + _) * laneMask L (ix2 j x) from rfl).trans ?_
  rw [hi_at, turn_at, hi_at, dK0_real M P H hL, dK1_real M P H hL, laneMask_at, ← EReal.coe_add, ← Finset.sum_add_distrib]
  unfold Pair.dkr
  split
  · rename_i h
    rw [mul_one]
    refine congrArg _ (Finset.sum_congr rfl fun i _ => ?_)
    unfold Pair.q
    dsimp only
    rw [if_neg (by omega), if_neg (by omega), Nat.add_sub_cancel_left, Nat.add_sub_cancel_left,
      show (x.val + 64) % 128 = 64 + x.val by omega]
  · rw [mul_zero, Finset.sum_const_zero, EReal.coe_zero]

end real
end block

instance : Rows 256 := ⟨shapeCasts_S256x256_S256x256, shapeCasts_S256x128_S256x128, slices_S256x256_o0_0_S256x128,
  slices_S256x256_o0_128_S256x128, concatenates_S256x128_S256x128_S256x256_d1, iota_S256x128_d1_w32, rotates_S256x128_d1⟩
instance : Keys 256 := ⟨reduces_S256x256_S256, broadcasts_S256x1_S256x256⟩
instance : Rows 512 := ⟨shapeCasts_S512x256_S512x256, shapeCasts_S512x128_S512x128, slices_S512x256_o0_0_S512x128,
  slices_S512x256_o0_128_S512x128, concatenates_S512x128_S512x128_S512x256_d1, iota_S512x128_d1_w32, rotates_S512x128_d1⟩
instance : Keys 512 := ⟨reduces_S256x512_S256, broadcasts_S256x1_S256x512⟩
instance : Cut 256 512 := ⟨slices_S256x512_o0_0_S256x256, slices_S256x512_o0_256_S256x256, concatenates_S256x256_S256x256_S256x512_d1, rfl⟩
instance : Rows 768 := ⟨shapeCasts_S768x256_S768x256, shapeCasts_S768x128_S768x128, slices_S768x256_o0_0_S768x128,
  slices_S768x256_o0_128_S768x128, concatenates_S768x128_S768x128_S768x256_d1, iota_S768x128_d1_w32, rotates_S768x128_d1⟩
instance : Keys 768 := ⟨reduces_S256x768_S256, broadcasts_S256x1_S256x768⟩
instance : Cut 512 768 := ⟨slices_S256x768_o0_0_S256x512, slices_S256x768_o0_512_S256x256, concatenates_S256x512_S256x256_S256x768_d1, rfl⟩
instance : Rows 1024 := ⟨shapeCasts_S1024x256_S1024x256, shapeCasts_S1024x128_S1024x128, slices_S1024x256_o0_0_S1024x128,
  slices_S1024x256_o0_128_S1024x128, concatenates_S1024x128_S1024x128_S1024x256_d1, iota_S1024x128_d1_w32, rotates_S1024x128_d1⟩
instance : Keys 1024 := ⟨reduces_S256x1024_S256, broadcasts_S256x1_S256x1024⟩
instance : Cut 768 1024 := ⟨slices_S256x1024_o0_0_S256x768, slices_S256x1024_o0_768_S256x256, concatenates_S256x768_S256x256_S256x1024_d1, rfl⟩
instance : Rows 1280 := ⟨shapeCasts_S1280x256_S1280x256, shapeCasts_S1280x128_S1280x128, slices_S1280x256_o0_0_S1280x128,
  slices_S1280x256_o0_128_S1280x128, concatenates_S1280x128_S1280x128_S1280x256_d1, iota_S1280x128_d1_w32, rotates_S1280x128_d1⟩
instance : Keys 1280 := ⟨reduces_S256x1280_S256, broadcasts_S256x1_S256x1280⟩
instance : Cut 1024 1280 := ⟨slices_S256x1280_o0_0_S256x1024, slices_S256x1280_o0_1024_S256x256, concatenates_S256x1024_S256x256_S256x1280_d1, rfl⟩
instance : Rows 1536 := ⟨shapeCasts_S1536x256_S1536x256, shapeCasts_S1536x128_S1536x128, slices_S1536x256_o0_0_S1536x128,
  slices_S1536x256_o0_128_S1536x128, concatenates_S1536x128_S1536x128_S1536x256_d1, iota_S1536x128_d1_w32, rotates_S1536x128_d1⟩
instance : Keys 1536 := ⟨reduces_S256x1536_S256, broadcasts_S256x1_S256x1536⟩
instance : Cut 1280 1536 := ⟨slices_S256x1536_o0_0_S256x1280, slices_S256x1536_o0_1280_S256x256, concatenates_S256x1280_S256x256_S256x1536_d1, rfl⟩
instance : Rows 1792 := ⟨shapeCasts_S1792x256_S1792x256, shapeCasts_S1792x128_S1792x128, slices_S1792x256_o0_0_S1792x128,
  slices_S1792x256_o0_128_S1792x128, concatenates_S1792x128_S1792x128_S1792x256_d1, iota_S1792x128_d1_w32, rotates_S1792x128_d1⟩
instance : Keys 1792 := ⟨reduces_S256x1792_S256, broadcasts_S256x1_S256x1792⟩
instance : Cut 1536 1792 := ⟨slices_S256x1792_o0_0_S256x1536, slices_S256x1792_o0_1536_S256x256, concatenates_S256x1536_S256x256_S256x1792_d1, rfl⟩
instance : Rows 2048 := ⟨shapeCasts_S2048x256_S2048x256, shapeCasts_S2048x128_S2048x128, slices_S2048x256_o0_0_S2048x128,
  slices_S2048x256_o0_128_S2048x128, concatenates_S2048x128_S2048x128_S2048x256_d1, iota_S2048x128_d1_w32, rotates_S2048x128_d1⟩
instance : Keys 2048 := ⟨reduces_S256x2048_S256, broadcasts_S256x1_S256x2048⟩
instance : Cut 1792 2048 := ⟨slices_S256x2048_o0_0_S256x1792, slices_S256x2048_o0_1792_S256x256, concatenates_S256x1792_S256x256_S256x2048_d1, rfl⟩

end Cert.AttnIdeal.Vec
-- ==== Proof.AttnPieces.lean ====
module
public import proofs.«01_k».proof.Proof.AttnBlock
public import Idealize.ShloMosaic.Lib.Pipeline.ReadBack
public import Idealize.ShloMosaic.Lib.WholeRead
@[expose] public section
set_option maxRecDepth 16384
noncomputable section
namespace Cert.AttnIdeal.Vec
open Cert.AttnIdeal Cert.AttnIdeal.Gen Idealize.ShloMosaic Idealize.ShloMosaic.TcCoe Idealize.SL.Sem Cert.AttnSpec

namespace Pair
variable (P : Pair)

/-- The gradient in the queries. -/
def dqn (r c : ℕ) : ℝ := ∑ j ∈ Finset.range 2048, P.ds (c / 128) r j * P.kn j c
/-- The gradient in the rotary queries. -/
def dqr (r x : ℕ) : ℝ := ∑ j ∈ Finset.range 2048, P.ds (x / 64) r j * P.kr j (x % 64)

/-- A row has no gradient in a later key's score. -/
theorem ds_later {o r j : ℕ} (h : r < j) : P.ds o r j = 0 := by
  unfold ds dsc wt
  rw [if_neg (by omega), zero_mul, zero_mul]

/-- A row gives a later key no weight. -/
theorem w_later {o r j : ℕ} (h : r < j) : P.w o r j = 0 := by
  unfold w wt
  rw [if_neg (by omega)]

/-- A row's sum over the keys stops at the row. -/
theorem sum_keys (f : ℕ → ℝ) {o r L : ℕ} (hr : r < L) (hL : L ≤ 2048) :
    ∑ j ∈ Finset.range L, P.ds o r j * f j = ∑ j ∈ Finset.range 2048, P.ds o r j * f j := by
  refine Finset.sum_subset (Finset.range_mono hL) fun j _ hj => ?_
  rw [P.ds_later (by rw [Finset.mem_range] at hj; omega), zero_mul]
end Pair

/-- What the six blocks of a grid point hold. -/
structure Full (P : Pair) (x0 : Arr 2048 256 .bf16) (x1 : Arr 2048 128 .bf16) (x2 : Arr 2048 256 .bf16) (x3 : Arr 2048 128 .bf16)
    (x4 x5 : Arr 2048 256 .bf16) : Prop where
  qn : ∀ i c, x0 (ix2 i c) = ((P.qn i.val c.val : ℝ) : EReal)
  qr : ∀ i c, x1 (ix2 i c) = ((P.qr i.val c.val : ℝ) : EReal)
  kn : ∀ i c, x2 (ix2 i c) = ((P.kn i.val c.val : ℝ) : EReal)
  kr : ∀ i c, x3 (ix2 i c) = ((P.kr i.val c.val : ℝ) : EReal)
  v : ∀ i c, x4 (ix2 i c) = ((P.v i.val c.val : ℝ) : EReal)
  g : ∀ i c, x5 (ix2 i c) = ((P.g i.val c.val : ℝ) : EReal)

/-- Rows `b` to `b + r` lie in the block. -/
theorem inb_rows {C b r : ℕ} (h : b + r ≤ 2048) : ∀ a, (![b, 0] : Fin 2 → ℕ) a + (Mat r C).size a ≤ (Mat 2048 C).size a := by
  intro a
  fin_cases a
  · exact h
  · exact (Nat.zero_add C).le

/-- Some rows of a block, loaded. -/
abbrev ld {C : ℕ} {m : Memref sig .tc .vmem (Mat 2048 C) .bf16} (h : m.IsWhole) (x : Arr 2048 C .bf16) (b r : ℕ) (hb : b + r ≤ 2048) :
    Arr r C .bf16 :=
  m.view.readAt (Elt Ideal) (Rect.unit (s := Mat 2048 C) ![b, 0] (Mat r C).size (inb_rows hb)).toLoadRect (h.unread x)

/-- A load of the whole carried block reads it. -/
theorem prev_at {C : ℕ} {m : Memref sig .tc .vmem (Mat 2048 C) .f32} (h : m.IsWhole) (x : Arr 2048 C .f32) (inb) (i : Fin 2048) (c : Fin C) :
    m.view.readAt (Elt Ideal) (Rect.unit (s := Mat 2048 C) ![0, 0] (Mat 2048 C).size inb).toLoadRect (h.unread x) (ix2 i c) = x (ix2 i c) := by
  refine (h.readAt_unread (Val := Elt Ideal) x (Rect.unit (s := Mat 2048 C) ![0, 0] (Mat 2048 C).size inb).toLoadRect (ix2 i c)).trans (congrArg (fun z => x z) ?_)
  funext a
  fin_cases a
  · exact Fin.ext (by show 0 + 1 * i.val = i.val; omega)
  · exact Fin.ext (by show 0 + 1 * c.val = c.val; omega)

/-- A load of some rows reads those rows. -/
theorem ld_at {C : ℕ} {m : Memref sig .tc .vmem (Mat 2048 C) .bf16} (h : m.IsWhole) (x : Arr 2048 C .bf16) (b r : ℕ) (hb : b + r ≤ 2048)
    (i : Fin r) (c : Fin C) : ld h x b r hb (ix2 i c) = x (ix2 ⟨b + i.val, by omega⟩ c) := by
  refine (h.readAt_unread (Val := Elt Ideal) x (Rect.unit (s := Mat 2048 C) ![b, 0] (Mat r C).size (inb_rows hb)).toLoadRect (ix2 i c)).trans (congrArg (fun z => x z) ?_)
  funext a
  fin_cases a
  · exact Fin.ext (by show b + 1 * i.val = b + i.val; omega)
  · exact Fin.ext (by show 0 + 1 * c.val = c.val; omega)

/-! ## The accumulators in the scratch buffers -/

/-- A scratch buffer's rows and lanes after the writes `l`. -/
def Acc {C : ℕ} (l : List (View.Piece (Elt Ideal) (Mat 2048 C) .f32)) (f : ℕ → ℕ → ℝ) : Prop :=
  ∀ (r : Fin 2048) (c : Fin C), View.canon (Val := Elt Ideal) (e := .f32) l (ix2 r c) = ((f r.val c.val : ℝ) : EReal)

/-- The sum of the first `n` rows' parts. -/
def upto (n : ℕ) (f : ℕ → ℕ → ℕ → ℝ) (r c : ℕ) : ℝ := ∑ i ∈ Finset.range n, f i r c

/-- A load of the first rows reads what is accumulated there. -/
theorem acc_load {C L : ℕ} (v : View sig .tc .vmem (Mat 2048 C) .f32) {l : List (View.Piece (Elt Ideal) (Mat 2048 C) .f32)} {f : ℕ → ℕ → ℝ}
    (hl : Acc l f) (hb : 0 + L ≤ 2048) (inb) (j : Fin L) (c : Fin C) :
    v.readCov (Val := Elt Ideal) l (Rect.unit (s := Mat 2048 C) ![0, 0] (Mat L C).size inb).toLoadRect (ix2 j c) = ((f j.val c.val : ℝ) : EReal) := by
  rw [View.readCov_eq_canon']
  have e : (Rect.unit (s := Mat 2048 C) ![0, 0] (Mat L C).size inb).toLoadRect.idx (ix2 j c) = ix2 ⟨j.val, by omega⟩ c := by
    funext a
    fin_cases a
    · exact Fin.ext (by show 0 + 1 * j.val = j.val; omega)
    · exact Fin.ext (by show 0 + 1 * c.val = c.val; omega)
  exact (congrArg (View.canon (Val := Elt Ideal) (e := .f32) l) e).trans (hl ⟨j.val, by omega⟩ c)

/-- A write of the first rows that adds a block's part to what is accumulated there. -/
theorem acc_step {C b L : ℕ} (v : View sig .tc .vmem (Mat 2048 C) .f32) (f : ℕ → ℕ → ℕ → ℝ) (later : ∀ i r c, i < r → f i r c = 0)
    (hb : 0 + L ≤ 2048) (hL : L = b + 256) (l : List (View.Piece (Elt Ideal) (Mat 2048 C) .f32)) (inb) (o : Arr L C .bf16)
    (ho : ∀ j c, o (ix2 j c) = ((∑ i ∈ Finset.range 256, f (b + i) j.val c.val : ℝ) : EReal)) (y : Arr L C .f32) (hsc : (Mat L C).ShapeCasts (Mat L C))
    (hy : y = shapeCast (Mat L C) (addf (v.readCov (Val := Elt Ideal) l (Rect.unit (s := Mat 2048 C) ![0, 0] (Mat L C).size inb).toLoadRect) (extf .f32 o bitsLt_bf16_f32)) hsc)
    (hl : Acc l (upto b f)) :
    Acc (⟨Rect.unit (s := Mat 2048 C) ![0, 0] (Mat L C).size inb, y⟩ :: l) (upto (b + 256) f) := by
  intro r c
  unfold upto
  rw [Finset.sum_range_add]
  by_cases h : r.val < L
  · have e : (Rect.unit (s := Mat 2048 C) ![0, 0] (Mat L C).size inb).emb (ix2 ⟨r.val, h⟩ c) = ix2 r c := by
      funext a
      fin_cases a
      · exact Fin.ext (by show 0 + 1 * r.val = r.val; omega)
      · exact Fin.ext (by show 0 + 1 * c.val = c.val; omega)
    rw [← e, View.canon_cons_emb, hy]
    refine Eq.trans (b := v.readCov (Val := Elt Ideal) l (Rect.unit (s := Mat 2048 C) ![0, 0] (Mat L C).size inb).toLoadRect (ix2 ⟨r.val, h⟩ c) + o (ix2 ⟨r.val, h⟩ c)) ?_ ?_
    · pointwise
    · rw [acc_load v hl hb, ho, EReal.coe_add]
      rfl
  · rw [View.canon_cons_of_not_mem, hl, upto, Finset.sum_eq_zero (s := Finset.range 256) (fun i hi => later _ _ _ (by rw [Finset.mem_range] at hi; omega)), add_zero]
    exact Rect.not_mem_set_of_axis _ _ (0 : Fin 2) 0 L rfl rfl rfl (Or.inr (by show 0 + L ≤ r.val; omega))

/-- A write of zeros starts an accumulation. -/
theorem acc_zero {C : ℕ} (f : ℕ → ℕ → ℕ → ℝ) (inb) (y : Arr 2048 C .f32) (hy : ∀ j, y j = (0 : EReal)) :
    Acc [⟨Rect.unit (s := Mat 2048 C) ![0, 0] (Mat 2048 C).size inb, y⟩] (upto 0 f) := by
  intro r c
  unfold upto
  have e : (Rect.unit (s := Mat 2048 C) ![0, 0] (Mat 2048 C).size inb).emb (ix2 r c) = ix2 r c := by
    funext a
    fin_cases a
    · exact Fin.ext (by show 0 + 1 * r.val = r.val; omega)
    · exact Fin.ext (by show 0 + 1 * c.val = c.val; omega)
  rw [← e, View.canon_cons_emb, hy, Finset.sum_range_zero, EReal.coe_zero]

namespace Pair
variable (P : Pair)

/-- Row `i`'s part of the gradient in the keys. -/
def knT (i r c : ℕ) : ℝ := P.ds (c / 128) i r * P.qn i c
/-- Row `i`'s part of the gradient in the values. -/
def vT (i r c : ℕ) : ℝ := P.w (c / 128) i r * P.g i c

theorem knT_later (i r c : ℕ) (h : i < r) : P.knT i r c = 0 := by unfold knT; rw [P.ds_later h, zero_mul]
theorem vT_later (i r c : ℕ) (h : i < r) : P.vT i r c = 0 := by unfold vT; rw [P.w_later h, zero_mul]
theorem krT_later (i r c : ℕ) (h : i < r) : P.dkr i r c = 0 := by
  unfold dkr
  rw [P.ds_later h, P.ds_later h, zero_mul, zero_mul, add_zero, ite_self]
end Pair

section piece
variable {b L : ℕ} [Rows 256] [Rows L] [Keys L] (M : Masking b L) (P : Pair)
  {m0 : Memref sig .tc .vmem (Mat 2048 256) .bf16} (h0 : m0.IsWhole) {m1 : Memref sig .tc .vmem (Mat 2048 128) .bf16} (h1 : m1.IsWhole)
  {m2 : Memref sig .tc .vmem (Mat 2048 256) .bf16} (h2 : m2.IsWhole) {m3 : Memref sig .tc .vmem (Mat 2048 128) .bf16} (h3 : m3.IsWhole)
  {m4 : Memref sig .tc .vmem (Mat 2048 256) .bf16} (h4 : m4.IsWhole) {m5 : Memref sig .tc .vmem (Mat 2048 256) .bf16} (h5 : m5.IsWhole)
  {X0 : Arr 2048 256 .bf16} {X1 : Arr 2048 128 .bf16} {X2 : Arr 2048 256 .bf16} {X3 : Arr 2048 128 .bf16} {X4 X5 : Arr 2048 256 .bf16}
  (H : Full P X0 X1 X2 X3 X4 X5) (hb : b + 256 ≤ 2048) (hk : 0 + L ≤ 2048) (hL : L = b + 256)
include H

/-- The operands a block of queries loads. -/
theorem holds_ld : Holds (b := b) (L := L) P (qn := ld h0 X0 b 256 hb) (qr := ld h1 X1 b 256 hb) (kn := ld h2 X2 0 L hk) (kr := ld h3 X3 0 L hk)
    (v := ld h4 X4 0 L hk) (g := ld h5 X5 b 256 hb) where
  qn i c := by rw [ld_at, H.qn]
  qr i c := by rw [ld_at, H.qr]
  kn i c := by rw [ld_at, H.kn]; simp only [Nat.zero_add]
  kr i c := by rw [ld_at, H.kr]; simp only [Nat.zero_add]
  v i c := by rw [ld_at, H.v]; simp only [Nat.zero_add]
  g i c := by rw [ld_at, H.g]

include hL

/-- A block of the gradient in the queries is that block of rows. -/
theorem qn_piece (G : Arr 2048 256 .bf16) (hG : ∀ r c, G (ix2 r c) = ((P.dqn r.val c.val : ℝ) : EReal)) (y : Arr 256 256 .bf16)
    (hy : y = oQn M (ld h0 X0 b 256 hb) (ld h1 X1 b 256 hb) (ld h2 X2 0 L hk) (ld h3 X3 0 L hk) (ld h4 X4 0 L hk) (ld h5 X5 b 256 hb))
    (inb) : ∀ x, (⟨Rect.unit (s := Mat 2048 256) ![b, 0] ![256, 256] inb, y⟩ : View.Piece (Elt Ideal) (Mat 2048 256) .bf16).2 x =
      G ((⟨Rect.unit (s := Mat 2048 256) ![b, 0] ![256, 256] inb, y⟩ : View.Piece (Elt Ideal) (Mat 2048 256) .bf16).1.emb x) := by
  intro x
  dsimp only
  idx_vars x
  have e : (Rect.unit (s := Mat 2048 256) ![b, 0] ![256, 256] inb).emb (ix2 x0 x1) = ix2 ⟨b + x0.val, by omega⟩ x1 := by blk_ext
  refine (congrFun hy _).trans (Eq.trans ?_ (congrArg G e).symm)
  rw [oQn_real M P (holds_ld P h0 h1 h2 h3 h4 h5 H hb hk) hL, hG]
  exact congrArg _ (P.sum_keys (fun j => P.kn j x1.val) (by omega) (by omega))

/-- A block of the gradient in the rotary queries is that block of rows. -/
theorem qr_piece (G : Arr 2048 128 .f32) (hG : ∀ r c, G (ix2 r c) = ((P.dqr r.val c.val : ℝ) : EReal)) (y : Arr 256 128 .f32)
    (hy : y = oQr M (ld h0 X0 b 256 hb) (ld h1 X1 b 256 hb) (ld h2 X2 0 L hk) (ld h3 X3 0 L hk) (ld h4 X4 0 L hk) (ld h5 X5 b 256 hb))
    (inb) : ∀ x, (⟨Rect.unit (s := Mat 2048 128) ![b, 0] ![256, 128] inb, y⟩ : View.Piece (Elt Ideal) (Mat 2048 128) .f32).2 x =
      G ((⟨Rect.unit (s := Mat 2048 128) ![b, 0] ![256, 128] inb, y⟩ : View.Piece (Elt Ideal) (Mat 2048 128) .f32).1.emb x) := by
  intro x
  dsimp only
  idx_vars x
  have e : (Rect.unit (s := Mat 2048 128) ![b, 0] ![256, 128] inb).emb (ix2 x0 x1) = ix2 ⟨b + x0.val, by omega⟩ x1 := by blk_ext
  refine (congrFun hy _).trans (Eq.trans ?_ (congrArg G e).symm)
  rw [oQr_real M P (holds_ld P h0 h1 h2 h3 h4 h5 H hb hk) hL, hG]
  exact congrArg _ (P.sum_keys (fun j => P.kr j (x1.val % 64)) (by omega) (by omega))

/-- A block of queries adds its part of the gradient in the keys. -/
theorem kn_step (v : View sig .tc .vmem (Mat 2048 256) .f32) (l : List (View.Piece (Elt Ideal) (Mat 2048 256) .f32)) (inb) (y : Arr L 256 .f32)
    (hy : y = shapeCast (Mat L 256) (addf (v.readCov (Val := Elt Ideal) l (Rect.unit (s := Mat 2048 256) ![0, 0] (Mat L 256).size inb).toLoadRect)
      (extf .f32 (oKn M (ld h0 X0 b 256 hb) (ld h1 X1 b 256 hb) (ld h2 X2 0 L hk) (ld h3 X3 0 L hk) (ld h4 X4 0 L hk) (ld h5 X5 b 256 hb)) bitsLt_bf16_f32)) Rows.same256)
    (hl : Acc l (upto b P.knT)) :
    Acc (⟨Rect.unit (s := Mat 2048 256) ![0, 0] (Mat L 256).size inb, y⟩ :: l) (upto (b + 256) P.knT) :=
  acc_step v P.knT P.knT_later hk hL l inb _ (oKn_real M P (holds_ld P h0 h1 h2 h3 h4 h5 H hb hk) hL) y _ hy hl

include h4 in
/-- A block of queries adds its part of the gradient in the values. -/
theorem v_step (v : View sig .tc .vmem (Mat 2048 256) .f32) (l : List (View.Piece (Elt Ideal) (Mat 2048 256) .f32)) (inb) (y : Arr L 256 .f32)
    (hy : y = shapeCast (Mat L 256) (addf (v.readCov (Val := Elt Ideal) l (Rect.unit (s := Mat 2048 256) ![0, 0] (Mat L 256).size inb).toLoadRect)
      (extf .f32 (oV M (ld h0 X0 b 256 hb) (ld h1 X1 b 256 hb) (ld h2 X2 0 L hk) (ld h3 X3 0 L hk) (ld h5 X5 b 256 hb)) bitsLt_bf16_f32)) Rows.same256)
    (hl : Acc l (upto b P.vT)) :
    Acc (⟨Rect.unit (s := Mat 2048 256) ![0, 0] (Mat L 256).size inb, y⟩ :: l) (upto (b + 256) P.vT) :=
  acc_step v P.vT P.vT_later hk hL l inb _ (oV_real M P (holds_ld P h0 h1 h2 h3 h4 h5 H hb hk) hL) y _ hy hl

/-- A block of queries adds its part of the gradient in the rotary keys. -/
theorem kr_step (v : View sig .tc .vmem (Mat 2048 128) .f32) (l : List (View.Piece (Elt Ideal) (Mat 2048 128) .f32)) (inb) (y : Arr L 128 .f32)
    (hy : y = shapeCast (Mat L 128) (addf (v.readCov (Val := Elt Ideal) l (Rect.unit (s := Mat 2048 128) ![0, 0] (Mat L 128).size inb).toLoadRect)
      (extf .f32 (oKr M (ld h0 X0 b 256 hb) (ld h1 X1 b 256 hb) (ld h2 X2 0 L hk) (ld h3 X3 0 L hk) (ld h4 X4 0 L hk) (ld h5 X5 b 256 hb)) bitsLt_bf16_f32)) Rows.same128)
    (hl : Acc l (upto b P.dkr)) :
    Acc (⟨Rect.unit (s := Mat 2048 128) ![0, 0] (Mat L 128).size inb, y⟩ :: l) (upto (b + 256) P.dkr) :=
  acc_step v P.dkr P.krT_later hk hL l inb _ (oKr_real M P (holds_ld P h0 h1 h2 h3 h4 h5 H hb hk) hL) y _ hy hl
end piece

variable (m : (ℓ : Loc nD τ sig) → Buf (Elt Ideal) ℓ)

set_option maxHeartbeats 1000000 in
/-- At the first pair, the rows of the gradient in the queries. -/
theorem qn_A (c : Dev nD) (t : Fin cfg0.N) (h0 : t.val % 8 = 0) (h1 : ¬1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((P.dqn r.val c.val : ℝ) : EReal)) : (outsAt0 m c t.val t.isLt).1 = G := by
  rw [outsAt0_A m c t h0 h1]
  dsimp only
  unfold out0_A_6
  rw [View.read_writes_junk_eq_canon]
  funext j
  refine View.canon_apply_of_pieces (Val := Elt Ideal) (e := .bf16) G _ (View.PiecesOf.mem ?_) j (cover0_A_6 c _ _ _ _ _ _ _ _ _ _ _ _ _ _ _ _ _ _ _ _ _ _ _ _ _ _ _ _ _ _ _ _ _ _ _ _ _ j)
  unfold kernelRun0_A
  dsimp only
  refine ⟨?_, ?_, ?_, ?_, ?_, ?_, ?_, ?_, trivial⟩
  · refine qn_piece (laterMask 1792 2048) P (hs0_0 t) (hs0_1 t) (hs0_2 t) (hs0_3 t) (hs0_4 t) (hs0_5 t) H (by decide) (by decide) rfl G hG _ ?_ _
    rfl
  · refine qn_piece (laterMask 1536 1792) P (hs0_0 t) (hs0_1 t) (hs0_2 t) (hs0_3 t) (hs0_4 t) (hs0_5 t) H (by decide) (by decide) rfl G hG _ ?_ _
    rfl
  · refine qn_piece (laterMask 1280 1536) P (hs0_0 t) (hs0_1 t) (hs0_2 t) (hs0_3 t) (hs0_4 t) (hs0_5 t) H (by decide) (by decide) rfl G hG _ ?_ _
    rfl
  · refine qn_piece (laterMask 1024 1280) P (hs0_0 t) (hs0_1 t) (hs0_2 t) (hs0_3 t) (hs0_4 t) (hs0_5 t) H (by decide) (by decide) rfl G hG _ ?_ _
    rfl
  · refine qn_piece (laterMask 768 1024) P (hs0_0 t) (hs0_1 t) (hs0_2 t) (hs0_3 t) (hs0_4 t) (hs0_5 t) H (by decide) (by decide) rfl G hG _ ?_ _
    rfl
  · refine qn_piece (laterMask 512 768) P (hs0_0 t) (hs0_1 t) (hs0_2 t) (hs0_3 t) (hs0_4 t) (hs0_5 t) H (by decide) (by decide) rfl G hG _ ?_ _
    rfl
  · refine qn_piece (laterMask 256 512) P (hs0_0 t) (hs0_1 t) (hs0_2 t) (hs0_3 t) (hs0_4 t) (hs0_5 t) H (by decide) (by decide) rfl G hG _ ?_ _
    rfl
  · refine qn_piece (firstMask) P (hs0_0 t) (hs0_1 t) (hs0_2 t) (hs0_3 t) (hs0_4 t) (hs0_5 t) H (by decide) (by decide) rfl G hG _ ?_ _
    rfl

set_option maxHeartbeats 1000000 in
/-- At the first pair, the rows of the gradient in the rotary queries. -/
theorem qr_A (c : Dev nD) (t : Fin cfg0.N) (h0 : t.val % 8 = 0) (h1 : ¬1 ≤ t.val) (P : Pair)
    (H : Full P (iblk m c 0 t) (iblk m c 1 t) (iblk m c 2 t) (iblk m c 3 t) (iblk m c 4 t) (iblk m c 5 t)) (G : Arr 2048 128 .f32)
    (hG : ∀ r c, G (ix2 r c) = ((P.dqr r.val c.val : ℝ) : EReal)) : (outsAt0 m c t.val t.isLt).2.1 = G := by
  rw [outsAt0_A m c t h0 h1]
  dsimp only
  unfold out0_A_7
  rw [View.read_writes_junk_eq_canon]
  funext j
  refine View.canon_apply_of_pieces (Val := Elt Ideal) (e := .f32) G _ (View.PiecesOf.mem ?_) j (cover0_A_7 c _ _ _ _ _ _ _ _ _ _ _ _ _ _ _ _ _ _ _ _ _ _ _ _ _ _ _ _ _ _ _ _ _ _ _ _ _ j)
  unfold kernelRun0_A
  dsimp only
  refine ⟨?_, ?_, ?_, ?_, ?_, ?_, ?_, ?_, trivial⟩
  · refine qr_piece (laterMask 1792 2048) P (hs0_0 t) (hs0_1 t) (hs0_2 t) (hs0_3 t) (hs0_4 t) (hs0_5 t) H (by decide) (by decide) rfl G hG _ ?_ _
    rfl
  · refine qr_piece (laterMask 1536 1792) P (hs0_0 t) (hs0_1 t) (hs0_2 t) (hs0_3 t) (hs0_4 t) (hs0_5 t) H (by decide) (by decide) rfl G hG _ ?_ _
    rfl
  · refine qr_piece (laterMask 1280 1536) P (hs0_0 t) (hs0_1 t) (hs0_2 t) (hs0_3 t) (hs0_4 t) (hs0_5 t) H (by decide) (by decide) rfl G hG _ ?_ _
    rfl
  · refine qr_piece (laterMask 1024 1280) P (hs0_0 t) (hs0_1 t) (hs0_2 t) (hs0_3 t) (hs0_4 t) (hs0_5 t) H (by decide) (by decide) rfl G hG _ ?_ _
    rfl
  · refine qr_piece (laterMask 768 1024) P (hs0_0 t) (hs0_1 t) (hs0_2 t) (hs0_3 t) (hs0_4 t) (hs0_5 t) H (by decide) (by decide) rfl G hG _ ?_ _
    rfl
  · refine qr_piece (laterMask 512 768) P (hs0_0 t) (hs0_1 t) (hs0_2 t) (hs0_3 t) (hs0_4 t) (hs0_5 t) H (by decide) (by decide) rfl G hG _ ?_ _
    rfl
  · refine qr_piece (laterMask 256 512) P (hs0_0 t) (hs0_1 t) (hs0_2 t) (hs0_3 t) (hs0_4 t) (hs0_5 t) H (by decide) (by decide) rfl G hG _ ?_ _
    rfl
  · refine qr_piece (firstMask) P (hs0_0 t) (hs0_1 t) (hs0_2 t) (hs0_3 t) (hs0_4 t) (hs0_5 t) H (by decide) (by decide) rfl G hG _ ?_ _
    rfl

set_option maxHeartbeats 1000000 in
/-- At the first pair, the rows of the gradient in the keys. -/
theorem kn_A (c : Dev nD) (t : Fin cfg0.N) (h0 : t.val % 8 = 0) (h1 : ¬1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((upto 2048 P.knT r.val c.val : ℝ) : EReal)) : (outsAt0 m c t.val t.isLt).2.2.1 = G := by
  rw [outsAt0_A m c t h0 h1]
  dsimp only
  unfold out0_A_8
  rw [View.read_writes_junk_eq_canon]
  funext j
  refine View.canon_apply_of_pieces (Val := Elt Ideal) (e := .bf16) G _ (View.PiecesOf.mem ?_) j (cover0_A_8 c _ _ _ _ _ _ _ _ _ _ _ _ _ _ _ _ _ _ _ _ _ _ _ _ _ _ _ _ _ _ _ _ _ _ _ _ _ j)
  unfold kernelRun0_A
  dsimp only
  refine ⟨?_, trivial⟩
  intro x
  dsimp only
  idx_vars x
  have e : (Rect.unit (s := Mat 2048 256) ![0, 0] ![2048, 256] inb_S2048x256_S2048x256_0_0).emb (ix2 x0 x1) = ix2 x0 x1 := by blk_ext
  refine Eq.trans ?_ (congrArg G e).symm
  rw [hG]
  have q : ∀ z : Arr 2048 256 .f32, k0_pay475 (F := Ideal) z (ix2 x0 x1) = z (ix2 x0 x1) := fun z => rfl
  refine (q _).trans ?_
  unfold kernelRun0_A.sl.v1904
  refine acc_load (f := upto 2048 P.knT) scM0_0.view ?_ (by decide) _ x0 x1
  unfold kernelRun0_A.sl.HS0_9
  refine kn_step (laterMask 1792 2048) P (hs0_0 t) (hs0_1 t) (hs0_2 t) (hs0_3 t) (hs0_4 t) (hs0_5 t) H (by decide) (by decide) rfl scM0_0.view _ _ _ ?_ ?_
  · rfl
  unfold kernelRun0_A.sl.HS0_8
  refine kn_step (laterMask 1536 1792) P (hs0_0 t) (hs0_1 t) (hs0_2 t) (hs0_3 t) (hs0_4 t) (hs0_5 t) H (by decide) (by decide) rfl scM0_0.view _ _ _ ?_ ?_
  · rfl
  unfold kernelRun0_A.sl.HS0_7
  refine kn_step (laterMask 1280 1536) P (hs0_0 t) (hs0_1 t) (hs0_2 t) (hs0_3 t) (hs0_4 t) (hs0_5 t) H (by decide) (by decide) rfl scM0_0.view _ _ _ ?_ ?_
  · rfl
  unfold kernelRun0_A.sl.HS0_6
  refine kn_step (laterMask 1024 1280) P (hs0_0 t) (hs0_1 t) (hs0_2 t) (hs0_3 t) (hs0_4 t) (hs0_5 t) H (by decide) (by decide) rfl scM0_0.view _ _ _ ?_ ?_
  · rfl
  unfold kernelRun0_A.sl.HS0_5
  refine kn_step (laterMask 768 1024) P (hs0_0 t) (hs0_1 t) (hs0_2 t) (hs0_3 t) (hs0_4 t) (hs0_5 t) H (by decide) (by decide) rfl scM0_0.view _ _ _ ?_ ?_
  · rfl
  unfold kernelRun0_A.sl.HS0_4
  refine kn_step (laterMask 512 768) P (hs0_0 t) (hs0_1 t) (hs0_2 t) (hs0_3 t) (hs0_4 t) (hs0_5 t) H (by decide) (by decide) rfl scM0_0.view _ _ _ ?_ ?_
  · rfl
  unfold kernelRun0_A.sl.HS0_3
  refine kn_step (laterMask 256 512) P (hs0_0 t) (hs0_1 t) (hs0_2 t) (hs0_3 t) (hs0_4 t) (hs0_5 t) H (by decide) (by decide) rfl scM0_0.view _ _ _ ?_ ?_
  · rfl
  unfold kernelRun0_A.sl.HS0_2
  refine kn_step (firstMask) P (hs0_0 t) (hs0_1 t) (hs0_2 t) (hs0_3 t) (hs0_4 t) (hs0_5 t) H (by decide) (by decide) rfl scM0_0.view _ _ _ ?_ ?_
  · rfl
  unfold kernelRun0_A.sl.HS0_1
  refine acc_zero _ _ _ fun j => ?_
  refine Eq.trans ?_ Ideal.ofBits_zero_f32
  unfold k0_pay2
  pointwise

set_option maxHeartbeats 1000000 in
/-- At the first pair, the rows of the gradient in the values. -/
theorem v_A (c : Dev nD) (t : Fin cfg0.N) (h0 : t.val % 8 = 0) (h1 : ¬1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((upto 2048 P.vT r.val c.val : ℝ) : EReal)) : (outsAt0 m c t.val t.isLt).2.2.2.1 = G := by
  rw [outsAt0_A m c t h0 h1]
  dsimp only
  unfold out0_A_9
  rw [View.read_writes_junk_eq_canon]
  funext j
  refine View.canon_apply_of_pieces (Val := Elt Ideal) (e := .bf16) G _ (View.PiecesOf.mem ?_) j (cover0_A_9 c _ _ _ _ _ _ _ _ _ _ _ _ _ _ _ _ _ _ _ _ _ _ _ _ _ _ _ _ _ _ _ _ _ _ _ _ _ j)
  unfold kernelRun0_A
  dsimp only
  refine ⟨?_, trivial⟩
  intro x
  dsimp only
  idx_vars x
  have e : (Rect.unit (s := Mat 2048 256) ![0, 0] ![2048, 256] inb_S2048x256_S2048x256_0_0).emb (ix2 x0 x1) = ix2 x0 x1 := by blk_ext
  refine Eq.trans ?_ (congrArg G e).symm
  rw [hG]
  have q : ∀ z : Arr 2048 256 .f32, k0_pay476 (F := Ideal) z (ix2 x0 x1) = z (ix2 x0 x1) := fun z => rfl
  refine (q _).trans ?_
  unfold kernelRun0_A.sl.v1907
  refine acc_load (f := upto 2048 P.vT) scM0_1.view ?_ (by decide) _ x0 x1
  unfold kernelRun0_A.sl.HS1_9
  refine v_step (laterMask 1792 2048) P (hs0_0 t) (hs0_1 t) (hs0_2 t) (hs0_3 t) (hs0_4 t) (hs0_5 t) H (by decide) (by decide) rfl scM0_1.view _ _ _ ?_ ?_
  · rfl
  unfold kernelRun0_A.sl.HS1_8
  refine v_step (laterMask 1536 1792) P (hs0_0 t) (hs0_1 t) (hs0_2 t) (hs0_3 t) (hs0_4 t) (hs0_5 t) H (by decide) (by decide) rfl scM0_1.view _ _ _ ?_ ?_
  · rfl
  unfold kernelRun0_A.sl.HS1_7
  refine v_step (laterMask 1280 1536) P (hs0_0 t) (hs0_1 t) (hs0_2 t) (hs0_3 t) (hs0_4 t) (hs0_5 t) H (by decide) (by decide) rfl scM0_1.view _ _ _ ?_ ?_
  · rfl
  unfold kernelRun0_A.sl.HS1_6
  refine v_step (laterMask 1024 1280) P (hs0_0 t) (hs0_1 t) (hs0_2 t) (hs0_3 t) (hs0_4 t) (hs0_5 t) H (by decide) (by decide) rfl scM0_1.view _ _ _ ?_ ?_
  · rfl
  unfold kernelRun0_A.sl.HS1_5
  refine v_step (laterMask 768 1024) P (hs0_0 t) (hs0_1 t) (hs0_2 t) (hs0_3 t) (hs0_4 t) (hs0_5 t) H (by decide) (by decide) rfl scM0_1.view _ _ _ ?_ ?_
  · rfl
  unfold kernelRun0_A.sl.HS1_4
  refine v_step (laterMask 512 768) P (hs0_0 t) (hs0_1 t) (hs0_2 t) (hs0_3 t) (hs0_4 t) (hs0_5 t) H (by decide) (by decide) rfl scM0_1.view _ _ _ ?_ ?_
  · rfl
  unfold kernelRun0_A.sl.HS1_3
  refine v_step (laterMask 256 512) P (hs0_0 t) (hs0_1 t) (hs0_2 t) (hs0_3 t) (hs0_4 t) (hs0_5 t) H (by decide) (by decide) rfl scM0_1.view _ _ _ ?_ ?_
  · rfl
  unfold kernelRun0_A.sl.HS1_2
  refine v_step (firstMask) P (hs0_0 t) (hs0_1 t) (hs0_2 t) (hs0_3 t) (hs0_4 t) (hs0_5 t) H (by decide) (by decide) rfl scM0_1.view _ _ _ ?_ ?_
  · rfl
  unfold kernelRun0_A.sl.HS1_1
  refine acc_zero _ _ _ fun j => ?_
  refine Eq.trans ?_ Ideal.ofBits_zero_f32
  unfold k0_pay3
  pointwise

set_option maxHeartbeats 1000000 in
/-- At the first pair, the rows of the gradient in the rotary keys. -/
theorem kr_A (c : Dev nD) (t : Fin cfg0.N) (h0 : t.val % 8 = 0) (h1 : ¬1 ≤ t.val) (P : Pair)
    (H : Full P (iblk m c 0 t) (iblk m c 1 t) (iblk m c 2 t) (iblk m c 3 t) (iblk m c 4 t) (iblk m c 5 t)) (G : Arr 2048 128 .f32)
    (hG : ∀ r c, G (ix2 r c) = ((upto 2048 P.dkr r.val c.val : ℝ) : EReal)) : (outsAt0 m c t.val t.isLt).2.2.2.2 = G := by
  rw [outsAt0_A m c t h0 h1]
  dsimp only
  unfold out0_A_10
  rw [View.read_writes_junk_eq_canon]
  funext j
  refine View.canon_apply_of_pieces (Val := Elt Ideal) (e := .f32) G _ (View.PiecesOf.mem ?_) j (cover0_A_10 c _ _ _ _ _ _ _ _ _ _ _ _ _ _ _ _ _ _ _ _ _ _ _ _ _ _ _ _ _ _ _ _ _ _ _ _ _ j)
  unfold kernelRun0_A
  dsimp only
  refine ⟨?_, trivial⟩
  intro x
  dsimp only
  idx_vars x
  have e : (Rect.unit (s := Mat 2048 128) ![0, 0] ![2048, 128] inb_S2048x128_S2048x128_0_0).emb (ix2 x0 x1) = ix2 x0 x1 := by blk_ext
  refine Eq.trans ?_ (congrArg G e).symm
  rw [hG]
  unfold kernelRun0_A.sl.v1916
  refine acc_load (f := upto 2048 P.dkr) scM0_2.view ?_ (by decide) _ x0 x1
  unfold kernelRun0_A.sl.HS2_9
  refine kr_step (laterMask 1792 2048) P (hs0_0 t) (hs0_1 t) (hs0_2 t) (hs0_3 t) (hs0_4 t) (hs0_5 t) H (by decide) (by decide) rfl scM0_2.view _ _ _ ?_ ?_
  · rfl
  unfold kernelRun0_A.sl.HS2_8
  refine kr_step (laterMask 1536 1792) P (hs0_0 t) (hs0_1 t) (hs0_2 t) (hs0_3 t) (hs0_4 t) (hs0_5 t) H (by decide) (by decide) rfl scM0_2.view _ _ _ ?_ ?_
  · rfl
  unfold kernelRun0_A.sl.HS2_7
  refine kr_step (laterMask 1280 1536) P (hs0_0 t) (hs0_1 t) (hs0_2 t) (hs0_3 t) (hs0_4 t) (hs0_5 t) H (by decide) (by decide) rfl scM0_2.view _ _ _ ?_ ?_
  · rfl
  unfold kernelRun0_A.sl.HS2_6
  refine kr_step (laterMask 1024 1280) P (hs0_0 t) (hs0_1 t) (hs0_2 t) (hs0_3 t) (hs0_4 t) (hs0_5 t) H (by decide) (by decide) rfl scM0_2.view _ _ _ ?_ ?_
  · rfl
  unfold kernelRun0_A.sl.HS2_5
  refine kr_step (laterMask 768 1024) P (hs0_0 t) (hs0_1 t) (hs0_2 t) (hs0_3 t) (hs0_4 t) (hs0_5 t) H (by decide) (by decide) rfl scM0_2.view _ _ _ ?_ ?_
  · rfl
  unfold kernelRun0_A.sl.HS2_4
  refine kr_step (laterMask 512 768) P (hs0_0 t) (hs0_1 t) (hs0_2 t) (hs0_3 t) (hs0_4 t) (hs0_5 t) H (by decide) (by decide) rfl scM0_2.view _ _ _ ?_ ?_
  · rfl
  unfold kernelRun0_A.sl.HS2_3
  refine kr_step (laterMask 256 512) P (hs0_0 t) (hs0_1 t) (hs0_2 t) (hs0_3 t) (hs0_4 t) (hs0_5 t) H (by decide) (by decide) rfl scM0_2.view _ _ _ ?_ ?_
  · rfl
  unfold kernelRun0_A.sl.HS2_2
  refine kr_step (firstMask) P (hs0_0 t) (hs0_1 t) (hs0_2 t) (hs0_3 t) (hs0_4 t) (hs0_5 t) H (by decide) (by decide) rfl scM0_2.view _ _ _ ?_ ?_
  · rfl
  unfold kernelRun0_A.sl.HS2_1
  refine acc_zero _ _ _ fun j => ?_
  refine Eq.trans ?_ Ideal.ofBits_zero_f32
  unfold k0_pay4
  pointwise

set_option maxHeartbeats 1000000 in
/-- At a later pair, the rows of the gradient in the queries. -/
theorem qn_B (c : Dev nD) (t : Fin cfg0.N) (h0 : ¬t.val % 8 = 0) (h1 : 1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((P.dqn r.val c.val : ℝ) : EReal)) : (outsAt0 m c t.val t.isLt).1 = G := by
  rw [outsAt0_B m c t h0 h1]
  dsimp only
  unfold out0_B_6
  rw [View.read_writes_junk_eq_canon]
  funext j
  refine View.canon_apply_of_pieces (Val := Elt Ideal) (e := .bf16) G _ (View.PiecesOf.mem ?_) j (cover0_B_6 c _ _ _ _ _ _ _ _ _ _ _ _ _ _ _ _ _ _ _ _ _ _ _ _ _ _ _ _ _ _ _ _ _ _ _ _ _ _ j)
  unfold kernelRun0_B
  dsimp only
  refine ⟨?_, ?_, ?_, ?_, ?_, ?_, ?_, ?_, trivial⟩
  · refine qn_piece (laterMask 1792 2048) P (hs0_0 t) (hs0_1 t) (hs0_2 t) (hs0_3 t) (hs0_4 t) (hs0_5 t) H (by decide) (by decide) rfl G hG _ ?_ _
    rfl
  · refine qn_piece (laterMask 1536 1792) P (hs0_0 t) (hs0_1 t) (hs0_2 t) (hs0_3 t) (hs0_4 t) (hs0_5 t) H (by decide) (by decide) rfl G hG _ ?_ _
    rfl
  · refine qn_piece (laterMask 1280 1536) P (hs0_0 t) (hs0_1 t) (hs0_2 t) (hs0_3 t) (hs0_4 t) (hs0_5 t) H (by decide) (by decide) rfl G hG _ ?_ _
    rfl
  · refine qn_piece (laterMask 1024 1280) P (hs0_0 t) (hs0_1 t) (hs0_2 t) (hs0_3 t) (hs0_4 t) (hs0_5 t) H (by decide) (by decide) rfl G hG _ ?_ _
    rfl
  · refine qn_piece (laterMask 768 1024) P (hs0_0 t) (hs0_1 t) (hs0_2 t) (hs0_3 t) (hs0_4 t) (hs0_5 t) H (by decide) (by decide) rfl G hG _ ?_ _
    rfl
  · refine qn_piece (laterMask 512 768) P (hs0_0 t) (hs0_1 t) (hs0_2 t) (hs0_3 t) (hs0_4 t) (hs0_5 t) H (by decide) (by decide) rfl G hG _ ?_ _
    rfl
  · refine qn_piece (laterMask 256 512) P (hs0_0 t) (hs0_1 t) (hs0_2 t) (hs0_3 t) (hs0_4 t) (hs0_5 t) H (by decide) (by decide) rfl G hG _ ?_ _
    rfl
  · refine qn_piece (firstMask) P (hs0_0 t) (hs0_1 t) (hs0_2 t) (hs0_3 t) (hs0_4 t) (hs0_5 t) H (by decide) (by decide) rfl G hG _ ?_ _
    rfl

set_option maxHeartbeats 1000000 in
/-- At a later pair, the rows of the gradient in the rotary queries. -/
theorem qr_B (c : Dev nD) (t : Fin cfg0.N) (h0 : ¬t.val % 8 = 0) (h1 : 1 ≤ t.val) (P : Pair)
    (H : Full P (iblk m c 0 t) (iblk m c 1 t) (iblk m c 2 t) (iblk m c 3 t) (iblk m c 4 t) (iblk m c 5 t)) (G : Arr 2048 128 .f32)
    (hG : ∀ r c, G (ix2 r c) = ((P.dqr r.val c.val : ℝ) : EReal)) : (outsAt0 m c t.val t.isLt).2.1 = G := by
  rw [outsAt0_B m c t h0 h1]
  dsimp only
  unfold out0_B_7
  rw [View.read_writes_junk_eq_canon]
  funext j
  refine View.canon_apply_of_pieces (Val := Elt Ideal) (e := .f32) G _ (View.PiecesOf.mem ?_) j (cover0_B_7 c _ _ _ _ _ _ _ _ _ _ _ _ _ _ _ _ _ _ _ _ _ _ _ _ _ _ _ _ _ _ _ _ _ _ _ _ _ _ j)
  unfold kernelRun0_B
  dsimp only
  refine ⟨?_, ?_, ?_, ?_, ?_, ?_, ?_, ?_, trivial⟩
  · refine qr_piece (laterMask 1792 2048) P (hs0_0 t) (hs0_1 t) (hs0_2 t) (hs0_3 t) (hs0_4 t) (hs0_5 t) H (by decide) (by decide) rfl G hG _ ?_ _
    rfl
  · refine qr_piece (laterMask 1536 1792) P (hs0_0 t) (hs0_1 t) (hs0_2 t) (hs0_3 t) (hs0_4 t) (hs0_5 t) H (by decide) (by decide) rfl G hG _ ?_ _
    rfl
  · refine qr_piece (laterMask 1280 1536) P (hs0_0 t) (hs0_1 t) (hs0_2 t) (hs0_3 t) (hs0_4 t) (hs0_5 t) H (by decide) (by decide) rfl G hG _ ?_ _
    rfl
  · refine qr_piece (laterMask 1024 1280) P (hs0_0 t) (hs0_1 t) (hs0_2 t) (hs0_3 t) (hs0_4 t) (hs0_5 t) H (by decide) (by decide) rfl G hG _ ?_ _
    rfl
  · refine qr_piece (laterMask 768 1024) P (hs0_0 t) (hs0_1 t) (hs0_2 t) (hs0_3 t) (hs0_4 t) (hs0_5 t) H (by decide) (by decide) rfl G hG _ ?_ _
    rfl
  · refine qr_piece (laterMask 512 768) P (hs0_0 t) (hs0_1 t) (hs0_2 t) (hs0_3 t) (hs0_4 t) (hs0_5 t) H (by decide) (by decide) rfl G hG _ ?_ _
    rfl
  · refine qr_piece (laterMask 256 512) P (hs0_0 t) (hs0_1 t) (hs0_2 t) (hs0_3 t) (hs0_4 t) (hs0_5 t) H (by decide) (by decide) rfl G hG _ ?_ _
    rfl
  · refine qr_piece (firstMask) P (hs0_0 t) (hs0_1 t) (hs0_2 t) (hs0_3 t) (hs0_4 t) (hs0_5 t) H (by decide) (by decide) rfl G hG _ ?_ _
    rfl

set_option maxHeartbeats 1000000 in
/-- At a later pair, the rows of the gradient in the keys. -/
theorem kn_B (c : Dev nD) (t : Fin cfg0.N) (h0 : ¬t.val % 8 = 0) (h1 : 1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((upto 2048 P.knT r.val c.val : ℝ) : EReal)) : (outsAt0 m c t.val t.isLt).2.2.1 = G := by
  rw [outsAt0_B m c t h0 h1]
  dsimp only
  unfold out0_B_8
  rw [View.read_writes_junk_eq_canon]
  funext j
  refine View.canon_apply_of_pieces (Val := Elt Ideal) (e := .bf16) G _ (View.PiecesOf.mem ?_) j (cover0_B_8 c _ _ _ _ _ _ _ _ _ _ _ _ _ _ _ _ _ _ _ _ _ _ _ _ _ _ _ _ _ _ _ _ _ _ _ _ _ _ j)
  unfold kernelRun0_B
  dsimp only
  refine ⟨?_, trivial⟩
  intro x
  dsimp only
  idx_vars x
  have e : (Rect.unit (s := Mat 2048 256) ![0, 0] ![2048, 256] inb_S2048x256_S2048x256_0_0).emb (ix2 x0 x1) = ix2 x0 x1 := by blk_ext
  refine Eq.trans ?_ (congrArg G e).symm
  rw [hG]
  have q : ∀ z : Arr 2048 256 .f32, k0_pay475 (F := Ideal) z (ix2 x0 x1) = z (ix2 x0 x1) := fun z => rfl
  refine (q _).trans ?_
  unfold kernelRun0_B.sl.v1904
  refine acc_load (f := upto 2048 P.knT) scM0_0.view ?_ (by decide) _ x0 x1
  unfold kernelRun0_B.sl.HS0_9
  refine kn_step (laterMask 1792 2048) P (hs0_0 t) (hs0_1 t) (hs0_2 t) (hs0_3 t) (hs0_4 t) (hs0_5 t) H (by decide) (by decide) rfl scM0_0.view _ _ _ ?_ ?_
  · rfl
  unfold kernelRun0_B.sl.HS0_8
  refine kn_step (laterMask 1536 1792) P (hs0_0 t) (hs0_1 t) (hs0_2 t) (hs0_3 t) (hs0_4 t) (hs0_5 t) H (by decide) (by decide) rfl scM0_0.view _ _ _ ?_ ?_
  · rfl
  unfold kernelRun0_B.sl.HS0_7
  refine kn_step (laterMask 1280 1536) P (hs0_0 t) (hs0_1 t) (hs0_2 t) (hs0_3 t) (hs0_4 t) (hs0_5 t) H (by decide) (by decide) rfl scM0_0.view _ _ _ ?_ ?_
  · rfl
  unfold kernelRun0_B.sl.HS0_6
  refine kn_step (laterMask 1024 1280) P (hs0_0 t) (hs0_1 t) (hs0_2 t) (hs0_3 t) (hs0_4 t) (hs0_5 t) H (by decide) (by decide) rfl scM0_0.view _ _ _ ?_ ?_
  · rfl
  unfold kernelRun0_B.sl.HS0_5
  refine kn_step (laterMask 768 1024) P (hs0_0 t) (hs0_1 t) (hs0_2 t) (hs0_3 t) (hs0_4 t) (hs0_5 t) H (by decide) (by decide) rfl scM0_0.view _ _ _ ?_ ?_
  · rfl
  unfold kernelRun0_B.sl.HS0_4
  refine kn_step (laterMask 512 768) P (hs0_0 t) (hs0_1 t) (hs0_2 t) (hs0_3 t) (hs0_4 t) (hs0_5 t) H (by decide) (by decide) rfl scM0_0.view _ _ _ ?_ ?_
  · rfl
  unfold kernelRun0_B.sl.HS0_3
  refine kn_step (laterMask 256 512) P (hs0_0 t) (hs0_1 t) (hs0_2 t) (hs0_3 t) (hs0_4 t) (hs0_5 t) H (by decide) (by decide) rfl scM0_0.view _ _ _ ?_ ?_
  · rfl
  unfold kernelRun0_B.sl.HS0_2
  refine kn_step (firstMask) P (hs0_0 t) (hs0_1 t) (hs0_2 t) (hs0_3 t) (hs0_4 t) (hs0_5 t) H (by decide) (by decide) rfl scM0_0.view _ _ _ ?_ ?_
  · rfl
  unfold kernelRun0_B.sl.HS0_1
  refine acc_zero _ _ _ fun j => ?_
  refine Eq.trans ?_ Ideal.ofBits_zero_f32
  unfold k0_pay2
  pointwise

set_option maxHeartbeats 1000000 in
/-- At a later pair, the rows of the gradient in the values. -/
theorem v_B (c : Dev nD) (t : Fin cfg0.N) (h0 : ¬t.val % 8 = 0) (h1 : 1 ≤ t.val) (P : Pair)
    (H : Full P (iblk m c 0 t) (iblk m c 1 t) (iblk m c 2 t) (iblk m c 3 t) (iblk m c 4 t) (iblk m c 5 t)) (G : Arr 2048 256 .bf16)
    (hG : ∀ r c, G (ix2 r c) = ((upto 2048 P.vT r.val c.val : ℝ) : EReal)) : (outsAt0 m c t.val t.isLt).2.2.2.1 = G := by
  rw [outsAt0_B m c t h0 h1]
  dsimp only
  unfold out0_B_9
  rw [View.read_writes_junk_eq_canon]
  funext j
  refine View.canon_apply_of_pieces (Val := Elt Ideal) (e := .bf16) G _ (View.PiecesOf.mem ?_) j (cover0_B_9 c _ _ _ _ _ _ _ _ _ _ _ _ _ _ _ _ _ _ _ _ _ _ _ _ _ _ _ _ _ _ _ _ _ _ _ _ _ _ j)
  unfold kernelRun0_B
  dsimp only
  refine ⟨?_, trivial⟩
  intro x
  dsimp only
  idx_vars x
  have e : (Rect.unit (s := Mat 2048 256) ![0, 0] ![2048, 256] inb_S2048x256_S2048x256_0_0).emb (ix2 x0 x1) = ix2 x0 x1 := by blk_ext
  refine Eq.trans ?_ (congrArg G e).symm
  rw [hG]
  have q : ∀ z : Arr 2048 256 .f32, k0_pay476 (F := Ideal) z (ix2 x0 x1) = z (ix2 x0 x1) := fun z => rfl
  refine (q _).trans ?_
  unfold kernelRun0_B.sl.v1907
  refine acc_load (f := upto 2048 P.vT) scM0_1.view ?_ (by decide) _ x0 x1
  unfold kernelRun0_B.sl.HS1_9
  refine v_step (laterMask 1792 2048) P (hs0_0 t) (hs0_1 t) (hs0_2 t) (hs0_3 t) (hs0_4 t) (hs0_5 t) H (by decide) (by decide) rfl scM0_1.view _ _ _ ?_ ?_
  · rfl
  unfold kernelRun0_B.sl.HS1_8
  refine v_step (laterMask 1536 1792) P (hs0_0 t) (hs0_1 t) (hs0_2 t) (hs0_3 t) (hs0_4 t) (hs0_5 t) H (by decide) (by decide) rfl scM0_1.view _ _ _ ?_ ?_
  · rfl
  unfold kernelRun0_B.sl.HS1_7
  refine v_step (laterMask 1280 1536) P (hs0_0 t) (hs0_1 t) (hs0_2 t) (hs0_3 t) (hs0_4 t) (hs0_5 t) H (by decide) (by decide) rfl scM0_1.view _ _ _ ?_ ?_
  · rfl
  unfold kernelRun0_B.sl.HS1_6
  refine v_step (laterMask 1024 1280) P (hs0_0 t) (hs0_1 t) (hs0_2 t) (hs0_3 t) (hs0_4 t) (hs0_5 t) H (by decide) (by decide) rfl scM0_1.view _ _ _ ?_ ?_
  · rfl
  unfold kernelRun0_B.sl.HS1_5
  refine v_step (laterMask 768 1024) P (hs0_0 t) (hs0_1 t) (hs0_2 t) (hs0_3 t) (hs0_4 t) (hs0_5 t) H (by decide) (by decide) rfl scM0_1.view _ _ _ ?_ ?_
  · rfl
  unfold kernelRun0_B.sl.HS1_4
  refine v_step (laterMask 512 768) P (hs0_0 t) (hs0_1 t) (hs0_2 t) (hs0_3 t) (hs0_4 t) (hs0_5 t) H (by decide) (by decide) rfl scM0_1.view _ _ _ ?_ ?_
  · rfl
  unfold kernelRun0_B.sl.HS1_3
  refine v_step (laterMask 256 512) P (hs0_0 t) (hs0_1 t) (hs0_2 t) (hs0_3 t) (hs0_4 t) (hs0_5 t) H (by decide) (by decide) rfl scM0_1.view _ _ _ ?_ ?_
  · rfl
  unfold kernelRun0_B.sl.HS1_2
  refine v_step (firstMask) P (hs0_0 t) (hs0_1 t) (hs0_2 t) (hs0_3 t) (hs0_4 t) (hs0_5 t) H (by decide) (by decide) rfl scM0_1.view _ _ _ ?_ ?_
  · rfl
  unfold kernelRun0_B.sl.HS1_1
  refine acc_zero _ _ _ fun j => ?_
  refine Eq.trans ?_ Ideal.ofBits_zero_f32
  unfold k0_pay3
  pointwise

set_option maxHeartbeats 1000000 in
/-- At a later pair, the rows of the gradient in the rotary keys are added to the carried ones. -/
theorem kr_B (c : Dev nD) (t : Fin cfg0.N) (h0 : ¬t.val % 8 = 0) (h1 : 1 ≤ t.val) (P : Pair)
    (H : Full P (iblk m c 0 t) (iblk m c 1 t) (iblk m c 2 t) (iblk m c 3 t) (iblk m c 4 t) (iblk m c 5 t)) (G : Arr 2048 128 .f32) (p : Arr 2048 128 .f32)
    (hp : (outsAt0 m c (t.val - 1) (Nat.lt_of_le_of_lt (Nat.sub_le t.val 1) t.isLt)).2.2.2.2 = p)
    (hG : ∀ r c, G (ix2 r c) = (p (ix2 r c) : EReal) + ((upto 2048 P.dkr r.val c.val : ℝ) : EReal)) : (outsAt0 m c t.val t.isLt).2.2.2.2 = G := by
  rw [outsAt0_B m c t h0 h1]
  dsimp only
  unfold out0_B_10
  rw [View.read_writes_junk_eq_canon]
  funext j
  refine View.canon_apply_of_pieces (Val := Elt Ideal) (e := .f32) G _ (View.PiecesOf.mem ?_) j (cover0_B_10 c _ _ _ _ _ _ _ _ _ _ _ _ _ _ _ _ _ _ _ _ _ _ _ _ _ _ _ _ _ _ _ _ _ _ _ _ _ _ j)
  unfold kernelRun0_B
  dsimp only
  refine ⟨?_, trivial⟩
  intro x
  dsimp only
  idx_vars x
  have e : (Rect.unit (s := Mat 2048 128) ![0, 0] ![2048, 128] inb_S2048x128_S2048x128_0_0).emb (ix2 x0 x1) = ix2 x0 x1 := by blk_ext
  refine Eq.trans ?_ (congrArg G e).symm
  rw [hG]
  have q : ∀ y z : Arr 2048 128 .f32, k0_pay1 (F := Ideal) y z (ix2 x0 x1) = (y (ix2 x0 x1) : EReal) + z (ix2 x0 x1) := fun y z => by
    unfold k0_pay1
    pointwise
  refine (q _ _).trans (congrArg₂ (· + ·) ((prev_at (hs0_10 t) _ _ x0 x1).trans (congrFun hp _)) ?_)
  unfold kernelRun0_B.sl.v1918
  refine acc_load (f := upto 2048 P.dkr) scM0_2.view ?_ (by decide) _ x0 x1
  unfold kernelRun0_B.sl.HS2_9
  refine kr_step (laterMask 1792 2048) P (hs0_0 t) (hs0_1 t) (hs0_2 t) (hs0_3 t) (hs0_4 t) (hs0_5 t) H (by decide) (by decide) rfl scM0_2.view _ _ _ ?_ ?_
  · rfl
  unfold kernelRun0_B.sl.HS2_8
  refine kr_step (laterMask 1536 1792) P (hs0_0 t) (hs0_1 t) (hs0_2 t) (hs0_3 t) (hs0_4 t) (hs0_5 t) H (by decide) (by decide) rfl scM0_2.view _ _ _ ?_ ?_
  · rfl
  unfold kernelRun0_B.sl.HS2_7
  refine kr_step (laterMask 1280 1536) P (hs0_0 t) (hs0_1 t) (hs0_2 t) (hs0_3 t) (hs0_4 t) (hs0_5 t) H (by decide) (by decide) rfl scM0_2.view _ _ _ ?_ ?_
  · rfl
  unfold kernelRun0_B.sl.HS2_6
  refine kr_step (laterMask 1024 1280) P (hs0_0 t) (hs0_1 t) (hs0_2 t) (hs0_3 t) (hs0_4 t) (hs0_5 t) H (by decide) (by decide) rfl scM0_2.view _ _ _ ?_ ?_
  · rfl
  unfold kernelRun0_B.sl.HS2_5
  refine kr_step (laterMask 768 1024) P (hs0_0 t) (hs0_1 t) (hs0_2 t) (hs0_3 t) (hs0_4 t) (hs0_5 t) H (by decide) (by decide) rfl scM0_2.view _ _ _ ?_ ?_
  · rfl
  unfold kernelRun0_B.sl.HS2_4
  refine kr_step (laterMask 512 768) P (hs0_0 t) (hs0_1 t) (hs0_2 t) (hs0_3 t) (hs0_4 t) (hs0_5 t) H (by decide) (by decide) rfl scM0_2.view _ _ _ ?_ ?_
  · rfl
  unfold kernelRun0_B.sl.HS2_3
  refine kr_step (laterMask 256 512) P (hs0_0 t) (hs0_1 t) (hs0_2 t) (hs0_3 t) (hs0_4 t) (hs0_5 t) H (by decide) (by decide) rfl scM0_2.view _ _ _ ?_ ?_
  · rfl
  unfold kernelRun0_B.sl.HS2_2
  refine kr_step (firstMask) P (hs0_0 t) (hs0_1 t) (hs0_2 t) (hs0_3 t) (hs0_4 t) (hs0_5 t) H (by decide) (by decide) rfl scM0_2.view _ _ _ ?_ ?_
  · rfl
  unfold kernelRun0_B.sl.HS2_1
  refine acc_zero _ _ _ fun j => ?_
  refine Eq.trans ?_ Ideal.ofBits_zero_f32
  unfold k0_pay4
  pointwise

end Cert.AttnIdeal.Vec
-- ==== Proof.AttnHeads.lean ====
/- Attention's backward pass head by head over the real numbers, and one row of the reference's own formulas. -/
module

public import proofs.«01_k».proof.Proof.AttnPieces

@[expose] public section

set_option maxRecDepth 16384

noncomputable section

namespace Cert.AttnSpec

open Idealize.ShloMosaic Cert.AttnIdeal.Vec

/-- The six arrays of the call as real numbers: head, row, lane; the rotary keys have no heads. -/
structure Heads where
  qn : ℕ → ℕ → ℕ → ℝ
  qr : ℕ → ℕ → ℕ → ℝ
  kn : ℕ → ℕ → ℕ → ℝ
  kr : ℕ → ℕ → ℝ
  v : ℕ → ℕ → ℕ → ℝ
  g : ℕ → ℕ → ℕ → ℝ

namespace Heads
variable (A : Heads)

/-- The score of key `k` at row `r`. -/
def sc (h r k : ℕ) : ℝ :=
  ((∑ d ∈ Finset.range 128, A.qn h r d * A.kn h k d) + ∑ d ∈ Finset.range 64, A.qr h r d * A.kr k d) * scl

/-- The gradient in the weight of key `k` at row `r`. -/
def dp (h r k : ℕ) : ℝ := ∑ d ∈ Finset.range 128, A.g h r d * A.v h k d

/-- The weight of key `k` at row `r`. -/
def w (h r k : ℕ) : ℝ := wt (A.sc h r) r k

/-- The gradient in the unscaled score. -/
def ds (h r k : ℕ) : ℝ := dsc (A.sc h r) (A.dp h r) r k * scl

/-- The gradient in the queries. -/
def dqn (h r d : ℕ) : ℝ := ∑ j ∈ Finset.range 2048, A.ds h r j * A.kn h j d

/-- The gradient in the rotary queries. -/
def dqr (h r d : ℕ) : ℝ := ∑ j ∈ Finset.range 2048, A.ds h r j * A.kr j d

/-- The gradient in the keys. -/
def dkn (h k d : ℕ) : ℝ := ∑ i ∈ Finset.range 2048, A.ds h i k * A.qn h i d

/-- The gradient in the values. -/
def dv (h k d : ℕ) : ℝ := ∑ i ∈ Finset.range 2048, A.w h i k * A.g h i d

/-- The gradient in the rotary keys, which all heads share. -/
def dkr (k d : ℕ) : ℝ := ∑ h ∈ Finset.range 16, ∑ i ∈ Finset.range 2048, A.ds h i k * A.qr h i d

end Heads

abbrev A4 (n : ℕ) : Type := (⟨4, ![1, 2048, 16, n]⟩ : Shape).Idx → EReal
abbrev A3 : Type := (⟨3, ![1, 2048, 64]⟩ : Shape).Idx → EReal

/-- The arguments are the real numbers of `A`. -/
structure Args (A : Heads) (x0 : A4 128) (x1 : A4 64) (x2 : A4 128) (x3 : A3) (x4 x5 : A4 128) : Prop where
  qn : ∀ r h d, x0 (ix4 0 r h d) = ((A.qn h.val r.val d.val : ℝ) : EReal)
  qr : ∀ r h d, x1 (ix4 0 r h d) = ((A.qr h.val r.val d.val : ℝ) : EReal)
  kn : ∀ r h d, x2 (ix4 0 r h d) = ((A.kn h.val r.val d.val : ℝ) : EReal)
  kr : ∀ r d, x3 (ix3 0 r d) = ((A.kr r.val d.val : ℝ) : EReal)
  v : ∀ r h d, x4 (ix4 0 r h d) = ((A.v h.val r.val d.val : ℝ) : EReal)
  g : ∀ r h d, x5 (ix4 0 r h d) = ((A.g h.val r.val d.val : ℝ) : EReal)

/-- Eight head pairs are the sixteen heads. -/
theorem sum_pairs (f : ℕ → ℝ) : ∑ h ∈ Finset.range 16, f h = ∑ s ∈ Finset.range 8, (f (2 * s) + f (2 * s + 1)) := by
  simp only [Finset.sum_range_succ, Finset.sum_range_zero]
  ring

namespace Heads
variable (A : Heads)

/-- Heads `2 t` and `2 t + 1` side by side, the rotary keys with zeros behind. -/
def pair (t : ℕ) : Pair where
  qn r c := A.qn (2 * t + c / 128) r (c % 128)
  qr r x := A.qr (2 * t + x / 64) r (x % 64)
  kn k c := A.kn (2 * t + c / 128) k (c % 128)
  kr k x := if x < 64 then A.kr k x else 0
  v k c := A.v (2 * t + c / 128) k (c % 128)
  g r c := A.g (2 * t + c / 128) r (c % 128)

theorem div_lane {n o d : ℕ} (h : d < n) : (n * o + d) / n = o := by
  rw [Nat.mul_add_div (by omega), Nat.div_eq_of_lt h, add_zero]
theorem mod_lane {n o d : ℕ} (h : d < n) : (n * o + d) % n = d := by
  rw [Nat.mul_add_mod, Nat.mod_eq_of_lt h]

/-- A pair's scores are its heads' scores. -/
theorem pair_sc (t o r k : ℕ) : (A.pair t).sc o r k = A.sc (2 * t + o) r k := by
  unfold Pair.sc sc pair
  refine congrArg (· * scl) (congrArg₂ (· + ·) (Finset.sum_congr rfl fun d hd => ?_) (Finset.sum_congr rfl fun d hd => ?_))
  · dsimp only
    rw [div_lane (Finset.mem_range.1 hd), mod_lane (Finset.mem_range.1 hd)]
  · dsimp only
    rw [div_lane (Finset.mem_range.1 hd), mod_lane (Finset.mem_range.1 hd), if_pos (Finset.mem_range.1 hd)]

theorem pair_dp (t o r k : ℕ) : (A.pair t).dp o r k = A.dp (2 * t + o) r k := by
  unfold Pair.dp dp pair
  refine Finset.sum_congr rfl fun d hd => ?_
  dsimp only
  rw [div_lane (Finset.mem_range.1 hd), mod_lane (Finset.mem_range.1 hd)]

theorem pair_w (t o r k : ℕ) : (A.pair t).w o r k = A.w (2 * t + o) r k := by
  unfold Pair.w w
  rw [funext (A.pair_sc t o r)]
theorem pair_ds (t o r k : ℕ) : (A.pair t).ds o r k = A.ds (2 * t + o) r k := by
  unfold Pair.ds ds
  rw [funext (A.pair_sc t o r), funext (A.pair_dp t o r)]

theorem pair_dqn (t r c : ℕ) : (A.pair t).dqn r c = A.dqn (2 * t + c / 128) r (c % 128) := by
  unfold Pair.dqn dqn
  exact Finset.sum_congr rfl fun j _ => congrArg (· * (A.pair t).kn j c) (A.pair_ds t (c / 128) r j)
theorem pair_dqr (t r x : ℕ) : (A.pair t).dqr r x = A.dqr (2 * t + x / 64) r (x % 64) := by
  unfold Pair.dqr dqr
  refine Finset.sum_congr rfl fun j _ => congrArg₂ (· * ·) (A.pair_ds t (x / 64) r j) ?_
  exact if_pos (Nat.mod_lt _ (by norm_num))
theorem pair_dkn (t k c : ℕ) : upto 2048 (A.pair t).knT k c = A.dkn (2 * t + c / 128) k (c % 128) := by
  unfold upto Pair.knT dkn
  exact Finset.sum_congr rfl fun i _ => congrArg (· * (A.pair t).qn i c) (A.pair_ds t (c / 128) i k)
theorem pair_dv (t k c : ℕ) : upto 2048 (A.pair t).vT k c = A.dv (2 * t + c / 128) k (c % 128) := by
  unfold upto Pair.vT dv
  exact Finset.sum_congr rfl fun i _ => congrArg (· * (A.pair t).g i c) (A.pair_w t (c / 128) i k)

/-- The five result arrays, the heads' lanes side by side. -/
def DQN : (⟨2, ![2048, 2048]⟩ : Shape).Idx → EReal := fun i => ((A.dqn ((i 1).val / 128) (i 0).val ((i 1).val % 128) : ℝ) : EReal)
def DQR : (⟨2, ![2048, 1024]⟩ : Shape).Idx → EReal := fun i => ((A.dqr ((i 1).val / 64) (i 0).val ((i 1).val % 64) : ℝ) : EReal)
def DKN : (⟨2, ![2048, 2048]⟩ : Shape).Idx → EReal := fun i => ((A.dkn ((i 1).val / 128) (i 0).val ((i 1).val % 128) : ℝ) : EReal)
def DV : (⟨2, ![2048, 2048]⟩ : Shape).Idx → EReal := fun i => ((A.dv ((i 1).val / 128) (i 0).val ((i 1).val % 128) : ℝ) : EReal)
def DKR : (⟨2, ![2048, 128]⟩ : Shape).Idx → EReal := fun i => (((if (i 1).val < 64 then A.dkr (i 0).val (i 1).val else 0) : ℝ) : EReal)

/-- The pairs' gradients in the rotary keys add up to the heads'. -/
theorem sum_dkr (k x : ℕ) :
    ∑ s ∈ Finset.range 8, ∑ i ∈ Finset.range 2048, (A.pair s).dkr i k x = if x < 64 then A.dkr k x else 0 := by
  split
  · next hx =>
    unfold dkr
    rw [sum_pairs]
    refine Finset.sum_congr rfl fun s _ => ?_
    rw [← Finset.sum_add_distrib]
    refine Finset.sum_congr rfl fun i _ => ?_
    unfold Pair.dkr
    rw [if_pos hx, pair_ds, pair_ds, add_zero]
    refine congrArg₂ (· + ·) (congrArg (fun z => A.ds (2 * s) i k * z) ?_) (congrArg (fun z => A.ds (2 * s + 1) i k * z) ?_)
    · show A.qr (2 * s + x / 64) i (x % 64) = _
      rw [Nat.div_eq_of_lt hx, Nat.mod_eq_of_lt hx, add_zero]
    · show A.qr (2 * s + (64 + x) / 64) i ((64 + x) % 64) = _
      rw [div_lane (o := 1) hx, mod_lane (n := 64) (o := 1) hx]
  · next hx =>
    refine Finset.sum_eq_zero fun s _ => Finset.sum_eq_zero fun i _ => ?_
    unfold Pair.dkr
    rw [if_neg hx]

end Heads

section row
variable {L : ℕ} (s e : Fin L → EReal) (dp : Fin L → EReal) (σ δ : ℕ → ℝ) {n : ℕ}

/-- One row of the exponentials and of their sum. -/
theorem exp_row (hn : n < L) (hs : ∀ k, s k = if k.val ≤ n then ((σ k.val : ℝ) : EReal) else ⊥) {T : EReal}
    (hT : T = Finset.univ.fold max (⊥ : EReal) s) (he : ∀ k, e k = Ideal.exp (s k - T)) :
    ∃ M : ℝ, (∀ k, e k = ((if k.val ≤ n then Real.exp (σ k.val - M) else 0 : ℝ) : EReal)) ∧
      ∑ k, e k = ((Real.exp (-M) * ∑ j ∈ Finset.range (n + 1), Real.exp (σ j) : ℝ) : EReal) := by
  obtain ⟨M, hM, -⟩ := fold_max_real s σ hn hs
  have h : ∀ k, e k = ((if k.val ≤ n then Real.exp (σ k.val - M) else 0 : ℝ) : EReal) := by
    intro k
    rw [he, hT, hM, hs]
    split
    · rw [← EReal.coe_sub, Ideal.exp_coe]
    · rw [EReal.bot_sub, Ideal.exp_bot, EReal.coe_zero]
  refine ⟨M, h, ?_⟩
  rw [Finset.sum_congr rfl fun k _ => h k, coe_sum, sum_upto (fun j => Real.exp (σ j - M)) hn, Finset.mul_sum]
  refine congrArg _ (Finset.sum_congr rfl fun j _ => ?_)
  rw [← Real.exp_add]
  ring_nf

/-- One row of the quotients by the sum. -/
theorem weight_row (hn : n < L) (hs : ∀ k, s k = if k.val ≤ n then ((σ k.val : ℝ) : EReal) else ⊥) {T : EReal}
    (hT : T = Finset.univ.fold max (⊥ : EReal) s) (he : ∀ k, e k = Ideal.exp (s k - T)) (k : Fin L) :
    Ideal.div (e k) (∑ j, e j) = ((wt σ n k.val : ℝ) : EReal) := by
  obtain ⟨M, h, hz⟩ := exp_row s e σ hn hs hT he
  have hp := total_pos σ n
  have hM := Real.exp_pos (-M)
  rw [hz, h, Ideal.div_coe (mul_pos hM hp).ne', ← EReal.coe_mul]
  refine congrArg _ ?_
  unfold wt
  split
  · rw [sub_eq_add_neg, Real.exp_add]
    field_simp
  · exact zero_mul _

/-- One row of the gradient through the quotients and the exponentials. -/
theorem score_row (hn : n < L) (hs : ∀ k, s k = if k.val ≤ n then ((σ k.val : ℝ) : EReal) else ⊥) {T : EReal}
    (hT : T = Finset.univ.fold max (⊥ : EReal) s) (he : ∀ k, e k = Ideal.exp (s k - T))
    (hd : ∀ k, dp k = ((δ k.val : ℝ) : EReal)) (k : Fin L) :
    (Ideal.div (dp k) (∑ j, e j) + -(∑ j, dp j * Ideal.div 1 ((∑ i, e i) * (∑ i, e i)) * e j)) * e k = ((dsc σ δ n k.val : ℝ) : EReal) := by
  obtain ⟨M, h, hz⟩ := exp_row s e σ hn hs hT he
  have hp := total_pos σ n
  have hM := Real.exp_pos (-M)
  set Z : ℝ := ∑ j ∈ Finset.range (n + 1), Real.exp (σ j) with hZ
  have hne : Real.exp (-M) * Z ≠ 0 := (mul_pos hM hp).ne'
  set D : ℝ := ∑ j ∈ Finset.range (n + 1), δ j * (1 / (Real.exp (-M) * Z * (Real.exp (-M) * Z))) * Real.exp (σ j - M) with hD
  have hsum : ∑ j, dp j * Ideal.div 1 ((∑ i, e i) * (∑ i, e i)) * e j = (D : EReal) := by
    rw [hD, ← sum_upto (fun j => δ j * (1 / (Real.exp (-M) * Z * (Real.exp (-M) * Z))) * Real.exp (σ j - M)) hn, ← coe_sum]
    refine Finset.sum_congr rfl fun j _ => ?_
    rw [hz, ← EReal.coe_mul, one_div_coe (mul_ne_zero hne hne), hd, h, ← EReal.coe_mul, ← EReal.coe_mul]
    refine congrArg _ ?_
    split
    · rfl
    · exact mul_zero _
  rw [hsum, hz, hd, h, Ideal.div_coe hne, ← EReal.coe_mul, ← EReal.coe_neg, ← EReal.coe_add, ← EReal.coe_mul]
  refine congrArg _ ?_
  unfold dsc wt
  split
  · have h3 : ∀ j ∈ Finset.range (n + 1), (if j ≤ n then Real.exp (σ j) / ∑ j ∈ Finset.range (n + 1), Real.exp (σ j) else 0) * δ j
        = Real.exp (-M) * Z * (δ j * (1 / (Real.exp (-M) * Z * (Real.exp (-M) * Z))) * Real.exp (σ j - M)) := by
      intro j hj
      rw [if_pos (by have := Finset.mem_range.1 hj; omega), sub_eq_add_neg, Real.exp_add, ← hZ]
      field_simp
    rw [Finset.sum_congr rfl h3, ← Finset.mul_sum, ← hD, sub_eq_add_neg, Real.exp_add, ← hZ]
    field_simp
    ring
  · simp
end row
end Cert.AttnSpec
-- ==== Proof.AttnRef.lean ====
/- The reference's attention gradients read at an index over the real numbers. -/
module

public import proofs.«01_k».proof.Proof.AttnHeads
public import proofs.«01_k».proof.Proof.Gen.AttnRefIdeal.Read

@[expose] public section

set_option maxRecDepth 16384

noncomputable section

namespace Cert.AttnRefIdeal.Rows

open Cert.AttnRefIdeal Cert.AttnRefIdeal.Gen Cert.AttnRefIdeal.Read Idealize.ShloMosaic Cert.AttnSpec
open Cert.AttnIdeal.Vec (scl scl_eq one_div_coe)

variable {A : Heads} {x0 : A4 128} {x1 : A4 64} {x2 : A4 128} {x3 : A3} {x4 x5 : A4 128} (H : Args A x0 x1 x2 x3 x4 x5)
include H

omit H in
/-- A sum of products of reals over `Fin n` is the real sum over `range n`. -/
theorem sum_mul {n : ℕ} (f g : ℕ → ℝ) :
    ∑ d : Fin n, ((f d.val : ℝ) : EReal) * ((g d.val : ℝ) : EReal) = ((∑ d ∈ Finset.range n, f d * g d : ℝ) : EReal) := by
  rw [← Fin.sum_univ_eq_sum_range (fun d => f d * g d) n, ← coe_sum]
  exact Finset.sum_congr rfl fun d _ => (EReal.coe_mul _ _).symm

theorem scores (h : Fin 16) (r k : Fin 2048) :
    val_main_v5 (F := Ideal) x0 x1 x2 x3 (ix4 0 h r k) = ((A.sc h.val r.val k.val : ℝ) : EReal) := by
  have h0 : val_main_v0 (F := Ideal) x0 x2 (ix4 0 h r k) = ((∑ d ∈ Finset.range 128, A.qn h r d * A.kn h k d : ℝ) : EReal) := by
    rw [val_main_v0_apply, ← sum_mul (fun d => A.qn h r d) fun d => A.kn h k d]
    exact Finset.sum_congr rfl fun d _ => congrArg₂ (· * ·) ((congrArg x0 (by blk_ext)).trans (H.qn r h d)) ((congrArg x2 (by blk_ext)).trans (H.kn k h d))
  have h1 : val_main_v2 (F := Ideal) x1 x3 (ix4 0 h r k) = ((∑ d ∈ Finset.range 64, A.qr h r d * A.kr k d : ℝ) : EReal) := by
    rw [val_main_v2_apply, val_main_v1_apply, ← sum_mul (fun d => A.qr h r d) fun d => A.kr k d]
    exact Finset.sum_congr rfl fun d _ => (mul_comm _ _).trans
      (congrArg₂ (· * ·) ((congrArg x1 (by blk_ext)).trans (H.qr r h d)) ((congrArg x3 (by blk_ext)).trans (H.kr k d)))
  rw [val_main_v5_apply, val_main_v3_apply, h0, h1, val_main_v4_apply, val_main_cst_apply]
  show ((_ : EReal) + _) * Ideal.ofBits .f32 0x3D93CD3A#32 = _
  rw [scl_eq, ← EReal.coe_add, ← EReal.coe_mul]
  rfl

omit H in
/-- The mask's bits: a key no later than its row. -/
theorem mask (h : Fin 16) (r k : Fin 2048) : val_main_v14_1 (F := Ideal) (ix4 0 h r k) = if k.val ≤ r.val then 1#1 else 0#1 := by
  rw [val_main_v14_1_apply, val_main_v13_apply, val_main_v12_apply, val_main_v10_apply, val_main_v11_apply, val_main_v7_apply,
    val_main_v9_apply, val_main_v6_apply, val_main_v8_apply]
  refine (WordCmp.cmpi_sle_ofNat (w := 32) (lt_trans k.isLt (by norm_num)) (lt_trans r.isLt (by norm_num))).trans ?_
  by_cases hk : k.val ≤ r.val
  · rw [if_pos hk, decide_eq_true hk]
    rfl
  · rw [if_neg hk, decide_eq_false hk]
    rfl

/-- The masked scores. -/
theorem masked (h : Fin 16) (r k : Fin 2048) :
    val_main_v14_0 (F := Ideal) x0 x1 x2 x3 (ix4 0 h r k) = if k.val ≤ r.val then ((A.sc h.val r.val k.val : ℝ) : EReal) else ⊥ := by
  rw [val_main_v14_0_apply, mask, scores H, val_main_call0_v2_apply, val_main_call0_v0_apply, val_main_cst_0_apply]
  by_cases hk : k.val ≤ r.val
  · rw [if_pos hk, if_pos hk]
    rfl
  · rw [if_neg hk, if_neg hk]
    show Ideal.ofBits .f32 0xFF800000#32 = _
    simp [Ideal.ofBits, Ideal.ieee]

omit H in
/-- The word of minus infinity. -/
theorem bot_eq : Ideal.ofBits .f32 0xFF800000#32 = (⊥ : EReal) := by simp [Ideal.ofBits, Ideal.ieee]

omit H in
theorem top (h : Fin 16) (r : Fin 2048) :
    val_main_v15 (F := Ideal) x0 x1 x2 x3 (ix3 0 h r) = Finset.univ.fold max (⊥ : EReal) fun k : Fin 2048 => val_main_v14_0 (F := Ideal) x0 x1 x2 x3 (ix4 0 h r k) := by
  unfold val_main_v15 val_main_cst_1
  generalize val_main_v14_0 (F := Ideal) x0 x1 x2 x3 = y
  pointwise
  rw [show Ideal.ofBits FTy.f32 4286578688#32 = (⊥ : EReal) from bot_eq]

omit H in
/-- The row's greatest score as it is subtracted. -/
theorem top_max (h : Fin 16) (r : Fin 2048) :
    val_main_v22 (F := Ideal) x0 x1 x2 x3 (ix3 0 h r) = val_main_v15 (F := Ideal) x0 x1 x2 x3 (ix3 0 h r) := by
  rw [val_main_v22_apply, val_main_v21_apply, val_main_cst_3_apply]
  show max (Ideal.ofBits .f32 0xFF800000#32) _ = _
  rw [bot_eq]
  exact max_eq_right bot_le

omit H in
/-- The exponentials. -/
theorem exps (h : Fin 16) (r k : Fin 2048) :
    val_main_v35 (F := Ideal) x0 x1 x2 x3 (ix4 0 h r k) =
      Ideal.exp (val_main_v14_0 (F := Ideal) x0 x1 x2 x3 (ix4 0 h r k) - val_main_v15 (F := Ideal) x0 x1 x2 x3 (ix3 0 h r)) := by
  rw [val_main_v35_apply, val_main_v34_apply, val_main_v33_apply, val_main_v32_apply, ← top_max]
  have e : idx_main_v32 (idx_main_v33 (ix4 0 h r k)) = ix3 0 h r := by blk_ext
  rw [e]
  rfl

omit H in
/-- The row's sum of the exponentials. -/
theorem total (h : Fin 16) (r : Fin 2048) :
    val_main_v36 (F := Ideal) x0 x1 x2 x3 (ix3 0 h r) = ∑ k : Fin 2048, val_main_v35 (F := Ideal) x0 x1 x2 x3 (ix4 0 h r k) := by
  rw [val_main_v36_apply, val_main_cst_9_apply]
  refine (congrArg₂ (· + ·) Ideal.ofBits_zero_f32 (Finset.sum_congr rfl fun k _ => ?_)).trans (zero_add _)
  exact congrArg (val_main_v35 (F := Ideal) x0 x1 x2 x3) (by blk_ext)

omit H in
theorem total_bcast (h : Fin 16) (r : Fin 2048) :
    val_main_v37 (F := Ideal) x0 x1 x2 x3 (ix4 0 h r 0) = val_main_v36 (F := Ideal) x0 x1 x2 x3 (ix3 0 h r) := by
  rw [val_main_v37_apply]
  exact congrArg (val_main_v36 (F := Ideal) x0 x1 x2 x3) (by blk_ext)

/-- The weights. -/
theorem weights (h : Fin 16) (r k : Fin 2048) :
    val_main_v39 (F := Ideal) x0 x1 x2 x3 (ix4 0 h r k) = ((A.w h.val r.val k.val : ℝ) : EReal) := by
  rw [val_main_v39_apply, val_main_v38_apply]
  refine (congrArg (Ideal.div _) ?_).trans (weight_row (n := r.val) (fun k => val_main_v14_0 (F := Ideal) x0 x1 x2 x3 (ix4 0 h r k))
    (fun k => val_main_v35 (F := Ideal) x0 x1 x2 x3 (ix4 0 h r k)) (A.sc h.val r.val) r.isLt (masked H h r) (top h r) (exps h r) k)
  exact (congrArg (val_main_v37 (F := Ideal) x0 x1 x2 x3) (by blk_ext)).trans ((total_bcast h r).trans (total h r))

/-- The gradient in the weights. -/
theorem dweights (h : Fin 16) (r k : Fin 2048) :
    val_main_v46 (F := Ideal) x4 x5 (ix4 0 h r k) = ((A.dp h.val r.val k.val : ℝ) : EReal) := by
  unfold Heads.dp
  rw [val_main_v46_apply, ← sum_mul (fun d => A.g h r d) fun d => A.v h k d]
  refine Finset.sum_congr rfl fun d _ => congrArg₂ (· * ·) ?_ ((congrArg x4 (by blk_ext)).trans (H.v k h d))
  rw [val_main_v45_apply]
  exact (congrArg x5 (by blk_ext)).trans (H.g r h d)

omit H in
/-- The gradient in the row's sum. -/
theorem dtotal (h : Fin 16) (r : Fin 2048) :
    val_main_v54 (F := Ideal) x0 x1 x2 x3 x4 x5 (ix4 0 h r 0) = -(∑ j : Fin 2048, val_main_v46 (F := Ideal) x4 x5 (ix4 0 h r j) *
      Ideal.div 1 ((∑ i : Fin 2048, val_main_v35 (F := Ideal) x0 x1 x2 x3 (ix4 0 h r i)) * (∑ i : Fin 2048, val_main_v35 (F := Ideal) x0 x1 x2 x3 (ix4 0 h r i)))
      * val_main_v35 (F := Ideal) x0 x1 x2 x3 (ix4 0 h r j)) := by
  rw [val_main_v54_apply, val_main_v53_apply, val_main_v52_apply, val_main_cst_11_apply, ← total, ← total_bcast]
  refine congrArg (fun z : EReal => -z) ((congrArg₂ (· + ·) Ideal.ofBits_zero_f32 (Finset.sum_congr rfl fun k _ => ?_)).trans (zero_add _))
  rw [val_main_v51_apply, val_main_v50_apply, val_main_v49_apply, val_main_v42_apply, val_main_v41_apply, val_main_cst_10_apply, val_main_v40_apply]
  refine congrArg₂ (· * ·) (congrArg₂ (· * ·) (congrArg (val_main_v46 (F := Ideal) x4 x5) (by blk_ext)) ?_)
    (congrArg (val_main_v35 (F := Ideal) x0 x1 x2 x3) (by blk_ext))
  have e : idx_main_v49 (idx_main_v52 (idx_main_v53 (ix4 0 h r 0)) k) = ix4 0 h r 0 := by blk_ext
  rw [e]
  exact congrArg₂ Ideal.div (Ideal.ofBits_one_f32) rfl

omit H in
theorem dtotal_sum (h : Fin 16) (r : Fin 2048) :
    val_main_v57 (F := Ideal) x0 x1 x2 x3 x4 x5 (ix2 h r) = val_main_v54 (F := Ideal) x0 x1 x2 x3 x4 x5 (ix4 0 h r 0) := by
  unfold val_main_v57
  generalize val_main_v54 (F := Ideal) x0 x1 x2 x3 x4 x5 = y
  simp only [Host.reduceAdd, Ideal.hostReduceAdd_def]
  unfold Ideal.hostReduceAdd
  refine (congrArg₂ (· + ·) Ideal.ofBits_zero_f32 ?_).trans (zero_add _)
  rw [Finset.sum_filter]
  refine (Finset.sum_eq_single (ix4 0 h r 0) (fun b _ hb => if_neg fun e => hb ?_) fun hb => absurd (Finset.mem_univ _) hb).trans (if_pos ?_)
  · idx_vars b
    obtain rfl : b1 = h := congrFun e 0
    obtain rfl : b2 = r := congrFun e 1
    rw [Subsingleton.elim b0 0, Subsingleton.elim b3 0]
  · funext b
    match b with
    | ⟨0, _⟩ => rfl
    | ⟨1, _⟩ => rfl

/-- The gradient in the unscaled scores. -/
theorem dscores (h : Fin 16) (r k : Fin 2048) :
    val_main_v64 (F := Ideal) x0 x1 x2 x3 x4 x5 (ix4 0 h r k) = ((A.ds h.val r.val k.val : ℝ) : EReal) := by
  have e : val_main_v61 (F := Ideal) x0 x1 x2 x3 x4 x5 (ix4 0 h r k) = ((dsc (A.sc h.val r.val) (A.dp h.val r.val) r.val k.val : ℝ) : EReal) := by
    rw [val_main_v61_apply, val_main_v60_apply, val_main_v56_apply, val_main_v55_apply, val_main_v59_apply, val_main_v58_apply]
    refine Eq.trans ?_ (score_row (n := r.val) (fun k => val_main_v14_0 (F := Ideal) x0 x1 x2 x3 (ix4 0 h r k))
      (fun k => val_main_v35 (F := Ideal) x0 x1 x2 x3 (ix4 0 h r k)) (fun k => val_main_v46 (F := Ideal) x4 x5 (ix4 0 h r k))
      (A.sc h.val r.val) (A.dp h.val r.val) r.isLt (masked H h r) (top h r) (exps h r) (dweights H h r) k)
    have e0 : idx_main_v55 (ix4 0 h r k) = ix4 0 h r 0 := by blk_ext
    have e1 : idx_main_v58 (idx_main_v59 (ix4 0 h r k)) = ix2 h r := by blk_ext
    rw [e0, e1, dtotal_sum, dtotal, total_bcast, total]
    rfl
  rw [val_main_v64_apply, val_main_v62_apply, mask, e, val_main_call1_v0_apply, val_main_call1_cst_apply, val_main_v63_apply,
    val_main_cst_13_apply]
  show _ * Ideal.ofBits .f32 0x3D93CD3A#32 = _
  rw [scl_eq]
  unfold Heads.ds
  rw [EReal.coe_mul]
  refine congrArg (· * _) ?_
  by_cases hk : k.val ≤ r.val
  · rw [if_pos hk]
    rfl
  · rw [if_neg hk]
    refine Ideal.ofBits_zero_f32.trans ?_
    unfold dsc wt
    rw [if_neg hk, zero_mul, EReal.coe_zero]

/-- The first result: the gradient in the queries. -/
theorem dqn_at (r c : Fin 2048) :
    val_main_v73 (F := Ideal) x0 x1 x2 x3 x4 x5 (ix2 r c) = ((A.dqn (c.val / 128) r.val (c.val % 128) : ℝ) : EReal) := by
  have hc : c.val / 128 < 16 := by have := c.isLt; omega
  have hm : c.val % 128 < 128 := Nat.mod_lt _ (by norm_num)
  have e : idx_main_v71 (idx_main_v72 (ix2 r c)) = ix4 0 ⟨c.val / 128, hc⟩ r ⟨c.val % 128, hm⟩ := by blk_ext
  rw [val_main_v73_apply, val_main_v72_apply, val_main_v71_apply, e, val_main_v70_apply]
  unfold Heads.dqn
  rw [← sum_mul (fun j => A.ds (c.val / 128) r j) fun j => A.kn (c.val / 128) j (c.val % 128)]
  refine Finset.sum_congr rfl fun j _ => congrArg₂ (· * ·) ((congrArg (val_main_v64 (F := Ideal) x0 x1 x2 x3 x4 x5) ?_).trans (dscores H ⟨c.val / 128, hc⟩ r j))
    ((congrArg x2 ?_).trans (H.kn j ⟨c.val / 128, hc⟩ ⟨c.val % 128, hm⟩))
  · blk_ext
  · blk_ext

/-- The second result: the gradient in the rotary queries. -/
theorem dqr_at (r : Fin 2048) (c : Fin 1024) :
    val_main_v74 (F := Ideal) x0 x1 x2 x3 x4 x5 (ix2 r c) = ((A.dqr (c.val / 64) r.val (c.val % 64) : ℝ) : EReal) := by
  have hc : c.val / 64 < 16 := by have := c.isLt; omega
  have hm : c.val % 64 < 64 := Nat.mod_lt _ (by norm_num)
  have e : idx_main_v74 (ix2 r c) = ix4 0 r ⟨c.val / 64, hc⟩ ⟨c.val % 64, hm⟩ := by blk_ext
  rw [val_main_v74_apply, e, val_main_v66_apply]
  unfold Heads.dqr
  rw [← sum_mul (fun j => A.ds (c.val / 64) r j) fun j => A.kr j (c.val % 64)]
  refine Finset.sum_congr rfl fun j _ => congrArg₂ (· * ·) ?_ ((congrArg x3 ?_).trans (H.kr j ⟨c.val % 64, hm⟩))
  · rw [val_main_v65_apply]
    exact (congrArg (val_main_v64 (F := Ideal) x0 x1 x2 x3 x4 x5) (by blk_ext)).trans (dscores H ⟨c.val / 64, hc⟩ r j)
  · blk_ext

/-- The third result: the gradient in the keys. -/
theorem dkn_at (r c : Fin 2048) :
    val_main_v76 (F := Ideal) x0 x1 x2 x3 x4 x5 (ix2 r c) = ((A.dkn (c.val / 128) r.val (c.val % 128) : ℝ) : EReal) := by
  have hc : c.val / 128 < 16 := by have := c.isLt; omega
  have hm : c.val % 128 < 128 := Nat.mod_lt _ (by norm_num)
  have e : idx_main_v69 (idx_main_v75 (ix2 r c)) = ix4 0 ⟨c.val / 128, hc⟩ r ⟨c.val % 128, hm⟩ := by blk_ext
  rw [val_main_v76_apply, val_main_v75_apply, val_main_v69_apply, e, val_main_v68_apply]
  unfold Heads.dkn
  rw [← sum_mul (fun i => A.ds (c.val / 128) i r) fun i => A.qn (c.val / 128) i (c.val % 128)]
  refine Finset.sum_congr rfl fun i _ => congrArg₂ (· * ·) ((congrArg (val_main_v64 (F := Ideal) x0 x1 x2 x3 x4 x5) ?_).trans (dscores H ⟨c.val / 128, hc⟩ i r))
    ((congrArg x0 ?_).trans (H.qn i ⟨c.val / 128, hc⟩ ⟨c.val % 128, hm⟩))
  · blk_ext
  · blk_ext

/-- The fourth result: the gradient in the values. -/
theorem dv_at (r c : Fin 2048) :
    val_main_v78 (F := Ideal) x0 x1 x2 x3 x5 (ix2 r c) = ((A.dv (c.val / 128) r.val (c.val % 128) : ℝ) : EReal) := by
  have hc : c.val / 128 < 16 := by have := c.isLt; omega
  have hm : c.val % 128 < 128 := Nat.mod_lt _ (by norm_num)
  have e : idx_main_v48 (idx_main_v77 (ix2 r c)) = ix4 0 ⟨c.val / 128, hc⟩ ⟨c.val % 128, hm⟩ r := by blk_ext
  rw [val_main_v78_apply, val_main_v77_apply, val_main_v48_apply, e, val_main_v47_apply]
  unfold Heads.dv
  rw [← sum_mul (fun i => A.w (c.val / 128) i r) fun i => A.g (c.val / 128) i (c.val % 128)]
  refine Finset.sum_congr rfl fun i _ => (mul_comm _ _).trans (congrArg₂ (· * ·)
    ((congrArg (val_main_v39 (F := Ideal) x0 x1 x2 x3) ?_).trans (weights H ⟨c.val / 128, hc⟩ i r)) ?_)
  · blk_ext
  · rw [val_main_v45_apply]
    exact (congrArg x5 (by blk_ext)).trans (H.g i ⟨c.val / 128, hc⟩ ⟨c.val % 128, hm⟩)

/-- The contraction over rows and heads. -/
theorem dkr_dot (r : Fin 2048) (d : Fin 64) :
    val_main_v67 (F := Ideal) x0 x1 x2 x3 x4 x5 (ix3 0 r d) = ((A.dkr r.val d.val : ℝ) : EReal) := by
  unfold val_main_v67
  simp only [Host.dotGeneral]
  rw [Ideal.dotGeneral_apply, ValueIdx.sum_contr2 dot_S1x2048x2048x16_S1x2048x16x64_S1x2048x64_23_12_1_3_0_0 2048 16 rfl rfl rfl, Finset.sum_comm]
  unfold Heads.dkr
  rw [← Fin.sum_univ_eq_sum_range (fun h => ∑ i ∈ Finset.range 2048, A.ds h i r.val * A.qr h i d.val) 16, ← coe_sum]
  refine Finset.sum_congr rfl fun h _ => ?_
  rw [← sum_mul (fun i => A.ds h i r) fun i => A.qr h i d]
  refine Finset.sum_congr rfl fun i _ => congrArg₂ (· * ·) ?_ ((congrArg x1 ?_).trans (H.qr i h d))
  · rw [val_main_v65_apply]
    refine (congrArg (val_main_v64 (F := Ideal) x0 x1 x2 x3 x4 x5) (funext fun a => Fin.ext ?_)).trans (dscores H h i r)
    match a with
    | ⟨0, _⟩ => rfl
    | ⟨1, _⟩ => exact ValueIdx.contrEquiv2_symm_val1 dot_S1x2048x2048x16_S1x2048x16x64_S1x2048x64_23_12_1_3_0_0 2048 16 rfl rfl rfl (i, h)
    | ⟨2, _⟩ => exact ValueIdx.contrEquiv2_symm_val0 dot_S1x2048x2048x16_S1x2048x16x64_S1x2048x64_23_12_1_3_0_0 2048 16 rfl rfl rfl (i, h)
    | ⟨3, _⟩ => rfl
  · funext a
    refine Fin.ext ?_
    match a with
    | ⟨0, _⟩ => rfl
    | ⟨1, _⟩ => exact ValueIdx.contrEquiv2_symm_val0 dot_S1x2048x2048x16_S1x2048x16x64_S1x2048x64_23_12_1_3_0_0 2048 16 rfl rfl rfl (i, h)
    | ⟨2, _⟩ => exact ValueIdx.contrEquiv2_symm_val1 dot_S1x2048x2048x16_S1x2048x16x64_S1x2048x64_23_12_1_3_0_0 2048 16 rfl rfl rfl (i, h)
    | ⟨3, _⟩ => rfl

/-- The fifth result: the gradient in the rotary keys and zeros behind. -/
theorem dkr_at (r : Fin 2048) (c : Fin 128) :
    val_main_v80 (F := Ideal) x0 x1 x2 x3 x4 x5 (ix2 r c) = (((if c.val < 64 then A.dkr r.val c.val else 0) : ℝ) : EReal) := by
  unfold val_main_v80
  by_cases hc : c.val < 64
  · rw [if_pos hc]
    refine Eq.trans ?_ (dkr_dot H r ⟨c.val, hc⟩)
    refine Eq.trans ?_ (congrArg (val_main_v67 (F := Ideal) x0 x1 x2 x3 x4 x5) (show idx_main_v79 (ix2 r ⟨c.val, hc⟩) = _ by blk_ext))
    rw [← val_main_v79_apply]
    generalize val_main_v79 (F := Ideal) x0 x1 x2 x3 x4 x5 = y
    rw [pad_apply, dif_pos (by
      intro a
      match a with
      | ⟨0, _⟩ => exact ⟨Nat.zero_le _, Nat.mod_one _, by have := r.isLt; simpa using this⟩
      | ⟨1, _⟩ => exact ⟨Nat.zero_le _, Nat.mod_one _, by simpa using hc⟩)]
    exact congrArg y (funext fun a => match a with
      | ⟨0, _⟩ => Fin.ext (Nat.div_one _)
      | ⟨1, _⟩ => Fin.ext (Nat.div_one _))
  · rw [if_neg hc]
    generalize val_main_v79 (F := Ideal) x0 x1 x2 x3 x4 x5 = y
    rw [pad_apply, dif_neg (by
      intro h
      have := (h ⟨1, by decide⟩).2.2
      exact hc (by simpa using this))]
    rw [val_main_call2_v0_apply, val_main_c_apply]
    show (((0#32 : BitVec 32).toInt : ℝ) : EReal) = _
    simp
end Cert.AttnRefIdeal.Rows
-- ==== Proof.AttnClaims.lean ====
/- The claims about the attention backward call: it runs, and on finite arguments its five results are the reference's. -/
module

public import proofs.«01_k».proof.Proof.AttnRef
public import proofs.«01_k».proof.Proof.Gen.Attn.Frame
public import proofs.«01_k».proof.Proof.Gen.Pre_attn_finite
public import Idealize.ShloMosaic.Lib.ReduceAll
public import Idealize.ShloMosaic.Lib.KernelVsHost

@[expose] public section

set_option maxRecDepth 16384

noncomputable section

namespace Cert.AttnIdeal.Whole

open Cert.AttnIdeal Cert.AttnIdeal.Gen Idealize.ShloMosaic Idealize.ShloMosaic.TcCoe Idealize.SL.Sem Cert.AttnSpec
open Cert.AttnIdeal.Vec (Pair Full upto)

variable (m : (ℓ : Loc nD τ sig) → Buf (Elt Ideal) ℓ)

theorem index_all : ∀ t : Fin cfg0.N, win0_0.index t = ![0, t.val] ∧ win0_1.index t = ![0, t.val] ∧ win0_2.index t = ![0, t.val] ∧ win0_3.index t = ![0, 0]
    ∧ win0_4.index t = ![0, t.val] ∧ win0_5.index t = ![0, t.val] ∧ win0_6.index t = ![0, t.val] ∧ win0_7.index t = ![0, t.val] ∧ win0_8.index t = ![0, t.val]
    ∧ win0_9.index t = ![0, t.val] :=
  (by decide +kernel : ∀ t : Fin grid0.N, win0_0.index t = ![0, t.val] ∧ win0_1.index t = ![0, t.val] ∧ win0_2.index t = ![0, t.val] ∧ win0_3.index t = ![0, 0]
    ∧ win0_4.index t = ![0, t.val] ∧ win0_5.index t = ![0, t.val] ∧ win0_6.index t = ![0, t.val] ∧ win0_7.index t = ![0, t.val] ∧ win0_8.index t = ![0, t.val]
    ∧ win0_9.index t = ![0, t.val])

/-- The six arguments on device `c`. -/
abbrev a0 (c : Dev nD) : A4 128 := m ((c : Thread nD τ).loc main_arg0)
abbrev a1 (c : Dev nD) : A4 64 := m ((c : Thread nD τ).loc main_arg1)
abbrev a2 (c : Dev nD) : A4 128 := m ((c : Thread nD τ).loc main_arg2)
abbrev a3 (c : Dev nD) : A3 := m ((c : Thread nD τ).loc main_arg3)
abbrev a4 (c : Dev nD) : A4 128 := m ((c : Thread nD τ).loc main_arg4)
abbrev a5 (c : Dev nD) : A4 128 := m ((c : Thread nD τ).loc main_arg5)

theorem t_lt (t : Fin cfg0.N) : t.val < 8 := by
  have := t.isLt; have : cfg0.N = 8 := N_0; omega
theorem head_lt (t : Fin cfg0.N) (k : Fin 256) : 2 * t.val + k.val / 128 < 16 := by
  have := t_lt t; omega
theorem lane_lt (k : Fin 256) : k.val % 128 < 128 := Nat.mod_lt _ (by norm_num)
theorem rhead_lt (t : Fin cfg0.N) (k : Fin 128) : 2 * t.val + k.val / 64 < 16 := by
  have := t_lt t; omega
theorem rlane_lt (k : Fin 128) : k.val % 64 < 64 := Nat.mod_lt _ (by norm_num)

theorem host_v4 (c : Dev nD) : (V m c main_v4 : S2048x2048.Idx → EReal) = shapeCast S2048x2048 (a0 m c) shapeCasts_S1x2048x16x128_S2048x2048 := by
  show StableHlo.after (List.flatten [hostOps0, hostOps0_1, hostOps0_2]) (fun b => m (c, b)) main_v4 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v6 (c : Dev nD) : (V m c main_v6 : S2048x1024.Idx → EReal) = shapeCast S2048x1024 (a1 m c) shapeCasts_S1x2048x16x64_S2048x1024 := by
  show StableHlo.after (List.flatten [hostOps0, hostOps0_1, hostOps0_2]) (fun b => m (c, b)) main_v6 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v8 (c : Dev nD) : (V m c main_v8 : S2048x2048.Idx → EReal) = shapeCast S2048x2048 (a2 m c) shapeCasts_S1x2048x16x128_S2048x2048 := by
  show StableHlo.after (List.flatten [hostOps0, hostOps0_1, hostOps0_2]) (fun b => m (c, b)) main_v8 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v10 (c : Dev nD) : (V m c main_v10 : S2048x2048.Idx → EReal) = shapeCast S2048x2048 (a4 m c) shapeCasts_S1x2048x16x128_S2048x2048 := by
  show StableHlo.after (List.flatten [hostOps0, hostOps0_1, hostOps0_2]) (fun b => m (c, b)) main_v10 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v12 (c : Dev nD) : (V m c main_v12 : S2048x2048.Idx → EReal) = shapeCast S2048x2048 (a5 m c) shapeCasts_S1x2048x16x128_S2048x2048 := by
  show StableHlo.after (List.flatten [hostOps0, hostOps0_1, hostOps0_2]) (fun b => m (c, b)) main_v12 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v2 (c : Dev nD) : (V m c main_v2 : S2048x128.Idx → EReal) =
    pad S2048x128 ![0, 0] ![0, 64] ![0, 0] (shapeCast S2048x64 (a3 m c) shapeCasts_S1x2048x64_S2048x64) (fun _ : S_.Idx => (((0#32 : BitVec 32).toInt : ℝ) : EReal))
      pads_S2048x64_S2048x128_000_0640 h_S_ := by
  show StableHlo.after (List.flatten [hostOps0, hostOps0_1, hostOps0_2]) (fun b => m (c, b)) main_v2 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl

theorem col_lt (t : Fin cfg0.N) (k : Fin 256) : 256 * t.val + k.val < 2048 := by
  have := t_lt t; omega
theorem rcol_lt (t : Fin cfg0.N) (k : Fin 128) : 128 * t.val + k.val < 1024 := by
  have := t_lt t; omega

/-- Rows of heads' lanes at a column. -/
theorem cast_at (x : A4 128) (t : Fin cfg0.N) (r : Fin 2048) (k : Fin 256) :
    shapeCast S2048x2048 x shapeCasts_S1x2048x16x128_S2048x2048 (ix2 r ⟨256 * t.val + k.val, col_lt t k⟩) =
      x (ix4 0 r ⟨2 * t.val + k.val / 128, head_lt t k⟩ ⟨k.val % 128, lane_lt k⟩) := by
  have := t_lt t
  pointwise
  exact congrArg x (by blk_ext)
theorem rcast_at (x : A4 64) (t : Fin cfg0.N) (r : Fin 2048) (k : Fin 128) :
    shapeCast S2048x1024 x shapeCasts_S1x2048x16x64_S2048x1024 (ix2 r ⟨128 * t.val + k.val, rcol_lt t k⟩) =
      x (ix4 0 r ⟨2 * t.val + k.val / 64, rhead_lt t k⟩ ⟨k.val % 64, rlane_lt k⟩) := by
  have := t_lt t
  pointwise
  exact congrArg x (by blk_ext)

theorem blk0 (c : Dev nD) (t : Fin cfg0.N) (r : Fin 2048) (k : Fin 256) :
    iblk m c 0 t (ix2 r k) = a0 m c (ix4 0 r ⟨2 * t.val + k.val / 128, head_lt t k⟩ ⟨k.val % 128, lane_lt k⟩) := by
  have e : ((cfg0.win 0).blk t).view.emb (ix2 r k) = ix2 r ⟨256 * t.val + k.val, col_lt t k⟩ := by blk_ext [(index_all t).1]
  show (V m c main_v4 : _ → EReal) (((cfg0.win 0).blk t).view.emb (ix2 r k)) = _
  rw [e, host_v4]
  exact cast_at _ t r k
theorem blk1 (c : Dev nD) (t : Fin cfg0.N) (r : Fin 2048) (k : Fin 128) :
    iblk m c 1 t (ix2 r k) = a1 m c (ix4 0 r ⟨2 * t.val + k.val / 64, rhead_lt t k⟩ ⟨k.val % 64, rlane_lt k⟩) := by
  have e : ((cfg0.win 1).blk t).view.emb (ix2 r k) = ix2 r ⟨128 * t.val + k.val, rcol_lt t k⟩ := by blk_ext [(index_all t).2.1]
  show (V m c main_v6 : _ → EReal) (((cfg0.win 1).blk t).view.emb (ix2 r k)) = _
  rw [e, host_v6]
  exact rcast_at _ t r k
theorem blk2 (c : Dev nD) (t : Fin cfg0.N) (r : Fin 2048) (k : Fin 256) :
    iblk m c 2 t (ix2 r k) = a2 m c (ix4 0 r ⟨2 * t.val + k.val / 128, head_lt t k⟩ ⟨k.val % 128, lane_lt k⟩) := by
  have e : ((cfg0.win 2).blk t).view.emb (ix2 r k) = ix2 r ⟨256 * t.val + k.val, col_lt t k⟩ := by blk_ext [(index_all t).2.2.1]
  show (V m c main_v8 : _ → EReal) (((cfg0.win 2).blk t).view.emb (ix2 r k)) = _
  rw [e, host_v8]
  exact cast_at _ t r k
theorem blk4 (c : Dev nD) (t : Fin cfg0.N) (r : Fin 2048) (k : Fin 256) :
    iblk m c 4 t (ix2 r k) = a4 m c (ix4 0 r ⟨2 * t.val + k.val / 128, head_lt t k⟩ ⟨k.val % 128, lane_lt k⟩) := by
  have e : ((cfg0.win 4).blk t).view.emb (ix2 r k) = ix2 r ⟨256 * t.val + k.val, col_lt t k⟩ := by blk_ext [(index_all t).2.2.2.2.1]
  show (V m c main_v10 : _ → EReal) (((cfg0.win 4).blk t).view.emb (ix2 r k)) = _
  rw [e, host_v10]
  exact cast_at _ t r k
theorem blk5 (c : Dev nD) (t : Fin cfg0.N) (r : Fin 2048) (k : Fin 256) :
    iblk m c 5 t (ix2 r k) = a5 m c (ix4 0 r ⟨2 * t.val + k.val / 128, head_lt t k⟩ ⟨k.val % 128, lane_lt k⟩) := by
  have e : ((cfg0.win 5).blk t).view.emb (ix2 r k) = ix2 r ⟨256 * t.val + k.val, col_lt t k⟩ := by blk_ext [(index_all t).2.2.2.2.2.1]
  show (V m c main_v12 : _ → EReal) (((cfg0.win 5).blk t).view.emb (ix2 r k)) = _
  rw [e, host_v12]
  exact cast_at _ t r k
theorem blk3 (c : Dev nD) (t : Fin cfg0.N) (r : Fin 2048) (k : Fin 128) :
    iblk m c 3 t (ix2 r k) = if h : k.val < 64 then a3 m c (ix3 0 r ⟨k.val, h⟩) else 0 := by
  have e : ((cfg0.win 3).blk t).view.emb (ix2 r k) = ix2 r k := by blk_ext [(index_all t).2.2.2.1]
  show (V m c main_v2 : _ → EReal) (((cfg0.win 3).blk t).view.emb (ix2 r k)) = _
  rw [e, host_v2]
  pointwise
  by_cases hk : k.val < 64
  · rw [dif_pos hk, dif_pos hk]
  · rw [dif_neg hk, dif_neg hk]
    simp

variable {m} {c : Dev nD} {A : Heads} (H : Args A (a0 m c) (a1 m c) (a2 m c) (a3 m c) (a4 m c) (a5 m c))
include H

/-- A point's blocks are its head pair's. -/
theorem full (t : Fin cfg0.N) :
    Full (A.pair t.val) (iblk m c 0 t) (iblk m c 1 t) (iblk m c 2 t) (iblk m c 3 t) (iblk m c 4 t) (iblk m c 5 t) where
  qn i k := (blk0 m c t i k).trans (H.qn _ _ _)
  qr i k := (blk1 m c t i k).trans (H.qr _ _ _)
  kn i k := (blk2 m c t i k).trans (H.kn _ _ _)
  kr i k := by
    refine (blk3 m c t i k).trans ?_
    unfold Heads.pair
    dsimp only
    by_cases hk : k.val < 64
    · rw [dif_pos hk, if_pos hk]
      exact H.kr _ _
    · rw [dif_neg hk, if_neg hk, EReal.coe_zero]
  v i k := (blk4 m c t i k).trans (H.v _ _ _)
  g i k := (blk5 m c t i k).trans (H.g _ _ _)

omit H in
theorem cases_t (t : Fin cfg0.N) : (t.val % 8 = 0 ∧ ¬1 ≤ t.val) ∨ (¬t.val % 8 = 0 ∧ 1 ≤ t.val) := by
  have := t_lt t; omega

/-- What a point leaves of the gradient in the queries. -/
theorem qn_point (t : Fin cfg0.N) (r : Fin 2048) (k : Fin 256) :
    (((outsAt0 m c t.val t.isLt).1 : (⟨2, ![2048, 256]⟩ : Shape).Idx → EReal)) (ix2 r k) = ((A.dqn (2 * t.val + k.val / 128) r.val (k.val % 128) : ℝ) : EReal) := by
  rcases cases_t t with ⟨h0, h1⟩ | ⟨h0, h1⟩
  · exact congrFun (Vec.qn_A m c t h0 h1 _ (full H t) (fun i => ((A.dqn (2 * t.val + (i 1).val / 128) (i 0).val ((i 1).val % 128) : ℝ) : EReal))
      fun r k => congrArg _ (A.pair_dqn t.val r.val k.val).symm) (ix2 r k)
  · exact congrFun (Vec.qn_B m c t h0 h1 _ (full H t) (fun i => ((A.dqn (2 * t.val + (i 1).val / 128) (i 0).val ((i 1).val % 128) : ℝ) : EReal))
      fun r k => congrArg _ (A.pair_dqn t.val r.val k.val).symm) (ix2 r k)

/-- After the run: the gradient in the queries. -/
theorem qn_final : (dats m 0 c).arrAt 6 cfg0.N = A.DQN := by
  refine (dats m 0 c).arrAt_eq_of_covers 6 _ (by decide +kernel) fun t hf y => ?_
  blk_simp
  rw [after0_6]
  idx_vars y
  have e : ((cfg0.win 6).blk t).view.emb (ix2 y0 y1) = ix2 y0 ⟨256 * t.val + y1.val, col_lt t y1⟩ := by blk_ext [(index_all t).2.2.2.2.2.2.1]
  refine Eq.trans ?_ (congrArg A.DQN e.symm)
  refine Eq.trans ?_ (qn_point H t y0 y1) |>.trans ?_
  · exact congrArg _ (by blk_ext)
  · unfold Heads.DQN
    dsimp only
    have h1 : (256 * t.val + y1.val) / 128 = 2 * t.val + y1.val / 128 := by omega
    have h2 : (256 * t.val + y1.val) % 128 = y1.val % 128 := by omega
    exact congrArg₂ (fun a b => ((A.dqn a y0.val b : ℝ) : EReal)) h1.symm h2.symm

/-- What a point leaves of the gradient in the rotary queries. -/
theorem qr_point (t : Fin cfg0.N) (r : Fin 2048) (k : Fin 128) :
    (((outsAt0 m c t.val t.isLt).2.1 : (⟨2, ![2048, 128]⟩ : Shape).Idx → EReal)) (ix2 r k) = ((A.dqr (2 * t.val + k.val / 64) r.val (k.val % 64) : ℝ) : EReal) := by
  rcases cases_t t with ⟨h0, h1⟩ | ⟨h0, h1⟩
  · exact congrFun (Vec.qr_A m c t h0 h1 _ (full H t) (fun i => ((A.dqr (2 * t.val + (i 1).val / 64) (i 0).val ((i 1).val % 64) : ℝ) : EReal))
      fun r k => congrArg _ (A.pair_dqr t.val r.val k.val).symm) (ix2 r k)
  · exact congrFun (Vec.qr_B m c t h0 h1 _ (full H t) (fun i => ((A.dqr (2 * t.val + (i 1).val / 64) (i 0).val ((i 1).val % 64) : ℝ) : EReal))
      fun r k => congrArg _ (A.pair_dqr t.val r.val k.val).symm) (ix2 r k)

/-- After the run: the gradient in the rotary queries. -/
theorem qr_final : (dats m 0 c).arrAt 7 cfg0.N = A.DQR := by
  refine (dats m 0 c).arrAt_eq_of_covers 7 _ (by decide +kernel) fun t hf y => ?_
  blk_simp
  rw [after0_7]
  idx_vars y
  have e : ((cfg0.win 7).blk t).view.emb (ix2 y0 y1) = ix2 y0 ⟨128 * t.val + y1.val, rcol_lt t y1⟩ := by blk_ext [(index_all t).2.2.2.2.2.2.2.1]
  refine Eq.trans ?_ (congrArg A.DQR e.symm)
  refine Eq.trans ?_ (qr_point H t y0 y1) |>.trans ?_
  · exact congrArg _ (by blk_ext)
  · unfold Heads.DQR
    dsimp only
    have h1 : (128 * t.val + y1.val) / 64 = 2 * t.val + y1.val / 64 := by omega
    have h2 : (128 * t.val + y1.val) % 64 = y1.val % 64 := by omega
    exact congrArg₂ (fun a b => ((A.dqr a y0.val b : ℝ) : EReal)) h1.symm h2.symm

/-- What a point leaves of the gradient in the keys. -/
theorem kn_point (t : Fin cfg0.N) (r : Fin 2048) (k : Fin 256) :
    (((outsAt0 m c t.val t.isLt).2.2.1 : (⟨2, ![2048, 256]⟩ : Shape).Idx → EReal)) (ix2 r k) = ((A.dkn (2 * t.val + k.val / 128) r.val (k.val % 128) : ℝ) : EReal) := by
  rcases cases_t t with ⟨h0, h1⟩ | ⟨h0, h1⟩
  · exact congrFun (Vec.kn_A m c t h0 h1 _ (full H t) (fun i => ((A.dkn (2 * t.val + (i 1).val / 128) (i 0).val ((i 1).val % 128) : ℝ) : EReal))
      fun r k => congrArg _ (A.pair_dkn t.val r.val k.val).symm) (ix2 r k)
  · exact congrFun (Vec.kn_B m c t h0 h1 _ (full H t) (fun i => ((A.dkn (2 * t.val + (i 1).val / 128) (i 0).val ((i 1).val % 128) : ℝ) : EReal))
      fun r k => congrArg _ (A.pair_dkn t.val r.val k.val).symm) (ix2 r k)

/-- After the run: the gradient in the keys. -/
theorem kn_final : (dats m 0 c).arrAt 8 cfg0.N = A.DKN := by
  refine (dats m 0 c).arrAt_eq_of_covers 8 _ (by decide +kernel) fun t hf y => ?_
  blk_simp
  rw [after0_8]
  idx_vars y
  have e : ((cfg0.win 8).blk t).view.emb (ix2 y0 y1) = ix2 y0 ⟨256 * t.val + y1.val, col_lt t y1⟩ := by blk_ext [(index_all t).2.2.2.2.2.2.2.2.1]
  refine Eq.trans ?_ (congrArg A.DKN e.symm)
  refine Eq.trans ?_ (kn_point H t y0 y1) |>.trans ?_
  · exact congrArg _ (by blk_ext)
  · unfold Heads.DKN
    dsimp only
    have h1 : (256 * t.val + y1.val) / 128 = 2 * t.val + y1.val / 128 := by omega
    have h2 : (256 * t.val + y1.val) % 128 = y1.val % 128 := by omega
    exact congrArg₂ (fun a b => ((A.dkn a y0.val b : ℝ) : EReal)) h1.symm h2.symm

/-- What a point leaves of the gradient in the values. -/
theorem v_point (t : Fin cfg0.N) (r : Fin 2048) (k : Fin 256) :
    (((outsAt0 m c t.val t.isLt).2.2.2.1 : (⟨2, ![2048, 256]⟩ : Shape).Idx → EReal)) (ix2 r k) = ((A.dv (2 * t.val + k.val / 128) r.val (k.val % 128) : ℝ) : EReal) := by
  rcases cases_t t with ⟨h0, h1⟩ | ⟨h0, h1⟩
  · exact congrFun (Vec.v_A m c t h0 h1 _ (full H t) (fun i => ((A.dv (2 * t.val + (i 1).val / 128) (i 0).val ((i 1).val % 128) : ℝ) : EReal))
      fun r k => congrArg _ (A.pair_dv t.val r.val k.val).symm) (ix2 r k)
  · exact congrFun (Vec.v_B m c t h0 h1 _ (full H t) (fun i => ((A.dv (2 * t.val + (i 1).val / 128) (i 0).val ((i 1).val % 128) : ℝ) : EReal))
      fun r k => congrArg _ (A.pair_dv t.val r.val k.val).symm) (ix2 r k)

/-- After the run: the gradient in the values. -/
theorem v_final : (dats m 0 c).arrAt 9 cfg0.N = A.DV := by
  refine (dats m 0 c).arrAt_eq_of_covers 9 _ (by decide +kernel) fun t hf y => ?_
  blk_simp
  rw [after0_9]
  idx_vars y
  have e : ((cfg0.win 9).blk t).view.emb (ix2 y0 y1) = ix2 y0 ⟨256 * t.val + y1.val, col_lt t y1⟩ := by blk_ext [(index_all t).2.2.2.2.2.2.2.2.2]
  refine Eq.trans ?_ (congrArg A.DV e.symm)
  refine Eq.trans ?_ (v_point H t y0 y1) |>.trans ?_
  · exact congrArg _ (by blk_ext)
  · unfold Heads.DV
    dsimp only
    have h1 : (256 * t.val + y1.val) / 128 = 2 * t.val + y1.val / 128 := by omega
    have h2 : (256 * t.val + y1.val) % 128 = y1.val % 128 := by omega
    exact congrArg₂ (fun a b => ((A.dv a y0.val b : ℝ) : EReal)) h1.symm h2.symm

/-- The gradient in the rotary keys up to point `n`. -/
theorem kr_point (n : ℕ) (hn : n < cfg0.N) :
    (outsAt0 m c n hn).2.2.2.2 = fun i => ((∑ s ∈ Finset.range (n + 1), upto 2048 (A.pair s).dkr (i 0).val (i 1).val : ℝ) : EReal) := by
  induction n with
  | zero =>
    exact Vec.kr_A m c ⟨0, hn⟩ (by norm_num) (by norm_num) _ (full H ⟨0, hn⟩) _ fun r k => congrArg _ (Finset.sum_range_one _)
  | succ n ih =>
    have h8 : n + 1 < 8 := t_lt ⟨n + 1, hn⟩
    exact Vec.kr_B m c ⟨n + 1, hn⟩ (by dsimp only; omega) (by dsimp only; omega) _ (full H ⟨n + 1, hn⟩) _ _ (ih (by omega)) fun r k => by
      rw [← EReal.coe_add]
      exact congrArg _ (Finset.sum_range_succ _ _)

/-- After the run: the gradient in the rotary keys. -/
theorem kr_final : (dats m 0 c).arrAt 10 cfg0.N = A.DKR := by
  refine (dats m 0 c).arrAt_eq_of_after_last 10 t0_7 (by decide +kernel) _ fun j => ?_
  blk_simp
  rw [after0_10]
  refine (congrFun (kr_point H 7 t0_7.isLt) j).trans ?_
  idx_vars j
  unfold Heads.DKR
  exact congrArg _ (A.sum_dkr j0.val j1.val)
end Cert.AttnIdeal.Whole

namespace Cert.Proof.AttnClaims

open Idealize.ShloMosaic Idealize.SL.Sem AttnSpec

/-- A value whose magnitude is below infinity is a real number. -/
theorem real_of_olt {x : Ideal .f32}
    (h : FloatOps.cmpf .olt (FloatOps.hostAbsf x) (FloatOps.ofBits (F := Ideal) .f32 0x7F800000#32) = 1#1) :
    ((EReal.toReal x : ℝ) : EReal) = x := by
  rw [← Idealize.ShloMosaic.Ideal.xori_weird_eq_hostAbsf_olt_inf] at h
  have hw : ¬ ((x : EReal) = ⊤ ∨ (x : EReal) = ⊥) := by
    intro hx
    have e : (FloatOps.weird x : BitVec 1) = 1#1 := by
      show BitVec.ofBool (decide ((x : EReal) = ⊤ ∨ (x : EReal) = ⊥)) = 1#1
      rw [decide_eq_true hx]; rfl
    rw [e] at h
    exact absurd h (by decide)
  push Not at hw
  exact EReal.coe_toReal hw.1 hw.2

/-- Where the conjunction of "magnitude below infinity" over a whole array is one, every entry is a real number. -/
theorem real_of_all {s t u : Shape} [Subsingleton t.Idx] {axes : List (Fin s.rank)} (x : FVec Ideal s .f32) (b : FVec Ideal s .f32)
    (hb : ∀ i, b i = FloatOps.ofBits (F := Ideal) .f32 0x7F800000#32) (init : IVec u 1) (h : s.ReducesTo axes t) (hu : 0 < u.numel) (j : t.Idx)
    (e : Host.reduce IntOp.andi (cmpf .olt (Host.absf x) b) init h hu j = 1#1) (i : s.Idx) : ((EReal.toReal (x i) : ℝ) : EReal) = x i := by
  have := Host.reduce_andi_all _ _ _ _ j e i
  refine real_of_olt ?_
  rw [← hb i]
  exact this

/-- The precondition says that all six arrays hold real numbers. -/
theorem real_args (x0 : A4 128) (x1 : A4 64) (x2 : A4 128) (x3 : A3) (x4 x5 : A4 128)
    (h : Pre_attn_finite.fn (F := Ideal) x0 x1 x2 x3 x4 x5 = fun _ => 1#1) :
    (∀ i, ((EReal.toReal (x0 i) : ℝ) : EReal) = x0 i) ∧ (∀ i, ((EReal.toReal (x1 i) : ℝ) : EReal) = x1 i)
    ∧ (∀ i, ((EReal.toReal (x2 i) : ℝ) : EReal) = x2 i) ∧ (∀ i, ((EReal.toReal (x3 i) : ℝ) : EReal) = x3 i)
    ∧ (∀ i, ((EReal.toReal (x4 i) : ℝ) : EReal) = x4 i) ∧ (∀ i, ((EReal.toReal (x5 i) : ℝ) : EReal) = x5 i) := by
  have hj := congrFun h default
  dsimp only [Pre_attn_finite.fn, Pre_attn_finite.fn_part1] at hj
  obtain ⟨hj, h5⟩ := IntOp.andi_eq_one.1 hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  exact ⟨real_of_all _ _ (fun _ => rfl) _ _ _ _ h0, real_of_all _ _ (fun _ => rfl) _ _ _ _ h1, real_of_all _ _ (fun _ => rfl) _ _ _ _ h2,
    real_of_all _ _ (fun _ => rfl) _ _ _ _ h3, real_of_all _ _ (fun _ => rfl) _ _ _ _ h4, real_of_all _ _ (fun _ => rfl) _ _ _ _ h5⟩

/-- The real numbers in the six arrays, read by head, row and lane. -/
def heads (x0 : A4 128) (x1 : A4 64) (x2 : A4 128) (x3 : A3) (x4 x5 : A4 128) : Heads where
  qn h r d := (x0 (ix4 0 (Fin.ofNat 2048 r) (Fin.ofNat 16 h) (Fin.ofNat 128 d))).toReal
  qr h r d := (x1 (ix4 0 (Fin.ofNat 2048 r) (Fin.ofNat 16 h) (Fin.ofNat 64 d))).toReal
  kn h r d := (x2 (ix4 0 (Fin.ofNat 2048 r) (Fin.ofNat 16 h) (Fin.ofNat 128 d))).toReal
  kr r d := (x3 (ix3 0 (Fin.ofNat 2048 r) (Fin.ofNat 64 d))).toReal
  v h r d := (x4 (ix4 0 (Fin.ofNat 2048 r) (Fin.ofNat 16 h) (Fin.ofNat 128 d))).toReal
  g h r d := (x5 (ix4 0 (Fin.ofNat 2048 r) (Fin.ofNat 16 h) (Fin.ofNat 128 d))).toReal

/-- A natural number below the bound is its own index. -/
theorem ofNat_val {n : ℕ} [NeZero n] (k : Fin n) : Fin.ofNat n k.val = k := Fin.ext (Nat.mod_eq_of_lt k.isLt)

/-- On arrays of real numbers, the numbers just read are the arrays. -/
theorem args_of (x0 : A4 128) (x1 : A4 64) (x2 : A4 128) (x3 : A3) (x4 x5 : A4 128)
    (h : Pre_attn_finite.fn (F := Ideal) x0 x1 x2 x3 x4 x5 = fun _ => 1#1) : Args (heads x0 x1 x2 x3 x4 x5) x0 x1 x2 x3 x4 x5 := by
  obtain ⟨h0, h1, h2, h3, h4, h5⟩ := real_args x0 x1 x2 x3 x4 x5 h
  constructor <;> intros <;> simp only [heads, ofNat_val, h0, h1, h2, h3, h4, h5]

/-- The call terminates, leaves its arguments and its counters as they were. -/
theorem frame_p : quiescent_Attn := fun m ρ _ => Attn.Gen.frame m ρ

/-- So does its ideal reading. -/
theorem frame_pi : quiescent_AttnIdeal := fun m ρ _ => AttnIdeal.Gen.frame m ρ

/-- So does its ideal reading, on finite arguments. -/
theorem frame_pi_pre : quiescent_AttnIdeal_pre_attn_finite := fun m ρ _ => AttnIdeal.Gen.frame m ρ

/-- The reference terminates and leaves its arguments as they were. -/
theorem frame_ri : quiescent_AttnRefIdeal := fun m ρ _ =>
  (θ_run AttnRefIdeal.defs _ _).mono (fun r h => ⟨fun c => (h c).2.2.2.2.2, sem_eq_zero_of_no_sems (by decide) r.2⟩)
    (AttnRefIdeal.Value.run (F := Ideal) m ρ)

/-- So it does on finite arguments. -/
theorem frame_ri_pre : quiescent_AttnRefIdeal_pre_attn_finite := fun m ρ _ => frame_ri m ρ trivial

/-- The word of the mask is read as minus infinity. -/
theorem preserves : preserves_Attn_AttnIdeal :=
  IdealRules.named_const.statement AttnIdeal.κ "mask" .f32 0xF149F2CA#32 ⊥ rfl

/-- On finite arguments the call and the reference, at exact arithmetic, end with the same five gradients. -/
theorem algebraic : algebraic_AttnIdeal_AttnRefIdeal_pre_attn_finite := by
  intro m ρ m' ρ' hpre hagree
  refine ⟨_, _, _, _, _, AttnIdeal.Value.run_blocks (F := Ideal) m ρ, ?_⟩
  have H := fun c => args_of _ _ _ _ _ _ (hpre c)
  refine (θ_run AttnRefIdeal.defs _ _).mono (fun _ h c => ⟨(h c).1.trans ?_, (h c).2.1.trans ?_, (h c).2.2.1.trans ?_, (h c).2.2.2.1.trans ?_,
    (h c).2.2.2.2.1.trans ?_, (h c).2.2.2.2.2⟩) (AttnRefIdeal.Value.run (F := Ideal) m' ρ')
  · rw [AttnRefIdeal.Read.val_main_v73_eq, (hagree c).1, (hagree c).2.1, (hagree c).2.2.1, (hagree c).2.2.2.1, (hagree c).2.2.2.2.1, (hagree c).2.2.2.2.2]
    refine Eq.trans (funext fun i => ?_) (AttnIdeal.Whole.qn_final (H c)).symm
    idx_vars i
    exact AttnRefIdeal.Rows.dqn_at (H c) _ _
  · rw [AttnRefIdeal.Read.val_main_v74_eq, (hagree c).1, (hagree c).2.1, (hagree c).2.2.1, (hagree c).2.2.2.1, (hagree c).2.2.2.2.1, (hagree c).2.2.2.2.2]
    refine Eq.trans (funext fun i => ?_) (AttnIdeal.Whole.qr_final (H c)).symm
    idx_vars i
    exact AttnRefIdeal.Rows.dqr_at (H c) _ _
  · rw [AttnRefIdeal.Read.val_main_v76_eq, (hagree c).1, (hagree c).2.1, (hagree c).2.2.1, (hagree c).2.2.2.1, (hagree c).2.2.2.2.1, (hagree c).2.2.2.2.2]
    refine Eq.trans (funext fun i => ?_) (AttnIdeal.Whole.kn_final (H c)).symm
    idx_vars i
    exact AttnRefIdeal.Rows.dkn_at (H c) _ _
  · rw [AttnRefIdeal.Read.val_main_v78_eq, (hagree c).1, (hagree c).2.1, (hagree c).2.2.1, (hagree c).2.2.2.1, (hagree c).2.2.2.2.2]
    refine Eq.trans (funext fun i => ?_) (AttnIdeal.Whole.v_final (H c)).symm
    idx_vars i
    exact AttnRefIdeal.Rows.dv_at (H c) _ _
  · rw [AttnRefIdeal.Read.val_main_v80_eq, (hagree c).1, (hagree c).2.1, (hagree c).2.2.1, (hagree c).2.2.2.1, (hagree c).2.2.2.2.1, (hagree c).2.2.2.2.2]
    refine Eq.trans (funext fun i => ?_) (AttnIdeal.Whole.kr_final (H c)).symm
    idx_vars i
    exact AttnRefIdeal.Rows.dkr_at (H c) _ _

end Cert.Proof.AttnClaims
-- ==== Proof.NormSpec.lean ====
/- What the norm calls compute, row by row, over the extended reals: the scale of a row, the gradient of a scaled row, and the
   two facts about sums that every one of these calls needs. -/
module

public import Idealize.ShloMosaic.Lib.Pipeline.ValueKit
public import Idealize.ShloMosaic.Lib.KernelVsHost

@[expose] public section

set_option maxRecDepth 16384

noncomputable section

namespace Cert.NormSpec

open Idealize.ShloMosaic

/-- The rows' length, the small constant under the root, and minus one half, as the programs write them. -/
abbrev wide : EReal := Ideal.ofBits .f32 1157627904#32
abbrev eps : EReal := Ideal.ofBits .f32 897988541#32
abbrev negHalf : EReal := Ideal.ofBits .f32 3204448256#32

/-- The mean of a row's squares plus the small constant, the row's length being the number `l`. -/
def ms {n : ℕ} (l : EReal) (x : Fin n → EReal) : EReal := Ideal.div (∑ k, x k * x k) l + eps

/-- The factor a row is scaled by. -/
def rs {n : ℕ} (l : EReal) (x : Fin n → EReal) : EReal := Ideal.rsqrt (ms l x)

/-- What the factor's gradient brings to every entry of the row, `d` being the cotangent of the scaled row. -/
def pull {n : ℕ} (l : EReal) (x d : Fin n → EReal) : EReal :=
  Ideal.div ((∑ k, x k * d k) * (negHalf * Ideal.div (rs l x) (ms l x))) l

/-- The gradient of the scaled row in its entry `k`. -/
def back {n : ℕ} (l : EReal) (x d : Fin n → EReal) (k : Fin n) : EReal := d k * rs l x + x k * pull l x d + pull l x d * x k

/-- The last of four summands may stand first. -/
theorem add_front (a b c d : EReal) : d + a + b + c = a + b + c + d := by rw [add_assoc, add_assoc, ← add_assoc a, add_comm d]

/-- The last of seven summands may stand first. -/
theorem add_front6 (a b c d e f g : EReal) : g + a + b + c + d + e + f = a + b + c + d + e + f + g := by
  ac_rfl

/-- One half of a row and the other half of it, each filled up with zeros, add to the row. -/
theorem add_halves (c : Prop) [Decidable c] (a : c → EReal) (b : ¬c → EReal) :
    (if h : c then 0 else b h) + (if h : c then a h else 0) = if h : c then a h else b h := by
  by_cases h : c <;> simp [h]

/-- Rows of 64 lanes with 64 lanes of zeros behind. -/
theorem pad_lanes (x : (⟨2, ![2048, 64]⟩ : Shape).Idx → EReal) {u : Shape} (v : u.Idx → EReal) (hv : ∀ i, v i = 0)
    (h : (⟨2, ![2048, 64]⟩ : Shape).Pads (![0, 0] : Fin 2 → Nat) ![0, 64] ![0, 0] ⟨2, ![2048, 128]⟩) (hu : 0 < u.numel)
    (r : Fin 2048) (k : Fin 128) :
    pad ⟨2, ![2048, 128]⟩ ![0, 0] ![0, 64] ![0, 0] x v h hu (ix2 r k) = if hk : k.val < 64 then x (ix2 r ⟨k.val, hk⟩) else 0 := by
  split
  · next hk =>
    refine pad_apply_of_inside _ _ _ x v h hu _ (ix2 r ⟨k.val, hk⟩) fun a => ?_
    match a with
    | ⟨0, _⟩ => exact ((Nat.zero_add _).trans (Nat.mul_one _)).symm
    | ⟨1, _⟩ => exact ((Nat.zero_add _).trans (Nat.mul_one _)).symm
  · next hk =>
    refine (pad_apply_of_not_inside _ _ _ x v h hu _ ⟨1, by decide⟩ fun hin => hk ?_).trans (hv _)
    have := hin.2.2
    simpa using this

/-- Four equal pieces of 32 lanes side by side, read at lane `l`. -/
theorem four_pieces (f : ℕ → EReal) (l : ℕ) (hl : l < 128) :
    (if l < 32 then f l else if l - 32 < 32 then f (l - 32) else if l - 32 - 32 < 32 then f (l - 32 - 32) else f (l - 32 - 32 - 32))
      = f (l % 32) := by
  split_ifs <;> exact congrArg f (by omega)

/-- Four such pieces, the first and the third negated. -/
theorem four_pieces_neg (f : ℕ → EReal) (l : ℕ) (hl : l < 128) :
    (if l < 32 then -f l else if l - 32 < 32 then f (l - 32) else if l - 32 - 32 < 32 then -f (l - 32 - 32) else f (l - 32 - 32 - 32))
      = if l % 64 < 32 then -f (l % 32) else f (l % 32) := by
  split_ifs <;> first | omega | exact congrArg f (by omega) | exact congrArg (fun k => -f k) (by omega)

/-- Two thousand and forty-eight rows, summed by eight blocks of 256. -/
theorem sum_blocks (f : Fin 2048 → EReal) (hlt : ∀ (t : Fin 8) (x : Fin 256), 256 * t.val + x.val < 2048) :
    (∑ t : Fin 8, ∑ x : Fin 256, f ⟨256 * t.val + x.val, hlt t x⟩) = ∑ r : Fin 2048, f r := by
  rw [← (finProdFinEquiv (m := 8) (n := 256)).sum_comp (fun r : Fin (8 * 256) => f r), Fintype.sum_prod_type]
  refine Finset.sum_congr rfl fun t _ => Finset.sum_congr rfl fun x _ => congrArg _ (Fin.ext ?_)
  simp [finProdFinEquiv, add_comm]

/-- A sum over two axes of one entry each is that entry. -/
theorem reduce_unit01 {n : ℕ} (x : (⟨3, ![1, 1, n]⟩ : Shape).Idx → EReal) (v : EReal)
    (h : (⟨3, ![1, 1, n]⟩ : Shape).ReducesTo [0, 1] ⟨1, ![n]⟩) (j : (⟨1, ![n]⟩ : Shape).Idx) :
    Ideal.hostReduceAdd h x v j = v + x (ix3 0 0 (j 0)) := by
  unfold Ideal.hostReduceAdd
  rw [Finset.sum_filter]
  refine congrArg (v + ·) ((Finset.sum_eq_single (ix3 0 0 (j 0)) (fun b _ hb => if_neg fun e => hb ?_) fun hb => absurd (Finset.mem_univ _) hb).trans (if_pos ?_))
  · refine funext fun a => ?_
    match a with
    | ⟨0, _⟩ => exact Subsingleton.elim (α := Fin 1) _ _
    | ⟨1, _⟩ => exact Subsingleton.elim (α := Fin 1) _ _
    | ⟨2, _⟩ => exact congrFun e 0
  · funext b
    match b with
    | ⟨0, _⟩ => rfl

/-- From the constant zero. -/
theorem unit01 {n : ℕ} (x : (⟨3, ![1, 1, n]⟩ : Shape).Idx → EReal) (h : (⟨3, ![1, 1, n]⟩ : Shape).ReducesTo [0, 1] ⟨1, ![n]⟩) (k : Fin n) :
    Ideal.hostReduceAdd h x (Ideal.ofBits .f32 0#32) (ix1 k) = x (ix3 0 0 k) :=
  (reduce_unit01 x _ h _).trans ((congrArg (· + _) Ideal.ofBits_zero_f32).trans (zero_add _))

/-- A sum over the first and the last of three axes, of one entry each, is that entry. -/
theorem reduce_unit02 {n : ℕ} (x : (⟨3, ![1, n, 1]⟩ : Shape).Idx → EReal) (v : EReal)
    (h : (⟨3, ![1, n, 1]⟩ : Shape).ReducesTo [0, 2] ⟨1, ![n]⟩) (j : (⟨1, ![n]⟩ : Shape).Idx) :
    Ideal.hostReduceAdd h x v j = v + x (ix3 0 (j 0) 0) := by
  unfold Ideal.hostReduceAdd
  rw [Finset.sum_filter]
  refine congrArg (v + ·) ((Finset.sum_eq_single (ix3 0 (j 0) 0) (fun b _ hb => if_neg fun e => hb ?_) fun hb => absurd (Finset.mem_univ _) hb).trans (if_pos ?_))
  · refine funext fun a => ?_
    match a with
    | ⟨0, _⟩ => exact Subsingleton.elim (α := Fin 1) _ _
    | ⟨1, _⟩ => exact congrFun e 0
    | ⟨2, _⟩ => exact Subsingleton.elim (α := Fin 1) _ _
  · funext b
    match b with
    | ⟨0, _⟩ => rfl

/-- From the constant zero. -/
theorem unit02 {n : ℕ} (x : (⟨3, ![1, n, 1]⟩ : Shape).Idx → EReal) (h : (⟨3, ![1, n, 1]⟩ : Shape).ReducesTo [0, 2] ⟨1, ![n]⟩) (k : Fin n) :
    Ideal.hostReduceAdd h x (Ideal.ofBits .f32 0#32) (ix1 k) = x (ix3 0 k 0) :=
  (reduce_unit02 x _ h _).trans ((congrArg (· + _) Ideal.ofBits_zero_f32).trans (zero_add _))

end Cert.NormSpec

end
-- ==== Proof.PostClaims.lean ====
/- The claims about the call of the gated post-norm's gradients. -/
module

public import proofs.«01_k».proof.Proof.NormSpec
public import proofs.«01_k».proof.Proof.Gen.PostIdeal.Value
public import proofs.«01_k».proof.Proof.Gen.PostRefIdeal.Read
public import proofs.«01_k».proof.Defs
public import proofs.«01_k».proof.Proof.Gen.Post.Frame

@[expose] public section

set_option maxRecDepth 16384

noncomputable section

namespace Cert.PostSpec

open Idealize.ShloMosaic Cert.NormSpec

/-- The arguments. -/
structure In where
  y : (⟨3, ![1, 2048, 2048]⟩ : Shape).Idx → EReal
  gate : (⟨2, ![1, 2048]⟩ : Shape).Idx → EReal
  g : (⟨2, ![2, 2048]⟩ : Shape).Idx → EReal
  ct : (⟨3, ![1, 2048, 2048]⟩ : Shape).Idx → EReal

variable (A : In)

/-- Row `r` of the input, and the cotangent of that row scaled, before the gain. -/
abbrev row (r : Fin 2048) : Fin 2048 → EReal := fun k => A.y (ix3 0 r k)
abbrev cot (r : Fin 2048) : Fin 2048 → EReal := fun k => A.gate (ix2 0 k) * A.ct (ix3 0 r k) * A.g (ix2 1 k)

/-- The gradient in the input. -/
def dy (r k : Fin 2048) : EReal := back wide (row A r) (cot A r) k

/-- What row `r` adds to the gradients in the gate and in the gain. -/
def dgate (r k : Fin 2048) : EReal := A.ct (ix3 0 r k) * (A.y (ix3 0 r k) * rs wide (row A r) * A.g (ix2 1 k))
def dg (r k : Fin 2048) : EReal := A.y (ix3 0 r k) * rs wide (row A r) * (A.gate (ix2 0 k) * A.ct (ix3 0 r k))

end Cert.PostSpec

namespace Cert.PostIdeal.Rows

open Cert.PostIdeal Cert.PostIdeal.Gen Idealize.ShloMosaic Idealize.ShloMosaic.TcCoe Idealize.SL.Sem Cert.NormSpec Cert.PostSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).y (ix3 0 (at_ t x) k) := by
  blk_point [iblk, V, (index_all t).1]
theorem blk1 (t : Fin cfg0.N) (k : Fin 2048) : iblk m c 1 t (ix2 0 k) = (ins m c).gate (ix2 0 k) := by
  blk_point [iblk, V, (index_all t).2.1]
theorem blk2 (t : Fin cfg0.N) (k : Fin 2048) : iblk m c 2 t (ix2 0 k) = (ins m c).g (ix2 1 k) := by
  blk_point [iblk, V, (index_all t).2.2.1]
theorem blk3 (t : Fin cfg0.N) (x : Fin 256) (k : Fin 2048) : iblk m c 3 t (ix2 x k) = (ins m c).ct (ix3 0 (at_ t x) k) := by
  blk_point [iblk, V, (index_all t).2.2.2.1]

/-- After the run result 0 is the gradient in the input. -/
theorem dy_final : (dats m 0 c).arrAt 4 cfg0.N = fun i => dy (ins m c) (i 0) (i 1) := by
  refine (dats m 0 c).arrAt_eq_of_covers 4 _ (by decide +kernel) fun t hf y => ?_
  have hN : cfg0.N = 8 := N_0
  have ht : t.val < 8 := hN ▸ t.isLt
  blk_simp
  rw [after0_4]
  idx_vars y
  have e0 : (((cfg0.win 4).blk t).view.emb (ix2 y0 y1)) 0 = at_ t y0 := Fin.ext (by blk_simp [(index_all t).2.2.2.2]; simp [mul_comm])
  have e1 : (((cfg0.win 4).blk t).view.emb (ix2 y0 y1)) 1 = y1 := Fin.ext (by blk_simp [(index_all t).2.2.2.2])
  refine Eq.trans ?_ (congrArg₂ (dy (ins m c)) e0.symm e1.symm)
  by_cases h : t.val = 0
  · rw [Gen.outsAt0_A m c t (by omega) (by omega) (by omega) (by omega)]
    frame_out
    unfold_payloads
    pointwise
    simp only [blk0, blk1, blk2, blk3, Fin.sum_univ_one, Fin.isValue]
    rfl
  · rw [Gen.outsAt0_B m c t (by omega) (by omega) (by omega) (by omega)]
    frame_out
    unfold_payloads
    pointwise
    simp only [blk0, blk1, blk2, blk3, Fin.sum_univ_one, Fin.isValue]
    rfl

/-- After the run result 1 is the gradient in the gate. -/
theorem dgate_final : (dats m 0 c).arrAt 5 cfg0.N = fun i => ∑ r : Fin 2048, dgate (ins m c) r (i 1) := by
  refine (dats m 0 c).arrAt_eq_of_after_last 5 t0_7 (by decide +kernel) _ fun j => ?_
  have hN : cfg0.N = 8 := N_0
  blk_simp
  rw [after0_5]
  refine (Pipeline.eq_sum_fin_of_reset_step_apply_last (fun n h => (outsAt0 m c n h).2.1) 8 (fun _ => 0)
    (fun t j => ∑ x : Fin 256, dgate (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, Fin.sum_univ_one, Fin.isValue, zero_add]
    rfl
  · rw [Gen.outsAt0_B m c t (by omega) (by omega) (by omega) (by omega)]
    idx_vars j
    frame_out
    unfold_payloads
    pointwise
    simp only [blk0, blk1, blk2, blk3, Fin.sum_univ_one, Fin.isValue]
    rfl
  · rw [zero_add]
    exact sum_blocks (fun r => dgate (ins m c) r (j 1)) _

/-- After the run result 2 is the gradient in the gain. -/
theorem dg_final : (dats m 0 c).arrAt 6 cfg0.N = fun i => ∑ r : Fin 2048, dg (ins m c) r (i 1) := by
  refine (dats m 0 c).arrAt_eq_of_after_last 6 t0_7 (by decide +kernel) _ fun j => ?_
  have hN : cfg0.N = 8 := N_0
  blk_simp
  rw [after0_6]
  refine (Pipeline.eq_sum_fin_of_reset_step_apply_last (fun n h => (outsAt0 m c n h).2.2) 8 (fun _ => 0)
    (fun t j => ∑ x : Fin 256, dg (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, Fin.sum_univ_one, Fin.isValue, zero_add]
    rfl
  · rw [Gen.outsAt0_B m c t (by omega) (by omega) (by omega) (by omega)]
    idx_vars j
    frame_out
    unfold_payloads
    pointwise
    simp only [blk0, blk1, blk2, blk3, Fin.sum_univ_one, Fin.isValue]
    rfl
  · rw [zero_add]
    exact sum_blocks (fun r => dg (ins m c) r (j 1)) _

end Cert.PostIdeal.Rows

namespace Cert.PostRefIdeal.Rows

open Cert.PostRefIdeal Cert.PostRefIdeal.Gen Cert.PostRefIdeal.Read Idealize.ShloMosaic Cert.NormSpec Cert.PostSpec

variable (A : In)

/-- Sums over axes of one entry. -/
theorem v49_idx (i0 : Fin 2048) (i1 : Fin 2048) : idx_main_v49 (ix2 i0 i1) = (ix3 0 i0 i1 : S1x2048x2048.Idx) := by
  blk_ext <;> omega

theorem v42_idx (i1 : Fin 2048) (i2 : Fin 2048) : idx_main_v42 (ix3 0 i1 i2) = (ix2 0 i1 : S1x2048.Idx) := by
  blk_ext <;> omega

theorem v41_idx (i1 : Fin 2048) : idx_main_v41 (ix2 0 i1) = (ix1 i1 : S2048.Idx) := by
  blk_ext <;> omega

theorem v40_at (k : Fin 2048) : val_main_v40 (F := Ideal) A.y A.gate A.g A.ct (ix1 k) = val_main_v39 (F := Ideal) A.y A.gate A.g A.ct (ix3 0 k 0) := by
  unfold val_main_v40
  generalize val_main_v39 (F := Ideal) A.y A.gate A.g A.ct = w
  simp only [Host.reduceAdd, Ideal.hostReduceAdd_def]
  exact unit02 w _ _

theorem v35_idx (i1 : Fin 2048) (i2 : Fin 2048) : idx_main_v35 (ix3 0 i1 i2) = (ix3 0 i1 0 : S1x2048x1.Idx) := by
  blk_ext <;> omega

theorem v34_idx (i1 : Fin 2048) : idx_main_v34 (ix3 0 i1 0) = (ix2 0 i1 : S1x2048.Idx) := by
  blk_ext <;> omega

theorem v33_idx (i1 : Fin 2048) (k : Fin 2048) : idx_main_v33 (ix2 0 i1) k = (ix3 0 i1 k : S1x2048x2048.Idx) := by
  blk_ext <;> omega

theorem v29_idx (i1 : Fin 2048) (i2 : Fin 2048) : idx_main_v29 (ix3 0 i1 i2) = (ix3 0 0 i2 : S1x1x2048.Idx) := by
  blk_ext <;> omega

theorem v21_idx (i1 : Fin 2048) (i2 : Fin 2048) : idx_main_v21 (ix3 0 i1 i2) = (ix3 0 0 i2 : S1x1x2048.Idx) := by
  blk_ext <;> omega

theorem v16_idx (i2 : Fin 2048) : idx_main_v16 (ix3 0 0 i2) = (ix1 i2 : S2048.Idx) := by
  blk_ext <;> omega

theorem v5_idx (i1 : Fin 2048) : idx_main_v5 (ix3 0 i1 0) = (ix2 0 i1 : S1x2048.Idx) := by
  blk_ext <;> omega

theorem v4_idx (i1 : Fin 2048) (k : Fin 2048) : idx_main_v4 (ix2 0 i1) k = (ix3 0 i1 k : S1x2048x2048.Idx) := by
  blk_ext <;> omega

theorem v2_idx (i2 : Fin 2048) : idx_main_v2 (ix3 0 0 i2) = (ix2 0 i2 : S1x2048.Idx) := by
  blk_ext <;> omega

theorem v1_idx (i0 : Fin 2048) : idx_main_v1 (ix1 i0) = (ix2 0 i0 : S1x2048.Idx) := by
  blk_ext <;> omega

theorem v0_idx (i1 : Fin 2048) : idx_main_v0 (ix2 0 i1) = (ix2 1 i1 : S2x2048.Idx) := by
  blk_ext <;> omega

theorem v48_idx (i1 : Fin 2048) : idx_main_v48 (ix2 0 i1) = (ix1 i1 : S2048.Idx) := by
  blk_ext <;> omega

theorem v47_at (k : Fin 2048) : val_main_v47 (F := Ideal) A.y A.g A.ct (ix1 k) = val_main_v25 (F := Ideal) A.y A.g A.ct (ix3 0 0 k) := by
  unfold val_main_v47
  generalize val_main_v25 (F := Ideal) A.y A.g A.ct = w
  simp only [Host.reduceAdd, Ideal.hostReduceAdd_def]
  exact unit01 w _ _

theorem v25_idx (i2 : Fin 2048) : idx_main_v25 (ix3 0 0 i2) = (ix2 0 i2 : S1x2048.Idx) := by
  blk_ext <;> omega

theorem v24_idx (i1 : Fin 2048) (k : Fin 2048) : idx_main_v24 (ix2 0 i1) k = (ix3 0 k i1 : S1x2048x2048.Idx) := by
  blk_ext <;> omega

theorem v17_idx (i1 : Fin 2048) (i2 : Fin 2048) : idx_main_v17 (ix3 0 i1 i2) = (ix3 0 0 i2 : S1x1x2048.Idx) := by
  blk_ext <;> omega

theorem v14_idx (i1 : Fin 2048) (i2 : Fin 2048) : idx_main_v14 (ix3 0 i1 i2) = (ix3 0 i1 0 : S1x2048x1.Idx) := by
  blk_ext <;> omega

theorem v51_idx (i1 : Fin 2048) : idx_main_v51 (ix2 0 i1) = (ix1 i1 : S2048.Idx) := by
  blk_ext <;> omega

theorem v31_at (k : Fin 2048) : val_main_v31 (F := Ideal) A.y A.gate A.ct (ix1 k) = val_main_v28 (F := Ideal) A.y A.gate A.ct (ix3 0 0 k) := by
  unfold val_main_v31
  generalize val_main_v28 (F := Ideal) A.y A.gate A.ct = w
  simp only [Host.reduceAdd, Ideal.hostReduceAdd_def]
  exact unit01 w _ _

theorem v28_idx (i2 : Fin 2048) : idx_main_v28 (ix3 0 0 i2) = (ix2 0 i2 : S1x2048.Idx) := by
  blk_ext <;> omega

theorem v27_idx (i1 : Fin 2048) (k : Fin 2048) : idx_main_v27 (ix2 0 i1) k = (ix3 0 k i1 : S1x2048x2048.Idx) := by
  blk_ext <;> omega

/-- The reference's: the gradient in the input. -/
theorem dy_ref : val_main_v50 (F := Ideal) A.y A.gate A.g A.ct = fun i => dy A (i 0) (i 1) := by
  funext i
  idx_vars i
  simp only [val_main_v50_apply, val_main_v49_apply, v49_idx, val_main_v46_apply, val_main_v45_apply, val_main_v44_apply, val_main_v43_apply, val_main_v42_apply,
    v42_idx, val_main_v41_apply, v41_idx, v40_at, val_main_v39_apply, val_main_v38_apply, val_main_v37_apply, val_main_v36_apply, val_main_v35_apply,
    v35_idx, val_main_v34_apply, v34_idx, val_main_v33_apply, v33_idx, val_main_v32_apply, val_main_v30_apply, val_main_v29_apply, v29_idx,
    val_main_v22_apply, val_main_v21_apply, v21_idx, val_main_v16_apply, v16_idx, val_main_v13_apply, val_main_v12_apply, val_main_v11_apply,
    val_main_v10_apply, val_main_v9_apply, val_main_v8_apply, val_main_v7_apply, val_main_v6_apply, val_main_v5_apply, v5_idx, val_main_v4_apply, v4_idx,
    val_main_v3_apply, val_main_v2_apply, v2_idx, val_main_v1_apply, v1_idx, val_main_v0_apply, v0_idx, val_main_cst_apply, val_main_cst_0_apply,
    val_main_cst_1_apply, val_main_cst_2_apply, val_main_cst_6_apply, val_main_cst_7_apply, val_main_cst_8_apply]
  pointwise
  simp only [dy, back, pull, ms, rs, row, cot]

/-- The reference's: the gradient in the gate. -/
theorem dgate_ref : val_main_v48 (F := Ideal) A.y A.g A.ct = fun i => ∑ r : Fin 2048, dgate A r (i 1) := by
  funext i
  idx_vars i
  obtain rfl : i0 = 0 := Subsingleton.elim _ _
  simp only [val_main_v48_apply, v48_idx, v47_at, val_main_v25_apply, v25_idx, val_main_v24_apply, v24_idx, val_main_v23_apply, val_main_v18_apply,
    val_main_v17_apply, v17_idx, val_main_v16_apply, v16_idx, val_main_v15_apply, val_main_v14_apply, v14_idx, val_main_v10_apply, val_main_v9_apply,
    val_main_v8_apply, val_main_v7_apply, val_main_v6_apply, val_main_v5_apply, v5_idx, val_main_v4_apply, v4_idx, val_main_v3_apply, val_main_v1_apply,
    v1_idx, val_main_v0_apply, v0_idx, val_main_cst_apply, val_main_cst_0_apply, val_main_cst_1_apply, val_main_cst_3_apply, val_main_cst_9_apply]
  pointwise
  simp only [dgate, back, pull, ms, rs, row, cot]

/-- The reference's: the gradient in the gain. -/
theorem dg_ref : val_main_v51 (F := Ideal) A.y A.gate A.ct = fun i => ∑ r : Fin 2048, dg A r (i 1) := by
  funext i
  idx_vars i
  obtain rfl : i0 = 0 := Subsingleton.elim _ _
  simp only [val_main_v51_apply, v51_idx, v31_at, val_main_v28_apply, v28_idx, val_main_v27_apply, v27_idx, val_main_v26_apply, val_main_v22_apply,
    val_main_v21_apply, v21_idx, val_main_v15_apply, val_main_v14_apply, v14_idx, val_main_v10_apply, val_main_v9_apply, val_main_v8_apply,
    val_main_v7_apply, val_main_v6_apply, val_main_v5_apply, v5_idx, val_main_v4_apply, v4_idx, val_main_v3_apply, val_main_v2_apply, v2_idx,
    val_main_cst_apply, val_main_cst_0_apply, val_main_cst_1_apply, val_main_cst_4_apply, val_main_cst_5_apply]
  pointwise
  simp only [dg, back, pull, ms, rs, row, cot]

end Cert.PostRefIdeal.Rows

open Idealize.ShloMosaic Idealize.SL.Sem

namespace Cert.Proof.PostClaims

/-- The kernel as printed, idealized, and the reference: each ends, its arguments unchanged, its counters at zero. -/
theorem frame_p : quiescent_Post := fun m ρ _ => Post.Gen.frame m ρ
theorem frame_pi : quiescent_PostIdeal := fun m ρ _ => PostIdeal.Gen.frame m ρ
theorem frame_ri : quiescent_PostRefIdeal := fun m ρ _ =>
  (θ_run PostRefIdeal.defs _ _).mono (fun r h => ⟨fun c => (h c).2.2.2, sem_eq_zero_of_no_sems (by decide) r.2⟩)
    (PostRefIdeal.Value.run (F := Ideal) m ρ)

/-- The idealized kernel's results are the reference's. -/
theorem algebraic : algebraic_PostIdeal_PostRefIdeal := by
  intro m ρ m' ρ' _ hagree
  refine ⟨_, _, _, PostIdeal.Value.run_blocks (F := Ideal) m ρ, ?_⟩
  refine (θ_run PostRefIdeal.defs _ _).mono (fun _ h c => ⟨(h c).1.trans ?_, (h c).2.1.trans ?_, (h c).2.2.1.trans ?_,
    (h c).2.2.2⟩) (PostRefIdeal.Value.run (F := Ideal) m' ρ')
  · refine (PostRefIdeal.Read.val_main_v50_eq _ _).trans ?_
    rw [(hagree c).1, (hagree c).2.1, (hagree c).2.2.1, (hagree c).2.2.2]
    exact (PostRefIdeal.Rows.dy_ref (PostIdeal.Rows.ins m c)).trans (PostIdeal.Rows.dy_final m c).symm
  · refine (PostRefIdeal.Read.val_main_v48_eq (F := Ideal) _ _ _).trans ?_
    rw [(hagree c).1, (hagree c).2.2.1, (hagree c).2.2.2]
    exact (PostRefIdeal.Rows.dgate_ref (PostIdeal.Rows.ins m c)).trans (PostIdeal.Rows.dgate_final m c).symm
  · refine (PostRefIdeal.Read.val_main_v51_eq (F := Ideal) _ _ _).trans ?_
    rw [(hagree c).1, (hagree c).2.1, (hagree c).2.2.2]
    exact (PostRefIdeal.Rows.dg_ref (PostIdeal.Rows.ins m c)).trans (PostIdeal.Rows.dg_final m c).symm

end Cert.Proof.PostClaims
-- ==== Proof.PostbClaims.lean ====
/- The claims about the call of the gradients of the gated post-norm behind a bias. -/
module

public import proofs.«01_k».proof.Proof.NormSpec
public import proofs.«01_k».proof.Proof.Gen.PostbIdeal.Value
public import proofs.«01_k».proof.Proof.Gen.PostbRefIdeal.Read
public import proofs.«01_k».proof.Defs
public import proofs.«01_k».proof.Proof.Gen.Postb.Frame

@[expose] public section

set_option maxRecDepth 16384

noncomputable section

namespace Cert.PostbSpec

open Idealize.ShloMosaic Cert.NormSpec

/-- The arguments. -/
structure In where
  y : (⟨3, ![1, 2048, 2048]⟩ : Shape).Idx → EReal
  bias : (⟨2, ![1, 2048]⟩ : Shape).Idx → EReal
  gate : (⟨2, ![1, 2048]⟩ : Shape).Idx → EReal
  g : (⟨2, ![2, 2048]⟩ : Shape).Idx → EReal
  ct : (⟨3, ![1, 2048, 2048]⟩ : Shape).Idx → EReal

variable (A : In)

/-- Row `r` of the input with the bias added, and the cotangent of that row scaled, before the gain. -/
abbrev row (r : Fin 2048) : Fin 2048 → EReal := fun k => A.y (ix3 0 r k) + A.bias (ix2 0 k)
abbrev cot (r : Fin 2048) : Fin 2048 → EReal := fun k => A.gate (ix2 0 k) * A.ct (ix3 0 r k) * A.g (ix2 0 k)

/-- The gradient in the input. -/
def dy (r k : Fin 2048) : EReal := back wide (row A r) (cot A r) k

/-- What row `r` adds to the gradients in the bias, in the gate and in the gain. -/
def dbias (r k : Fin 2048) : EReal := dy A r k
def dgate (r k : Fin 2048) : EReal := A.ct (ix3 0 r k) * ((A.y (ix3 0 r k) + A.bias (ix2 0 k)) * rs wide (row A r) * A.g (ix2 0 k))
def dg (r k : Fin 2048) : EReal := (A.y (ix3 0 r k) + A.bias (ix2 0 k)) * rs wide (row A r) * (A.gate (ix2 0 k) * A.ct (ix3 0 r k))

end Cert.PostbSpec

namespace Cert.PostbIdeal.Rows

open Cert.PostbIdeal Cert.PostbIdeal.Gen Idealize.ShloMosaic Idealize.ShloMosaic.TcCoe Idealize.SL.Sem Cert.NormSpec Cert.PostbSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![0, 0] ∧ win0_4.index t = ![t.val, 0] ∧
    win0_5.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧
    win0_5.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).y (ix3 0 (at_ t x) k) := by
  blk_point [iblk, V, (index_all t).1]
theorem blk1 (t : Fin cfg0.N) (k : Fin 2048) : iblk m c 1 t (ix2 0 k) = (ins m c).bias (ix2 0 k) := by
  blk_point [iblk, V, (index_all t).2.1]
theorem blk2 (t : Fin cfg0.N) (k : Fin 2048) : iblk m c 2 t (ix2 0 k) = (ins m c).gate (ix2 0 k) := by
  blk_point [iblk, V, (index_all t).2.2.1]
theorem blk3 (t : Fin cfg0.N) (k : Fin 2048) : iblk m c 3 t (ix2 0 k) = (ins m c).g (ix2 0 k) := by
  blk_point [iblk, V, (index_all t).2.2.2.1]
theorem blk4 (t : Fin cfg0.N) (x : Fin 256) (k : Fin 2048) : iblk m c 4 t (ix2 x k) = (ins m c).ct (ix3 0 (at_ t x) k) := by
  blk_point [iblk, V, (index_all t).2.2.2.2.1]

/-- After the run result 0 is the gradient in the input. -/
theorem dy_final : (dats m 0 c).arrAt 5 cfg0.N = fun i => dy (ins m c) (i 0) (i 1) := by
  refine (dats m 0 c).arrAt_eq_of_covers 5 _ (by decide +kernel) fun t hf y => ?_
  have hN : cfg0.N = 8 := N_0
  have ht : t.val < 8 := hN ▸ t.isLt
  blk_simp
  rw [after0_5]
  idx_vars y
  have e0 : (((cfg0.win 5).blk t).view.emb (ix2 y0 y1)) 0 = at_ t y0 := Fin.ext (by blk_simp [(index_all t).2.2.2.2.2]; simp [mul_comm])
  have e1 : (((cfg0.win 5).blk t).view.emb (ix2 y0 y1)) 1 = y1 := Fin.ext (by blk_simp [(index_all t).2.2.2.2.2])
  refine Eq.trans ?_ (congrArg₂ (dy (ins m c)) e0.symm e1.symm)
  by_cases h : t.val = 0
  · rw [Gen.outsAt0_A m c t (by omega) (by omega) (by omega) (by omega) (by omega) (by omega)]
    frame_out
    unfold_payloads
    pointwise
    simp only [blk0, blk1, blk2, blk3, blk4, Fin.sum_univ_one, Fin.isValue]
    rfl
  · rw [Gen.outsAt0_B m c t (by omega) (by omega) (by omega) (by omega) (by omega) (by omega)]
    frame_out
    unfold_payloads
    pointwise
    simp only [blk0, blk1, blk2, blk3, blk4, Fin.sum_univ_one, Fin.isValue]
    rfl

/-- After the run result 1 is the gradient in the bias. -/
theorem dbias_final : (dats m 0 c).arrAt 6 cfg0.N = fun i => ∑ r : Fin 2048, dbias (ins m c) r (i 1) := by
  refine (dats m 0 c).arrAt_eq_of_after_last 6 t0_7 (by decide +kernel) _ fun j => ?_
  have hN : cfg0.N = 8 := N_0
  blk_simp
  rw [after0_6]
  refine (Pipeline.eq_sum_fin_of_reset_step_apply_last (fun n h => (outsAt0 m c n h).2.1) 8 (fun _ => 0)
    (fun t j => ∑ x : Fin 256, dbias (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, Fin.sum_univ_one, Fin.isValue]
    rfl
  · rw [zero_add]
    exact sum_blocks (fun r => dbias (ins m c) r (j 1)) _

/-- After the run result 2 is the gradient in the gate. -/
theorem dgate_final : (dats m 0 c).arrAt 7 cfg0.N = fun i => ∑ r : Fin 2048, dgate (ins m c) r (i 1) := by
  refine (dats m 0 c).arrAt_eq_of_after_last 7 t0_7 (by decide +kernel) _ fun j => ?_
  have hN : cfg0.N = 8 := N_0
  blk_simp
  rw [after0_7]
  refine (Pipeline.eq_sum_fin_of_reset_step_apply_last (fun n h => (outsAt0 m c n h).2.2.1) 8 (fun _ => 0)
    (fun t j => ∑ x : Fin 256, dgate (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, Fin.sum_univ_one, Fin.isValue]
    rfl
  · rw [zero_add]
    exact sum_blocks (fun r => dgate (ins m c) r (j 1)) _

/-- After the run result 3 is the gradient in the gain. -/
theorem dg_final : (dats m 0 c).arrAt 8 cfg0.N = fun i => ∑ r : Fin 2048, dg (ins m c) r (i 1) := by
  refine (dats m 0 c).arrAt_eq_of_after_last 8 t0_7 (by decide +kernel) _ fun j => ?_
  have hN : cfg0.N = 8 := N_0
  blk_simp
  rw [after0_8]
  refine (Pipeline.eq_sum_fin_of_reset_step_apply_last (fun n h => (outsAt0 m c n h).2.2.2) 8 (fun _ => 0)
    (fun t j => ∑ x : Fin 256, dg (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, Fin.sum_univ_one, Fin.isValue]
    rfl
  · rw [zero_add]
    exact sum_blocks (fun r => dg (ins m c) r (j 1)) _

end Cert.PostbIdeal.Rows

namespace Cert.PostbRefIdeal.Rows

open Cert.PostbRefIdeal Cert.PostbRefIdeal.Gen Cert.PostbRefIdeal.Read Idealize.ShloMosaic Cert.NormSpec Cert.PostbSpec

variable (A : In)

/-- Sums over axes of one entry. -/
theorem v56_idx (i0 : Fin 2048) (i1 : Fin 2048) : idx_main_v56 (ix2 i0 i1) = (ix3 0 i0 i1 : S1x2048x2048.Idx) := by
  blk_ext <;> omega

theorem v46_idx (i1 : Fin 2048) (i2 : Fin 2048) : idx_main_v46 (ix3 0 i1 i2) = (ix2 0 i1 : S1x2048.Idx) := by
  blk_ext <;> omega

theorem v45_idx (i1 : Fin 2048) : idx_main_v45 (ix2 0 i1) = (ix1 i1 : S2048.Idx) := by
  blk_ext <;> omega

theorem v44_at (k : Fin 2048) : val_main_v44 (F := Ideal) A.y A.bias A.gate A.g A.ct (ix1 k) = val_main_v43 (F := Ideal) A.y A.bias A.gate A.g A.ct (ix3 0 k 0) := by
  unfold val_main_v44
  generalize val_main_v43 (F := Ideal) A.y A.bias A.gate A.g A.ct = w
  simp only [Host.reduceAdd, Ideal.hostReduceAdd_def]
  exact unit02 w _ _

theorem v39_idx (i1 : Fin 2048) (i2 : Fin 2048) : idx_main_v39 (ix3 0 i1 i2) = (ix3 0 i1 0 : S1x2048x1.Idx) := by
  blk_ext <;> omega

theorem v38_idx (i1 : Fin 2048) : idx_main_v38 (ix3 0 i1 0) = (ix2 0 i1 : S1x2048.Idx) := by
  blk_ext <;> omega

theorem v37_idx (i1 : Fin 2048) (k : Fin 2048) : idx_main_v37 (ix2 0 i1) k = (ix3 0 i1 k : S1x2048x2048.Idx) := by
  blk_ext <;> omega

theorem v33_idx (i1 : Fin 2048) (i2 : Fin 2048) : idx_main_v33 (ix3 0 i1 i2) = (ix3 0 0 i2 : S1x1x2048.Idx) := by
  blk_ext <;> omega

theorem v25_idx (i1 : Fin 2048) (i2 : Fin 2048) : idx_main_v25 (ix3 0 i1 i2) = (ix3 0 0 i2 : S1x1x2048.Idx) := by
  blk_ext <;> omega

theorem v20_idx (i2 : Fin 2048) : idx_main_v20 (ix3 0 0 i2) = (ix1 i2 : S2048.Idx) := by
  blk_ext <;> omega

theorem v9_idx (i1 : Fin 2048) : idx_main_v9 (ix3 0 i1 0) = (ix2 0 i1 : S1x2048.Idx) := by
  blk_ext <;> omega

theorem v8_idx (i1 : Fin 2048) (k : Fin 2048) : idx_main_v8 (ix2 0 i1) k = (ix3 0 i1 k : S1x2048x2048.Idx) := by
  blk_ext <;> omega

theorem v5_idx (i1 : Fin 2048) (i2 : Fin 2048) : idx_main_v5 (ix3 0 i1 i2) = (ix3 0 0 i2 : S1x1x2048.Idx) := by
  blk_ext <;> omega

theorem v4_idx (i2 : Fin 2048) : idx_main_v4 (ix3 0 0 i2) = (ix1 i2 : S2048.Idx) := by
  blk_ext <;> omega

theorem v3_idx (i2 : Fin 2048) : idx_main_v3 (ix3 0 0 i2) = (ix2 0 i2 : S1x2048.Idx) := by
  blk_ext <;> omega

theorem v2_idx (i0 : Fin 2048) : idx_main_v2 (ix1 i0) = (ix2 0 i0 : S1x2048.Idx) := by
  blk_ext <;> omega

theorem v1_idx (i1 : Fin 2048) : idx_main_v1 (ix2 0 i1) = (ix2 0 i1 : S2x2048.Idx) := by
  blk_ext <;> omega

theorem v0_idx (i0 : Fin 2048) : idx_main_v0 (ix1 i0) = (ix2 0 i0 : S1x2048.Idx) := by
  blk_ext <;> omega

theorem v58_idx (i1 : Fin 2048) : idx_main_v58 (ix2 0 i1) = (ix1 i1 : S2048.Idx) := by
  blk_ext <;> omega

theorem v53_at (k : Fin 2048) : val_main_v53 (F := Ideal) A.y A.bias A.gate A.g A.ct (ix1 k) = val_main_v52 (F := Ideal) A.y A.bias A.gate A.g A.ct (ix3 0 0 k) := by
  unfold val_main_v53
  generalize val_main_v52 (F := Ideal) A.y A.bias A.gate A.g A.ct = w
  simp only [Host.reduceAdd, Ideal.hostReduceAdd_def]
  exact unit01 w _ _

theorem v52_idx (i2 : Fin 2048) : idx_main_v52 (ix3 0 0 i2) = (ix2 0 i2 : S1x2048.Idx) := by
  blk_ext <;> omega

theorem v51_idx (i1 : Fin 2048) (k : Fin 2048) : idx_main_v51 (ix2 0 i1) k = (ix3 0 k i1 : S1x2048x2048.Idx) := by
  blk_ext <;> omega

theorem v55_idx (i1 : Fin 2048) : idx_main_v55 (ix2 0 i1) = (ix1 i1 : S2048.Idx) := by
  blk_ext <;> omega

theorem v54_at (k : Fin 2048) : val_main_v54 (F := Ideal) A.y A.bias A.g A.ct (ix1 k) = val_main_v29 (F := Ideal) A.y A.bias A.g A.ct (ix3 0 0 k) := by
  unfold val_main_v54
  generalize val_main_v29 (F := Ideal) A.y A.bias A.g A.ct = w
  simp only [Host.reduceAdd, Ideal.hostReduceAdd_def]
  exact unit01 w _ _

theorem v29_idx (i2 : Fin 2048) : idx_main_v29 (ix3 0 0 i2) = (ix2 0 i2 : S1x2048.Idx) := by
  blk_ext <;> omega

theorem v28_idx (i1 : Fin 2048) (k : Fin 2048) : idx_main_v28 (ix2 0 i1) k = (ix3 0 k i1 : S1x2048x2048.Idx) := by
  blk_ext <;> omega

theorem v21_idx (i1 : Fin 2048) (i2 : Fin 2048) : idx_main_v21 (ix3 0 i1 i2) = (ix3 0 0 i2 : S1x1x2048.Idx) := by
  blk_ext <;> omega

theorem v18_idx (i1 : Fin 2048) (i2 : Fin 2048) : idx_main_v18 (ix3 0 i1 i2) = (ix3 0 i1 0 : S1x2048x1.Idx) := by
  blk_ext <;> omega

theorem v59_idx (i1 : Fin 2048) : idx_main_v59 (ix2 0 i1) = (ix1 i1 : S2048.Idx) := by
  blk_ext <;> omega

theorem v35_at (k : Fin 2048) : val_main_v35 (F := Ideal) A.y A.bias A.gate A.ct (ix1 k) = val_main_v32 (F := Ideal) A.y A.bias A.gate A.ct (ix3 0 0 k) := by
  unfold val_main_v35
  generalize val_main_v32 (F := Ideal) A.y A.bias A.gate A.ct = w
  simp only [Host.reduceAdd, Ideal.hostReduceAdd_def]
  exact unit01 w _ _

theorem v32_idx (i2 : Fin 2048) : idx_main_v32 (ix3 0 0 i2) = (ix2 0 i2 : S1x2048.Idx) := by
  blk_ext <;> omega

theorem v31_idx (i1 : Fin 2048) (k : Fin 2048) : idx_main_v31 (ix2 0 i1) k = (ix3 0 k i1 : S1x2048x2048.Idx) := by
  blk_ext <;> omega

/-- The reference's: the gradient in the input. -/
theorem dy_ref : val_main_v57 (F := Ideal) A.y A.bias A.gate A.g A.ct = fun i => dy A (i 0) (i 1) := by
  funext i
  idx_vars i
  simp only [val_main_v57_apply, val_main_v56_apply, v56_idx, val_main_v50_apply, val_main_v49_apply, val_main_v48_apply, val_main_v47_apply, val_main_v46_apply,
    v46_idx, val_main_v45_apply, v45_idx, v44_at, val_main_v43_apply, val_main_v42_apply, val_main_v41_apply, val_main_v40_apply, val_main_v39_apply,
    v39_idx, val_main_v38_apply, v38_idx, val_main_v37_apply, v37_idx, val_main_v36_apply, val_main_v34_apply, val_main_v33_apply, v33_idx,
    val_main_v26_apply, val_main_v25_apply, v25_idx, val_main_v20_apply, v20_idx, val_main_v17_apply, val_main_v16_apply, val_main_v15_apply,
    val_main_v14_apply, val_main_v13_apply, val_main_v12_apply, val_main_v11_apply, val_main_v10_apply, val_main_v9_apply, v9_idx, val_main_v8_apply,
    v8_idx, val_main_v7_apply, val_main_v6_apply, val_main_v5_apply, v5_idx, val_main_v4_apply, v4_idx, val_main_v3_apply, v3_idx, val_main_v2_apply,
    v2_idx, val_main_v1_apply, v1_idx, val_main_v0_apply, v0_idx, val_main_cst_apply, val_main_cst_0_apply, val_main_cst_1_apply, val_main_cst_2_apply,
    val_main_cst_6_apply, val_main_cst_7_apply, val_main_cst_8_apply]
  pointwise
  simp only [dy, dy, back, pull, ms, rs, row, cot]

/-- The reference's: the gradient in the bias. -/
theorem dbias_ref : val_main_v58 (F := Ideal) A.y A.bias A.gate A.g A.ct = fun i => ∑ r : Fin 2048, dbias A r (i 1) := by
  funext i
  idx_vars i
  obtain rfl : i0 = 0 := Subsingleton.elim _ _
  simp only [val_main_v58_apply, v58_idx, v53_at, val_main_v52_apply, v52_idx, val_main_v51_apply, v51_idx, val_main_v50_apply, val_main_v49_apply,
    val_main_v48_apply, val_main_v47_apply, val_main_v46_apply, v46_idx, val_main_v45_apply, v45_idx, v44_at, val_main_v43_apply, val_main_v42_apply,
    val_main_v41_apply, val_main_v40_apply, val_main_v39_apply, v39_idx, val_main_v38_apply, v38_idx, val_main_v37_apply, v37_idx, val_main_v36_apply,
    val_main_v34_apply, val_main_v33_apply, v33_idx, val_main_v26_apply, val_main_v25_apply, v25_idx, val_main_v20_apply, v20_idx, val_main_v17_apply,
    val_main_v16_apply, val_main_v15_apply, val_main_v14_apply, val_main_v13_apply, val_main_v12_apply, val_main_v11_apply, val_main_v10_apply,
    val_main_v9_apply, v9_idx, val_main_v8_apply, v8_idx, val_main_v7_apply, val_main_v6_apply, val_main_v5_apply, v5_idx, val_main_v4_apply, v4_idx,
    val_main_v3_apply, v3_idx, val_main_v2_apply, v2_idx, val_main_v1_apply, v1_idx, val_main_v0_apply, v0_idx, val_main_cst_apply, val_main_cst_0_apply,
    val_main_cst_1_apply, val_main_cst_10_apply, val_main_cst_2_apply, val_main_cst_6_apply, val_main_cst_7_apply, val_main_cst_8_apply,
    val_main_cst_9_apply]
  pointwise
  simp only [dbias, dy, back, pull, ms, rs, row, cot]

/-- The reference's: the gradient in the gate. -/
theorem dgate_ref : val_main_v55 (F := Ideal) A.y A.bias A.g A.ct = fun i => ∑ r : Fin 2048, dgate A r (i 1) := by
  funext i
  idx_vars i
  obtain rfl : i0 = 0 := Subsingleton.elim _ _
  simp only [val_main_v55_apply, v55_idx, v54_at, val_main_v29_apply, v29_idx, val_main_v28_apply, v28_idx, val_main_v27_apply, val_main_v22_apply,
    val_main_v21_apply, v21_idx, val_main_v20_apply, v20_idx, val_main_v19_apply, val_main_v18_apply, v18_idx, val_main_v14_apply, val_main_v13_apply,
    val_main_v12_apply, val_main_v11_apply, val_main_v10_apply, val_main_v9_apply, v9_idx, val_main_v8_apply, v8_idx, val_main_v7_apply, val_main_v6_apply,
    val_main_v5_apply, v5_idx, val_main_v4_apply, v4_idx, val_main_v2_apply, v2_idx, val_main_v1_apply, v1_idx, val_main_v0_apply, v0_idx,
    val_main_cst_apply, val_main_cst_0_apply, val_main_cst_1_apply, val_main_cst_11_apply, val_main_cst_3_apply]
  pointwise
  simp only [dgate, dy, back, pull, ms, rs, row, cot]

/-- The reference's: the gradient in the gain. -/
theorem dg_ref : val_main_v59 (F := Ideal) A.y A.bias A.gate A.ct = fun i => ∑ r : Fin 2048, dg A r (i 1) := by
  funext i
  idx_vars i
  obtain rfl : i0 = 0 := Subsingleton.elim _ _
  simp only [val_main_v59_apply, v59_idx, v35_at, val_main_v32_apply, v32_idx, val_main_v31_apply, v31_idx, val_main_v30_apply, val_main_v26_apply,
    val_main_v25_apply, v25_idx, val_main_v19_apply, val_main_v18_apply, v18_idx, val_main_v14_apply, val_main_v13_apply, val_main_v12_apply,
    val_main_v11_apply, val_main_v10_apply, val_main_v9_apply, v9_idx, val_main_v8_apply, v8_idx, val_main_v7_apply, val_main_v6_apply, val_main_v5_apply,
    v5_idx, val_main_v4_apply, v4_idx, val_main_v3_apply, v3_idx, val_main_v0_apply, v0_idx, val_main_cst_apply, val_main_cst_0_apply,
    val_main_cst_1_apply, val_main_cst_4_apply, val_main_cst_5_apply]
  pointwise
  simp only [dg, dy, back, pull, ms, rs, row, cot]

end Cert.PostbRefIdeal.Rows

open Idealize.ShloMosaic Idealize.SL.Sem

namespace Cert.Proof.PostbClaims

/-- The kernel as printed, idealized, and the reference: each ends, its arguments unchanged, its counters at zero. -/
theorem frame_p : quiescent_Postb := fun m ρ _ => Postb.Gen.frame m ρ
theorem frame_pi : quiescent_PostbIdeal := fun m ρ _ => PostbIdeal.Gen.frame m ρ
theorem frame_ri : quiescent_PostbRefIdeal := fun m ρ _ =>
  (θ_run PostbRefIdeal.defs _ _).mono (fun r h => ⟨fun c => (h c).2.2.2.2, sem_eq_zero_of_no_sems (by decide) r.2⟩)
    (PostbRefIdeal.Value.run (F := Ideal) m ρ)

/-- The idealized kernel's results are the reference's. -/
theorem algebraic : algebraic_PostbIdeal_PostbRefIdeal := by
  intro m ρ m' ρ' _ hagree
  refine ⟨_, _, _, _, PostbIdeal.Value.run_blocks (F := Ideal) m ρ, ?_⟩
  refine (θ_run PostbRefIdeal.defs _ _).mono (fun _ h c => ⟨(h c).1.trans ?_, (h c).2.1.trans ?_, (h c).2.2.1.trans ?_, (h c).2.2.2.1.trans ?_,
    (h c).2.2.2.2⟩) (PostbRefIdeal.Value.run (F := Ideal) m' ρ')
  · refine (PostbRefIdeal.Read.val_main_v57_eq _ _).trans ?_
    rw [(hagree c).1, (hagree c).2.1, (hagree c).2.2.1, (hagree c).2.2.2.1, (hagree c).2.2.2.2]
    exact (PostbRefIdeal.Rows.dy_ref (PostbIdeal.Rows.ins m c)).trans (PostbIdeal.Rows.dy_final m c).symm
  · refine (PostbRefIdeal.Read.val_main_v58_eq _ _).trans ?_
    rw [(hagree c).1, (hagree c).2.1, (hagree c).2.2.1, (hagree c).2.2.2.1, (hagree c).2.2.2.2]
    exact (PostbRefIdeal.Rows.dbias_ref (PostbIdeal.Rows.ins m c)).trans (PostbIdeal.Rows.dbias_final m c).symm
  · refine (PostbRefIdeal.Read.val_main_v55_eq (F := Ideal) _ _ _ _).trans ?_
    rw [(hagree c).1, (hagree c).2.1, (hagree c).2.2.2.1, (hagree c).2.2.2.2]
    exact (PostbRefIdeal.Rows.dgate_ref (PostbIdeal.Rows.ins m c)).trans (PostbIdeal.Rows.dgate_final m c).symm
  · refine (PostbRefIdeal.Read.val_main_v59_eq (F := Ideal) _ _ _ _).trans ?_
    rw [(hagree c).1, (hagree c).2.1, (hagree c).2.2.1, (hagree c).2.2.2.2]
    exact (PostbRefIdeal.Rows.dg_ref (PostbIdeal.Rows.ins m c)).trans (PostbIdeal.Rows.dg_final m c).symm

end Cert.Proof.PostbClaims
-- ==== Proof.PreClaims.lean ====
/- The claims about the call of the modulated pre-norm's gradients. -/
module

public import proofs.«01_k».proof.Proof.NormSpec
public import proofs.«01_k».proof.Proof.Gen.PreIdeal.Value
public import proofs.«01_k».proof.Proof.Gen.PreRefIdeal.Read
public import proofs.«01_k».proof.Defs
public import proofs.«01_k».proof.Proof.Gen.Pre.Frame

@[expose] public section

set_option maxRecDepth 16384

noncomputable section

namespace Cert.PreSpec

open Idealize.ShloMosaic Cert.NormSpec

/-- The arguments. -/
structure In where
  h : (⟨3, ![1, 2048, 2048]⟩ : Shape).Idx → EReal
  g : (⟨2, ![2, 2048]⟩ : Shape).Idx → EReal
  shift : (⟨2, ![1, 2048]⟩ : Shape).Idx → EReal
  scale : (⟨2, ![1, 2048]⟩ : Shape).Idx → EReal
  ct : (⟨3, ![1, 2048, 2048]⟩ : Shape).Idx → EReal
  dh : (⟨3, ![1, 2048, 2048]⟩ : Shape).Idx → EReal

variable (A : In)

/-- Row `r` of the input, the cotangent of that row scaled and multiplied by the gain, and the same before the gain. -/
abbrev row (r : Fin 2048) : Fin 2048 → EReal := fun k => A.h (ix3 0 r k)
abbrev up (r k : Fin 2048) : EReal := A.ct (ix3 0 r k) * (1 + A.scale (ix2 0 k))
abbrev cot (r : Fin 2048) : Fin 2048 → EReal := fun k => up A r k * A.g (ix2 0 k)

/-- The gradient in the input, with the cotangent that passes the norm by. -/
def dx (r k : Fin 2048) : EReal := back wide (row A r) (cot A r) k + A.dh (ix3 0 r k)

/-- What row `r` adds to the gradients in the gain, in the shift and in the scale. -/
def dg (r k : Fin 2048) : EReal := A.h (ix3 0 r k) * rs wide (row A r) * up A r k
def dshift (r k : Fin 2048) : EReal := A.ct (ix3 0 r k)
def dscale (r k : Fin 2048) : EReal := A.h (ix3 0 r k) * rs wide (row A r) * A.g (ix2 0 k) * A.ct (ix3 0 r k)

end Cert.PreSpec

namespace Cert.PreIdeal.Rows

open Cert.PreIdeal Cert.PreIdeal.Gen Idealize.ShloMosaic Idealize.ShloMosaic.TcCoe Idealize.SL.Sem Cert.NormSpec Cert.PreSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![0, 0] ∧ win0_4.index t = ![t.val, 0] ∧
    win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧
    win0_5.index t = ![t.val, 0] ∧ win0_6.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (k : Fin 2048) : iblk m c 1 t (ix2 0 k) = (ins m c).g (ix2 0 k) := by
  blk_point [iblk, V, (index_all t).2.1]
theorem blk2 (t : Fin cfg0.N) (k : Fin 2048) : iblk m c 2 t (ix2 0 k) = (ins m c).shift (ix2 0 k) := by
  blk_point [iblk, V, (index_all t).2.2.1]
theorem blk3 (t : Fin cfg0.N) (k : Fin 2048) : iblk m c 3 t (ix2 0 k) = (ins m c).scale (ix2 0 k) := by
  blk_point [iblk, V, (index_all t).2.2.2.1]
theorem blk4 (t : Fin cfg0.N) (x : Fin 256) (k : Fin 2048) : iblk m c 4 t (ix2 x k) = (ins m c).ct (ix3 0 (at_ t x) k) := by
  blk_point [iblk, V, (index_all t).2.2.2.2.1]
theorem blk5 (t : Fin cfg0.N) (x : Fin 256) (k : Fin 2048) : iblk m c 5 t (ix2 x k) = (ins m c).dh (ix3 0 (at_ t x) k) := by
  blk_point [iblk, V, (index_all t).2.2.2.2.2.1]

/-- After the run result 0 is the gradient in the input. -/
theorem dx_final : (dats m 0 c).arrAt 6 cfg0.N = fun i => dx (ins m c) (i 0) (i 1) := by
  refine (dats m 0 c).arrAt_eq_of_covers 6 _ (by decide +kernel) fun t hf y => ?_
  have hN : cfg0.N = 8 := N_0
  have ht : t.val < 8 := hN ▸ t.isLt
  blk_simp
  rw [after0_6]
  idx_vars y
  have e0 : (((cfg0.win 6).blk t).view.emb (ix2 y0 y1)) 0 = at_ t y0 := Fin.ext (by blk_simp [(index_all t).2.2.2.2.2.2]; simp [mul_comm])
  have e1 : (((cfg0.win 6).blk t).view.emb (ix2 y0 y1)) 1 = y1 := Fin.ext (by blk_simp [(index_all t).2.2.2.2.2.2])
  refine Eq.trans ?_ (congrArg₂ (dx (ins m c)) e0.symm e1.symm)
  by_cases h : t.val = 0
  · rw [Gen.outsAt0_A m c t (by omega) (by omega) (by omega) (by omega) (by omega) (by omega)]
    frame_out
    unfold_payloads
    pointwise
    simp only [blk0, blk1, blk2, blk3, blk4, blk5, Fin.sum_univ_one, Fin.isValue]
    rfl
  · rw [Gen.outsAt0_B m c t (by omega) (by omega) (by omega) (by omega) (by omega) (by omega)]
    frame_out
    unfold_payloads
    pointwise
    simp only [blk0, blk1, blk2, blk3, blk4, blk5, Fin.sum_univ_one, Fin.isValue]
    rfl

/-- After the run result 1 is the gradient in the gain. -/
theorem dg_final : (dats m 0 c).arrAt 7 cfg0.N = fun i => ∑ r : Fin 2048, dg (ins m c) r (i 1) := by
  refine (dats m 0 c).arrAt_eq_of_after_last 7 t0_7 (by decide +kernel) _ fun j => ?_
  have hN : cfg0.N = 8 := N_0
  blk_simp
  rw [after0_7]
  refine (Pipeline.eq_sum_fin_of_reset_step_apply_last (fun n h => (outsAt0 m c n h).2.1) 8 (fun _ => 0)
    (fun t j => ∑ x : Fin 256, dg (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, blk5, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, blk5, Fin.sum_univ_one, Fin.isValue]
    rfl
  · rw [zero_add]
    exact sum_blocks (fun r => dg (ins m c) r (j 1)) _

/-- After the run result 2 is the gradient in the shift. -/
theorem dshift_final : (dats m 0 c).arrAt 8 cfg0.N = fun i => ∑ r : Fin 2048, dshift (ins m c) r (i 1) := by
  refine (dats m 0 c).arrAt_eq_of_after_last 8 t0_7 (by decide +kernel) _ fun j => ?_
  have hN : cfg0.N = 8 := N_0
  blk_simp
  rw [after0_8]
  refine (Pipeline.eq_sum_fin_of_reset_step_apply_last (fun n h => (outsAt0 m c n h).2.2.1) 8 (fun _ => 0)
    (fun t j => ∑ x : Fin 256, dshift (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, blk5, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, blk5, Fin.sum_univ_one, Fin.isValue]
    rfl
  · rw [zero_add]
    exact sum_blocks (fun r => dshift (ins m c) r (j 1)) _

/-- After the run result 3 is the gradient in the scale. -/
theorem dscale_final : (dats m 0 c).arrAt 9 cfg0.N = fun i => ∑ r : Fin 2048, dscale (ins m c) r (i 1) := by
  refine (dats m 0 c).arrAt_eq_of_after_last 9 t0_7 (by decide +kernel) _ fun j => ?_
  have hN : cfg0.N = 8 := N_0
  blk_simp
  rw [after0_9]
  refine (Pipeline.eq_sum_fin_of_reset_step_apply_last (fun n h => (outsAt0 m c n h).2.2.2) 8 (fun _ => 0)
    (fun t j => ∑ x : Fin 256, dscale (ins m c) (at_ t x) (j 1)) (fun t h j => ?_) (fun t h j => ?_) (by omega) t0_7 rfl j).trans ?_
  · rw [Gen.outsAt0_A m c t (by omega) (by omega) (by omega) (by omega) (by omega) (by omega)]
    idx_vars j
    frame_out
    unfold_payloads
    pointwise
    simp only [blk0, blk1, blk2, blk3, blk4, blk5, Fin.sum_univ_one, Fin.isValue, zero_add]
    rfl
  · rw [Gen.outsAt0_B m c t (by omega) (by omega) (by omega) (by omega) (by omega) (by omega)]
    idx_vars j
    frame_out
    unfold_payloads
    pointwise
    simp only [blk0, blk1, blk2, blk3, blk4, blk5, Fin.sum_univ_one, Fin.isValue]
    rfl
  · rw [zero_add]
    exact sum_blocks (fun r => dscale (ins m c) r (j 1)) _

end Cert.PreIdeal.Rows

namespace Cert.PreRefIdeal.Rows

open Cert.PreRefIdeal Cert.PreRefIdeal.Gen Cert.PreRefIdeal.Read Idealize.ShloMosaic Cert.NormSpec Cert.PreSpec

variable (A : In)

/-- Sums over axes of one entry. -/
theorem v60_idx (i0 : Fin 2048) (i1 : Fin 2048) : idx_main_v60 (ix2 i0 i1) = (ix3 0 i0 i1 : S1x2048x2048.Idx) := by
  blk_ext <;> omega

theorem v55_idx (i1 : Fin 2048) (i2 : Fin 2048) : idx_main_v55 (ix3 0 i1 i2) = (ix2 0 i1 : S1x2048.Idx) := by
  blk_ext <;> omega

theorem v54_idx (i1 : Fin 2048) : idx_main_v54 (ix2 0 i1) = (ix1 i1 : S2048.Idx) := by
  blk_ext <;> omega

theorem v53_at (k : Fin 2048) : val_main_v53 (F := Ideal) A.h A.g A.scale A.ct (ix1 k) = val_main_v52 (F := Ideal) A.h A.g A.scale A.ct (ix3 0 k 0) := by
  unfold val_main_v53
  generalize val_main_v52 (F := Ideal) A.h A.g A.scale A.ct = w
  simp only [Host.reduceAdd, Ideal.hostReduceAdd_def]
  exact unit02 w _ _

theorem v47_idx (i1 : Fin 2048) (i2 : Fin 2048) : idx_main_v47 (ix3 0 i1 i2) = (ix3 0 i1 0 : S1x2048x1.Idx) := by
  blk_ext <;> omega

theorem v46_idx (i1 : Fin 2048) : idx_main_v46 (ix3 0 i1 0) = (ix2 0 i1 : S1x2048.Idx) := by
  blk_ext <;> omega

theorem v45_idx (i1 : Fin 2048) (k : Fin 2048) : idx_main_v45 (ix2 0 i1) k = (ix3 0 i1 k : S1x2048x2048.Idx) := by
  blk_ext <;> omega

theorem v41_idx (i1 : Fin 2048) (i2 : Fin 2048) : idx_main_v41 (ix3 0 i1 i2) = (ix3 0 0 i2 : S1x1x2048.Idx) := by
  blk_ext <;> omega

theorem v34_idx (i1 : Fin 2048) (i2 : Fin 2048) : idx_main_v34 (ix3 0 i1 i2) = (ix3 0 0 i2 : S1x1x2048.Idx) := by
  blk_ext <;> omega

theorem v26_idx (i1 : Fin 2048) (i2 : Fin 2048) : idx_main_v26 (ix3 0 i1 i2) = (ix3 0 i1 i2 : S1x2048x2048.Idx) := by
  blk_ext <;> omega

theorem v18_idx (i2 : Fin 2048) : idx_main_v18 (ix3 0 0 i2) = (ix2 0 i2 : S1x2048.Idx) := by
  blk_ext <;> omega

theorem v15_idx (i2 : Fin 2048) : idx_main_v15 (ix3 0 0 i2) = (ix1 i2 : S2048.Idx) := by
  blk_ext <;> omega

theorem v4_idx (i1 : Fin 2048) : idx_main_v4 (ix3 0 i1 0) = (ix2 0 i1 : S1x2048.Idx) := by
  blk_ext <;> omega

theorem v3_idx (i1 : Fin 2048) (k : Fin 2048) : idx_main_v3 (ix2 0 i1) k = (ix3 0 i1 k : S1x2048x2048.Idx) := by
  blk_ext <;> omega

theorem v1_idx (i0 : Fin 2048) : idx_main_v1 (ix1 i0) = (ix2 0 i0 : S1x2048.Idx) := by
  blk_ext <;> omega

theorem v0_idx (i1 : Fin 2048) : idx_main_v0 (ix2 0 i1) = (ix2 0 i1 : S2x2048.Idx) := by
  blk_ext <;> omega

theorem v61_idx (i1 : Fin 2048) : idx_main_v61 (ix2 0 i1) = (ix1 i1 : S2048.Idx) := by
  blk_ext <;> omega

theorem v43_at (k : Fin 2048) : val_main_v43 (F := Ideal) A.h A.scale A.ct (ix1 k) = val_main_v40 (F := Ideal) A.h A.scale A.ct (ix3 0 0 k) := by
  unfold val_main_v43
  generalize val_main_v40 (F := Ideal) A.h A.scale A.ct = w
  simp only [Host.reduceAdd, Ideal.hostReduceAdd_def]
  exact unit01 w _ _

theorem v40_idx (i2 : Fin 2048) : idx_main_v40 (ix3 0 0 i2) = (ix2 0 i2 : S1x2048.Idx) := by
  blk_ext <;> omega

theorem v39_idx (i1 : Fin 2048) (k : Fin 2048) : idx_main_v39 (ix2 0 i1) k = (ix3 0 k i1 : S1x2048x2048.Idx) := by
  blk_ext <;> omega

theorem v13_idx (i1 : Fin 2048) (i2 : Fin 2048) : idx_main_v13 (ix3 0 i1 i2) = (ix3 0 i1 0 : S1x2048x1.Idx) := by
  blk_ext <;> omega

theorem v30_idx (i1 : Fin 2048) : idx_main_v30 (ix2 0 i1) = (ix1 i1 : S2048.Idx) := by
  blk_ext <;> omega

theorem v29_at (k : Fin 2048) : val_main_v29 (F := Ideal) A.ct (ix1 k) = val_main_v28 (F := Ideal) A.ct (ix3 0 0 k) := by
  unfold val_main_v29
  generalize val_main_v28 (F := Ideal) A.ct = w
  simp only [Host.reduceAdd, Ideal.hostReduceAdd_def]
  exact unit01 w _ _

theorem v28_idx (i2 : Fin 2048) : idx_main_v28 (ix3 0 0 i2) = (ix2 0 i2 : S1x2048.Idx) := by
  blk_ext <;> omega

theorem v27_idx (i1 : Fin 2048) (k : Fin 2048) : idx_main_v27 (ix2 0 i1) k = (ix3 0 k i1 : S1x2048x2048.Idx) := by
  blk_ext <;> omega

theorem v37_idx (i1 : Fin 2048) : idx_main_v37 (ix2 0 i1) = (ix1 i1 : S2048.Idx) := by
  blk_ext <;> omega

theorem v36_at (k : Fin 2048) : val_main_v36 (F := Ideal) A.h A.g A.ct (ix1 k) = val_main_v33 (F := Ideal) A.h A.g A.ct (ix3 0 0 k) := by
  unfold val_main_v36
  generalize val_main_v33 (F := Ideal) A.h A.g A.ct = w
  simp only [Host.reduceAdd, Ideal.hostReduceAdd_def]
  exact unit01 w _ _

theorem v33_idx (i2 : Fin 2048) : idx_main_v33 (ix3 0 0 i2) = (ix2 0 i2 : S1x2048.Idx) := by
  blk_ext <;> omega

theorem v32_idx (i1 : Fin 2048) (k : Fin 2048) : idx_main_v32 (ix2 0 i1) k = (ix3 0 k i1 : S1x2048x2048.Idx) := by
  blk_ext <;> omega

theorem v16_idx (i1 : Fin 2048) (i2 : Fin 2048) : idx_main_v16 (ix3 0 i1 i2) = (ix3 0 0 i2 : S1x1x2048.Idx) := by
  blk_ext <;> omega

/-- The reference's: the gradient in the input. -/
theorem dx_ref : val_main_v60 (F := Ideal) A.h A.g A.scale A.ct A.dh = fun i => dx A (i 0) (i 1) := by
  funext i
  idx_vars i
  simp only [val_main_v60_apply, v60_idx, val_main_v59_apply, val_main_v58_apply, val_main_v57_apply, val_main_v56_apply, val_main_v55_apply, v55_idx,
    val_main_v54_apply, v54_idx, v53_at, val_main_v52_apply, val_main_v51_apply, val_main_v50_apply, val_main_v49_apply, val_main_v48_apply,
    val_main_v47_apply, v47_idx, val_main_v46_apply, v46_idx, val_main_v45_apply, v45_idx, val_main_v44_apply, val_main_v42_apply, val_main_v41_apply,
    v41_idx, val_main_v35_apply, val_main_v34_apply, v34_idx, val_main_v26_apply, v26_idx, val_main_v20_apply, val_main_v19_apply, val_main_v18_apply,
    v18_idx, val_main_v15_apply, v15_idx, val_main_v12_apply, val_main_v11_apply, val_main_v10_apply, val_main_v9_apply, val_main_v8_apply,
    val_main_v7_apply, val_main_v6_apply, val_main_v5_apply, val_main_v4_apply, v4_idx, val_main_v3_apply, v3_idx, val_main_v2_apply, val_main_v1_apply,
    v1_idx, val_main_v0_apply, v0_idx, val_main_cst_apply, val_main_cst_0_apply, val_main_cst_1_apply, val_main_cst_10_apply, val_main_cst_11_apply,
    val_main_cst_12_apply, val_main_cst_2_apply, val_main_cst_3_apply]
  pointwise
  simp only [dx, back, pull, ms, rs, row, cot, up]
  exact add_front _ _ _ _

/-- The reference's: the gradient in the gain. -/
theorem dg_ref : val_main_v61 (F := Ideal) A.h A.scale A.ct = fun i => ∑ r : Fin 2048, dg A r (i 1) := by
  funext i
  idx_vars i
  obtain rfl : i0 = 0 := Subsingleton.elim _ _
  simp only [val_main_v61_apply, v61_idx, v43_at, val_main_v40_apply, v40_idx, val_main_v39_apply, v39_idx, val_main_v38_apply, val_main_v35_apply,
    val_main_v34_apply, v34_idx, val_main_v26_apply, v26_idx, val_main_v20_apply, val_main_v19_apply, val_main_v18_apply, v18_idx, val_main_v14_apply,
    val_main_v13_apply, v13_idx, val_main_v9_apply, val_main_v8_apply, val_main_v7_apply, val_main_v6_apply, val_main_v5_apply, val_main_v4_apply, v4_idx,
    val_main_v3_apply, v3_idx, val_main_v2_apply, val_main_cst_apply, val_main_cst_0_apply, val_main_cst_1_apply, val_main_cst_3_apply,
    val_main_cst_8_apply, val_main_cst_9_apply]
  pointwise
  simp only [dg, back, pull, ms, rs, row, cot, up]

/-- The reference's: the gradient in the shift. -/
theorem dshift_ref : val_main_v30 (F := Ideal) A.ct = fun i => ∑ r : Fin 2048, dshift A r (i 1) := by
  funext i
  idx_vars i
  obtain rfl : i0 = 0 := Subsingleton.elim _ _
  simp only [val_main_v30_apply, v30_idx, v29_at, val_main_v28_apply, v28_idx, val_main_v27_apply, v27_idx, val_main_cst_4_apply, val_main_cst_5_apply]
  pointwise
  simp only [dshift, back, pull, ms, rs, row, cot, up]

/-- The reference's: the gradient in the scale. -/
theorem dscale_ref : val_main_v37 (F := Ideal) A.h A.g A.ct = fun i => ∑ r : Fin 2048, dscale A r (i 1) := by
  funext i
  idx_vars i
  obtain rfl : i0 = 0 := Subsingleton.elim _ _
  simp only [val_main_v37_apply, v37_idx, v36_at, val_main_v33_apply, v33_idx, val_main_v32_apply, v32_idx, val_main_v31_apply, val_main_v26_apply, v26_idx,
    val_main_v17_apply, val_main_v16_apply, v16_idx, val_main_v15_apply, v15_idx, val_main_v14_apply, val_main_v13_apply, v13_idx, val_main_v9_apply,
    val_main_v8_apply, val_main_v7_apply, val_main_v6_apply, val_main_v5_apply, val_main_v4_apply, v4_idx, val_main_v3_apply, v3_idx, val_main_v2_apply,
    val_main_v1_apply, v1_idx, val_main_v0_apply, v0_idx, val_main_cst_apply, val_main_cst_0_apply, val_main_cst_1_apply, val_main_cst_6_apply,
    val_main_cst_7_apply]
  pointwise
  simp only [dscale, back, pull, ms, rs, row, cot, up]

end Cert.PreRefIdeal.Rows

open Idealize.ShloMosaic Idealize.SL.Sem

namespace Cert.Proof.PreClaims

/-- The kernel as printed, idealized, and the reference: each ends, its arguments unchanged, its counters at zero. -/
theorem frame_p : quiescent_Pre := fun m ρ _ => Pre.Gen.frame m ρ
theorem frame_pi : quiescent_PreIdeal := fun m ρ _ => PreIdeal.Gen.frame m ρ
theorem frame_ri : quiescent_PreRefIdeal := fun m ρ _ =>
  (θ_run PreRefIdeal.defs _ _).mono (fun r h => ⟨fun c => (h c).2.2.2.2, sem_eq_zero_of_no_sems (by decide) r.2⟩)
    (PreRefIdeal.Value.run (F := Ideal) m ρ)

/-- The idealized kernel's results are the reference's. -/
theorem algebraic : algebraic_PreIdeal_PreRefIdeal := by
  intro m ρ m' ρ' _ hagree
  refine ⟨_, _, _, _, PreIdeal.Value.run_blocks (F := Ideal) m ρ, ?_⟩
  refine (θ_run PreRefIdeal.defs _ _).mono (fun _ h c => ⟨(h c).1.trans ?_, (h c).2.1.trans ?_, (h c).2.2.1.trans ?_, (h c).2.2.2.1.trans ?_,
    (h c).2.2.2.2⟩) (PreRefIdeal.Value.run (F := Ideal) m' ρ')
  · refine (PreRefIdeal.Read.val_main_v60_eq _ _).trans ?_
    rw [(hagree c).1, (hagree c).2.1, (hagree c).2.2.2.1, (hagree c).2.2.2.2.1, (hagree c).2.2.2.2.2]
    exact (PreRefIdeal.Rows.dx_ref (PreIdeal.Rows.ins m c)).trans (PreIdeal.Rows.dx_final m c).symm
  · refine (PreRefIdeal.Read.val_main_v61_eq (F := Ideal) _ _ _).trans ?_
    rw [(hagree c).1, (hagree c).2.2.2.1, (hagree c).2.2.2.2.1]
    exact (PreRefIdeal.Rows.dg_ref (PreIdeal.Rows.ins m c)).trans (PreIdeal.Rows.dg_final m c).symm
  · refine (PreRefIdeal.Read.val_main_v30_eq (F := Ideal) _).trans ?_
    rw [(hagree c).2.2.2.2.1]
    exact (PreRefIdeal.Rows.dshift_ref (PreIdeal.Rows.ins m c)).trans (PreIdeal.Rows.dshift_final m c).symm
  · refine (PreRefIdeal.Read.val_main_v37_eq (F := Ideal) _ _ _).trans ?_
    rw [(hagree c).1, (hagree c).2.1, (hagree c).2.2.2.2.1]
    exact (PreRefIdeal.Rows.dscale_ref (PreIdeal.Rows.ins m c)).trans (PreIdeal.Rows.dscale_final m c).symm

end Cert.Proof.PreClaims
-- ==== Proof.TwinClaims.lean ====
/- The claims about the call of the gradients of the two modulated pre-norms of one stream. -/
module

public import proofs.«01_k».proof.Proof.NormSpec
public import proofs.«01_k».proof.Proof.Gen.TwinIdeal.Value
public import proofs.«01_k».proof.Proof.Gen.TwinRefIdeal.Read
public import proofs.«01_k».proof.Defs
public import proofs.«01_k».proof.Proof.Gen.Twin.Frame

@[expose] public section

set_option maxRecDepth 16384

noncomputable section

namespace Cert.TwinSpec

open Idealize.ShloMosaic Cert.NormSpec

/-- The arguments. -/
structure In where
  h : (⟨3, ![1, 2048, 2048]⟩ : Shape).Idx → EReal
  gkv : (⟨1, ![2048]⟩ : Shape).Idx → EReal
  kvshift : (⟨2, ![1, 2048]⟩ : Shape).Idx → EReal
  kvscale : (⟨2, ![1, 2048]⟩ : Shape).Idx → EReal
  g : (⟨2, ![2, 2048]⟩ : Shape).Idx → EReal
  shift : (⟨2, ![1, 2048]⟩ : Shape).Idx → EReal
  scale : (⟨2, ![1, 2048]⟩ : Shape).Idx → EReal
  ctkv : (⟨3, ![1, 2048, 2048]⟩ : Shape).Idx → EReal
  ct : (⟨3, ![1, 2048, 2048]⟩ : Shape).Idx → EReal
  dh : (⟨3, ![1, 2048, 2048]⟩ : Shape).Idx → EReal

variable (A : In)

/-- Row `r` of the stream; the queries' cotangent multiplied by the scale, and that multiplied by the gain; the same for the keys. -/
abbrev row (r : Fin 2048) : Fin 2048 → EReal := fun k => A.h (ix3 0 r k)
abbrev up (r k : Fin 2048) : EReal := A.ct (ix3 0 r k) * (1 + A.scale (ix2 0 k))
abbrev cot (r : Fin 2048) : Fin 2048 → EReal := fun k => up A r k * A.g (ix2 1 k)
abbrev upkv (r k : Fin 2048) : EReal := A.ctkv (ix3 0 r k) * (1 + A.kvscale (ix2 0 k))
abbrev cotkv (r : Fin 2048) : Fin 2048 → EReal := fun k => upkv A r k * A.gkv (ix1 k)

/-- The gradient in the stream: through the queries' norm, through the keys', and past both. -/
def dx (r k : Fin 2048) : EReal :=
  back wide (row A r) (cot A r) k + cotkv A r k * rs wide (row A r) + row A r k * pull wide (row A r) (cotkv A r)
    + pull wide (row A r) (cotkv A r) * row A r k + A.dh (ix3 0 r k)

/-- What row `r` adds to the gradients in the gains, shifts and scales. -/
def dgkv (r k : Fin 2048) : EReal := A.h (ix3 0 r k) * rs wide (row A r) * upkv A r k
def dkvshift (r k : Fin 2048) : EReal := A.ctkv (ix3 0 r k)
def dkvscale (r k : Fin 2048) : EReal := A.h (ix3 0 r k) * rs wide (row A r) * A.gkv (ix1 k) * A.ctkv (ix3 0 r k)
def dg (r k : Fin 2048) : EReal := A.h (ix3 0 r k) * rs wide (row A r) * up A r k
def dshift (r k : Fin 2048) : EReal := A.ct (ix3 0 r k)
def dscale (r k : Fin 2048) : EReal := A.h (ix3 0 r k) * rs wide (row A r) * A.g (ix2 1 k) * A.ct (ix3 0 r k)

end Cert.TwinSpec

namespace Cert.TwinIdeal.Rows

open Cert.TwinIdeal Cert.TwinIdeal.Gen Idealize.ShloMosaic Idealize.ShloMosaic.TcCoe Idealize.SL.Sem Cert.NormSpec Cert.TwinSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![t.val, 0] ∧ win0_8.index t = ![t.val, 0] ∧ win0_9.index t = ![t.val, 0] ∧
    win0_10.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![t.val, 0] ∧ win0_8.index t = ![t.val, 0] ∧ win0_9.index t = ![t.val, 0] ∧
    win0_10.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (k : Fin 2048) : iblk m c 1 t (ix2 0 k) = (ins m c).gkv (ix1 k) := by
  blk_point [iblk, V, (index_all t).2.1]
theorem blk2 (t : Fin cfg0.N) (k : Fin 2048) : iblk m c 2 t (ix2 0 k) = (ins m c).kvshift (ix2 0 k) := by
  blk_point [iblk, V, (index_all t).2.2.1]
theorem blk3 (t : Fin cfg0.N) (k : Fin 2048) : iblk m c 3 t (ix2 0 k) = (ins m c).kvscale (ix2 0 k) := by
  blk_point [iblk, V, (index_all t).2.2.2.1]
theorem blk4 (t : Fin cfg0.N) (k : Fin 2048) : iblk m c 4 t (ix2 0 k) = (ins m c).g (ix2 1 k) := by
  blk_point [iblk, V, (index_all t).2.2.2.2.1]
theorem blk5 (t : Fin cfg0.N) (k : Fin 2048) : iblk m c 5 t (ix2 0 k) = (ins m c).shift (ix2 0 k) := by
  blk_point [iblk, V, (index_all t).2.2.2.2.2.1]
theorem blk6 (t : Fin cfg0.N) (k : Fin 2048) : iblk m c 6 t (ix2 0 k) = (ins m c).scale (ix2 0 k) := by
  blk_point [iblk, V, (index_all t).2.2.2.2.2.2.1]
theorem blk7 (t : Fin cfg0.N) (x : Fin 256) (k : Fin 2048) : iblk m c 7 t (ix2 x k) = (ins m c).ctkv (ix3 0 (at_ t x) k) := by
  blk_point [iblk, V, (index_all t).2.2.2.2.2.2.2.1]
theorem blk8 (t : Fin cfg0.N) (x : Fin 256) (k : Fin 2048) : iblk m c 8 t (ix2 x k) = (ins m c).ct (ix3 0 (at_ t x) k) := by
  blk_point [iblk, V, (index_all t).2.2.2.2.2.2.2.2.1]
theorem blk9 (t : Fin cfg0.N) (x : Fin 256) (k : Fin 2048) : iblk m c 9 t (ix2 x k) = (ins m c).dh (ix3 0 (at_ t x) k) := by
  blk_point [iblk, V, (index_all t).2.2.2.2.2.2.2.2.2.1]

/-- After the run result 0 is the gradient in the stream. -/
theorem dx_final : (dats m 0 c).arrAt 10 cfg0.N = fun i => dx (ins m c) (i 0) (i 1) := by
  refine (dats m 0 c).arrAt_eq_of_covers 10 _ (by decide +kernel) fun t hf y => ?_
  have hN : cfg0.N = 8 := N_0
  have ht : t.val < 8 := hN ▸ t.isLt
  blk_simp
  rw [after0_10]
  idx_vars y
  have e0 : (((cfg0.win 10).blk t).view.emb (ix2 y0 y1)) 0 = at_ t y0 := Fin.ext (by blk_simp [(index_all t).2.2.2.2.2.2.2.2.2.2]; simp [mul_comm])
  have e1 : (((cfg0.win 10).blk t).view.emb (ix2 y0 y1)) 1 = y1 := Fin.ext (by blk_simp [(index_all t).2.2.2.2.2.2.2.2.2.2])
  refine Eq.trans ?_ (congrArg₂ (dx (ins m c)) e0.symm e1.symm)
  by_cases h : t.val = 0
  · rw [Gen.outsAt0_A m c t (by omega) (by omega) (by omega) (by omega) (by omega) (by omega) (by omega) (by omega) (by omega) (by omega) (by omega) (by omega)]
    frame_out
    unfold_payloads
    pointwise
    simp only [blk0, blk1, blk2, blk3, blk4, blk5, blk6, blk7, blk8, blk9, Fin.sum_univ_one, Fin.isValue]
    rfl
  · rw [Gen.outsAt0_B m c t (by omega) (by omega) (by omega) (by omega) (by omega) (by omega) (by omega) (by omega) (by omega) (by omega) (by omega) (by omega)]
    frame_out
    unfold_payloads
    pointwise
    simp only [blk0, blk1, blk2, blk3, blk4, blk5, blk6, blk7, blk8, blk9, Fin.sum_univ_one, Fin.isValue]
    rfl

/-- After the run result 1 is the gradient in the keys' gain. -/
theorem dgkv_final : (dats m 0 c).arrAt 11 cfg0.N = fun i => ∑ r : Fin 2048, dgkv (ins m c) r (i 1) := by
  refine (dats m 0 c).arrAt_eq_of_after_last 11 t0_7 (by decide +kernel) _ fun j => ?_
  have hN : cfg0.N = 8 := N_0
  blk_simp
  rw [after0_11]
  refine (Pipeline.eq_sum_fin_of_reset_step_apply_last (fun n h => (outsAt0 m c n h).2.1) 8 (fun _ => 0)
    (fun t j => ∑ x : Fin 256, dgkv (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dgkv (ins m c) r (j 1)) _

/-- After the run result 2 is the gradient in the keys' shift. -/
theorem dkvshift_final : (dats m 0 c).arrAt 12 cfg0.N = fun i => ∑ r : Fin 2048, dkvshift (ins m c) r (i 1) := by
  refine (dats m 0 c).arrAt_eq_of_after_last 12 t0_7 (by decide +kernel) _ fun j => ?_
  have hN : cfg0.N = 8 := N_0
  blk_simp
  rw [after0_12]
  refine (Pipeline.eq_sum_fin_of_reset_step_apply_last (fun n h => (outsAt0 m c n h).2.2.1) 8 (fun _ => 0)
    (fun t j => ∑ x : Fin 256, dkvshift (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dkvshift (ins m c) r (j 1)) _

/-- After the run result 3 is the gradient in the keys' scale. -/
theorem dkvscale_final : (dats m 0 c).arrAt 13 cfg0.N = fun i => ∑ r : Fin 2048, dkvscale (ins m c) r (i 1) := by
  refine (dats m 0 c).arrAt_eq_of_after_last 13 t0_7 (by decide +kernel) _ fun j => ?_
  have hN : cfg0.N = 8 := N_0
  blk_simp
  rw [after0_13]
  refine (Pipeline.eq_sum_fin_of_reset_step_apply_last (fun n h => (outsAt0 m c n h).2.2.2.1) 8 (fun _ => 0)
    (fun t j => ∑ x : Fin 256, dkvscale (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dkvscale (ins m c) r (j 1)) _

/-- After the run result 4 is the gradient in the queries' gain. -/
theorem dg_final : (dats m 0 c).arrAt 14 cfg0.N = fun i => ∑ r : Fin 2048, dg (ins m c) r (i 1) := by
  refine (dats m 0 c).arrAt_eq_of_after_last 14 t0_7 (by decide +kernel) _ fun j => ?_
  have hN : cfg0.N = 8 := N_0
  blk_simp
  rw [after0_14]
  refine (Pipeline.eq_sum_fin_of_reset_step_apply_last (fun n h => (outsAt0 m c n h).2.2.2.2.1) 8 (fun _ => 0)
    (fun t j => ∑ x : Fin 256, dg (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dg (ins m c) r (j 1)) _

/-- After the run result 5 is the gradient in the queries' shift. -/
theorem dshift_final : (dats m 0 c).arrAt 15 cfg0.N = fun i => ∑ r : Fin 2048, dshift (ins m c) r (i 1) := by
  refine (dats m 0 c).arrAt_eq_of_after_last 15 t0_7 (by decide +kernel) _ fun j => ?_
  have hN : cfg0.N = 8 := N_0
  blk_simp
  rw [after0_15]
  refine (Pipeline.eq_sum_fin_of_reset_step_apply_last (fun n h => (outsAt0 m c n h).2.2.2.2.2.1) 8 (fun _ => 0)
    (fun t j => ∑ x : Fin 256, dshift (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dshift (ins m c) r (j 1)) _

/-- After the run result 6 is the gradient in the queries' scale. -/
theorem dscale_final : (dats m 0 c).arrAt 16 cfg0.N = fun i => ∑ r : Fin 2048, dscale (ins m c) r (i 1) := by
  refine (dats m 0 c).arrAt_eq_of_after_last 16 t0_7 (by decide +kernel) _ fun j => ?_
  have hN : cfg0.N = 8 := N_0
  blk_simp
  rw [after0_16]
  refine (Pipeline.eq_sum_fin_of_reset_step_apply_last (fun n h => (outsAt0 m c n h).2.2.2.2.2.2) 8 (fun _ => 0)
    (fun t j => ∑ x : Fin 256, dscale (ins m c) (at_ t x) (j 1)) (fun t h j => ?_) (fun t h j => ?_) (by omega) t0_7 rfl j).trans ?_
  · rw [Gen.outsAt0_A m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue, zero_add]
    rfl
  · rw [Gen.outsAt0_B m c t (by omega) (by omega) (by omega) (by omega) (by omega) (by omega) (by omega) (by omega) (by omega) (by omega) (by omega) (by omega)]
    idx_vars j
    frame_out
    unfold_payloads
    pointwise
    simp only [blk0, blk1, blk2, blk3, blk4, blk5, blk6, blk7, blk8, blk9, Fin.sum_univ_one, Fin.isValue]
    rfl
  · rw [zero_add]
    exact sum_blocks (fun r => dscale (ins m c) r (j 1)) _

end Cert.TwinIdeal.Rows

namespace Cert.TwinRefIdeal.Rows

open Cert.TwinRefIdeal Cert.TwinRefIdeal.Gen Cert.TwinRefIdeal.Read Idealize.ShloMosaic Cert.NormSpec Cert.TwinSpec

variable (A : In)

/-- Sums over axes of one entry. -/
theorem v118_idx (i0 : Fin 2048) (i1 : Fin 2048) : idx_main_v118 (ix2 i0 i1) = (ix3 0 i0 i1 : S1x2048x2048.Idx) := by
  blk_ext <;> omega

theorem v113_idx (i1 : Fin 2048) (i2 : Fin 2048) : idx_main_v113 (ix3 0 i1 i2) = (ix2 0 i1 : S1x2048.Idx) := by
  blk_ext <;> omega

theorem v112_idx (i1 : Fin 2048) : idx_main_v112 (ix2 0 i1) = (ix1 i1 : S2048.Idx) := by
  blk_ext <;> omega

theorem v111_at (k : Fin 2048) : val_main_v111 (F := Ideal) A.h A.gkv A.kvscale A.ctkv (ix1 k) = val_main_v110 (F := Ideal) A.h A.gkv A.kvscale A.ctkv (ix3 0 k 0) := by
  unfold val_main_v111
  generalize val_main_v110 (F := Ideal) A.h A.gkv A.kvscale A.ctkv = w
  simp only [Host.reduceAdd, Ideal.hostReduceAdd_def]
  exact unit02 w _ _

theorem v105_idx (i1 : Fin 2048) (i2 : Fin 2048) : idx_main_v105 (ix3 0 i1 i2) = (ix3 0 i1 0 : S1x2048x1.Idx) := by
  blk_ext <;> omega

theorem v104_idx (i1 : Fin 2048) : idx_main_v104 (ix3 0 i1 0) = (ix2 0 i1 : S1x2048.Idx) := by
  blk_ext <;> omega

theorem v103_idx (i1 : Fin 2048) (k : Fin 2048) : idx_main_v103 (ix2 0 i1) k = (ix3 0 i1 k : S1x2048x2048.Idx) := by
  blk_ext <;> omega

theorem v99_idx (i1 : Fin 2048) (i2 : Fin 2048) : idx_main_v99 (ix3 0 i1 i2) = (ix3 0 0 i2 : S1x1x2048.Idx) := by
  blk_ext <;> omega

theorem v92_idx (i1 : Fin 2048) (i2 : Fin 2048) : idx_main_v92 (ix3 0 i1 i2) = (ix3 0 0 i2 : S1x1x2048.Idx) := by
  blk_ext <;> omega

theorem v84_idx (i1 : Fin 2048) (i2 : Fin 2048) : idx_main_v84 (ix3 0 i1 i2) = (ix3 0 i1 i2 : S1x2048x2048.Idx) := by
  blk_ext <;> omega

theorem v79_idx (i1 : Fin 2048) (i2 : Fin 2048) : idx_main_v79 (ix3 0 i1 i2) = (ix2 0 i1 : S1x2048.Idx) := by
  blk_ext <;> omega

theorem v78_idx (i1 : Fin 2048) : idx_main_v78 (ix2 0 i1) = (ix1 i1 : S2048.Idx) := by
  blk_ext <;> omega

theorem v77_at (k : Fin 2048) : val_main_v77 (F := Ideal) A.h A.g A.scale A.ct (ix1 k) = val_main_v76 (F := Ideal) A.h A.g A.scale A.ct (ix3 0 k 0) := by
  unfold val_main_v77
  generalize val_main_v76 (F := Ideal) A.h A.g A.scale A.ct = w
  simp only [Host.reduceAdd, Ideal.hostReduceAdd_def]
  exact unit02 w _ _

theorem v71_idx (i1 : Fin 2048) (i2 : Fin 2048) : idx_main_v71 (ix3 0 i1 i2) = (ix3 0 i1 0 : S1x2048x1.Idx) := by
  blk_ext <;> omega

theorem v70_idx (i1 : Fin 2048) : idx_main_v70 (ix3 0 i1 0) = (ix2 0 i1 : S1x2048.Idx) := by
  blk_ext <;> omega

theorem v69_idx (i1 : Fin 2048) (k : Fin 2048) : idx_main_v69 (ix2 0 i1) k = (ix3 0 i1 k : S1x2048x2048.Idx) := by
  blk_ext <;> omega

theorem v65_idx (i1 : Fin 2048) (i2 : Fin 2048) : idx_main_v65 (ix3 0 i1 i2) = (ix3 0 0 i2 : S1x1x2048.Idx) := by
  blk_ext <;> omega

theorem v58_idx (i1 : Fin 2048) (i2 : Fin 2048) : idx_main_v58 (ix3 0 i1 i2) = (ix3 0 0 i2 : S1x1x2048.Idx) := by
  blk_ext <;> omega

theorem v50_idx (i1 : Fin 2048) (i2 : Fin 2048) : idx_main_v50 (ix3 0 i1 i2) = (ix3 0 i1 i2 : S1x2048x2048.Idx) := by
  blk_ext <;> omega

theorem v42_idx (i2 : Fin 2048) : idx_main_v42 (ix3 0 0 i2) = (ix2 0 i2 : S1x2048.Idx) := by
  blk_ext <;> omega

theorem v39_idx (i2 : Fin 2048) : idx_main_v39 (ix3 0 0 i2) = (ix1 i2 : S2048.Idx) := by
  blk_ext <;> omega

theorem v28_idx (i1 : Fin 2048) : idx_main_v28 (ix3 0 i1 0) = (ix2 0 i1 : S1x2048.Idx) := by
  blk_ext <;> omega

theorem v27_idx (i1 : Fin 2048) (k : Fin 2048) : idx_main_v27 (ix2 0 i1) k = (ix3 0 i1 k : S1x2048x2048.Idx) := by
  blk_ext <;> omega

theorem v18_idx (i2 : Fin 2048) : idx_main_v18 (ix3 0 0 i2) = (ix2 0 i2 : S1x2048.Idx) := by
  blk_ext <;> omega

theorem v15_idx (i2 : Fin 2048) : idx_main_v15 (ix3 0 0 i2) = (ix1 i2 : S2048.Idx) := by
  blk_ext <;> omega

theorem v4_idx (i1 : Fin 2048) : idx_main_v4 (ix3 0 i1 0) = (ix2 0 i1 : S1x2048.Idx) := by
  blk_ext <;> omega

theorem v3_idx (i1 : Fin 2048) (k : Fin 2048) : idx_main_v3 (ix2 0 i1) k = (ix3 0 i1 k : S1x2048x2048.Idx) := by
  blk_ext <;> omega

theorem v1_idx (i0 : Fin 2048) : idx_main_v1 (ix1 i0) = (ix2 0 i0 : S1x2048.Idx) := by
  blk_ext <;> omega

theorem v0_idx (i1 : Fin 2048) : idx_main_v0 (ix2 0 i1) = (ix2 1 i1 : S2x2048.Idx) := by
  blk_ext <;> omega

theorem v119_idx (i1 : Fin 2048) : idx_main_v119 (ix2 0 i1) = (ix1 i1 : S2048.Idx) := by
  blk_ext <;> omega

theorem v101_at (k : Fin 2048) : val_main_v101 (F := Ideal) A.h A.kvscale A.ctkv (ix1 k) = val_main_v98 (F := Ideal) A.h A.kvscale A.ctkv (ix3 0 0 k) := by
  unfold val_main_v101
  generalize val_main_v98 (F := Ideal) A.h A.kvscale A.ctkv = w
  simp only [Host.reduceAdd, Ideal.hostReduceAdd_def]
  exact unit01 w _ _

theorem v98_idx (i2 : Fin 2048) : idx_main_v98 (ix3 0 0 i2) = (ix2 0 i2 : S1x2048.Idx) := by
  blk_ext <;> omega

theorem v97_idx (i1 : Fin 2048) (k : Fin 2048) : idx_main_v97 (ix2 0 i1) k = (ix3 0 k i1 : S1x2048x2048.Idx) := by
  blk_ext <;> omega

theorem v13_idx (i1 : Fin 2048) (i2 : Fin 2048) : idx_main_v13 (ix3 0 i1 i2) = (ix3 0 i1 0 : S1x2048x1.Idx) := by
  blk_ext <;> omega

theorem v88_idx (i1 : Fin 2048) : idx_main_v88 (ix2 0 i1) = (ix1 i1 : S2048.Idx) := by
  blk_ext <;> omega

theorem v87_at (k : Fin 2048) : val_main_v87 (F := Ideal) A.ctkv (ix1 k) = val_main_v86 (F := Ideal) A.ctkv (ix3 0 0 k) := by
  unfold val_main_v87
  generalize val_main_v86 (F := Ideal) A.ctkv = w
  simp only [Host.reduceAdd, Ideal.hostReduceAdd_def]
  exact unit01 w _ _

theorem v86_idx (i2 : Fin 2048) : idx_main_v86 (ix3 0 0 i2) = (ix2 0 i2 : S1x2048.Idx) := by
  blk_ext <;> omega

theorem v85_idx (i1 : Fin 2048) (k : Fin 2048) : idx_main_v85 (ix2 0 i1) k = (ix3 0 k i1 : S1x2048x2048.Idx) := by
  blk_ext <;> omega

theorem v95_idx (i1 : Fin 2048) : idx_main_v95 (ix2 0 i1) = (ix1 i1 : S2048.Idx) := by
  blk_ext <;> omega

theorem v94_at (k : Fin 2048) : val_main_v94 (F := Ideal) A.h A.gkv A.ctkv (ix1 k) = val_main_v91 (F := Ideal) A.h A.gkv A.ctkv (ix3 0 0 k) := by
  unfold val_main_v94
  generalize val_main_v91 (F := Ideal) A.h A.gkv A.ctkv = w
  simp only [Host.reduceAdd, Ideal.hostReduceAdd_def]
  exact unit01 w _ _

theorem v91_idx (i2 : Fin 2048) : idx_main_v91 (ix3 0 0 i2) = (ix2 0 i2 : S1x2048.Idx) := by
  blk_ext <;> omega

theorem v90_idx (i1 : Fin 2048) (k : Fin 2048) : idx_main_v90 (ix2 0 i1) k = (ix3 0 k i1 : S1x2048x2048.Idx) := by
  blk_ext <;> omega

theorem v16_idx (i1 : Fin 2048) (i2 : Fin 2048) : idx_main_v16 (ix3 0 i1 i2) = (ix3 0 0 i2 : S1x1x2048.Idx) := by
  blk_ext <;> omega

theorem v120_idx (i1 : Fin 2048) : idx_main_v120 (ix2 0 i1) = (ix1 i1 : S2048.Idx) := by
  blk_ext <;> omega

theorem v67_at (k : Fin 2048) : val_main_v67 (F := Ideal) A.h A.scale A.ct (ix1 k) = val_main_v64 (F := Ideal) A.h A.scale A.ct (ix3 0 0 k) := by
  unfold val_main_v67
  generalize val_main_v64 (F := Ideal) A.h A.scale A.ct = w
  simp only [Host.reduceAdd, Ideal.hostReduceAdd_def]
  exact unit01 w _ _

theorem v64_idx (i2 : Fin 2048) : idx_main_v64 (ix3 0 0 i2) = (ix2 0 i2 : S1x2048.Idx) := by
  blk_ext <;> omega

theorem v63_idx (i1 : Fin 2048) (k : Fin 2048) : idx_main_v63 (ix2 0 i1) k = (ix3 0 k i1 : S1x2048x2048.Idx) := by
  blk_ext <;> omega

theorem v37_idx (i1 : Fin 2048) (i2 : Fin 2048) : idx_main_v37 (ix3 0 i1 i2) = (ix3 0 i1 0 : S1x2048x1.Idx) := by
  blk_ext <;> omega

theorem v54_idx (i1 : Fin 2048) : idx_main_v54 (ix2 0 i1) = (ix1 i1 : S2048.Idx) := by
  blk_ext <;> omega

theorem v53_at (k : Fin 2048) : val_main_v53 (F := Ideal) A.ct (ix1 k) = val_main_v52 (F := Ideal) A.ct (ix3 0 0 k) := by
  unfold val_main_v53
  generalize val_main_v52 (F := Ideal) A.ct = w
  simp only [Host.reduceAdd, Ideal.hostReduceAdd_def]
  exact unit01 w _ _

theorem v52_idx (i2 : Fin 2048) : idx_main_v52 (ix3 0 0 i2) = (ix2 0 i2 : S1x2048.Idx) := by
  blk_ext <;> omega

theorem v51_idx (i1 : Fin 2048) (k : Fin 2048) : idx_main_v51 (ix2 0 i1) k = (ix3 0 k i1 : S1x2048x2048.Idx) := by
  blk_ext <;> omega

theorem v61_idx (i1 : Fin 2048) : idx_main_v61 (ix2 0 i1) = (ix1 i1 : S2048.Idx) := by
  blk_ext <;> omega

theorem v60_at (k : Fin 2048) : val_main_v60 (F := Ideal) A.h A.g A.ct (ix1 k) = val_main_v57 (F := Ideal) A.h A.g A.ct (ix3 0 0 k) := by
  unfold val_main_v60
  generalize val_main_v57 (F := Ideal) A.h A.g A.ct = w
  simp only [Host.reduceAdd, Ideal.hostReduceAdd_def]
  exact unit01 w _ _

theorem v57_idx (i2 : Fin 2048) : idx_main_v57 (ix3 0 0 i2) = (ix2 0 i2 : S1x2048.Idx) := by
  blk_ext <;> omega

theorem v56_idx (i1 : Fin 2048) (k : Fin 2048) : idx_main_v56 (ix2 0 i1) k = (ix3 0 k i1 : S1x2048x2048.Idx) := by
  blk_ext <;> omega

theorem v40_idx (i1 : Fin 2048) (i2 : Fin 2048) : idx_main_v40 (ix3 0 i1 i2) = (ix3 0 0 i2 : S1x1x2048.Idx) := by
  blk_ext <;> omega

/-- The reference's: the gradient in the stream. -/
theorem dx_ref : val_main_v118 (F := Ideal) A.h A.gkv A.kvscale A.g A.scale A.ctkv A.ct A.dh = fun i => dx A (i 0) (i 1) := by
  funext i
  idx_vars i
  simp only [val_main_v118_apply, v118_idx, val_main_v117_apply, val_main_v116_apply, val_main_v115_apply, val_main_v114_apply, val_main_v113_apply, v113_idx,
    val_main_v112_apply, v112_idx, v111_at, val_main_v110_apply, val_main_v109_apply, val_main_v108_apply, val_main_v107_apply, val_main_v106_apply,
    val_main_v105_apply, v105_idx, val_main_v104_apply, v104_idx, val_main_v103_apply, v103_idx, val_main_v102_apply, val_main_v100_apply,
    val_main_v99_apply, v99_idx, val_main_v93_apply, val_main_v92_apply, v92_idx, val_main_v84_apply, v84_idx, val_main_v83_apply, val_main_v82_apply,
    val_main_v81_apply, val_main_v80_apply, val_main_v79_apply, v79_idx, val_main_v78_apply, v78_idx, v77_at, val_main_v76_apply, val_main_v75_apply,
    val_main_v74_apply, val_main_v73_apply, val_main_v72_apply, val_main_v71_apply, v71_idx, val_main_v70_apply, v70_idx, val_main_v69_apply, v69_idx,
    val_main_v68_apply, val_main_v66_apply, val_main_v65_apply, v65_idx, val_main_v59_apply, val_main_v58_apply, v58_idx, val_main_v50_apply, v50_idx,
    val_main_v44_apply, val_main_v43_apply, val_main_v42_apply, v42_idx, val_main_v39_apply, v39_idx, val_main_v36_apply, val_main_v35_apply,
    val_main_v34_apply, val_main_v33_apply, val_main_v32_apply, val_main_v31_apply, val_main_v30_apply, val_main_v29_apply, val_main_v28_apply, v28_idx,
    val_main_v27_apply, v27_idx, val_main_v26_apply, val_main_v20_apply, val_main_v19_apply, val_main_v18_apply, v18_idx, val_main_v15_apply, v15_idx,
    val_main_v12_apply, val_main_v11_apply, val_main_v10_apply, val_main_v9_apply, val_main_v8_apply, val_main_v7_apply, val_main_v6_apply,
    val_main_v5_apply, val_main_v4_apply, v4_idx, val_main_v3_apply, v3_idx, val_main_v2_apply, val_main_v1_apply, v1_idx, val_main_v0_apply, v0_idx,
    val_main_cst_apply, val_main_cst_0_apply, val_main_cst_1_apply, val_main_cst_15_apply, val_main_cst_16_apply, val_main_cst_17_apply,
    val_main_cst_2_apply, val_main_cst_24_apply, val_main_cst_25_apply, val_main_cst_26_apply, val_main_cst_3_apply, val_main_cst_4_apply,
    val_main_cst_5_apply, val_main_cst_6_apply, val_main_cst_7_apply, val_main_cst_8_apply]
  pointwise
  simp only [dx, back, pull, ms, rs, row, cot, up, cotkv, upkv]
  exact add_front6 _ _ _ _ _ _ _

/-- The reference's: the gradient in the keys' gain. -/
theorem dgkv_ref : val_main_v119 (F := Ideal) A.h A.kvscale A.ctkv = fun i => ∑ r : Fin 2048, dgkv A r (i 1) := by
  funext i
  idx_vars i
  obtain rfl : i0 = 0 := Subsingleton.elim _ _
  simp only [val_main_v119_apply, v119_idx, v101_at, val_main_v98_apply, v98_idx, val_main_v97_apply, v97_idx, val_main_v96_apply, val_main_v93_apply,
    val_main_v92_apply, v92_idx, val_main_v84_apply, v84_idx, val_main_v20_apply, val_main_v19_apply, val_main_v18_apply, v18_idx, val_main_v14_apply,
    val_main_v13_apply, v13_idx, val_main_v9_apply, val_main_v8_apply, val_main_v7_apply, val_main_v6_apply, val_main_v5_apply, val_main_v4_apply, v4_idx,
    val_main_v3_apply, v3_idx, val_main_v2_apply, val_main_cst_apply, val_main_cst_0_apply, val_main_cst_1_apply, val_main_cst_22_apply,
    val_main_cst_23_apply, val_main_cst_3_apply]
  pointwise
  simp only [dgkv, back, pull, ms, rs, row, cot, up, cotkv, upkv]

/-- The reference's: the gradient in the keys' shift. -/
theorem dkvshift_ref : val_main_v88 (F := Ideal) A.ctkv = fun i => ∑ r : Fin 2048, dkvshift A r (i 1) := by
  funext i
  idx_vars i
  obtain rfl : i0 = 0 := Subsingleton.elim _ _
  simp only [val_main_v88_apply, v88_idx, v87_at, val_main_v86_apply, v86_idx, val_main_v85_apply, v85_idx, val_main_cst_18_apply, val_main_cst_19_apply]
  pointwise
  simp only [dkvshift, back, pull, ms, rs, row, cot, up, cotkv, upkv]

/-- The reference's: the gradient in the keys' scale. -/
theorem dkvscale_ref : val_main_v95 (F := Ideal) A.h A.gkv A.ctkv = fun i => ∑ r : Fin 2048, dkvscale A r (i 1) := by
  funext i
  idx_vars i
  obtain rfl : i0 = 0 := Subsingleton.elim _ _
  simp only [val_main_v95_apply, v95_idx, v94_at, val_main_v91_apply, v91_idx, val_main_v90_apply, v90_idx, val_main_v89_apply, val_main_v84_apply, v84_idx,
    val_main_v17_apply, val_main_v16_apply, v16_idx, val_main_v15_apply, v15_idx, val_main_v14_apply, val_main_v13_apply, v13_idx, val_main_v9_apply,
    val_main_v8_apply, val_main_v7_apply, val_main_v6_apply, val_main_v5_apply, val_main_v4_apply, v4_idx, val_main_v3_apply, v3_idx, val_main_v2_apply,
    val_main_cst_apply, val_main_cst_0_apply, val_main_cst_1_apply, val_main_cst_20_apply, val_main_cst_21_apply]
  pointwise
  simp only [dkvscale, back, pull, ms, rs, row, cot, up, cotkv, upkv]

/-- The reference's: the gradient in the queries' gain. -/
theorem dg_ref : val_main_v120 (F := Ideal) A.h A.scale A.ct = fun i => ∑ r : Fin 2048, dg A r (i 1) := by
  funext i
  idx_vars i
  obtain rfl : i0 = 0 := Subsingleton.elim _ _
  simp only [val_main_v120_apply, v120_idx, v67_at, val_main_v64_apply, v64_idx, val_main_v63_apply, v63_idx, val_main_v62_apply, val_main_v59_apply,
    val_main_v58_apply, v58_idx, val_main_v50_apply, v50_idx, val_main_v44_apply, val_main_v43_apply, val_main_v42_apply, v42_idx, val_main_v38_apply,
    val_main_v37_apply, v37_idx, val_main_v33_apply, val_main_v32_apply, val_main_v31_apply, val_main_v30_apply, val_main_v29_apply, val_main_v28_apply,
    v28_idx, val_main_v27_apply, v27_idx, val_main_v26_apply, val_main_cst_13_apply, val_main_cst_14_apply, val_main_cst_4_apply, val_main_cst_5_apply,
    val_main_cst_6_apply, val_main_cst_8_apply]
  pointwise
  simp only [dg, back, pull, ms, rs, row, cot, up, cotkv, upkv]

/-- The reference's: the gradient in the queries' shift. -/
theorem dshift_ref : val_main_v54 (F := Ideal) A.ct = fun i => ∑ r : Fin 2048, dshift A r (i 1) := by
  funext i
  idx_vars i
  obtain rfl : i0 = 0 := Subsingleton.elim _ _
  simp only [val_main_v54_apply, v54_idx, v53_at, val_main_v52_apply, v52_idx, val_main_v51_apply, v51_idx, val_main_cst_10_apply, val_main_cst_9_apply]
  pointwise
  simp only [dshift, back, pull, ms, rs, row, cot, up, cotkv, upkv]

/-- The reference's: the gradient in the queries' scale. -/
theorem dscale_ref : val_main_v61 (F := Ideal) A.h A.g A.ct = fun i => ∑ r : Fin 2048, dscale A r (i 1) := by
  funext i
  idx_vars i
  obtain rfl : i0 = 0 := Subsingleton.elim _ _
  simp only [val_main_v61_apply, v61_idx, v60_at, val_main_v57_apply, v57_idx, val_main_v56_apply, v56_idx, val_main_v55_apply, val_main_v50_apply, v50_idx,
    val_main_v41_apply, val_main_v40_apply, v40_idx, val_main_v39_apply, v39_idx, val_main_v38_apply, val_main_v37_apply, v37_idx, val_main_v33_apply,
    val_main_v32_apply, val_main_v31_apply, val_main_v30_apply, val_main_v29_apply, val_main_v28_apply, v28_idx, val_main_v27_apply, v27_idx,
    val_main_v26_apply, val_main_v1_apply, v1_idx, val_main_v0_apply, v0_idx, val_main_cst_11_apply, val_main_cst_12_apply, val_main_cst_4_apply,
    val_main_cst_5_apply, val_main_cst_6_apply]
  pointwise
  simp only [dscale, back, pull, ms, rs, row, cot, up, cotkv, upkv]

end Cert.TwinRefIdeal.Rows

open Idealize.ShloMosaic Idealize.SL.Sem

namespace Cert.Proof.TwinClaims

/-- The kernel as printed, idealized, and the reference: each ends, its arguments unchanged, its counters at zero. -/
theorem frame_p : quiescent_Twin := fun m ρ _ => Twin.Gen.frame m ρ
theorem frame_pi : quiescent_TwinIdeal := fun m ρ _ => TwinIdeal.Gen.frame m ρ
theorem frame_ri : quiescent_TwinRefIdeal := fun m ρ _ =>
  (θ_run TwinRefIdeal.defs _ _).mono (fun r h => ⟨fun c => (h c).2.2.2.2.2.2.2, sem_eq_zero_of_no_sems (by decide) r.2⟩)
    (TwinRefIdeal.Value.run (F := Ideal) m ρ)

/-- The idealized kernel's results are the reference's. -/
theorem algebraic : algebraic_TwinIdeal_TwinRefIdeal := by
  intro m ρ m' ρ' _ hagree
  refine ⟨_, _, _, _, _, _, _, TwinIdeal.Value.run_blocks (F := Ideal) m ρ, ?_⟩
  refine (θ_run TwinRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_,
    (h c).2.2.2.2.2.2.2⟩) (TwinRefIdeal.Value.run (F := Ideal) m' ρ')
  · refine (TwinRefIdeal.Read.val_main_v118_eq _ _).trans ?_
    rw [(hagree c).1, (hagree c).2.1, (hagree c).2.2.2.1, (hagree c).2.2.2.2.1, (hagree c).2.2.2.2.2.2.1, (hagree c).2.2.2.2.2.2.2.1, (hagree c).2.2.2.2.2.2.2.2.1, (hagree c).2.2.2.2.2.2.2.2.2]
    exact (TwinRefIdeal.Rows.dx_ref (TwinIdeal.Rows.ins m c)).trans (TwinIdeal.Rows.dx_final m c).symm
  · refine (TwinRefIdeal.Read.val_main_v119_eq (F := Ideal) _ _ _).trans ?_
    rw [(hagree c).1, (hagree c).2.2.2.1, (hagree c).2.2.2.2.2.2.2.1]
    exact (TwinRefIdeal.Rows.dgkv_ref (TwinIdeal.Rows.ins m c)).trans (TwinIdeal.Rows.dgkv_final m c).symm
  · refine (TwinRefIdeal.Read.val_main_v88_eq (F := Ideal) _).trans ?_
    rw [(hagree c).2.2.2.2.2.2.2.1]
    exact (TwinRefIdeal.Rows.dkvshift_ref (TwinIdeal.Rows.ins m c)).trans (TwinIdeal.Rows.dkvshift_final m c).symm
  · refine (TwinRefIdeal.Read.val_main_v95_eq (F := Ideal) _ _ _).trans ?_
    rw [(hagree c).1, (hagree c).2.1, (hagree c).2.2.2.2.2.2.2.1]
    exact (TwinRefIdeal.Rows.dkvscale_ref (TwinIdeal.Rows.ins m c)).trans (TwinIdeal.Rows.dkvscale_final m c).symm
  · refine (TwinRefIdeal.Read.val_main_v120_eq (F := Ideal) _ _ _).trans ?_
    rw [(hagree c).1, (hagree c).2.2.2.2.2.2.1, (hagree c).2.2.2.2.2.2.2.2.1]
    exact (TwinRefIdeal.Rows.dg_ref (TwinIdeal.Rows.ins m c)).trans (TwinIdeal.Rows.dg_final m c).symm
  · refine (TwinRefIdeal.Read.val_main_v54_eq (F := Ideal) _).trans ?_
    rw [(hagree c).2.2.2.2.2.2.2.2.1]
    exact (TwinRefIdeal.Rows.dshift_ref (TwinIdeal.Rows.ins m c)).trans (TwinIdeal.Rows.dshift_final m c).symm
  · refine (TwinRefIdeal.Read.val_main_v61_eq (F := Ideal) _ _ _).trans ?_
    rw [(hagree c).1, (hagree c).2.2.2.2.1, (hagree c).2.2.2.2.2.2.2.2.1]
    exact (TwinRefIdeal.Rows.dscale_ref (TwinIdeal.Rows.ins m c)).trans (TwinIdeal.Rows.dscale_final m c).symm

end Cert.Proof.TwinClaims
-- ==== Proof.LnClaims.lean ====
/- The claims about the call of the gradients of the layer norm and the swish behind it. -/
module

public import proofs.«01_k».proof.Proof.NormSpec
public import proofs.«01_k».proof.Proof.Gen.LnIdeal.Value
public import proofs.«01_k».proof.Proof.Gen.LnRefIdeal.Read
public import proofs.«01_k».proof.Defs
public import proofs.«01_k».proof.Proof.Gen.Ln.Frame

@[expose] public section

set_option maxRecDepth 16384

noncomputable section

namespace Cert.LnSpec

open Idealize.ShloMosaic Cert.NormSpec

/-- The arguments. -/
structure In where
  u : (⟨3, ![1, 2048, 2048]⟩ : Shape).Idx → EReal
  g : (⟨2, ![1, 2048]⟩ : Shape).Idx → EReal
  b : (⟨2, ![1, 2048]⟩ : Shape).Idx → EReal
  ct : (⟨3, ![1, 2048, 2048]⟩ : Shape).Idx → EReal

variable (A : In)

/-- Row `r`: its mean, its entries less the mean, their mean square plus the small constant, the factor that normalizes it. -/
def mean (r : Fin 2048) : EReal := Ideal.div (∑ k, A.u (ix3 0 r k)) wide
def dev (r k : Fin 2048) : EReal := A.u (ix3 0 r k) - mean A r
def ve (r : Fin 2048) : EReal := Ideal.div (∑ k, dev A r k * dev A r k) wide + eps
def rsd (r : Fin 2048) : EReal := Ideal.rsqrt (ve A r)

/-- The layer norm's value, which the swish takes. -/
def pre (r k : Fin 2048) : EReal := dev A r k * rsd A r * A.g (ix2 0 k) + A.b (ix2 0 k)

/-- The cotangent behind the swish, and that behind the gain. -/
def out (r k : Fin 2048) : EReal :=
  A.ct (ix3 0 r k) * Ideal.logistic (pre A r k)
    + pre A r k * A.ct (ix3 0 r k) * (Ideal.logistic (pre A r k) * (1 - Ideal.logistic (pre A r k)))
def cot (r k : Fin 2048) : EReal := out A r k * A.g (ix2 0 k)

/-- What the normalizing factor's gradient brings to the deviation `k`. -/
def pullv (r k : Fin 2048) : EReal :=
  Ideal.div ((∑ k, dev A r k * cot A r k) * (negHalf * Ideal.div (rsd A r) (ve A r))) wide * (Ideal.ofBits .f32 1073741824#32 * dev A r k)

/-- The gradient in the input: through the deviations, and through the mean. -/
def du (r k : Fin 2048) : EReal :=
  cot A r k * rsd A r + pullv A r k + Ideal.div ((∑ k, -(cot A r k * rsd A r)) + ∑ k, -(pullv A r k)) wide

/-- What row `r` adds to the gradients in the gain and in the offset. -/
def dg (r k : Fin 2048) : EReal := dev A r k * rsd A r * out A r k
def db (r k : Fin 2048) : EReal := out A r k

end Cert.LnSpec

namespace Cert.LnIdeal.Rows

open Cert.LnIdeal Cert.LnIdeal.Gen Idealize.ShloMosaic Idealize.ShloMosaic.TcCoe Idealize.SL.Sem Cert.NormSpec Cert.LnSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).u (ix3 0 (at_ t x) k) := by
  blk_point [iblk, V, (index_all t).1]
theorem blk1 (t : Fin cfg0.N) (k : Fin 2048) : iblk m c 1 t (ix2 0 k) = (ins m c).g (ix2 0 k) := by
  blk_point [iblk, V, (index_all t).2.1]
theorem blk2 (t : Fin cfg0.N) (k : Fin 2048) : iblk m c 2 t (ix2 0 k) = (ins m c).b (ix2 0 k) := by
  blk_point [iblk, V, (index_all t).2.2.1]
theorem blk3 (t : Fin cfg0.N) (x : Fin 256) (k : Fin 2048) : iblk m c 3 t (ix2 x k) = (ins m c).ct (ix3 0 (at_ t x) k) := by
  blk_point [iblk, V, (index_all t).2.2.2.1]

/-- After the run result 0 is the gradient in the input. -/
theorem du_final : (dats m 0 c).arrAt 4 cfg0.N = fun i => du (ins m c) (i 0) (i 1) := by
  refine (dats m 0 c).arrAt_eq_of_covers 4 _ (by decide +kernel) fun t hf y => ?_
  have hN : cfg0.N = 8 := N_0
  have ht : t.val < 8 := hN ▸ t.isLt
  blk_simp
  rw [after0_4]
  idx_vars y
  have e0 : (((cfg0.win 4).blk t).view.emb (ix2 y0 y1)) 0 = at_ t y0 := Fin.ext (by blk_simp [(index_all t).2.2.2.2]; simp [mul_comm])
  have e1 : (((cfg0.win 4).blk t).view.emb (ix2 y0 y1)) 1 = y1 := Fin.ext (by blk_simp [(index_all t).2.2.2.2])
  refine Eq.trans ?_ (congrArg₂ (du (ins m c)) e0.symm e1.symm)
  by_cases h : t.val = 0
  · rw [Gen.outsAt0_A m c t (by omega) (by omega) (by omega) (by omega)]
    frame_out
    unfold_payloads
    pointwise
    simp only [blk0, blk1, blk2, blk3, Fin.sum_univ_one, Fin.isValue, zero_sub]
    rfl
  · rw [Gen.outsAt0_B m c t (by omega) (by omega) (by omega) (by omega)]
    frame_out
    unfold_payloads
    pointwise
    simp only [blk0, blk1, blk2, blk3, Fin.sum_univ_one, Fin.isValue, zero_sub]
    rfl

/-- After the run result 1 is the gradient in the gain. -/
theorem dg_final : (dats m 0 c).arrAt 5 cfg0.N = fun i => ∑ r : Fin 2048, dg (ins m c) r (i 1) := by
  refine (dats m 0 c).arrAt_eq_of_after_last 5 t0_7 (by decide +kernel) _ fun j => ?_
  have hN : cfg0.N = 8 := N_0
  blk_simp
  rw [after0_5]
  refine (Pipeline.eq_sum_fin_of_reset_step_apply_last (fun n h => (outsAt0 m c n h).2.1) 8 (fun _ => 0)
    (fun t j => ∑ x : Fin 256, dg (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, Fin.sum_univ_one, Fin.isValue, zero_sub, zero_add]
    rfl
  · rw [Gen.outsAt0_B m c t (by omega) (by omega) (by omega) (by omega)]
    idx_vars j
    frame_out
    unfold_payloads
    pointwise
    simp only [blk0, blk1, blk2, blk3, Fin.sum_univ_one, Fin.isValue, zero_sub]
    rfl
  · rw [zero_add]
    exact sum_blocks (fun r => dg (ins m c) r (j 1)) _

/-- After the run result 2 is the gradient in the offset. -/
theorem db_final : (dats m 0 c).arrAt 6 cfg0.N = fun i => ∑ r : Fin 2048, db (ins m c) r (i 1) := by
  refine (dats m 0 c).arrAt_eq_of_after_last 6 t0_7 (by decide +kernel) _ fun j => ?_
  have hN : cfg0.N = 8 := N_0
  blk_simp
  rw [after0_6]
  refine (Pipeline.eq_sum_fin_of_reset_step_apply_last (fun n h => (outsAt0 m c n h).2.2) 8 (fun _ => 0)
    (fun t j => ∑ x : Fin 256, db (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, Fin.sum_univ_one, Fin.isValue, zero_sub, zero_add]
    rfl
  · rw [Gen.outsAt0_B m c t (by omega) (by omega) (by omega) (by omega)]
    idx_vars j
    frame_out
    unfold_payloads
    pointwise
    simp only [blk0, blk1, blk2, blk3, Fin.sum_univ_one, Fin.isValue, zero_sub]
    rfl
  · rw [zero_add]
    exact sum_blocks (fun r => db (ins m c) r (j 1)) _

end Cert.LnIdeal.Rows

namespace Cert.LnRefIdeal.Rows

open Cert.LnRefIdeal Cert.LnRefIdeal.Gen Cert.LnRefIdeal.Read Idealize.ShloMosaic Cert.NormSpec Cert.LnSpec

variable (A : In)

/-- Sums over axes of one entry. -/
theorem v68_idx (i0 : Fin 2048) (i1 : Fin 2048) : idx_main_v68 (ix2 i0 i1) = (ix3 0 i0 i1 : S1x2048x2048.Idx) := by
  blk_ext <;> omega

theorem v66_idx (i1 : Fin 2048) (i2 : Fin 2048) : idx_main_v66 (ix3 0 i1 i2) = (ix2 0 i1 : S1x2048.Idx) := by
  blk_ext <;> omega

theorem v65_idx (i1 : Fin 2048) : idx_main_v65 (ix2 0 i1) = (ix1 i1 : S2048.Idx) := by
  blk_ext <;> omega

theorem v64_at (k : Fin 2048) : val_main_v64 (F := Ideal) A.u A.g A.b A.ct (ix1 k) = val_main_v63 (F := Ideal) A.u A.g A.b A.ct (ix3 0 k 0) := by
  unfold val_main_v64
  generalize val_main_v63 (F := Ideal) A.u A.g A.b A.ct = w
  simp only [Host.reduceAdd, Ideal.hostReduceAdd_def]
  exact unit02 w _ _

theorem v59_idx (i1 : Fin 2048) : idx_main_v59 (ix3 0 i1 0) = (ix2 0 i1 : S1x2048.Idx) := by
  blk_ext <;> omega

theorem v58_idx (i1 : Fin 2048) (k : Fin 2048) : idx_main_v58 (ix2 0 i1) k = (ix3 0 i1 k : S1x2048x2048.Idx) := by
  blk_ext <;> omega

theorem v55_idx (i1 : Fin 2048) (i2 : Fin 2048) : idx_main_v55 (ix3 0 i1 i2) = (ix2 0 i1 : S1x2048.Idx) := by
  blk_ext <;> omega

theorem v54_idx (i1 : Fin 2048) : idx_main_v54 (ix2 0 i1) = (ix1 i1 : S2048.Idx) := by
  blk_ext <;> omega

theorem v53_at (k : Fin 2048) : val_main_v53 (F := Ideal) A.u A.g A.b A.ct (ix1 k) = val_main_v52 (F := Ideal) A.u A.g A.b A.ct (ix3 0 k 0) := by
  unfold val_main_v53
  generalize val_main_v52 (F := Ideal) A.u A.g A.b A.ct = w
  simp only [Host.reduceAdd, Ideal.hostReduceAdd_def]
  exact unit02 w _ _

theorem v50_idx (i1 : Fin 2048) : idx_main_v50 (ix3 0 i1 0) = (ix2 0 i1 : S1x2048.Idx) := by
  blk_ext <;> omega

theorem v49_idx (i1 : Fin 2048) (k : Fin 2048) : idx_main_v49 (ix2 0 i1) k = (ix3 0 i1 k : S1x2048x2048.Idx) := by
  blk_ext <;> omega

theorem v45_idx (i1 : Fin 2048) (i2 : Fin 2048) : idx_main_v45 (ix3 0 i1 i2) = (ix3 0 i1 0 : S1x2048x1.Idx) := by
  blk_ext <;> omega

theorem v44_idx (i1 : Fin 2048) : idx_main_v44 (ix3 0 i1 0) = (ix2 0 i1 : S1x2048.Idx) := by
  blk_ext <;> omega

theorem v43_idx (i1 : Fin 2048) (k : Fin 2048) : idx_main_v43 (ix2 0 i1) k = (ix3 0 i1 k : S1x2048x2048.Idx) := by
  blk_ext <;> omega

theorem v39_idx (i1 : Fin 2048) (i2 : Fin 2048) : idx_main_v39 (ix3 0 i1 i2) = (ix3 0 0 i2 : S1x1x2048.Idx) := by
  blk_ext <;> omega

theorem v29_idx (i1 : Fin 2048) (i2 : Fin 2048) : idx_main_v29 (ix3 0 i1 i2) = (ix3 0 0 i2 : S1x1x2048.Idx) := by
  blk_ext <;> omega

theorem v28_idx (i2 : Fin 2048) : idx_main_v28 (ix3 0 0 i2) = (ix1 i2 : S2048.Idx) := by
  blk_ext <;> omega

theorem v26_idx (i1 : Fin 2048) (i2 : Fin 2048) : idx_main_v26 (ix3 0 i1 i2) = (ix3 0 0 i2 : S1x1x2048.Idx) := by
  blk_ext <;> omega

theorem v25_idx (i2 : Fin 2048) : idx_main_v25 (ix3 0 0 i2) = (ix1 i2 : S2048.Idx) := by
  blk_ext <;> omega

theorem v23_idx (i1 : Fin 2048) (i2 : Fin 2048) : idx_main_v23 (ix3 0 i1 i2) = (ix3 0 i1 0 : S1x2048x1.Idx) := by
  blk_ext <;> omega

theorem v15_idx (i1 : Fin 2048) (i2 : Fin 2048) : idx_main_v15 (ix3 0 i1 i2) = (ix3 0 i1 0 : S1x2048x1.Idx) := by
  blk_ext <;> omega

theorem v12_idx (i1 : Fin 2048) : idx_main_v12 (ix3 0 i1 0) = (ix2 0 i1 : S1x2048.Idx) := by
  blk_ext <;> omega

theorem v11_idx (i1 : Fin 2048) (k : Fin 2048) : idx_main_v11 (ix2 0 i1) k = (ix3 0 i1 k : S1x2048x2048.Idx) := by
  blk_ext <;> omega

theorem v6_idx (i1 : Fin 2048) (i2 : Fin 2048) : idx_main_v6 (ix3 0 i1 i2) = (ix3 0 i1 0 : S1x2048x1.Idx) := by
  blk_ext <;> omega

theorem v3_idx (i1 : Fin 2048) : idx_main_v3 (ix3 0 i1 0) = (ix2 0 i1 : S1x2048.Idx) := by
  blk_ext <;> omega

theorem v2_idx (i1 : Fin 2048) (k : Fin 2048) : idx_main_v2 (ix2 0 i1) k = (ix3 0 i1 k : S1x2048x2048.Idx) := by
  blk_ext <;> omega

theorem v1_idx (i0 : Fin 2048) : idx_main_v1 (ix1 i0) = (ix2 0 i0 : S1x2048.Idx) := by
  blk_ext <;> omega

theorem v0_idx (i0 : Fin 2048) : idx_main_v0 (ix1 i0) = (ix2 0 i0 : S1x2048.Idx) := by
  blk_ext <;> omega

theorem v69_idx (i1 : Fin 2048) : idx_main_v69 (ix2 0 i1) = (ix1 i1 : S2048.Idx) := by
  blk_ext <;> omega

theorem v41_at (k : Fin 2048) : val_main_v41 (F := Ideal) A.u A.g A.b A.ct (ix1 k) = val_main_v38 (F := Ideal) A.u A.g A.b A.ct (ix3 0 0 k) := by
  unfold val_main_v41
  generalize val_main_v38 (F := Ideal) A.u A.g A.b A.ct = w
  simp only [Host.reduceAdd, Ideal.hostReduceAdd_def]
  exact unit01 w _ _

theorem v38_idx (i2 : Fin 2048) : idx_main_v38 (ix3 0 0 i2) = (ix2 0 i2 : S1x2048.Idx) := by
  blk_ext <;> omega

theorem v37_idx (i1 : Fin 2048) (k : Fin 2048) : idx_main_v37 (ix2 0 i1) k = (ix3 0 k i1 : S1x2048x2048.Idx) := by
  blk_ext <;> omega

theorem v70_idx (i1 : Fin 2048) : idx_main_v70 (ix2 0 i1) = (ix1 i1 : S2048.Idx) := by
  blk_ext <;> omega

theorem v35_at (k : Fin 2048) : val_main_v35 (F := Ideal) A.u A.g A.b A.ct (ix1 k) = val_main_v34 (F := Ideal) A.u A.g A.b A.ct (ix3 0 0 k) := by
  unfold val_main_v35
  generalize val_main_v34 (F := Ideal) A.u A.g A.b A.ct = w
  simp only [Host.reduceAdd, Ideal.hostReduceAdd_def]
  exact unit01 w _ _

theorem v34_idx (i2 : Fin 2048) : idx_main_v34 (ix3 0 0 i2) = (ix2 0 i2 : S1x2048.Idx) := by
  blk_ext <;> omega

theorem v33_idx (i1 : Fin 2048) (k : Fin 2048) : idx_main_v33 (ix2 0 i1) k = (ix3 0 k i1 : S1x2048x2048.Idx) := by
  blk_ext <;> omega

/-- The reference's: the gradient in the input. -/
theorem du_ref : val_main_v68 (F := Ideal) A.u A.g A.b A.ct = fun i => du A (i 0) (i 1) := by
  funext i
  idx_vars i
  simp only [val_main_v68_apply, v68_idx, val_main_v67_apply, val_main_v66_apply, v66_idx, val_main_v65_apply, v65_idx, v64_at, val_main_v63_apply,
    val_main_v62_apply, val_main_v61_apply, val_main_v60_apply, val_main_v59_apply, v59_idx, val_main_v58_apply, v58_idx, val_main_v57_apply,
    val_main_v56_apply, val_main_v55_apply, v55_idx, val_main_v54_apply, v54_idx, v53_at, val_main_v52_apply, val_main_v51_apply, val_main_v50_apply,
    v50_idx, val_main_v49_apply, v49_idx, val_main_v48_apply, val_main_v47_apply, val_main_v46_apply, val_main_v45_apply, v45_idx, val_main_v44_apply,
    v44_idx, val_main_v43_apply, v43_idx, val_main_v42_apply, val_main_v40_apply, val_main_v39_apply, v39_idx, val_main_v32_apply, val_main_v31_1_apply,
    val_main_v31_2_apply, val_main_v30_apply, val_main_v29_apply, v29_idx, val_main_v28_apply, v28_idx, val_main_v27_apply, val_main_v26_apply, v26_idx,
    val_main_v25_apply, v25_idx, val_main_v24_apply, val_main_v23_apply, v23_idx, val_main_v22_apply, val_main_v21_apply, val_main_v20_apply,
    val_main_v19_apply, val_main_v18_apply, val_main_v17_apply, val_main_v16_apply, val_main_v15_apply, v15_idx, val_main_v14_apply, val_main_v13_apply,
    val_main_v12_apply, v12_idx, val_main_v11_apply, v11_idx, val_main_v10_apply, val_main_v9_apply, val_main_v8_apply, val_main_v7_apply,
    val_main_v6_apply, v6_idx, val_main_v5_apply, val_main_v4_apply, val_main_v3_apply, v3_idx, val_main_v2_apply, v2_idx, val_main_v1_apply, v1_idx,
    val_main_v0_apply, v0_idx, val_main_call0_cst_apply, val_main_call0_cst_0_apply, val_main_call0_cst_1_apply, val_main_call0_v0_apply,
    val_main_call0_v1_apply, val_main_call0_v2_apply, val_main_call0_v3_apply, val_main_call0_v4_apply, val_main_call0_v6_apply, val_main_call0_v7_apply,
    val_main_call1_v0_apply, val_main_call1_v1_apply, val_main_call1_v2_apply, val_main_cst_apply, val_main_cst_0_apply, val_main_cst_1_apply,
    val_main_cst_10_apply, val_main_cst_11_apply, val_main_cst_12_apply, val_main_cst_13_apply, val_main_cst_14_apply, val_main_cst_15_apply,
    val_main_cst_16_apply, val_main_cst_2_apply, val_main_cst_3_apply, val_main_cst_4_apply, val_main_cst_5_apply]
  pointwise
  simp only [du, mean, dev, ve, rsd, pre, out, cot, pullv]
  rfl

/-- The reference's: the gradient in the gain. -/
theorem dg_ref : val_main_v69 (F := Ideal) A.u A.g A.b A.ct = fun i => ∑ r : Fin 2048, dg A r (i 1) := by
  funext i
  idx_vars i
  obtain rfl : i0 = 0 := Subsingleton.elim _ _
  simp only [val_main_v69_apply, v69_idx, v41_at, val_main_v38_apply, v38_idx, val_main_v37_apply, v37_idx, val_main_v36_apply, val_main_v32_apply,
    val_main_v31_1_apply, val_main_v31_2_apply, val_main_v30_apply, val_main_v29_apply, v29_idx, val_main_v28_apply, v28_idx, val_main_v27_apply,
    val_main_v26_apply, v26_idx, val_main_v25_apply, v25_idx, val_main_v24_apply, val_main_v23_apply, v23_idx, val_main_v19_apply, val_main_v18_apply,
    val_main_v17_apply, val_main_v16_apply, val_main_v15_apply, v15_idx, val_main_v14_apply, val_main_v13_apply, val_main_v12_apply, v12_idx,
    val_main_v11_apply, v11_idx, val_main_v8_apply, val_main_v7_apply, val_main_v6_apply, v6_idx, val_main_v5_apply, val_main_v4_apply, val_main_v3_apply,
    v3_idx, val_main_v2_apply, v2_idx, val_main_v1_apply, v1_idx, val_main_v0_apply, v0_idx, val_main_call0_cst_apply, val_main_call0_cst_0_apply,
    val_main_call0_cst_1_apply, val_main_call0_v0_apply, val_main_call0_v1_apply, val_main_call0_v2_apply, val_main_call0_v3_apply,
    val_main_call0_v4_apply, val_main_call0_v6_apply, val_main_call0_v7_apply, val_main_call1_v0_apply, val_main_call1_v1_apply, val_main_call1_v2_apply,
    val_main_cst_apply, val_main_cst_0_apply, val_main_cst_2_apply, val_main_cst_3_apply, val_main_cst_4_apply, val_main_cst_8_apply, val_main_cst_9_apply]
  pointwise
  simp only [dg, mean, dev, ve, rsd, pre, out, cot, pullv]
  rfl

/-- The reference's: the gradient in the offset. -/
theorem db_ref : val_main_v70 (F := Ideal) A.u A.g A.b A.ct = fun i => ∑ r : Fin 2048, db A r (i 1) := by
  funext i
  idx_vars i
  obtain rfl : i0 = 0 := Subsingleton.elim _ _
  simp only [val_main_v70_apply, v70_idx, v35_at, val_main_v34_apply, v34_idx, val_main_v33_apply, v33_idx, val_main_v32_apply, val_main_v31_1_apply,
    val_main_v31_2_apply, val_main_v30_apply, val_main_v29_apply, v29_idx, val_main_v28_apply, v28_idx, val_main_v27_apply, val_main_v26_apply, v26_idx,
    val_main_v25_apply, v25_idx, val_main_v24_apply, val_main_v23_apply, v23_idx, val_main_v19_apply, val_main_v18_apply, val_main_v17_apply,
    val_main_v16_apply, val_main_v15_apply, v15_idx, val_main_v14_apply, val_main_v13_apply, val_main_v12_apply, v12_idx, val_main_v11_apply, v11_idx,
    val_main_v8_apply, val_main_v7_apply, val_main_v6_apply, v6_idx, val_main_v5_apply, val_main_v4_apply, val_main_v3_apply, v3_idx, val_main_v2_apply,
    v2_idx, val_main_v1_apply, v1_idx, val_main_v0_apply, v0_idx, val_main_call0_cst_apply, val_main_call0_cst_0_apply, val_main_call0_cst_1_apply,
    val_main_call0_v0_apply, val_main_call0_v1_apply, val_main_call0_v2_apply, val_main_call0_v3_apply, val_main_call0_v4_apply, val_main_call0_v6_apply,
    val_main_call0_v7_apply, val_main_call1_v0_apply, val_main_call1_v1_apply, val_main_call1_v2_apply, val_main_cst_apply, val_main_cst_0_apply,
    val_main_cst_2_apply, val_main_cst_3_apply, val_main_cst_4_apply, val_main_cst_6_apply, val_main_cst_7_apply]
  pointwise
  simp only [db, mean, dev, ve, rsd, pre, out, cot, pullv]
  rfl

end Cert.LnRefIdeal.Rows

open Idealize.ShloMosaic Idealize.SL.Sem

namespace Cert.Proof.LnClaims

/-- The kernel as printed, idealized, and the reference: each ends, its arguments unchanged, its counters at zero. -/
theorem frame_p : quiescent_Ln := fun m ρ _ => Ln.Gen.frame m ρ
theorem frame_pi : quiescent_LnIdeal := fun m ρ _ => LnIdeal.Gen.frame m ρ
theorem frame_ri : quiescent_LnRefIdeal := fun m ρ _ =>
  (θ_run LnRefIdeal.defs _ _).mono (fun r h => ⟨fun c => (h c).2.2.2, sem_eq_zero_of_no_sems (by decide) r.2⟩)
    (LnRefIdeal.Value.run (F := Ideal) m ρ)

/-- The idealized kernel's results are the reference's. -/
theorem algebraic : algebraic_LnIdeal_LnRefIdeal := by
  intro m ρ m' ρ' _ hagree
  refine ⟨_, _, _, LnIdeal.Value.run_blocks (F := Ideal) m ρ, ?_⟩
  refine (θ_run LnRefIdeal.defs _ _).mono (fun _ h c => ⟨(h c).1.trans ?_, (h c).2.1.trans ?_, (h c).2.2.1.trans ?_,
    (h c).2.2.2⟩) (LnRefIdeal.Value.run (F := Ideal) m' ρ')
  · refine (LnRefIdeal.Read.val_main_v68_eq _ _).trans ?_
    rw [(hagree c).1, (hagree c).2.1, (hagree c).2.2.1, (hagree c).2.2.2]
    exact (LnRefIdeal.Rows.du_ref (LnIdeal.Rows.ins m c)).trans (LnIdeal.Rows.du_final m c).symm
  · refine (LnRefIdeal.Read.val_main_v69_eq _ _).trans ?_
    rw [(hagree c).1, (hagree c).2.1, (hagree c).2.2.1, (hagree c).2.2.2]
    exact (LnRefIdeal.Rows.dg_ref (LnIdeal.Rows.ins m c)).trans (LnIdeal.Rows.dg_final m c).symm
  · refine (LnRefIdeal.Read.val_main_v70_eq _ _).trans ?_
    rw [(hagree c).1, (hagree c).2.1, (hagree c).2.2.1, (hagree c).2.2.2]
    exact (LnRefIdeal.Rows.db_ref (LnIdeal.Rows.ins m c)).trans (LnIdeal.Rows.db_final m c).symm

end Cert.Proof.LnClaims
-- ==== Proof.GluClaims.lean ====
/- The claims about the call of the gradients of the gated linear unit. -/
module

public import proofs.«01_k».proof.Proof.NormSpec
public import proofs.«01_k».proof.Proof.Gen.GluIdeal.Value
public import proofs.«01_k».proof.Proof.Gen.GluRefIdeal.Read
public import proofs.«01_k».proof.Defs
public import proofs.«01_k».proof.Proof.Gen.Glu.Frame

@[expose] public section

set_option maxRecDepth 16384

noncomputable section

namespace Cert.GluSpec

open Idealize.ShloMosaic Cert.NormSpec

/-- The arguments. -/
structure In where
  z : (⟨3, ![1, 2048, 4096]⟩ : Shape).Idx → EReal
  bias : (⟨2, ![1, 4096]⟩ : Shape).Idx → EReal
  ct : (⟨3, ![1, 2048, 2048]⟩ : Shape).Idx → EReal

variable (A : In)

/-- Row `r` of the input with the bias added, and the sigmoid of its second half. -/
def pre (r : Fin 2048) (j : Fin 4096) : EReal := A.z (ix3 0 r j) + A.bias (ix2 0 j)
def sg (r k : Fin 2048) : EReal := Ideal.logistic (pre A r ⟨2048 + k.val, by omega⟩)

/-- The gradient in the input, in the first half and in the second. -/
def dz (r : Fin 2048) (j : Fin 4096) : EReal :=
  if h : j.val < 2048 then A.ct (ix3 0 r ⟨j.val, h⟩) * sg A r ⟨j.val, h⟩
  else pre A r ⟨j.val - 2048, by omega⟩ * A.ct (ix3 0 r ⟨j.val - 2048, by omega⟩)
    * (sg A r ⟨j.val - 2048, by omega⟩ * (1 - sg A r ⟨j.val - 2048, by omega⟩))

/-- What row `r` adds to the gradient in the bias. -/
def dbias (r : Fin 2048) (j : Fin 4096) : EReal := dz A r j

end Cert.GluSpec

namespace Cert.GluIdeal.Rows

open Cert.GluIdeal Cert.GluIdeal.Gen Idealize.ShloMosaic Idealize.ShloMosaic.TcCoe Idealize.SL.Sem Cert.NormSpec Cert.GluSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The arguments on device `c`. -/
abbrev ins : In := ⟨m ((c : Thread nD τ).loc main_arg0), m ((c : Thread nD τ).loc main_arg1), m ((c : Thread nD τ).loc main_arg2)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 4096) : iblk m c 0 t (ix2 x k) = (ins m c).z (ix3 0 (at_ t x) k) := by
  blk_point [iblk, V, (index_all t).1]
theorem blk1 (t : Fin cfg0.N) (k : Fin 4096) : iblk m c 1 t (ix2 0 k) = (ins m c).bias (ix2 0 k) := by
  blk_point [iblk, V, (index_all t).2.1]
theorem blk2 (t : Fin cfg0.N) (x : Fin 256) (k : Fin 2048) : iblk m c 2 t (ix2 x k) = (ins m c).ct (ix3 0 (at_ t x) k) := by
  blk_point [iblk, V, (index_all t).2.2.1]

/-- After the run result 0 is the gradient in the input. -/
theorem dz_final : (dats m 0 c).arrAt 3 cfg0.N = fun i => dz (ins m c) (i 0) (i 1) := by
  refine (dats m 0 c).arrAt_eq_of_covers 3 _ (by decide +kernel) fun t hf y => ?_
  have hN : cfg0.N = 8 := N_0
  have ht : t.val < 8 := hN ▸ t.isLt
  blk_simp
  rw [after0_3]
  idx_vars y
  have e0 : (((cfg0.win 3).blk t).view.emb (ix2 y0 y1)) 0 = at_ t y0 := Fin.ext (by blk_simp [(index_all t).2.2.2]; simp [mul_comm])
  have e1 : (((cfg0.win 3).blk t).view.emb (ix2 y0 y1)) 1 = y1 := Fin.ext (by blk_simp [(index_all t).2.2.2])
  refine Eq.trans ?_ (congrArg₂ (dz (ins m c)) e0.symm e1.symm)
  by_cases h : t.val = 0
  · rw [Gen.outsAt0_A m c t (by omega) (by omega)]
    frame_out
    unfold_payloads
    pointwise
    simp only [blk0, blk1, blk2, Fin.sum_univ_one, Fin.isValue]
    exact add_halves _ _ _
  · rw [Gen.outsAt0_B m c t (by omega) (by omega)]
    frame_out
    unfold_payloads
    pointwise
    simp only [blk0, blk1, blk2, Fin.sum_univ_one, Fin.isValue]
    exact add_halves _ _ _

/-- After the run result 1 is the gradient in the bias. -/
theorem dbias_final : (dats m 0 c).arrAt 4 cfg0.N = fun i => ∑ r : Fin 2048, dbias (ins m c) r (i 1) := by
  refine (dats m 0 c).arrAt_eq_of_after_last 4 t0_7 (by decide +kernel) _ fun j => ?_
  have hN : cfg0.N = 8 := N_0
  blk_simp
  rw [after0_4]
  refine (Pipeline.eq_sum_fin_of_reset_step_apply_last (fun n h => (outsAt0 m c n h).2) 8 (fun _ => 0)
    (fun t j => ∑ x : Fin 256, dbias (ins m c) (at_ t x) (j 1)) (fun t h j => ?_) (fun t h j => ?_) (by omega) t0_7 rfl j).trans ?_
  · rw [Gen.outsAt0_A m c t (by omega) (by omega)]
    idx_vars j
    frame_out
    unfold_payloads
    pointwise
    simp only [blk0, blk1, blk2, Fin.sum_univ_one, Fin.isValue, zero_add]
    exact Finset.sum_congr rfl fun _ _ => add_halves _ _ _
  · rw [Gen.outsAt0_B m c t (by omega) (by omega)]
    idx_vars j
    frame_out
    unfold_payloads
    pointwise
    simp only [blk0, blk1, blk2, Fin.sum_univ_one, Fin.isValue]
    exact congrArg (_ + ·) (Finset.sum_congr rfl fun _ _ => add_halves _ _ _)
  · rw [zero_add]
    exact sum_blocks (fun r => dbias (ins m c) r (j 1)) _

end Cert.GluIdeal.Rows

namespace Cert.GluRefIdeal.Rows

open Cert.GluRefIdeal Cert.GluRefIdeal.Gen Cert.GluRefIdeal.Read Idealize.ShloMosaic Cert.NormSpec Cert.GluSpec

variable (A : In)

theorem v5_at (r : Fin 2048) (j : Fin 4096) : val_main_v5 (F := Ideal) A.z A.bias A.ct (ix3 0 r j) =
    if h : j.val < 2048 then val_main_call1_v1 (F := Ideal) A.z A.bias A.ct (ix3 0 r ⟨j.val, h⟩)
    else val_main_call1_v2 (F := Ideal) A.z A.bias A.ct (ix3 0 r ⟨j.val - 2048, by omega⟩) := by
  unfold val_main_v5
  generalize val_main_call1_v1 (F := Ideal) A.z A.bias A.ct = x
  generalize val_main_call1_v2 (F := Ideal) A.z A.bias A.ct = y
  pointwise

/-- Sums over axes of one entry. -/
theorem v9_idx (i0 : Fin 2048) (i1 : Fin 4096) : idx_main_v9 (ix2 i0 i1) = (ix3 0 i0 i1 : S1x2048x4096.Idx) := by
  blk_ext <;> omega

theorem v4_3_idx (i1 : Fin 2048) (i2 : Fin 2048) : idx_main_v4_3 (ix3 0 i1 i2) = (ix3 0 i1 ⟨i2.val, by omega⟩ : S1x2048x4096.Idx) := by
  blk_ext <;> omega

theorem v2_idx (i1 : Fin 2048) (i2 : Fin 4096) : idx_main_v2 (ix3 0 i1 i2) = (ix3 0 0 i2 : S1x1x4096.Idx) := by
  blk_ext <;> omega

theorem v1_idx (i2 : Fin 4096) : idx_main_v1 (ix3 0 0 i2) = (ix1 i2 : S4096.Idx) := by
  blk_ext <;> omega

theorem v0_idx (i0 : Fin 4096) : idx_main_v0 (ix1 i0) = (ix2 0 i0 : S1x4096.Idx) := by
  blk_ext <;> omega

theorem call0_v1_idx (i1 : Fin 2048) (i2 : Fin 2048) : idx_main_call0_v1 (ix3 0 i1 i2) = (ix3 0 i1 ⟨2048 + i2.val, by omega⟩ : S1x2048x4096.Idx) := by
  blk_ext <;> omega

theorem v11_idx (i1 : Fin 4096) : idx_main_v11 (ix2 0 i1) = (ix1 i1 : S4096.Idx) := by
  blk_ext <;> omega

theorem v8_at (k : Fin 4096) : val_main_v8 (F := Ideal) A.z A.bias A.ct (ix1 k) = val_main_v7 (F := Ideal) A.z A.bias A.ct (ix3 0 0 k) := by
  unfold val_main_v8
  generalize val_main_v7 (F := Ideal) A.z A.bias A.ct = w
  simp only [Host.reduceAdd, Ideal.hostReduceAdd_def]
  exact unit01 w _ _

theorem v7_idx (i2 : Fin 4096) : idx_main_v7 (ix3 0 0 i2) = (ix2 0 i2 : S1x4096.Idx) := by
  blk_ext <;> omega

theorem v6_idx (i1 : Fin 4096) (k : Fin 2048) : idx_main_v6 (ix2 0 i1) k = (ix3 0 k i1 : S1x2048x4096.Idx) := by
  blk_ext <;> omega

/-- The reference's: the gradient in the input. -/
theorem dz_ref : val_main_v10 (F := Ideal) A.z A.bias A.ct = fun i => dz A (i 0) (i 1) := by
  funext i
  idx_vars i
  simp only [val_main_v10_apply, val_main_v9_apply, v9_idx, v5_at, val_main_v4_1_apply, val_main_v4_2_apply, val_main_v4_3_apply, v4_3_idx, val_main_v3_apply,
    val_main_v2_apply, v2_idx, val_main_v1_apply, v1_idx, val_main_v0_apply, v0_idx, val_main_call0_cst_apply, val_main_call0_cst_0_apply,
    val_main_call0_cst_1_apply, val_main_call0_v1_apply, call0_v1_idx, val_main_call0_v2_apply, val_main_call0_v3_apply, val_main_call0_v4_apply,
    val_main_call0_v5_apply, val_main_call0_v6_apply, val_main_call0_v8_apply, val_main_call0_v9_apply, val_main_call1_v0_apply, val_main_call1_v1_apply,
    val_main_call1_v2_apply]
  pointwise
  simp only [dz, dz, sg, pre]
  rfl

/-- The reference's: the gradient in the bias. -/
theorem dbias_ref : val_main_v11 (F := Ideal) A.z A.bias A.ct = fun i => ∑ r : Fin 2048, dbias A r (i 1) := by
  funext i
  idx_vars i
  obtain rfl : i0 = 0 := Subsingleton.elim _ _
  simp only [val_main_v11_apply, v11_idx, v8_at, val_main_v7_apply, v7_idx, val_main_v6_apply, v6_idx, v5_at, val_main_v4_1_apply, val_main_v4_2_apply,
    val_main_v4_3_apply, v4_3_idx, val_main_v3_apply, val_main_v2_apply, v2_idx, val_main_v1_apply, v1_idx, val_main_v0_apply, v0_idx,
    val_main_call0_cst_apply, val_main_call0_cst_0_apply, val_main_call0_cst_1_apply, val_main_call0_v1_apply, call0_v1_idx, val_main_call0_v2_apply,
    val_main_call0_v3_apply, val_main_call0_v4_apply, val_main_call0_v5_apply, val_main_call0_v6_apply, val_main_call0_v8_apply, val_main_call0_v9_apply,
    val_main_call1_v0_apply, val_main_call1_v1_apply, val_main_call1_v2_apply, val_main_cst_apply, val_main_cst_0_apply]
  pointwise
  simp only [dbias, dz, sg, pre]
  rfl

end Cert.GluRefIdeal.Rows

open Idealize.ShloMosaic Idealize.SL.Sem

namespace Cert.Proof.GluClaims

/-- The kernel as printed, idealized, and the reference: each ends, its arguments unchanged, its counters at zero. -/
theorem frame_p : quiescent_Glu := fun m ρ _ => Glu.Gen.frame m ρ
theorem frame_pi : quiescent_GluIdeal := fun m ρ _ => GluIdeal.Gen.frame m ρ
theorem frame_ri : quiescent_GluRefIdeal := fun m ρ _ =>
  (θ_run GluRefIdeal.defs _ _).mono (fun r h => ⟨fun c => (h c).2.2, sem_eq_zero_of_no_sems (by decide) r.2⟩)
    (GluRefIdeal.Value.run (F := Ideal) m ρ)

/-- The idealized kernel's results are the reference's. -/
theorem algebraic : algebraic_GluIdeal_GluRefIdeal := by
  intro m ρ m' ρ' _ hagree
  refine ⟨_, _, GluIdeal.Value.run_blocks (F := Ideal) m ρ, ?_⟩
  refine (θ_run GluRefIdeal.defs _ _).mono (fun _ h c => ⟨(h c).1.trans ?_, (h c).2.1.trans ?_,
    (h c).2.2⟩) (GluRefIdeal.Value.run (F := Ideal) m' ρ')
  · refine (GluRefIdeal.Read.val_main_v10_eq (F := Ideal) _ _ _).trans ?_
    rw [(hagree c).1, (hagree c).2.1, (hagree c).2.2]
    exact (GluRefIdeal.Rows.dz_ref (GluIdeal.Rows.ins m c)).trans (GluIdeal.Rows.dz_final m c).symm
  · refine (GluRefIdeal.Read.val_main_v11_eq (F := Ideal) _ _ _).trans ?_
    rw [(hagree c).1, (hagree c).2.1, (hagree c).2.2]
    exact (GluRefIdeal.Rows.dbias_ref (GluIdeal.Rows.ins m c)).trans (GluIdeal.Rows.dbias_final m c).symm

end Cert.Proof.GluClaims
-- ==== Proof.LatClaims.lean ====
/- The claims about the call of the gradients of the latents' norms and of the shared key's rotary embedding. -/
module

public import proofs.«01_k».proof.Proof.NormSpec
public import proofs.«01_k».proof.Proof.RopeValue
public import proofs.«01_k».proof.Proof.Gen.LatIdeal.Value
public import proofs.«01_k».proof.Proof.Gen.LatRefIdeal.Read
public import proofs.«01_k».proof.Proof.Gen.Lat.Frame

@[expose] public section

set_option maxRecDepth 16384

noncomputable section

namespace Cert.LatSpec

open Idealize.ShloMosaic Cert.NormSpec

/-- The arguments. -/
structure In where
  pos : (⟨2, ![1, 2048]⟩ : Shape).Idx → BitVec 32
  dkv : (⟨3, ![1, 2048, 512]⟩ : Shape).Idx → EReal
  kr : (⟨3, ![1, 2048, 64]⟩ : Shape).Idx → EReal
  dq : (⟨3, ![1, 2048, 512]⟩ : Shape).Idx → EReal
  gckv : (⟨1, ![512]⟩ : Shape).Idx → EReal
  gcq : (⟨2, ![1, 512]⟩ : Shape).Idx → EReal
  ctkv : (⟨3, ![1, 2048, 512]⟩ : Shape).Idx → EReal
  ctkr : (⟨3, ![1, 2048, 64]⟩ : Shape).Idx → EReal
  ctq : (⟨3, ![1, 2048, 512]⟩ : Shape).Idx → EReal

variable (A : In)

/-- The angle of row `r` at frequency `k`. -/
def In.angle (r : Fin 2048) (k : ℕ) : EReal :=
  FloatOps.sitofp (F := Ideal) .f32 (A.pos (ix2 0 r)) * Ideal.div 1 (Ideal.pow (Ideal.ofBits .f32 1176256512#32)
    (Ideal.div (Ideal.ofBits .f32 1073741824#32 * FloatOps.sitofp (F := Ideal) .f32 (BitVec.ofNat 32 k)) (Ideal.ofBits .f32 1115684864#32)))

/-- The latents' length. -/
abbrev short : EReal := Ideal.ofBits .f32 1140850688#32

/-- Row `r` of each latent, and the cotangent of that row scaled. -/
abbrev rowkv (r : Fin 2048) : Fin 512 → EReal := fun k => A.dkv (ix3 0 r k)
abbrev cotkv (r : Fin 2048) : Fin 512 → EReal := fun k => A.ctkv (ix3 0 r k) * A.gckv (ix1 k)
abbrev rowq (r : Fin 2048) : Fin 512 → EReal := fun k => A.dq (ix3 0 r k)
abbrev cotq (r : Fin 2048) : Fin 512 → EReal := fun k => A.ctq (ix3 0 r k) * A.gcq (ix2 0 k)

/-- The rotary key's gradient: the rotation by the opposite angle. -/
def turn (r : Fin 2048) (q : Fin 64) : EReal :=
  if h : q.val < 32 then
    A.ctkr (ix3 0 r ⟨32 + q.val, by omega⟩) * Ideal.sin (A.angle r q.val) + A.ctkr (ix3 0 r q) * Ideal.cos (A.angle r q.val)
  else
    A.ctkr (ix3 0 r ⟨32 + (q.val - 32), by omega⟩) * Ideal.cos (A.angle r (q.val - 32)) + -A.ctkr (ix3 0 r ⟨q.val - 32, by omega⟩) * Ideal.sin (A.angle r (q.val - 32))

/-- One lane of the kernel's rotation, with the lanes behind the key at zero. -/
theorem turn_lane (r : Fin 2048) (l : ℕ) (hl : l < 128) :
    (if h : l < 64 then A.ctkr (ix3 0 r ⟨l, h⟩) else 0) * Ideal.cos (A.angle r (l % 32)) +
      Scalar.select (if l % 64 < 32 then 1#1 else 0#1)
        (if h : (l + 128 - 96) % 128 < 64 then A.ctkr (ix3 0 r ⟨(l + 128 - 96) % 128, h⟩) else 0)
        (if h : (l + 128 - 32) % 128 < 64 then A.ctkr (ix3 0 r ⟨(l + 128 - 32) % 128, h⟩) else 0) *
        (0 - if l % 64 < 32 then -Ideal.sin (A.angle r (l % 32)) else Ideal.sin (A.angle r (l % 32))) =
      if h : l < 64 then turn A r ⟨l, h⟩ else 0 := by
  unfold turn
  have sel1 (a b : EReal) : Scalar.select 1#1 a b = a := rfl
  have sel0 (a b : EReal) : Scalar.select 0#1 a b = b := rfl
  by_cases h64 : l < 64
  · by_cases h32 : l < 32
    · have e1 : l % 32 = l := by omega
      have e2 : (l + 128 - 96) % 128 = 32 + l := by omega
      have e3 : l % 64 < 32 := by omega
      simp only [dif_pos h64, dif_pos h32, e1, e2, if_pos e3, sel1, dif_pos (show 32 + l < 64 by omega), zero_sub, neg_neg]
      rw [add_comm]
    · have e1 : l % 32 = l - 32 := by omega
      have e2 : (l + 128 - 32) % 128 = l - 32 := by omega
      have e3 : ¬l % 64 < 32 := by omega
      simp only [dif_pos h64, dif_neg h32, e1, e2, if_neg e3, sel0, dif_pos (show l - 32 < 64 by omega), zero_sub, mul_neg, neg_mul,
        show 32 + (l - 32) = l by omega]
  · by_cases e3 : l % 64 < 32
    · simp only [dif_neg h64, if_pos e3, sel1, dif_neg (show ¬(l + 128 - 96) % 128 < 64 by omega), zero_mul, add_zero]
    · simp only [dif_neg h64, if_neg e3, sel0, dif_neg (show ¬(l + 128 - 32) % 128 < 64 by omega), zero_mul, add_zero]

/-- The gradient in the keys and values, and behind it that in the rotary key and zeros. -/
def dpre (r : Fin 2048) (j : Fin 640) : EReal :=
  if h : j.val < 512 then back short (rowkv A r) (cotkv A r) ⟨j.val, h⟩
  else if h : j.val - 512 < 64 then turn A r ⟨j.val - 512, h⟩ else 0

/-- The gradient in the queries. -/
def dq (r : Fin 2048) (k : Fin 512) : EReal := back short (rowq A r) (cotq A r) k

/-- What row `r` adds to the gradients in the gains. -/
def dgckv (r : Fin 2048) (k : Fin 512) : EReal := A.dkv (ix3 0 r k) * rs short (rowkv A r) * A.ctkv (ix3 0 r k)
def dgcq (r : Fin 2048) (k : Fin 512) : EReal := A.dq (ix3 0 r k) * rs short (rowq A r) * A.ctq (ix3 0 r k)

end Cert.LatSpec

namespace Cert.LatIdeal.Rows

open Cert.LatIdeal Cert.LatIdeal.Gen Idealize.ShloMosaic Idealize.ShloMosaic.TcCoe Idealize.SL.Sem Cert.NormSpec Cert.LatSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![t.val, 0] ∧ win0_7.index t = ![t.val, 0] ∧ win0_8.index t = ![t.val, 0] ∧ win0_9.index t = ![t.val, 0] ∧
    win0_10.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![t.val, 0] ∧ win0_7.index t = ![t.val, 0] ∧ win0_8.index t = ![t.val, 0] ∧ win0_9.index t = ![t.val, 0] ∧
    win0_10.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- The host's array for the launch: the cosines, four times side by side. -/
theorem host_v20 (r : Fin 2048) (k : Fin 128) : (V m c main_v20 : S2048x128.Idx → EReal) (ix2 r k) = Ideal.cos ((ins m c).angle r (k.val % 32)) := by
  show StableHlo.after (List.flatten [hostOps0, hostOps0_1, hostOps0_2, hostOps0_3, hostOps0_4]) (fun b => m (c, b)) main_v20 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise
  after_results_simp
  pointwise
  exact four_pieces (fun n => Ideal.cos ((ins m c).angle r n)) k.val k.isLt

/-- The host's array for the launch: the sines, negated on the first half of each head. -/
theorem host_v23 (r : Fin 2048) (k : Fin 128) : (V m c main_v23 : S2048x128.Idx → EReal) (ix2 r k) = if k.val % 64 < 32 then -Ideal.sin ((ins m c).angle r (k.val % 32)) else Ideal.sin ((ins m c).angle r (k.val % 32)) := by
  show StableHlo.after (List.flatten [hostOps0, hostOps0_1, hostOps0_2, hostOps0_3, hostOps0_4]) (fun b => m (c, b)) main_v23 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise
  after_results_simp
  pointwise
  exact four_pieces_neg (fun n => Ideal.sin ((ins m c).angle r n)) k.val k.isLt

/-- The host's array for the launch: the keys and values. -/
theorem host_v27 (r : Fin 2048) (k : Fin 512) : (V m c main_v27 : S2048x640.Idx → EReal) (ix2 r ⟨k.val, by omega⟩) = (ins m c).dkv (ix3 0 r k) := by
  show StableHlo.after (List.flatten [hostOps0, hostOps0_1, hostOps0_2, hostOps0_3, hostOps0_4]) (fun b => m (c, b)) main_v27 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the queries. -/
theorem host_v28 (r : Fin 2048) (k : Fin 512) : (V m c main_v28 : S2048x512.Idx → EReal) (ix2 r k) = (ins m c).dq (ix3 0 r k) := by
  show StableHlo.after (List.flatten [hostOps0, hostOps0_1, hostOps0_2, hostOps0_3, hostOps0_4]) (fun b => m (c, b)) main_v28 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the keys' gain. -/
theorem host_v29 (k : Fin 512) : (V m c main_v29 : S1x512.Idx → EReal) (ix2 0 k) = (ins m c).gckv (ix1 k) := by
  show StableHlo.after (List.flatten [hostOps0, hostOps0_1, hostOps0_2, hostOps0_3, hostOps0_4]) (fun b => m (c, b)) main_v29 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the queries' gain. -/
theorem host_v31 (k : Fin 512) : (V m c main_v31 : S1x512.Idx → EReal) (ix2 0 k) = (ins m c).gcq (ix2 0 k) := by
  show StableHlo.after (List.flatten [hostOps0, hostOps0_1, hostOps0_2, hostOps0_3, hostOps0_4]) (fun b => m (c, b)) main_v31 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the keys' cotangent. -/
theorem host_v32 (r : Fin 2048) (k : Fin 512) : (V m c main_v32 : S2048x512.Idx → EReal) (ix2 r k) = (ins m c).ctkv (ix3 0 r k) := by
  show StableHlo.after (List.flatten [hostOps0, hostOps0_1, hostOps0_2, hostOps0_3, hostOps0_4]) (fun b => m (c, b)) main_v32 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the rotary key's cotangent with zeros behind. -/
theorem host_v34 (r : Fin 2048) (k : Fin 128) : (V m c main_v34 : S2048x128.Idx → EReal) (ix2 r k) = if h : k.val < 64 then (ins m c).ctkr (ix3 0 r ⟨k.val, h⟩) else 0 := by
  show StableHlo.after (List.flatten [hostOps0, hostOps0_1, hostOps0_2, hostOps0_3, hostOps0_4]) (fun b => m (c, b)) main_v34 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  refine (pad_lanes _ _ (fun _ => ?_) _ _ r k).trans ?_
  · pointwise
    show (((0#32 : BitVec 32).toInt : ℝ) : EReal) = 0
    simp
  · pointwise

/-- The host's array for the launch: the queries' cotangent. -/
theorem host_v35 (r : Fin 2048) (k : Fin 512) : (V m c main_v35 : S2048x512.Idx → EReal) (ix2 r k) = (ins m c).ctq (ix3 0 r k) := by
  show StableHlo.after (List.flatten [hostOps0, hostOps0_1, hostOps0_2, hostOps0_3, hostOps0_4]) (fun b => m (c, b)) main_v35 _ = _
  simp only [hostOps0, hostOps0_1, hostOps0_2, hostOps0_3, hostOps0_4, List.flatten_cons, List.flatten_nil, List.cons_append, List.nil_append, List.append_nil,
    StableHlo.TRef.unary, StableHlo.TRef.binary, StableHlo.TRef.toBuf, StableHlo.TRef.ofBuf, cast_eq]
  after_results_simp
  pointwise

/-- What point `t`'s blocks read. -/
theorem blk0 (t : Fin cfg0.N) (x : Fin 256) (k : Fin 512) : iblk m c 0 t (ix2 x ⟨k.val, by omega⟩) = (ins m c).dkv (ix3 0 (at_ t x) k) := by
  have e : ((cfg0.win 0).blk t).view.emb (ix2 x ⟨k.val, by omega⟩) = ix2 (at_ t x) ⟨k.val, by omega⟩ := by blk_ext [(index_all t).1]
  show (V m c main_v27 : _ → EReal) (((cfg0.win 0).blk t).view.emb (ix2 x ⟨k.val, by omega⟩)) = _
  rw [e]
  exact host_v27 m c (at_ t x) k
theorem blk1 (t : Fin cfg0.N) (x : Fin 256) (k : Fin 512) : iblk m c 1 t (ix2 x k) = (ins m c).dq (ix3 0 (at_ t x) k) := by
  have e : ((cfg0.win 1).blk t).view.emb (ix2 x k) = ix2 (at_ t x) k := by blk_ext [(index_all t).2.1]
  show (V m c main_v28 : _ → EReal) (((cfg0.win 1).blk t).view.emb (ix2 x k)) = _
  rw [e]
  exact host_v28 m c (at_ t x) k
theorem blk2 (t : Fin cfg0.N) (x : Fin 256) (k : Fin 128) : iblk m c 2 t (ix2 x k) = Ideal.cos ((ins m c).angle (at_ t x) (k.val % 32)) := by
  have e : ((cfg0.win 2).blk t).view.emb (ix2 x k) = ix2 (at_ t x) k := by blk_ext [(index_all t).2.2.1]
  show (V m c main_v20 : _ → EReal) (((cfg0.win 2).blk t).view.emb (ix2 x k)) = _
  rw [e]
  exact host_v20 m c (at_ t x) k
theorem blk3 (t : Fin cfg0.N) (x : Fin 256) (k : Fin 128) : iblk m c 3 t (ix2 x k) = if k.val % 64 < 32 then -Ideal.sin ((ins m c).angle (at_ t x) (k.val % 32)) else Ideal.sin ((ins m c).angle (at_ t x) (k.val % 32)) := by
  have e : ((cfg0.win 3).blk t).view.emb (ix2 x k) = ix2 (at_ t x) k := by blk_ext [(index_all t).2.2.2.1]
  show (V m c main_v23 : _ → EReal) (((cfg0.win 3).blk t).view.emb (ix2 x k)) = _
  rw [e]
  exact host_v23 m c (at_ t x) k
theorem blk4 (t : Fin cfg0.N) (k : Fin 512) : iblk m c 4 t (ix2 0 k) = (ins m c).gckv (ix1 k) := by
  have e : ((cfg0.win 4).blk t).view.emb (ix2 0 k) = ix2 0 k := by blk_ext [(index_all t).2.2.2.2.1]
  show (V m c main_v29 : _ → EReal) (((cfg0.win 4).blk t).view.emb (ix2 0 k)) = _
  rw [e]
  exact host_v29 m c k
theorem blk5 (t : Fin cfg0.N) (k : Fin 512) : iblk m c 5 t (ix2 0 k) = (ins m c).gcq (ix2 0 k) := by
  have e : ((cfg0.win 5).blk t).view.emb (ix2 0 k) = ix2 0 k := by blk_ext [(index_all t).2.2.2.2.2.1]
  show (V m c main_v31 : _ → EReal) (((cfg0.win 5).blk t).view.emb (ix2 0 k)) = _
  rw [e]
  exact host_v31 m c k
theorem blk6 (t : Fin cfg0.N) (x : Fin 256) (k : Fin 512) : iblk m c 6 t (ix2 x k) = (ins m c).ctkv (ix3 0 (at_ t x) k) := by
  have e : ((cfg0.win 6).blk t).view.emb (ix2 x k) = ix2 (at_ t x) k := by blk_ext [(index_all t).2.2.2.2.2.2.1]
  show (V m c main_v32 : _ → EReal) (((cfg0.win 6).blk t).view.emb (ix2 x k)) = _
  rw [e]
  exact host_v32 m c (at_ t x) k
theorem blk7 (t : Fin cfg0.N) (x : Fin 256) (k : Fin 128) : iblk m c 7 t (ix2 x k) = if h : k.val < 64 then (ins m c).ctkr (ix3 0 (at_ t x) ⟨k.val, h⟩) else 0 := by
  have e : ((cfg0.win 7).blk t).view.emb (ix2 x k) = ix2 (at_ t x) k := by blk_ext [(index_all t).2.2.2.2.2.2.2.1]
  show (V m c main_v34 : _ → EReal) (((cfg0.win 7).blk t).view.emb (ix2 x k)) = _
  rw [e]
  exact host_v34 m c (at_ t x) k
theorem blk8 (t : Fin cfg0.N) (x : Fin 256) (k : Fin 512) : iblk m c 8 t (ix2 x k) = (ins m c).ctq (ix3 0 (at_ t x) k) := by
  have e : ((cfg0.win 8).blk t).view.emb (ix2 x k) = ix2 (at_ t x) k := by blk_ext [(index_all t).2.2.2.2.2.2.2.2.1]
  show (V m c main_v35 : _ → EReal) (((cfg0.win 8).blk t).view.emb (ix2 x k)) = _
  rw [e]
  exact host_v35 m c (at_ t x) k

set_option maxHeartbeats 4000000 in
/-- After the run result 0 is the gradient in the keys and values, and in the rotary key behind them. -/
theorem dpre_final : (dats m 0 c).arrAt 9 cfg0.N = fun i => dpre (ins m c) (i 0) (i 1) := by
  refine (dats m 0 c).arrAt_eq_of_covers 9 _ (by decide +kernel) fun t hf y => ?_
  have hN : cfg0.N = 8 := N_0
  have ht : t.val < 8 := hN ▸ t.isLt
  blk_simp
  rw [after0_9]
  idx_vars y
  have e0 : (((cfg0.win 9).blk t).view.emb (ix2 y0 y1)) 0 = at_ t y0 := Fin.ext (by blk_simp [(index_all t).2.2.2.2.2.2.2.2.2.1]; simp [mul_comm])
  have e1 : (((cfg0.win 9).blk t).view.emb (ix2 y0 y1)) 1 = y1 := Fin.ext (by blk_simp [(index_all t).2.2.2.2.2.2.2.2.2.1])
  refine Eq.trans ?_ (congrArg₂ (dpre (ins m c)) e0.symm e1.symm)
  by_cases h : t.val = 0
  · rw [Gen.outsAt0_A m c t (by omega) (by omega) (by omega) (by omega)]
    frame_out
    unfold_payloads
    pointwise
    simp only [blk0, blk1, blk2, blk3, blk4, blk5, blk6, blk7, blk8, Fin.sum_univ_one, Fin.isValue]
    have hf := Cert.RopeIdeal.Run.first_half ⟨y1.val - 512, by omega⟩
    simp only at hf
    unfold dpre
    by_cases hy : y1.val < 512
    · have hb := blk0 m c t y0 ⟨y1.val, hy⟩
      simp only [dif_pos hy, zero_add]
      rw [show iblk m c 0 t (ix2 y0 y1) = _ from hb]
      rfl
    · simp only [dif_neg hy, add_zero]
      rw [hf]
      exact turn_lane (ins m c) (at_ t y0) (y1.val - 512) (by omega)
  · rw [Gen.outsAt0_B m c t (by omega) (by omega) (by omega) (by omega)]
    frame_out
    unfold_payloads
    pointwise
    simp only [blk0, blk1, blk2, blk3, blk4, blk5, blk6, blk7, blk8, Fin.sum_univ_one, Fin.isValue]
    have hf := Cert.RopeIdeal.Run.first_half ⟨y1.val - 512, by omega⟩
    simp only at hf
    unfold dpre
    by_cases hy : y1.val < 512
    · have hb := blk0 m c t y0 ⟨y1.val, hy⟩
      simp only [dif_pos hy, zero_add]
      rw [show iblk m c 0 t (ix2 y0 y1) = _ from hb]
      rfl
    · simp only [dif_neg hy, add_zero]
      rw [hf]
      exact turn_lane (ins m c) (at_ t y0) (y1.val - 512) (by omega)

/-- After the run result 1 is the gradient in the queries. -/
theorem dq_final : (dats m 0 c).arrAt 10 cfg0.N = fun i => dq (ins m c) (i 0) (i 1) := by
  refine (dats m 0 c).arrAt_eq_of_covers 10 _ (by decide +kernel) fun t hf y => ?_
  have hN : cfg0.N = 8 := N_0
  have ht : t.val < 8 := hN ▸ t.isLt
  blk_simp
  rw [after0_10]
  idx_vars y
  have e0 : (((cfg0.win 10).blk t).view.emb (ix2 y0 y1)) 0 = at_ t y0 := Fin.ext (by blk_simp [(index_all t).2.2.2.2.2.2.2.2.2.2]; simp [mul_comm])
  have e1 : (((cfg0.win 10).blk t).view.emb (ix2 y0 y1)) 1 = y1 := Fin.ext (by blk_simp [(index_all t).2.2.2.2.2.2.2.2.2.2])
  refine Eq.trans ?_ (congrArg₂ (dq (ins m c)) e0.symm e1.symm)
  by_cases h : t.val = 0
  · rw [Gen.outsAt0_A m c t (by omega) (by omega) (by omega) (by omega)]
    frame_out
    unfold_payloads
    pointwise
    simp only [blk0, blk1, blk2, blk3, blk4, blk5, blk6, blk7, blk8, Fin.sum_univ_one, Fin.isValue]
    rfl
  · rw [Gen.outsAt0_B m c t (by omega) (by omega) (by omega) (by omega)]
    frame_out
    unfold_payloads
    pointwise
    simp only [blk0, blk1, blk2, blk3, blk4, blk5, blk6, blk7, blk8, Fin.sum_univ_one, Fin.isValue]
    rfl

/-- After the run result 2 is the gradient in the keys' gain. -/
theorem dgckv_final : (dats m 0 c).arrAt 11 cfg0.N = fun i => ∑ r : Fin 2048, dgckv (ins m c) r (i 1) := by
  refine (dats m 0 c).arrAt_eq_of_after_last 11 t0_7 (by decide +kernel) _ fun j => ?_
  have hN : cfg0.N = 8 := N_0
  blk_simp
  rw [after0_11]
  refine (Pipeline.eq_sum_fin_of_reset_step_apply_last (fun n h => (outsAt0 m c n h).2.2.1) 8 (fun _ => 0)
    (fun t j => ∑ x : Fin 256, dgckv (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, blk4, blk5, blk6, blk7, blk8, Fin.sum_univ_one, Fin.isValue, zero_add]
    rfl
  · rw [Gen.outsAt0_B m c t (by omega) (by omega) (by omega) (by omega)]
    idx_vars j
    frame_out
    unfold_payloads
    pointwise
    simp only [blk0, blk1, blk2, blk3, blk4, blk5, blk6, blk7, blk8, Fin.sum_univ_one, Fin.isValue]
    rfl
  · rw [zero_add]
    exact sum_blocks (fun r => dgckv (ins m c) r (j 1)) _

/-- After the run result 3 is the gradient in the queries' gain. -/
theorem dgcq_final : (dats m 0 c).arrAt 12 cfg0.N = fun i => ∑ r : Fin 2048, dgcq (ins m c) r (i 1) := by
  refine (dats m 0 c).arrAt_eq_of_after_last 12 t0_7 (by decide +kernel) _ fun j => ?_
  have hN : cfg0.N = 8 := N_0
  blk_simp
  rw [after0_12]
  refine (Pipeline.eq_sum_fin_of_reset_step_apply_last (fun n h => (outsAt0 m c n h).2.2.2) 8 (fun _ => 0)
    (fun t j => ∑ x : Fin 256, dgcq (ins m c) (at_ t x) (j 1)) (fun t h j => ?_) (fun t h j => ?_) (by omega) t0_7 rfl j).trans ?_
  · rw [Gen.outsAt0_A m c t (by omega) (by omega) (by omega) (by omega)]
    idx_vars j
    frame_out
    unfold_payloads
    pointwise
    simp only [blk0, blk1, blk2, blk3, blk4, blk5, blk6, blk7, blk8, Fin.sum_univ_one, Fin.isValue, zero_add]
    rfl
  · rw [Gen.outsAt0_B m c t (by omega) (by omega) (by omega) (by omega)]
    idx_vars j
    frame_out
    unfold_payloads
    pointwise
    simp only [blk0, blk1, blk2, blk3, blk4, blk5, blk6, blk7, blk8, Fin.sum_univ_one, Fin.isValue]
    rfl
  · rw [zero_add]
    exact sum_blocks (fun r => dgcq (ins m c) r (j 1)) _

end Cert.LatIdeal.Rows

namespace Cert.LatRefIdeal.Rows

open Cert.LatRefIdeal Cert.LatRefIdeal.Gen Cert.LatRefIdeal.Read Idealize.ShloMosaic Cert.NormSpec Cert.LatSpec

variable (A : In)

theorem v91_at (r : Fin 2048) (j : Fin 64) : val_main_v91 (F := Ideal) A.pos A.ctkr (ix3 0 r j) =
    if h : j.val < 32 then val_main_v90 (F := Ideal) A.pos A.ctkr (ix3 0 r ⟨j.val, h⟩)
    else val_main_v88 (F := Ideal) A.pos A.ctkr (ix3 0 r ⟨j.val - 32, by omega⟩) := by
  unfold val_main_v91
  generalize val_main_v90 (F := Ideal) A.pos A.ctkr = x
  generalize val_main_v88 (F := Ideal) A.pos A.ctkr = y
  pointwise

theorem v115_at (r : Fin 2048) (j : Fin 128) : val_main_v115 (F := Ideal) A.pos A.ctkr (ix2 r j) =
    if h : j.val < 64 then val_main_v114 (F := Ideal) A.pos A.ctkr (ix2 r ⟨j.val, h⟩) else 0 := by
  unfold val_main_v115
  generalize val_main_v114 (F := Ideal) A.pos A.ctkr = x
  refine pad_lanes x _ (fun _ => ?_) _ _ r j
  rw [val_main_call0_v0_apply, val_main_c_apply]
  show (((0#32 : BitVec 32).toInt : ℝ) : EReal) = _
  simp

theorem v116_at (r : Fin 2048) (j : Fin 640) : val_main_v116 (F := Ideal) A.pos A.dkv A.gckv A.ctkv A.ctkr (ix2 r j) =
    if h : j.val < 512 then val_main_v113 (F := Ideal) A.dkv A.gckv A.ctkv (ix2 r ⟨j.val, h⟩)
    else val_main_v115 (F := Ideal) A.pos A.ctkr (ix2 r ⟨j.val - 512, by omega⟩) := by
  unfold val_main_v116
  generalize val_main_v113 (F := Ideal) A.dkv A.gckv A.ctkv = x
  generalize val_main_v115 (F := Ideal) A.pos A.ctkr = y
  pointwise

/-- Sums over axes of one entry. -/
theorem v114_idx (i0 : Fin 2048) (i1 : Fin 64) : idx_main_v114 (ix2 i0 i1) = (ix3 0 i0 i1 : S1x2048x64.Idx) := by
  blk_ext <;> omega

theorem v113_idx (i0 : Fin 2048) (i1 : Fin 512) : idx_main_v113 (ix2 i0 i1) = (ix3 0 i0 i1 : S1x2048x512.Idx) := by
  blk_ext <;> omega

theorem v108_idx (i1 : Fin 2048) (i2 : Fin 512) : idx_main_v108 (ix3 0 i1 i2) = (ix2 0 i1 : S1x2048.Idx) := by
  blk_ext <;> omega

theorem v107_idx (i1 : Fin 2048) : idx_main_v107 (ix2 0 i1) = (ix1 i1 : S2048.Idx) := by
  blk_ext <;> omega

theorem v106_at (k : Fin 2048) : val_main_v106 (F := Ideal) A.dkv A.gckv A.ctkv (ix1 k) = val_main_v105 (F := Ideal) A.dkv A.gckv A.ctkv (ix3 0 k 0) := by
  unfold val_main_v106
  generalize val_main_v105 (F := Ideal) A.dkv A.gckv A.ctkv = w
  simp only [Host.reduceAdd, Ideal.hostReduceAdd_def]
  exact unit02 w _ _

theorem v101_idx (i1 : Fin 2048) (i2 : Fin 512) : idx_main_v101 (ix3 0 i1 i2) = (ix3 0 i1 0 : S1x2048x1.Idx) := by
  blk_ext <;> omega

theorem v100_idx (i1 : Fin 2048) : idx_main_v100 (ix3 0 i1 0) = (ix2 0 i1 : S1x2048.Idx) := by
  blk_ext <;> omega

theorem v99_idx (i1 : Fin 2048) (k : Fin 512) : idx_main_v99 (ix2 0 i1) k = (ix3 0 i1 k : S1x2048x512.Idx) := by
  blk_ext <;> omega

theorem v95_idx (i1 : Fin 2048) (i2 : Fin 512) : idx_main_v95 (ix3 0 i1 i2) = (ix3 0 0 i2 : S1x1x512.Idx) := by
  blk_ext <;> omega

theorem v83_idx (i1 : Fin 2048) (i2 : Fin 32) : idx_main_v83 (ix3 0 i1 i2) = (ix3 0 i1 ⟨32 + i2.val, by omega⟩ : S1x2048x64.Idx) := by
  blk_ext <;> omega

theorem v82_idx (i1 : Fin 2048) (i2 : Fin 32) : idx_main_v82 (ix3 0 i1 i2) = (ix3 0 i1 ⟨i2.val, by omega⟩ : S1x2048x64.Idx) := by
  blk_ext <;> omega

theorem v33_idx (i2 : Fin 512) : idx_main_v33 (ix3 0 0 i2) = (ix1 i2 : S512.Idx) := by
  blk_ext <;> omega

theorem v22_idx (i1 : Fin 2048) : idx_main_v22 (ix3 0 i1 0) = (ix2 0 i1 : S1x2048.Idx) := by
  blk_ext <;> omega

theorem v21_idx (i1 : Fin 2048) (k : Fin 512) : idx_main_v21 (ix2 0 i1) k = (ix3 0 i1 k : S1x2048x512.Idx) := by
  blk_ext <;> omega

theorem v16_idx (i1 : Fin 2048) (i2 : Fin 32) : idx_main_v16 (ix3 0 i1 i2) = (ix3 0 0 i2 : S1x1x32.Idx) := by
  blk_ext <;> omega

theorem v15_idx (i1 : Fin 2048) (i2 : Fin 32) : idx_main_v15 (ix3 0 i1 i2) = (ix3 0 i1 0 : S1x2048x1.Idx) := by
  blk_ext <;> omega

theorem v14_idx (i2 : Fin 32) : idx_main_v14 (ix3 0 0 i2) = (ix1 i2 : S32.Idx) := by
  blk_ext <;> omega

theorem v13_idx (i1 : Fin 2048) : idx_main_v13 (ix3 0 i1 0) = (ix2 0 i1 : S1x2048.Idx) := by
  blk_ext <;> omega

theorem v118_idx (i0 : Fin 2048) (i1 : Fin 512) : idx_main_v118 (ix2 i0 i1) = (ix3 0 i0 i1 : S1x2048x512.Idx) := by
  blk_ext <;> omega

theorem v77_idx (i1 : Fin 2048) (i2 : Fin 512) : idx_main_v77 (ix3 0 i1 i2) = (ix2 0 i1 : S1x2048.Idx) := by
  blk_ext <;> omega

theorem v76_idx (i1 : Fin 2048) : idx_main_v76 (ix2 0 i1) = (ix1 i1 : S2048.Idx) := by
  blk_ext <;> omega

theorem v75_at (k : Fin 2048) : val_main_v75 (F := Ideal) A.dq A.gcq A.ctq (ix1 k) = val_main_v74 (F := Ideal) A.dq A.gcq A.ctq (ix3 0 k 0) := by
  unfold val_main_v75
  generalize val_main_v74 (F := Ideal) A.dq A.gcq A.ctq = w
  simp only [Host.reduceAdd, Ideal.hostReduceAdd_def]
  exact unit02 w _ _

theorem v70_idx (i1 : Fin 2048) (i2 : Fin 512) : idx_main_v70 (ix3 0 i1 i2) = (ix3 0 i1 0 : S1x2048x1.Idx) := by
  blk_ext <;> omega

theorem v69_idx (i1 : Fin 2048) : idx_main_v69 (ix3 0 i1 0) = (ix2 0 i1 : S1x2048.Idx) := by
  blk_ext <;> omega

theorem v68_idx (i1 : Fin 2048) (k : Fin 512) : idx_main_v68 (ix2 0 i1) k = (ix3 0 i1 k : S1x2048x512.Idx) := by
  blk_ext <;> omega

theorem v64_idx (i1 : Fin 2048) (i2 : Fin 512) : idx_main_v64 (ix3 0 i1 i2) = (ix3 0 0 i2 : S1x1x512.Idx) := by
  blk_ext <;> omega

theorem v58_idx (i2 : Fin 512) : idx_main_v58 (ix3 0 0 i2) = (ix1 i2 : S512.Idx) := by
  blk_ext <;> omega

theorem v47_idx (i1 : Fin 2048) : idx_main_v47 (ix3 0 i1 0) = (ix2 0 i1 : S1x2048.Idx) := by
  blk_ext <;> omega

theorem v46_idx (i1 : Fin 2048) (k : Fin 512) : idx_main_v46 (ix2 0 i1) k = (ix3 0 i1 k : S1x2048x512.Idx) := by
  blk_ext <;> omega

theorem v0_idx (i0 : Fin 512) : idx_main_v0 (ix1 i0) = (ix2 0 i0 : S1x512.Idx) := by
  blk_ext <;> omega

theorem v120_idx (i1 : Fin 512) : idx_main_v120 (ix2 0 i1) = (ix1 i1 : S512.Idx) := by
  blk_ext <;> omega

theorem v97_at (k : Fin 512) : val_main_v97 (F := Ideal) A.dkv A.ctkv (ix1 k) = val_main_v94 (F := Ideal) A.dkv A.ctkv (ix3 0 0 k) := by
  unfold val_main_v97
  generalize val_main_v94 (F := Ideal) A.dkv A.ctkv = w
  simp only [Host.reduceAdd, Ideal.hostReduceAdd_def]
  exact unit01 w _ _

theorem v94_idx (i2 : Fin 512) : idx_main_v94 (ix3 0 0 i2) = (ix2 0 i2 : S1x512.Idx) := by
  blk_ext <;> omega

theorem v93_idx (i1 : Fin 512) (k : Fin 2048) : idx_main_v93 (ix2 0 i1) k = (ix3 0 k i1 : S1x2048x512.Idx) := by
  blk_ext <;> omega

theorem v31_idx (i1 : Fin 2048) (i2 : Fin 512) : idx_main_v31 (ix3 0 i1 i2) = (ix3 0 i1 0 : S1x2048x1.Idx) := by
  blk_ext <;> omega

theorem v121_idx (i1 : Fin 512) : idx_main_v121 (ix2 0 i1) = (ix1 i1 : S512.Idx) := by
  blk_ext <;> omega

theorem v66_at (k : Fin 512) : val_main_v66 (F := Ideal) A.dq A.ctq (ix1 k) = val_main_v63 (F := Ideal) A.dq A.ctq (ix3 0 0 k) := by
  unfold val_main_v66
  generalize val_main_v63 (F := Ideal) A.dq A.ctq = w
  simp only [Host.reduceAdd, Ideal.hostReduceAdd_def]
  exact unit01 w _ _

theorem v63_idx (i2 : Fin 512) : idx_main_v63 (ix3 0 0 i2) = (ix2 0 i2 : S1x512.Idx) := by
  blk_ext <;> omega

theorem v62_idx (i1 : Fin 512) (k : Fin 2048) : idx_main_v62 (ix2 0 i1) k = (ix3 0 k i1 : S1x2048x512.Idx) := by
  blk_ext <;> omega

theorem v56_idx (i1 : Fin 2048) (i2 : Fin 512) : idx_main_v56 (ix3 0 i1 i2) = (ix3 0 i1 0 : S1x2048x1.Idx) := by
  blk_ext <;> omega

/-- The reference's: the gradient in the keys and values, and in the rotary key behind them. -/
theorem dpre_ref : val_main_v117 (F := Ideal) A.pos A.dkv A.gckv A.ctkv A.ctkr = fun i => dpre A (i 0) (i 1) := by
  funext i
  idx_vars i
  simp only [val_main_v117_apply, v116_at, v115_at, val_main_v114_apply, v114_idx, val_main_v113_apply, v113_idx, val_main_v112_apply, val_main_v111_apply,
    val_main_v110_apply, val_main_v109_apply, val_main_v108_apply, v108_idx, val_main_v107_apply, v107_idx, v106_at, val_main_v105_apply,
    val_main_v104_apply, val_main_v103_apply, val_main_v102_apply, val_main_v101_apply, v101_idx, val_main_v100_apply, v100_idx, val_main_v99_apply,
    v99_idx, val_main_v98_apply, val_main_v96_apply, val_main_v95_apply, v95_idx, v91_at, val_main_v90_apply, val_main_v89_apply, val_main_v88_apply,
    val_main_v87_apply, val_main_v86_apply, val_main_v85_apply, val_main_v84_apply, val_main_v83_apply, v83_idx, val_main_v82_apply, v82_idx,
    val_main_v33_apply, v33_idx, val_main_v30_apply, val_main_v29_apply, val_main_v28_apply, val_main_v27_apply, val_main_v26_apply, val_main_v25_apply,
    val_main_v24_apply, val_main_v23_apply, val_main_v22_apply, v22_idx, val_main_v21_apply, v21_idx, val_main_v20_apply, val_main_v19_apply,
    val_main_v18_apply, val_main_v17_apply, val_main_v16_apply, v16_idx, val_main_v15_apply, v15_idx, val_main_v14_apply, v14_idx, val_main_v13_apply,
    v13_idx, val_main_v12_apply, val_main_v11_apply, val_main_v10_apply, val_main_v9_apply, val_main_v8_apply, val_main_v7_apply, val_main_v6_apply,
    val_main_v5_apply, val_main_v4_apply, val_main_v3_apply, val_main_v2_apply, val_main_c_apply, val_main_call0_v0_apply, val_main_cst_apply,
    val_main_cst_0_apply, val_main_cst_1_apply, val_main_cst_19_apply, val_main_cst_2_apply, val_main_cst_20_apply, val_main_cst_21_apply,
    val_main_cst_3_apply, val_main_cst_4_apply, val_main_cst_5_apply, val_main_cst_6_apply, val_main_cst_7_apply]
  pointwise
  simp only [dpre, back, pull, ms, rs, rowkv, cotkv, rowq, cotq, turn]
  rfl

/-- The reference's: the gradient in the queries. -/
theorem dq_ref : val_main_v119 (F := Ideal) A.dq A.gcq A.ctq = fun i => dq A (i 0) (i 1) := by
  funext i
  idx_vars i
  simp only [val_main_v119_apply, val_main_v118_apply, v118_idx, val_main_v81_apply, val_main_v80_apply, val_main_v79_apply, val_main_v78_apply, val_main_v77_apply,
    v77_idx, val_main_v76_apply, v76_idx, v75_at, val_main_v74_apply, val_main_v73_apply, val_main_v72_apply, val_main_v71_apply, val_main_v70_apply,
    v70_idx, val_main_v69_apply, v69_idx, val_main_v68_apply, v68_idx, val_main_v67_apply, val_main_v65_apply, val_main_v64_apply, v64_idx,
    val_main_v58_apply, v58_idx, val_main_v55_apply, val_main_v54_apply, val_main_v53_apply, val_main_v52_apply, val_main_v51_apply, val_main_v50_apply,
    val_main_v49_apply, val_main_v48_apply, val_main_v47_apply, v47_idx, val_main_v46_apply, v46_idx, val_main_v45_apply, val_main_v0_apply, v0_idx,
    val_main_cst_10_apply, val_main_cst_11_apply, val_main_cst_14_apply, val_main_cst_15_apply, val_main_cst_16_apply, val_main_cst_8_apply,
    val_main_cst_9_apply]
  pointwise
  simp only [dq, back, pull, ms, rs, rowkv, cotkv, rowq, cotq, turn]

/-- The reference's: the gradient in the keys' gain. -/
theorem dgckv_ref : val_main_v120 (F := Ideal) A.dkv A.ctkv = fun i => ∑ r : Fin 2048, dgckv A r (i 1) := by
  funext i
  idx_vars i
  obtain rfl : i0 = 0 := Subsingleton.elim _ _
  simp only [val_main_v120_apply, v120_idx, v97_at, val_main_v94_apply, v94_idx, val_main_v93_apply, v93_idx, val_main_v92_apply, val_main_v32_apply,
    val_main_v31_apply, v31_idx, val_main_v27_apply, val_main_v26_apply, val_main_v25_apply, val_main_v24_apply, val_main_v23_apply, val_main_v22_apply,
    v22_idx, val_main_v21_apply, v21_idx, val_main_v20_apply, val_main_cst_17_apply, val_main_cst_18_apply, val_main_cst_4_apply, val_main_cst_5_apply,
    val_main_cst_6_apply]
  pointwise
  simp only [dgckv, back, pull, ms, rs, rowkv, cotkv, rowq, cotq, turn]

/-- The reference's: the gradient in the queries' gain. -/
theorem dgcq_ref : val_main_v121 (F := Ideal) A.dq A.ctq = fun i => ∑ r : Fin 2048, dgcq A r (i 1) := by
  funext i
  idx_vars i
  obtain rfl : i0 = 0 := Subsingleton.elim _ _
  simp only [val_main_v121_apply, v121_idx, v66_at, val_main_v63_apply, v63_idx, val_main_v62_apply, v62_idx, val_main_v61_apply, val_main_v57_apply,
    val_main_v56_apply, v56_idx, val_main_v52_apply, val_main_v51_apply, val_main_v50_apply, val_main_v49_apply, val_main_v48_apply, val_main_v47_apply,
    v47_idx, val_main_v46_apply, v46_idx, val_main_v45_apply, val_main_cst_10_apply, val_main_cst_12_apply, val_main_cst_13_apply, val_main_cst_8_apply,
    val_main_cst_9_apply]
  pointwise
  simp only [dgcq, back, pull, ms, rs, rowkv, cotkv, rowq, cotq, turn]

end Cert.LatRefIdeal.Rows

open Idealize.ShloMosaic Idealize.SL.Sem

namespace Cert.Proof.LatClaims

/-- The kernel as printed, idealized, and the reference: each ends, its arguments unchanged, its counters at zero. -/
theorem frame_p : quiescent_Lat := fun m ρ _ => Lat.Gen.frame m ρ
theorem frame_pi : quiescent_LatIdeal := fun m ρ _ => LatIdeal.Gen.frame m ρ
theorem frame_ri : quiescent_LatRefIdeal := fun m ρ _ =>
  (θ_run LatRefIdeal.defs _ _).mono (fun r h => ⟨fun c => (h c).2.2.2.2, sem_eq_zero_of_no_sems (by decide) r.2⟩)
    (LatRefIdeal.Value.run (F := Ideal) m ρ)

/-- The idealized kernel's results are the reference's. -/
theorem algebraic : algebraic_LatIdeal_LatRefIdeal := by
  intro m ρ m' ρ' _ hagree
  refine ⟨_, _, _, _, LatIdeal.Value.run_blocks (F := Ideal) m ρ, ?_⟩
  refine (θ_run LatRefIdeal.defs _ _).mono (fun _ h c => ⟨(h c).1.trans ?_, (h c).2.1.trans ?_, (h c).2.2.1.trans ?_, (h c).2.2.2.1.trans ?_,
    (h c).2.2.2.2⟩) (LatRefIdeal.Value.run (F := Ideal) m' ρ')
  · refine (LatRefIdeal.Read.val_main_v117_eq _ _).trans ?_
    rw [(hagree c).1, (hagree c).2.1, (hagree c).2.2.2.2.1, (hagree c).2.2.2.2.2.2.1, (hagree c).2.2.2.2.2.2.2.1]
    exact (LatRefIdeal.Rows.dpre_ref (LatIdeal.Rows.ins m c)).trans (LatIdeal.Rows.dpre_final m c).symm
  · refine (LatRefIdeal.Read.val_main_v119_eq _ _).trans ?_
    rw [(hagree c).2.2.2.1, (hagree c).2.2.2.2.2.1, (hagree c).2.2.2.2.2.2.2.2]
    exact (LatRefIdeal.Rows.dq_ref (LatIdeal.Rows.ins m c)).trans (LatIdeal.Rows.dq_final m c).symm
  · refine (LatRefIdeal.Read.val_main_v120_eq (F := Ideal) _ _).trans ?_
    rw [(hagree c).2.1, (hagree c).2.2.2.2.2.2.1]
    exact (LatRefIdeal.Rows.dgckv_ref (LatIdeal.Rows.ins m c)).trans (LatIdeal.Rows.dgckv_final m c).symm
  · refine (LatRefIdeal.Read.val_main_v121_eq (F := Ideal) _ _).trans ?_
    rw [(hagree c).2.2.2.1, (hagree c).2.2.2.2.2.2.2.2]
    exact (LatRefIdeal.Rows.dgcq_ref (LatIdeal.Rows.ins m c)).trans (LatIdeal.Rows.dgcq_final m c).symm

end Cert.Proof.LatClaims
-- ==== Proof.AttnFClaims.lean ====
/- The claims about the attention forward call: it runs, and on finite queries and keys its result is the reference's. -/
module

public import proofs.«01_k».proof.Proof.Gen.AttnFIdeal.Value
public import proofs.«01_k».proof.Proof.Gen.AttnFRefIdeal.Read
public import proofs.«01_k».proof.Proof.AttnClaims
public import proofs.«01_k».proof.Proof.Gen.AttnF.Frame
public import proofs.«01_k».proof.Proof.Gen.Pre_attnf_finite

@[expose] public section

set_option maxRecDepth 16384

noncomputable section

namespace Cert.AttnFSpec

open Idealize.ShloMosaic Cert.AttnSpec

/-- The scores' arguments are the real numbers of `A`; the values are any. -/
structure Scored (A : Heads) (x0 : A4 128) (x1 : A4 64) (x2 : A4 128) (x3 : A3) : Prop where
  qn : ∀ r h d, x0 (ix4 0 r h d) = ((A.qn h.val r.val d.val : ℝ) : EReal)
  qr : ∀ r h d, x1 (ix4 0 r h d) = ((A.qr h.val r.val d.val : ℝ) : EReal)
  kn : ∀ r h d, x2 (ix4 0 r h d) = ((A.kn h.val r.val d.val : ℝ) : EReal)
  kr : ∀ r d, x3 (ix3 0 r d) = ((A.kr r.val d.val : ℝ) : EReal)

/-- A row's weights on one lane of its head's values. -/
def mean (A : Heads) (x4 : A4 128) (h : Fin 16) (r : ℕ) (d : Fin 128) : EReal :=
  ∑ j : Fin 2048, ((A.w h.val r j.val : ℝ) : EReal) * x4 (ix4 0 j h d)

/-- The rows as the kernel lays them out: head after head. -/
def laid (A : Heads) (x4 : A4 128) : (⟨2, ![2048, 2048]⟩ : Shape).Idx → EReal := fun i =>
  mean A x4 ⟨(i 1).val / 128, by have : (i 1).val < 2048 := (i 1).isLt; omega⟩ (i 0).val ⟨(i 1).val % 128, Nat.mod_lt _ (by norm_num)⟩

end Cert.AttnFSpec

namespace Cert.AttnFIdeal.Fwd

open Cert.AttnFIdeal Cert.AttnFIdeal.Gen Idealize.ShloMosaic Idealize.ShloMosaic.TcCoe Idealize.SL.Sem Cert.AttnSpec
open Cert.AttnIdeal.Vec (Mat Arr Rows idx_eq dotNT dotNN dotNT_at dotNN_at lo hi join as256 as128 lo_at hi_at join_at as256_at as128_at
  k0 k1 scl scl_eq Pair sum_coe)

/-! ## The operations -/

section operations
variable {L : ℕ}

/-- What the row operations ask of the shapes. -/
class Wide (L : ℕ) : Prop where
  red : (Mat 512 L).Reduces [1] S512
  wide : S512x1.Broadcasts (Mat 512 L)
variable [hk : Wide L]

/-- The causal bits of a square block. -/
def causal : IVec S512x512 1 :=
  cmpi .sle (iota .tc S512x512 32 [1] iota_S512x512_d1_w32) (iota .tc S512x512 32 [0] iota_S512x512_d0_w32)

/-- A vector as a column. -/
def col (v : FVec Ideal S512 .f32) : FVec Ideal S512x1 .f32 := shapeCast S512x1 v shapeCasts_S512_S512x1

/-- A column over all keys. -/
def wide (v : FVec Ideal S512x1 .f32) : Arr 512 L .f32 := broadcastTo (Mat 512 L) v Wide.wide

/-- The greatest score of each row. -/
def top (s : Arr 512 L .f32) : FVec Ideal S512 .f32 := multiReduction .maximumf [1] S512 s 0xFF800000#32 Wide.red (.inl rfl) rfl

/-- The scaled products of the queries and the keys. -/
def scores (q : Arr 512 256 .bf16) (k : Arr L 256 .bf16) : Arr 512 L .f32 :=
  mulf (dotNT q k) (broadcast (Mat 512 L) (Scalar.ofBits (F := Ideal) .f32 0x3D93CD3A#32))

/-- The exponentials. -/
def exps (s : Arr 512 L .f32) : Arr 512 L .f32 := exp (subf s (wide (col (top s))))

/-- Their sums. -/
def total (s : Arr 512 L .f32) : FVec Ideal S512 .f32 := multiReduction .add [1] S512 (exps s) 0x00000000#32 Wide.red (.inl rfl) rfl

/-- The weights: the exponentials by one over their sums. -/
def weights (s : Arr 512 L .f32) : Arr 512 L .f32 :=
  mulf (exps s) (wide (divf (broadcast S512x1 (Scalar.ofBits (F := Ideal) .f32 0x3F800000#32)) (col (total s))))

theorem causal_at (x y : Arr 512 512 .f32) (i k : Fin 512) :
    select causal x y (ix2 i k) = if k.val ≤ i.val then x (ix2 i k) else y (ix2 i k) := by
  unfold causal
  pointwise
  rw [WordCmp.cmpi_sle_ofNat (by omega) (by omega)]
  by_cases h : k.val ≤ i.val
  · rw [if_pos h, decide_eq_true h]
    rfl
  · rw [if_neg h, decide_eq_false h]
    rfl

theorem wide_at (v : FVec Ideal S512x1 .f32) (i : Fin 512) (k : Fin L) : wide v (ix2 i k) = v (ix2 i (0 : Fin 1)) := by
  unfold wide
  pointwise

theorem col_at (v : FVec Ideal S512 .f32) (i : Fin 512) (o : Fin 1) : col v (ix2 i o) = v (ix1 i) := by
  unfold col
  pointwise

theorem top_at (s : Arr 512 L .f32) (i : Fin 512) : top s (ix1 i) = Finset.univ.fold max (⊥ : EReal) fun k : Fin L => s (ix2 i k) := by
  unfold top
  pointwise
  rw [show Ideal.ofBits FTy.f32 4286578688#32 = (⊥ : EReal) by simp [Ideal.ofBits, Ideal.ieee]]

theorem exps_at (s : Arr 512 L .f32) (i : Fin 512) (k : Fin L) : exps s (ix2 i k) = Ideal.exp (s (ix2 i k) - top s (ix1 i)) := by
  unfold exps
  pointwise
  rw [wide_at, col_at]

theorem total_at (s : Arr 512 L .f32) (i : Fin 512) : total s (ix1 i) = ∑ k : Fin L, exps s (ix2 i k) := by
  unfold total
  pointwise

theorem weights_at (s : Arr 512 L .f32) (i : Fin 512) (k : Fin L) :
    weights s (ix2 i k) = exps s (ix2 i k) * Ideal.div 1 (∑ j : Fin L, exps s (ix2 i j)) := by
  unfold weights
  pointwise
  rw [wide_at]
  pointwise
  rw [col_at, total_at]

theorem scores_at (q : Arr 512 256 .bf16) (k : Arr L 256 .bf16) (i : Fin 512) (j : Fin L) :
    scores q k (ix2 i j) = (∑ d : Fin 256, q (ix2 i d) * k (ix2 j d)) * Ideal.ofBits .f32 0x3D93CD3A#32 := by
  unfold scores
  pointwise
  rw [dotNT_at]

/-! ## The mask -/

/-- How a block of 512 queries from row `b` on masks its scores. -/
structure Masking (b L : ℕ) where
  s : Arr 512 L .f32 → Arr 512 L .f32
  s_at : ∀ (x : Arr 512 L .f32) (i : Fin 512) (k : Fin L), s x (ix2 i k) = if k.val ≤ b + i.val then x (ix2 i k) else (⊥ : EReal)

/-- The first block has no earlier keys. -/
def firstMask : Masking 0 512 where
  s x := select causal x (broadcast S512x512 (Named.named (F := Ideal) κ "mask" 0xF149F2CA#32))
  s_at x i k := by
    rw [causal_at, Nat.zero_add]
    rfl

/-- What cutting the scores at key `b` asks of the shapes. -/
class Cut (b L : ℕ) : Prop where
  front : (Mat 512 L).Slices ![0, 0] (Mat 512 b)
  back : (Mat 512 L).Slices ![0, b] (Mat 512 512)
  glue : Shape.Concatenates [Mat 512 b, Mat 512 512] (Mat 512 L) 1
  len : L = b + 512

/-- A later block keeps all earlier keys. -/
def laterMask (b L : ℕ) [hc : Cut b L] : Masking b L where
  s x := concatenate (Mat 512 L) 1 [⟨Mat 512 b, extractStridedSlice (Mat 512 b) ![0, 0] x Cut.front⟩,
    ⟨Mat 512 512, select causal (extractStridedSlice (Mat 512 512) ![0, b] x Cut.back)
      (broadcast S512x512 (Named.named (F := Ideal) κ "mask" 0xF149F2CA#32))⟩] Cut.glue
  s_at x i k := by
    have back : ∀ q : Fin 512, extractStridedSlice (Mat 512 512) ![0, b] x Cut.back (ix2 i q) = x (ix2 i ⟨b + q.val, by have := hc.len; omega⟩) := by
      intro q
      pointwise
      exact congrArg x (idx_eq _ _ _ (Nat.zero_add _) rfl)
    generalize hy : select causal (extractStridedSlice (Mat 512 512) ![0, b] x Cut.back)
      (broadcast S512x512 (Named.named (F := Ideal) κ "mask" 0xF149F2CA#32)) = y
    pointwise
    split
    · rename_i h
      have h : k.val < b := h
      rw [if_pos (by omega)]
      exact congrArg x (idx_eq _ _ _ (Nat.zero_add _) (Nat.zero_add _))
    · rename_i h
      have h : ¬k.val < b := h
      have hl := hc.len
      refine (show _ = y (ix2 i ⟨k.val - b, by omega⟩) from rfl).trans ?_
      rw [← hy, causal_at, back]
      have e : (⟨b + (k.val - b), by omega⟩ : Fin L) = k := Fin.ext (by dsimp only; omega)
      simp only [e]
      by_cases h2 : k.val ≤ b + i.val
      · rw [if_pos h2, if_pos (by omega)]
      · rw [if_neg h2, if_neg (by omega)]
        rfl
end operations

/-! ## The values over the real numbers -/

section values
variable {b L : ℕ} [Rows 512] [Rows L] [Wide L] [Cert.AttnIdeal.Vec.Keys L] (M : Masking b L)

/-- One row of the weights. -/
theorem weights_real (s : Arr 512 L .f32) (i : Fin 512) (σ : ℕ → ℝ) {n : ℕ} (hn : n < L)
    (hs : ∀ k : Fin L, s (ix2 i k) = if k.val ≤ n then ((σ k.val : ℝ) : EReal) else ⊥) (k : Fin L) :
    weights s (ix2 i k) = ((wt σ n k.val : ℝ) : EReal) := by
  obtain ⟨m, h, hz⟩ := exp_row (fun k => s (ix2 i k)) (fun k => exps s (ix2 i k)) σ hn hs (top_at s i) (exps_at s i)
  have hp := mul_pos (Real.exp_pos (-m)) (total_pos σ n)
  rw [weights_at, ← weight_row (fun k => s (ix2 i k)) (fun k => exps s (ix2 i k)) σ hn hs (top_at s i) (exps_at s i) k]
  simp only [hz]
  rw [Ideal.div_coe hp.ne', Ideal.div_coe hp.ne', one_mul]

/-- The queries of the pair's first head. -/
def q0 (qn : Arr 512 256 .bf16) (qr : Arr 512 128 .bf16) : Arr 512 256 .bf16 := join (lo (as256 qn)) (as128 qr)
/-- The queries of the pair's second head. -/
def q1 (qn : Arr 512 256 .bf16) (qr : Arr 512 128 .bf16) : Arr 512 256 .bf16 := join (hi (as256 qn)) (as128 qr)

/-- One head's rows. -/
def head (q : Arr 512 256 .bf16) (k : Arr L 256 .bf16) (v : Arr L 128 .bf16) : Arr 512 128 .f32 :=
  dotNN (truncf .bf16 (weights (M.s (scores q k))) bitsLt_bf16_f32) v

/-- The pair's rows. -/
def rows (qn : Arr 512 256 .bf16) (qr : Arr 512 128 .bf16) (kn : Arr L 256 .bf16) (kr : Arr L 128 .bf16) (v : Arr L 256 .bf16) : Arr 512 256 .bf16 :=
  truncf .bf16 (join (head M (q0 qn qr) (k0 kn kr) (lo (as256 v))) (head M (q1 qn qr) (k1 kn kr) (hi (as256 v)))) bitsLt_bf16_f32

variable (P : Pair) {qn : Arr 512 256 .bf16} {qr : Arr 512 128 .bf16} {kn : Arr L 256 .bf16} {kr : Arr L 128 .bf16} {v : Arr L 256 .bf16}

/-- What the queries and the keys of a block hold. -/
structure Holds (b : ℕ) (P : Pair) (qn : Arr 512 256 .bf16) (qr : Arr 512 128 .bf16) (kn : Arr L 256 .bf16) (kr : Arr L 128 .bf16) : Prop where
  qn : ∀ i (c : Fin 256), qn (ix2 i c) = ((P.qn (b + i.val) c.val : ℝ) : EReal)
  qr : ∀ i (c : Fin 128), qr (ix2 i c) = ((P.qr (b + i.val) c.val : ℝ) : EReal)
  kn : ∀ j (c : Fin 256), kn (ix2 j c) = ((P.kn j.val c.val : ℝ) : EReal)
  kr : ∀ j (c : Fin 128), kr (ix2 j c) = ((P.kr j.val c.val : ℝ) : EReal)

variable (H : Holds b P qn qr kn kr)
include H

/-- The keys meet the backward pass's own description of them. -/
theorem keys : Cert.AttnIdeal.Vec.Holds (b := 0) (L := L) P (qn := fun i => ((P.qn (0 + (i 0).val) (i 1).val : ℝ) : EReal))
    (qr := fun i => ((P.qr (0 + (i 0).val) (i 1).val : ℝ) : EReal)) (kn := kn) (kr := kr) (v := fun i => ((P.v (i 0).val (i 1).val : ℝ) : EReal))
    (g := fun i => ((P.g (0 + (i 0).val) (i 1).val : ℝ) : EReal)) where
  qn _ _ := rfl
  qr _ _ := rfl
  kn := H.kn
  kr := H.kr
  v _ _ := rfl
  g _ _ := rfl

theorem q0_real (i : Fin 512) (d : Fin 256) : q0 qn qr (ix2 i d) = ((P.q 0 (b + i.val) d.val : ℝ) : EReal) := by
  unfold q0 Pair.q
  rw [join_at]
  split
  · rw [lo_at, as256_at, H.qn, Nat.mul_zero, Nat.zero_add]
  · rw [as128_at, H.qr]

theorem q1_real (i : Fin 512) (d : Fin 256) : q1 qn qr (ix2 i d) = ((P.q 1 (b + i.val) d.val : ℝ) : EReal) := by
  unfold q1 Pair.q
  rw [join_at]
  split
  · rw [hi_at, as256_at, H.qn, Nat.mul_one]
  · rw [as128_at, H.qr]

omit H in
/-- One head's rows are its weights on the values, whatever the values are. -/
theorem head_real (hL : L = b + 512) {o : ℕ} (ho : o < 2) (q : Arr 512 256 .bf16) (k : Arr L 256 .bf16) (w : Arr L 128 .bf16)
    (hq : ∀ i d, q (ix2 i d) = ((P.q o (b + i.val) d.val : ℝ) : EReal)) (hk : ∀ j d, k (ix2 j d) = ((P.k o j.val d.val : ℝ) : EReal))
    (i : Fin 512) (d : Fin 128) : head M q k w (ix2 i d) = ∑ j : Fin L, ((P.w o (b + i.val) j.val : ℝ) : EReal) * w (ix2 j d) := by
  unfold head
  rw [dotNN_at]
  refine Finset.sum_congr rfl fun j _ => congrArg (· * w (ix2 j d)) ?_
  refine weights_real (M.s (scores q k)) i (P.sc o (b + i.val)) (n := b + i.val) (by omega) (fun j => ?_) j
  rw [M.s_at, scores_at, sum_coe _ _ (P.q o (b + i.val)) (P.k o j.val) (hq i) (hk j), P.sum_qk ho, scl_eq, ← EReal.coe_mul]
  rfl

/-- The pair's rows are each head's weights on its values. -/
theorem rows_real (hL : L = b + 512) (i : Fin 512) (c : Fin 256) :
    rows M qn qr kn kr v (ix2 i c) = ∑ j : Fin L, ((P.w (c.val / 128) (b + i.val) j.val : ℝ) : EReal) * v (ix2 j c) := by
  refine (show rows M qn qr kn kr v (ix2 i c) = join (head M (q0 qn qr) (k0 kn kr) (lo (as256 v))) (head M (q1 qn qr) (k1 kn kr) (hi (as256 v))) (ix2 i c) from rfl).trans ?_
  rw [join_at]
  split
  · rename_i h
    rw [head_real M P hL (by norm_num : 0 < 2) _ _ _ (q0_real P H) (Cert.AttnIdeal.Vec.k0_real P (keys P H))]
    refine Finset.sum_congr rfl fun j _ => ?_
    rw [lo_at, as256_at, show c.val / 128 = 0 by omega]
  · rename_i h
    rw [head_real M P hL (by norm_num : 1 < 2) _ _ _ (q1_real P H) (Cert.AttnIdeal.Vec.k1_real P (keys P H))]
    refine Finset.sum_congr rfl fun j _ => ?_
    rw [hi_at, as256_at, show c.val / 128 = 1 by omega]
    exact congrArg (fun x => _ * v (ix2 j x)) (Fin.ext (by dsimp only; omega))
end values

instance : Wide 512 := ⟨reduces_S512x512_S512, broadcasts_S512x1_S512x512⟩
instance : Wide 1024 := ⟨reduces_S512x1024_S512, broadcasts_S512x1_S512x1024⟩
instance : Wide 1536 := ⟨reduces_S512x1536_S512, broadcasts_S512x1_S512x1536⟩
instance : Wide 2048 := ⟨reduces_S512x2048_S512, broadcasts_S512x1_S512x2048⟩
instance : Cut 512 1024 := ⟨slices_S512x1024_o0_0_S512x512, slices_S512x1024_o0_512_S512x512, concatenates_S512x512_S512x512_S512x1024_d1, rfl⟩
instance : Cut 1024 1536 := ⟨slices_S512x1536_o0_0_S512x1024, slices_S512x1536_o0_1024_S512x512, concatenates_S512x1024_S512x512_S512x1536_d1, rfl⟩
instance : Cut 1536 2048 := ⟨slices_S512x2048_o0_0_S512x1536, slices_S512x2048_o0_1536_S512x512, concatenates_S512x1536_S512x512_S512x2048_d1, rfl⟩

end Cert.AttnFIdeal.Fwd

namespace Cert.AttnFIdeal.Fwd

open Cert.AttnFIdeal Cert.AttnFIdeal.Gen Idealize.ShloMosaic Idealize.ShloMosaic.TcCoe Idealize.SL.Sem Cert.AttnSpec Cert.AttnFSpec
open Cert.AttnIdeal.Vec (Mat Arr Rows Pair inb_rows)

/-- What the first four blocks of a grid point hold. -/
structure Blocks (P : Pair) (x0 : Arr 2048 256 .bf16) (x1 : Arr 2048 128 .bf16) (x2 : Arr 2048 256 .bf16) (x3 : Arr 2048 128 .bf16) : Prop where
  qn : ∀ i c, x0 (ix2 i c) = ((P.qn i.val c.val : ℝ) : EReal)
  qr : ∀ i c, x1 (ix2 i c) = ((P.qr i.val c.val : ℝ) : EReal)
  kn : ∀ i c, x2 (ix2 i c) = ((P.kn i.val c.val : ℝ) : EReal)
  kr : ∀ i c, x3 (ix2 i c) = ((P.kr i.val c.val : ℝ) : EReal)

/-- Some rows of a block, loaded. -/
abbrev ld {C : ℕ} (x : Arr 2048 C .bf16) (b r : ℕ) (hb : b + r ≤ 2048) : Arr r C .bf16 :=
  View.ld (Val := Elt Ideal) (S := Mat 2048 C) (e' := .bf16) x (Rect.unit (s := Mat 2048 C) ![b, 0] (Mat r C).size (inb_rows hb))

/-- A load of some rows reads those rows. -/
theorem ld_at {C : ℕ} (x : Arr 2048 C .bf16) (b r : ℕ) (hb : b + r ≤ 2048) (i : Fin r) (c : Fin C) :
    ld x b r hb (ix2 i c) = x (ix2 ⟨b + i.val, by omega⟩ c) := by
  show x _ = x _
  refine congrArg x ?_
  funext a
  fin_cases a
  · exact Fin.ext (by show b + 1 * i.val = b + i.val; omega)
  · exact Fin.ext (by show 0 + 1 * c.val = c.val; omega)

/-- A row's keys end at the row: the sum over the first `L` keys is the sum over all. -/
theorem sum_front (P : Pair) {o r L : ℕ} (hr : r < L) (hL : L ≤ 2048) (f : Fin 2048 → EReal) :
    ∑ j : Fin L, ((P.w o r j.val : ℝ) : EReal) * f ⟨j.val, by omega⟩ = ∑ j : Fin 2048, ((P.w o r j.val : ℝ) : EReal) * f j := by
  refine Finset.sum_of_injOn (fun j : Fin L => (⟨j.val, by omega⟩ : Fin 2048)) (fun a _ b _ h => Fin.ext (congrArg (fun z : Fin 2048 => z.val) h)) (fun _ _ => Finset.mem_coe.2 (Finset.mem_univ _)) (fun j _ hj => ?_) fun j _ => rfl
  have h : ¬j.val < L := fun h => hj ⟨⟨j.val, h⟩, Finset.mem_coe.2 (Finset.mem_univ _), rfl⟩
  rw [P.w_later (by omega), EReal.coe_zero, zero_mul]

section piece
variable {b L : ℕ} [Rows 512] [Rows L] [Wide L] [Cert.AttnIdeal.Vec.Keys L] (M : Masking b L) (P : Pair)
  {X0 : Arr 2048 256 .bf16} {X1 : Arr 2048 128 .bf16} {X2 : Arr 2048 256 .bf16} {X3 : Arr 2048 128 .bf16} {X4 : Arr 2048 256 .bf16}
  (H : Blocks P X0 X1 X2 X3) (hb : b + 512 ≤ 2048) (hk : 0 + L ≤ 2048) (hL : L = b + 512)
include H hL

/-- A block of the result is that block of rows. -/
theorem piece (G : Arr 2048 256 .bf16) (hG : ∀ r c, G (ix2 r c) = ∑ j : Fin 2048, ((P.w (c.val / 128) r.val j.val : ℝ) : EReal) * X4 (ix2 j c)) (y : Arr 512 256 .bf16)
    (hy : y = rows M (ld X0 b 512 hb) (ld X1 b 512 hb) (ld X2 0 L hk) (ld X3 0 L hk) (ld X4 0 L hk))
    (inb) : ∀ x, (⟨Rect.unit (s := Mat 2048 256) ![b, 0] ![512, 256] inb, y⟩ : View.Piece (Elt Ideal) (Mat 2048 256) .bf16).2 x =
      G ((⟨Rect.unit (s := Mat 2048 256) ![b, 0] ![512, 256] inb, y⟩ : View.Piece (Elt Ideal) (Mat 2048 256) .bf16).1.emb x) := by
  intro x
  dsimp only
  idx_vars x
  have e : (Rect.unit (s := Mat 2048 256) ![b, 0] ![512, 256] inb).emb (ix2 x0 x1) = ix2 ⟨b + x0.val, by omega⟩ x1 := by blk_ext
  refine (congrFun hy _).trans (Eq.trans ?_ (congrArg G e).symm)
  have HH : Holds (L := L) b P (ld X0 b 512 hb) (ld X1 b 512 hb) (ld X2 0 L hk) (ld X3 0 L hk) := by
    refine ⟨fun i c => ?_, fun i c => ?_, fun i c => ?_, fun i c => ?_⟩
    · rw [ld_at, H.qn]
    · rw [ld_at, H.qr]
    · rw [ld_at, H.kn]; simp only [Nat.zero_add]
    · rw [ld_at, H.kr]; simp only [Nat.zero_add]
  rw [rows_real M P HH hL, hG, ← sum_front P (L := L) (show b + x0.val < L by omega) (by omega)]
  refine Finset.sum_congr rfl fun j _ => congrArg (_ * ·) ?_
  rw [ld_at]
  exact congrArg (fun z => X4 (ix2 z x1)) (Fin.ext (Nat.zero_add _))
end piece

variable (m : (ℓ : Loc nD τ sig) → Buf (Elt Ideal) ℓ)

/-- What a point writes. -/
theorem rows_A (c : Dev nD) (t : Fin cfg0.N) (P : Pair)
    (H : Blocks P (iblk m c 0 t) (iblk m c 1 t) (iblk m c 2 t) (iblk m c 3 t)) (G : Arr 2048 256 .bf16)
    (hG : ∀ r k, G (ix2 r k) = ∑ j : Fin 2048, ((P.w (k.val / 128) r.val j.val : ℝ) : EReal) * (iblk m c 4 t : Arr 2048 256 .bf16) (ix2 j k)) :
    out0_5 (iblk m c 0 t) (iblk m c 1 t) (iblk m c 2 t) (iblk m c 3 t) (iblk m c 4 t) = G := by
  unfold out0_5
  funext y
  refine View.canon_apply_of_pieces (Val := Elt Ideal) (e := .bf16) G _ (View.PiecesOf.mem ?_) y (cover0_5 _ _ _ _ y)
  refine ⟨?_, ?_, ?_, ?_, trivial⟩
  · refine piece (laterMask 1536 2048) P H (by decide) (by decide) rfl G hG _ ?_ _
    rfl
  · refine piece (laterMask 1024 1536) P H (by decide) (by decide) rfl G hG _ ?_ _
    rfl
  · refine piece (laterMask 512 1024) P H (by decide) (by decide) rfl G hG _ ?_ _
    rfl
  · refine piece firstMask P H (by decide) (by decide) rfl G hG _ ?_ _
    rfl

theorem index_all : ∀ t : Fin cfg0.N, win0_0.index t = ![0, t.val] ∧ win0_1.index t = ![0, t.val] ∧ win0_2.index t = ![0, t.val] ∧ win0_3.index t = ![0, 0]
    ∧ win0_4.index t = ![0, t.val] ∧ win0_5.index t = ![0, t.val] :=
  (by decide +kernel : ∀ t : Fin grid0.N, win0_0.index t = ![0, t.val] ∧ win0_1.index t = ![0, t.val] ∧ win0_2.index t = ![0, t.val] ∧ win0_3.index t = ![0, 0]
    ∧ win0_4.index t = ![0, t.val] ∧ win0_5.index t = ![0, t.val])

/-- The five arguments on device `c`. -/
abbrev a0 (c : Dev nD) : A4 128 := m ((c : Thread nD τ).loc main_arg0)
abbrev a1 (c : Dev nD) : A4 64 := m ((c : Thread nD τ).loc main_arg1)
abbrev a2 (c : Dev nD) : A4 128 := m ((c : Thread nD τ).loc main_arg2)
abbrev a3 (c : Dev nD) : A3 := m ((c : Thread nD τ).loc main_arg3)
abbrev a4 (c : Dev nD) : A4 128 := m ((c : Thread nD τ).loc main_arg4)

theorem t_lt (t : Fin cfg0.N) : t.val < 8 := by
  have := t.isLt; have : cfg0.N = 8 := N_0; omega
theorem head_lt (t : Fin cfg0.N) (k : Fin 256) : 2 * t.val + k.val / 128 < 16 := by
  have := t_lt t; omega
theorem lane_lt (k : Fin 256) : k.val % 128 < 128 := Nat.mod_lt _ (by norm_num)
theorem rhead_lt (t : Fin cfg0.N) (k : Fin 128) : 2 * t.val + k.val / 64 < 16 := by
  have := t_lt t; omega
theorem rlane_lt (k : Fin 128) : k.val % 64 < 64 := Nat.mod_lt _ (by norm_num)
theorem col_lt (t : Fin cfg0.N) (k : Fin 256) : 256 * t.val + k.val < 2048 := by
  have := t_lt t; omega
theorem rcol_lt (t : Fin cfg0.N) (k : Fin 128) : 128 * t.val + k.val < 1024 := by
  have := t_lt t; omega

theorem host_v4 (c : Dev nD) : (V m c main_v4 : S2048x2048.Idx → EReal) = shapeCast S2048x2048 (a0 m c) shapeCasts_S1x2048x16x128_S2048x2048 := by
  show StableHlo.after (List.flatten [hostOps0, hostOps0_1, hostOps0_2]) (fun b => m (c, b)) main_v4 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v6 (c : Dev nD) : (V m c main_v6 : S2048x1024.Idx → EReal) = shapeCast S2048x1024 (a1 m c) shapeCasts_S1x2048x16x64_S2048x1024 := by
  show StableHlo.after (List.flatten [hostOps0, hostOps0_1, hostOps0_2]) (fun b => m (c, b)) main_v6 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v8 (c : Dev nD) : (V m c main_v8 : S2048x2048.Idx → EReal) = shapeCast S2048x2048 (a2 m c) shapeCasts_S1x2048x16x128_S2048x2048 := by
  show StableHlo.after (List.flatten [hostOps0, hostOps0_1, hostOps0_2]) (fun b => m (c, b)) main_v8 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v10 (c : Dev nD) : (V m c main_v10 : S2048x2048.Idx → EReal) = shapeCast S2048x2048 (a4 m c) shapeCasts_S1x2048x16x128_S2048x2048 := by
  show StableHlo.after (List.flatten [hostOps0, hostOps0_1, hostOps0_2]) (fun b => m (c, b)) main_v10 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl
theorem host_v2 (c : Dev nD) : (V m c main_v2 : S2048x128.Idx → EReal) =
    pad S2048x128 ![0, 0] ![0, 64] ![0, 0] (shapeCast S2048x64 (a3 m c) shapeCasts_S1x2048x64_S2048x64) (fun _ : S_.Idx => (((0#32 : BitVec 32).toInt : ℝ) : EReal))
      pads_S2048x64_S2048x128_000_0640 h_S_ := by
  show StableHlo.after (List.flatten [hostOps0, hostOps0_1, hostOps0_2]) (fun b => m (c, b)) main_v2 = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp <;> rfl

/-- Rows of heads' lanes at a column. -/
theorem cast_at (x : A4 128) (t : Fin cfg0.N) (r : Fin 2048) (k : Fin 256) :
    shapeCast S2048x2048 x shapeCasts_S1x2048x16x128_S2048x2048 (ix2 r ⟨256 * t.val + k.val, col_lt t k⟩) =
      x (ix4 0 r ⟨2 * t.val + k.val / 128, head_lt t k⟩ ⟨k.val % 128, lane_lt k⟩) := by
  have := t_lt t
  pointwise
  exact congrArg x (by blk_ext)
theorem rcast_at (x : A4 64) (t : Fin cfg0.N) (r : Fin 2048) (k : Fin 128) :
    shapeCast S2048x1024 x shapeCasts_S1x2048x16x64_S2048x1024 (ix2 r ⟨128 * t.val + k.val, rcol_lt t k⟩) =
      x (ix4 0 r ⟨2 * t.val + k.val / 64, rhead_lt t k⟩ ⟨k.val % 64, rlane_lt k⟩) := by
  have := t_lt t
  pointwise
  exact congrArg x (by blk_ext)

theorem blk0 (c : Dev nD) (t : Fin cfg0.N) (r : Fin 2048) (k : Fin 256) :
    iblk m c 0 t (ix2 r k) = a0 m c (ix4 0 r ⟨2 * t.val + k.val / 128, head_lt t k⟩ ⟨k.val % 128, lane_lt k⟩) := by
  have e : ((cfg0.win 0).blk t).view.emb (ix2 r k) = ix2 r ⟨256 * t.val + k.val, col_lt t k⟩ := by blk_ext [(index_all t).1]
  show (V m c main_v4 : _ → EReal) (((cfg0.win 0).blk t).view.emb (ix2 r k)) = _
  rw [e, host_v4]
  exact cast_at _ t r k
theorem blk1 (c : Dev nD) (t : Fin cfg0.N) (r : Fin 2048) (k : Fin 128) :
    iblk m c 1 t (ix2 r k) = a1 m c (ix4 0 r ⟨2 * t.val + k.val / 64, rhead_lt t k⟩ ⟨k.val % 64, rlane_lt k⟩) := by
  have e : ((cfg0.win 1).blk t).view.emb (ix2 r k) = ix2 r ⟨128 * t.val + k.val, rcol_lt t k⟩ := by blk_ext [(index_all t).2.1]
  show (V m c main_v6 : _ → EReal) (((cfg0.win 1).blk t).view.emb (ix2 r k)) = _
  rw [e, host_v6]
  exact rcast_at _ t r k
theorem blk2 (c : Dev nD) (t : Fin cfg0.N) (r : Fin 2048) (k : Fin 256) :
    iblk m c 2 t (ix2 r k) = a2 m c (ix4 0 r ⟨2 * t.val + k.val / 128, head_lt t k⟩ ⟨k.val % 128, lane_lt k⟩) := by
  have e : ((cfg0.win 2).blk t).view.emb (ix2 r k) = ix2 r ⟨256 * t.val + k.val, col_lt t k⟩ := by blk_ext [(index_all t).2.2.1]
  show (V m c main_v8 : _ → EReal) (((cfg0.win 2).blk t).view.emb (ix2 r k)) = _
  rw [e, host_v8]
  exact cast_at _ t r k
theorem blk4 (c : Dev nD) (t : Fin cfg0.N) (r : Fin 2048) (k : Fin 256) :
    iblk m c 4 t (ix2 r k) = a4 m c (ix4 0 r ⟨2 * t.val + k.val / 128, head_lt t k⟩ ⟨k.val % 128, lane_lt k⟩) := by
  have e : ((cfg0.win 4).blk t).view.emb (ix2 r k) = ix2 r ⟨256 * t.val + k.val, col_lt t k⟩ := by blk_ext [(index_all t).2.2.2.2.1]
  show (V m c main_v10 : _ → EReal) (((cfg0.win 4).blk t).view.emb (ix2 r k)) = _
  rw [e, host_v10]
  exact cast_at _ t r k
theorem blk3 (c : Dev nD) (t : Fin cfg0.N) (r : Fin 2048) (k : Fin 128) :
    iblk m c 3 t (ix2 r k) = if h : k.val < 64 then a3 m c (ix3 0 r ⟨k.val, h⟩) else 0 := by
  have e : ((cfg0.win 3).blk t).view.emb (ix2 r k) = ix2 r k := by blk_ext [(index_all t).2.2.2.1]
  show (V m c main_v2 : _ → EReal) (((cfg0.win 3).blk t).view.emb (ix2 r k)) = _
  rw [e, host_v2]
  pointwise
  by_cases hk : k.val < 64
  · rw [dif_pos hk, dif_pos hk]
  · rw [dif_neg hk, dif_neg hk]
    simp

variable {m} {c : Dev nD} {A : Heads} (H : Scored A (a0 m c) (a1 m c) (a2 m c) (a3 m c))
include H

/-- A point's blocks are its head pair's. -/
theorem blocks (t : Fin cfg0.N) : Blocks (A.pair t.val) (iblk m c 0 t) (iblk m c 1 t) (iblk m c 2 t) (iblk m c 3 t) where
  qn i k := (blk0 m c t i k).trans (H.qn _ _ _)
  qr i k := (blk1 m c t i k).trans (H.qr _ _ _)
  kn i k := (blk2 m c t i k).trans (H.kn _ _ _)
  kr i k := by
    refine (blk3 m c t i k).trans ?_
    unfold Heads.pair
    dsimp only
    by_cases hk : k.val < 64
    · rw [dif_pos hk, if_pos hk]
      exact H.kr _ _
    · rw [dif_neg hk, if_neg hk, EReal.coe_zero]

/-- What a point leaves in its block. -/
theorem point (t : Fin cfg0.N) (r : Fin 2048) (k : Fin 256) :
    (out0_5 (iblk m c 0 t) (iblk m c 1 t) (iblk m c 2 t) (iblk m c 3 t) (iblk m c 4 t) : (⟨2, ![2048, 256]⟩ : Shape).Idx → EReal) (ix2 r k) =
      mean A (a4 m c) ⟨2 * t.val + k.val / 128, head_lt t k⟩ r.val ⟨k.val % 128, lane_lt k⟩ := by
  refine congrFun (rows_A m c t _ (blocks H t) (fun i => mean A (a4 m c) ⟨2 * t.val + (i 1).val / 128, head_lt t (i 1)⟩ (i 0).val ⟨(i 1).val % 128, lane_lt (i 1)⟩)
    fun r k => ?_) (ix2 r k)
  unfold mean
  refine Finset.sum_congr rfl fun j _ => congrArg₂ (· * ·) (congrArg _ (A.pair_w t.val (k.val / 128) r.val j.val).symm) (blk4 m c t j k).symm

/-- After the run: the result. -/
theorem final : (dats m 0 c).arrAt 5 cfg0.N = laid A (a4 m c) := by
  refine (dats m 0 c).arrAt_eq_of_covers 5 _ (by decide +kernel) fun t hf y => ?_
  blk_simp
  rw [after0_5]
  idx_vars y
  have e : ((cfg0.win 5).blk t).view.emb (ix2 y0 y1) = ix2 y0 ⟨256 * t.val + y1.val, col_lt t y1⟩ := by blk_ext [(index_all t).2.2.2.2.2]
  refine Eq.trans ?_ (congrArg (laid A (a4 m c)) e.symm)
  refine Eq.trans ?_ (point H t y0 y1) |>.trans ?_
  · exact congrArg _ (by blk_ext)
  · unfold laid
    have h1 : (256 * t.val + y1.val) / 128 = 2 * t.val + y1.val / 128 := by omega
    have h2 : (256 * t.val + y1.val) % 128 = y1.val % 128 := by omega
    exact congrArg₂ (fun a b => mean A (a4 m c) a y0.val b) (Fin.ext h1.symm) (Fin.ext h2.symm)
end Cert.AttnFIdeal.Fwd

namespace Cert.AttnFRefIdeal.Rows

open Cert.AttnFRefIdeal Cert.AttnFRefIdeal.Gen Cert.AttnFRefIdeal.Read Idealize.ShloMosaic Cert.AttnSpec Cert.AttnFSpec
open Cert.AttnIdeal.Vec (scl scl_eq)
open Cert.AttnRefIdeal.Rows (sum_mul bot_eq)

variable {A : Heads} {x0 : A4 128} {x1 : A4 64} {x2 : A4 128} {x3 : A3} {x4 : A4 128} (H : Scored A x0 x1 x2 x3)
include H

/-- The scaled scores are real. -/
theorem scores (h : Fin 16) (r k : Fin 2048) :
    val_main_v5 (F := Ideal) x0 x1 x2 x3 (ix4 0 h r k) = ((A.sc h.val r.val k.val : ℝ) : EReal) := by
  have h0 : val_main_v0 (F := Ideal) x0 x2 (ix4 0 h r k) = ((∑ d ∈ Finset.range 128, A.qn h r d * A.kn h k d : ℝ) : EReal) := by
    rw [val_main_v0_apply, ← sum_mul (fun d => A.qn h r d) fun d => A.kn h k d]
    exact Finset.sum_congr rfl fun d _ => congrArg₂ (· * ·) ((congrArg x0 (by blk_ext)).trans (H.qn r h d)) ((congrArg x2 (by blk_ext)).trans (H.kn k h d))
  have h1 : val_main_v2 (F := Ideal) x1 x3 (ix4 0 h r k) = ((∑ d ∈ Finset.range 64, A.qr h r d * A.kr k d : ℝ) : EReal) := by
    rw [val_main_v2_apply, val_main_v1_apply, ← sum_mul (fun d => A.qr h r d) fun d => A.kr k d]
    exact Finset.sum_congr rfl fun d _ => (mul_comm _ _).trans
      (congrArg₂ (· * ·) ((congrArg x1 (by blk_ext)).trans (H.qr r h d)) ((congrArg x3 (by blk_ext)).trans (H.kr k d)))
  rw [val_main_v5_apply, val_main_v3_apply, h0, h1, val_main_v4_apply, val_main_cst_apply]
  show ((_ : EReal) + _) * Ideal.ofBits .f32 0x3D93CD3A#32 = _
  rw [scl_eq, ← EReal.coe_add, ← EReal.coe_mul]
  rfl

omit H in
/-- The mask's bits: a key no later than its row. -/
theorem mask (h : Fin 16) (r k : Fin 2048) : val_main_call0_v1 (F := Ideal) (ix4 0 h r k) = if k.val ≤ r.val then 1#1 else 0#1 := by
  rw [val_main_call0_v1_apply, val_main_v13_apply, val_main_v12_apply, val_main_v10_apply, val_main_v11_apply, val_main_v7_apply,
    val_main_v9_apply, val_main_v6_apply, val_main_v8_apply]
  refine (WordCmp.cmpi_sle_ofNat (w := 32) (lt_trans k.isLt (by norm_num)) (lt_trans r.isLt (by norm_num))).trans ?_
  by_cases hk : k.val ≤ r.val
  · rw [if_pos hk, decide_eq_true hk]
    rfl
  · rw [if_neg hk, decide_eq_false hk]
    rfl

/-- A later key counts minus infinity. -/
theorem masked (h : Fin 16) (r k : Fin 2048) :
    val_main_v14 (F := Ideal) x0 x1 x2 x3 (ix4 0 h r k) = if k.val ≤ r.val then ((A.sc h.val r.val k.val : ℝ) : EReal) else ⊥ := by
  rw [val_main_v14_apply, mask, scores H, val_main_call0_v2_apply, val_main_call0_v0_apply, val_main_cst_0_apply]
  by_cases hk : k.val ≤ r.val
  · rw [if_pos hk, if_pos hk]
    rfl
  · rw [if_neg hk, if_neg hk]
    show Ideal.ofBits .f32 0xFF800000#32 = _
    simp [Ideal.ofBits, Ideal.ieee]

omit H in
theorem top (h : Fin 16) (r : Fin 2048) :
    val_main_v15 (F := Ideal) x0 x1 x2 x3 (ix3 0 h r) = Finset.univ.fold max (⊥ : EReal) fun k : Fin 2048 => val_main_v14 (F := Ideal) x0 x1 x2 x3 (ix4 0 h r k) := by
  unfold val_main_v15 val_main_cst_1
  generalize val_main_v14 (F := Ideal) x0 x1 x2 x3 = y
  pointwise
  rw [show Ideal.ofBits FTy.f32 4286578688#32 = (⊥ : EReal) from bot_eq]

omit H in
/-- The row's greatest score as it is subtracted. -/
theorem top_max (h : Fin 16) (r : Fin 2048) :
    val_main_v17 (F := Ideal) x0 x1 x2 x3 (ix3 0 h r) = val_main_v15 (F := Ideal) x0 x1 x2 x3 (ix3 0 h r) := by
  rw [val_main_v17_apply, val_main_v16_apply, val_main_cst_2_apply]
  show max (Ideal.ofBits .f32 0xFF800000#32) _ = _
  rw [bot_eq]
  exact max_eq_right bot_le

omit H in
/-- The exponentials. -/
theorem exps (h : Fin 16) (r k : Fin 2048) :
    val_main_v21 (F := Ideal) x0 x1 x2 x3 (ix4 0 h r k) =
      Ideal.exp (val_main_v14 (F := Ideal) x0 x1 x2 x3 (ix4 0 h r k) - val_main_v15 (F := Ideal) x0 x1 x2 x3 (ix3 0 h r)) := by
  rw [val_main_v21_apply, val_main_v20_apply, val_main_v19_apply, val_main_v18_apply, ← top_max]
  have e : idx_main_v18 (idx_main_v19 (ix4 0 h r k)) = ix3 0 h r := by blk_ext
  rw [e]
  rfl

omit H in
/-- The row's sum of the exponentials. -/
theorem total (h : Fin 16) (r : Fin 2048) :
    val_main_v22 (F := Ideal) x0 x1 x2 x3 (ix3 0 h r) = ∑ k : Fin 2048, val_main_v21 (F := Ideal) x0 x1 x2 x3 (ix4 0 h r k) := by
  rw [val_main_v22_apply, val_main_cst_3_apply]
  refine (congrArg₂ (· + ·) Ideal.ofBits_zero_f32 (Finset.sum_congr rfl fun k _ => ?_)).trans (zero_add _)
  exact congrArg (val_main_v21 (F := Ideal) x0 x1 x2 x3) (by blk_ext)

omit H in
theorem total_bcast (h : Fin 16) (r : Fin 2048) :
    val_main_v23 (F := Ideal) x0 x1 x2 x3 (ix4 0 h r 0) = val_main_v22 (F := Ideal) x0 x1 x2 x3 (ix3 0 h r) := by
  rw [val_main_v23_apply]
  exact congrArg (val_main_v22 (F := Ideal) x0 x1 x2 x3) (by blk_ext)

/-- Each key's weight. -/
theorem weights (h : Fin 16) (r k : Fin 2048) :
    val_main_v25 (F := Ideal) x0 x1 x2 x3 (ix4 0 h r k) = ((A.w h.val r.val k.val : ℝ) : EReal) := by
  rw [val_main_v25_apply, val_main_v24_apply]
  refine (congrArg (Ideal.div _) ?_).trans (weight_row (n := r.val) (fun k => val_main_v14 (F := Ideal) x0 x1 x2 x3 (ix4 0 h r k))
    (fun k => val_main_v21 (F := Ideal) x0 x1 x2 x3 (ix4 0 h r k)) (A.sc h.val r.val) r.isLt (masked H h r) (top h r) (exps h r) k)
  exact (congrArg (val_main_v23 (F := Ideal) x0 x1 x2 x3) (by blk_ext)).trans ((total_bcast h r).trans (total h r))

/-- The result: at each lane of a head, the weights on that lane of the head's values. -/
theorem rows_at (r c : Fin 2048) : val_main_v29 (F := Ideal) x0 x1 x2 x3 x4 (ix2 r c) = laid A x4 (ix2 r c) := by
  have hc : c.val / 128 < 16 := by have := c.isLt; omega
  have hm : c.val % 128 < 128 := Nat.mod_lt _ (by norm_num)
  have e : idx_main_v27 (idx_main_v28 (ix2 r c)) = ix4 0 ⟨c.val / 128, hc⟩ ⟨c.val % 128, hm⟩ r := by blk_ext
  rw [val_main_v29_apply, val_main_v28_apply, val_main_v27_apply, e]
  refine (val_main_v26_apply x0 x1 x2 x3 x4 _).trans ?_
  unfold laid mean
  refine Finset.sum_congr rfl fun j _ => (mul_comm _ _).trans (congrArg₂ (· * ·)
    ((congrArg (val_main_v25 (F := Ideal) x0 x1 x2 x3) ?_).trans (weights H ⟨c.val / 128, hc⟩ r j)) (congrArg x4 ?_))
  · blk_ext
  · blk_ext
end Cert.AttnFRefIdeal.Rows

namespace Cert.Proof.AttnFClaims

open Idealize.ShloMosaic Idealize.SL.Sem AttnSpec AttnFSpec
open Proof.AttnClaims (real_of_all heads ofNat_val)

/-- On finite queries and keys, the numbers read from the arrays are the arrays. -/
theorem scored_of (x0 : A4 128) (x1 : A4 64) (x2 : A4 128) (x3 : A3) (x4 : A4 128)
    (h : Pre_attnf_finite.fn (F := Ideal) x0 x1 x2 x3 x4 = fun _ => 1#1) : Scored (heads x0 x1 x2 x3 x0 x0) x0 x1 x2 x3 := by
  have hj := congrFun h default
  dsimp only [Pre_attnf_finite.fn, Pre_attnf_finite.fn_part1] at hj
  obtain ⟨hj, e3⟩ := IntOp.andi_eq_one.1 hj
  obtain ⟨hj, e2⟩ := IntOp.andi_eq_one.1 hj
  obtain ⟨e0, e1⟩ := IntOp.andi_eq_one.1 hj
  have h0 := real_of_all x0 _ (fun _ => rfl) _ _ _ _ e0
  have h1 := real_of_all x1 _ (fun _ => rfl) _ _ _ _ e1
  have h2 := real_of_all x2 _ (fun _ => rfl) _ _ _ _ e2
  have h3 := real_of_all x3 _ (fun _ => rfl) _ _ _ _ e3
  constructor <;> intros <;> simp only [heads, ofNat_val, h0, h1, h2, h3]

/-- The call terminates, leaves its arguments and its counters as they were. -/
theorem frame_p : quiescent_AttnF := fun m ρ _ => AttnF.Gen.frame m ρ

/-- So does its ideal reading. -/
theorem frame_pi : quiescent_AttnFIdeal := fun m ρ _ => AttnFIdeal.Gen.frame m ρ

/-- So does its ideal reading, on finite queries and keys. -/
theorem frame_pi_pre : quiescent_AttnFIdeal_pre_attnf_finite := fun m ρ _ => AttnFIdeal.Gen.frame m ρ

/-- The reference terminates and leaves its arguments as they were. -/
theorem frame_ri : quiescent_AttnFRefIdeal := fun m ρ _ =>
  (θ_run AttnFRefIdeal.defs _ _).mono (fun r h => ⟨fun c => (h c).2, sem_eq_zero_of_no_sems (by decide) r.2⟩)
    (AttnFRefIdeal.Value.run (F := Ideal) m ρ)

/-- So it does on finite queries and keys. -/
theorem frame_ri_pre : quiescent_AttnFRefIdeal_pre_attnf_finite := fun m ρ _ => frame_ri m ρ trivial

/-- The word of the mask is read as minus infinity. -/
theorem preserves : preserves_AttnF_AttnFIdeal :=
  IdealRules.named_const.statement AttnFIdeal.κ "mask" .f32 0xF149F2CA#32 ⊥ rfl

/-- On finite queries and keys the call and the reference, at exact arithmetic, end with the same rows, whatever the values. -/
theorem algebraic : algebraic_AttnFIdeal_AttnFRefIdeal_pre_attnf_finite := by
  intro m ρ m' ρ' hpre hagree
  refine ⟨_, AttnFIdeal.Value.run_blocks (F := Ideal) m ρ, ?_⟩
  refine (θ_run AttnFRefIdeal.defs _ _).mono (fun _ h c => ⟨(h c).1.trans ?_, (h c).2⟩) (AttnFRefIdeal.Value.run (F := Ideal) m' ρ')
  have H := scored_of _ _ _ _ _ (hpre c)
  rw [AttnFRefIdeal.Read.val_main_v29_eq, (hagree c).1, (hagree c).2.1, (hagree c).2.2.1, (hagree c).2.2.2.1, (hagree c).2.2.2.2]
  refine Eq.trans (funext fun i => ?_) (AttnFIdeal.Fwd.final H).symm
  idx_vars i
  exact AttnFRefIdeal.Rows.rows_at H _ _

end Cert.Proof.AttnFClaims
-- ==== Proof.PreFClaims.lean ====
/- The claims about the call of the modulated pre-norm. -/
module

public import proofs.«01_k».proof.Proof.NormSpec
public import proofs.«01_k».proof.Proof.Gen.PreFIdeal.Value
public import proofs.«01_k».proof.Proof.Gen.PreFRefIdeal.Read
public import proofs.«01_k».proof.Defs
public import proofs.«01_k».proof.Proof.Gen.PreF.Frame

@[expose] public section

set_option maxRecDepth 16384

noncomputable section

namespace Cert.PreFSpec

open Idealize.ShloMosaic Cert.NormSpec

/-- The arguments. -/
structure In where
  h : (⟨3, ![1, 2048, 2048]⟩ : Shape).Idx → EReal
  g : (⟨2, ![2, 2048]⟩ : Shape).Idx → EReal
  shift : (⟨2, ![1, 2048]⟩ : Shape).Idx → EReal
  scale : (⟨2, ![1, 2048]⟩ : Shape).Idx → EReal

variable (A : In)

/-- Row `r` of the stream. -/
abbrev row (r : Fin 2048) : Fin 2048 → EReal := fun k => A.h (ix3 0 r k)

/-- The normalized row times the gain, times one plus the scale, plus the shift. -/
def o (r k : Fin 2048) : EReal :=
  A.h (ix3 0 r k) * rs wide (row A r) * A.g (ix2 0 k) * (1 + A.scale (ix2 0 k)) + A.shift (ix2 0 k)

end Cert.PreFSpec

namespace Cert.PreFIdeal.Rows

open Cert.PreFIdeal Cert.PreFIdeal.Gen Idealize.ShloMosaic Idealize.ShloMosaic.TcCoe Idealize.SL.Sem Cert.NormSpec Cert.PreFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (k : Fin 2048) : iblk m c 1 t (ix2 0 k) = (ins m c).g (ix2 0 k) := by
  blk_point [iblk, V, (index_all t).2.1]
theorem blk2 (t : Fin cfg0.N) (k : Fin 2048) : iblk m c 2 t (ix2 0 k) = (ins m c).shift (ix2 0 k) := by
  blk_point [iblk, V, (index_all t).2.2.1]
theorem blk3 (t : Fin cfg0.N) (k : Fin 2048) : iblk m c 3 t (ix2 0 k) = (ins m c).scale (ix2 0 k) := by
  blk_point [iblk, V, (index_all t).2.2.2.1]

/-- After the run result 0 is the scaled and shifted rows. -/
theorem o_final : (dats m 0 c).arrAt 4 cfg0.N = fun i => o (ins m c) (i 0) (i 1) := by
  refine (dats m 0 c).arrAt_eq_of_covers 4 _ (by decide +kernel) fun t hf y => ?_
  have hN : cfg0.N = 8 := N_0
  have ht : t.val < 8 := hN ▸ t.isLt
  blk_simp
  rw [after0_4]
  idx_vars y
  have e0 : (((cfg0.win 4).blk t).view.emb (ix2 y0 y1)) 0 = at_ t y0 := Fin.ext (by blk_simp [(index_all t).2.2.2.2]; simp [mul_comm])
  have e1 : (((cfg0.win 4).blk t).view.emb (ix2 y0 y1)) 1 = y1 := Fin.ext (by blk_simp [(index_all t).2.2.2.2])
  refine Eq.trans ?_ (congrArg₂ (o (ins m c)) e0.symm e1.symm)
  frame_out
  unfold_payloads
  pointwise
  simp only [blk0, blk1, blk2, blk3, Fin.sum_univ_one, Fin.isValue]
  rfl

end Cert.PreFIdeal.Rows

namespace Cert.PreFRefIdeal.Rows

open Cert.PreFRefIdeal Cert.PreFRefIdeal.Gen Cert.PreFRefIdeal.Read Idealize.ShloMosaic Cert.NormSpec Cert.PreFSpec

variable (A : In)

/-- Sums over axes of one entry. -/
theorem v23_idx (i0 : Fin 2048) (i1 : Fin 2048) : idx_main_v23 (ix2 i0 i1) = (ix3 0 i0 i1 : S1x2048x2048.Idx) := by
  blk_ext <;> omega

theorem v21_idx (i1 : Fin 2048) (i2 : Fin 2048) : idx_main_v21 (ix3 0 i1 i2) = (ix3 0 0 i2 : S1x1x2048.Idx) := by
  blk_ext <;> omega

theorem v20_idx (i2 : Fin 2048) : idx_main_v20 (ix3 0 0 i2) = (ix2 0 i2 : S1x2048.Idx) := by
  blk_ext <;> omega

theorem v18_idx (i1 : Fin 2048) (i2 : Fin 2048) : idx_main_v18 (ix3 0 i1 i2) = (ix3 0 0 i2 : S1x1x2048.Idx) := by
  blk_ext <;> omega

theorem v15_idx (i2 : Fin 2048) : idx_main_v15 (ix3 0 0 i2) = (ix2 0 i2 : S1x2048.Idx) := by
  blk_ext <;> omega

theorem v13_idx (i1 : Fin 2048) (i2 : Fin 2048) : idx_main_v13 (ix3 0 i1 i2) = (ix3 0 0 i2 : S1x1x2048.Idx) := by
  blk_ext <;> omega

theorem v12_idx (i2 : Fin 2048) : idx_main_v12 (ix3 0 0 i2) = (ix1 i2 : S2048.Idx) := by
  blk_ext <;> omega

theorem v10_idx (i1 : Fin 2048) (i2 : Fin 2048) : idx_main_v10 (ix3 0 i1 i2) = (ix3 0 i1 0 : S1x2048x1.Idx) := by
  blk_ext <;> omega

theorem v4_idx (i1 : Fin 2048) : idx_main_v4 (ix3 0 i1 0) = (ix2 0 i1 : S1x2048.Idx) := by
  blk_ext <;> omega

theorem v3_idx (i1 : Fin 2048) (k : Fin 2048) : idx_main_v3 (ix2 0 i1) k = (ix3 0 i1 k : S1x2048x2048.Idx) := by
  blk_ext <;> omega

theorem v1_idx (i0 : Fin 2048) : idx_main_v1 (ix1 i0) = (ix2 0 i0 : S1x2048.Idx) := by
  blk_ext <;> omega

theorem v0_idx (i1 : Fin 2048) : idx_main_v0 (ix2 0 i1) = (ix2 0 i1 : S2x2048.Idx) := by
  blk_ext <;> omega

/-- The reference's: the scaled and shifted rows. -/
theorem o_ref : val_main_v24 (F := Ideal) A.h A.g A.shift A.scale = fun i => o A (i 0) (i 1) := by
  funext i
  idx_vars i
  simp only [val_main_v24_apply, val_main_v23_apply, v23_idx, val_main_v22_apply, val_main_v21_apply, v21_idx, val_main_v20_apply, v20_idx, val_main_v19_apply,
    val_main_v18_apply, v18_idx, val_main_v17_apply, val_main_v16_apply, val_main_v15_apply, v15_idx, val_main_v14_apply, val_main_v13_apply, v13_idx,
    val_main_v12_apply, v12_idx, val_main_v11_apply, val_main_v10_apply, v10_idx, val_main_v9_apply, val_main_v8_apply, val_main_v7_apply,
    val_main_v6_apply, val_main_v5_apply, val_main_v4_apply, v4_idx, val_main_v3_apply, v3_idx, val_main_v2_apply, val_main_v1_apply, v1_idx,
    val_main_v0_apply, v0_idx, val_main_cst_apply, val_main_cst_0_apply, val_main_cst_1_apply, val_main_cst_2_apply]
  pointwise
  simp only [o, ms, rs, row]

end Cert.PreFRefIdeal.Rows

open Idealize.ShloMosaic Idealize.SL.Sem

namespace Cert.Proof.PreFClaims

/-- The kernel as printed, idealized, and the reference: each ends, its arguments unchanged, its counters at zero. -/
theorem frame_p : quiescent_PreF := fun m ρ _ => PreF.Gen.frame m ρ
theorem frame_pi : quiescent_PreFIdeal := fun m ρ _ => PreFIdeal.Gen.frame m ρ
theorem frame_ri : quiescent_PreFRefIdeal := fun m ρ _ =>
  (θ_run PreFRefIdeal.defs _ _).mono (fun r h => ⟨fun c => (h c).2, sem_eq_zero_of_no_sems (by decide) r.2⟩)
    (PreFRefIdeal.Value.run (F := Ideal) m ρ)

/-- The idealized kernel's results are the reference's. -/
theorem algebraic : algebraic_PreFIdeal_PreFRefIdeal := by
  intro m ρ m' ρ' _ hagree
  refine ⟨_, PreFIdeal.Value.run_blocks (F := Ideal) m ρ, ?_⟩
  refine (θ_run PreFRefIdeal.defs _ _).mono (fun _ h c => ⟨(h c).1.trans ?_,
    (h c).2⟩) (PreFRefIdeal.Value.run (F := Ideal) m' ρ')
  · refine (PreFRefIdeal.Read.val_main_v24_eq (F := Ideal) _ _ _ _).trans ?_
    rw [(hagree c).1, (hagree c).2.1, (hagree c).2.2.1, (hagree c).2.2.2]
    exact (PreFRefIdeal.Rows.o_ref (PreFIdeal.Rows.ins m c)).trans (PreFIdeal.Rows.o_final m c).symm

end Cert.Proof.PreFClaims
-- ==== Proof.GluFClaims.lean ====
/- The claims about the call of the gated linear unit. -/
module

public import proofs.«01_k».proof.Proof.Gen.GluFIdeal.Frame
public import proofs.«01_k».proof.Proof.NormSpec
public import proofs.«01_k».proof.Proof.Gen.GluFRefIdeal.Read
public import proofs.«01_k».proof.Defs
public import proofs.«01_k».proof.Proof.Gen.GluF.Frame

@[expose] public section

set_option maxRecDepth 16384

noncomputable section

namespace Cert.GluFIdeal.Rows

open Cert.GluFIdeal Cert.GluFIdeal.Gen Idealize.ShloMosaic Idealize.ShloMosaic.TcCoe Idealize.SL.Sem

variable (m : (ℓ : Loc nD τ sig) → Buf (Elt Ideal) ℓ) (ρ : Dev nD → PrngReg)

/-- The result is what the launch's points wrote into it, and the arguments are untouched. -/
theorem run : θ_run defs (onTc (τ := τ) (main (F := Ideal))) ⟨m, fun _ => 0, ρ⟩ (fun r => ∀ c : Dev nD,
      r.2.mem ((c : Thread nD τ).loc main_v1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ⟨(h c).1 2, ?_, ?_⟩) (run_main m ρ)
  · exact ((h c).2 main_arg0 (Pipeline.mem_restRefs_of main_arg0 (by decide) (by decide))).trans (V_main_arg0 m c)
  · exact ((h c).1 1).trans (((dats m 0 c).arrAt_in 1 rfl _).trans ((A_eq m c 1).trans (V_main_arg1 m c)))

end Cert.GluFIdeal.Rows

namespace Cert.GluFSpec

open Idealize.ShloMosaic Cert.NormSpec

/-- The arguments. -/
structure In where
  z : (⟨3, ![1, 2048, 4096]⟩ : Shape).Idx → EReal
  bias : (⟨2, ![1, 4096]⟩ : Shape).Idx → EReal

variable (A : In)

/-- Row `r` of the input with the bias added, and the sigmoid of its second half. -/
def pre (r : Fin 2048) (j : Fin 4096) : EReal := A.z (ix3 0 r j) + A.bias (ix2 0 j)
def sg (r k : Fin 2048) : EReal := Ideal.logistic (pre A r ⟨2048 + k.val, by omega⟩)

/-- The first half times the sigmoid of the second. -/
def o (r k : Fin 2048) : EReal := pre A r ⟨k.val, by omega⟩ * sg A r k

end Cert.GluFSpec

namespace Cert.GluFIdeal.Rows

open Cert.GluFIdeal Cert.GluFIdeal.Gen Idealize.ShloMosaic Idealize.ShloMosaic.TcCoe Idealize.SL.Sem Cert.NormSpec Cert.GluFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The arguments on device `c`. -/
abbrev ins : In := ⟨m ((c : Thread nD τ).loc main_arg0), m ((c : Thread nD τ).loc main_arg1)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 4096) : iblk m c 0 t (ix2 x k) = (ins m c).z (ix3 0 (at_ t x) k) := by
  blk_point [iblk, V, (index_all t).1]
theorem blk1 (t : Fin cfg0.N) (k : Fin 4096) : iblk m c 1 t (ix2 0 k) = (ins m c).bias (ix2 0 k) := by
  blk_point [iblk, V, (index_all t).2.1]

/-- After the run result 0 is the first half times the sigmoid of the second. -/
theorem o_final : (dats m 0 c).arrAt 2 cfg0.N = fun i => o (ins m c) (i 0) (i 1) := by
  refine (dats m 0 c).arrAt_eq_of_covers 2 _ (by decide +kernel) fun t hf y => ?_
  have hN : cfg0.N = 8 := N_0
  have ht : t.val < 8 := hN ▸ t.isLt
  blk_simp
  rw [after0_2]
  idx_vars y
  have e0 : (((cfg0.win 2).blk t).view.emb (ix2 y0 y1)) 0 = at_ t y0 := Fin.ext (by blk_simp [(index_all t).2.2]; simp [mul_comm])
  have e1 : (((cfg0.win 2).blk t).view.emb (ix2 y0 y1)) 1 = y1 := Fin.ext (by blk_simp [(index_all t).2.2])
  refine Eq.trans ?_ (congrArg₂ (o (ins m c)) e0.symm e1.symm)
  frame_out
  unfold_payloads
  pointwise
  simp only [blk0, blk1, Fin.sum_univ_one, Fin.isValue]
  rfl

end Cert.GluFIdeal.Rows

namespace Cert.GluFRefIdeal.Rows

open Cert.GluFRefIdeal Cert.GluFRefIdeal.Gen Cert.GluFRefIdeal.Read Idealize.ShloMosaic Cert.NormSpec Cert.GluFSpec

variable (A : In)

/-- Sums over axes of one entry. -/
theorem v5_idx (i0 : Fin 2048) (i1 : Fin 2048) : idx_main_v5 (ix2 i0 i1) = (ix3 0 i0 i1 : S1x2048x2048.Idx) := by
  blk_ext <;> omega

theorem v2_idx (i1 : Fin 2048) (i2 : Fin 4096) : idx_main_v2 (ix3 0 i1 i2) = (ix3 0 0 i2 : S1x1x4096.Idx) := by
  blk_ext <;> omega

theorem v1_idx (i2 : Fin 4096) : idx_main_v1 (ix3 0 0 i2) = (ix1 i2 : S4096.Idx) := by
  blk_ext <;> omega

theorem v0_idx (i0 : Fin 4096) : idx_main_v0 (ix1 i0) = (ix2 0 i0 : S1x4096.Idx) := by
  blk_ext <;> omega

theorem call0_v0_idx (i1 : Fin 2048) (i2 : Fin 2048) : idx_main_call0_v0 (ix3 0 i1 i2) = (ix3 0 i1 ⟨i2.val, by omega⟩ : S1x2048x4096.Idx) := by
  blk_ext <;> omega

theorem call0_v1_idx (i1 : Fin 2048) (i2 : Fin 2048) : idx_main_call0_v1 (ix3 0 i1 i2) = (ix3 0 i1 ⟨2048 + i2.val, by omega⟩ : S1x2048x4096.Idx) := by
  blk_ext <;> omega

/-- The reference's: the first half times the sigmoid of the second. -/
theorem o_ref : val_main_v5 (F := Ideal) A.z A.bias = fun i => o A (i 0) (i 1) := by
  funext i
  idx_vars i
  simp only [val_main_v5_apply, v5_idx, val_main_v4_apply, val_main_v3_apply, val_main_v2_apply, v2_idx, val_main_v1_apply, v1_idx, val_main_v0_apply, v0_idx,
    val_main_call0_cst_apply, val_main_call0_cst_0_apply, val_main_call0_v0_apply, call0_v0_idx, val_main_call0_v1_apply, call0_v1_idx,
    val_main_call0_v2_apply, val_main_call0_v3_apply, val_main_call0_v4_apply, val_main_call0_v5_apply, val_main_call0_v6_apply, val_main_call0_v7_apply]
  pointwise
  simp only [o, sg, pre]
  rfl

end Cert.GluFRefIdeal.Rows

open Idealize.ShloMosaic Idealize.SL.Sem

namespace Cert.Proof.GluFClaims

/-- The kernel as printed, idealized, and the reference: each ends, its arguments unchanged, its counters at zero. -/
theorem frame_p : quiescent_GluF := fun m ρ _ => GluF.Gen.frame m ρ
theorem frame_pi : quiescent_GluFIdeal := fun m ρ _ => GluFIdeal.Gen.frame m ρ
theorem frame_ri : quiescent_GluFRefIdeal := fun m ρ _ =>
  (θ_run GluFRefIdeal.defs _ _).mono (fun r h => ⟨fun c => (h c).2, sem_eq_zero_of_no_sems (by decide) r.2⟩)
    (GluFRefIdeal.Value.run (F := Ideal) m ρ)

/-- The idealized kernel's results are the reference's. -/
theorem algebraic : algebraic_GluFIdeal_GluFRefIdeal := by
  intro m ρ m' ρ' _ hagree
  refine ⟨_, GluFIdeal.Rows.run m ρ, ?_⟩
  refine (θ_run GluFRefIdeal.defs _ _).mono (fun _ h c => ⟨(h c).1.trans ?_,
    (h c).2⟩) (GluFRefIdeal.Value.run (F := Ideal) m' ρ')
  · refine (GluFRefIdeal.Read.val_main_v5_eq (F := Ideal) _ _).trans ?_
    rw [(hagree c).1, (hagree c).2]
    exact (GluFRefIdeal.Rows.o_ref (GluFIdeal.Rows.ins m c)).trans (GluFIdeal.Rows.o_final m c).symm

end Cert.Proof.GluFClaims
-- ==== Proof.ConvFClaims.lean ====
/- The five claims about the convolution's forward call. -/
module

public import proofs.«01_k».proof.Proof.ConvValue
public import proofs.«01_k».proof.Proof.Gen.ConvFIdeal.Value
public import proofs.«01_k».proof.Proof.Gen.ConvFRefIdeal.Read
public import proofs.«01_k».proof.Proof.Gen.ConvF.Frame

@[expose] public section

set_option maxRecDepth 16384

noncomputable section

namespace Cert.ConvFSpec

open Idealize.ShloMosaic Cert.ConvSpec

/-- The convolution at time `s`, channel `d`: the bias, and every tap against the input that many steps back. -/
def out (u : Seq) (w : Taps) (b : (⟨2, ![1, 2048]⟩ : Shape).Idx → EReal) (s d : Fin 2048) : EReal :=
  b (ix2 0 d) + ∑ j ∈ Finset.range 31, before (fun r => u (ix3 0 r d)) (2 + j + s.val) * entry (fun j => w (ix2 j d)) j

end Cert.ConvFSpec

namespace Cert.ConvFIdeal.Filter

open Cert.ConvFIdeal Cert.ConvFIdeal.Gen Idealize.ShloMosaic Idealize.ShloMosaic.TcCoe Idealize.SL.Sem
open Cert.ConvIdeal.Filter (led tap tap_lt emb_du)

variable (m : (ℓ : Loc nD τ sig) → Buf (Elt Ideal) ℓ)

/-- One row of the block: the bias, then tap after tap. -/
def outAt (u : S2048x128.Idx → EReal) (w : S31x128.Idx → EReal) (b : S1x128.Idx → EReal) (r : ℕ) (q : Fin 128) : EReal :=
  b (ix2 0 q) + ∑ j ∈ Finset.range 31, led u (2 + j + r) q * tap w j q

/-- A load of 256 rows of the input laid out behind its zero rows. -/
theorem load_u (u : S2048x128.Idx → EReal) (o : ℕ) (inb) (x : Fin 256) (q : Fin 128) (v : View sig .tc .vmem S2080x128 .f32) :
    v.readCov (Val := Elt Ideal)
      [⟨Rect.unit ![32, 0] ![2048, 128] inb_S2080x128_S2048x128_32_0, u⟩, ⟨Rect.unit ![0, 0] ![32, 128] inb_S2080x128_S32x128_0_0, (broadcast S32x128 (0 : EReal) : S32x128.Idx → EReal)⟩]
      (Rect.unit (s := S2080x128) ![o, 0] ![256, 128] inb).toLoadRect (ix2 x q) = led u (o + x.val) q := by
  rw [View.readCov_eq_canon']
  have ho : o + 256 ≤ 2080 := inb 0
  have hx := x.isLt
  have hq := q.isLt
  have e₀ : (Rect.unit (s := S2080x128) ![o, 0] ![256, 128] inb).emb (ix2 x q) = ix2 ⟨o + x.val, by omega⟩ q := by blk_ext
  have e : (Rect.unit (s := S2080x128) ![o, 0] ![256, 128] inb).toLoadRect.idx (ix2 x q) = ix2 ⟨o + x.val, by omega⟩ q := e₀
  refine (congrArg (View.canon (Val := Elt Ideal) (e := .f32) _) e).trans ?_
  unfold led
  split_ifs with h
  · have e' : (ix2 ⟨o + x.val, by omega⟩ q : S2080x128.Idx) = (Rect.unit (s := S2080x128) ![32, 0] ![2048, 128] inb_S2080x128_S2048x128_32_0).emb (ix2 ⟨o + x.val - 32, by omega⟩ q) := by blk_ext
    rw [e', View.canon_cons_emb]
  · rw [View.canon_cons_of_not_mem]
    · have e' : (ix2 ⟨o + x.val, by omega⟩ q : S2080x128.Idx) = (Rect.unit (s := S2080x128) ![0, 0] ![32, 128] inb_S2080x128_S32x128_0_0).emb (ix2 ⟨o + x.val, by omega⟩ q) := by blk_ext
      rw [e', View.canon_cons_emb]
      rfl
    · refine Rect.not_mem_set_of_axis _ _ (0 : Fin 2) 32 2048 rfl rfl rfl (Or.inl ?_)
      show o + x.val < 32
      omega

set_option maxHeartbeats 4000000 in
/-- What a grid point leaves in its block. -/
theorem out_block (c : Dev nD) (t : Fin cfg0.N) (j : S2048x128.Idx) :
    outsAt0 m c t j = outAt (iblk m c 0 t) (iblk m c 1 t) (iblk m c 2 t) (j 0).val (j 1) := by
  unfold outsAt0 out0_A_3
  rw [View.read_writes_junk_eq_canon]
  generalize hG : (fun j : S2048x128.Idx => outAt (iblk m c 0 t) (iblk m c 1 t) (iblk m c 2 t) (j 0).val (j 1)) = G
  rw [show outAt (iblk m c 0 t) (iblk m c 1 t) (iblk m c 2 t) (j 0).val (j 1) = G j from hG ▸ rfl]
  refine View.canon_apply_of_pieces (Val := Elt Ideal) (e := .f32) G _ (View.PiecesOf.mem ?_) j (cover0_A_3 c _ _ _ _ _ _ _ _ _ _ _ _ _ _ j)
  unfold kernelRun0_A
  dsimp only
  refine ⟨?_, ?_, ?_, ?_, ?_, ?_, ?_, ?_, trivial⟩
  all_goals
    intro x
    idx_vars x
    frame_out
    unfold_payloads
    pointwise
    simp only [load_u, tap_lt (iblk m c 1 t)]
    rw [← hG]
    beta_reduce
    rw [(emb_du _ _ x0 x1).1, (emb_du _ _ x0 x1).2]
    unfold outAt
    simp only [Finset.sum_range_succ, Finset.sum_range_zero, ← Nat.add_assoc, ← add_assoc, Nat.reduceAdd, add_zero, zero_add]
    rfl

/-- Point `t` takes column block `t` of every array. -/
theorem index_all : ∀ t : Fin cfg0.N, win0_0.index t = ![0, t.val] ∧ win0_1.index t = ![0, t.val] ∧ win0_2.index t = ![0, t.val] ∧ win0_3.index t = ![0, t.val] :=
  (by decide +kernel : ∀ t : Fin grid0.N, win0_0.index t = ![0, t.val] ∧ win0_1.index t = ![0, t.val] ∧ win0_2.index t = ![0, t.val] ∧ win0_3.index t = ![0, t.val])

/-- The three arguments on device `c`. -/
abbrev u (c : Dev nD) : ConvSpec.Seq := m ((c : Thread nD τ).loc main_arg0)
abbrev w (c : Dev nD) : ConvSpec.Taps := m ((c : Thread nD τ).loc main_arg1)
abbrev b (c : Dev nD) : (⟨2, ![1, 2048]⟩ : Shape).Idx → EReal := m ((c : Thread nD τ).loc main_arg2)

theorem col_lt (t : Fin cfg0.N) (q : Fin 128) : 128 * t.val + q.val < 2048 := by
  have := t.isLt; have : cfg0.N = 16 := N_0; omega

/-- What point `t` reads: its channels of the input, of the taps and of the bias. -/
theorem blk_u (c : Dev nD) (t : Fin cfg0.N) (r : Fin 2048) (q : Fin 128) :
    iblk m c 0 t (ix2 r q) = u m c (ix3 0 r ⟨128 * t.val + q.val, col_lt t q⟩) := by
  blk_point [iblk, V, (index_all t).1]
theorem blk_w (c : Dev nD) (t : Fin cfg0.N) (r : Fin 31) (q : Fin 128) :
    iblk m c 1 t (ix2 r q) = w m c (ix2 r ⟨128 * t.val + q.val, col_lt t q⟩) := by
  blk_point [iblk, V, (index_all t).2.1]
theorem blk_b (c : Dev nD) (t : Fin cfg0.N) (q : Fin 128) :
    iblk m c 2 t (ix2 0 q) = b m c (ix2 0 ⟨128 * t.val + q.val, col_lt t q⟩) := by
  blk_point [iblk, V, (index_all t).2.2.1]

/-- After the run the result array is the convolution. -/
theorem out_final (c : Dev nD) : (dats m 0 c).arrAt 3 cfg0.N = fun i => ConvFSpec.out (u m c) (w m c) (b m c) (i 0) (i 1) := by
  refine (dats m 0 c).arrAt_eq_of_covers 3 _ (by decide +kernel) fun t hf y => ?_
  blk_simp
  rw [after0_3]
  idx_vars y
  have e0 : (((cfg0.win 3).blk t).view.emb (ix2 y0 y1)) 0 = (y0 : Fin 2048) :=
    Fin.ext (by blk_simp [(index_all t).2.2.2])
  have e1 : (((cfg0.win 3).blk t).view.emb (ix2 y0 y1)) 1 = (⟨128 * t.val + y1.val, col_lt t y1⟩ : Fin 2048) :=
    Fin.ext (by blk_simp [(index_all t).2.2.2]; simp [mul_comm])
  refine Eq.trans ?_ (congrArg₂ (ConvFSpec.out (u m c) (w m c) (b m c)) e0.symm e1.symm)
  rw [out_block]
  show outAt _ _ _ y0.val y1 = _
  unfold outAt ConvFSpec.out
  exact congrArg₂ (· + ·) (blk_b m c t y1) (Finset.sum_congr rfl fun j _ => congrArg₂ (· * ·)
    (congrArg (ConvSpec.before · (2 + j + y0.val)) (funext fun r => blk_u m c t r y1))
    (congrArg (ConvSpec.entry · j) (funext fun r => blk_w m c t r y1)))

end Cert.ConvFIdeal.Filter

namespace Cert.ConvFRefIdeal.Filter

open Cert.ConvFRefIdeal Cert.ConvFRefIdeal.Read Idealize.ShloMosaic

/-- Both references shift the input by one and the same array. -/
theorem taps_same (x0 : ConvSpec.Seq) : val_main_v10 (F := Ideal) x0 = Cert.ConvRefIdeal.Read.val_main_v10 (F := Ideal) x0 := rfl

/-- The reference's result. -/
theorem out_ref (x0 : ConvSpec.Seq) (x1 : ConvSpec.Taps) (x2 : (⟨2, ![1, 2048]⟩ : Shape).Idx → EReal) (s d : Fin 2048) :
    val_main_v17 (F := Ideal) x0 x1 x2 (ix2 s d) = ConvFSpec.out x0 x1 x2 s d := by
  have hz : Ideal.ofBits .f32 0#32 = 0 := by simp [Ideal.ofBits, Ideal.ieee]
  rw [val_main_v17_apply, val_main_v16_apply, val_main_v15_apply, val_main_v1_apply, val_main_v14_apply, val_main_cst_1_apply]
  unfold ConvFSpec.out
  rw [Finset.sum_range]
  refine (add_comm _ _).trans (congrArg₂ (· + ·) (congrArg x2 (by blk_ext)) ?_)
  refine (congrArg (· + _) hz).trans ((zero_add _).trans (Finset.sum_congr rfl fun j _ => ?_))
  have hw : ConvSpec.entry (fun j => x1 (ix2 j d)) j.val = x1 (ix2 j d) := by unfold ConvSpec.entry; rw [dif_pos j.isLt]
  rw [val_main_v13_apply, val_main_v12_apply, val_main_v11_apply, taps_same, hw, ← Cert.ConvRefIdeal.Filter.taps_ref]
  exact congrArg₂ (· * ·) (congrArg (Cert.ConvRefIdeal.Read.val_main_v10 (F := Ideal) x0) (by blk_ext)) (congrArg x1 (by blk_ext))

end Cert.ConvFRefIdeal.Filter

open Idealize.ShloMosaic Idealize.SL.Sem

namespace Cert.Proof.ConvFClaims

/-- The kernel as printed, idealized, and the reference: each ends, its arguments unchanged, its counters at zero. -/
theorem frame_p : quiescent_ConvF := fun m ρ _ => ConvF.Gen.frame m ρ
theorem frame_pi : quiescent_ConvFIdeal := fun m ρ _ => ConvFIdeal.Gen.frame m ρ
theorem frame_ri : quiescent_ConvFRefIdeal := fun m ρ _ =>
  (θ_run ConvFRefIdeal.defs _ _).mono (fun r h => ⟨fun c => (h c).2, sem_eq_zero_of_no_sems (by decide) r.2⟩)
    (ConvFRefIdeal.Value.run (F := Ideal) m ρ)

/-- The idealized kernel's result is the reference's convolution. -/
theorem algebraic : algebraic_ConvFIdeal_ConvFRefIdeal := by
  intro m ρ m' ρ' _ hagree
  refine ⟨_, ConvFIdeal.Value.run_blocks (F := Ideal) m ρ, ?_⟩
  refine (θ_run ConvFRefIdeal.defs _ _).mono (fun _ h c => ⟨(h c).1.trans ?_, (h c).2⟩)
    (ConvFRefIdeal.Value.run (F := Ideal) m' ρ')
  rw [ConvFRefIdeal.Read.val_main_v17_eq, (hagree c).1, (hagree c).2.1, (hagree c).2.2]
  refine Eq.trans (funext fun i => ?_) (ConvFIdeal.Filter.out_final m c).symm
  idx_vars i
  exact ConvFRefIdeal.Filter.out_ref _ _ _ _ _

end Cert.Proof.ConvFClaims
-- ==== Proof.LnFClaims.lean ====
/- The claims about the call of the layer norm and the swish behind it. -/
module

public import proofs.«01_k».proof.Proof.NormSpec
public import proofs.«01_k».proof.Proof.Gen.LnFIdeal.Value
public import proofs.«01_k».proof.Proof.Gen.LnFRefIdeal.Read
public import proofs.«01_k».proof.Defs
public import proofs.«01_k».proof.Proof.Gen.LnF.Frame

@[expose] public section

set_option maxRecDepth 16384

noncomputable section

namespace Cert.LnFSpec

open Idealize.ShloMosaic Cert.NormSpec

/-- The arguments. -/
structure In where
  u : (⟨3, ![1, 2048, 2048]⟩ : Shape).Idx → EReal
  g : (⟨2, ![1, 2048]⟩ : Shape).Idx → EReal
  b : (⟨2, ![1, 2048]⟩ : Shape).Idx → EReal

variable (A : In)

/-- Row `r`: its mean, its entries less the mean, their mean square plus the small constant, the factor that normalizes it. -/
def mean (r : Fin 2048) : EReal := Ideal.div (∑ k, A.u (ix3 0 r k)) wide
def dev (r k : Fin 2048) : EReal := A.u (ix3 0 r k) - mean A r
def ve (r : Fin 2048) : EReal := Ideal.div (∑ k, dev A r k * dev A r k) wide + eps
def rsd (r : Fin 2048) : EReal := Ideal.rsqrt (ve A r)

/-- The layer norm's value, which the swish takes. -/
def pre (r k : Fin 2048) : EReal := dev A r k * rsd A r * A.g (ix2 0 k) + A.b (ix2 0 k)

/-- The swish: the value times its sigmoid. -/
def o (r k : Fin 2048) : EReal := pre A r k * Ideal.logistic (pre A r k)

end Cert.LnFSpec

namespace Cert.LnFIdeal.Rows

open Cert.LnFIdeal Cert.LnFIdeal.Gen Idealize.ShloMosaic Idealize.ShloMosaic.TcCoe Idealize.SL.Sem Cert.NormSpec Cert.LnFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- The arguments on device `c`. -/
abbrev ins : In := ⟨m ((c : Thread nD τ).loc main_arg0), m ((c : Thread nD τ).loc main_arg1), m ((c : Thread nD τ).loc main_arg2)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).u (ix3 0 (at_ t x) k) := by
  blk_point [iblk, V, (index_all t).1]
theorem blk1 (t : Fin cfg0.N) (k : Fin 2048) : iblk m c 1 t (ix2 0 k) = (ins m c).g (ix2 0 k) := by
  blk_point [iblk, V, (index_all t).2.1]
theorem blk2 (t : Fin cfg0.N) (k : Fin 2048) : iblk m c 2 t (ix2 0 k) = (ins m c).b (ix2 0 k) := by
  blk_point [iblk, V, (index_all t).2.2.1]

/-- After the run result 0 is the rows behind the swish. -/
theorem o_final : (dats m 0 c).arrAt 3 cfg0.N = fun i => o (ins m c) (i 0) (i 1) := by
  refine (dats m 0 c).arrAt_eq_of_covers 3 _ (by decide +kernel) fun t hf y => ?_
  have hN : cfg0.N = 8 := N_0
  have ht : t.val < 8 := hN ▸ t.isLt
  blk_simp
  rw [after0_3]
  idx_vars y
  have e0 : (((cfg0.win 3).blk t).view.emb (ix2 y0 y1)) 0 = at_ t y0 := Fin.ext (by blk_simp [(index_all t).2.2.2]; simp [mul_comm])
  have e1 : (((cfg0.win 3).blk t).view.emb (ix2 y0 y1)) 1 = y1 := Fin.ext (by blk_simp [(index_all t).2.2.2])
  refine Eq.trans ?_ (congrArg₂ (o (ins m c)) e0.symm e1.symm)
  frame_out
  unfold_payloads
  pointwise
  simp only [blk0, blk1, blk2, Fin.sum_univ_one, Fin.isValue]
  rfl

end Cert.LnFIdeal.Rows

namespace Cert.LnFRefIdeal.Rows

open Cert.LnFRefIdeal Cert.LnFRefIdeal.Gen Cert.LnFRefIdeal.Read Idealize.ShloMosaic Cert.NormSpec Cert.LnFSpec

variable (A : In)

/-- Sums over axes of one entry. -/
theorem v27_idx (i0 : Fin 2048) (i1 : Fin 2048) : idx_main_v27 (ix2 i0 i1) = (ix3 0 i0 i1 : S1x2048x2048.Idx) := by
  blk_ext <;> omega

theorem v24_idx (i1 : Fin 2048) (i2 : Fin 2048) : idx_main_v24 (ix3 0 i1 i2) = (ix3 0 0 i2 : S1x1x2048.Idx) := by
  blk_ext <;> omega

theorem v23_idx (i2 : Fin 2048) : idx_main_v23 (ix3 0 0 i2) = (ix1 i2 : S2048.Idx) := by
  blk_ext <;> omega

theorem v21_idx (i1 : Fin 2048) (i2 : Fin 2048) : idx_main_v21 (ix3 0 i1 i2) = (ix3 0 0 i2 : S1x1x2048.Idx) := by
  blk_ext <;> omega

theorem v20_idx (i2 : Fin 2048) : idx_main_v20 (ix3 0 0 i2) = (ix1 i2 : S2048.Idx) := by
  blk_ext <;> omega

theorem v18_idx (i1 : Fin 2048) (i2 : Fin 2048) : idx_main_v18 (ix3 0 i1 i2) = (ix3 0 i1 0 : S1x2048x1.Idx) := by
  blk_ext <;> omega

theorem v13_idx (i1 : Fin 2048) (i2 : Fin 2048) : idx_main_v13 (ix3 0 i1 i2) = (ix3 0 i1 0 : S1x2048x1.Idx) := by
  blk_ext <;> omega

theorem v10_idx (i1 : Fin 2048) : idx_main_v10 (ix3 0 i1 0) = (ix2 0 i1 : S1x2048.Idx) := by
  blk_ext <;> omega

theorem v9_idx (i1 : Fin 2048) (k : Fin 2048) : idx_main_v9 (ix2 0 i1) k = (ix3 0 i1 k : S1x2048x2048.Idx) := by
  blk_ext <;> omega

theorem v6_idx (i1 : Fin 2048) (i2 : Fin 2048) : idx_main_v6 (ix3 0 i1 i2) = (ix3 0 i1 0 : S1x2048x1.Idx) := by
  blk_ext <;> omega

theorem v3_idx (i1 : Fin 2048) : idx_main_v3 (ix3 0 i1 0) = (ix2 0 i1 : S1x2048.Idx) := by
  blk_ext <;> omega

theorem v2_idx (i1 : Fin 2048) (k : Fin 2048) : idx_main_v2 (ix2 0 i1) k = (ix3 0 i1 k : S1x2048x2048.Idx) := by
  blk_ext <;> omega

theorem v1_idx (i0 : Fin 2048) : idx_main_v1 (ix1 i0) = (ix2 0 i0 : S1x2048.Idx) := by
  blk_ext <;> omega

theorem v0_idx (i0 : Fin 2048) : idx_main_v0 (ix1 i0) = (ix2 0 i0 : S1x2048.Idx) := by
  blk_ext <;> omega

/-- The reference's: the rows behind the swish. -/
theorem o_ref : val_main_v28 (F := Ideal) A.u A.g A.b = fun i => o A (i 0) (i 1) := by
  funext i
  idx_vars i
  simp only [val_main_v28_apply, val_main_v27_apply, v27_idx, val_main_v26_apply, val_main_v25_apply, val_main_v24_apply, v24_idx, val_main_v23_apply, v23_idx,
    val_main_v22_apply, val_main_v21_apply, v21_idx, val_main_v20_apply, v20_idx, val_main_v19_apply, val_main_v18_apply, v18_idx, val_main_v17_apply,
    val_main_v16_apply, val_main_v15_apply, val_main_v14_apply, val_main_v13_apply, v13_idx, val_main_v12_apply, val_main_v11_apply, val_main_v10_apply,
    v10_idx, val_main_v9_apply, v9_idx, val_main_v8_apply, val_main_v7_apply, val_main_v6_apply, v6_idx, val_main_v5_apply, val_main_v4_apply,
    val_main_v3_apply, v3_idx, val_main_v2_apply, v2_idx, val_main_v1_apply, v1_idx, val_main_v0_apply, v0_idx, val_main_call0_cst_apply,
    val_main_call0_cst_0_apply, val_main_call0_v0_apply, val_main_call0_v1_apply, val_main_call0_v2_apply, val_main_call0_v3_apply,
    val_main_call0_v4_apply, val_main_call0_v5_apply, val_main_cst_apply, val_main_cst_0_apply, val_main_cst_1_apply, val_main_cst_2_apply,
    val_main_cst_3_apply]
  pointwise
  simp only [o, mean, dev, ve, rsd, pre]
  rfl

end Cert.LnFRefIdeal.Rows

open Idealize.ShloMosaic Idealize.SL.Sem

namespace Cert.Proof.LnFClaims

/-- The kernel as printed, idealized, and the reference: each ends, its arguments unchanged, its counters at zero. -/
theorem frame_p : quiescent_LnF := fun m ρ _ => LnF.Gen.frame m ρ
theorem frame_pi : quiescent_LnFIdeal := fun m ρ _ => LnFIdeal.Gen.frame m ρ
theorem frame_ri : quiescent_LnFRefIdeal := fun m ρ _ =>
  (θ_run LnFRefIdeal.defs _ _).mono (fun r h => ⟨fun c => (h c).2, sem_eq_zero_of_no_sems (by decide) r.2⟩)
    (LnFRefIdeal.Value.run (F := Ideal) m ρ)

/-- The idealized kernel's results are the reference's. -/
theorem algebraic : algebraic_LnFIdeal_LnFRefIdeal := by
  intro m ρ m' ρ' _ hagree
  refine ⟨_, LnFIdeal.Value.run_blocks (F := Ideal) m ρ, ?_⟩
  refine (θ_run LnFRefIdeal.defs _ _).mono (fun _ h c => ⟨(h c).1.trans ?_,
    (h c).2⟩) (LnFRefIdeal.Value.run (F := Ideal) m' ρ')
  · refine (LnFRefIdeal.Read.val_main_v28_eq _ _).trans ?_
    rw [(hagree c).1, (hagree c).2.1, (hagree c).2.2]
    exact (LnFRefIdeal.Rows.o_ref (LnFIdeal.Rows.ins m c)).trans (LnFIdeal.Rows.o_final m c).symm

end Cert.Proof.LnFClaims
-- ==== Proof.PostbPreFClaims.lean ====
/- The claims about the call of the gated post-norm behind a bias, the residual and the next pre-norm. -/
module

public import proofs.«01_k».proof.Proof.NormSpec
public import proofs.«01_k».proof.Proof.Gen.PostbPreFIdeal.Value
public import proofs.«01_k».proof.Proof.Gen.PostbPreFRefIdeal.Read
public import proofs.«01_k».proof.Defs
public import proofs.«01_k».proof.Proof.Gen.PostbPreF.Frame

@[expose] public section

set_option maxRecDepth 16384

noncomputable section

namespace Cert.PostbPreFSpec

open Idealize.ShloMosaic Cert.NormSpec

/-- The arguments. -/
structure In where
  h : (⟨3, ![1, 2048, 2048]⟩ : Shape).Idx → EReal
  y : (⟨3, ![1, 2048, 2048]⟩ : Shape).Idx → EReal
  bias : (⟨2, ![1, 2048]⟩ : Shape).Idx → EReal
  gate : (⟨2, ![1, 2048]⟩ : Shape).Idx → EReal
  gpost : (⟨2, ![2, 2048]⟩ : Shape).Idx → EReal
  gpre : (⟨2, ![2, 2048]⟩ : Shape).Idx → EReal
  shift : (⟨2, ![1, 2048]⟩ : Shape).Idx → EReal
  scale : (⟨2, ![1, 2048]⟩ : Shape).Idx → EReal

variable (A : In)

/-- Row `r` of the branch with the bias added. -/
abbrev branch (r : Fin 2048) : Fin 2048 → EReal := fun k => A.y (ix3 0 r k) + A.bias (ix2 0 k)

/-- The stream plus the gate times the normalized branch times the gain. -/
def hn (r k : Fin 2048) : EReal := A.h (ix3 0 r k) + A.gate (ix2 0 k) * ((A.y (ix3 0 r k) + A.bias (ix2 0 k)) * rs wide (branch A r) * A.gpost (ix2 0 k))

/-- The sum normalized, times the gain, times one plus the scale, plus the shift. -/
def o (r k : Fin 2048) : EReal := hn A r k * rs wide (hn A r) * A.gpre (ix2 0 k) * (1 + A.scale (ix2 0 k)) + A.shift (ix2 0 k)

end Cert.PostbPreFSpec

namespace Cert.PostbPreFIdeal.Rows

open Cert.PostbPreFIdeal Cert.PostbPreFIdeal.Gen Idealize.ShloMosaic Idealize.ShloMosaic.TcCoe Idealize.SL.Sem Cert.NormSpec Cert.PostbPreFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![t.val, 0] ∧ win0_9.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (x : Fin 256) (k : Fin 2048) : iblk m c 1 t (ix2 x k) = (ins m c).y (ix3 0 (at_ t x) k) := by
  blk_point [iblk, V, (index_all t).2.1]
theorem blk2 (t : Fin cfg0.N) (k : Fin 2048) : iblk m c 2 t (ix2 0 k) = (ins m c).bias (ix2 0 k) := by
  blk_point [iblk, V, (index_all t).2.2.1]
theorem blk3 (t : Fin cfg0.N) (k : Fin 2048) : iblk m c 3 t (ix2 0 k) = (ins m c).gate (ix2 0 k) := by
  blk_point [iblk, V, (index_all t).2.2.2.1]
theorem blk4 (t : Fin cfg0.N) (k : Fin 2048) : iblk m c 4 t (ix2 0 k) = (ins m c).gpost (ix2 0 k) := by
  blk_point [iblk, V, (index_all t).2.2.2.2.1]
theorem blk5 (t : Fin cfg0.N) (k : Fin 2048) : iblk m c 5 t (ix2 0 k) = (ins m c).gpre (ix2 0 k) := by
  blk_point [iblk, V, (index_all t).2.2.2.2.2.1]
theorem blk6 (t : Fin cfg0.N) (k : Fin 2048) : iblk m c 6 t (ix2 0 k) = (ins m c).shift (ix2 0 k) := by
  blk_point [iblk, V, (index_all t).2.2.2.2.2.2.1]
theorem blk7 (t : Fin cfg0.N) (k : Fin 2048) : iblk m c 7 t (ix2 0 k) = (ins m c).scale (ix2 0 k) := by
  blk_point [iblk, V, (index_all t).2.2.2.2.2.2.2.1]

/-- After the run result 0 is the stream with the gated rows added. -/
theorem hn_final : (dats m 0 c).arrAt 8 cfg0.N = fun i => hn (ins m c) (i 0) (i 1) := by
  refine (dats m 0 c).arrAt_eq_of_covers 8 _ (by decide +kernel) fun t hf y => ?_
  have hN : cfg0.N = 8 := N_0
  have ht : t.val < 8 := hN ▸ t.isLt
  blk_simp
  rw [after0_8]
  idx_vars y
  have e0 : (((cfg0.win 8).blk t).view.emb (ix2 y0 y1)) 0 = at_ t y0 := Fin.ext (by blk_simp [(index_all t).2.2.2.2.2.2.2.2.1]; simp [mul_comm])
  have e1 : (((cfg0.win 8).blk t).view.emb (ix2 y0 y1)) 1 = y1 := Fin.ext (by blk_simp [(index_all t).2.2.2.2.2.2.2.2.1])
  refine Eq.trans ?_ (congrArg₂ (hn (ins m c)) e0.symm e1.symm)
  frame_out
  unfold_payloads
  pointwise
  simp only [blk0, blk1, blk2, blk3, blk4, blk5, blk6, blk7, Fin.sum_univ_one, Fin.isValue]
  rfl

/-- After the run result 1 is its scaled and shifted rows. -/
theorem o_final : (dats m 0 c).arrAt 9 cfg0.N = fun i => o (ins m c) (i 0) (i 1) := by
  refine (dats m 0 c).arrAt_eq_of_covers 9 _ (by decide +kernel) fun t hf y => ?_
  have hN : cfg0.N = 8 := N_0
  have ht : t.val < 8 := hN ▸ t.isLt
  blk_simp
  rw [after0_9]
  idx_vars y
  have e0 : (((cfg0.win 9).blk t).view.emb (ix2 y0 y1)) 0 = at_ t y0 := Fin.ext (by blk_simp [(index_all t).2.2.2.2.2.2.2.2.2]; simp [mul_comm])
  have e1 : (((cfg0.win 9).blk t).view.emb (ix2 y0 y1)) 1 = y1 := Fin.ext (by blk_simp [(index_all t).2.2.2.2.2.2.2.2.2])
  refine Eq.trans ?_ (congrArg₂ (o (ins m c)) e0.symm e1.symm)
  frame_out
  unfold_payloads
  pointwise
  simp only [blk0, blk1, blk2, blk3, blk4, blk5, blk6, blk7, Fin.sum_univ_one, Fin.isValue]
  rfl

end Cert.PostbPreFIdeal.Rows

namespace Cert.PostbPreFRefIdeal.Rows

open Cert.PostbPreFRefIdeal Cert.PostbPreFRefIdeal.Gen Cert.PostbPreFRefIdeal.Read Idealize.ShloMosaic Cert.NormSpec Cert.PostbPreFSpec

variable (A : In)

/-- Sums over axes of one entry. -/
theorem v23_idx (i0 : Fin 2048) (i1 : Fin 2048) : idx_main_v23 (ix2 i0 i1) = (ix3 0 i0 i1 : S1x2048x2048.Idx) := by
  blk_ext <;> omega

theorem v20_idx (i1 : Fin 2048) (i2 : Fin 2048) : idx_main_v20 (ix3 0 i1 i2) = (ix3 0 0 i2 : S1x1x2048.Idx) := by
  blk_ext <;> omega

theorem v18_idx (i1 : Fin 2048) (i2 : Fin 2048) : idx_main_v18 (ix3 0 i1 i2) = (ix3 0 0 i2 : S1x1x2048.Idx) := by
  blk_ext <;> omega

theorem v17_idx (i2 : Fin 2048) : idx_main_v17 (ix3 0 0 i2) = (ix1 i2 : S2048.Idx) := by
  blk_ext <;> omega

theorem v15_idx (i1 : Fin 2048) (i2 : Fin 2048) : idx_main_v15 (ix3 0 i1 i2) = (ix3 0 i1 0 : S1x2048x1.Idx) := by
  blk_ext <;> omega

theorem v9_idx (i1 : Fin 2048) : idx_main_v9 (ix3 0 i1 0) = (ix2 0 i1 : S1x2048.Idx) := by
  blk_ext <;> omega

theorem v8_idx (i1 : Fin 2048) (k : Fin 2048) : idx_main_v8 (ix2 0 i1) k = (ix3 0 i1 k : S1x2048x2048.Idx) := by
  blk_ext <;> omega

theorem v6_idx (i0 : Fin 2048) : idx_main_v6 (ix1 i0) = (ix2 0 i0 : S1x2048.Idx) := by
  blk_ext <;> omega

theorem v5_idx (i1 : Fin 2048) : idx_main_v5 (ix2 0 i1) = (ix2 0 i1 : S2x2048.Idx) := by
  blk_ext <;> omega

theorem v3_idx (i1 : Fin 2048) (i2 : Fin 2048) : idx_main_v3 (ix3 0 i1 i2) = (ix3 0 0 i2 : S1x1x2048.Idx) := by
  blk_ext <;> omega

theorem v2_idx (i2 : Fin 2048) : idx_main_v2 (ix3 0 0 i2) = (ix1 i2 : S2048.Idx) := by
  blk_ext <;> omega

theorem v1_idx (i0 : Fin 2048) : idx_main_v1 (ix1 i0) = (ix2 0 i0 : S1x2048.Idx) := by
  blk_ext <;> omega

theorem v0_idx (i2 : Fin 2048) : idx_main_v0 (ix3 0 0 i2) = (ix2 0 i2 : S1x2048.Idx) := by
  blk_ext <;> omega

theorem v47_idx (i0 : Fin 2048) (i1 : Fin 2048) : idx_main_v47 (ix2 i0 i1) = (ix3 0 i0 i1 : S1x2048x2048.Idx) := by
  blk_ext <;> omega

theorem v45_idx (i1 : Fin 2048) (i2 : Fin 2048) : idx_main_v45 (ix3 0 i1 i2) = (ix3 0 0 i2 : S1x1x2048.Idx) := by
  blk_ext <;> omega

theorem v44_idx (i2 : Fin 2048) : idx_main_v44 (ix3 0 0 i2) = (ix2 0 i2 : S1x2048.Idx) := by
  blk_ext <;> omega

theorem v42_idx (i1 : Fin 2048) (i2 : Fin 2048) : idx_main_v42 (ix3 0 i1 i2) = (ix3 0 0 i2 : S1x1x2048.Idx) := by
  blk_ext <;> omega

theorem v39_idx (i2 : Fin 2048) : idx_main_v39 (ix3 0 0 i2) = (ix2 0 i2 : S1x2048.Idx) := by
  blk_ext <;> omega

theorem v37_idx (i1 : Fin 2048) (i2 : Fin 2048) : idx_main_v37 (ix3 0 i1 i2) = (ix3 0 0 i2 : S1x1x2048.Idx) := by
  blk_ext <;> omega

theorem v36_idx (i2 : Fin 2048) : idx_main_v36 (ix3 0 0 i2) = (ix1 i2 : S2048.Idx) := by
  blk_ext <;> omega

theorem v34_idx (i1 : Fin 2048) (i2 : Fin 2048) : idx_main_v34 (ix3 0 i1 i2) = (ix3 0 i1 0 : S1x2048x1.Idx) := by
  blk_ext <;> omega

theorem v28_idx (i1 : Fin 2048) : idx_main_v28 (ix3 0 i1 0) = (ix2 0 i1 : S1x2048.Idx) := by
  blk_ext <;> omega

theorem v27_idx (i1 : Fin 2048) (k : Fin 2048) : idx_main_v27 (ix2 0 i1) k = (ix3 0 i1 k : S1x2048x2048.Idx) := by
  blk_ext <;> omega

theorem v25_idx (i0 : Fin 2048) : idx_main_v25 (ix1 i0) = (ix2 0 i0 : S1x2048.Idx) := by
  blk_ext <;> omega

theorem v24_idx (i1 : Fin 2048) : idx_main_v24 (ix2 0 i1) = (ix2 0 i1 : S2x2048.Idx) := by
  blk_ext <;> omega

/-- The reference's: the stream with the gated rows added. -/
theorem hn_ref : val_main_v23 (F := Ideal) A.h A.y A.bias A.gate A.gpost = fun i => hn A (i 0) (i 1) := by
  funext i
  idx_vars i
  simp only [val_main_v23_apply, v23_idx, val_main_v22_apply, val_main_v21_apply, val_main_v20_apply, v20_idx, val_main_v19_apply, val_main_v18_apply, v18_idx,
    val_main_v17_apply, v17_idx, val_main_v16_apply, val_main_v15_apply, v15_idx, val_main_v14_apply, val_main_v13_apply, val_main_v12_apply,
    val_main_v11_apply, val_main_v10_apply, val_main_v9_apply, v9_idx, val_main_v8_apply, v8_idx, val_main_v7_apply, val_main_v6_apply, v6_idx,
    val_main_v5_apply, v5_idx, val_main_v4_apply, val_main_v3_apply, v3_idx, val_main_v2_apply, v2_idx, val_main_v1_apply, v1_idx, val_main_v0_apply,
    v0_idx, val_main_cst_apply, val_main_cst_0_apply, val_main_cst_1_apply]
  pointwise
  simp only [hn, hn, ms, rs, branch]

/-- The reference's: its scaled and shifted rows. -/
theorem o_ref : val_main_v48 (F := Ideal) A.h A.y A.bias A.gate A.gpost A.gpre A.shift A.scale = fun i => o A (i 0) (i 1) := by
  funext i
  idx_vars i
  simp only [val_main_v48_apply, val_main_v47_apply, v47_idx, val_main_v46_apply, val_main_v45_apply, v45_idx, val_main_v44_apply, v44_idx, val_main_v43_apply,
    val_main_v42_apply, v42_idx, val_main_v41_apply, val_main_v40_apply, val_main_v39_apply, v39_idx, val_main_v38_apply, val_main_v37_apply, v37_idx,
    val_main_v36_apply, v36_idx, val_main_v35_apply, val_main_v34_apply, v34_idx, val_main_v33_apply, val_main_v32_apply, val_main_v31_apply,
    val_main_v30_apply, val_main_v29_apply, val_main_v28_apply, v28_idx, val_main_v27_apply, v27_idx, val_main_v26_apply, val_main_v25_apply, v25_idx,
    val_main_v24_apply, v24_idx, val_main_v22_apply, val_main_v21_apply, val_main_v20_apply, v20_idx, val_main_v19_apply, val_main_v18_apply, v18_idx,
    val_main_v17_apply, v17_idx, val_main_v16_apply, val_main_v15_apply, v15_idx, val_main_v14_apply, val_main_v13_apply, val_main_v12_apply,
    val_main_v11_apply, val_main_v10_apply, val_main_v9_apply, v9_idx, val_main_v8_apply, v8_idx, val_main_v7_apply, val_main_v6_apply, v6_idx,
    val_main_v5_apply, v5_idx, val_main_v4_apply, val_main_v3_apply, v3_idx, val_main_v2_apply, v2_idx, val_main_v1_apply, v1_idx, val_main_v0_apply,
    v0_idx, val_main_cst_apply, val_main_cst_0_apply, val_main_cst_1_apply, val_main_cst_2_apply, val_main_cst_3_apply, val_main_cst_4_apply,
    val_main_cst_5_apply]
  pointwise
  simp only [o, hn, ms, rs, branch]

end Cert.PostbPreFRefIdeal.Rows

open Idealize.ShloMosaic Idealize.SL.Sem

namespace Cert.Proof.PostbPreFClaims

/-- The kernel as printed, idealized, and the reference: each ends, its arguments unchanged, its counters at zero. -/
theorem frame_p : quiescent_PostbPreF := fun m ρ _ => PostbPreF.Gen.frame m ρ
theorem frame_pi : quiescent_PostbPreFIdeal := fun m ρ _ => PostbPreFIdeal.Gen.frame m ρ
theorem frame_ri : quiescent_PostbPreFRefIdeal := fun m ρ _ =>
  (θ_run PostbPreFRefIdeal.defs _ _).mono (fun r h => ⟨fun c => (h c).2.2, sem_eq_zero_of_no_sems (by decide) r.2⟩)
    (PostbPreFRefIdeal.Value.run (F := Ideal) m ρ)

/-- The idealized kernel's results are the reference's. -/
theorem algebraic : algebraic_PostbPreFIdeal_PostbPreFRefIdeal := by
  intro m ρ m' ρ' _ hagree
  refine ⟨_, _, PostbPreFIdeal.Value.run_blocks (F := Ideal) m ρ, ?_⟩
  refine (θ_run PostbPreFRefIdeal.defs _ _).mono (fun _ h c => ⟨(h c).1.trans ?_, (h c).2.1.trans ?_,
    (h c).2.2⟩) (PostbPreFRefIdeal.Value.run (F := Ideal) m' ρ')
  · refine (PostbPreFRefIdeal.Read.val_main_v23_eq (F := Ideal) _ _ _ _ _).trans ?_
    rw [(hagree c).1, (hagree c).2.1, (hagree c).2.2.1, (hagree c).2.2.2.1, (hagree c).2.2.2.2.1]
    exact (PostbPreFRefIdeal.Rows.hn_ref (PostbPreFIdeal.Rows.ins m c)).trans (PostbPreFIdeal.Rows.hn_final m c).symm
  · refine (PostbPreFRefIdeal.Read.val_main_v48_eq _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (PostbPreFRefIdeal.Rows.o_ref (PostbPreFIdeal.Rows.ins m c)).trans (PostbPreFIdeal.Rows.o_final m c).symm

end Cert.Proof.PostbPreFClaims
-- ==== Proof.UpFClaims.lean ====
/- The five claims about the product by w_up with the squared relu behind it. -/
module

public import proofs.«01_k».proof.Proof.Relu2Value
public import proofs.«01_k».proof.Proof.Gen.UpFIdeal.Value
public import proofs.«01_k».proof.Proof.Gen.UpFRefIdeal.Read
public import proofs.«01_k».proof.Proof.Gen.UpF.Frame

@[expose] public section

set_option maxRecDepth 16384

noncomputable section

namespace Cert.UpFSpec

open Idealize.ShloMosaic Cert.Relu2Spec

/-- The squared relu of the layer. -/
def sq (x : Rows) (u : Up) (r : Fin 2048) (f : Fin 8192) : EReal := max (pre x u r f) 0 * max (pre x u r f) 0

end Cert.UpFSpec

namespace Cert.UpFIdeal.Run

open Cert.UpFIdeal Cert.UpFIdeal.Gen Idealize.ShloMosaic Idealize.ShloMosaic.TcCoe Idealize.SL.Sem

variable (m : (ℓ : Loc nD τ sig) → Buf (Elt Ideal) ℓ)

/-- The two arguments on device `c`. -/
abbrev x (c : Dev nD) : Relu2Spec.Rows := m ((c : Thread nD τ).loc main_arg0)
abbrev u (c : Dev nD) : Relu2Spec.Up := m ((c : Thread nD τ).loc main_arg1)

/-- All rows at every point; four column blocks of a quarter of the matrix, quarter after quarter. -/
theorem index_all : ∀ t : Fin cfg0.N, win0_0.index t = ![0, 0] ∧ win0_1.index t = ![t.val / 4, 0, t.val % 4] ∧ win0_2.index t = ![0, t.val] :=
  (by decide +kernel : ∀ t : Fin grid0.N, win0_0.index t = ![0, 0] ∧ win0_1.index t = ![t.val / 4, 0, t.val % 4] ∧ win0_2.index t = ![0, t.val])

theorem col_lt (t : Fin cfg0.N) (k : Fin 512) : 512 * t.val + k.val < 8192 := by
  have := t.isLt; have : cfg0.N = 16 := N_0; omega

/-- The rows and the columns point `t` reads. -/
theorem blk_x (c : Dev nD) (t : Fin cfg0.N) (r k : Fin 2048) : iblk m c 0 t (ix2 r k) = x m c (ix3 0 r k) := by
  blk_point [iblk, V, (index_all t).1]
theorem blk_u (c : Dev nD) (t : Fin cfg0.N) (r : Fin 2048) (k : Fin 512) :
    iblk m c 1 t (ix3 0 r k) = u m c (ix2 r ⟨512 * t.val + k.val, col_lt t k⟩) := by
  blk_point [iblk, V, (index_all t).2.1]

/-- After the run the result holds the squared relu. -/
theorem sq_final (c : Dev nD) : (dats m 0 c).arrAt 2 cfg0.N = fun i => UpFSpec.sq (x m c) (u m c) (i 0) (i 1) := by
  refine (dats m 0 c).arrAt_eq_of_covers 2 _ (by decide +kernel) fun t hf y => ?_
  blk_simp
  rw [after0_2]
  idx_vars y
  have e0 : (((cfg0.win 2).blk t).view.emb (ix2 y0 y1)) 0 = y0 := Fin.ext (by blk_simp [(index_all t).2.2])
  have e1 : (((cfg0.win 2).blk t).view.emb (ix2 y0 y1)) 1 = (⟨512 * t.val + y1.val, col_lt t y1⟩ : Fin 8192) :=
    Fin.ext (by blk_simp [(index_all t).2.2]; simp [mul_comm])
  refine Eq.trans ?_ (congrArg₂ (UpFSpec.sq (x m c) (u m c)) e0.symm e1.symm)
  frame_out
  unfold_payloads
  pointwise
  simp only [blk_x, blk_u, Relu2Spec.lit_zero]
  rfl

end Cert.UpFIdeal.Run

namespace Cert.UpFRefIdeal.Run

open Cert.UpFRefIdeal Cert.UpFRefIdeal.Gen Cert.UpFRefIdeal.Read Idealize.ShloMosaic

/-- The reference's squared relu. -/
theorem sq_ref (x : Relu2Spec.Rows) (u : Relu2Spec.Up) : val_main_v4 (F := Ideal) x u = fun i => UpFSpec.sq x u (i 0) (i 1) := by
  funext i
  idx_vars i
  have hpre : val_main_v0 (F := Ideal) x u (ix3 0 i0 i1) = Relu2Spec.pre x u i0 i1 := by
    rw [val_main_v0_apply]
    refine Finset.sum_congr rfl fun k _ => congrArg₂ (fun a b => x a * u b) ?_ ?_ <;> blk_ext
  rw [val_main_v4_apply, val_main_v3_apply, show idx_main_v3 (ix2 i0 i1) = ix3 0 i0 i1 by blk_ext]
  simp only [val_main_v2_apply, val_main_v1_apply, val_main_call0_v0_apply, val_main_call0_cst_apply, hpre]
  pointwise
  rfl

end Cert.UpFRefIdeal.Run

open Idealize.ShloMosaic Idealize.SL.Sem

namespace Cert.Proof.UpFClaims

/-- The kernel as printed, idealized, and the reference: each ends, its arguments unchanged, its counters at zero. -/
theorem frame_p : quiescent_UpF := fun m ρ _ => UpF.Gen.frame m ρ
theorem frame_pi : quiescent_UpFIdeal := fun m ρ _ => UpFIdeal.Gen.frame m ρ
theorem frame_ri : quiescent_UpFRefIdeal := fun m ρ _ =>
  (θ_run UpFRefIdeal.defs _ _).mono (fun r h => ⟨fun c => (h c).2, sem_eq_zero_of_no_sems (by decide) r.2⟩)
    (UpFRefIdeal.Value.run (F := Ideal) m ρ)

/-- The idealized kernel's result is the reference's squared relu. -/
theorem algebraic : algebraic_UpFIdeal_UpFRefIdeal := by
  intro m ρ m' ρ' _ hagree
  refine ⟨_, UpFIdeal.Value.run_blocks (F := Ideal) m ρ, ?_⟩
  refine (θ_run UpFRefIdeal.defs _ _).mono (fun _ h c => ⟨(h c).1.trans ?_, (h c).2⟩)
    (UpFRefIdeal.Value.run (F := Ideal) m' ρ')
  rw [UpFRefIdeal.Read.val_main_v4_eq, (hagree c).1, (hagree c).2]
  exact (UpFRefIdeal.Run.sq_ref _ _).trans (UpFIdeal.Run.sq_final m c).symm

end Cert.Proof.UpFClaims
-- ==== Proof.PostTwinFClaims.lean ====
/- The claims about the call of the gated post-norm, the residual and the two pre-norms that read it. -/
module

public import proofs.«01_k».proof.Proof.NormSpec
public import proofs.«01_k».proof.Proof.Gen.PostTwinFIdeal.Value
public import proofs.«01_k».proof.Proof.Gen.PostTwinFRefIdeal.Read
public import proofs.«01_k».proof.Defs
public import proofs.«01_k».proof.Proof.Gen.PostTwinF.Frame

@[expose] public section

set_option maxRecDepth 16384

noncomputable section

namespace Cert.PostTwinFSpec

open Idealize.ShloMosaic Cert.NormSpec

/-- The arguments. -/
structure In where
  h : (⟨3, ![1, 2048, 2048]⟩ : Shape).Idx → EReal
  y : (⟨3, ![1, 2048, 2048]⟩ : Shape).Idx → EReal
  gate : (⟨2, ![1, 2048]⟩ : Shape).Idx → EReal
  gpost : (⟨2, ![2, 2048]⟩ : Shape).Idx → EReal
  gkv : (⟨1, ![2048]⟩ : Shape).Idx → EReal
  kvshift : (⟨2, ![1, 2048]⟩ : Shape).Idx → EReal
  kvscale : (⟨2, ![1, 2048]⟩ : Shape).Idx → EReal
  gpre : (⟨2, ![2, 2048]⟩ : Shape).Idx → EReal
  shift : (⟨2, ![1, 2048]⟩ : Shape).Idx → EReal
  scale : (⟨2, ![1, 2048]⟩ : Shape).Idx → EReal

variable (A : In)

/-- Row `r` of the branch. -/
abbrev branch (r : Fin 2048) : Fin 2048 → EReal := fun k => A.y (ix3 0 r k)

/-- The stream plus the gate times the normalized branch times the gain. -/
def hn (r k : Fin 2048) : EReal := A.h (ix3 0 r k) + A.gate (ix2 0 k) * (A.y (ix3 0 r k) * rs wide (branch A r) * A.gpost (ix2 0 k))

/-- The sum normalized, times the keys' gain, times one plus their scale, plus their shift. -/
def kv (r k : Fin 2048) : EReal := hn A r k * rs wide (hn A r) * A.gkv (ix1 k) * (1 + A.kvscale (ix2 0 k)) + A.kvshift (ix2 0 k)

/-- The same for the queries. -/
def o (r k : Fin 2048) : EReal := hn A r k * rs wide (hn A r) * A.gpre (ix2 1 k) * (1 + A.scale (ix2 0 k)) + A.shift (ix2 0 k)

end Cert.PostTwinFSpec

namespace Cert.PostTwinFIdeal.Rows

open Cert.PostTwinFIdeal Cert.PostTwinFIdeal.Gen Idealize.ShloMosaic Idealize.ShloMosaic.TcCoe Idealize.SL.Sem Cert.NormSpec Cert.PostTwinFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![t.val, 0] ∧ win0_11.index t = ![t.val, 0] ∧ win0_12.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (x : Fin 256) (k : Fin 2048) : iblk m c 1 t (ix2 x k) = (ins m c).y (ix3 0 (at_ t x) k) := by
  blk_point [iblk, V, (index_all t).2.1]
theorem blk2 (t : Fin cfg0.N) (k : Fin 2048) : iblk m c 2 t (ix2 0 k) = (ins m c).gate (ix2 0 k) := by
  blk_point [iblk, V, (index_all t).2.2.1]
theorem blk3 (t : Fin cfg0.N) (k : Fin 2048) : iblk m c 3 t (ix2 0 k) = (ins m c).gpost (ix2 0 k) := by
  blk_point [iblk, V, (index_all t).2.2.2.1]
theorem blk4 (t : Fin cfg0.N) (k : Fin 2048) : iblk m c 4 t (ix2 0 k) = (ins m c).gkv (ix1 k) := by
  blk_point [iblk, V, (index_all t).2.2.2.2.1]
theorem blk5 (t : Fin cfg0.N) (k : Fin 2048) : iblk m c 5 t (ix2 0 k) = (ins m c).kvshift (ix2 0 k) := by
  blk_point [iblk, V, (index_all t).2.2.2.2.2.1]
theorem blk6 (t : Fin cfg0.N) (k : Fin 2048) : iblk m c 6 t (ix2 0 k) = (ins m c).kvscale (ix2 0 k) := by
  blk_point [iblk, V, (index_all t).2.2.2.2.2.2.1]
theorem blk7 (t : Fin cfg0.N) (k : Fin 2048) : iblk m c 7 t (ix2 0 k) = (ins m c).gpre (ix2 1 k) := by
  blk_point [iblk, V, (index_all t).2.2.2.2.2.2.2.1]
theorem blk8 (t : Fin cfg0.N) (k : Fin 2048) : iblk m c 8 t (ix2 0 k) = (ins m c).shift (ix2 0 k) := by
  blk_point [iblk, V, (index_all t).2.2.2.2.2.2.2.2.1]
theorem blk9 (t : Fin cfg0.N) (k : Fin 2048) : iblk m c 9 t (ix2 0 k) = (ins m c).scale (ix2 0 k) := by
  blk_point [iblk, V, (index_all t).2.2.2.2.2.2.2.2.2.1]

/-- After the run result 0 is the stream with the gated rows added. -/
theorem hn_final : (dats m 0 c).arrAt 10 cfg0.N = fun i => hn (ins m c) (i 0) (i 1) := by
  refine (dats m 0 c).arrAt_eq_of_covers 10 _ (by decide +kernel) fun t hf y => ?_
  have hN : cfg0.N = 8 := N_0
  have ht : t.val < 8 := hN ▸ t.isLt
  blk_simp
  rw [after0_10]
  idx_vars y
  have e0 : (((cfg0.win 10).blk t).view.emb (ix2 y0 y1)) 0 = at_ t y0 := Fin.ext (by blk_simp [(index_all t).2.2.2.2.2.2.2.2.2.2.1]; simp [mul_comm])
  have e1 : (((cfg0.win 10).blk t).view.emb (ix2 y0 y1)) 1 = y1 := Fin.ext (by blk_simp [(index_all t).2.2.2.2.2.2.2.2.2.2.1])
  refine Eq.trans ?_ (congrArg₂ (hn (ins m c)) e0.symm e1.symm)
  frame_out
  unfold_payloads
  pointwise
  simp only [blk0, blk1, blk2, blk3, blk4, blk5, blk6, blk7, blk8, blk9, Fin.sum_univ_one, Fin.isValue]
  rfl

/-- After the run result 1 is the keys' scaled and shifted rows. -/
theorem kv_final : (dats m 0 c).arrAt 11 cfg0.N = fun i => kv (ins m c) (i 0) (i 1) := by
  refine (dats m 0 c).arrAt_eq_of_covers 11 _ (by decide +kernel) fun t hf y => ?_
  have hN : cfg0.N = 8 := N_0
  have ht : t.val < 8 := hN ▸ t.isLt
  blk_simp
  rw [after0_11]
  idx_vars y
  have e0 : (((cfg0.win 11).blk t).view.emb (ix2 y0 y1)) 0 = at_ t y0 := Fin.ext (by blk_simp [(index_all t).2.2.2.2.2.2.2.2.2.2.2.1]; simp [mul_comm])
  have e1 : (((cfg0.win 11).blk t).view.emb (ix2 y0 y1)) 1 = y1 := Fin.ext (by blk_simp [(index_all t).2.2.2.2.2.2.2.2.2.2.2.1])
  refine Eq.trans ?_ (congrArg₂ (kv (ins m c)) e0.symm e1.symm)
  frame_out
  unfold_payloads
  pointwise
  simp only [blk0, blk1, blk2, blk3, blk4, blk5, blk6, blk7, blk8, blk9, Fin.sum_univ_one, Fin.isValue]
  rfl

/-- After the run result 2 is the queries'. -/
theorem o_final : (dats m 0 c).arrAt 12 cfg0.N = fun i => o (ins m c) (i 0) (i 1) := by
  refine (dats m 0 c).arrAt_eq_of_covers 12 _ (by decide +kernel) fun t hf y => ?_
  have hN : cfg0.N = 8 := N_0
  have ht : t.val < 8 := hN ▸ t.isLt
  blk_simp
  rw [after0_12]
  idx_vars y
  have e0 : (((cfg0.win 12).blk t).view.emb (ix2 y0 y1)) 0 = at_ t y0 := Fin.ext (by blk_simp [(index_all t).2.2.2.2.2.2.2.2.2.2.2.2]; simp [mul_comm])
  have e1 : (((cfg0.win 12).blk t).view.emb (ix2 y0 y1)) 1 = y1 := Fin.ext (by blk_simp [(index_all t).2.2.2.2.2.2.2.2.2.2.2.2])
  refine Eq.trans ?_ (congrArg₂ (o (ins m c)) e0.symm e1.symm)
  frame_out
  unfold_payloads
  pointwise
  simp only [blk0, blk1, blk2, blk3, blk4, blk5, blk6, blk7, blk8, blk9, Fin.sum_univ_one, Fin.isValue]
  rfl

end Cert.PostTwinFIdeal.Rows

namespace Cert.PostTwinFRefIdeal.Rows

open Cert.PostTwinFRefIdeal Cert.PostTwinFRefIdeal.Gen Cert.PostTwinFRefIdeal.Read Idealize.ShloMosaic Cert.NormSpec Cert.PostTwinFSpec

variable (A : In)

/-- Sums over axes of one entry. -/
theorem v63_idx (i0 : Fin 2048) (i1 : Fin 2048) : idx_main_v63 (ix2 i0 i1) = (ix3 0 i0 i1 : S1x2048x2048.Idx) := by
  blk_ext <;> omega

theorem v16_idx (i1 : Fin 2048) (i2 : Fin 2048) : idx_main_v16 (ix3 0 i1 i2) = (ix3 0 0 i2 : S1x1x2048.Idx) := by
  blk_ext <;> omega

theorem v14_idx (i1 : Fin 2048) (i2 : Fin 2048) : idx_main_v14 (ix3 0 i1 i2) = (ix3 0 0 i2 : S1x1x2048.Idx) := by
  blk_ext <;> omega

theorem v13_idx (i2 : Fin 2048) : idx_main_v13 (ix3 0 0 i2) = (ix1 i2 : S2048.Idx) := by
  blk_ext <;> omega

theorem v11_idx (i1 : Fin 2048) (i2 : Fin 2048) : idx_main_v11 (ix3 0 i1 i2) = (ix3 0 i1 0 : S1x2048x1.Idx) := by
  blk_ext <;> omega

theorem v5_idx (i1 : Fin 2048) : idx_main_v5 (ix3 0 i1 0) = (ix2 0 i1 : S1x2048.Idx) := by
  blk_ext <;> omega

theorem v4_idx (i1 : Fin 2048) (k : Fin 2048) : idx_main_v4 (ix2 0 i1) k = (ix3 0 i1 k : S1x2048x2048.Idx) := by
  blk_ext <;> omega

theorem v2_idx (i0 : Fin 2048) : idx_main_v2 (ix1 i0) = (ix2 0 i0 : S1x2048.Idx) := by
  blk_ext <;> omega

theorem v1_idx (i1 : Fin 2048) : idx_main_v1 (ix2 0 i1) = (ix2 0 i1 : S2x2048.Idx) := by
  blk_ext <;> omega

theorem v0_idx (i2 : Fin 2048) : idx_main_v0 (ix3 0 0 i2) = (ix2 0 i2 : S1x2048.Idx) := by
  blk_ext <;> omega

theorem v64_idx (i0 : Fin 2048) (i1 : Fin 2048) : idx_main_v64 (ix2 i0 i1) = (ix3 0 i0 i1 : S1x2048x2048.Idx) := by
  blk_ext <;> omega

theorem v38_idx (i1 : Fin 2048) (i2 : Fin 2048) : idx_main_v38 (ix3 0 i1 i2) = (ix3 0 0 i2 : S1x1x2048.Idx) := by
  blk_ext <;> omega

theorem v37_idx (i2 : Fin 2048) : idx_main_v37 (ix3 0 0 i2) = (ix2 0 i2 : S1x2048.Idx) := by
  blk_ext <;> omega

theorem v35_idx (i1 : Fin 2048) (i2 : Fin 2048) : idx_main_v35 (ix3 0 i1 i2) = (ix3 0 0 i2 : S1x1x2048.Idx) := by
  blk_ext <;> omega

theorem v32_idx (i2 : Fin 2048) : idx_main_v32 (ix3 0 0 i2) = (ix2 0 i2 : S1x2048.Idx) := by
  blk_ext <;> omega

theorem v30_idx (i1 : Fin 2048) (i2 : Fin 2048) : idx_main_v30 (ix3 0 i1 i2) = (ix3 0 0 i2 : S1x1x2048.Idx) := by
  blk_ext <;> omega

theorem v29_idx (i2 : Fin 2048) : idx_main_v29 (ix3 0 0 i2) = (ix1 i2 : S2048.Idx) := by
  blk_ext <;> omega

theorem v27_idx (i1 : Fin 2048) (i2 : Fin 2048) : idx_main_v27 (ix3 0 i1 i2) = (ix3 0 i1 0 : S1x2048x1.Idx) := by
  blk_ext <;> omega

theorem v21_idx (i1 : Fin 2048) : idx_main_v21 (ix3 0 i1 0) = (ix2 0 i1 : S1x2048.Idx) := by
  blk_ext <;> omega

theorem v20_idx (i1 : Fin 2048) (k : Fin 2048) : idx_main_v20 (ix2 0 i1) k = (ix3 0 i1 k : S1x2048x2048.Idx) := by
  blk_ext <;> omega

theorem v66_idx (i0 : Fin 2048) (i1 : Fin 2048) : idx_main_v66 (ix2 i0 i1) = (ix3 0 i0 i1 : S1x2048x2048.Idx) := by
  blk_ext <;> omega

theorem v61_idx (i1 : Fin 2048) (i2 : Fin 2048) : idx_main_v61 (ix3 0 i1 i2) = (ix3 0 0 i2 : S1x1x2048.Idx) := by
  blk_ext <;> omega

theorem v60_idx (i2 : Fin 2048) : idx_main_v60 (ix3 0 0 i2) = (ix2 0 i2 : S1x2048.Idx) := by
  blk_ext <;> omega

theorem v58_idx (i1 : Fin 2048) (i2 : Fin 2048) : idx_main_v58 (ix3 0 i1 i2) = (ix3 0 0 i2 : S1x1x2048.Idx) := by
  blk_ext <;> omega

theorem v55_idx (i2 : Fin 2048) : idx_main_v55 (ix3 0 0 i2) = (ix2 0 i2 : S1x2048.Idx) := by
  blk_ext <;> omega

theorem v53_idx (i1 : Fin 2048) (i2 : Fin 2048) : idx_main_v53 (ix3 0 i1 i2) = (ix3 0 0 i2 : S1x1x2048.Idx) := by
  blk_ext <;> omega

theorem v52_idx (i2 : Fin 2048) : idx_main_v52 (ix3 0 0 i2) = (ix1 i2 : S2048.Idx) := by
  blk_ext <;> omega

theorem v50_idx (i1 : Fin 2048) (i2 : Fin 2048) : idx_main_v50 (ix3 0 i1 i2) = (ix3 0 i1 0 : S1x2048x1.Idx) := by
  blk_ext <;> omega

theorem v44_idx (i1 : Fin 2048) : idx_main_v44 (ix3 0 i1 0) = (ix2 0 i1 : S1x2048.Idx) := by
  blk_ext <;> omega

theorem v43_idx (i1 : Fin 2048) (k : Fin 2048) : idx_main_v43 (ix2 0 i1) k = (ix3 0 i1 k : S1x2048x2048.Idx) := by
  blk_ext <;> omega

theorem v41_idx (i0 : Fin 2048) : idx_main_v41 (ix1 i0) = (ix2 0 i0 : S1x2048.Idx) := by
  blk_ext <;> omega

theorem v40_idx (i1 : Fin 2048) : idx_main_v40 (ix2 0 i1) = (ix2 1 i1 : S2x2048.Idx) := by
  blk_ext <;> omega

/-- The reference's: the stream with the gated rows added. -/
theorem hn_ref : val_main_v63 (F := Ideal) A.h A.y A.gate A.gpost = fun i => hn A (i 0) (i 1) := by
  funext i
  idx_vars i
  simp only [val_main_v63_apply, v63_idx, val_main_v18_apply, val_main_v17_apply, val_main_v16_apply, v16_idx, val_main_v15_apply, val_main_v14_apply, v14_idx,
    val_main_v13_apply, v13_idx, val_main_v12_apply, val_main_v11_apply, v11_idx, val_main_v10_apply, val_main_v9_apply, val_main_v8_apply,
    val_main_v7_apply, val_main_v6_apply, val_main_v5_apply, v5_idx, val_main_v4_apply, v4_idx, val_main_v3_apply, val_main_v2_apply, v2_idx,
    val_main_v1_apply, v1_idx, val_main_v0_apply, v0_idx, val_main_cst_apply, val_main_cst_0_apply, val_main_cst_1_apply]
  pointwise
  simp only [hn, hn, ms, rs, branch]

/-- The reference's: the keys' scaled and shifted rows. -/
theorem kv_ref : val_main_v65 (F := Ideal) A.h A.y A.gate A.gpost A.gkv A.kvshift A.kvscale = fun i => kv A (i 0) (i 1) := by
  funext i
  idx_vars i
  simp only [val_main_v65_apply, val_main_v64_apply, v64_idx, val_main_v39_apply, val_main_v38_apply, v38_idx, val_main_v37_apply, v37_idx, val_main_v36_apply,
    val_main_v35_apply, v35_idx, val_main_v34_apply, val_main_v33_apply, val_main_v32_apply, v32_idx, val_main_v31_apply, val_main_v30_apply, v30_idx,
    val_main_v29_apply, v29_idx, val_main_v28_apply, val_main_v27_apply, v27_idx, val_main_v26_apply, val_main_v25_apply, val_main_v24_apply,
    val_main_v23_apply, val_main_v22_apply, val_main_v21_apply, v21_idx, val_main_v20_apply, v20_idx, val_main_v19_apply, val_main_v18_apply,
    val_main_v17_apply, val_main_v16_apply, v16_idx, val_main_v15_apply, val_main_v14_apply, v14_idx, val_main_v13_apply, v13_idx, val_main_v12_apply,
    val_main_v11_apply, v11_idx, val_main_v10_apply, val_main_v9_apply, val_main_v8_apply, val_main_v7_apply, val_main_v6_apply, val_main_v5_apply, v5_idx,
    val_main_v4_apply, v4_idx, val_main_v3_apply, val_main_v2_apply, v2_idx, val_main_v1_apply, v1_idx, val_main_v0_apply, v0_idx, val_main_cst_apply,
    val_main_cst_0_apply, val_main_cst_1_apply, val_main_cst_2_apply, val_main_cst_3_apply, val_main_cst_4_apply, val_main_cst_5_apply]
  pointwise
  simp only [kv, hn, ms, rs, branch]

/-- The reference's: the queries'. -/
theorem o_ref : val_main_v67 (F := Ideal) A.h A.y A.gate A.gpost A.gpre A.shift A.scale = fun i => o A (i 0) (i 1) := by
  funext i
  idx_vars i
  simp only [val_main_v67_apply, val_main_v66_apply, v66_idx, val_main_v62_apply, val_main_v61_apply, v61_idx, val_main_v60_apply, v60_idx, val_main_v59_apply,
    val_main_v58_apply, v58_idx, val_main_v57_apply, val_main_v56_apply, val_main_v55_apply, v55_idx, val_main_v54_apply, val_main_v53_apply, v53_idx,
    val_main_v52_apply, v52_idx, val_main_v51_apply, val_main_v50_apply, v50_idx, val_main_v49_apply, val_main_v48_apply, val_main_v47_apply,
    val_main_v46_apply, val_main_v45_apply, val_main_v44_apply, v44_idx, val_main_v43_apply, v43_idx, val_main_v42_apply, val_main_v41_apply, v41_idx,
    val_main_v40_apply, v40_idx, val_main_v18_apply, val_main_v17_apply, val_main_v16_apply, v16_idx, val_main_v15_apply, val_main_v14_apply, v14_idx,
    val_main_v13_apply, v13_idx, val_main_v12_apply, val_main_v11_apply, v11_idx, val_main_v10_apply, val_main_v9_apply, val_main_v8_apply,
    val_main_v7_apply, val_main_v6_apply, val_main_v5_apply, v5_idx, val_main_v4_apply, v4_idx, val_main_v3_apply, val_main_v2_apply, v2_idx,
    val_main_v1_apply, v1_idx, val_main_v0_apply, v0_idx, val_main_cst_apply, val_main_cst_0_apply, val_main_cst_1_apply, val_main_cst_6_apply,
    val_main_cst_7_apply, val_main_cst_8_apply, val_main_cst_9_apply]
  pointwise
  simp only [o, hn, ms, rs, branch]

end Cert.PostTwinFRefIdeal.Rows

open Idealize.ShloMosaic Idealize.SL.Sem

namespace Cert.Proof.PostTwinFClaims

/-- The kernel as printed, idealized, and the reference: each ends, its arguments unchanged, its counters at zero. -/
theorem frame_p : quiescent_PostTwinF := fun m ρ _ => PostTwinF.Gen.frame m ρ
theorem frame_pi : quiescent_PostTwinFIdeal := fun m ρ _ => PostTwinFIdeal.Gen.frame m ρ
theorem frame_ri : quiescent_PostTwinFRefIdeal := fun m ρ _ =>
  (θ_run PostTwinFRefIdeal.defs _ _).mono (fun r h => ⟨fun c => (h c).2.2.2, sem_eq_zero_of_no_sems (by decide) r.2⟩)
    (PostTwinFRefIdeal.Value.run (F := Ideal) m ρ)

/-- The idealized kernel's results are the reference's. -/
theorem algebraic : algebraic_PostTwinFIdeal_PostTwinFRefIdeal := by
  intro m ρ m' ρ' _ hagree
  refine ⟨_, _, _, PostTwinFIdeal.Value.run_blocks (F := Ideal) m ρ, ?_⟩
  refine (θ_run PostTwinFRefIdeal.defs _ _).mono (fun _ h c => ⟨(h c).1.trans ?_, (h c).2.1.trans ?_, (h c).2.2.1.trans ?_,
    (h c).2.2.2⟩) (PostTwinFRefIdeal.Value.run (F := Ideal) m' ρ')
  · refine (PostTwinFRefIdeal.Read.val_main_v63_eq (F := Ideal) _ _ _ _).trans ?_
    rw [(hagree c).1, (hagree c).2.1, (hagree c).2.2.1, (hagree c).2.2.2.1]
    exact (PostTwinFRefIdeal.Rows.hn_ref (PostTwinFIdeal.Rows.ins m c)).trans (PostTwinFIdeal.Rows.hn_final m c).symm
  · refine (PostTwinFRefIdeal.Read.val_main_v65_eq _ _).trans ?_
    rw [(hagree c).1, (hagree c).2.1, (hagree c).2.2.1, (hagree c).2.2.2.1, (hagree c).2.2.2.2.1, (hagree c).2.2.2.2.2.1, (hagree c).2.2.2.2.2.2.1]
    exact (PostTwinFRefIdeal.Rows.kv_ref (PostTwinFIdeal.Rows.ins m c)).trans (PostTwinFIdeal.Rows.kv_final m c).symm
  · refine (PostTwinFRefIdeal.Read.val_main_v67_eq _ _).trans ?_
    rw [(hagree c).1, (hagree c).2.1, (hagree c).2.2.1, (hagree c).2.2.2.1, (hagree c).2.2.2.2.2.2.2.1, (hagree c).2.2.2.2.2.2.2.2.1, (hagree c).2.2.2.2.2.2.2.2.2]
    exact (PostTwinFRefIdeal.Rows.o_ref (PostTwinFIdeal.Rows.ins m c)).trans (PostTwinFIdeal.Rows.o_final m c).symm

end Cert.Proof.PostTwinFClaims
-- ==== Proof.LatFClaims.lean ====
/- The claims about the call of the latents' norms and the shared key's rotary embedding. -/
module

public import proofs.«01_k».proof.Proof.NormSpec
public import proofs.«01_k».proof.Proof.RopeValue
public import proofs.«01_k».proof.Proof.Gen.LatFIdeal.Value
public import proofs.«01_k».proof.Proof.Gen.LatFRefIdeal.Read
public import proofs.«01_k».proof.Proof.Gen.LatF.Frame

@[expose] public section

set_option maxRecDepth 16384

noncomputable section

namespace Cert.LatFSpec

open Idealize.ShloMosaic Cert.NormSpec

/-- The arguments. -/
structure In where
  pos : (⟨2, ![1, 2048]⟩ : Shape).Idx → BitVec 32
  dkv : (⟨3, ![1, 2048, 512]⟩ : Shape).Idx → EReal
  kr : (⟨3, ![1, 2048, 64]⟩ : Shape).Idx → EReal
  dq : (⟨3, ![1, 2048, 512]⟩ : Shape).Idx → EReal
  gckv : (⟨1, ![512]⟩ : Shape).Idx → EReal
  gcq : (⟨2, ![1, 512]⟩ : Shape).Idx → EReal

variable (A : In)

/-- The angle of row `r` at frequency `k`. -/
def In.angle (r : Fin 2048) (k : ℕ) : EReal :=
  FloatOps.sitofp (F := Ideal) .f32 (A.pos (ix2 0 r)) * Ideal.div 1 (Ideal.pow (Ideal.ofBits .f32 1176256512#32)
    (Ideal.div (Ideal.ofBits .f32 1073741824#32 * FloatOps.sitofp (F := Ideal) .f32 (BitVec.ofNat 32 k)) (Ideal.ofBits .f32 1115684864#32)))

/-- The latents' length. -/
abbrev short : EReal := Ideal.ofBits .f32 1140850688#32

/-- Row `r` of each latent. -/
abbrev rowkv (r : Fin 2048) : Fin 512 → EReal := fun k => A.dkv (ix3 0 r k)
abbrev rowq (r : Fin 2048) : Fin 512 → EReal := fun k => A.dq (ix3 0 r k)

/-- The rotary key: the rotation by the row's angle. -/
def turn (r : Fin 2048) (q : Fin 64) : EReal :=
  if h : q.val < 32 then
    A.kr (ix3 0 r q) * Ideal.cos (A.angle r q.val) - A.kr (ix3 0 r ⟨32 + q.val, by omega⟩) * Ideal.sin (A.angle r q.val)
  else
    A.kr (ix3 0 r ⟨32 + (q.val - 32), by omega⟩) * Ideal.cos (A.angle r (q.val - 32)) + A.kr (ix3 0 r ⟨q.val - 32, by omega⟩) * Ideal.sin (A.angle r (q.val - 32))

/-- One lane of the kernel's rotation, with the lanes behind the key at zero. -/
theorem turn_lane (r : Fin 2048) (l : ℕ) (hl : l < 128) :
    (if h : l < 64 then A.kr (ix3 0 r ⟨l, h⟩) else 0) * Ideal.cos (A.angle r (l % 32)) +
      Scalar.select (if l % 64 < 32 then 1#1 else 0#1)
        (if h : (l + 128 - 96) % 128 < 64 then A.kr (ix3 0 r ⟨(l + 128 - 96) % 128, h⟩) else 0)
        (if h : (l + 128 - 32) % 128 < 64 then A.kr (ix3 0 r ⟨(l + 128 - 32) % 128, h⟩) else 0) *
        (if l % 64 < 32 then -Ideal.sin (A.angle r (l % 32)) else Ideal.sin (A.angle r (l % 32))) =
      if h : l < 64 then turn A r ⟨l, h⟩ else 0 := by
  unfold turn
  have sel1 (a b : EReal) : Scalar.select 1#1 a b = a := rfl
  have sel0 (a b : EReal) : Scalar.select 0#1 a b = b := rfl
  by_cases h64 : l < 64
  · by_cases h32 : l < 32
    · have e1 : l % 32 = l := by omega
      have e2 : (l + 128 - 96) % 128 = 32 + l := by omega
      have e3 : l % 64 < 32 := by omega
      simp only [dif_pos h64, dif_pos h32, e1, e2, if_pos e3, sel1, dif_pos (show 32 + l < 64 by omega), mul_neg, ← sub_eq_add_neg]
    · have e1 : l % 32 = l - 32 := by omega
      have e2 : (l + 128 - 32) % 128 = l - 32 := by omega
      have e3 : ¬l % 64 < 32 := by omega
      simp only [dif_pos h64, dif_neg h32, e1, e2, if_neg e3, sel0, dif_pos (show l - 32 < 64 by omega), show 32 + (l - 32) = l by omega]
  · by_cases e3 : l % 64 < 32
    · simp only [dif_neg h64, if_pos e3, sel1, dif_neg (show ¬(l + 128 - 96) % 128 < 64 by omega), zero_mul, add_zero]
    · simp only [dif_neg h64, if_neg e3, sel0, dif_neg (show ¬(l + 128 - 32) % 128 < 64 by omega), zero_mul, add_zero]

/-- The normalized keys and values times their gain. -/
def ckv (r : Fin 2048) (k : Fin 512) : EReal := A.dkv (ix3 0 r k) * rs short (rowkv A r) * A.gckv (ix1 k)
/-- The rotary key, with zeros behind. -/
def krope (r : Fin 2048) (j : Fin 128) : EReal := if h : j.val < 64 then turn A r ⟨j.val, h⟩ else 0
/-- The normalized queries times their gain. -/
def cq (r : Fin 2048) (k : Fin 512) : EReal := A.dq (ix3 0 r k) * rs short (rowq A r) * A.gcq (ix2 0 k)

end Cert.LatFSpec

namespace Cert.LatFIdeal.Rows

open Cert.LatFIdeal Cert.LatFIdeal.Gen Idealize.ShloMosaic Idealize.ShloMosaic.TcCoe Idealize.SL.Sem Cert.NormSpec Cert.LatFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧
    win0_5.index t = ![0, 0] ∧ win0_6.index t = ![t.val, 0] ∧ win0_7.index t = ![t.val, 0] ∧ win0_8.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- The host's array for the launch: the cosines, four times side by side. -/
theorem host_v20 (r : Fin 2048) (k : Fin 128) : (V m c main_v20 : S2048x128.Idx → EReal) (ix2 r k) = Ideal.cos ((ins m c).angle r (k.val % 32)) := by
  show StableHlo.after (List.flatten [hostOps0, hostOps0_1, hostOps0_2]) (fun b => m (c, b)) main_v20 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise
  after_results_simp
  pointwise
  exact four_pieces (fun n => Ideal.cos ((ins m c).angle r n)) k.val k.isLt

/-- The host's array for the launch: the sines, negated on the first half of each head. -/
theorem host_v23 (r : Fin 2048) (k : Fin 128) : (V m c main_v23 : S2048x128.Idx → EReal) (ix2 r k) = if k.val % 64 < 32 then -Ideal.sin ((ins m c).angle r (k.val % 32)) else Ideal.sin ((ins m c).angle r (k.val % 32)) := by
  show StableHlo.after (List.flatten [hostOps0, hostOps0_1, hostOps0_2]) (fun b => m (c, b)) main_v23 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise
  after_results_simp
  pointwise
  exact four_pieces_neg (fun n => Ideal.sin ((ins m c).angle r n)) k.val k.isLt

/-- The host's array for the launch: the keys and values. -/
theorem host_v27 (r : Fin 2048) (k : Fin 512) : (V m c main_v27 : S2048x640.Idx → EReal) (ix2 r ⟨k.val, by omega⟩) = (ins m c).dkv (ix3 0 r k) := by
  show StableHlo.after (List.flatten [hostOps0, hostOps0_1, hostOps0_2]) (fun b => m (c, b)) main_v27 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the queries. -/
theorem host_v28 (r : Fin 2048) (k : Fin 512) : (V m c main_v28 : S2048x512.Idx → EReal) (ix2 r k) = (ins m c).dq (ix3 0 r k) := by
  show StableHlo.after (List.flatten [hostOps0, hostOps0_1, hostOps0_2]) (fun b => m (c, b)) main_v28 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the keys' gain. -/
theorem host_v29 (k : Fin 512) : (V m c main_v29 : S1x512.Idx → EReal) (ix2 0 k) = (ins m c).gckv (ix1 k) := by
  show StableHlo.after (List.flatten [hostOps0, hostOps0_1, hostOps0_2]) (fun b => m (c, b)) main_v29 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the queries' gain. -/
theorem host_v31 (k : Fin 512) : (V m c main_v31 : S1x512.Idx → EReal) (ix2 0 k) = (ins m c).gcq (ix2 0 k) := by
  show StableHlo.after (List.flatten [hostOps0, hostOps0_1, hostOps0_2]) (fun b => m (c, b)) main_v31 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise

/-- The host's array for the launch: the rotary key with zeros behind. -/
theorem host_v27r (r : Fin 2048) (k : Fin 128) : (V m c main_v27 : S2048x640.Idx → EReal) (ix2 r ⟨512 + k.val, by omega⟩) = if h : k.val < 64 then (ins m c).kr (ix3 0 r ⟨k.val, h⟩) else 0 := by
  show StableHlo.after (List.flatten [hostOps0, hostOps0_1, hostOps0_2]) (fun b => m (c, b)) main_v27 _ = _
  simp only [hostOps0, hostOps0_1, hostOps0_2, List.flatten_cons, List.flatten_nil, List.cons_append, List.nil_append, List.append_nil,
    StableHlo.TRef.unary, StableHlo.TRef.binary, StableHlo.TRef.toBuf, StableHlo.TRef.ofBuf, cast_eq]
  after_results_simp
  pointwise
  refine dite_congr rfl (fun _ => rfl) (fun _ => ?_)
  show (((0#32 : BitVec 32).toInt : ℝ) : EReal) = 0
  simp

/-- What point `t`'s blocks read. -/
theorem blk0 (t : Fin cfg0.N) (x : Fin 256) (k : Fin 512) : iblk m c 0 t (ix2 x ⟨k.val, by omega⟩) = (ins m c).dkv (ix3 0 (at_ t x) k) := by
  have e : ((cfg0.win 0).blk t).view.emb (ix2 x ⟨k.val, by omega⟩) = ix2 (at_ t x) ⟨k.val, by omega⟩ := by blk_ext [(index_all t).1]
  show (V m c main_v27 : _ → EReal) (((cfg0.win 0).blk t).view.emb (ix2 x ⟨k.val, by omega⟩)) = _
  rw [e]
  exact host_v27 m c (at_ t x) k
theorem blk1 (t : Fin cfg0.N) (x : Fin 256) (k : Fin 512) : iblk m c 1 t (ix2 x k) = (ins m c).dq (ix3 0 (at_ t x) k) := by
  have e : ((cfg0.win 1).blk t).view.emb (ix2 x k) = ix2 (at_ t x) k := by blk_ext [(index_all t).2.1]
  show (V m c main_v28 : _ → EReal) (((cfg0.win 1).blk t).view.emb (ix2 x k)) = _
  rw [e]
  exact host_v28 m c (at_ t x) k
theorem blk2 (t : Fin cfg0.N) (x : Fin 256) (k : Fin 128) : iblk m c 2 t (ix2 x k) = Ideal.cos ((ins m c).angle (at_ t x) (k.val % 32)) := by
  have e : ((cfg0.win 2).blk t).view.emb (ix2 x k) = ix2 (at_ t x) k := by blk_ext [(index_all t).2.2.1]
  show (V m c main_v20 : _ → EReal) (((cfg0.win 2).blk t).view.emb (ix2 x k)) = _
  rw [e]
  exact host_v20 m c (at_ t x) k
theorem blk3 (t : Fin cfg0.N) (x : Fin 256) (k : Fin 128) : iblk m c 3 t (ix2 x k) = if k.val % 64 < 32 then -Ideal.sin ((ins m c).angle (at_ t x) (k.val % 32)) else Ideal.sin ((ins m c).angle (at_ t x) (k.val % 32)) := by
  have e : ((cfg0.win 3).blk t).view.emb (ix2 x k) = ix2 (at_ t x) k := by blk_ext [(index_all t).2.2.2.1]
  show (V m c main_v23 : _ → EReal) (((cfg0.win 3).blk t).view.emb (ix2 x k)) = _
  rw [e]
  exact host_v23 m c (at_ t x) k
theorem blk4 (t : Fin cfg0.N) (k : Fin 512) : iblk m c 4 t (ix2 0 k) = (ins m c).gckv (ix1 k) := by
  have e : ((cfg0.win 4).blk t).view.emb (ix2 0 k) = ix2 0 k := by blk_ext [(index_all t).2.2.2.2.1]
  show (V m c main_v29 : _ → EReal) (((cfg0.win 4).blk t).view.emb (ix2 0 k)) = _
  rw [e]
  exact host_v29 m c k
theorem blk5 (t : Fin cfg0.N) (k : Fin 512) : iblk m c 5 t (ix2 0 k) = (ins m c).gcq (ix2 0 k) := by
  have e : ((cfg0.win 5).blk t).view.emb (ix2 0 k) = ix2 0 k := by blk_ext [(index_all t).2.2.2.2.2.1]
  show (V m c main_v31 : _ → EReal) (((cfg0.win 5).blk t).view.emb (ix2 0 k)) = _
  rw [e]
  exact host_v31 m c k

/-- The same behind lane 512: the rotary key, then zeros. -/
theorem blk0r (t : Fin cfg0.N) (x : Fin 256) (k : Fin 128) : iblk m c 0 t (ix2 x ⟨512 + k.val, by omega⟩) = if h : k.val < 64 then (ins m c).kr (ix3 0 (at_ t x) ⟨k.val, h⟩) else 0 := by
  have e : ((cfg0.win 0).blk t).view.emb (ix2 x ⟨512 + k.val, by omega⟩) = ix2 (at_ t x) ⟨512 + k.val, by omega⟩ := by blk_ext [(index_all t).1]
  show (V m c main_v27 : _ → EReal) (((cfg0.win 0).blk t).view.emb (ix2 x ⟨512 + k.val, by omega⟩)) = _
  rw [e]
  exact host_v27r m c (at_ t x) k
/-- After the run result 0 is the keys and values. -/
theorem ckv_final : (dats m 0 c).arrAt 6 cfg0.N = fun i => ckv (ins m c) (i 0) (i 1) := by
  refine (dats m 0 c).arrAt_eq_of_covers 6 _ (by decide +kernel) fun t hf y => ?_
  have hN : cfg0.N = 8 := N_0
  have ht : t.val < 8 := hN ▸ t.isLt
  blk_simp
  rw [after0_6]
  idx_vars y
  have e0 : (((cfg0.win 6).blk t).view.emb (ix2 y0 y1)) 0 = at_ t y0 := Fin.ext (by blk_simp [(index_all t).2.2.2.2.2.2.1]; simp [mul_comm])
  have e1 : (((cfg0.win 6).blk t).view.emb (ix2 y0 y1)) 1 = y1 := Fin.ext (by blk_simp [(index_all t).2.2.2.2.2.2.1])
  refine Eq.trans ?_ (congrArg₂ (ckv (ins m c)) e0.symm e1.symm)
  frame_out
  unfold_payloads
  pointwise
  simp only [blk0, blk1, blk2, blk3, blk4, blk5, Fin.sum_univ_one, Fin.isValue, blk0r]
  rfl

set_option maxHeartbeats 4000000 in
/-- After the run result 1 is the rotary key. -/
theorem krope_final : (dats m 0 c).arrAt 7 cfg0.N = fun i => krope (ins m c) (i 0) (i 1) := by
  refine (dats m 0 c).arrAt_eq_of_covers 7 _ (by decide +kernel) fun t hf y => ?_
  have hN : cfg0.N = 8 := N_0
  have ht : t.val < 8 := hN ▸ t.isLt
  blk_simp
  rw [after0_7]
  idx_vars y
  have e0 : (((cfg0.win 7).blk t).view.emb (ix2 y0 y1)) 0 = at_ t y0 := Fin.ext (by blk_simp [(index_all t).2.2.2.2.2.2.2.1]; simp [mul_comm])
  have e1 : (((cfg0.win 7).blk t).view.emb (ix2 y0 y1)) 1 = y1 := Fin.ext (by blk_simp [(index_all t).2.2.2.2.2.2.2.1])
  refine Eq.trans ?_ (congrArg₂ (krope (ins m c)) e0.symm e1.symm)
  frame_out
  unfold_payloads
  pointwise
  simp only [blk0, blk1, blk2, blk3, blk4, blk5, Fin.sum_univ_one, Fin.isValue, blk0r]
  have hf := Cert.RopeIdeal.Run.first_half ⟨y1.val, by omega⟩
  simp only at hf
  unfold krope
  have ha := blk0r m c t y0 ⟨(y1.val + 128 - 96) % 128, by omega⟩
  have hb := blk0r m c t y0 ⟨(y1.val + 128 - 32) % 128, by omega⟩
  dsimp only at ha hb
  rw [hf, ha, hb]
  exact turn_lane (ins m c) (at_ t y0) y1.val (by omega)

/-- After the run result 2 is the queries. -/
theorem cq_final : (dats m 0 c).arrAt 8 cfg0.N = fun i => cq (ins m c) (i 0) (i 1) := by
  refine (dats m 0 c).arrAt_eq_of_covers 8 _ (by decide +kernel) fun t hf y => ?_
  have hN : cfg0.N = 8 := N_0
  have ht : t.val < 8 := hN ▸ t.isLt
  blk_simp
  rw [after0_8]
  idx_vars y
  have e0 : (((cfg0.win 8).blk t).view.emb (ix2 y0 y1)) 0 = at_ t y0 := Fin.ext (by blk_simp [(index_all t).2.2.2.2.2.2.2.2]; simp [mul_comm])
  have e1 : (((cfg0.win 8).blk t).view.emb (ix2 y0 y1)) 1 = y1 := Fin.ext (by blk_simp [(index_all t).2.2.2.2.2.2.2.2])
  refine Eq.trans ?_ (congrArg₂ (cq (ins m c)) e0.symm e1.symm)
  frame_out
  unfold_payloads
  pointwise
  simp only [blk0, blk1, blk2, blk3, blk4, blk5, Fin.sum_univ_one, Fin.isValue, blk0r]
  rfl

end Cert.LatFIdeal.Rows

namespace Cert.LatFRefIdeal.Rows

open Cert.LatFRefIdeal Cert.LatFRefIdeal.Gen Cert.LatFRefIdeal.Read Idealize.ShloMosaic Cert.NormSpec Cert.LatFSpec

variable (A : In)

theorem v27_at (r : Fin 2048) (j : Fin 64) : val_main_v27 (F := Ideal) A.pos A.kr (ix3 0 r j) =
    if h : j.val < 32 then val_main_v23 (F := Ideal) A.pos A.kr (ix3 0 r ⟨j.val, h⟩)
    else val_main_v26 (F := Ideal) A.pos A.kr (ix3 0 r ⟨j.val - 32, by omega⟩) := by
  unfold val_main_v27
  generalize val_main_v23 (F := Ideal) A.pos A.kr = x
  generalize val_main_v26 (F := Ideal) A.pos A.kr = y
  pointwise

theorem v29_at (r : Fin 2048) (j : Fin 128) : val_main_v29 (F := Ideal) A.pos A.kr (ix2 r j) =
    if h : j.val < 64 then val_main_v28 (F := Ideal) A.pos A.kr (ix2 r ⟨j.val, h⟩) else 0 := by
  unfold val_main_v29
  generalize val_main_v28 (F := Ideal) A.pos A.kr = x
  refine pad_lanes x _ (fun _ => ?_) _ _ r j
  rw [val_main_call0_v0_apply, val_main_c_apply]
  show (((0#32 : BitVec 32).toInt : ℝ) : EReal) = _
  simp

/-- Sums over axes of one entry. -/
theorem v43_idx (i0 : Fin 2048) (i1 : Fin 512) : idx_main_v43 (ix2 i0 i1) = (ix3 0 i0 i1 : S1x2048x512.Idx) := by
  blk_ext <;> omega

theorem v41_idx (i1 : Fin 2048) (i2 : Fin 512) : idx_main_v41 (ix3 0 i1 i2) = (ix3 0 0 i2 : S1x1x512.Idx) := by
  blk_ext <;> omega

theorem v40_idx (i2 : Fin 512) : idx_main_v40 (ix3 0 0 i2) = (ix1 i2 : S512.Idx) := by
  blk_ext <;> omega

theorem v38_idx (i1 : Fin 2048) (i2 : Fin 512) : idx_main_v38 (ix3 0 i1 i2) = (ix3 0 i1 0 : S1x2048x1.Idx) := by
  blk_ext <;> omega

theorem v32_idx (i1 : Fin 2048) : idx_main_v32 (ix3 0 i1 0) = (ix2 0 i1 : S1x2048.Idx) := by
  blk_ext <;> omega

theorem v31_idx (i1 : Fin 2048) (k : Fin 512) : idx_main_v31 (ix2 0 i1) k = (ix3 0 i1 k : S1x2048x512.Idx) := by
  blk_ext <;> omega

theorem v28_idx (i0 : Fin 2048) (i1 : Fin 64) : idx_main_v28 (ix2 i0 i1) = (ix3 0 i0 i1 : S1x2048x64.Idx) := by
  blk_ext <;> omega

theorem v20_idx (i1 : Fin 2048) (i2 : Fin 32) : idx_main_v20 (ix3 0 i1 i2) = (ix3 0 i1 ⟨32 + i2.val, by omega⟩ : S1x2048x64.Idx) := by
  blk_ext <;> omega

theorem v19_idx (i1 : Fin 2048) (i2 : Fin 32) : idx_main_v19 (ix3 0 i1 i2) = (ix3 0 i1 ⟨i2.val, by omega⟩ : S1x2048x64.Idx) := by
  blk_ext <;> omega

theorem v15_idx (i1 : Fin 2048) (i2 : Fin 32) : idx_main_v15 (ix3 0 i1 i2) = (ix3 0 0 i2 : S1x1x32.Idx) := by
  blk_ext <;> omega

theorem v14_idx (i1 : Fin 2048) (i2 : Fin 32) : idx_main_v14 (ix3 0 i1 i2) = (ix3 0 i1 0 : S1x2048x1.Idx) := by
  blk_ext <;> omega

theorem v13_idx (i2 : Fin 32) : idx_main_v13 (ix3 0 0 i2) = (ix1 i2 : S32.Idx) := by
  blk_ext <;> omega

theorem v12_idx (i1 : Fin 2048) : idx_main_v12 (ix3 0 i1 0) = (ix2 0 i1 : S1x2048.Idx) := by
  blk_ext <;> omega

theorem v60_idx (i0 : Fin 2048) (i1 : Fin 512) : idx_main_v60 (ix2 i0 i1) = (ix3 0 i0 i1 : S1x2048x512.Idx) := by
  blk_ext <;> omega

theorem v58_idx (i1 : Fin 2048) (i2 : Fin 512) : idx_main_v58 (ix3 0 i1 i2) = (ix3 0 0 i2 : S1x1x512.Idx) := by
  blk_ext <;> omega

theorem v57_idx (i2 : Fin 512) : idx_main_v57 (ix3 0 0 i2) = (ix1 i2 : S512.Idx) := by
  blk_ext <;> omega

theorem v55_idx (i1 : Fin 2048) (i2 : Fin 512) : idx_main_v55 (ix3 0 i1 i2) = (ix3 0 i1 0 : S1x2048x1.Idx) := by
  blk_ext <;> omega

theorem v49_idx (i1 : Fin 2048) : idx_main_v49 (ix3 0 i1 0) = (ix2 0 i1 : S1x2048.Idx) := by
  blk_ext <;> omega

theorem v48_idx (i1 : Fin 2048) (k : Fin 512) : idx_main_v48 (ix2 0 i1) k = (ix3 0 i1 k : S1x2048x512.Idx) := by
  blk_ext <;> omega

theorem v46_idx (i0 : Fin 512) : idx_main_v46 (ix1 i0) = (ix2 0 i0 : S1x512.Idx) := by
  blk_ext <;> omega

/-- The reference's: the keys and values. -/
theorem ckv_ref : val_main_v44 (F := Ideal) A.dkv A.gckv = fun i => ckv A (i 0) (i 1) := by
  funext i
  idx_vars i
  simp only [val_main_v44_apply, val_main_v43_apply, v43_idx, val_main_v42_apply, val_main_v41_apply, v41_idx, val_main_v40_apply, v40_idx, val_main_v39_apply,
    val_main_v38_apply, v38_idx, val_main_v37_apply, val_main_v36_apply, val_main_v35_apply, val_main_v34_apply, val_main_v33_apply, val_main_v32_apply,
    v32_idx, val_main_v31_apply, v31_idx, val_main_v30_apply, val_main_cst_4_apply, val_main_cst_5_apply, val_main_cst_6_apply]
  pointwise
  simp only [ckv, ms, rs, rowkv, rowq]

/-- The reference's: the rotary key. -/
theorem krope_ref : val_main_v45 (F := Ideal) A.pos A.kr = fun i => krope A (i 0) (i 1) := by
  funext i
  idx_vars i
  simp only [val_main_v45_apply, v29_at, val_main_v28_apply, v28_idx, v27_at, val_main_v26_apply, val_main_v25_apply, val_main_v24_apply, val_main_v23_apply,
    val_main_v22_apply, val_main_v21_apply, val_main_v20_apply, v20_idx, val_main_v19_apply, v19_idx, val_main_v18_apply, val_main_v17_apply,
    val_main_v16_apply, val_main_v15_apply, v15_idx, val_main_v14_apply, v14_idx, val_main_v13_apply, v13_idx, val_main_v12_apply, v12_idx,
    val_main_v11_apply, val_main_v10_apply, val_main_v9_apply, val_main_v8_apply, val_main_v7_apply, val_main_v6_apply, val_main_v5_apply,
    val_main_v4_apply, val_main_v3_apply, val_main_v2_apply, val_main_v1_apply, val_main_c_apply, val_main_call0_v0_apply, val_main_cst_apply,
    val_main_cst_0_apply, val_main_cst_1_apply, val_main_cst_2_apply, val_main_cst_3_apply]
  pointwise
  simp only [krope, turn]
  rfl

/-- The reference's: the queries. -/
theorem cq_ref : val_main_v61 (F := Ideal) A.dq A.gcq = fun i => cq A (i 0) (i 1) := by
  funext i
  idx_vars i
  simp only [val_main_v61_apply, val_main_v60_apply, v60_idx, val_main_v59_apply, val_main_v58_apply, v58_idx, val_main_v57_apply, v57_idx, val_main_v56_apply,
    val_main_v55_apply, v55_idx, val_main_v54_apply, val_main_v53_apply, val_main_v52_apply, val_main_v51_apply, val_main_v50_apply, val_main_v49_apply,
    v49_idx, val_main_v48_apply, v48_idx, val_main_v47_apply, val_main_v46_apply, v46_idx, val_main_cst_7_apply, val_main_cst_8_apply,
    val_main_cst_9_apply]
  pointwise
  simp only [cq, ms, rs, rowkv, rowq]

end Cert.LatFRefIdeal.Rows

open Idealize.ShloMosaic Idealize.SL.Sem

namespace Cert.Proof.LatFClaims

/-- The kernel as printed, idealized, and the reference: each ends, its arguments unchanged, its counters at zero. -/
theorem frame_p : quiescent_LatF := fun m ρ _ => LatF.Gen.frame m ρ
theorem frame_pi : quiescent_LatFIdeal := fun m ρ _ => LatFIdeal.Gen.frame m ρ
theorem frame_ri : quiescent_LatFRefIdeal := fun m ρ _ =>
  (θ_run LatFRefIdeal.defs _ _).mono (fun r h => ⟨fun c => (h c).2.2.2, sem_eq_zero_of_no_sems (by decide) r.2⟩)
    (LatFRefIdeal.Value.run (F := Ideal) m ρ)

/-- The idealized kernel's results are the reference's. -/
theorem algebraic : algebraic_LatFIdeal_LatFRefIdeal := by
  intro m ρ m' ρ' _ hagree
  refine ⟨_, _, _, LatFIdeal.Value.run_blocks (F := Ideal) m ρ, ?_⟩
  refine (θ_run LatFRefIdeal.defs _ _).mono (fun _ h c => ⟨(h c).1.trans ?_, (h c).2.1.trans ?_, (h c).2.2.1.trans ?_,
    (h c).2.2.2⟩) (LatFRefIdeal.Value.run (F := Ideal) m' ρ')
  · refine (LatFRefIdeal.Read.val_main_v44_eq (F := Ideal) _ _).trans ?_
    rw [(hagree c).2.1, (hagree c).2.2.2.2.1]
    exact (LatFRefIdeal.Rows.ckv_ref (LatFIdeal.Rows.ins m c)).trans (LatFIdeal.Rows.ckv_final m c).symm
  · refine (LatFRefIdeal.Read.val_main_v45_eq (F := Ideal) _ _).trans ?_
    rw [(hagree c).1, (hagree c).2.2.1]
    exact (LatFRefIdeal.Rows.krope_ref (LatFIdeal.Rows.ins m c)).trans (LatFIdeal.Rows.krope_final m c).symm
  · refine (LatFRefIdeal.Read.val_main_v61_eq (F := Ideal) _ _).trans ?_
    rw [(hagree c).2.2.2.1, (hagree c).2.2.2.2.2]
    exact (LatFRefIdeal.Rows.cq_ref (LatFIdeal.Rows.ins m c)).trans (LatFIdeal.Rows.cq_final m c).symm

end Cert.Proof.LatFClaims
-- ==== Proof.RopeFClaims.lean ====
/- The five claims about the forward rotary embedding. -/
module

public import proofs.«01_k».proof.Proof.Gen.RopeFIdeal.Frame
public import proofs.«01_k».proof.Proof.RopeValue
public import proofs.«01_k».proof.Proof.Gen.RopeFRefIdeal.Read
public import proofs.«01_k».proof.Proof.Gen.RopeF.Frame

@[expose] public section

set_option maxRecDepth 16384

noncomputable section

namespace Cert.RopeFIdeal.Run

open Cert.RopeFIdeal Cert.RopeFIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From zero counters the program ends, and each unscoped buffer holds the last boundary's contents. -/
theorem ends : θ_run defs (onTc (τ := τ) (main (F := F))) ⟨m, fun _ => 0, ρ⟩ (fun r =>
      ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-- The result array is the second launch's, the arguments are unchanged. -/
theorem run : θ_run defs (onTc (τ := τ) (main (F := F))) ⟨m, fun _ => 0, ρ⟩ (fun r => ∀ c : Dev nD,
      r.2.mem ((c : Thread nD τ).loc main_v26) = (dat1 (V3 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨(h c _ (mem_uc main_v26 (by decide))).trans (W4_arr m ρ c 3),
     (h c _ (mem_uc main_arg0 (by decide))).trans (W4_main_arg0 m ρ c),
     (h c _ (mem_uc main_arg1 (by decide))).trans (W4_main_arg1 m ρ c)⟩) (ends m ρ)

end Cert.RopeFIdeal.Run

namespace Cert.RopeFSpec

open Idealize.ShloMosaic Cert.RopeSpec

/-- The queries turned: each head's halves rotated together by the row's angles. -/
def turn (p : Pos) (x : Arr) (r : Fin 2048) (h : Fin 16) (d : Fin 64) : EReal :=
  if hq : d.val < 32 then
    x (ix4 0 r h d) * Ideal.cos (angle p r ⟨d.val, hq⟩) + -(x (ix4 0 r h ⟨d.val + 32, by omega⟩) * Ideal.sin (angle p r ⟨d.val, hq⟩))
  else
    x (ix4 0 r h d) * Ideal.cos (angle p r ⟨d.val - 32, by omega⟩) + x (ix4 0 r h ⟨d.val - 32, by omega⟩) * Ideal.sin (angle p r ⟨d.val - 32, by omega⟩)

/-- The turned queries in column `k` of a row. -/
def turnCol (p : Pos) (x : Arr) (r : Fin 2048) (k : Fin 1024) : EReal := turn p x r ⟨k.val / 64, by omega⟩ ⟨k.val % 64, by omega⟩

end Cert.RopeFSpec

namespace Cert.RopeFIdeal.Run

open Cert.RopeFIdeal Cert.RopeFIdeal.Gen Idealize.ShloMosaic Idealize.ShloMosaic.TcCoe Idealize.SL.Sem

variable (m : (ℓ : Loc nD τ sig) → Buf (Elt Ideal) ℓ) (ρ : Dev nD → PrngReg)

/-- The positions and the queries on device `c`. -/
abbrev p (c : Dev nD) : RopeSpec.Pos := m ((c : Thread nD τ).loc main_arg0)
abbrev q (c : Dev nD) : RopeSpec.Arr := m ((c : Thread nD τ).loc main_arg1)

/-- Every window of the second launch takes row block `t` at point `t`. -/
theorem index1 : ∀ t : Fin cfg1.N, win1_0.index t = ![t.val, 0] ∧ win1_1.index t = ![t.val, 0] ∧ win1_2.index t = ![t.val, 0] ∧ win1_3.index t = ![t.val, 0] :=
  (by decide +kernel : ∀ t : Fin grid1.N, win1_0.index t = ![t.val, 0] ∧ win1_1.index t = ![t.val, 0] ∧ win1_2.index t = ![t.val, 0] ∧ win1_3.index t = ![t.val, 0])

/-- Each window of the first launch is its whole array. -/
theorem index0 : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0])

/-- The first launch's positions. -/
theorem blk0_0 (c : Dev nD) (t : Fin cfg0.N) (r : Fin 2048) :
    iblk0 (V1 m ρ) c 0 t (ix2 r 0) = p m c (ix2 0 r) := by
  blk_point [iblk0, V1, W1, W0, (index0 t).1]

/-- The host's frequencies are the reference's, laid out four times side by side. -/
theorem host_freq (c : Dev nD) : (W1 m ρ c main_v14 : S1x128.Idx → EReal) =
    shapeCast S1x128 (shapeCast S128 (broadcastInDim S4x32 ![0, 1] bcast_S1x32_S4x32_0_1
      (shapeCast S1x32 (Cert.RopeRefIdeal.Read.val_main_v10 (F := Ideal) : S32.Idx → EReal) shapeCasts_S32_S1x32)) shapeCasts_S4x32_S128) shapeCasts_S128_S1x128 := by
  show StableHlo.after hostOps0 (W0 m ρ c) main_v14 = _
  after_results <;> rfl

/-- The host's signs: minus one on the first half of each head's columns, one on the second. -/
theorem host_sign (c : Dev nD) (l : Fin 128) : (W1 m ρ c main_v22 : S1x128.Idx → EReal) (ix2 0 l) = if l.val % 64 < 32 then (-1 : EReal) else 1 := by
  have h : (W1 m ρ c main_v22 : S1x128.Idx → EReal) =
    shapeCast S1x128 (shapeCast S128 (broadcastInDim S2x64 ![0, 1] bcast_S1x64_S2x64_0_1
      (shapeCast S1x64 (concatenate S64 0 [⟨S32, Host.negf (F := Ideal) (φ := .f32) (broadcastInDim S32 ![] bcast_S_S32 (constant S_ .f32 0x3F800000#32))⟩,
         ⟨S32, broadcastInDim S32 ![] bcast_S_S32 (constant (F := Ideal) S_ .f32 0x3F800000#32)⟩] concatenates_S32_S32_S64_d0) shapeCasts_S64_S1x64)) shapeCasts_S2x64_S128) shapeCasts_S128_S1x128 := by
    show StableHlo.after hostOps0 (W0 m ρ c) main_v22 = _
    after_results <;> rfl
  rw [h]
  pointwise
  rfl

/-- The host's frequency in column `l`. -/
theorem host_freq_apply (c : Dev nD) (l : Fin 128) : (W1 m ρ c main_v14 : S1x128.Idx → EReal) (ix2 0 l) = RopeSpec.freq ⟨l.val % 32, by omega⟩ := by
  rw [host_freq]
  pointwise
  rfl

/-- The first launch's frequencies. -/
theorem blk0_1 (c : Dev nD) (t : Fin cfg0.N) (l : Fin 128) :
    iblk0 (V1 m ρ) c 1 t (ix2 0 l) = RopeSpec.freq ⟨l.val % 32, by omega⟩ := by
  rw [← host_freq_apply m ρ c l]
  blk_point [iblk0, V1, (index0 t).2.1]

/-- The first launch's signs. -/
theorem blk0_2 (c : Dev nD) (t : Fin cfg0.N) (l : Fin 128) :
    iblk0 (V1 m ρ) c 2 t (ix2 0 l) = if l.val % 64 < 32 then (-1 : EReal) else 1 := by
  rw [← host_sign m ρ c l]
  blk_simp [iblk0, V1]
  exact congrArg _ (by blk_ext [(index0 t).2.2.1])

/-- After the first launch: the cosines. -/
theorem cos_final (c : Dev nD) :
    (dat0 (V1 m ρ) c).arrAt 3 cfg0.N = fun i => RopeSpec.cosCol (p m c) (i 0) (i 1) := by
  refine (dat0 (V1 m ρ) c).arrAt_eq_of_covers 3 _ (by decide +kernel) fun t hf y => ?_
  blk_simp
  rw [after0_3]
  idx_vars y
  have e0 : (((cfg0.win 3).blk t).view.emb (ix2 y0 y1)) 0 = y0 := Fin.ext (by blk_simp [(index0 t).2.2.2.1])
  have e1 : (((cfg0.win 3).blk t).view.emb (ix2 y0 y1)) 1 = y1 := Fin.ext (by blk_simp [(index0 t).2.2.2.1])
  refine Eq.trans ?_ (congrArg₂ (RopeSpec.cosCol (p m c)) e0.symm e1.symm)
  frame_out
  unfold_payloads
  pointwise
  simp only [blk0_0, blk0_1]
  rfl

/-- After the first launch: the sines under their signs. -/
theorem sin_final (c : Dev nD) :
    (dat0 (V1 m ρ) c).arrAt 4 cfg0.N = fun i => RopeSpec.sinCol (p m c) (i 0) (i 1) := by
  refine (dat0 (V1 m ρ) c).arrAt_eq_of_covers 4 _ (by decide +kernel) fun t hf y => ?_
  blk_simp
  rw [after0_4]
  idx_vars y
  have e0 : (((cfg0.win 4).blk t).view.emb (ix2 y0 y1)) 0 = y0 := Fin.ext (by blk_simp [(index0 t).2.2.2.2])
  have e1 : (((cfg0.win 4).blk t).view.emb (ix2 y0 y1)) 1 = y1 := Fin.ext (by blk_simp [(index0 t).2.2.2.2])
  refine Eq.trans ?_ (congrArg₂ (RopeSpec.sinCol (p m c)) e0.symm e1.symm)
  frame_out
  unfold_payloads
  pointwise
  simp only [blk0_0, blk0_1, blk0_2]
  rfl

theorem row_lt (t : Fin cfg1.N) (x : Fin 256) : 256 * t.val + x.val < 2048 := by
  have := t.isLt; have : cfg1.N = 8 := N_1; omega

/-- The second launch's cosines at point `t`. -/
theorem blk1_1 (c : Dev nD) (t : Fin cfg1.N) (r : Fin 256) (l : Fin 128) :
    iblk1 (V3 m ρ) c 1 t (ix2 r l) = RopeSpec.cosCol (p m c) ⟨256 * t.val + r.val, row_lt t r⟩ l := by
  have h : V3 m ρ c main_v24_0 = (dat0 (V1 m ρ) c).arrAt 3 cfg0.N := (W3_of m ρ c main_v24_0 (by decide)).trans (W2_arr m ρ c 3)
  have e0 : ((win1_1.blk t).view.emb (ix2 r l)) 0 = (⟨256 * t.val + r.val, row_lt t r⟩ : Fin 2048) :=
    Fin.ext (by blk_simp [(index1 t).2.1]; simp [mul_comm])
  have e1 : ((win1_1.blk t).view.emb (ix2 r l)) 1 = l := Fin.ext (by blk_simp [(index1 t).2.1])
  blk_simp [iblk1, h, cos_final]
  exact congrArg₂ (RopeSpec.cosCol (p m c)) e0 e1

/-- The second launch's signed sines at point `t`. -/
theorem blk1_2 (c : Dev nD) (t : Fin cfg1.N) (r : Fin 256) (l : Fin 128) :
    iblk1 (V3 m ρ) c 2 t (ix2 r l) = RopeSpec.sinCol (p m c) ⟨256 * t.val + r.val, row_lt t r⟩ l := by
  have h : V3 m ρ c main_v24_1 = (dat0 (V1 m ρ) c).arrAt 4 cfg0.N := (W3_of m ρ c main_v24_1 (by decide)).trans (W2_arr m ρ c 4)
  have e0 : ((win1_2.blk t).view.emb (ix2 r l)) 0 = (⟨256 * t.val + r.val, row_lt t r⟩ : Fin 2048) :=
    Fin.ext (by blk_simp [(index1 t).2.2.1]; simp [mul_comm])
  have e1 : ((win1_2.blk t).view.emb (ix2 r l)) 1 = l := Fin.ext (by blk_simp [(index1 t).2.2.1])
  blk_simp [iblk1, h, sin_final]
  exact congrArg₂ (RopeSpec.sinCol (p m c)) e0 e1

/-- The second launch's queries at point `t`: column `k` is head `k / 64`, entry `k % 64`. -/
theorem blk1_0 (c : Dev nD) (t : Fin cfg1.N) (r : Fin 256) (k : Fin 1024) :
    iblk1 (V3 m ρ) c 0 t (ix2 r k) = q m c (ix4 0 ⟨256 * t.val + r.val, row_lt t r⟩ ⟨k.val / 64, by omega⟩ ⟨k.val % 64, by omega⟩) := by
  blk_point [iblk1, V3, W3, (index1 t).1]

/-- After the second launch the result holds the turned queries. -/
theorem turn_final (c : Dev nD) :
    (dat1 (V3 m ρ) c).arrAt 3 cfg1.N = fun i => RopeFSpec.turnCol (p m c) (q m c) (i 0) (i 1) := by
  refine (dat1 (V3 m ρ) c).arrAt_eq_of_covers 3 _ (by decide +kernel) fun t hf y => ?_
  blk_simp
  rw [after1_3]
  idx_vars y
  have e0 : (((cfg1.win 3).blk t).view.emb (ix2 y0 y1)) 0 = (⟨256 * t.val + y0.val, row_lt t y0⟩ : Fin 2048) :=
    Fin.ext (by blk_simp [(index1 t).2.2.2]; simp [mul_comm])
  have e1 : (((cfg1.win 3).blk t).view.emb (ix2 y0 y1)) 1 = y1 := Fin.ext (by blk_simp [(index1 t).2.2.2])
  refine Eq.trans ?_ (congrArg₂ (RopeFSpec.turnCol (p m c) (q m c)) e0.symm e1.symm)
  frame_out
  unfold_payloads
  pointwise
  have hc := Cert.RopeIdeal.Run.eight_pieces (fun l => iblk1 (V3 m ρ) c 1 t (ix2 y0 l)) y1
  have hs := Cert.RopeIdeal.Run.eight_pieces (fun l => iblk1 (V3 m ρ) c 2 t (ix2 y0 l)) y1
  rw [hc, hs, Cert.RopeIdeal.Run.first_half]
  simp only [blk1_0, blk1_1, blk1_2, RopeFSpec.turnCol, RopeFSpec.turn, RopeSpec.cosCol, RopeSpec.sinCol]
  have hm : y1.val % 128 % 64 = y1.val % 64 := by omega
  have hn : y1.val % 128 % 32 = y1.val % 32 := by omega
  simp only [hm, hn]
  by_cases hq : y1.val % 64 < 32
  · have h1 : (y1.val + 1024 - 992) % 1024 / 64 = y1.val / 64 := by omega
    have h2 : (y1.val + 1024 - 992) % 1024 % 64 = y1.val % 64 + 32 := by omega
    have h3 : y1.val % 32 = y1.val % 64 := by omega
    simp only [hq, if_true, dif_pos, h1, h2, h3, mul_neg, mul_one]
    rfl
  · have h1 : (y1.val + 1024 - 32) % 1024 / 64 = y1.val / 64 := by omega
    have h2 : (y1.val + 1024 - 32) % 1024 % 64 = y1.val % 64 - 32 := by omega
    have h3 : y1.val % 32 = y1.val % 64 - 32 := by omega
    simp only [hq, if_false, dif_neg, h1, h2, h3, mul_one, not_false_eq_true]
    rfl

end Cert.RopeFIdeal.Run

namespace Cert.RopeFRefIdeal.Run

open Cert.RopeFRefIdeal Cert.RopeFRefIdeal.Gen Cert.RopeFRefIdeal.Read Idealize.ShloMosaic

/-- The reference's frequencies are those of the other direction's reference. -/
theorem freq_ref (k : Fin 32) : val_main_v10 (F := Ideal) (ix1 k) = RopeSpec.freq k := rfl

/-- The reference's angle. -/
theorem angle_ref (p : RopeSpec.Pos) (r : Fin 2048) (k : Fin 32) : val_main_v16 (F := Ideal) p (ix3 0 r k) = RopeSpec.angle p r k := by
  rw [val_main_v16_apply, val_main_v14_apply, val_main_v12_apply, val_main_v11_apply, val_main_v15_apply, val_main_v13_apply]
  unfold RopeSpec.angle
  rw [← freq_ref]
  exact congrArg₂ (fun a b => FloatOps.sitofp (F := Ideal) .f32 (p a) * val_main_v10 (F := Ideal) b) (by blk_ext) (by blk_ext)

/-- The reference's cosine and sine, spread over the heads. -/
theorem cos_ref (p : RopeSpec.Pos) (r : Fin 2048) (k : Fin 32) : val_main_v19 (F := Ideal) p (ix4 0 r 0 k) = Ideal.cos (RopeSpec.angle p r k) := by
  rw [val_main_v19_apply, val_main_v17_apply, ← angle_ref]
  exact congrArg (fun a => Ideal.cos (val_main_v16 (F := Ideal) p a)) (by blk_ext)
theorem sin_ref (p : RopeSpec.Pos) (r : Fin 2048) (k : Fin 32) : val_main_v20 (F := Ideal) p (ix4 0 r 0 k) = Ideal.sin (RopeSpec.angle p r k) := by
  rw [val_main_v20_apply, val_main_v18_apply, ← angle_ref]
  exact congrArg (fun a => Ideal.sin (val_main_v16 (F := Ideal) p a)) (by blk_ext)

/-- The two halves of a head before they are joined. -/
theorem first_ref (p : RopeSpec.Pos) (x : RopeSpec.Arr) (r : Fin 2048) (h : Fin 16) (k : Fin 32) :
    val_main_v27 (F := Ideal) p x (ix4 0 r h k) = x (ix4 0 r h ⟨k.val, by omega⟩) * Ideal.cos (RopeSpec.angle p r k) +
      -(x (ix4 0 r h ⟨k.val + 32, by omega⟩) * Ideal.sin (RopeSpec.angle p r k)) := by
  rw [val_main_v27_apply, val_main_v24_apply, val_main_v26_apply, val_main_v21_apply, val_main_v22_apply, val_main_v23_apply, val_main_v25_apply,
    show idx_main_v23 (ix4 0 r h k) = ix4 0 r 0 k by blk_ext, show idx_main_v25 (ix4 0 r h k) = ix4 0 r 0 k by blk_ext, sin_ref, cos_ref,
    show idx_main_v22 (ix4 0 r h k) = ix4 0 r h ⟨k.val + 32, by omega⟩ by blk_ext, show idx_main_v21 (ix4 0 r h k) = ix4 0 r h ⟨k.val, by omega⟩ by blk_ext]
  exact sub_eq_add_neg _ _
theorem second_ref (p : RopeSpec.Pos) (x : RopeSpec.Arr) (r : Fin 2048) (h : Fin 16) (k : Fin 32) :
    val_main_v32 (F := Ideal) p x (ix4 0 r h k) = x (ix4 0 r h ⟨k.val + 32, by omega⟩) * Ideal.cos (RopeSpec.angle p r k) +
      x (ix4 0 r h ⟨k.val, by omega⟩) * Ideal.sin (RopeSpec.angle p r k) := by
  rw [val_main_v32_apply, val_main_v29_apply, val_main_v31_apply, val_main_v21_apply, val_main_v22_apply, val_main_v28_apply, val_main_v30_apply,
    show idx_main_v28 (ix4 0 r h k) = ix4 0 r 0 k by blk_ext, show idx_main_v30 (ix4 0 r h k) = ix4 0 r 0 k by blk_ext, sin_ref, cos_ref,
    show idx_main_v22 (ix4 0 r h k) = ix4 0 r h ⟨k.val + 32, by omega⟩ by blk_ext, show idx_main_v21 (ix4 0 r h k) = ix4 0 r h ⟨k.val, by omega⟩ by blk_ext]
  rfl

/-- The reference's result. -/
theorem turn_ref (p : RopeSpec.Pos) (x : RopeSpec.Arr) :
    val_main_v35 (F := Ideal) p x = fun i => RopeFSpec.turnCol p x (i 0) (i 1) := by
  funext i
  idx_vars i
  rw [val_main_v35_apply, val_main_v34_apply]
  unfold val_main_v33
  pointwise
  have h1 : (i0.val * 1024 + i1.val) % 64 = i1.val % 64 := by omega
  have h2 : (i0.val * 1024 + i1.val) / 1024 % 2048 = i0.val := by omega
  have h3 : (i0.val * 1024 + i1.val) / 64 % 16 = i1.val / 64 := by omega
  simp only [h1, h2, h3]
  unfold RopeFSpec.turnCol RopeFSpec.turn
  by_cases hq : i1.val % 64 < 32
  · rw [dif_pos hq, dif_pos hq, first_ref]
  · have h4 : i1.val % 64 - 32 + 32 = i1.val % 64 := by omega
    rw [dif_neg hq, dif_neg hq, second_ref]
    simp only [h4]

end Cert.RopeFRefIdeal.Run

open Idealize.ShloMosaic Idealize.SL.Sem

namespace Cert.Proof.RopeFClaims

/-- The two launches as printed end with the arguments unchanged and every counter at zero. -/
theorem frame_p : quiescent_RopeF := fun m ρ _ => RopeF.Gen.frame m ρ
/-- The idealized launches do too. -/
theorem frame_pi : quiescent_RopeFIdeal := fun m ρ _ => RopeFIdeal.Gen.frame m ρ
/-- So does the reference. -/
theorem frame_ri : quiescent_RopeFRefIdeal := fun m ρ _ =>
  (θ_run RopeFRefIdeal.defs _ _).mono (fun r h => ⟨fun c => (h c).2, sem_eq_zero_of_no_sems (by decide) r.2⟩)
    (RopeFRefIdeal.Value.run (F := Ideal) m ρ)

/-- The idealized launches leave the reference's turned queries. -/
theorem algebraic : algebraic_RopeFIdeal_RopeFRefIdeal := by
  intro m ρ m' ρ' _ hagree
  refine ⟨_, RopeFIdeal.Run.run (F := Ideal) m ρ, ?_⟩
  refine (θ_run RopeFRefIdeal.defs _ _).mono (fun _ h c => ⟨(h c).1.trans ?_, (h c).2⟩)
    (RopeFRefIdeal.Value.run (F := Ideal) m' ρ')
  rw [RopeFRefIdeal.Read.val_main_v35_eq, (hagree c).1, (hagree c).2]
  exact (RopeFRefIdeal.Run.turn_ref _ _).trans (RopeFIdeal.Run.turn_final m ρ c).symm

end Cert.Proof.RopeFClaims
-- ==== Proof.PostPreFClaims.lean ====
/- The claims about the call of the gated post-norm, the residual and the next pre-norm. -/
module

public import proofs.«01_k».proof.Proof.NormSpec
public import proofs.«01_k».proof.Proof.Gen.PostPreFIdeal.Value
public import proofs.«01_k».proof.Proof.Gen.PostPreFRefIdeal.Read
public import proofs.«01_k».proof.Defs
public import proofs.«01_k».proof.Proof.Gen.PostPreF.Frame

@[expose] public section

set_option maxRecDepth 16384

noncomputable section

namespace Cert.PostPreFSpec

open Idealize.ShloMosaic Cert.NormSpec

/-- The arguments. -/
structure In where
  h : (⟨3, ![1, 2048, 2048]⟩ : Shape).Idx → EReal
  y : (⟨3, ![1, 2048, 2048]⟩ : Shape).Idx → EReal
  gate : (⟨2, ![1, 2048]⟩ : Shape).Idx → EReal
  gpost : (⟨2, ![2, 2048]⟩ : Shape).Idx → EReal
  gpre : (⟨2, ![2, 2048]⟩ : Shape).Idx → EReal
  shift : (⟨2, ![1, 2048]⟩ : Shape).Idx → EReal
  scale : (⟨2, ![1, 2048]⟩ : Shape).Idx → EReal

variable (A : In)

/-- Row `r` of the branch. -/
abbrev branch (r : Fin 2048) : Fin 2048 → EReal := fun k => A.y (ix3 0 r k)

/-- The stream plus the gate times the normalized branch times the gain. -/
def hn (r k : Fin 2048) : EReal := A.h (ix3 0 r k) + A.gate (ix2 0 k) * (A.y (ix3 0 r k) * rs wide (branch A r) * A.gpost (ix2 1 k))

/-- The sum normalized, times the gain, times one plus the scale, plus the shift. -/
def o (r k : Fin 2048) : EReal := hn A r k * rs wide (hn A r) * A.gpre (ix2 1 k) * (1 + A.scale (ix2 0 k)) + A.shift (ix2 0 k)

end Cert.PostPreFSpec

namespace Cert.PostPreFIdeal.Rows

open Cert.PostPreFIdeal Cert.PostPreFIdeal.Gen Idealize.ShloMosaic Idealize.ShloMosaic.TcCoe Idealize.SL.Sem Cert.NormSpec Cert.PostPreFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧
    win0_5.index t = ![0, 0] ∧ win0_6.index t = ![0, 0] ∧ win0_7.index t = ![t.val, 0] ∧ win0_8.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (x : Fin 256) (k : Fin 2048) : iblk m c 1 t (ix2 x k) = (ins m c).y (ix3 0 (at_ t x) k) := by
  blk_point [iblk, V, (index_all t).2.1]
theorem blk2 (t : Fin cfg0.N) (k : Fin 2048) : iblk m c 2 t (ix2 0 k) = (ins m c).gate (ix2 0 k) := by
  blk_point [iblk, V, (index_all t).2.2.1]
theorem blk3 (t : Fin cfg0.N) (k : Fin 2048) : iblk m c 3 t (ix2 0 k) = (ins m c).gpost (ix2 1 k) := by
  blk_point [iblk, V, (index_all t).2.2.2.1]
theorem blk4 (t : Fin cfg0.N) (k : Fin 2048) : iblk m c 4 t (ix2 0 k) = (ins m c).gpre (ix2 1 k) := by
  blk_point [iblk, V, (index_all t).2.2.2.2.1]
theorem blk5 (t : Fin cfg0.N) (k : Fin 2048) : iblk m c 5 t (ix2 0 k) = (ins m c).shift (ix2 0 k) := by
  blk_point [iblk, V, (index_all t).2.2.2.2.2.1]
theorem blk6 (t : Fin cfg0.N) (k : Fin 2048) : iblk m c 6 t (ix2 0 k) = (ins m c).scale (ix2 0 k) := by
  blk_point [iblk, V, (index_all t).2.2.2.2.2.2.1]

/-- After the run result 0 is the stream with the gated rows added. -/
theorem hn_final : (dats m 0 c).arrAt 7 cfg0.N = fun i => hn (ins m c) (i 0) (i 1) := by
  refine (dats m 0 c).arrAt_eq_of_covers 7 _ (by decide +kernel) fun t hf y => ?_
  have hN : cfg0.N = 8 := N_0
  have ht : t.val < 8 := hN ▸ t.isLt
  blk_simp
  rw [after0_7]
  idx_vars y
  have e0 : (((cfg0.win 7).blk t).view.emb (ix2 y0 y1)) 0 = at_ t y0 := Fin.ext (by blk_simp [(index_all t).2.2.2.2.2.2.2.1]; simp [mul_comm])
  have e1 : (((cfg0.win 7).blk t).view.emb (ix2 y0 y1)) 1 = y1 := Fin.ext (by blk_simp [(index_all t).2.2.2.2.2.2.2.1])
  refine Eq.trans ?_ (congrArg₂ (hn (ins m c)) e0.symm e1.symm)
  frame_out
  unfold_payloads
  pointwise
  simp only [blk0, blk1, blk2, blk3, blk4, blk5, blk6, Fin.sum_univ_one, Fin.isValue]
  rfl

/-- After the run result 1 is its scaled and shifted rows. -/
theorem o_final : (dats m 0 c).arrAt 8 cfg0.N = fun i => o (ins m c) (i 0) (i 1) := by
  refine (dats m 0 c).arrAt_eq_of_covers 8 _ (by decide +kernel) fun t hf y => ?_
  have hN : cfg0.N = 8 := N_0
  have ht : t.val < 8 := hN ▸ t.isLt
  blk_simp
  rw [after0_8]
  idx_vars y
  have e0 : (((cfg0.win 8).blk t).view.emb (ix2 y0 y1)) 0 = at_ t y0 := Fin.ext (by blk_simp [(index_all t).2.2.2.2.2.2.2.2]; simp [mul_comm])
  have e1 : (((cfg0.win 8).blk t).view.emb (ix2 y0 y1)) 1 = y1 := Fin.ext (by blk_simp [(index_all t).2.2.2.2.2.2.2.2])
  refine Eq.trans ?_ (congrArg₂ (o (ins m c)) e0.symm e1.symm)
  frame_out
  unfold_payloads
  pointwise
  simp only [blk0, blk1, blk2, blk3, blk4, blk5, blk6, Fin.sum_univ_one, Fin.isValue]
  rfl

end Cert.PostPreFIdeal.Rows

namespace Cert.PostPreFRefIdeal.Rows

open Cert.PostPreFRefIdeal Cert.PostPreFRefIdeal.Gen Cert.PostPreFRefIdeal.Read Idealize.ShloMosaic Cert.NormSpec Cert.PostPreFSpec

variable (A : In)

/-- Sums over axes of one entry. -/
theorem v19_idx (i0 : Fin 2048) (i1 : Fin 2048) : idx_main_v19 (ix2 i0 i1) = (ix3 0 i0 i1 : S1x2048x2048.Idx) := by
  blk_ext <;> omega

theorem v16_idx (i1 : Fin 2048) (i2 : Fin 2048) : idx_main_v16 (ix3 0 i1 i2) = (ix3 0 0 i2 : S1x1x2048.Idx) := by
  blk_ext <;> omega

theorem v14_idx (i1 : Fin 2048) (i2 : Fin 2048) : idx_main_v14 (ix3 0 i1 i2) = (ix3 0 0 i2 : S1x1x2048.Idx) := by
  blk_ext <;> omega

theorem v13_idx (i2 : Fin 2048) : idx_main_v13 (ix3 0 0 i2) = (ix1 i2 : S2048.Idx) := by
  blk_ext <;> omega

theorem v11_idx (i1 : Fin 2048) (i2 : Fin 2048) : idx_main_v11 (ix3 0 i1 i2) = (ix3 0 i1 0 : S1x2048x1.Idx) := by
  blk_ext <;> omega

theorem v5_idx (i1 : Fin 2048) : idx_main_v5 (ix3 0 i1 0) = (ix2 0 i1 : S1x2048.Idx) := by
  blk_ext <;> omega

theorem v4_idx (i1 : Fin 2048) (k : Fin 2048) : idx_main_v4 (ix2 0 i1) k = (ix3 0 i1 k : S1x2048x2048.Idx) := by
  blk_ext <;> omega

theorem v2_idx (i0 : Fin 2048) : idx_main_v2 (ix1 i0) = (ix2 0 i0 : S1x2048.Idx) := by
  blk_ext <;> omega

theorem v1_idx (i1 : Fin 2048) : idx_main_v1 (ix2 0 i1) = (ix2 1 i1 : S2x2048.Idx) := by
  blk_ext <;> omega

theorem v0_idx (i2 : Fin 2048) : idx_main_v0 (ix3 0 0 i2) = (ix2 0 i2 : S1x2048.Idx) := by
  blk_ext <;> omega

theorem v43_idx (i0 : Fin 2048) (i1 : Fin 2048) : idx_main_v43 (ix2 i0 i1) = (ix3 0 i0 i1 : S1x2048x2048.Idx) := by
  blk_ext <;> omega

theorem v41_idx (i1 : Fin 2048) (i2 : Fin 2048) : idx_main_v41 (ix3 0 i1 i2) = (ix3 0 0 i2 : S1x1x2048.Idx) := by
  blk_ext <;> omega

theorem v40_idx (i2 : Fin 2048) : idx_main_v40 (ix3 0 0 i2) = (ix2 0 i2 : S1x2048.Idx) := by
  blk_ext <;> omega

theorem v38_idx (i1 : Fin 2048) (i2 : Fin 2048) : idx_main_v38 (ix3 0 i1 i2) = (ix3 0 0 i2 : S1x1x2048.Idx) := by
  blk_ext <;> omega

theorem v35_idx (i2 : Fin 2048) : idx_main_v35 (ix3 0 0 i2) = (ix2 0 i2 : S1x2048.Idx) := by
  blk_ext <;> omega

theorem v33_idx (i1 : Fin 2048) (i2 : Fin 2048) : idx_main_v33 (ix3 0 i1 i2) = (ix3 0 0 i2 : S1x1x2048.Idx) := by
  blk_ext <;> omega

theorem v32_idx (i2 : Fin 2048) : idx_main_v32 (ix3 0 0 i2) = (ix1 i2 : S2048.Idx) := by
  blk_ext <;> omega

theorem v30_idx (i1 : Fin 2048) (i2 : Fin 2048) : idx_main_v30 (ix3 0 i1 i2) = (ix3 0 i1 0 : S1x2048x1.Idx) := by
  blk_ext <;> omega

theorem v24_idx (i1 : Fin 2048) : idx_main_v24 (ix3 0 i1 0) = (ix2 0 i1 : S1x2048.Idx) := by
  blk_ext <;> omega

theorem v23_idx (i1 : Fin 2048) (k : Fin 2048) : idx_main_v23 (ix2 0 i1) k = (ix3 0 i1 k : S1x2048x2048.Idx) := by
  blk_ext <;> omega

theorem v21_idx (i0 : Fin 2048) : idx_main_v21 (ix1 i0) = (ix2 0 i0 : S1x2048.Idx) := by
  blk_ext <;> omega

theorem v20_idx (i1 : Fin 2048) : idx_main_v20 (ix2 0 i1) = (ix2 1 i1 : S2x2048.Idx) := by
  blk_ext <;> omega

/-- The reference's: the stream with the gated rows added. -/
theorem hn_ref : val_main_v19 (F := Ideal) A.h A.y A.gate A.gpost = fun i => hn A (i 0) (i 1) := by
  funext i
  idx_vars i
  simp only [val_main_v19_apply, v19_idx, val_main_v18_apply, val_main_v17_apply, val_main_v16_apply, v16_idx, val_main_v15_apply, val_main_v14_apply, v14_idx,
    val_main_v13_apply, v13_idx, val_main_v12_apply, val_main_v11_apply, v11_idx, val_main_v10_apply, val_main_v9_apply, val_main_v8_apply,
    val_main_v7_apply, val_main_v6_apply, val_main_v5_apply, v5_idx, val_main_v4_apply, v4_idx, val_main_v3_apply, val_main_v2_apply, v2_idx,
    val_main_v1_apply, v1_idx, val_main_v0_apply, v0_idx, val_main_cst_apply, val_main_cst_0_apply, val_main_cst_1_apply]
  pointwise
  simp only [hn, hn, ms, rs, branch]

/-- The reference's: its scaled and shifted rows. -/
theorem o_ref : val_main_v44 (F := Ideal) A.h A.y A.gate A.gpost A.gpre A.shift A.scale = fun i => o A (i 0) (i 1) := by
  funext i
  idx_vars i
  simp only [val_main_v44_apply, val_main_v43_apply, v43_idx, val_main_v42_apply, val_main_v41_apply, v41_idx, val_main_v40_apply, v40_idx, val_main_v39_apply,
    val_main_v38_apply, v38_idx, val_main_v37_apply, val_main_v36_apply, val_main_v35_apply, v35_idx, val_main_v34_apply, val_main_v33_apply, v33_idx,
    val_main_v32_apply, v32_idx, val_main_v31_apply, val_main_v30_apply, v30_idx, val_main_v29_apply, val_main_v28_apply, val_main_v27_apply,
    val_main_v26_apply, val_main_v25_apply, val_main_v24_apply, v24_idx, val_main_v23_apply, v23_idx, val_main_v22_apply, val_main_v21_apply, v21_idx,
    val_main_v20_apply, v20_idx, val_main_v18_apply, val_main_v17_apply, val_main_v16_apply, v16_idx, val_main_v15_apply, val_main_v14_apply, v14_idx,
    val_main_v13_apply, v13_idx, val_main_v12_apply, val_main_v11_apply, v11_idx, val_main_v10_apply, val_main_v9_apply, val_main_v8_apply,
    val_main_v7_apply, val_main_v6_apply, val_main_v5_apply, v5_idx, val_main_v4_apply, v4_idx, val_main_v3_apply, val_main_v2_apply, v2_idx,
    val_main_v1_apply, v1_idx, val_main_v0_apply, v0_idx, val_main_cst_apply, val_main_cst_0_apply, val_main_cst_1_apply, val_main_cst_2_apply,
    val_main_cst_3_apply, val_main_cst_4_apply, val_main_cst_5_apply]
  pointwise
  simp only [o, hn, ms, rs, branch]

end Cert.PostPreFRefIdeal.Rows

open Idealize.ShloMosaic Idealize.SL.Sem

namespace Cert.Proof.PostPreFClaims

/-- The kernel as printed, idealized, and the reference: each ends, its arguments unchanged, its counters at zero. -/
theorem frame_p : quiescent_PostPreF := fun m ρ _ => PostPreF.Gen.frame m ρ
theorem frame_pi : quiescent_PostPreFIdeal := fun m ρ _ => PostPreFIdeal.Gen.frame m ρ
theorem frame_ri : quiescent_PostPreFRefIdeal := fun m ρ _ =>
  (θ_run PostPreFRefIdeal.defs _ _).mono (fun r h => ⟨fun c => (h c).2.2, sem_eq_zero_of_no_sems (by decide) r.2⟩)
    (PostPreFRefIdeal.Value.run (F := Ideal) m ρ)

/-- The idealized kernel's results are the reference's. -/
theorem algebraic : algebraic_PostPreFIdeal_PostPreFRefIdeal := by
  intro m ρ m' ρ' _ hagree
  refine ⟨_, _, PostPreFIdeal.Value.run_blocks (F := Ideal) m ρ, ?_⟩
  refine (θ_run PostPreFRefIdeal.defs _ _).mono (fun _ h c => ⟨(h c).1.trans ?_, (h c).2.1.trans ?_,
    (h c).2.2⟩) (PostPreFRefIdeal.Value.run (F := Ideal) m' ρ')
  · refine (PostPreFRefIdeal.Read.val_main_v19_eq (F := Ideal) _ _ _ _).trans ?_
    rw [(hagree c).1, (hagree c).2.1, (hagree c).2.2.1, (hagree c).2.2.2.1]
    exact (PostPreFRefIdeal.Rows.hn_ref (PostPreFIdeal.Rows.ins m c)).trans (PostPreFIdeal.Rows.hn_final m c).symm
  · refine (PostPreFRefIdeal.Read.val_main_v44_eq _ _).trans ?_
    rw [(hagree c).1, (hagree c).2.1, (hagree c).2.2.1, (hagree c).2.2.2.1, (hagree c).2.2.2.2.1, (hagree c).2.2.2.2.2.1, (hagree c).2.2.2.2.2.2]
    exact (PostPreFRefIdeal.Rows.o_ref (PostPreFIdeal.Rows.ins m c)).trans (PostPreFIdeal.Rows.o_final m c).symm

end Cert.Proof.PostPreFClaims
-- ==== Proof.PostFClaims.lean ====
/- The claims about the call of the gated post-norm and the residual. -/
module

public import proofs.«01_k».proof.Proof.NormSpec
public import proofs.«01_k».proof.Proof.Gen.PostFIdeal.Value
public import proofs.«01_k».proof.Proof.Gen.PostFRefIdeal.Read
public import proofs.«01_k».proof.Defs
public import proofs.«01_k».proof.Proof.Gen.PostF.Frame

@[expose] public section

set_option maxRecDepth 16384

noncomputable section

namespace Cert.PostFSpec

open Idealize.ShloMosaic Cert.NormSpec

/-- The arguments. -/
structure In where
  h : (⟨3, ![1, 2048, 2048]⟩ : Shape).Idx → EReal
  y : (⟨3, ![1, 2048, 2048]⟩ : Shape).Idx → EReal
  gate : (⟨2, ![1, 2048]⟩ : Shape).Idx → EReal
  g : (⟨2, ![2, 2048]⟩ : Shape).Idx → EReal

variable (A : In)

/-- Row `r` of the branch. -/
abbrev row (r : Fin 2048) : Fin 2048 → EReal := fun k => A.y (ix3 0 r k)

/-- The stream plus the gate times the normalized branch times the gain. -/
def o (r k : Fin 2048) : EReal := A.h (ix3 0 r k) + A.gate (ix2 0 k) * (A.y (ix3 0 r k) * rs wide (row A r) * A.g (ix2 1 k))

end Cert.PostFSpec

namespace Cert.PostFIdeal.Rows

open Cert.PostFIdeal Cert.PostFIdeal.Gen Idealize.ShloMosaic Idealize.ShloMosaic.TcCoe Idealize.SL.Sem Cert.NormSpec Cert.PostFSpec

variable (m : (ℓ : Loc nD τ sig) → Buf (Elt Ideal) ℓ) (c : Dev nD)

/-- The row windows take row block `t` at point `t`; the others stay. -/
theorem index_all : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0])

/-- The arguments on device `c`. -/
abbrev ins : In := ⟨m ((c : Thread nD τ).loc main_arg0), m ((c : Thread nD τ).loc main_arg1), m ((c : Thread nD τ).loc main_arg2), m ((c : Thread nD τ).loc main_arg3)⟩

theorem row_lt (t : Fin cfg0.N) (x : Fin 256) : 256 * t.val + x.val < 2048 := by
  have := t.isLt; have : cfg0.N = 8 := N_0; omega

/-- The array's row that point `t` reads at row `x` of its block. -/
abbrev at_ (t : Fin cfg0.N) (x : Fin 256) : Fin 2048 := ⟨256 * t.val + x.val, row_lt t x⟩

/-- What point `t`'s blocks read. -/
theorem blk0 (t : Fin cfg0.N) (x : Fin 256) (k : Fin 2048) : iblk m c 0 t (ix2 x k) = (ins m c).h (ix3 0 (at_ t x) k) := by
  blk_point [iblk, V, (index_all t).1]
theorem blk1 (t : Fin cfg0.N) (x : Fin 256) (k : Fin 2048) : iblk m c 1 t (ix2 x k) = (ins m c).y (ix3 0 (at_ t x) k) := by
  blk_point [iblk, V, (index_all t).2.1]
theorem blk2 (t : Fin cfg0.N) (k : Fin 2048) : iblk m c 2 t (ix2 0 k) = (ins m c).gate (ix2 0 k) := by
  blk_point [iblk, V, (index_all t).2.2.1]
theorem blk3 (t : Fin cfg0.N) (k : Fin 2048) : iblk m c 3 t (ix2 0 k) = (ins m c).g (ix2 1 k) := by
  blk_point [iblk, V, (index_all t).2.2.2.1]

/-- After the run result 0 is the stream with the gated rows added. -/
theorem o_final : (dats m 0 c).arrAt 4 cfg0.N = fun i => o (ins m c) (i 0) (i 1) := by
  refine (dats m 0 c).arrAt_eq_of_covers 4 _ (by decide +kernel) fun t hf y => ?_
  have hN : cfg0.N = 8 := N_0
  have ht : t.val < 8 := hN ▸ t.isLt
  blk_simp
  rw [after0_4]
  idx_vars y
  have e0 : (((cfg0.win 4).blk t).view.emb (ix2 y0 y1)) 0 = at_ t y0 := Fin.ext (by blk_simp [(index_all t).2.2.2.2]; simp [mul_comm])
  have e1 : (((cfg0.win 4).blk t).view.emb (ix2 y0 y1)) 1 = y1 := Fin.ext (by blk_simp [(index_all t).2.2.2.2])
  refine Eq.trans ?_ (congrArg₂ (o (ins m c)) e0.symm e1.symm)
  frame_out
  unfold_payloads
  pointwise
  simp only [blk0, blk1, blk2, blk3, Fin.sum_univ_one, Fin.isValue]
  rfl

end Cert.PostFIdeal.Rows

namespace Cert.PostFRefIdeal.Rows

open Cert.PostFRefIdeal Cert.PostFRefIdeal.Gen Cert.PostFRefIdeal.Read Idealize.ShloMosaic Cert.NormSpec Cert.PostFSpec

variable (A : In)

/-- Sums over axes of one entry. -/
theorem v19_idx (i0 : Fin 2048) (i1 : Fin 2048) : idx_main_v19 (ix2 i0 i1) = (ix3 0 i0 i1 : S1x2048x2048.Idx) := by
  blk_ext <;> omega

theorem v16_idx (i1 : Fin 2048) (i2 : Fin 2048) : idx_main_v16 (ix3 0 i1 i2) = (ix3 0 0 i2 : S1x1x2048.Idx) := by
  blk_ext <;> omega

theorem v14_idx (i1 : Fin 2048) (i2 : Fin 2048) : idx_main_v14 (ix3 0 i1 i2) = (ix3 0 0 i2 : S1x1x2048.Idx) := by
  blk_ext <;> omega

theorem v13_idx (i2 : Fin 2048) : idx_main_v13 (ix3 0 0 i2) = (ix1 i2 : S2048.Idx) := by
  blk_ext <;> omega

theorem v11_idx (i1 : Fin 2048) (i2 : Fin 2048) : idx_main_v11 (ix3 0 i1 i2) = (ix3 0 i1 0 : S1x2048x1.Idx) := by
  blk_ext <;> omega

theorem v5_idx (i1 : Fin 2048) : idx_main_v5 (ix3 0 i1 0) = (ix2 0 i1 : S1x2048.Idx) := by
  blk_ext <;> omega

theorem v4_idx (i1 : Fin 2048) (k : Fin 2048) : idx_main_v4 (ix2 0 i1) k = (ix3 0 i1 k : S1x2048x2048.Idx) := by
  blk_ext <;> omega

theorem v2_idx (i0 : Fin 2048) : idx_main_v2 (ix1 i0) = (ix2 0 i0 : S1x2048.Idx) := by
  blk_ext <;> omega

theorem v1_idx (i1 : Fin 2048) : idx_main_v1 (ix2 0 i1) = (ix2 1 i1 : S2x2048.Idx) := by
  blk_ext <;> omega

theorem v0_idx (i2 : Fin 2048) : idx_main_v0 (ix3 0 0 i2) = (ix2 0 i2 : S1x2048.Idx) := by
  blk_ext <;> omega

/-- The reference's: the stream with the gated rows added. -/
theorem o_ref : val_main_v19 (F := Ideal) A.h A.y A.gate A.g = fun i => o A (i 0) (i 1) := by
  funext i
  idx_vars i
  simp only [val_main_v19_apply, v19_idx, val_main_v18_apply, val_main_v17_apply, val_main_v16_apply, v16_idx, val_main_v15_apply, val_main_v14_apply, v14_idx,
    val_main_v13_apply, v13_idx, val_main_v12_apply, val_main_v11_apply, v11_idx, val_main_v10_apply, val_main_v9_apply, val_main_v8_apply,
    val_main_v7_apply, val_main_v6_apply, val_main_v5_apply, v5_idx, val_main_v4_apply, v4_idx, val_main_v3_apply, val_main_v2_apply, v2_idx,
    val_main_v1_apply, v1_idx, val_main_v0_apply, v0_idx, val_main_cst_apply, val_main_cst_0_apply, val_main_cst_1_apply]
  pointwise
  simp only [o, ms, rs, row]

end Cert.PostFRefIdeal.Rows

open Idealize.ShloMosaic Idealize.SL.Sem

namespace Cert.Proof.PostFClaims

/-- The kernel as printed, idealized, and the reference: each ends, its arguments unchanged, its counters at zero. -/
theorem frame_p : quiescent_PostF := fun m ρ _ => PostF.Gen.frame m ρ
theorem frame_pi : quiescent_PostFIdeal := fun m ρ _ => PostFIdeal.Gen.frame m ρ
theorem frame_ri : quiescent_PostFRefIdeal := fun m ρ _ =>
  (θ_run PostFRefIdeal.defs _ _).mono (fun r h => ⟨fun c => (h c).2, sem_eq_zero_of_no_sems (by decide) r.2⟩)
    (PostFRefIdeal.Value.run (F := Ideal) m ρ)

/-- The idealized kernel's results are the reference's. -/
theorem algebraic : algebraic_PostFIdeal_PostFRefIdeal := by
  intro m ρ m' ρ' _ hagree
  refine ⟨_, PostFIdeal.Value.run_blocks (F := Ideal) m ρ, ?_⟩
  refine (θ_run PostFRefIdeal.defs _ _).mono (fun _ h c => ⟨(h c).1.trans ?_,
    (h c).2⟩) (PostFRefIdeal.Value.run (F := Ideal) m' ρ')
  · refine (PostFRefIdeal.Read.val_main_v19_eq (F := Ideal) _ _ _ _).trans ?_
    rw [(hagree c).1, (hagree c).2.1, (hagree c).2.2.1, (hagree c).2.2.2]
    exact (PostFRefIdeal.Rows.o_ref (PostFIdeal.Rows.ins m c)).trans (PostFIdeal.Rows.o_final m c).symm

end Cert.Proof.PostFClaims
-- ==== Proof.MmTNClaims.lean ====
/- The five claims about a product's gradient in its matrix. -/
module

public import proofs.«01_k».proof.Proof.Gen.MmTNIdeal.Value
public import proofs.«01_k».proof.Proof.Gen.MmTNRefIdeal.Read
public import Idealize.ShloMosaic.Lib.Pipeline.ValueKit
public import proofs.«01_k».proof.Defs
public import proofs.«01_k».proof.Proof.Gen.MmTN.Frame

@[expose] public section

set_option maxRecDepth 16384

noncomputable section

namespace Cert.MmTNSpec

open Idealize.ShloMosaic

abbrev Rows := (⟨3, ![1, 2048, 8192]⟩ : Shape).Idx → EReal
abbrev Cot := (⟨3, ![1, 2048, 2048]⟩ : Shape).Idx → EReal

/-- The gradient in weight `(f, d)`: over the rows, the layer's entry `f` times the cotangent's entry `d`. -/
def dw (s : Rows) (g : Cot) (f : Fin 8192) (d : Fin 2048) : EReal := ∑ r : Fin 2048, s (ix3 0 r f) * g (ix3 0 r d)

end Cert.MmTNSpec

namespace Cert.MmTNIdeal.Prod

open Cert.MmTNIdeal Cert.MmTNIdeal.Gen Idealize.ShloMosaic Idealize.ShloMosaic.TcCoe Idealize.SL.Sem

variable (m : (ℓ : Loc nD τ sig) → Buf (Elt Ideal) ℓ)

/-- The layer and the cotangent on device `c`. -/
abbrev s (c : Dev nD) : MmTNSpec.Rows := m ((c : Thread nD τ).loc main_arg0)
abbrev g (c : Dev nD) : MmTNSpec.Cot := m ((c : Thread nD τ).loc main_arg1)

/-- Point `t` takes 512 columns of the layer, the whole cotangent, and writes 512 rows of the gradient. -/
theorem index_all : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem row_lt (t : Fin cfg0.N) (k : Fin 512) : 512 * t.val + k.val < 8192 := by
  have := t.isLt; have : cfg0.N = 16 := N_0; omega

/-- The columns and the cotangent point `t` reads. -/
theorem blk_s (c : Dev nD) (t : Fin cfg0.N) (r : Fin 2048) (k : Fin 512) :
    iblk m c 0 t (ix2 r k) = s m c (ix3 0 r ⟨512 * t.val + k.val, row_lt t k⟩) := by
  blk_point [iblk, V, (index_all t).1]
theorem blk_g (c : Dev nD) (t : Fin cfg0.N) (r k : Fin 2048) : iblk m c 1 t (ix2 r k) = g m c (ix3 0 r k) := by
  blk_point [iblk, V, (index_all t).2.1]

/-- After the run the result holds the gradient. -/
theorem final (c : Dev nD) : (dats m 0 c).arrAt 2 cfg0.N = fun i => MmTNSpec.dw (s m c) (g m c) (i 0) (i 1) := by
  refine (dats m 0 c).arrAt_eq_of_covers 2 _ (by decide +kernel) fun t hf y => ?_
  blk_simp
  rw [after0_2]
  idx_vars y
  have e0 : (((cfg0.win 2).blk t).view.emb (ix2 y0 y1)) 0 = (⟨512 * t.val + y0.val, row_lt t y0⟩ : Fin 8192) :=
    Fin.ext (by blk_simp [(index_all t).2.2]; simp [mul_comm])
  have e1 : (((cfg0.win 2).blk t).view.emb (ix2 y0 y1)) 1 = y1 := Fin.ext (by blk_simp [(index_all t).2.2])
  refine Eq.trans ?_ (congrArg₂ (MmTNSpec.dw (s m c) (g m c)) e0.symm e1.symm)
  frame_out
  unfold_payloads
  pointwise
  simp only [blk_s, blk_g]
  rfl

end Cert.MmTNIdeal.Prod

namespace Cert.MmTNRefIdeal.Prod

open Cert.MmTNRefIdeal Cert.MmTNRefIdeal.Read Idealize.ShloMosaic

/-- The reference's gradient, its factors the other way round. -/
theorem ref (s : MmTNSpec.Rows) (g : MmTNSpec.Cot) : val_main_v6 (F := Ideal) s g = fun i => MmTNSpec.dw s g (i 0) (i 1) := by
  funext i
  idx_vars i
  rw [val_main_v6_apply, val_main_v5_apply, val_main_v4_apply]
  simp only [val_main_v3_apply, val_main_v1_apply]
  refine Finset.sum_congr rfl fun k _ => (mul_comm _ _).trans (congrArg₂ (fun a b => s a * g b) ?_ ?_) <;> blk_ext

end Cert.MmTNRefIdeal.Prod

open Idealize.ShloMosaic Idealize.SL.Sem

namespace Cert.Proof.MmTNClaims

/-- The kernel as printed, idealized, and the reference: each ends, its arguments unchanged, its counters at zero. -/
theorem frame_p : quiescent_MmTN := fun m ρ _ => MmTN.Gen.frame m ρ
theorem frame_pi : quiescent_MmTNIdeal := fun m ρ _ => MmTNIdeal.Gen.frame m ρ
theorem frame_ri : quiescent_MmTNRefIdeal := fun m ρ _ =>
  (θ_run MmTNRefIdeal.defs _ _).mono (fun r h => ⟨fun c => (h c).2, sem_eq_zero_of_no_sems (by decide) r.2⟩)
    (MmTNRefIdeal.Value.run (F := Ideal) m ρ)

/-- The idealized kernel's result is the reference's gradient. -/
theorem algebraic : algebraic_MmTNIdeal_MmTNRefIdeal := by
  intro m ρ m' ρ' _ hagree
  refine ⟨_, MmTNIdeal.Value.run_blocks (F := Ideal) m ρ, ?_⟩
  refine (θ_run MmTNRefIdeal.defs _ _).mono (fun _ h c => ⟨(h c).1.trans ?_, (h c).2⟩)
    (MmTNRefIdeal.Value.run (F := Ideal) m' ρ')
  rw [MmTNRefIdeal.Read.val_main_v6_eq, (hagree c).1, (hagree c).2]
  exact (MmTNRefIdeal.Prod.ref _ _).trans (MmTNIdeal.Prod.final m c).symm

end Cert.Proof.MmTNClaims
-- ==== Proof.AdamClaims.lean ====
/- The five claims about the optimiser's update of one matrix. -/
module

public import proofs.«01_k».proof.Proof.Gen.AdamIdeal.Value
public import proofs.«01_k».proof.Proof.Gen.AdamRefIdeal.Read
public import Idealize.ShloMosaic.Lib.Pipeline.ValueKit
public import proofs.«01_k».proof.Defs
public import proofs.«01_k».proof.Proof.Gen.Adam.Frame

@[expose] public section

set_option maxRecDepth 16384

noncomputable section

open Idealize.ShloMosaic Idealize.SL.Sem

namespace Cert.Proof.AdamClaims

/-- The kernel as printed, idealized, and the reference: each ends, its arguments unchanged, its counters at zero. -/
theorem frame_p : quiescent_Adam := fun m ρ _ => Adam.Gen.frame m ρ
theorem frame_pi : quiescent_AdamIdeal := fun m ρ _ => AdamIdeal.Gen.frame m ρ
theorem frame_ri : quiescent_AdamRefIdeal := fun m ρ _ =>
  (θ_run AdamRefIdeal.defs _ _).mono (fun r h => ⟨fun c => (h c).2.2.2, sem_eq_zero_of_no_sems (by decide) r.2⟩)
    (AdamRefIdeal.Value.run (F := Ideal) m ρ)

open AdamRefIdeal.Read AdamIdeal.Value

/-- A matrix, or one of its two moments. -/
abbrev Arr := (⟨2, ![2048, 1024]⟩ : Shape).Idx → EReal

/-- The first moment: both programs decay the old one and add the gradient's part. -/
theorem moment_one (g u : Arr) : val_main_v4 (F := Ideal) g u = G5 (F := Ideal) g u := by
  funext i
  simp only [val_main_v4_apply, val_main_v3_apply, val_main_v2_apply, val_main_v1_apply, val_main_v0_apply, val_main_cst_apply, val_main_cst_0_apply]

/-- The second moment, of the gradient's square. -/
theorem moment_two (g v : Arr) : val_main_v10 (F := Ideal) g v = G6 (F := Ideal) g v := by
  funext i
  simp only [val_main_v10_apply, val_main_v9_apply, val_main_v8_apply, val_main_v7_apply, val_main_v6_apply, val_main_v5_apply, val_main_cst_1_apply, val_main_cst_2_apply]

/-- The update: the corrected moments' quotient and the weight's decay, scaled by the rate. -/
theorem update (w g u v : Arr) : val_main_v23 (F := Ideal) w g u v = G4 (F := Ideal) w g u v := by
  funext i
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_cst_3_apply, val_main_cst_4_apply, val_main_cst_5_apply, val_main_cst_6_apply, val_main_cst_7_apply, moment_one, moment_two]
  rfl

/-- The idealized kernel's update and moments are the reference's. -/
theorem algebraic : algebraic_AdamIdeal_AdamRefIdeal := by
  intro m ρ m' ρ' _ hagree
  refine ⟨_, _, _, run (F := Ideal) m ρ, ?_⟩
  refine (θ_run AdamRefIdeal.defs _ _).mono (fun _ h c => ⟨(h c).1.trans ?_, (h c).2.1.trans ?_, (h c).2.2.1.trans ?_, (h c).2.2.2⟩)
    (AdamRefIdeal.Value.run (F := Ideal) m' ρ') <;> obtain ⟨e0, e1, e2, e3⟩ := hagree c
  · rw [val_main_v23_eq, e0, e1, e2, e3, update]
  · rw [val_main_v4_eq, e1, e2, moment_one]
  · rw [val_main_v10_eq, e1, e3, moment_two]

end Cert.Proof.AdamClaims
-- ==== Proof.SiluClaims.lean ====
/- The five claims about the swish of the conditioning vector. -/
module

public import proofs.«01_k».proof.Proof.Gen.SiluIdeal.Value
public import proofs.«01_k».proof.Proof.Gen.SiluRefIdeal.Read
public import Idealize.ShloMosaic.Lib.Pipeline.ValueKit
public import proofs.«01_k».proof.Defs
public import proofs.«01_k».proof.Proof.Gen.Silu.Frame

@[expose] public section

set_option maxRecDepth 16384

noncomputable section

open Idealize.ShloMosaic Idealize.SL.Sem

namespace Cert.Proof.SiluClaims

/-- The kernel as printed, idealized, and the reference: each ends, its arguments unchanged, its counters at zero. -/
theorem frame_p : quiescent_Silu := fun m ρ _ => Silu.Gen.frame m ρ
theorem frame_pi : quiescent_SiluIdeal := fun m ρ _ => SiluIdeal.Gen.frame m ρ
theorem frame_ri : quiescent_SiluRefIdeal := fun m ρ _ =>
  (θ_run SiluRefIdeal.defs _ _).mono (fun r h => ⟨fun c => (h c).2, sem_eq_zero_of_no_sems (by decide) r.2⟩)
    (SiluRefIdeal.Value.run (F := Ideal) m ρ)

open SiluRefIdeal.Read in
/-- The reference's quotient is the logistic function the kernel multiplies by. -/
theorem swish (x : (⟨2, ![8, 2048]⟩ : Shape).Idx → EReal) : val_main_v0 (F := Ideal) x = SiluIdeal.Value.G1 (F := Ideal) x := by
  funext i
  simp only [val_main_v0_apply, val_main_call0_v5_apply, val_main_call0_v4_apply, val_main_call0_v3_apply, val_main_call0_v2_apply,
    val_main_call0_v1_apply, val_main_call0_v0_apply, val_main_call0_cst_apply, val_main_call0_cst_0_apply]
  pointwise
  rfl

/-- The idealized kernel's result is the reference's swish. -/
theorem algebraic : algebraic_SiluIdeal_SiluRefIdeal := by
  intro m ρ m' ρ' _ hagree
  refine ⟨_, SiluIdeal.Value.run (F := Ideal) m ρ, ?_⟩
  refine (θ_run SiluRefIdeal.defs _ _).mono (fun _ h c => ⟨(h c).1.trans ?_, (h c).2⟩)
    (SiluRefIdeal.Value.run (F := Ideal) m' ρ')
  rw [SiluRefIdeal.Read.val_main_v0_eq, hagree c]
  exact swish _

end Cert.Proof.SiluClaims
-- ==== Proof.SumDevClaims.lean ====
/- The five claims about the sum of the eight copies of the packed gradients. -/
module

public import proofs.«01_k».proof.Proof.Gen.SumDevIdeal.Value
public import proofs.«01_k».proof.Proof.Gen.SumDevRefIdeal.Read
public import Idealize.ShloMosaic.Lib.Pipeline.ValueKit
public import proofs.«01_k».proof.Defs
public import proofs.«01_k».proof.Proof.Gen.SumDev.Frame

@[expose] public section

set_option maxRecDepth 16384

noncomputable section

open Idealize.ShloMosaic Idealize.SL.Sem

namespace Cert.Proof.SumDevClaims

/-- The kernel as printed, idealized, and the reference: each ends, its arguments unchanged, its counters at zero. -/
theorem frame_p : quiescent_SumDev := fun m ρ _ => SumDev.Gen.frame m ρ
theorem frame_pi : quiescent_SumDevIdeal := fun m ρ _ => SumDevIdeal.Gen.frame m ρ
theorem frame_ri : quiescent_SumDevRefIdeal := fun m ρ _ =>
  (θ_run SumDevRefIdeal.defs _ _).mono (fun r h => ⟨fun c => (h c).2, sem_eq_zero_of_no_sems (by decide) r.2⟩)
    (SumDevRefIdeal.Value.run (F := Ideal) m ρ)

open SumDevIdeal SumDevIdeal.Gen Idealize.ShloMosaic.TcCoe

/-- After the run the result holds the reference's sum. -/
theorem total (m : (ℓ : Loc nD τ sig) → Buf (Elt Ideal) ℓ) (c : Dev nD) :
    SumDevRefIdeal.Read.val_main_v0 (F := Ideal) (m ((c : Thread nD τ).loc main_arg0)) = (dats m 0 c).arrAt 8 cfg0.N := by
  have hi : ∀ t : Fin cfg0.N, win0_0.index t = ![0, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0] ∧ win0_8.index t = ![0, 0] :=
    (by decide +kernel : ∀ t : Fin grid0.N, _)
  refine ((dats m 0 c).arrAt_eq_of_covers 8 _ (by decide +kernel) fun t hf y => ?_).symm
  obtain ⟨h0, h1, h2, h3, h4, h5, h6, h7, h8⟩ := hi t
  blk_simp
  rw [after0_8]
  idx_vars y
  have e : ((cfg0.win 8).blk t).view.emb (ix2 y0 y1) = ix2 y0 y1 := by funext a; match a with
    | 0 => exact Fin.ext (by blk_simp [h8])
    | 1 => exact Fin.ext (by blk_simp [h8])
  have b0 : iblk m c 0 t (ix2 y0 y1) = m ((c : Thread nD τ).loc main_arg0) (ix3 0 y0 y1) := by blk_point [iblk, V, h0]
  have b1 : iblk m c 1 t (ix2 y0 y1) = m ((c : Thread nD τ).loc main_arg0) (ix3 1 y0 y1) := by blk_point [iblk, V, h1]
  have b2 : iblk m c 2 t (ix2 y0 y1) = m ((c : Thread nD τ).loc main_arg0) (ix3 2 y0 y1) := by blk_point [iblk, V, h2]
  have b3 : iblk m c 3 t (ix2 y0 y1) = m ((c : Thread nD τ).loc main_arg0) (ix3 3 y0 y1) := by blk_point [iblk, V, h3]
  have b4 : iblk m c 4 t (ix2 y0 y1) = m ((c : Thread nD τ).loc main_arg0) (ix3 4 y0 y1) := by blk_point [iblk, V, h4]
  have b5 : iblk m c 5 t (ix2 y0 y1) = m ((c : Thread nD τ).loc main_arg0) (ix3 5 y0 y1) := by blk_point [iblk, V, h5]
  have b6 : iblk m c 6 t (ix2 y0 y1) = m ((c : Thread nD τ).loc main_arg0) (ix3 6 y0 y1) := by blk_point [iblk, V, h6]
  have b7 : iblk m c 7 t (ix2 y0 y1) = m ((c : Thread nD τ).loc main_arg0) (ix3 7 y0 y1) := by blk_point [iblk, V, h7]
  have hx : ∀ k, SumDevRefIdeal.Read.idx_main_v0 (ix2 y0 y1) k = ix3 k y0 y1 := fun k => by blk_ext
  refine Eq.trans ?_ (congrArg _ e.symm)
  rw [SumDevRefIdeal.Read.val_main_v0_apply, SumDevRefIdeal.Read.val_main_cst_apply]
  frame_out
  unfold_payloads
  pointwise
  simp only [b0, b1, b2, b3, b4, b5, b6, b7, Fin.sum_univ_eight, hx]

/-- The idealized kernel's result is the reference's sum. -/
theorem algebraic : algebraic_SumDevIdeal_SumDevRefIdeal := by
  intro m ρ m' ρ' _ hagree
  refine ⟨_, SumDevIdeal.Value.run_blocks (F := Ideal) m ρ, ?_⟩
  refine (θ_run SumDevRefIdeal.defs _ _).mono (fun _ h c => ⟨(h c).1.trans ?_, (h c).2⟩)
    (SumDevRefIdeal.Value.run (F := Ideal) m' ρ')
  rw [SumDevRefIdeal.Read.val_main_v0_eq, hagree c]
  exact total m c

end Cert.Proof.SumDevClaims
-- ==== Proof.MmNNValue.lean ====
/- The product of the layer by w_down: the launch's result array and the reference's result. -/
module

public import Idealize.ShloMosaic.Lib.Pipeline.ReadBack
public import proofs.«01_k».proof.Proof.Gen.MmNNIdeal.Value
public import proofs.«01_k».proof.Proof.Gen.MmNNRefIdeal.Read
public import Idealize.ShloMosaic.Lib.Pipeline.ValueKit

@[expose] public section

set_option maxRecDepth 16384

noncomputable section

namespace Cert.MmNNSpec

open Idealize.ShloMosaic

abbrev Rows := (⟨3, ![1, 2048, 8192]⟩ : Shape).Idx → EReal
abbrev Mat := (⟨2, ![8192, 2048]⟩ : Shape).Idx → EReal

/-- The product's summand. -/
def term (x : Rows) (w : Mat) (r d : Fin 2048) (l : Fin 8192) : EReal := x (ix3 0 r l) * w (ix2 l d)

/-- A sum over the inner axis, taken by quarters. -/
theorem quarters (f : Fin 8192 → EReal) :
    (∑ l : Fin 2048, f ⟨2048 * (0 % 4) + l.val, by omega⟩) + (∑ l : Fin 2048, f ⟨2048 * (1 % 4) + l.val, by omega⟩)
      + (∑ l : Fin 2048, f ⟨2048 * (2 % 4) + l.val, by omega⟩) + (∑ l : Fin 2048, f ⟨2048 * (3 % 4) + l.val, by omega⟩)
      = ∑ l : Fin 8192, f l := by
  have h : (∑ q : Fin 4, ∑ l : Fin 2048, f ⟨2048 * (q.val % 4) + l.val, by omega⟩) = ∑ l : Fin 8192, f l := by
    rw [← (finProdFinEquiv (m := 4) (n := 2048)).sum_comp (fun l : Fin (4 * 2048) => f l), Fintype.sum_prod_type]
    refine Finset.sum_congr rfl fun q _ => Finset.sum_congr rfl fun l _ => congrArg f (Fin.ext ?_)
    simp [finProdFinEquiv, add_comm, Nat.mod_eq_of_lt q.isLt]
  rw [← h, Fin.sum_univ_four]
  rfl

end Cert.MmNNSpec

namespace Cert.MmNNIdeal.Prod

open Cert.MmNNIdeal Cert.MmNNIdeal.Gen Idealize.ShloMosaic Idealize.ShloMosaic.TcCoe Idealize.SL.Sem

variable (m : (ℓ : Loc nD τ sig) → Buf (Elt Ideal) ℓ)

/-- The two factors on device `c`. -/
abbrev x (c : Dev nD) : MmNNSpec.Rows := m ((c : Thread nD τ).loc main_arg0)
abbrev w (c : Dev nD) : MmNNSpec.Mat := m ((c : Thread nD τ).loc main_arg1)

/-- Four column blocks, one after another; in each the inner axis by quarters. -/
theorem index_all : ∀ t : Fin cfg0.N, win0_0.index t = ![0, t.val % 4] ∧ win0_1.index t = ![t.val % 4, t.val / 4] ∧ win0_2.index t = ![0, t.val / 4] :=
  (by decide +kernel : ∀ t : Fin grid0.N, win0_0.index t = ![0, t.val % 4] ∧ win0_1.index t = ![t.val % 4, t.val / 4] ∧ win0_2.index t = ![0, t.val / 4])

theorem in_lt (q : ℕ) (k : Fin 2048) : 2048 * (q % 4) + k.val < 8192 := by omega
theorem out_lt (t : Fin cfg0.N) (k : Fin 512) : 512 * (t.val / 4) + k.val < 2048 := by
  have := t.isLt; have : cfg0.N = 16 := N_0; omega

/-- The blocks point `t` reads. -/
theorem blk_x (c : Dev nD) (t : Fin cfg0.N) (r k : Fin 2048) :
    iblk m c 0 t (ix2 r k) = x m c (ix3 0 r ⟨2048 * (t.val % 4) + k.val, in_lt _ k⟩) := by
  blk_point [iblk, V, (index_all t).1]
theorem blk_w (c : Dev nD) (t : Fin cfg0.N) (k : Fin 2048) (d : Fin 512) :
    iblk m c 1 t (ix2 k d) = w m c (ix2 ⟨2048 * (t.val % 4) + k.val, in_lt _ k⟩ ⟨512 * (t.val / 4) + d.val, out_lt t d⟩) := by
  blk_point [iblk, V, (index_all t).2.1]

/-- Quarter `q` of the sum for row `r` and column `k` of column block `t / 4`. -/
def part (c : Dev nD) (t : Fin cfg0.N) (q : ℕ) (r : Fin 2048) (k : Fin 512) : EReal :=
  ∑ l : Fin 2048, MmNNSpec.term (x m c) (w m c) r ⟨512 * (t.val / 4) + k.val, out_lt t k⟩ ⟨2048 * (q % 4) + l.val, in_lt _ l⟩

/-- The first point of a column block leaves the first quarter in the scratch. -/
theorem first (c : Dev nD) (t : Fin cfg0.N) (h : t.val % 4 = 0) (r : Fin 2048) (k : Fin 512) :
    (outsAt0 m c t.val t.isLt).2 (ix2 r k) = part m c t t.val r k := by
  rw [outsAt0_A m c t h (by omega) (by omega)]
  frame_out
  unfold_payloads
  pointwise
  simp only [blk_x, blk_w]
  rfl

/-- The two in the middle add theirs. -/
theorem middle (c : Dev nD) (t : Fin cfg0.N) (h : 1 ≤ t.val % 4) (h' : ¬t.val % 4 = 3) (r : Fin 2048) (k : Fin 512) :
    (outsAt0 m c t.val t.isLt).2 (ix2 r k)
      = (outsAt0 m c (t.val - 1) (Nat.lt_of_le_of_lt (Nat.sub_le _ _) t.isLt)).2 (ix2 r k) + part m c t t.val r k := by
  rw [outsAt0_B m c t (by omega) h h']
  frame_out
  unfold_payloads
  pointwise
  simp only [blk_x, blk_w, read_unread_whole]
  rfl

/-- The last adds the last quarter into the result. -/
theorem last (c : Dev nD) (t : Fin cfg0.N) (h : t.val % 4 = 3) (r : Fin 2048) (k : Fin 512) :
    (outsAt0 m c t.val t.isLt).1 (ix2 r k)
      = (outsAt0 m c (t.val - 1) (Nat.lt_of_le_of_lt (Nat.sub_le _ _) t.isLt)).2 (ix2 r k) + part m c t t.val r k := by
  rw [outsAt0_C m c t (by omega) (by omega) h]
  frame_out
  unfold_payloads
  pointwise
  simp only [blk_x, blk_w, read_unread_whole]
  rfl

/-- A quarter is the same whichever of its column block's points names it. -/
theorem part_congr (c : Dev nD) (t u : Fin cfg0.N) (q p : ℕ) (h : t.val / 4 = u.val / 4) (h' : q % 4 = p % 4) (r : Fin 2048) (k : Fin 512) :
    part m c t q r k = part m c u p r k := by
  simp only [part, h, h']

/-- After the run the result holds the product. -/
theorem final (c : Dev nD) : (dats m 0 c).arrAt 2 cfg0.N = fun i => ∑ l : Fin 8192, MmNNSpec.term (x m c) (w m c) (i 0) (i 1) l := by
  refine (dats m 0 c).arrAt_eq_of_covers 2 _ (by decide +kernel) fun t hf y => ?_
  have h3 : t.val % 4 = 3 := (flush0_2 t).mp hf
  blk_simp
  rw [after0_2]
  idx_vars y
  have e0 : (((cfg0.win 2).blk t).view.emb (ix2 y0 y1)) 0 = y0 := Fin.ext (by blk_simp [(index_all t).2.2])
  have e1 : (((cfg0.win 2).blk t).view.emb (ix2 y0 y1)) 1 = (⟨512 * (t.val / 4) + y1.val, out_lt t y1⟩ : Fin 2048) :=
    Fin.ext (by blk_simp [(index_all t).2.2]; simp [mul_comm])
  refine Eq.trans ?_ (congrArg₂ (fun a b => ∑ l : Fin 8192, MmNNSpec.term (x m c) (w m c) a b l) e0.symm e1.symm)
  have hlt : ∀ d, t.val - d < cfg0.N := fun d => Nat.lt_of_le_of_lt (Nat.sub_le _ _) t.isLt
  have s1 := middle m c ⟨t.val - 1, hlt 1⟩ (by show 1 ≤ (t.val - 1) % 4; omega) (by show ¬(t.val - 1) % 4 = 3; omega) y0 y1
  have s2 := middle m c ⟨t.val - 2, hlt 2⟩ (by show 1 ≤ (t.val - 2) % 4; omega) (by show ¬(t.val - 2) % 4 = 3; omega) y0 y1
  have s3 := first m c ⟨t.val - 3, hlt 3⟩ (by show (t.val - 3) % 4 = 0; omega) y0 y1
  refine (last m c t h3 y0 y1).trans ((congrArg (· + _) (s1.trans (congrArg (· + _) (s2.trans (congrArg (· + _) s3))))).trans ?_)
  rw [part_congr m c ⟨t.val - 3, hlt 3⟩ t _ 0 (by show (t.val - 3) / 4 = _; omega) (by show (t.val - 3) % 4 = _; omega),
    part_congr m c ⟨t.val - 2, hlt 2⟩ t _ 1 (by show (t.val - 2) / 4 = _; omega) (by show (t.val - 2) % 4 = _; omega),
    part_congr m c ⟨t.val - 1, hlt 1⟩ t _ 2 (by show (t.val - 1) / 4 = _; omega) (by show (t.val - 1) % 4 = _; omega),
    part_congr m c t t t.val 3 rfl (by omega)]
  exact MmNNSpec.quarters (fun l => MmNNSpec.term (x m c) (w m c) y0 ⟨512 * (t.val / 4) + y1.val, out_lt t y1⟩ l)

end Cert.MmNNIdeal.Prod

namespace Cert.MmNNRefIdeal.Prod

open Cert.MmNNRefIdeal Cert.MmNNRefIdeal.Read Idealize.ShloMosaic

/-- The reference's product. -/
theorem ref (x : MmNNSpec.Rows) (w : MmNNSpec.Mat) :
    val_main_v1 (F := Ideal) x w = fun i => ∑ l : Fin 8192, MmNNSpec.term x w (i 0) (i 1) l := by
  funext i
  idx_vars i
  rw [val_main_v1_apply, show idx_main_v1 (ix2 i0 i1) = ix3 0 i0 i1 by blk_ext, val_main_v0_apply]
  refine Finset.sum_congr rfl fun k _ => congrArg₂ (fun a b => x a * w b) ?_ ?_ <;> blk_ext

end Cert.MmNNRefIdeal.Prod
-- ==== Proof.MmNNClaims.lean ====
/- The five claims about a plain product with its inner axis by quarters. -/
module

public import proofs.«01_k».proof.Proof.MmNNValue
public import proofs.«01_k».proof.Defs
public import proofs.«01_k».proof.Proof.Gen.MmNN.Frame

@[expose] public section

set_option maxRecDepth 16384

noncomputable section

open Idealize.ShloMosaic Idealize.SL.Sem

namespace Cert.Proof.MmNNClaims

/-- The kernel as printed, idealized, and the reference: each ends, its arguments unchanged, its counters at zero. -/
theorem frame_p : quiescent_MmNN := fun m ρ _ => MmNN.Gen.frame m ρ
theorem frame_pi : quiescent_MmNNIdeal := fun m ρ _ => MmNNIdeal.Gen.frame m ρ
theorem frame_ri : quiescent_MmNNRefIdeal := fun m ρ _ =>
  (θ_run MmNNRefIdeal.defs _ _).mono (fun r h => ⟨fun c => (h c).2, sem_eq_zero_of_no_sems (by decide) r.2⟩)
    (MmNNRefIdeal.Value.run (F := Ideal) m ρ)

/-- The idealized kernel's result is the reference's product. -/
theorem algebraic : algebraic_MmNNIdeal_MmNNRefIdeal := by
  intro m ρ m' ρ' _ hagree
  refine ⟨_, MmNNIdeal.Value.run_blocks (F := Ideal) m ρ, ?_⟩
  refine (θ_run MmNNRefIdeal.defs _ _).mono (fun _ h c => ⟨(h c).1.trans ?_, (h c).2⟩)
    (MmNNRefIdeal.Value.run (F := Ideal) m' ρ')
  rw [MmNNRefIdeal.Read.val_main_v1_eq, (hagree c).1, (hagree c).2]
  exact (MmNNRefIdeal.Prod.ref _ _).trans (MmNNIdeal.Prod.final m c).symm

end Cert.Proof.MmNNClaims
-- ==== Proof.MmNTClaims.lean ====
/- The five claims about a product by a transposed matrix. -/
module

public import proofs.«01_k».proof.Proof.MmNNValue
public import proofs.«01_k».proof.Proof.Gen.MmNTIdeal.Value
public import proofs.«01_k».proof.Proof.Gen.MmNTRefIdeal.Read
public import proofs.«01_k».proof.Defs
public import proofs.«01_k».proof.Proof.Gen.MmNT.Frame

@[expose] public section

set_option maxRecDepth 16384

noncomputable section

namespace Cert.MmNTSpec

open Idealize.ShloMosaic

abbrev Mat := (⟨2, ![2048, 8192]⟩ : Shape).Idx → EReal

/-- The summand: the matrix is read along its rows. -/
def term (x : MmNNSpec.Rows) (w : Mat) (r d : Fin 2048) (l : Fin 8192) : EReal := x (ix3 0 r l) * w (ix2 d l)

end Cert.MmNTSpec

namespace Cert.MmNTIdeal.Prod

open Cert.MmNTIdeal Cert.MmNTIdeal.Gen Idealize.ShloMosaic Idealize.ShloMosaic.TcCoe Idealize.SL.Sem

variable (m : (ℓ : Loc nD τ sig) → Buf (Elt Ideal) ℓ)

/-- The two factors on device `c`. -/
abbrev x (c : Dev nD) : MmNNSpec.Rows := m ((c : Thread nD τ).loc main_arg0)
abbrev w (c : Dev nD) : MmNTSpec.Mat := m ((c : Thread nD τ).loc main_arg1)

/-- Four blocks of 512 rows of the matrix; in each its four column blocks. -/
theorem index_all : ∀ t : Fin cfg0.N, win0_0.index t = ![0, t.val % 4] ∧ win0_1.index t = ![t.val % 4, t.val / 4, 0] ∧ win0_2.index t = ![0, t.val / 4] :=
  (by decide +kernel : ∀ t : Fin grid0.N, win0_0.index t = ![0, t.val % 4] ∧ win0_1.index t = ![t.val % 4, t.val / 4, 0] ∧ win0_2.index t = ![0, t.val / 4])

theorem in_lt (q : ℕ) (k : Fin 2048) : 2048 * (q % 4) + k.val < 8192 := by omega
theorem out_lt (t : Fin cfg0.N) (k : Fin 512) : 512 * (t.val / 4) + k.val < 2048 := by
  have := t.isLt; have : cfg0.N = 16 := N_0; omega

/-- The blocks point `t` reads. -/
theorem blk_x (c : Dev nD) (t : Fin cfg0.N) (r k : Fin 2048) :
    iblk m c 0 t (ix2 r k) = x m c (ix3 0 r ⟨2048 * (t.val % 4) + k.val, in_lt _ k⟩) := by
  blk_point [iblk, V, (index_all t).1]
theorem blk_w (c : Dev nD) (t : Fin cfg0.N) (d : Fin 512) (k : Fin 2048) :
    iblk m c 1 t (ix3 0 d k) = w m c (ix2 ⟨512 * (t.val / 4) + d.val, out_lt t d⟩ ⟨2048 * (t.val % 4) + k.val, in_lt _ k⟩) := by
  blk_point [iblk, V, (index_all t).2.1]

/-- Quarter `q` of the sum for row `r` and column `k` of column block `t / 4`. -/
def part (c : Dev nD) (t : Fin cfg0.N) (q : ℕ) (r : Fin 2048) (k : Fin 512) : EReal :=
  ∑ l : Fin 2048, MmNTSpec.term (x m c) (w m c) r ⟨512 * (t.val / 4) + k.val, out_lt t k⟩ ⟨2048 * (q % 4) + l.val, in_lt _ l⟩

/-- The first point of a column block leaves the first quarter in the scratch. -/
theorem first (c : Dev nD) (t : Fin cfg0.N) (h : t.val % 4 = 0) (r : Fin 2048) (k : Fin 512) :
    (outsAt0 m c t.val t.isLt).2 (ix2 r k) = part m c t t.val r k := by
  rw [outsAt0_A m c t h (by omega) (by omega)]
  frame_out
  unfold_payloads
  pointwise
  simp only [blk_x, blk_w]
  rfl

/-- The two in the middle add theirs. -/
theorem middle (c : Dev nD) (t : Fin cfg0.N) (h : 1 ≤ t.val % 4) (h' : ¬t.val % 4 = 3) (r : Fin 2048) (k : Fin 512) :
    (outsAt0 m c t.val t.isLt).2 (ix2 r k)
      = (outsAt0 m c (t.val - 1) (Nat.lt_of_le_of_lt (Nat.sub_le _ _) t.isLt)).2 (ix2 r k) + part m c t t.val r k := by
  rw [outsAt0_B m c t (by omega) h h']
  frame_out
  unfold_payloads
  pointwise
  simp only [blk_x, blk_w, read_unread_whole]
  rfl

/-- The last adds the last quarter into the result. -/
theorem last (c : Dev nD) (t : Fin cfg0.N) (h : t.val % 4 = 3) (r : Fin 2048) (k : Fin 512) :
    (outsAt0 m c t.val t.isLt).1 (ix2 r k)
      = (outsAt0 m c (t.val - 1) (Nat.lt_of_le_of_lt (Nat.sub_le _ _) t.isLt)).2 (ix2 r k) + part m c t t.val r k := by
  rw [outsAt0_C m c t (by omega) (by omega) h]
  frame_out
  unfold_payloads
  pointwise
  simp only [blk_x, blk_w, read_unread_whole]
  rfl

/-- A quarter is the same whichever of its column block's points names it. -/
theorem part_congr (c : Dev nD) (t u : Fin cfg0.N) (q p : ℕ) (h : t.val / 4 = u.val / 4) (h' : q % 4 = p % 4) (r : Fin 2048) (k : Fin 512) :
    part m c t q r k = part m c u p r k := by
  simp only [part, h, h']

/-- After the run the result holds the product. -/
theorem final (c : Dev nD) : (dats m 0 c).arrAt 2 cfg0.N = fun i => ∑ l : Fin 8192, MmNTSpec.term (x m c) (w m c) (i 0) (i 1) l := by
  refine (dats m 0 c).arrAt_eq_of_covers 2 _ (by decide +kernel) fun t hf y => ?_
  have h3 : t.val % 4 = 3 := (flush0_2 t).mp hf
  blk_simp
  rw [after0_2]
  idx_vars y
  have e0 : (((cfg0.win 2).blk t).view.emb (ix2 y0 y1)) 0 = y0 := Fin.ext (by blk_simp [(index_all t).2.2])
  have e1 : (((cfg0.win 2).blk t).view.emb (ix2 y0 y1)) 1 = (⟨512 * (t.val / 4) + y1.val, out_lt t y1⟩ : Fin 2048) :=
    Fin.ext (by blk_simp [(index_all t).2.2]; simp [mul_comm])
  refine Eq.trans ?_ (congrArg₂ (fun a b => ∑ l : Fin 8192, MmNTSpec.term (x m c) (w m c) a b l) e0.symm e1.symm)
  have hlt : ∀ d, t.val - d < cfg0.N := fun d => Nat.lt_of_le_of_lt (Nat.sub_le _ _) t.isLt
  have s1 := middle m c ⟨t.val - 1, hlt 1⟩ (by show 1 ≤ (t.val - 1) % 4; omega) (by show ¬(t.val - 1) % 4 = 3; omega) y0 y1
  have s2 := middle m c ⟨t.val - 2, hlt 2⟩ (by show 1 ≤ (t.val - 2) % 4; omega) (by show ¬(t.val - 2) % 4 = 3; omega) y0 y1
  have s3 := first m c ⟨t.val - 3, hlt 3⟩ (by show (t.val - 3) % 4 = 0; omega) y0 y1
  refine (last m c t h3 y0 y1).trans ((congrArg (· + _) (s1.trans (congrArg (· + _) (s2.trans (congrArg (· + _) s3))))).trans ?_)
  rw [part_congr m c ⟨t.val - 3, hlt 3⟩ t _ 0 (by show (t.val - 3) / 4 = _; omega) (by show (t.val - 3) % 4 = _; omega),
    part_congr m c ⟨t.val - 2, hlt 2⟩ t _ 1 (by show (t.val - 2) / 4 = _; omega) (by show (t.val - 2) % 4 = _; omega),
    part_congr m c ⟨t.val - 1, hlt 1⟩ t _ 2 (by show (t.val - 1) / 4 = _; omega) (by show (t.val - 1) % 4 = _; omega),
    part_congr m c t t t.val 3 rfl (by omega)]
  exact MmNNSpec.quarters (fun l => MmNTSpec.term (x m c) (w m c) y0 ⟨512 * (t.val / 4) + y1.val, out_lt t y1⟩ l)

end Cert.MmNTIdeal.Prod

namespace Cert.MmNTRefIdeal.Prod

open Cert.MmNTRefIdeal Cert.MmNTRefIdeal.Read Idealize.ShloMosaic

/-- The reference's product. -/
theorem ref (x : MmNNSpec.Rows) (w : MmNTSpec.Mat) :
    val_main_v3 (F := Ideal) x w = fun i => ∑ l : Fin 8192, MmNTSpec.term x w (i 0) (i 1) l := by
  funext i
  idx_vars i
  rw [val_main_v3_apply, show idx_main_v3 (ix2 i0 i1) = ix3 0 i0 i1 by blk_ext, val_main_v2_apply]
  refine Finset.sum_congr rfl fun k _ => congrArg₂ (fun a b => x a * w b) ?_ ?_ <;> blk_ext

end Cert.MmNTRefIdeal.Prod

open Idealize.ShloMosaic Idealize.SL.Sem

namespace Cert.Proof.MmNTClaims

/-- The kernel as printed, idealized, and the reference: each ends, its arguments unchanged, its counters at zero. -/
theorem frame_p : quiescent_MmNT := fun m ρ _ => MmNT.Gen.frame m ρ
theorem frame_pi : quiescent_MmNTIdeal := fun m ρ _ => MmNTIdeal.Gen.frame m ρ
theorem frame_ri : quiescent_MmNTRefIdeal := fun m ρ _ =>
  (θ_run MmNTRefIdeal.defs _ _).mono (fun r h => ⟨fun c => (h c).2, sem_eq_zero_of_no_sems (by decide) r.2⟩)
    (MmNTRefIdeal.Value.run (F := Ideal) m ρ)

/-- The idealized kernel's result is the reference's product. -/
theorem algebraic : algebraic_MmNTIdeal_MmNTRefIdeal := by
  intro m ρ m' ρ' _ hagree
  refine ⟨_, MmNTIdeal.Value.run_blocks (F := Ideal) m ρ, ?_⟩
  refine (θ_run MmNTRefIdeal.defs _ _).mono (fun _ h c => ⟨(h c).1.trans ?_, (h c).2⟩)
    (MmNTRefIdeal.Value.run (F := Ideal) m' ρ')
  rw [MmNTRefIdeal.Read.val_main_v3_eq, (hagree c).1, (hagree c).2]
  exact (MmNTRefIdeal.Prod.ref _ _).trans (MmNTIdeal.Prod.final m c).symm

end Cert.Proof.MmNTClaims
-- ==== Proof.AdamLClaims.lean ====
/- The five claims about the optimiser's update of a matrix of two layers. -/
module

public import proofs.«01_k».proof.Defs
public import proofs.«01_k».proof.Proof.Gen.AdamLIdeal.Frame
public import proofs.«01_k».proof.Proof.Gen.AdamL.Frame
public import proofs.«01_k».proof.Proof.Gen.AdamLRefIdeal.Read
public import Idealize.ShloMosaic.Lib.Pipeline.ValueKit

@[expose] public section

set_option maxRecDepth 16384

noncomputable section

namespace Cert.AdamLSpec

open Idealize.ShloMosaic

abbrev Pos := (⟨3, ![2, 2048, 2048]⟩ : Shape).Idx
abbrev Two := Pos → EReal
abbrev One := (⟨2, ![2048, 2048]⟩ : Shape).Idx → EReal

/-- A constant, and a quotient. -/
abbrev lit (b : BitVec 32) : EReal := Ideal.ofBits .f32 b
abbrev quo (a b : EReal) : EReal := FloatOps.divf (F := Ideal) (φ := .f32) a b

/-- One entry: the two moments and the update, of the weight, the gradient and the old moments. -/
def mom (g u : EReal) : EReal := lit 0x3F666666#32 * u + lit 0x3DCCCCCD#32 * g
def var (g v : EReal) : EReal := lit 0x3F7FBE77#32 * v + lit 0x3A83126F#32 * (g * g)
def upd (w g u v : EReal) : EReal :=
  lit 0xBA83126F#32 * (quo (quo (mom g u) (lit 0x3F26BD02#32)) (Ideal.sqrt (quo (var g v) (lit 0x3C231ACC#32)) + lit 0x322BCC77#32)
    + lit 0x3C23D70A#32 * w)

/-- A function of an entry, at every entry of the two layers. -/
def whole (f : EReal → EReal → EReal → EReal → EReal) (w : Two) (g h : One) (u v : Two) : Two := fun i =>
  f (w i) (if (i 0).val = 0 then g (ix2 (i 1) (i 2)) else h (ix2 (i 1) (i 2))) (u i) (v i)

end Cert.AdamLSpec

namespace Cert.AdamLIdeal.Run

open Cert.AdamLIdeal Cert.AdamLIdeal.Gen Cert.AdamLSpec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

/-- The arguments on device `c`, and the four results. -/
abbrev A0 (c : Dev nD) : Two := m ((c : Thread nD τ).loc main_arg0)
abbrev A1 (c : Dev nD) : One := m ((c : Thread nD τ).loc main_arg1)
abbrev A2 (c : Dev nD) : One := m ((c : Thread nD τ).loc main_arg2)
abbrev A3 (c : Dev nD) : Two := m ((c : Thread nD τ).loc main_arg3)
abbrev A4 (c : Dev nD) : Two := m ((c : Thread nD τ).loc main_arg4)
abbrev R4 (c : Dev nD) : Two := whole (fun _ g _ _ => g) (A0 m c) (A1 m c) (A2 m c) (A3 m c) (A4 m c)
abbrev R5 (c : Dev nD) : Two := whole upd (A0 m c) (A1 m c) (A2 m c) (A3 m c) (A4 m c)
abbrev R6 (c : Dev nD) : Two := whole (fun _ g u _ => mom g u) (A0 m c) (A1 m c) (A2 m c) (A3 m c) (A4 m c)
abbrev R7 (c : Dev nD) : Two := whole (fun _ g _ v => var g v) (A0 m c) (A1 m c) (A2 m c) (A3 m c) (A4 m c)

/-- The blocks the first call at point `t`: layer 1's rows, 256 at a time. -/
theorem index0 : ∀ t : Fin cfg0.N, win0_1.index t = ![t.val, 0] ∧ win0_0.index t = ![1, t.val, 0] ∧ win0_2.index t = ![1, t.val, 0]
    ∧ win0_3.index t = ![1, t.val, 0] ∧ win0_4.index t = ![1, t.val, 0] ∧ win0_5.index t = ![1, t.val, 0]
    ∧ win0_6.index t = ![1, t.val, 0] ∧ win0_7.index t = ![1, t.val, 0] :=
  (by decide +kernel : ∀ t : Fin grid0.N, _)

theorem row0 (t : Fin cfg0.N) (k : Fin 256) : 256 * t.val + k.val < 2048 := by
  have := t.isLt; have : cfg0.N = 8 := N_0; omega

/-- What the first call reads at point `t`. -/
theorem blk0 (c : Dev nD) (t : Fin cfg0.N) (r : Fin 256) (k : Fin 2048) :
    iblk0 (V0 m ρ) c 0 t (ix3 0 r k) = A0 m c (ix3 1 ⟨256 * t.val + r.val, row0 t r⟩ k)
    ∧ iblk0 (V0 m ρ) c 1 t (ix2 r k) = A2 m c (ix2 ⟨256 * t.val + r.val, row0 t r⟩ k)
    ∧ iblk0 (V0 m ρ) c 2 t (ix3 0 r k) = A3 m c (ix3 1 ⟨256 * t.val + r.val, row0 t r⟩ k)
    ∧ iblk0 (V0 m ρ) c 3 t (ix3 0 r k) = A4 m c (ix3 1 ⟨256 * t.val + r.val, row0 t r⟩ k) := by
  obtain ⟨h1, h0, h2, h3, -⟩ := index0 t
  refine ⟨?_, ?_, ?_, ?_⟩ <;> blk_point [iblk0, V0, W0, h0, h1, h2, h3]

theorem div_one' (l : Nat) (i : Pos) : (i 0).val = l ↔ (i 0).val / 1 = l := by rw [Nat.div_one]

/-- The first call leaves layer 1 at its value. -/
theorem first (c : Dev nD) (i : Pos) (h : (i 0).val = 1) :
    (dat0 (V0 m ρ) c).arrAt 4 cfg0.N i = R4 m c i ∧ (dat0 (V0 m ρ) c).arrAt 5 cfg0.N i = R5 m c i
    ∧ (dat0 (V0 m ρ) c).arrAt 6 cfg0.N i = R6 m c i
    ∧ (dat0 (V0 m ρ) c).arrAt 7 cfg0.N i = R7 m c i := by
  refine ⟨((dat0 (V0 m ρ) c).arrAt_apply_of_coversWhere (P := fun i => (i 0).val = 1) 4 (R4 m c) (fun β => β (0 : Fin 3) = 1) (by decide +kernel)
      (fun t hf y => ?_) (fun j => div_one' 1 _) i).trans (if_pos h),
    ((dat0 (V0 m ρ) c).arrAt_apply_of_coversWhere (P := fun i => (i 0).val = 1) 5 (R5 m c) (fun β => β (0 : Fin 3) = 1) (by decide +kernel)
      (fun t hf y => ?_) (fun j => div_one' 1 _) i).trans (if_pos h),
    ((dat0 (V0 m ρ) c).arrAt_apply_of_coversWhere (P := fun i => (i 0).val = 1) 6 (R6 m c) (fun β => β (0 : Fin 3) = 1) (by decide +kernel)
      (fun t hf y => ?_) (fun j => div_one' 1 _) i).trans (if_pos h),
    ((dat0 (V0 m ρ) c).arrAt_apply_of_coversWhere (P := fun i => (i 0).val = 1) 7 (R7 m c) (fun β => β (0 : Fin 3) = 1) (by decide +kernel)
      (fun t hf y => ?_) (fun j => div_one' 1 _) i).trans (if_pos h)⟩
  all_goals
    blk_simp
    simp only [after0_4, after0_5, after0_6, after0_7]
    idx_vars y
    obtain rfl : y0 = 0 := Subsingleton.elim _ _
    obtain ⟨-, -, -, -, h4, h5, h6, h7⟩ := index0 t
    refine Eq.trans ?_ (congrArg _ (show ix3 1 ⟨256 * t.val + y1.val, row0 t y1⟩ y2 = _ from funext fun a => match a with
      | 0 => Fin.ext (by blk_simp [h4, h5, h6, h7] <;> rfl)
      | 1 => Fin.ext (by blk_simp [h4, h5, h6, h7]; simp [mul_comm])
      | 2 => Fin.ext (by blk_simp [h4, h5, h6, h7])))
    frame_out
    unfold_payloads
    pointwise
    simp only [blk0]
    rfl

/-- The blocks the second call at point `t`: layer 0's rows, 256 at a time. -/
theorem index1 : ∀ t : Fin cfg1.N, win1_1.index t = ![t.val, 0] ∧ win1_0.index t = ![0, t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0] :=
  (by decide +kernel : ∀ t : Fin grid1.N, _)

theorem row1 (t : Fin cfg1.N) (k : Fin 256) : 256 * t.val + k.val < 2048 := by
  have := t.isLt; have : cfg1.N = 8 := N_1; omega

/-- What the second call reads at point `t`. -/
theorem blk1 (c : Dev nD) (t : Fin cfg1.N) (r : Fin 256) (k : Fin 2048) :
    iblk1 (V2 m ρ) c 0 t (ix3 0 r k) = A0 m c (ix3 0 ⟨256 * t.val + r.val, row1 t r⟩ k)
    ∧ iblk1 (V2 m ρ) c 1 t (ix2 r k) = A1 m c (ix2 ⟨256 * t.val + r.val, row1 t r⟩ k)
    ∧ iblk1 (V2 m ρ) c 2 t (ix3 0 r k) = A3 m c (ix3 0 ⟨256 * t.val + r.val, row1 t r⟩ k)
    ∧ iblk1 (V2 m ρ) c 3 t (ix3 0 r k) = A4 m c (ix3 0 ⟨256 * t.val + r.val, row1 t r⟩ k) := by
  obtain ⟨h1, h0, h2, h3, -⟩ := index1 t
  refine ⟨?_, ?_, ?_, ?_⟩
  · refine (congrFun (W2_args m ρ c main_arg0 (by decide)) _).trans ?_; blk_point [h0]
  · refine (congrFun (W2_args m ρ c main_arg1 (by decide)) _).trans ?_; blk_point [h1]
  · refine (congrFun (W2_args m ρ c main_arg3 (by decide)) _).trans ?_; blk_point [h2]
  · refine (congrFun (W2_args m ρ c main_arg4 (by decide)) _).trans ?_; blk_point [h3]

/-- The second call finds in its results' arrays what the first left in its own. -/
theorem kept (c : Dev nD) : V2 m ρ c main_v1_0 = (dat0 (V0 m ρ) c).arrAt 4 cfg0.N ∧ V2 m ρ c main_v1_1 = (dat0 (V0 m ρ) c).arrAt 5 cfg0.N
    ∧ V2 m ρ c main_v1_2 = (dat0 (V0 m ρ) c).arrAt 6 cfg0.N ∧ V2 m ρ c main_v1_3 = (dat0 (V0 m ρ) c).arrAt 7 cfg0.N := by
  refine ⟨Eq.trans ?_ (W1_arr m ρ c 4), Eq.trans ?_ (W1_arr m ρ c 5), Eq.trans ?_ (W1_arr m ρ c 6), Eq.trans ?_ (W1_arr m ρ c 7)⟩
  all_goals
    show StableHlo.after hostOps1 (W1 m ρ c) _ = _
    after_results_simp <;> rfl

/-- An entry outside layer 0 is of layer 1. -/
theorem layer_one (i : Pos) (h : ¬(i 0).val / 1 = 0) : (i 0).val = 1 := by
  have : (i 0).val < 2 := (i 0).isLt; omega

/-- What the second call does not write holds the first call's value. -/
theorem rest (c : Dev nD) (j : Pos) (h : (j 0).val = 1) :
    (dat1 (V2 m ρ) c).A 4 j = R4 m c j ∧ (dat1 (V2 m ρ) c).A 5 j = R5 m c j
    ∧ (dat1 (V2 m ρ) c).A 6 j = R6 m c j ∧ (dat1 (V2 m ρ) c).A 7 j = R7 m c j := by
  obtain ⟨k4, k5, k6, k7⟩ := kept m ρ c
  obtain ⟨f4, f5, f6, f7⟩ := first m ρ c j h
  exact ⟨(congrFun ((A_eq1 _ c 4).trans k4) j).trans f4, (congrFun ((A_eq1 _ c 5).trans k5) j).trans f5,
    (congrFun ((A_eq1 _ c 6).trans k6) j).trans f6, (congrFun ((A_eq1 _ c 7).trans k7) j).trans f7⟩

/-- What the second call writes at a point. -/
theorem outs1 (V : (c : Dev nD) → (b : Ref sig .tc) → Buf (Elt Ideal) ((c : Thread nD τ).loc b)) (c : Dev nD) (t : Fin cfg1.N) (r : Fin 256) (k : Fin 2048) :
    (outsAt1 V c t).1 (ix3 0 r k) = iblk1 V c 1 t (ix2 r k)
    ∧ (outsAt1 V c t).2.1 (ix3 0 r k) = upd (iblk1 V c 0 t (ix3 0 r k)) (iblk1 V c 1 t (ix2 r k)) (iblk1 V c 2 t (ix3 0 r k)) (iblk1 V c 3 t (ix3 0 r k))
    ∧ (outsAt1 V c t).2.2.1 (ix3 0 r k) = mom (iblk1 V c 1 t (ix2 r k)) (iblk1 V c 2 t (ix3 0 r k))
    ∧ (outsAt1 V c t).2.2.2 (ix3 0 r k) = var (iblk1 V c 1 t (ix2 r k)) (iblk1 V c 3 t (ix3 0 r k)) := by
  refine ⟨?_, ?_, ?_, ?_⟩
  · dsimp only [outsAt1]; frame_out; unfold_payloads; pointwise
  all_goals (frame_out; unfold_payloads; pointwise; rfl)

/-- The four results after the second call: it writes layer 0 over the first call's arrays. -/
theorem second (c : Dev nD) :
    (dat1 (V2 m ρ) c).arrAt 4 cfg1.N = R4 m c ∧ (dat1 (V2 m ρ) c).arrAt 5 cfg1.N = R5 m c
    ∧ (dat1 (V2 m ρ) c).arrAt 6 cfg1.N = R6 m c
    ∧ (dat1 (V2 m ρ) c).arrAt 7 cfg1.N = R7 m c := by
  refine ⟨(dat1 (V2 m ρ) c).arrAt_eq_of_coversWhere_of_agree 4 (R4 m c) (fun β => β (0 : Fin 3) = 0) (by decide +kernel) (fun t hf y => ?g4)
      (fun j hj => ?r4),
    (dat1 (V2 m ρ) c).arrAt_eq_of_coversWhere_of_agree 5 (R5 m c) (fun β => β (0 : Fin 3) = 0) (by decide +kernel) (fun t hf y => ?g5)
      (fun j hj => ?r5),
    (dat1 (V2 m ρ) c).arrAt_eq_of_coversWhere_of_agree 6 (R6 m c) (fun β => β (0 : Fin 3) = 0) (by decide +kernel) (fun t hf y => ?g6)
      (fun j hj => ?r6),
    (dat1 (V2 m ρ) c).arrAt_eq_of_coversWhere_of_agree 7 (R7 m c) (fun β => β (0 : Fin 3) = 0) (by decide +kernel) (fun t hf y => ?g7)
      (fun j hj => ?r7)⟩
  case g4 | g5 | g6 | g7 =>
    blk_simp
    simp only [after1_4, after1_5, after1_6, after1_7]
    idx_vars y
    obtain rfl : y0 = 0 := Subsingleton.elim _ _
    obtain ⟨-, -, -, -, h4, h5, h6, h7⟩ := index1 t
    refine Eq.trans ?_ (congrArg _ (show ix3 0 ⟨256 * t.val + y1.val, row1 t y1⟩ y2 = _ from funext fun a => match a with
      | 0 => Fin.ext (by blk_simp [h4, h5, h6, h7] <;> rfl)
      | 1 => Fin.ext (by blk_simp [h4, h5, h6, h7]; simp [mul_comm])
      | 2 => Fin.ext (by blk_simp [h4, h5, h6, h7])))
    simp only [outs1, blk1]
    rfl
  case r4 => exact (rest m ρ c j (layer_one j hj)).1
  case r5 => exact (rest m ρ c j (layer_one j hj)).2.1
  case r6 => exact (rest m ρ c j (layer_one j hj)).2.2.1
  case r7 => exact (rest m ρ c j (layer_one j hj)).2.2.2

set_option backward.isDefEq.respectTransparency.types false in
/-- From zero counters the program ends, and each unscoped buffer holds the last boundary's contents. -/
theorem ends : θ_run defs (onTc (τ := τ) (main (F := Ideal))) ⟨m, fun _ => 0, ρ⟩ (fun r =>
      ∀ c : Dev nD, ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => h c)

/-- The results are the second call's, the arguments are unchanged. -/
theorem run : θ_run defs (onTc (τ := τ) (main (F := Ideal))) ⟨m, fun _ => 0, ρ⟩ (fun r => ∀ c : Dev nD,
      r.2.mem ((c : Thread nD τ).loc main_v1_0) = R4 m c ∧ r.2.mem ((c : Thread nD τ).loc main_v1_1) = R5 m c
      ∧ r.2.mem ((c : Thread nD τ).loc main_v1_2) = R6 m c
      ∧ r.2.mem ((c : Thread nD τ).loc main_v1_3) = R7 m c
      ∧ ∀ a ∈ argRefs, r.2.mem ((c : Thread nD τ).loc a) = m ((c : Thread nD τ).loc a)) :=
  (θ_run defs _ _).mono (fun r h c =>
    ⟨(h c _ (mem_uc main_v1_0 (by decide))).trans ((W3_arr m ρ c 4).trans (second m ρ c).1),
     (h c _ (mem_uc main_v1_1 (by decide))).trans ((W3_arr m ρ c 5).trans (second m ρ c).2.1),
     (h c _ (mem_uc main_v1_2 (by decide))).trans ((W3_arr m ρ c 6).trans (second m ρ c).2.2.1),
     (h c _ (mem_uc main_v1_3 (by decide))).trans ((W3_arr m ρ c 7).trans (second m ρ c).2.2.2),
     fun a ha => (h c _ (mem_uc a ((by decide : ∀ a ∈ argRefs, ¬(Proc.devRef .tc a : DevRef τ sig).isScoped) a ha))).trans (W3_args m ρ c a ha)⟩) (ends m ρ)

end Cert.AdamLIdeal.Run

namespace Cert.Proof.AdamLClaims

open Idealize.ShloMosaic Idealize.SL.Sem AdamLRefIdeal.Read AdamLSpec

/-- The two calls as printed end with the arguments unchanged and every counter at zero. -/
theorem frame_p : quiescent_AdamL := fun m ρ _ => AdamL.Gen.frame m ρ
/-- The idealized calls do too. -/
theorem frame_pi : quiescent_AdamLIdeal := fun m ρ _ => AdamLIdeal.Gen.frame m ρ
/-- So does the reference. -/
theorem frame_ri : quiescent_AdamLRefIdeal := fun m ρ _ =>
  (θ_run AdamLRefIdeal.defs _ _).mono (fun r h => ⟨fun c => (h c).2.2.2.2, sem_eq_zero_of_no_sems (by decide) r.2⟩)
    (AdamLRefIdeal.Value.run (F := Ideal) m ρ)

variable (w : Two) (g h : One) (u v : Two)

/-- The reference's stacked gradients. -/
theorem stacked : val_main_v2 (F := Ideal) g h = whole (fun _ g _ _ => g) w g h u v := by
  funext i
  unfold val_main_v2 whole
  have : (i 0).val < 2 := (i 0).isLt
  split
  · next e =>
    refine (concatenate_pair_apply_left (t := AdamLRefIdeal.S2x2048x2048) 0 (val_main_v0 (F := Ideal) g) (val_main_v1 (F := Ideal) h) _ i rfl (ix3 0 (i 1) (i 2)) fun b => ?_).trans ?_
    · match b with
      | 0 => exact e.symm
      | 1 => rfl
      | 2 => rfl
    · rw [val_main_v0_apply]; exact congrArg g (by blk_ext)
  · refine (concatenate_pair_apply_right (t := AdamLRefIdeal.S2x2048x2048) 0 (val_main_v0 (F := Ideal) g) (val_main_v1 (F := Ideal) h) _ i rfl rfl (ix3 0 (i 1) (i 2)) (fun b hb => ?_) ?_).trans ?_
    · match b with
      | 0 => exact absurd rfl hb
      | 1 => rfl
      | 2 => rfl
    · show 0 + 1 = (i 0).val; omega
    · rw [val_main_v1_apply]; exact congrArg h (by blk_ext)

theorem mom_ref : val_main_v7 (F := Ideal) g h u = whole (fun _ g u _ => mom g u) w g h u v := by
  funext i
  simp only [val_main_v7_apply, val_main_v6_apply, val_main_v5_apply, val_main_v4_apply, val_main_v3_apply, val_main_cst_apply, val_main_cst_0_apply, stacked w g h u v]
  rfl

theorem var_ref : val_main_v13 (F := Ideal) g h v = whole (fun _ g _ v => var g v) w g h u v := by
  funext i
  simp only [val_main_v13_apply, val_main_v12_apply, val_main_v11_apply, val_main_v10_apply, val_main_v9_apply, val_main_v8_apply, val_main_cst_1_apply, val_main_cst_2_apply, stacked w g h u v]
  rfl

theorem upd_ref : val_main_v26 (F := Ideal) w g h u v = whole upd w g h u v := by
  funext i
  simp only [val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply,
    val_main_cst_3_apply, val_main_cst_4_apply, val_main_cst_5_apply, val_main_cst_6_apply, val_main_cst_7_apply, mom_ref w g h u v, var_ref w g h u v]
  rfl

/-- The two calls' four results are the reference's. -/
theorem algebraic : algebraic_AdamLIdeal_AdamLRefIdeal := by
  intro m ρ m' ρ' _ hagree
  refine ⟨_, _, _, _, (θ_run AdamLIdeal.defs _ _).mono (fun _ h c => ⟨(h c).1, (h c).2.1, (h c).2.2.1, (h c).2.2.2.1,
    (h c).2.2.2.2 _ (by decide), (h c).2.2.2.2 _ (by decide), (h c).2.2.2.2 _ (by decide), (h c).2.2.2.2 _ (by decide), (h c).2.2.2.2 _ (by decide)⟩)
    (AdamLIdeal.Run.run m ρ), ?_⟩
  refine (θ_run AdamLRefIdeal.defs _ _).mono (fun _ h c => ⟨(h c).1.trans ?_, (h c).2.1.trans ?_, (h c).2.2.1.trans ?_, (h c).2.2.2.1.trans ?_, (h c).2.2.2.2⟩)
    (AdamLRefIdeal.Value.run (F := Ideal) m' ρ') <;> obtain ⟨e0, e1, e2, e3, e4⟩ := hagree c
  · rw [val_main_v2_eq, e1, e2, stacked]
  · rw [val_main_v26_eq, e0, e1, e2, e3, e4, upd_ref]
  · rw [val_main_v7_eq, e1, e2, e3, mom_ref]
  · rw [val_main_v13_eq, e1, e2, e4, var_ref]

end Cert.Proof.AdamLClaims
-- ==== Proof.lean ====
/- The claims about the calls of the training step, each proved in its own module; here they are put together. -/
module

public import proofs.«01_k».proof.Defs
public import proofs.«01_k».proof.Proof.LossClaims
public import proofs.«01_k».proof.Proof.Relu2Claims
public import proofs.«01_k».proof.Proof.RopeClaims
public import proofs.«01_k».proof.Proof.ConvClaims
public import proofs.«01_k».proof.Proof.Gen.Pre_attn_finite
public import proofs.«01_k».proof.Proof.AttnClaims
public import proofs.«01_k».proof.Proof.PostClaims
public import proofs.«01_k».proof.Proof.PostbClaims
public import proofs.«01_k».proof.Proof.PreClaims
public import proofs.«01_k».proof.Proof.TwinClaims
public import proofs.«01_k».proof.Proof.LnClaims
public import proofs.«01_k».proof.Proof.GluClaims
public import proofs.«01_k».proof.Proof.LatClaims
public import proofs.«01_k».proof.Proof.Gen.Pre_attnf_finite
public import proofs.«01_k».proof.Proof.AttnFClaims
public import proofs.«01_k».proof.Proof.PreFClaims
public import proofs.«01_k».proof.Proof.GluFClaims
public import proofs.«01_k».proof.Proof.ConvFClaims
public import proofs.«01_k».proof.Proof.LnFClaims
public import proofs.«01_k».proof.Proof.PostbPreFClaims
public import proofs.«01_k».proof.Proof.UpFClaims
public import proofs.«01_k».proof.Proof.PostTwinFClaims
public import proofs.«01_k».proof.Proof.LatFClaims
public import proofs.«01_k».proof.Proof.RopeFClaims
public import proofs.«01_k».proof.Proof.PostPreFClaims
public import proofs.«01_k».proof.Proof.PostFClaims
public import proofs.«01_k».proof.Proof.MmTNClaims
public import proofs.«01_k».proof.Proof.AdamClaims
public import proofs.«01_k».proof.Proof.SiluClaims
public import proofs.«01_k».proof.Proof.SumDevClaims
public import proofs.«01_k».proof.Proof.MmNNClaims
public import proofs.«01_k».proof.Proof.MmNTClaims
public import proofs.«01_k».proof.Proof.AdamLClaims

@[expose] public section

noncomputable section

namespace Cert.Proof

/-- Every claim of the certificate. -/
theorem claim : Claim :=
  ⟨Loss.Gen.facts, LossIdeal.Gen.facts, LossRefIdeal.Gen.facts,
    Relu2.Gen.facts, Relu2Ideal.Gen.facts, Relu2RefIdeal.Gen.facts,
    Rope.Gen.facts, RopeIdeal.Gen.facts, RopeRefIdeal.Gen.facts,
    Conv.Gen.facts, ConvIdeal.Gen.facts, ConvRefIdeal.Gen.facts,
    Attn.Gen.facts, AttnIdeal.Gen.facts, AttnRefIdeal.Gen.facts,
    Post.Gen.facts, PostIdeal.Gen.facts, PostRefIdeal.Gen.facts,
    Postb.Gen.facts, PostbIdeal.Gen.facts, PostbRefIdeal.Gen.facts,
    Pre.Gen.facts, PreIdeal.Gen.facts, PreRefIdeal.Gen.facts,
    Twin.Gen.facts, TwinIdeal.Gen.facts, TwinRefIdeal.Gen.facts,
    Ln.Gen.facts, LnIdeal.Gen.facts, LnRefIdeal.Gen.facts,
    Glu.Gen.facts, GluIdeal.Gen.facts, GluRefIdeal.Gen.facts,
    Lat.Gen.facts, LatIdeal.Gen.facts, LatRefIdeal.Gen.facts,
    AttnF.Gen.facts, AttnFIdeal.Gen.facts, AttnFRefIdeal.Gen.facts,
    PreF.Gen.facts, PreFIdeal.Gen.facts, PreFRefIdeal.Gen.facts,
    GluF.Gen.facts, GluFIdeal.Gen.facts, GluFRefIdeal.Gen.facts,
    ConvF.Gen.facts, ConvFIdeal.Gen.facts, ConvFRefIdeal.Gen.facts,
    LnF.Gen.facts, LnFIdeal.Gen.facts, LnFRefIdeal.Gen.facts,
    PostbPreF.Gen.facts, PostbPreFIdeal.Gen.facts, PostbPreFRefIdeal.Gen.facts,
    UpF.Gen.facts, UpFIdeal.Gen.facts, UpFRefIdeal.Gen.facts,
    PostTwinF.Gen.facts, PostTwinFIdeal.Gen.facts, PostTwinFRefIdeal.Gen.facts,
    LatF.Gen.facts, LatFIdeal.Gen.facts, LatFRefIdeal.Gen.facts,
    RopeF.Gen.facts, RopeFIdeal.Gen.facts, RopeFRefIdeal.Gen.facts,
    PostPreF.Gen.facts, PostPreFIdeal.Gen.facts, PostPreFRefIdeal.Gen.facts,
    PostF.Gen.facts, PostFIdeal.Gen.facts, PostFRefIdeal.Gen.facts,
    MmTN.Gen.facts, MmTNIdeal.Gen.facts, MmTNRefIdeal.Gen.facts,
    Adam.Gen.facts, AdamIdeal.Gen.facts, AdamRefIdeal.Gen.facts,
    Silu.Gen.facts, SiluIdeal.Gen.facts, SiluRefIdeal.Gen.facts,
    SumDev.Gen.facts, SumDevIdeal.Gen.facts, SumDevRefIdeal.Gen.facts,
    MmNN.Gen.facts, MmNNIdeal.Gen.facts, MmNNRefIdeal.Gen.facts,
    MmNT.Gen.facts, MmNTIdeal.Gen.facts, MmNTRefIdeal.Gen.facts,
    AdamL.Gen.facts, AdamLIdeal.Gen.facts, AdamLRefIdeal.Gen.facts,
    Pre_attn_finite.Gen.facts,
    Pre_attnf_finite.Gen.facts,
    LossClaims.frame_p, LossClaims.frame_pi, LossClaims.frame_ri,
    Relu2Claims.frame_p, Relu2Claims.frame_pi, Relu2Claims.frame_ri,
    RopeClaims.frame_p, RopeClaims.frame_pi, RopeClaims.frame_ri,
    ConvClaims.frame_p, ConvClaims.frame_pi, ConvClaims.frame_ri,
    AttnClaims.frame_p, AttnClaims.frame_pi, AttnClaims.frame_pi_pre, AttnClaims.frame_ri, AttnClaims.frame_ri_pre,
    PostClaims.frame_p, PostClaims.frame_pi, PostClaims.frame_ri,
    PostbClaims.frame_p, PostbClaims.frame_pi, PostbClaims.frame_ri,
    PreClaims.frame_p, PreClaims.frame_pi, PreClaims.frame_ri,
    TwinClaims.frame_p, TwinClaims.frame_pi, TwinClaims.frame_ri,
    LnClaims.frame_p, LnClaims.frame_pi, LnClaims.frame_ri,
    GluClaims.frame_p, GluClaims.frame_pi, GluClaims.frame_ri,
    LatClaims.frame_p, LatClaims.frame_pi, LatClaims.frame_ri,
    AttnFClaims.frame_p, AttnFClaims.frame_pi, AttnFClaims.frame_pi_pre, AttnFClaims.frame_ri, AttnFClaims.frame_ri_pre,
    PreFClaims.frame_p, PreFClaims.frame_pi, PreFClaims.frame_ri,
    GluFClaims.frame_p, GluFClaims.frame_pi, GluFClaims.frame_ri,
    ConvFClaims.frame_p, ConvFClaims.frame_pi, ConvFClaims.frame_ri,
    LnFClaims.frame_p, LnFClaims.frame_pi, LnFClaims.frame_ri,
    PostbPreFClaims.frame_p, PostbPreFClaims.frame_pi, PostbPreFClaims.frame_ri,
    UpFClaims.frame_p, UpFClaims.frame_pi, UpFClaims.frame_ri,
    PostTwinFClaims.frame_p, PostTwinFClaims.frame_pi, PostTwinFClaims.frame_ri,
    LatFClaims.frame_p, LatFClaims.frame_pi, LatFClaims.frame_ri,
    RopeFClaims.frame_p, RopeFClaims.frame_pi, RopeFClaims.frame_ri,
    PostPreFClaims.frame_p, PostPreFClaims.frame_pi, PostPreFClaims.frame_ri,
    PostFClaims.frame_p, PostFClaims.frame_pi, PostFClaims.frame_ri,
    MmTNClaims.frame_p, MmTNClaims.frame_pi, MmTNClaims.frame_ri,
    AdamClaims.frame_p, AdamClaims.frame_pi, AdamClaims.frame_ri,
    SiluClaims.frame_p, SiluClaims.frame_pi, SiluClaims.frame_ri,
    SumDevClaims.frame_p, SumDevClaims.frame_pi, SumDevClaims.frame_ri,
    MmNNClaims.frame_p, MmNNClaims.frame_pi, MmNNClaims.frame_ri,
    MmNTClaims.frame_p, MmNTClaims.frame_pi, MmNTClaims.frame_ri,
    AdamLClaims.frame_p, AdamLClaims.frame_pi, AdamLClaims.frame_ri,
    trivial, LossClaims.algebraic,
    trivial, Relu2Claims.algebraic,
    trivial, RopeClaims.algebraic,
    trivial, ConvClaims.algebraic,
    AttnClaims.preserves, AttnClaims.algebraic,
    trivial, PostClaims.algebraic,
    trivial, PostbClaims.algebraic,
    trivial, PreClaims.algebraic,
    trivial, TwinClaims.algebraic,
    trivial, LnClaims.algebraic,
    trivial, GluClaims.algebraic,
    trivial, LatClaims.algebraic,
    AttnFClaims.preserves, AttnFClaims.algebraic,
    trivial, PreFClaims.algebraic,
    trivial, GluFClaims.algebraic,
    trivial, ConvFClaims.algebraic,
    trivial, LnFClaims.algebraic,
    trivial, PostbPreFClaims.algebraic,
    trivial, UpFClaims.algebraic,
    trivial, PostTwinFClaims.algebraic,
    trivial, LatFClaims.algebraic,
    trivial, RopeFClaims.algebraic,
    trivial, PostPreFClaims.algebraic,
    trivial, PostFClaims.algebraic,
    trivial, MmTNClaims.algebraic,
    trivial, AdamClaims.algebraic,
    trivial, SiluClaims.algebraic,
    trivial, SumDevClaims.algebraic,
    trivial, MmNNClaims.algebraic,
    trivial, MmNTClaims.algebraic,
    trivial, AdamLClaims.algebraic⟩

end Cert.Proof

end
